-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_in_range [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_classes_in_range [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_gathered [hKernelIdeal : Cert.KernelIdeal.Facts] [hReferenceIdeal : Cert.ReferenceIdeal.Facts] [hOn_gathered : Cert.On_gathered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v0_0)) (v7 : (c : Dev Cert.KernelIdeal.nD) → Buf (Elt Ideal) ((c.tc : Thread Cert.KernelIdeal.nD Cert.KernelIdeal.τ).loc Cert.KernelIdeal.main_v0_1)) (v8 : (c : Dev Cert.KernelIdeal.nD) → Buf (Elt Ideal) ((c.tc : Thread Cert.KernelIdeal.nD Cert.KernelIdeal.τ).loc Cert.KernelIdeal.main_v0_2)) (v9 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (Cert.KernelIdeal.threads (F := Ideal)) ⟨m, fun _ => 0, g⟩ (fun r => ∀ c : Dev Cert.KernelIdeal.nD,
          (∀ i : (⟨2, ![64, 4]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v4_0) i = v0 c i)
          ∧ (∀ i : (⟨2, ![64, 3]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v4_1) i = v1 c i)
          ∧ (∀ i : (⟨2, ![64, 2]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v4_2) i = v2 c i)
          ∧ (∀ i : (⟨2, ![64, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v4_3) i = v3 c i)
          ∧ (∀ i : (⟨3, ![64, 4, 4]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v5) i = v4 c i)
          ∧ (∀ i : (⟨2, ![64, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.KernelIdeal.nD Cert.KernelIdeal.τ).loc Cert.KernelIdeal.main_v4_5) i = v5 c i)
          ∧ (∀ i : (⟨4, ![8, 4, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 i = 1#1 → r.2.mem ((c.tc : Thread Cert.KernelIdeal.nD Cert.KernelIdeal.τ).loc Cert.KernelIdeal.main_v0_0) i = v6 c i)
          ∧ (∀ i : (⟨4, ![8, 3, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 i = 1#1 → r.2.mem ((c.tc : Thread Cert.KernelIdeal.nD Cert.KernelIdeal.τ).loc Cert.KernelIdeal.main_v0_1) i = v7 c i)
          ∧ (∀ i : (⟨4, ![8, 2, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.1 i = 1#1 → r.2.mem ((c.tc : Thread Cert.KernelIdeal.nD Cert.KernelIdeal.τ).loc Cert.KernelIdeal.main_v0_2) i = v8 c i)
          ∧ (∀ i : (⟨3, ![8, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2 i = 1#1 → r.2.mem ((c.tc : Thread Cert.KernelIdeal.nD Cert.KernelIdeal.τ).loc Cert.KernelIdeal.main_v0_3) i = v9 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![64, 4]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v78) i = v0 c i)
          ∧ (∀ i : (⟨2, ![64, 3]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v89) i = v1 c i)
          ∧ (∀ i : (⟨2, ![64, 2]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v100) i = v2 c i)
          ∧ (∀ i : (⟨2, ![64, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v110) i = v3 c i)
          ∧ (∀ i : (⟨3, ![64, 4, 4]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v203) i = v4 c i)
          ∧ (∀ i : (⟨2, ![64, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.ReferenceIdeal.nD Cert.ReferenceIdeal.τ).loc Cert.ReferenceIdeal.main_v208) i = v5 c i)
          ∧ (∀ i : (⟨4, ![8, 4, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 i = 1#1 → r.2.mem ((c.tc : Thread Cert.ReferenceIdeal.nD Cert.ReferenceIdeal.τ).loc Cert.ReferenceIdeal.main_v13) i = v6 c i)
          ∧ (∀ i : (⟨4, ![8, 3, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 i = 1#1 → r.2.mem ((c.tc : Thread Cert.ReferenceIdeal.nD Cert.ReferenceIdeal.τ).loc Cert.ReferenceIdeal.main_v27) i = v7 c i)
          ∧ (∀ i : (⟨4, ![8, 2, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.1 i = 1#1 → r.2.mem ((c.tc : Thread Cert.ReferenceIdeal.nD Cert.ReferenceIdeal.τ).loc Cert.ReferenceIdeal.main_v41) i = v8 c i)
          ∧ (∀ i : (⟨3, ![8, 224, 224]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2 i = 1#1 → r.2.mem ((c.tc : Thread Cert.ReferenceIdeal.nD Cert.ReferenceIdeal.τ).loc Cert.ReferenceIdeal.main_v209) i = v9 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_pre_classes_in_range [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v0_0)) (v7 : (c : Dev Cert.KernelIdeal.nD) → Buf (Elt Ideal) ((c.tc : Thread Cert.KernelIdeal.nD Cert.KernelIdeal.τ).loc Cert.KernelIdeal.main_v0_1)) (v8 : (c : Dev Cert.KernelIdeal.nD) → Buf (Elt Ideal) ((c.tc : Thread Cert.KernelIdeal.nD Cert.KernelIdeal.τ).loc Cert.KernelIdeal.main_v0_2)) (v9 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v0_0) = v6 c
          ∧ r.2.mem ((c.tc : Thread Cert.KernelIdeal.nD Cert.KernelIdeal.τ).loc Cert.KernelIdeal.main_v0_1) = v7 c
          ∧ r.2.mem ((c.tc : Thread Cert.KernelIdeal.nD Cert.KernelIdeal.τ).loc Cert.KernelIdeal.main_v0_2) = v8 c
          ∧ r.2.mem ((c.tc : Thread Cert.KernelIdeal.nD Cert.KernelIdeal.τ).loc Cert.KernelIdeal.main_v0_3) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v110) = v3 c
          ∧ r.2.mem ((c.tc : Thread Cert.ReferenceIdeal.nD Cert.ReferenceIdeal.τ).loc Cert.ReferenceIdeal.main_v203) = v4 c
          ∧ r.2.mem ((c.tc : Thread Cert.ReferenceIdeal.nD Cert.ReferenceIdeal.τ).loc Cert.ReferenceIdeal.main_v208) = v5 c
          ∧ r.2.mem ((c.tc : Thread Cert.ReferenceIdeal.nD Cert.ReferenceIdeal.τ).loc Cert.ReferenceIdeal.main_v13) = v6 c
          ∧ r.2.mem ((c.tc : Thread Cert.ReferenceIdeal.nD Cert.ReferenceIdeal.τ).loc Cert.ReferenceIdeal.main_v27) = v7 c
          ∧ r.2.mem ((c.tc : Thread Cert.ReferenceIdeal.nD Cert.ReferenceIdeal.τ).loc Cert.ReferenceIdeal.main_v41) = v8 c
          ∧ r.2.mem ((c.tc : Thread Cert.ReferenceIdeal.nD Cert.ReferenceIdeal.τ).loc Cert.ReferenceIdeal.main_v209) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_classes_in_range : Cert.Pre_classes_in_range.Facts) (hOn_gathered : Cert.On_gathered.Facts),
    quiescent_Kernel (hKernel := hKernel)
    ∧ quiescent_KernelIdeal (hKernelIdeal := hKernelIdeal)
    ∧ quiescent_KernelIdeal_pre_classes_in_range (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal_on_gathered (hKernelIdeal := hKernelIdeal) (hReferenceIdeal := hReferenceIdeal) (hOn_gathered := hOn_gathered)
    ∧ algebraic_KernelIdeal_ReferenceIdeal_pre_classes_in_range (hKernelIdeal := hKernelIdeal) (hReferenceIdeal := hReferenceIdeal) (hPre_classes_in_range := hPre_classes_in_range)
-- ==== On_gathered.lean ====
abbrev S8x224x224 : Shape := ⟨3, ![8, 224, 224]⟩
abbrev S8x32x224x224 : Shape := ⟨4, ![8, 32, 224, 224]⟩
abbrev S8x24x224x224 : Shape := ⟨4, ![8, 24, 224, 224]⟩
abbrev S8x16x224x224 : Shape := ⟨4, ![8, 16, 224, 224]⟩
abbrev S8x8x224x224 : Shape := ⟨4, ![8, 8, 224, 224]⟩
abbrev S_ : Shape := ⟨0, ![]⟩
abbrev S64x4 : Shape := ⟨2, ![64, 4]⟩
abbrev S64x3 : Shape := ⟨2, ![64, 3]⟩
abbrev S64x2 : Shape := ⟨2, ![64, 2]⟩
abbrev S64x1 : Shape := ⟨2, ![64, 1]⟩
abbrev S64x4x4 : Shape := ⟨3, ![64, 4, 4]⟩
abbrev S8x4x224x224 : Shape := ⟨4, ![8, 4, 224, 224]⟩
abbrev S8x3x224x224 : Shape := ⟨4, ![8, 3, 224, 224]⟩
abbrev S8x2x224x224 : Shape := ⟨4, ![8, 2, 224, 224]⟩

class Facts : Prop where
  bcast_S_S64x4 : S_.BroadcastsInDim S64x4 (![] : Fin 0 → Fin S64x4.rank)
  bcast_S_S64x3 : S_.BroadcastsInDim S64x3 (![] : Fin 0 → Fin S64x3.rank)
  bcast_S_S64x2 : S_.BroadcastsInDim S64x2 (![] : Fin 0 → Fin S64x2.rank)
  bcast_S_S64x1 : S_.BroadcastsInDim S64x1 (![] : Fin 0 → Fin S64x1.rank)
  bcast_S_S64x4x4 : S_.BroadcastsInDim S64x4x4 (![] : Fin 0 → Fin S64x4x4.rank)
  bcast_S_S8x4x224x224 : S_.BroadcastsInDim S8x4x224x224 (![] : Fin 0 → Fin S8x4x224x224.rank)
  bcast_S_S8x3x224x224 : S_.BroadcastsInDim S8x3x224x224 (![] : Fin 0 → Fin S8x3x224x224.rank)
  bcast_S_S8x2x224x224 : S_.BroadcastsInDim S8x2x224x224 (![] : Fin 0 → Fin S8x2x224x224.rank)
  bcast_S_S8x224x224 : S_.BroadcastsInDim S8x224x224 (![] : Fin 0 → Fin S8x224x224.rank)

variable [Facts]

def fn {F : FTy → Type} [FloatOps F] (main_arg0 : IVec S8x224x224 32) (main_arg1 : FVec F S8x32x224x224 .f32) (main_arg2 : FVec F S8x24x224x224 .f32) (main_arg3 : FVec F S8x16x224x224 .f32) (main_arg4 : FVec F S8x8x224x224 .f32) : IVec S64x4 1 × IVec S64x3 1 × IVec S64x2 1 × IVec S64x1 1 × IVec S64x4x4 1 × IVec S64x1 1 × IVec S8x4x224x224 1 × IVec S8x3x224x224 1 × IVec S8x2x224x224 1 × IVec S8x224x224 1 :=
  let main_c : IVec S_ 1 := constantI S_ 1 0#1
  let main_v0 : IVec S64x4 1 := broadcastInDim S64x4 ![] bcast_S_S64x4 main_c
  let main_c_0 : IVec S_ 1 := constantI S_ 1 0#1
  let main_v1 : IVec S64x3 1 := broadcastInDim S64x3 ![] bcast_S_S64x3 main_c_0
  let main_c_1 : IVec S_ 1 := constantI S_ 1 0#1
  let main_v2 : IVec S64x2 1 := broadcastInDim S64x2 ![] bcast_S_S64x2 main_c_1
  let main_c_2 : IVec S_ 1 := constantI S_ 1 0#1
  let main_v3 : IVec S64x1 1 := broadcastInDim S64x1 ![] bcast_S_S64x1 main_c_2
  let main_c_3 : IVec S_ 1 := constantI S_ 1 0#1
  let main_v4 : IVec S64x4x4 1 := broadcastInDim S64x4x4 ![] bcast_S_S64x4x4 main_c_3
  let main_c_4 : IVec S_ 1 := constantI S_ 1 0#1
  let main_v5 : IVec S64x1 1 := broadcastInDim S64x1 ![] bcast_S_S64x1 main_c_4
  let main_c_5 : IVec S_ 1 := constantI S_ 1 1#1
  let main_v6 : IVec S8x4x224x224 1 := broadcastInDim S8x4x224x224 ![] bcast_S_S8x4x224x224 main_c_5
  let main_c_6 : IVec S_ 1 := constantI S_ 1 1#1
  let main_v7 : IVec S8x3x224x224 1 := broadcastInDim S8x3x224x224 ![] bcast_S_S8x3x224x224 main_c_6
  let main_c_7 : IVec S_ 1 := constantI S_ 1 1#1
  let main_v8 : IVec S8x2x224x224 1 := broadcastInDim S8x2x224x224 ![] bcast_S_S8x2x224x224 main_c_7
  let main_c_8 : IVec S_ 1 := constantI S_ 1 1#1
  let main_v9 : IVec S8x224x224 1 := broadcastInDim S8x224x224 ![] bcast_S_S8x224x224 main_c_8
  (main_v0, main_v1, main_v2, main_v3, main_v4, main_v5, main_v6, main_v7, main_v8, main_v9)
-- ==== Pre_classes_in_range.lean ====
abbrev S8x224x224 : Shape := ⟨3, ![8, 224, 224]⟩
abbrev S8x32x224x224 : Shape := ⟨4, ![8, 32, 224, 224]⟩
abbrev S8x24x224x224 : Shape := ⟨4, ![8, 24, 224, 224]⟩
abbrev S8x16x224x224 : Shape := ⟨4, ![8, 16, 224, 224]⟩
abbrev S8x8x224x224 : Shape := ⟨4, ![8, 8, 224, 224]⟩
abbrev S_ : Shape := ⟨0, ![]⟩

class Facts : Prop where
  bcast_S_S8x224x224 : S_.BroadcastsInDim S8x224x224 (![] : Fin 0 → Fin S8x224x224.rank)
  reducesTo_S8x224x224_S_d0_1_2 : S8x224x224.ReducesTo [0, 1, 2] S_
  h_S_ : 0 < S_.numel

variable [Facts]

def fn {F : FTy → Type} [FloatOps F] (main_arg0 : IVec S8x224x224 32) (main_arg1 : FVec F S8x32x224x224 .f32) (main_arg2 : FVec F S8x24x224x224 .f32) (main_arg3 : FVec F S8x16x224x224 .f32) (main_arg4 : FVec F S8x8x224x224 .f32) : IVec S_ 1 :=
  let main_c : IVec S_ 32 := constantI S_ 32 0#32
  let main_v0 : IVec S8x224x224 32 := broadcastInDim S8x224x224 ![] bcast_S_S8x224x224 main_c
  let main_v1 : IVec S8x224x224 1 := cmpi .sge main_arg0 main_v0
  let main_c_0 : IVec S_ 32 := constantI S_ 32 9#32
  let main_v2 : IVec S8x224x224 32 := broadcastInDim S8x224x224 ![] bcast_S_S8x224x224 main_c_0
  let main_v3 : IVec S8x224x224 1 := cmpi .slt main_arg0 main_v2
  let main_v4 : IVec S8x224x224 1 := andi main_v1 main_v3
  let main_c_1 : IVec S_ 1 := constantI S_ 1 1#1
  let main_v5 : IVec S_ 1 := (fun x v => Host.reduce IntOp.andi x v reducesTo_S8x224x224_S_d0_1_2 h_S_) main_v4 main_c_1
  main_v5
-- ==== Kernel.lean ====
abbrev S8x224x224 : Shape := ⟨3, ![8, 224, 224]⟩
abbrev S8x32x224x224 : Shape := ⟨4, ![8, 32, 224, 224]⟩
abbrev S8x24x224x224 : Shape := ⟨4, ![8, 24, 224, 224]⟩
abbrev S8x16x224x224 : Shape := ⟨4, ![8, 16, 224, 224]⟩
abbrev S8x8x224x224 : Shape := ⟨4, ![8, 8, 224, 224]⟩
abbrev S8x4x224x224 : Shape := ⟨4, ![8, 4, 224, 224]⟩
abbrev S8x3x224x224 : Shape := ⟨4, ![8, 3, 224, 224]⟩
abbrev S8x2x224x224 : Shape := ⟨4, ![8, 2, 224, 224]⟩
abbrev S360448 : Shape := ⟨1, ![360448]⟩
abbrev S2x8x224 : Shape := ⟨3, ![2, 8, 224]⟩
abbrev S24x8x224 : Shape := ⟨3, ![24, 8, 224]⟩
abbrev S4x8x224 : Shape := ⟨3, ![4, 8, 224]⟩
abbrev S11264 : Shape := ⟨1, ![11264]⟩
abbrev S_ : Shape := ⟨0, ![]⟩
abbrev S16 : Shape := ⟨1, ![16]⟩
abbrev S1x8x224 : Shape := ⟨3, ![1, 8, 224]⟩
abbrev S8x224 : Shape := ⟨2, ![8, 224]⟩
abbrev S16x8x224 : Shape := ⟨3, ![16, 8, 224]⟩
abbrev S1x16x8x224 : Shape := ⟨4, ![1, 16, 8, 224]⟩
abbrev S8x8x224 : Shape := ⟨3, ![8, 8, 224]⟩
abbrev S1x8x8x224 : Shape := ⟨4, ![1, 8, 8, 224]⟩
abbrev S1x1x16 : Shape := ⟨3, ![1, 1, 16]⟩
abbrev S1x24x8x224 : Shape := ⟨4, ![1, 24, 8, 224]⟩
abbrev S1x4x8x224 : Shape := ⟨4, ![1, 4, 8, 224]⟩
abbrev S3x8x224 : Shape := ⟨3, ![3, 8, 224]⟩
abbrev S1x3x8x224 : Shape := ⟨4, ![1, 3, 8, 224]⟩
abbrev S1x2x8x224 : Shape := ⟨4, ![1, 2, 8, 224]⟩
abbrev S32x11x64x16 : Shape := ⟨4, ![32, 11, 64, 16]⟩
abbrev S64x11x32x16 : Shape := ⟨4, ![64, 11, 32, 16]⟩
abbrev S64x5632 : Shape := ⟨2, ![64, 5632]⟩
abbrev S64x4 : Shape := ⟨2, ![64, 4]⟩
abbrev S64x3 : Shape := ⟨2, ![64, 3]⟩
abbrev S64x2 : Shape := ⟨2, ![64, 2]⟩
abbrev S64x1 : Shape := ⟨2, ![64, 1]⟩
abbrev S64x16 : Shape := ⟨2, ![64, 16]⟩
abbrev S64x512 : Shape := ⟨2, ![64, 512]⟩
abbrev S64 : Shape := ⟨1, ![64]⟩
abbrev S64x4x4 : Shape := ⟨3, ![64, 4, 4]⟩

abbrev nBuf : Table → Nat
  | .hbm => 20
  | .local .tc .vmem => 7
  | .local .scVector .vmem => 5
  | _ => 0

abbrev bufTy : (tb : Table) → Fin (nBuf tb) → BufTy
  | .hbm, ⟨0, _⟩ => ⟨S8x224x224, .i32⟩
  | .hbm, ⟨1, _⟩ => ⟨S8x32x224x224, .f32⟩
  | .hbm, ⟨2, _⟩ => ⟨S8x24x224x224, .f32⟩
  | .hbm, ⟨3, _⟩ => ⟨S8x16x224x224, .f32⟩
  | .hbm, ⟨4, _⟩ => ⟨S8x8x224x224, .f32⟩
  | .hbm, ⟨5, _⟩ => ⟨S8x4x224x224, .f32⟩
  | .hbm, ⟨6, _⟩ => ⟨S8x3x224x224, .f32⟩
  | .hbm, ⟨7, _⟩ => ⟨S8x2x224x224, .f32⟩
  | .hbm, ⟨8, _⟩ => ⟨S8x224x224, .f32⟩
  | .hbm, ⟨9, _⟩ => ⟨S360448, .f32⟩
  | .hbm, ⟨10, _⟩ => ⟨S32x11x64x16, .f32⟩
  | .hbm, ⟨11, _⟩ => ⟨S64x11x32x16, .f32⟩
  | .hbm, ⟨12, _⟩ => ⟨S64x5632, .f32⟩
  | .hbm, ⟨13, _⟩ => ⟨S64x4, .f32⟩
  | .hbm, ⟨14, _⟩ => ⟨S64x3, .f32⟩
  | .hbm, ⟨15, _⟩ => ⟨S64x2, .f32⟩
  | .hbm, ⟨16, _⟩ => ⟨S64x1, .f32⟩
  | .hbm, ⟨17, _⟩ => ⟨S64x16, .f32⟩
  | .hbm, ⟨18, _⟩ => ⟨S64x1, .f32⟩
  | .hbm, ⟨19, _⟩ => ⟨S64x4x4, .f32⟩
  | .local .tc .vmem, ⟨0, _⟩ => ⟨S64x5632, .f32⟩
  | .local .tc .vmem, ⟨1, _⟩ => ⟨S64x4, .f32⟩
  | .local .tc .vmem, ⟨2, _⟩ => ⟨S64x3, .f32⟩
  | .local .tc .vmem, ⟨3, _⟩ => ⟨S64x2, .f32⟩
  | .local .tc .vmem, ⟨4, _⟩ => ⟨S64x1, .f32⟩
  | .local .tc .vmem, ⟨5, _⟩ => ⟨S64x16, .f32⟩
  | .local .tc .vmem, ⟨6, _⟩ => ⟨S64x1, .f32⟩
  | .local .scVector .vmem, ⟨0, _⟩ => ⟨S2x8x224, .i32⟩
  | .local .scVector .vmem, ⟨1, _⟩ => ⟨S24x8x224, .f32⟩
  | .local .scVector .vmem, ⟨2, _⟩ => ⟨S24x8x224, .f32⟩
  | .local .scVector .vmem, ⟨3, _⟩ => ⟨S4x8x224, .f32⟩
  | .local .scVector .vmem, ⟨4, _⟩ => ⟨S11264, .f32⟩
  | _, _ => ⟨S8x224x224, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v5 : Ref sig .tc := ⟨.hbm, 19, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 5, rfl⟩
abbrev main_v0_1_scv : Ref sig .scVector := ⟨.hbm, 6, rfl⟩
abbrev main_v0_2_scv : Ref sig .scVector := ⟨.hbm, 7, rfl⟩
abbrev main_v0_3_scv : Ref sig .scVector := ⟨.hbm, 8, rfl⟩
abbrev main_v0_4_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c704_i32 : BitVec 32 := 704#32
  let v4 : BitVec 32 := Scalar.addi c0_i32_0 c704_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg25 : BitVec 32 := Scf.iv c0_i32_0 c1_i32 k0_t1
  let c16_i32_4053 : BitVec 32 := 16#32
  let v6111 : BitVec 32 := Scalar.muli arg25 c16_i32_4053
  let v6112 : Index := Scalar.indexCast v6111
  ![v6112.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v5 : BitVec 32 := Scalar.muli v1 c7_i32
  let c0_i32_2 : BitVec 32 := 0#32
  let v6 : BitVec 32 := Scalar.addi v5 c0_i32_2
  let c28_i32_9 : BitVec 32 := 28#32
  let c0_i32_10 : BitVec 32 := 0#32
  let v24 : BitVec 1 := Scalar.cmpi .eq c28_i32_9 c0_i32_10
  let c1_i32_11 : BitVec 32 := 1#32
  let v25 : BitVec 32 := Scalar.select v24 c1_i32_11 c28_i32_9
  let v26 : BitVec 32 := Scalar.remsi v6 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c8_i32 : BitVec 32 := 8#32
  let v34 : BitVec 32 := Scalar.muli v33 c8_i32
  v34
def k0_off2 (i : grid0.Coords) (c0_i32_2 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v5 : BitVec 32 := Scalar.muli v1 c7_i32
  let v6 : BitVec 32 := Scalar.addi v5 c0_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c28_i32 : BitVec 32 := 28#32
  let c0_i32_5 : BitVec 32 := 0#32
  let v13 : BitVec 1 := Scalar.cmpi .sgt c28_i32 c0_i32_5
  let v14 : BitVec 32 := Scalar.extui v13
  let c0_i32_6 : BitVec 32 := 0#32
  let v15 : BitVec 1 := Scalar.cmpi .slt c28_i32 c0_i32_6
  let v16 : BitVec 32 := Scalar.extui v15
  let v17 : BitVec 32 := Scalar.subi v14 v16
  let v18 : BitVec 1 := Scalar.cmpi .ne v12 v17
  let v19 : BitVec 32 := Scalar.remsi v6 c28_i32
  let c0_i32_7 : BitVec 32 := 0#32
  let v20 : BitVec 1 := Scalar.cmpi .ne v19 c0_i32_7
  let v21 : BitVec 1 := Scalar.andi v18 v20
  let v7 : BitVec 32 := Scalar.divsi v6 c28_i32
  let c1_i32_8 : BitVec 32 := 1#32
  let v22 : BitVec 32 := Scalar.subi v7 c1_i32_8
  let v23 : BitVec 32 := Scalar.select v21 v22 v7
  let c28_i32_9 : BitVec 32 := 28#32
  let c0_i32_10 : BitVec 32 := 0#32
  let v24 : BitVec 1 := Scalar.cmpi .eq c28_i32_9 c0_i32_10
  let c1_i32_11 : BitVec 32 := 1#32
  let v25 : BitVec 32 := Scalar.select v24 c1_i32_11 c28_i32_9
  let v26 : BitVec 32 := Scalar.remsi v6 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c8_i32 : BitVec 32 := 8#32
  let v34 : BitVec 32 := Scalar.muli v33 c8_i32
  let v35 : BitVec 32 := v34
  let c0_i32_18 : BitVec 32 := 0#32
  ![v23.toNat, v35.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_22 : BitVec 32 := 7#32
  let v44 : BitVec 32 := Scalar.muli v1 c7_i32_22
  let c0_i32_23 : BitVec 32 := 0#32
  let v45 : BitVec 32 := Scalar.addi v44 c0_i32_23
  let c28_i32_31 : BitVec 32 := 28#32
  let c0_i32_32 : BitVec 32 := 0#32
  let v63 : BitVec 1 := Scalar.cmpi .eq c28_i32_31 c0_i32_32
  let c1_i32_33 : BitVec 32 := 1#32
  let v64 : BitVec 32 := Scalar.select v63 c1_i32_33 c28_i32_31
  let v65 : BitVec 32 := Scalar.remsi v45 v64
  let c0_i32_35 : BitVec 32 := 0#32
  let v67 : BitVec 1 := Scalar.cmpi .slt v65 c0_i32_35
  let c0_i32_36 : BitVec 32 := 0#32
  let v68 : BitVec 1 := Scalar.cmpi .slt v64 c0_i32_36
  let v69 : BitVec 1 := Scalar.xori v67 v68
  let c0_i32_34 : BitVec 32 := 0#32
  let v66 : BitVec 1 := Scalar.cmpi .ne v65 c0_i32_34
  let v70 : BitVec 1 := Scalar.andi v69 v66
  let v71 : BitVec 32 := Scalar.addi v65 v64
  let v72 : BitVec 32 := Scalar.select v70 v71 v65
  let c8_i32_37 : BitVec 32 := 8#32
  let v73 : BitVec 32 := Scalar.muli v72 c8_i32_37
  v73
def k0_off3 (i : grid0.Coords) (c0_i32_23 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_22 : BitVec 32 := 7#32
  let v44 : BitVec 32 := Scalar.muli v1 c7_i32_22
  let v45 : BitVec 32 := Scalar.addi v44 c0_i32_23
  let c0_i32_25 : BitVec 32 := 0#32
  let v47 : BitVec 1 := Scalar.cmpi .sgt v45 c0_i32_25
  let v48 : BitVec 32 := Scalar.extui v47
  let c0_i32_26 : BitVec 32 := 0#32
  let v49 : BitVec 1 := Scalar.cmpi .slt v45 c0_i32_26
  let v50 : BitVec 32 := Scalar.extui v49
  let v51 : BitVec 32 := Scalar.subi v48 v50
  let c28_i32_24 : BitVec 32 := 28#32
  let c0_i32_27 : BitVec 32 := 0#32
  let v52 : BitVec 1 := Scalar.cmpi .sgt c28_i32_24 c0_i32_27
  let v53 : BitVec 32 := Scalar.extui v52
  let c0_i32_28 : BitVec 32 := 0#32
  let v54 : BitVec 1 := Scalar.cmpi .slt c28_i32_24 c0_i32_28
  let v55 : BitVec 32 := Scalar.extui v54
  let v56 : BitVec 32 := Scalar.subi v53 v55
  let v57 : BitVec 1 := Scalar.cmpi .ne v51 v56
  let v58 : BitVec 32 := Scalar.remsi v45 c28_i32_24
  let c0_i32_29 : BitVec 32 := 0#32
  let v59 : BitVec 1 := Scalar.cmpi .ne v58 c0_i32_29
  let v60 : BitVec 1 := Scalar.andi v57 v59
  let v46 : BitVec 32 := Scalar.divsi v45 c28_i32_24
  let c1_i32_30 : BitVec 32 := 1#32
  let v61 : BitVec 32 := Scalar.subi v46 c1_i32_30
  let v62 : BitVec 32 := Scalar.select v60 v61 v46
  let c0_i32_41 : BitVec 32 := 0#32
  let c28_i32_31 : BitVec 32 := 28#32
  let c0_i32_32 : BitVec 32 := 0#32
  let v63 : BitVec 1 := Scalar.cmpi .eq c28_i32_31 c0_i32_32
  let c1_i32_33 : BitVec 32 := 1#32
  let v64 : BitVec 32 := Scalar.select v63 c1_i32_33 c28_i32_31
  let v65 : BitVec 32 := Scalar.remsi v45 v64
  let c0_i32_35 : BitVec 32 := 0#32
  let v67 : BitVec 1 := Scalar.cmpi .slt v65 c0_i32_35
  let c0_i32_36 : BitVec 32 := 0#32
  let v68 : BitVec 1 := Scalar.cmpi .slt v64 c0_i32_36
  let v69 : BitVec 1 := Scalar.xori v67 v68
  let c0_i32_34 : BitVec 32 := 0#32
  let v66 : BitVec 1 := Scalar.cmpi .ne v65 c0_i32_34
  let v70 : BitVec 1 := Scalar.andi v69 v66
  let v71 : BitVec 32 := Scalar.addi v65 v64
  let v72 : BitVec 32 := Scalar.select v70 v71 v65
  let c8_i32_37 : BitVec 32 := 8#32
  let v73 : BitVec 32 := Scalar.muli v72 c8_i32_37
  let v74 : BitVec 32 := v73
  let c0_i32_42 : BitVec 32 := 0#32
  ![v62.toNat, 0, v74.toNat, 0]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_48 : BitVec 32 := 7#32
  let v81 : BitVec 32 := Scalar.muli v1 c7_i32_48
  let c0_i32_49 : BitVec 32 := 0#32
  let v82 : BitVec 32 := Scalar.addi v81 c0_i32_49
  let c28_i32_57 : BitVec 32 := 28#32
  let c0_i32_58 : BitVec 32 := 0#32
  let v100 : BitVec 1 := Scalar.cmpi .eq c28_i32_57 c0_i32_58
  let c1_i32_59 : BitVec 32 := 1#32
  let v101 : BitVec 32 := Scalar.select v100 c1_i32_59 c28_i32_57
  let v102 : BitVec 32 := Scalar.remsi v82 v101
  let c0_i32_61 : BitVec 32 := 0#32
  let v104 : BitVec 1 := Scalar.cmpi .slt v102 c0_i32_61
  let c0_i32_62 : BitVec 32 := 0#32
  let v105 : BitVec 1 := Scalar.cmpi .slt v101 c0_i32_62
  let v106 : BitVec 1 := Scalar.xori v104 v105
  let c0_i32_60 : BitVec 32 := 0#32
  let v103 : BitVec 1 := Scalar.cmpi .ne v102 c0_i32_60
  let v107 : BitVec 1 := Scalar.andi v106 v103
  let v108 : BitVec 32 := Scalar.addi v102 v101
  let v109 : BitVec 32 := Scalar.select v107 v108 v102
  let c8_i32_63 : BitVec 32 := 8#32
  let v110 : BitVec 32 := Scalar.muli v109 c8_i32_63
  v110
def k0_off4 (i : grid0.Coords) (c0_i32_49 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_48 : BitVec 32 := 7#32
  let v81 : BitVec 32 := Scalar.muli v1 c7_i32_48
  let v82 : BitVec 32 := Scalar.addi v81 c0_i32_49
  let c0_i32_51 : BitVec 32 := 0#32
  let v84 : BitVec 1 := Scalar.cmpi .sgt v82 c0_i32_51
  let v85 : BitVec 32 := Scalar.extui v84
  let c0_i32_52 : BitVec 32 := 0#32
  let v86 : BitVec 1 := Scalar.cmpi .slt v82 c0_i32_52
  let v87 : BitVec 32 := Scalar.extui v86
  let v88 : BitVec 32 := Scalar.subi v85 v87
  let c28_i32_50 : BitVec 32 := 28#32
  let c0_i32_53 : BitVec 32 := 0#32
  let v89 : BitVec 1 := Scalar.cmpi .sgt c28_i32_50 c0_i32_53
  let v90 : BitVec 32 := Scalar.extui v89
  let c0_i32_54 : BitVec 32 := 0#32
  let v91 : BitVec 1 := Scalar.cmpi .slt c28_i32_50 c0_i32_54
  let v92 : BitVec 32 := Scalar.extui v91
  let v93 : BitVec 32 := Scalar.subi v90 v92
  let v94 : BitVec 1 := Scalar.cmpi .ne v88 v93
  let v95 : BitVec 32 := Scalar.remsi v82 c28_i32_50
  let c0_i32_55 : BitVec 32 := 0#32
  let v96 : BitVec 1 := Scalar.cmpi .ne v95 c0_i32_55
  let v97 : BitVec 1 := Scalar.andi v94 v96
  let v83 : BitVec 32 := Scalar.divsi v82 c28_i32_50
  let c1_i32_56 : BitVec 32 := 1#32
  let v98 : BitVec 32 := Scalar.subi v83 c1_i32_56
  let v99 : BitVec 32 := Scalar.select v97 v98 v83
  let c16_i32 : BitVec 32 := 16#32
  let c28_i32_57 : BitVec 32 := 28#32
  let c0_i32_58 : BitVec 32 := 0#32
  let v100 : BitVec 1 := Scalar.cmpi .eq c28_i32_57 c0_i32_58
  let c1_i32_59 : BitVec 32 := 1#32
  let v101 : BitVec 32 := Scalar.select v100 c1_i32_59 c28_i32_57
  let v102 : BitVec 32 := Scalar.remsi v82 v101
  let c0_i32_61 : BitVec 32 := 0#32
  let v104 : BitVec 1 := Scalar.cmpi .slt v102 c0_i32_61
  let c0_i32_62 : BitVec 32 := 0#32
  let v105 : BitVec 1 := Scalar.cmpi .slt v101 c0_i32_62
  let v106 : BitVec 1 := Scalar.xori v104 v105
  let c0_i32_60 : BitVec 32 := 0#32
  let v103 : BitVec 1 := Scalar.cmpi .ne v102 c0_i32_60
  let v107 : BitVec 1 := Scalar.andi v106 v103
  let v108 : BitVec 32 := Scalar.addi v102 v101
  let v109 : BitVec 32 := Scalar.select v107 v108 v102
  let c8_i32_63 : BitVec 32 := 8#32
  let v110 : BitVec 32 := Scalar.muli v109 c8_i32_63
  let v111 : BitVec 32 := v110
  let c0_i32_67 : BitVec 32 := 0#32
  ![v99.toNat, 16, v111.toNat, 0]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_73 : BitVec 32 := 7#32
  let v118 : BitVec 32 := Scalar.muli v1 c7_i32_73
  let c0_i32_74 : BitVec 32 := 0#32
  let v119 : BitVec 32 := Scalar.addi v118 c0_i32_74
  let c28_i32_82 : BitVec 32 := 28#32
  let c0_i32_83 : BitVec 32 := 0#32
  let v137 : BitVec 1 := Scalar.cmpi .eq c28_i32_82 c0_i32_83
  let c1_i32_84 : BitVec 32 := 1#32
  let v138 : BitVec 32 := Scalar.select v137 c1_i32_84 c28_i32_82
  let v139 : BitVec 32 := Scalar.remsi v119 v138
  let c0_i32_86 : BitVec 32 := 0#32
  let v141 : BitVec 1 := Scalar.cmpi .slt v139 c0_i32_86
  let c0_i32_87 : BitVec 32 := 0#32
  let v142 : BitVec 1 := Scalar.cmpi .slt v138 c0_i32_87
  let v143 : BitVec 1 := Scalar.xori v141 v142
  let c0_i32_85 : BitVec 32 := 0#32
  let v140 : BitVec 1 := Scalar.cmpi .ne v139 c0_i32_85
  let v144 : BitVec 1 := Scalar.andi v143 v140
  let v145 : BitVec 32 := Scalar.addi v139 v138
  let v146 : BitVec 32 := Scalar.select v144 v145 v139
  let c8_i32_88 : BitVec 32 := 8#32
  let v147 : BitVec 32 := Scalar.muli v146 c8_i32_88
  v147
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_96 : BitVec 32 := 7#32
  let v157 : BitVec 32 := Scalar.muli v1 c7_i32_96
  let c1_i32_97 : BitVec 32 := 1#32
  let v158 : BitVec 32 := Scalar.addi v157 c1_i32_97
  let c28_i32_105 : BitVec 32 := 28#32
  let c0_i32_106 : BitVec 32 := 0#32
  let v176 : BitVec 1 := Scalar.cmpi .eq c28_i32_105 c0_i32_106
  let c1_i32_107 : BitVec 32 := 1#32
  let v177 : BitVec 32 := Scalar.select v176 c1_i32_107 c28_i32_105
  let v178 : BitVec 32 := Scalar.remsi v158 v177
  let c0_i32_109 : BitVec 32 := 0#32
  let v180 : BitVec 1 := Scalar.cmpi .slt v178 c0_i32_109
  let c0_i32_110 : BitVec 32 := 0#32
  let v181 : BitVec 1 := Scalar.cmpi .slt v177 c0_i32_110
  let v182 : BitVec 1 := Scalar.xori v180 v181
  let c0_i32_108 : BitVec 32 := 0#32
  let v179 : BitVec 1 := Scalar.cmpi .ne v178 c0_i32_108
  let v183 : BitVec 1 := Scalar.andi v182 v179
  let v184 : BitVec 32 := Scalar.addi v178 v177
  let v185 : BitVec 32 := Scalar.select v183 v184 v178
  let c8_i32_111 : BitVec 32 := 8#32
  let v186 : BitVec 32 := Scalar.muli v185 c8_i32_111
  v186
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_119 : BitVec 32 := 7#32
  let v196 : BitVec 32 := Scalar.muli v1 c7_i32_119
  let c0_i32_120 : BitVec 32 := 0#32
  let v197 : BitVec 32 := Scalar.addi v196 c0_i32_120
  let c28_i32_128 : BitVec 32 := 28#32
  let c0_i32_129 : BitVec 32 := 0#32
  let v215 : BitVec 1 := Scalar.cmpi .eq c28_i32_128 c0_i32_129
  let c1_i32_130 : BitVec 32 := 1#32
  let v216 : BitVec 32 := Scalar.select v215 c1_i32_130 c28_i32_128
  let v217 : BitVec 32 := Scalar.remsi v197 v216
  let c0_i32_132 : BitVec 32 := 0#32
  let v219 : BitVec 1 := Scalar.cmpi .slt v217 c0_i32_132
  let c0_i32_133 : BitVec 32 := 0#32
  let v220 : BitVec 1 := Scalar.cmpi .slt v216 c0_i32_133
  let v221 : BitVec 1 := Scalar.xori v219 v220
  let c0_i32_131 : BitVec 32 := 0#32
  let v218 : BitVec 1 := Scalar.cmpi .ne v217 c0_i32_131
  let v222 : BitVec 1 := Scalar.andi v221 v218
  let v223 : BitVec 32 := Scalar.addi v217 v216
  let v224 : BitVec 32 := Scalar.select v222 v223 v217
  let c8_i32_134 : BitVec 32 := 8#32
  let v225 : BitVec 32 := Scalar.muli v224 c8_i32_134
  v225
def k0_off5 (i : grid0.Coords) (c0_i32_120 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_119 : BitVec 32 := 7#32
  let v196 : BitVec 32 := Scalar.muli v1 c7_i32_119
  let v197 : BitVec 32 := Scalar.addi v196 c0_i32_120
  let c0_i32_122 : BitVec 32 := 0#32
  let v199 : BitVec 1 := Scalar.cmpi .sgt v197 c0_i32_122
  let v200 : BitVec 32 := Scalar.extui v199
  let c0_i32_123 : BitVec 32 := 0#32
  let v201 : BitVec 1 := Scalar.cmpi .slt v197 c0_i32_123
  let v202 : BitVec 32 := Scalar.extui v201
  let v203 : BitVec 32 := Scalar.subi v200 v202
  let c28_i32_121 : BitVec 32 := 28#32
  let c0_i32_124 : BitVec 32 := 0#32
  let v204 : BitVec 1 := Scalar.cmpi .sgt c28_i32_121 c0_i32_124
  let v205 : BitVec 32 := Scalar.extui v204
  let c0_i32_125 : BitVec 32 := 0#32
  let v206 : BitVec 1 := Scalar.cmpi .slt c28_i32_121 c0_i32_125
  let v207 : BitVec 32 := Scalar.extui v206
  let v208 : BitVec 32 := Scalar.subi v205 v207
  let v209 : BitVec 1 := Scalar.cmpi .ne v203 v208
  let v210 : BitVec 32 := Scalar.remsi v197 c28_i32_121
  let c0_i32_126 : BitVec 32 := 0#32
  let v211 : BitVec 1 := Scalar.cmpi .ne v210 c0_i32_126
  let v212 : BitVec 1 := Scalar.andi v209 v211
  let v198 : BitVec 32 := Scalar.divsi v197 c28_i32_121
  let c1_i32_127 : BitVec 32 := 1#32
  let v213 : BitVec 32 := Scalar.subi v198 c1_i32_127
  let v214 : BitVec 32 := Scalar.select v212 v213 v198
  let c0_i32_138 : BitVec 32 := 0#32
  let c28_i32_128 : BitVec 32 := 28#32
  let c0_i32_129 : BitVec 32 := 0#32
  let v215 : BitVec 1 := Scalar.cmpi .eq c28_i32_128 c0_i32_129
  let c1_i32_130 : BitVec 32 := 1#32
  let v216 : BitVec 32 := Scalar.select v215 c1_i32_130 c28_i32_128
  let v217 : BitVec 32 := Scalar.remsi v197 v216
  let c0_i32_132 : BitVec 32 := 0#32
  let v219 : BitVec 1 := Scalar.cmpi .slt v217 c0_i32_132
  let c0_i32_133 : BitVec 32 := 0#32
  let v220 : BitVec 1 := Scalar.cmpi .slt v216 c0_i32_133
  let v221 : BitVec 1 := Scalar.xori v219 v220
  let c0_i32_131 : BitVec 32 := 0#32
  let v218 : BitVec 1 := Scalar.cmpi .ne v217 c0_i32_131
  let v222 : BitVec 1 := Scalar.andi v221 v218
  let v223 : BitVec 32 := Scalar.addi v217 v216
  let v224 : BitVec 32 := Scalar.select v222 v223 v217
  let c8_i32_134 : BitVec 32 := 8#32
  let v225 : BitVec 32 := Scalar.muli v224 c8_i32_134
  let v226 : BitVec 32 := v225
  let c0_i32_139 : BitVec 32 := 0#32
  ![v214.toNat, 0, v226.toNat, 0]
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_145 : BitVec 32 := 7#32
  let v233 : BitVec 32 := Scalar.muli v1 c7_i32_145
  let c0_i32_146 : BitVec 32 := 0#32
  let v234 : BitVec 32 := Scalar.addi v233 c0_i32_146
  let c28_i32_154 : BitVec 32 := 28#32
  let c0_i32_155 : BitVec 32 := 0#32
  let v252 : BitVec 1 := Scalar.cmpi .eq c28_i32_154 c0_i32_155
  let c1_i32_156 : BitVec 32 := 1#32
  let v253 : BitVec 32 := Scalar.select v252 c1_i32_156 c28_i32_154
  let v254 : BitVec 32 := Scalar.remsi v234 v253
  let c0_i32_158 : BitVec 32 := 0#32
  let v256 : BitVec 1 := Scalar.cmpi .slt v254 c0_i32_158
  let c0_i32_159 : BitVec 32 := 0#32
  let v257 : BitVec 1 := Scalar.cmpi .slt v253 c0_i32_159
  let v258 : BitVec 1 := Scalar.xori v256 v257
  let c0_i32_157 : BitVec 32 := 0#32
  let v255 : BitVec 1 := Scalar.cmpi .ne v254 c0_i32_157
  let v259 : BitVec 1 := Scalar.andi v258 v255
  let v260 : BitVec 32 := Scalar.addi v254 v253
  let v261 : BitVec 32 := Scalar.select v259 v260 v254
  let c8_i32_160 : BitVec 32 := 8#32
  let v262 : BitVec 32 := Scalar.muli v261 c8_i32_160
  v262
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_171 : BitVec 32 := 7#32
  let v270 : BitVec 32 := Scalar.muli v1 c7_i32_171
  let c0_i32_172 : BitVec 32 := 0#32
  let v271 : BitVec 32 := Scalar.addi v270 c0_i32_172
  let c28_i32_180 : BitVec 32 := 28#32
  let c0_i32_181 : BitVec 32 := 0#32
  let v289 : BitVec 1 := Scalar.cmpi .eq c28_i32_180 c0_i32_181
  let c1_i32_182 : BitVec 32 := 1#32
  let v290 : BitVec 32 := Scalar.select v289 c1_i32_182 c28_i32_180
  let v291 : BitVec 32 := Scalar.remsi v271 v290
  let c0_i32_184 : BitVec 32 := 0#32
  let v293 : BitVec 1 := Scalar.cmpi .slt v291 c0_i32_184
  let c0_i32_185 : BitVec 32 := 0#32
  let v294 : BitVec 1 := Scalar.cmpi .slt v290 c0_i32_185
  let v295 : BitVec 1 := Scalar.xori v293 v294
  let c0_i32_183 : BitVec 32 := 0#32
  let v292 : BitVec 1 := Scalar.cmpi .ne v291 c0_i32_183
  let v296 : BitVec 1 := Scalar.andi v295 v292
  let v297 : BitVec 32 := Scalar.addi v291 v290
  let v298 : BitVec 32 := Scalar.select v296 v297 v291
  let c8_i32_186 : BitVec 32 := 8#32
  let v299 : BitVec 32 := Scalar.muli v298 c8_i32_186
  v299
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_197 : BitVec 32 := 7#32
  let v307 : BitVec 32 := Scalar.muli v1 c7_i32_197
  let c0_i32_198 : BitVec 32 := 0#32
  let v308 : BitVec 32 := Scalar.addi v307 c0_i32_198
  let c28_i32_206 : BitVec 32 := 28#32
  let c0_i32_207 : BitVec 32 := 0#32
  let v326 : BitVec 1 := Scalar.cmpi .eq c28_i32_206 c0_i32_207
  let c1_i32_208 : BitVec 32 := 1#32
  let v327 : BitVec 32 := Scalar.select v326 c1_i32_208 c28_i32_206
  let v328 : BitVec 32 := Scalar.remsi v308 v327
  let c0_i32_210 : BitVec 32 := 0#32
  let v330 : BitVec 1 := Scalar.cmpi .slt v328 c0_i32_210
  let c0_i32_211 : BitVec 32 := 0#32
  let v331 : BitVec 1 := Scalar.cmpi .slt v327 c0_i32_211
  let v332 : BitVec 1 := Scalar.xori v330 v331
  let c0_i32_209 : BitVec 32 := 0#32
  let v329 : BitVec 1 := Scalar.cmpi .ne v328 c0_i32_209
  let v333 : BitVec 1 := Scalar.andi v332 v329
  let v334 : BitVec 32 := Scalar.addi v328 v327
  let v335 : BitVec 32 := Scalar.select v333 v334 v328
  let c8_i32_212 : BitVec 32 := 8#32
  let v336 : BitVec 32 := Scalar.muli v335 c8_i32_212
  v336
@[reducible] def k0_t2_loop : Scf.Loop 32 :=
  let c0_i32_214 : BitVec 32 := 0#32
  let c112_i32 : BitVec 32 := 112#32
  let v338 : BitVec 32 := Scalar.addi c0_i32_214 c112_i32
  let c1_i32_215 : BitVec 32 := 1#32
  ⟨c0_i32_214, v338, c1_i32_215⟩
def k0_off6 (k0_t2 : Fin k0_t2_loop.trips) : Fin 3 → Nat :=
  let c0_i32_4066 : BitVec 32 := 0#32
  let v6139 : Index := Scalar.indexCast c0_i32_4066
  let c0_i32_214 : BitVec 32 := 0#32
  let c1_i32_215 : BitVec 32 := 1#32
  let arg25 : BitVec 32 := Scf.iv c0_i32_214 c1_i32_215 k0_t2
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk1 (v6158 : IVec S16 32) (v6160 : IVec S16 32) (v6178 : IVec S16 32) : Prop :=
  (∀ a x, ((![v6178, v6158, v6160] : Fin 3 → IVec S16 32) a x).toNat < S24x8x224.size a)
theorem k0_idx1_inb : ∀ (v6158 : IVec S16 32) (v6160 : IVec S16 32) (v6178 : IVec S16 32) (k0_hw1 : k0_chk1 v6158 v6160 v6178), ∀ a x, ((![v6178, v6158, v6160] : Fin 3 → IVec S16 32) a x).toNat < S24x8x224.size a := fun v6158 v6160 v6178 k0_hw1 => k0_hw1

def k0_chk2 (v6158 : IVec S16 32) (v6160 : IVec S16 32) (v6181 : IVec S16 32) : Prop :=
  (∀ a x, ((![v6181, v6158, v6160] : Fin 3 → IVec S16 32) a x).toNat < S24x8x224.size a)
theorem k0_idx2_inb : ∀ (v6158 : IVec S16 32) (v6160 : IVec S16 32) (v6181 : IVec S16 32) (k0_hw2 : k0_chk2 v6158 v6160 v6181), ∀ a x, ((![v6181, v6158, v6160] : Fin 3 → IVec S16 32) a x).toNat < S24x8x224.size a := fun v6158 v6160 v6181 k0_hw2 => k0_hw2
def k0_off7 (k0_t2 : Fin k0_t2_loop.trips) : Fin 3 → Nat :=
  let c0_i32_4084 : BitVec 32 := 0#32
  let v6186 : Index := Scalar.indexCast c0_i32_4084
  let c0_i32_214 : BitVec 32 := 0#32
  let c1_i32_215 : BitVec 32 := 1#32
  let arg25 : BitVec 32 := Scf.iv c0_i32_214 c1_i32_215 k0_t2
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6187 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6188 : Index := Scalar.indexCast v6138
  ![0, v6187.toNat, v6188.toNat]

def k0_chk3 (v6191 : IVec S16 32) : Prop :=
  (∀ a x, ((![v6191] : Fin 1 → IVec S16 32) a x).toNat < S11264.size a)
theorem k0_idx3_inb : ∀ (v6191 : IVec S16 32) (k0_hw3 : k0_chk3 v6191), ∀ a x, ((![v6191] : Fin 1 → IVec S16 32) a x).toNat < S11264.size a := fun v6191 k0_hw3 => k0_hw3

def k0_chk4 (v6158 : IVec S16 32) (v6160 : IVec S16 32) (v6193 : IVec S16 32) : Prop :=
  (∀ a x, ((![v6193, v6158, v6160] : Fin 3 → IVec S16 32) a x).toNat < S24x8x224.size a)
theorem k0_idx4_inb : ∀ (v6158 : IVec S16 32) (v6160 : IVec S16 32) (v6193 : IVec S16 32) (k0_hw4 : k0_chk4 v6158 v6160 v6193), ∀ a x, ((![v6193, v6158, v6160] : Fin 3 → IVec S16 32) a x).toNat < S24x8x224.size a := fun v6158 v6160 v6193 k0_hw4 => k0_hw4

def k0_chk5 (v6158 : IVec S16 32) (v6160 : IVec S16 32) (v6196 : IVec S16 32) : Prop :=
  (∀ a x, ((![v6196, v6158, v6160] : Fin 3 → IVec S16 32) a x).toNat < S24x8x224.size a)
theorem k0_idx5_inb : ∀ (v6158 : IVec S16 32) (v6160 : IVec S16 32) (v6196 : IVec S16 32) (k0_hw5 : k0_chk5 v6158 v6160 v6196), ∀ a x, ((![v6196, v6158, v6160] : Fin 3 → IVec S16 32) a x).toNat < S24x8x224.size a := fun v6158 v6160 v6196 k0_hw5 => k0_hw5
def k0_off8 (k0_t2 : Fin k0_t2_loop.trips) : Fin 3 → Nat :=
  let c1_i32_4089 : BitVec 32 := 1#32
  let v6201 : Index := Scalar.indexCast c1_i32_4089
  let c0_i32_214 : BitVec 32 := 0#32
  let c1_i32_215 : BitVec 32 := 1#32
  let arg25 : BitVec 32 := Scf.iv c0_i32_214 c1_i32_215 k0_t2
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6202 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6203 : Index := Scalar.indexCast v6138
  ![1, v6202.toNat, v6203.toNat]

def k0_chk6 (v6206 : IVec S16 32) : Prop :=
  (∀ a x, ((![v6206] : Fin 1 → IVec S16 32) a x).toNat < S11264.size a)
theorem k0_idx6_inb : ∀ (v6206 : IVec S16 32) (k0_hw6 : k0_chk6 v6206), ∀ a x, ((![v6206] : Fin 1 → IVec S16 32) a x).toNat < S11264.size a := fun v6206 k0_hw6 => k0_hw6

def k0_chk7 (v6158 : IVec S16 32) (v6160 : IVec S16 32) (v6208 : IVec S16 32) : Prop :=
  (∀ a x, ((![v6208, v6158, v6160] : Fin 3 → IVec S16 32) a x).toNat < S24x8x224.size a)
theorem k0_idx7_inb : ∀ (v6158 : IVec S16 32) (v6160 : IVec S16 32) (v6208 : IVec S16 32) (k0_hw7 : k0_chk7 v6158 v6160 v6208), ∀ a x, ((![v6208, v6158, v6160] : Fin 3 → IVec S16 32) a x).toNat < S24x8x224.size a := fun v6158 v6160 v6208 k0_hw7 => k0_hw7

def k0_chk8 (v6158 : IVec S16 32) (v6160 : IVec S16 32) (v6211 : IVec S16 32) : Prop :=
  (∀ a x, ((![v6211, v6158, v6160] : Fin 3 → IVec S16 32) a x).toNat < S24x8x224.size a)
theorem k0_idx8_inb : ∀ (v6158 : IVec S16 32) (v6160 : IVec S16 32) (v6211 : IVec S16 32) (k0_hw8 : k0_chk8 v6158 v6160 v6211), ∀ a x, ((![v6211, v6158, v6160] : Fin 3 → IVec S16 32) a x).toNat < S24x8x224.size a := fun v6158 v6160 v6211 k0_hw8 => k0_hw8
def k0_off9 (k0_t2 : Fin k0_t2_loop.trips) : Fin 3 → Nat :=
  let c2_i32_4093 : BitVec 32 := 2#32
  let v6216 : Index := Scalar.indexCast c2_i32_4093
  let c0_i32_214 : BitVec 32 := 0#32
  let c1_i32_215 : BitVec 32 := 1#32
  let arg25 : BitVec 32 := Scf.iv c0_i32_214 c1_i32_215 k0_t2
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6217 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6218 : Index := Scalar.indexCast v6138
  ![2, v6217.toNat, v6218.toNat]

def k0_chk9 (v6221 : IVec S16 32) : Prop :=
  (∀ a x, ((![v6221] : Fin 1 → IVec S16 32) a x).toNat < S11264.size a)
theorem k0_idx9_inb : ∀ (v6221 : IVec S16 32) (k0_hw9 : k0_chk9 v6221), ∀ a x, ((![v6221] : Fin 1 → IVec S16 32) a x).toNat < S11264.size a := fun v6221 k0_hw9 => k0_hw9

def k0_chk10 (v6158 : IVec S16 32) (v6160 : IVec S16 32) (v6223 : IVec S16 32) : Prop :=
  (∀ a x, ((![v6223, v6158, v6160] : Fin 3 → IVec S16 32) a x).toNat < S24x8x224.size a)
theorem k0_idx10_inb : ∀ (v6158 : IVec S16 32) (v6160 : IVec S16 32) (v6223 : IVec S16 32) (k0_hw10 : k0_chk10 v6158 v6160 v6223), ∀ a x, ((![v6223, v6158, v6160] : Fin 3 → IVec S16 32) a x).toNat < S24x8x224.size a := fun v6158 v6160 v6223 k0_hw10 => k0_hw10

def k0_chk11 (v6158 : IVec S16 32) (v6160 : IVec S16 32) (v6226 : IVec S16 32) : Prop :=
  (∀ a x, ((![v6226, v6158, v6160] : Fin 3 → IVec S16 32) a x).toNat < S24x8x224.size a)
theorem k0_idx11_inb : ∀ (v6158 : IVec S16 32) (v6160 : IVec S16 32) (v6226 : IVec S16 32) (k0_hw11 : k0_chk11 v6158 v6160 v6226), ∀ a x, ((![v6226, v6158, v6160] : Fin 3 → IVec S16 32) a x).toNat < S24x8x224.size a := fun v6158 v6160 v6226 k0_hw11 => k0_hw11
def k0_off10 (k0_t2 : Fin k0_t2_loop.trips) : Fin 3 → Nat :=
  let c3_i32_4097 : BitVec 32 := 3#32
  let v6231 : Index := Scalar.indexCast c3_i32_4097
  let c0_i32_214 : BitVec 32 := 0#32
  let c1_i32_215 : BitVec 32 := 1#32
  let arg25 : BitVec 32 := Scf.iv c0_i32_214 c1_i32_215 k0_t2
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6232 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6233 : Index := Scalar.indexCast v6138
  ![3, v6232.toNat, v6233.toNat]

def k0_chk12 (v6236 : IVec S16 32) : Prop :=
  (∀ a x, ((![v6236] : Fin 1 → IVec S16 32) a x).toNat < S11264.size a)
theorem k0_idx12_inb : ∀ (v6236 : IVec S16 32) (k0_hw12 : k0_chk12 v6236), ∀ a x, ((![v6236] : Fin 1 → IVec S16 32) a x).toNat < S11264.size a := fun v6236 k0_hw12 => k0_hw12

def k0_chk13 (v6241 : IVec S16 32) : Prop :=
  (∀ a x, ((![v6241] : Fin 1 → IVec S16 32) a x).toNat < S11264.size a)
theorem k0_idx13_inb : ∀ (v6241 : IVec S16 32) (k0_hw13 : k0_chk13 v6241), ∀ a x, ((![v6241] : Fin 1 → IVec S16 32) a x).toNat < S11264.size a := fun v6241 k0_hw13 => k0_hw13
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_217 : BitVec 32 := 7#32
  let v339 : BitVec 32 := Scalar.muli v1 c7_i32_217
  let c0_i32_218 : BitVec 32 := 0#32
  let v340 : BitVec 32 := Scalar.addi v339 c0_i32_218
  let c28_i32_226 : BitVec 32 := 28#32
  let c0_i32_227 : BitVec 32 := 0#32
  let v358 : BitVec 1 := Scalar.cmpi .eq c28_i32_226 c0_i32_227
  let c1_i32_228 : BitVec 32 := 1#32
  let v359 : BitVec 32 := Scalar.select v358 c1_i32_228 c28_i32_226
  let v360 : BitVec 32 := Scalar.remsi v340 v359
  let c0_i32_230 : BitVec 32 := 0#32
  let v362 : BitVec 1 := Scalar.cmpi .slt v360 c0_i32_230
  let c0_i32_231 : BitVec 32 := 0#32
  let v363 : BitVec 1 := Scalar.cmpi .slt v359 c0_i32_231
  let v364 : BitVec 1 := Scalar.xori v362 v363
  let c0_i32_229 : BitVec 32 := 0#32
  let v361 : BitVec 1 := Scalar.cmpi .ne v360 c0_i32_229
  let v365 : BitVec 1 := Scalar.andi v364 v361
  let v366 : BitVec 32 := Scalar.addi v360 v359
  let v367 : BitVec 32 := Scalar.select v365 v366 v360
  let c8_i32_232 : BitVec 32 := 8#32
  let v368 : BitVec 32 := Scalar.muli v367 c8_i32_232
  v368
def k0_off11 (i : grid0.Coords) (c0_i32_218 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_217 : BitVec 32 := 7#32
  let v339 : BitVec 32 := Scalar.muli v1 c7_i32_217
  let v340 : BitVec 32 := Scalar.addi v339 c0_i32_218
  let c0_i32_220 : BitVec 32 := 0#32
  let v342 : BitVec 1 := Scalar.cmpi .sgt v340 c0_i32_220
  let v343 : BitVec 32 := Scalar.extui v342
  let c0_i32_221 : BitVec 32 := 0#32
  let v344 : BitVec 1 := Scalar.cmpi .slt v340 c0_i32_221
  let v345 : BitVec 32 := Scalar.extui v344
  let v346 : BitVec 32 := Scalar.subi v343 v345
  let c28_i32_219 : BitVec 32 := 28#32
  let c0_i32_222 : BitVec 32 := 0#32
  let v347 : BitVec 1 := Scalar.cmpi .sgt c28_i32_219 c0_i32_222
  let v348 : BitVec 32 := Scalar.extui v347
  let c0_i32_223 : BitVec 32 := 0#32
  let v349 : BitVec 1 := Scalar.cmpi .slt c28_i32_219 c0_i32_223
  let v350 : BitVec 32 := Scalar.extui v349
  let v351 : BitVec 32 := Scalar.subi v348 v350
  let v352 : BitVec 1 := Scalar.cmpi .ne v346 v351
  let v353 : BitVec 32 := Scalar.remsi v340 c28_i32_219
  let c0_i32_224 : BitVec 32 := 0#32
  let v354 : BitVec 1 := Scalar.cmpi .ne v353 c0_i32_224
  let v355 : BitVec 1 := Scalar.andi v352 v354
  let v341 : BitVec 32 := Scalar.divsi v340 c28_i32_219
  let c1_i32_225 : BitVec 32 := 1#32
  let v356 : BitVec 32 := Scalar.subi v341 c1_i32_225
  let v357 : BitVec 32 := Scalar.select v355 v356 v341
  let c0_i32_233 : BitVec 32 := 0#32
  let c28_i32_226 : BitVec 32 := 28#32
  let c0_i32_227 : BitVec 32 := 0#32
  let v358 : BitVec 1 := Scalar.cmpi .eq c28_i32_226 c0_i32_227
  let c1_i32_228 : BitVec 32 := 1#32
  let v359 : BitVec 32 := Scalar.select v358 c1_i32_228 c28_i32_226
  let v360 : BitVec 32 := Scalar.remsi v340 v359
  let c0_i32_230 : BitVec 32 := 0#32
  let v362 : BitVec 1 := Scalar.cmpi .slt v360 c0_i32_230
  let c0_i32_231 : BitVec 32 := 0#32
  let v363 : BitVec 1 := Scalar.cmpi .slt v359 c0_i32_231
  let v364 : BitVec 1 := Scalar.xori v362 v363
  let c0_i32_229 : BitVec 32 := 0#32
  let v361 : BitVec 1 := Scalar.cmpi .ne v360 c0_i32_229
  let v365 : BitVec 1 := Scalar.andi v364 v361
  let v366 : BitVec 32 := Scalar.addi v360 v359
  let v367 : BitVec 32 := Scalar.select v365 v366 v360
  let c8_i32_232 : BitVec 32 := 8#32
  let v368 : BitVec 32 := Scalar.muli v367 c8_i32_232
  let v369 : BitVec 32 := v368
  let c0_i32_234 : BitVec 32 := 0#32
  ![v357.toNat, 0, v369.toNat, 0]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_237 : BitVec 32 := 7#32
  let v374 : BitVec 32 := Scalar.muli v1 c7_i32_237
  let c0_i32_238 : BitVec 32 := 0#32
  let v375 : BitVec 32 := Scalar.addi v374 c0_i32_238
  let c28_i32_246 : BitVec 32 := 28#32
  let c0_i32_247 : BitVec 32 := 0#32
  let v393 : BitVec 1 := Scalar.cmpi .eq c28_i32_246 c0_i32_247
  let c1_i32_248 : BitVec 32 := 1#32
  let v394 : BitVec 32 := Scalar.select v393 c1_i32_248 c28_i32_246
  let v395 : BitVec 32 := Scalar.remsi v375 v394
  let c0_i32_250 : BitVec 32 := 0#32
  let v397 : BitVec 1 := Scalar.cmpi .slt v395 c0_i32_250
  let c0_i32_251 : BitVec 32 := 0#32
  let v398 : BitVec 1 := Scalar.cmpi .slt v394 c0_i32_251
  let v399 : BitVec 1 := Scalar.xori v397 v398
  let c0_i32_249 : BitVec 32 := 0#32
  let v396 : BitVec 1 := Scalar.cmpi .ne v395 c0_i32_249
  let v400 : BitVec 1 := Scalar.andi v399 v396
  let v401 : BitVec 32 := Scalar.addi v395 v394
  let v402 : BitVec 32 := Scalar.select v400 v401 v395
  let c8_i32_252 : BitVec 32 := 8#32
  let v403 : BitVec 32 := Scalar.muli v402 c8_i32_252
  v403
def k0_off12 (i : grid0.Coords) (c0_i32_238 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_237 : BitVec 32 := 7#32
  let v374 : BitVec 32 := Scalar.muli v1 c7_i32_237
  let v375 : BitVec 32 := Scalar.addi v374 c0_i32_238
  let c0_i32_240 : BitVec 32 := 0#32
  let v377 : BitVec 1 := Scalar.cmpi .sgt v375 c0_i32_240
  let v378 : BitVec 32 := Scalar.extui v377
  let c0_i32_241 : BitVec 32 := 0#32
  let v379 : BitVec 1 := Scalar.cmpi .slt v375 c0_i32_241
  let v380 : BitVec 32 := Scalar.extui v379
  let v381 : BitVec 32 := Scalar.subi v378 v380
  let c28_i32_239 : BitVec 32 := 28#32
  let c0_i32_242 : BitVec 32 := 0#32
  let v382 : BitVec 1 := Scalar.cmpi .sgt c28_i32_239 c0_i32_242
  let v383 : BitVec 32 := Scalar.extui v382
  let c0_i32_243 : BitVec 32 := 0#32
  let v384 : BitVec 1 := Scalar.cmpi .slt c28_i32_239 c0_i32_243
  let v385 : BitVec 32 := Scalar.extui v384
  let v386 : BitVec 32 := Scalar.subi v383 v385
  let v387 : BitVec 1 := Scalar.cmpi .ne v381 v386
  let v388 : BitVec 32 := Scalar.remsi v375 c28_i32_239
  let c0_i32_244 : BitVec 32 := 0#32
  let v389 : BitVec 1 := Scalar.cmpi .ne v388 c0_i32_244
  let v390 : BitVec 1 := Scalar.andi v387 v389
  let v376 : BitVec 32 := Scalar.divsi v375 c28_i32_239
  let c1_i32_245 : BitVec 32 := 1#32
  let v391 : BitVec 32 := Scalar.subi v376 c1_i32_245
  let v392 : BitVec 32 := Scalar.select v390 v391 v376
  let c0_i32_256 : BitVec 32 := 0#32
  let c28_i32_246 : BitVec 32 := 28#32
  let c0_i32_247 : BitVec 32 := 0#32
  let v393 : BitVec 1 := Scalar.cmpi .eq c28_i32_246 c0_i32_247
  let c1_i32_248 : BitVec 32 := 1#32
  let v394 : BitVec 32 := Scalar.select v393 c1_i32_248 c28_i32_246
  let v395 : BitVec 32 := Scalar.remsi v375 v394
  let c0_i32_250 : BitVec 32 := 0#32
  let v397 : BitVec 1 := Scalar.cmpi .slt v395 c0_i32_250
  let c0_i32_251 : BitVec 32 := 0#32
  let v398 : BitVec 1 := Scalar.cmpi .slt v394 c0_i32_251
  let v399 : BitVec 1 := Scalar.xori v397 v398
  let c0_i32_249 : BitVec 32 := 0#32
  let v396 : BitVec 1 := Scalar.cmpi .ne v395 c0_i32_249
  let v400 : BitVec 1 := Scalar.andi v399 v396
  let v401 : BitVec 32 := Scalar.addi v395 v394
  let v402 : BitVec 32 := Scalar.select v400 v401 v395
  let c8_i32_252 : BitVec 32 := 8#32
  let v403 : BitVec 32 := Scalar.muli v402 c8_i32_252
  let v404 : BitVec 32 := v403
  let c0_i32_257 : BitVec 32 := 0#32
  ![v392.toNat, 0, v404.toNat, 0]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_263 : BitVec 32 := 7#32
  let v411 : BitVec 32 := Scalar.muli v1 c7_i32_263
  let c0_i32_264 : BitVec 32 := 0#32
  let v412 : BitVec 32 := Scalar.addi v411 c0_i32_264
  let c28_i32_272 : BitVec 32 := 28#32
  let c0_i32_273 : BitVec 32 := 0#32
  let v430 : BitVec 1 := Scalar.cmpi .eq c28_i32_272 c0_i32_273
  let c1_i32_274 : BitVec 32 := 1#32
  let v431 : BitVec 32 := Scalar.select v430 c1_i32_274 c28_i32_272
  let v432 : BitVec 32 := Scalar.remsi v412 v431
  let c0_i32_276 : BitVec 32 := 0#32
  let v434 : BitVec 1 := Scalar.cmpi .slt v432 c0_i32_276
  let c0_i32_277 : BitVec 32 := 0#32
  let v435 : BitVec 1 := Scalar.cmpi .slt v431 c0_i32_277
  let v436 : BitVec 1 := Scalar.xori v434 v435
  let c0_i32_275 : BitVec 32 := 0#32
  let v433 : BitVec 1 := Scalar.cmpi .ne v432 c0_i32_275
  let v437 : BitVec 1 := Scalar.andi v436 v433
  let v438 : BitVec 32 := Scalar.addi v432 v431
  let v439 : BitVec 32 := Scalar.select v437 v438 v432
  let c8_i32_278 : BitVec 32 := 8#32
  let v440 : BitVec 32 := Scalar.muli v439 c8_i32_278
  v440
def k0_off13 (i : grid0.Coords) (c0_i32_264 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_263 : BitVec 32 := 7#32
  let v411 : BitVec 32 := Scalar.muli v1 c7_i32_263
  let v412 : BitVec 32 := Scalar.addi v411 c0_i32_264
  let c0_i32_266 : BitVec 32 := 0#32
  let v414 : BitVec 1 := Scalar.cmpi .sgt v412 c0_i32_266
  let v415 : BitVec 32 := Scalar.extui v414
  let c0_i32_267 : BitVec 32 := 0#32
  let v416 : BitVec 1 := Scalar.cmpi .slt v412 c0_i32_267
  let v417 : BitVec 32 := Scalar.extui v416
  let v418 : BitVec 32 := Scalar.subi v415 v417
  let c28_i32_265 : BitVec 32 := 28#32
  let c0_i32_268 : BitVec 32 := 0#32
  let v419 : BitVec 1 := Scalar.cmpi .sgt c28_i32_265 c0_i32_268
  let v420 : BitVec 32 := Scalar.extui v419
  let c0_i32_269 : BitVec 32 := 0#32
  let v421 : BitVec 1 := Scalar.cmpi .slt c28_i32_265 c0_i32_269
  let v422 : BitVec 32 := Scalar.extui v421
  let v423 : BitVec 32 := Scalar.subi v420 v422
  let v424 : BitVec 1 := Scalar.cmpi .ne v418 v423
  let v425 : BitVec 32 := Scalar.remsi v412 c28_i32_265
  let c0_i32_270 : BitVec 32 := 0#32
  let v426 : BitVec 1 := Scalar.cmpi .ne v425 c0_i32_270
  let v427 : BitVec 1 := Scalar.andi v424 v426
  let v413 : BitVec 32 := Scalar.divsi v412 c28_i32_265
  let c1_i32_271 : BitVec 32 := 1#32
  let v428 : BitVec 32 := Scalar.subi v413 c1_i32_271
  let v429 : BitVec 32 := Scalar.select v427 v428 v413
  let c0_i32_282 : BitVec 32 := 0#32
  let c28_i32_272 : BitVec 32 := 28#32
  let c0_i32_273 : BitVec 32 := 0#32
  let v430 : BitVec 1 := Scalar.cmpi .eq c28_i32_272 c0_i32_273
  let c1_i32_274 : BitVec 32 := 1#32
  let v431 : BitVec 32 := Scalar.select v430 c1_i32_274 c28_i32_272
  let v432 : BitVec 32 := Scalar.remsi v412 v431
  let c0_i32_276 : BitVec 32 := 0#32
  let v434 : BitVec 1 := Scalar.cmpi .slt v432 c0_i32_276
  let c0_i32_277 : BitVec 32 := 0#32
  let v435 : BitVec 1 := Scalar.cmpi .slt v431 c0_i32_277
  let v436 : BitVec 1 := Scalar.xori v434 v435
  let c0_i32_275 : BitVec 32 := 0#32
  let v433 : BitVec 1 := Scalar.cmpi .ne v432 c0_i32_275
  let v437 : BitVec 1 := Scalar.andi v436 v433
  let v438 : BitVec 32 := Scalar.addi v432 v431
  let v439 : BitVec 32 := Scalar.select v437 v438 v432
  let c8_i32_278 : BitVec 32 := 8#32
  let v440 : BitVec 32 := Scalar.muli v439 c8_i32_278
  let v441 : BitVec 32 := v440
  let c0_i32_283 : BitVec 32 := 0#32
  ![v429.toNat, 0, v441.toNat, 0]
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_289 : BitVec 32 := 7#32
  let v448 : BitVec 32 := Scalar.muli v1 c7_i32_289
  let c0_i32_290 : BitVec 32 := 0#32
  let v449 : BitVec 32 := Scalar.addi v448 c0_i32_290
  let c28_i32_298 : BitVec 32 := 28#32
  let c0_i32_299 : BitVec 32 := 0#32
  let v467 : BitVec 1 := Scalar.cmpi .eq c28_i32_298 c0_i32_299
  let c1_i32_300 : BitVec 32 := 1#32
  let v468 : BitVec 32 := Scalar.select v467 c1_i32_300 c28_i32_298
  let v469 : BitVec 32 := Scalar.remsi v449 v468
  let c0_i32_302 : BitVec 32 := 0#32
  let v471 : BitVec 1 := Scalar.cmpi .slt v469 c0_i32_302
  let c0_i32_303 : BitVec 32 := 0#32
  let v472 : BitVec 1 := Scalar.cmpi .slt v468 c0_i32_303
  let v473 : BitVec 1 := Scalar.xori v471 v472
  let c0_i32_301 : BitVec 32 := 0#32
  let v470 : BitVec 1 := Scalar.cmpi .ne v469 c0_i32_301
  let v474 : BitVec 1 := Scalar.andi v473 v470
  let v475 : BitVec 32 := Scalar.addi v469 v468
  let v476 : BitVec 32 := Scalar.select v474 v475 v469
  let c8_i32_304 : BitVec 32 := 8#32
  let v477 : BitVec 32 := Scalar.muli v476 c8_i32_304
  v477
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_309 : BitVec 32 := 7#32
  let v483 : BitVec 32 := Scalar.muli v1 c7_i32_309
  let c0_i32_310 : BitVec 32 := 0#32
  let v484 : BitVec 32 := Scalar.addi v483 c0_i32_310
  let c28_i32_318 : BitVec 32 := 28#32
  let c0_i32_319 : BitVec 32 := 0#32
  let v502 : BitVec 1 := Scalar.cmpi .eq c28_i32_318 c0_i32_319
  let c1_i32_320 : BitVec 32 := 1#32
  let v503 : BitVec 32 := Scalar.select v502 c1_i32_320 c28_i32_318
  let v504 : BitVec 32 := Scalar.remsi v484 v503
  let c0_i32_322 : BitVec 32 := 0#32
  let v506 : BitVec 1 := Scalar.cmpi .slt v504 c0_i32_322
  let c0_i32_323 : BitVec 32 := 0#32
  let v507 : BitVec 1 := Scalar.cmpi .slt v503 c0_i32_323
  let v508 : BitVec 1 := Scalar.xori v506 v507
  let c0_i32_321 : BitVec 32 := 0#32
  let v505 : BitVec 1 := Scalar.cmpi .ne v504 c0_i32_321
  let v509 : BitVec 1 := Scalar.andi v508 v505
  let v510 : BitVec 32 := Scalar.addi v504 v503
  let v511 : BitVec 32 := Scalar.select v509 v510 v504
  let c8_i32_324 : BitVec 32 := 8#32
  let v512 : BitVec 32 := Scalar.muli v511 c8_i32_324
  v512
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_335 : BitVec 32 := 7#32
  let v520 : BitVec 32 := Scalar.muli v1 c7_i32_335
  let c0_i32_336 : BitVec 32 := 0#32
  let v521 : BitVec 32 := Scalar.addi v520 c0_i32_336
  let c28_i32_344 : BitVec 32 := 28#32
  let c0_i32_345 : BitVec 32 := 0#32
  let v539 : BitVec 1 := Scalar.cmpi .eq c28_i32_344 c0_i32_345
  let c1_i32_346 : BitVec 32 := 1#32
  let v540 : BitVec 32 := Scalar.select v539 c1_i32_346 c28_i32_344
  let v541 : BitVec 32 := Scalar.remsi v521 v540
  let c0_i32_348 : BitVec 32 := 0#32
  let v543 : BitVec 1 := Scalar.cmpi .slt v541 c0_i32_348
  let c0_i32_349 : BitVec 32 := 0#32
  let v544 : BitVec 1 := Scalar.cmpi .slt v540 c0_i32_349
  let v545 : BitVec 1 := Scalar.xori v543 v544
  let c0_i32_347 : BitVec 32 := 0#32
  let v542 : BitVec 1 := Scalar.cmpi .ne v541 c0_i32_347
  let v546 : BitVec 1 := Scalar.andi v545 v542
  let v547 : BitVec 32 := Scalar.addi v541 v540
  let v548 : BitVec 32 := Scalar.select v546 v547 v541
  let c8_i32_350 : BitVec 32 := 8#32
  let v549 : BitVec 32 := Scalar.muli v548 c8_i32_350
  v549
@[reducible] def k0_t3_loop : Scf.Loop 32 :=
  let c0_i32_352 : BitVec 32 := 0#32
  let c112_i32_353 : BitVec 32 := 112#32
  let v551 : BitVec 32 := Scalar.addi c0_i32_352 c112_i32_353
  let c1_i32_354 : BitVec 32 := 1#32
  ⟨c0_i32_352, v551, c1_i32_354⟩
def k0_off14 (k0_t3 : Fin k0_t3_loop.trips) : Fin 3 → Nat :=
  let c0_i32_4066 : BitVec 32 := 0#32
  let v6139 : Index := Scalar.indexCast c0_i32_4066
  let c0_i32_352 : BitVec 32 := 0#32
  let c1_i32_354 : BitVec 32 := 1#32
  let arg25 : BitVec 32 := Scf.iv c0_i32_352 c1_i32_354 k0_t3
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk14 (v6158 : IVec S16 32) (v6160 : IVec S16 32) (v6164 : IVec S16 32) : Prop :=
  (∀ a x, ((![v6164, v6158, v6160] : Fin 3 → IVec S16 32) a x).toNat < S24x8x224.size a)
theorem k0_idx14_inb : ∀ (v6158 : IVec S16 32) (v6160 : IVec S16 32) (v6164 : IVec S16 32) (k0_hw14 : k0_chk14 v6158 v6160 v6164), ∀ a x, ((![v6164, v6158, v6160] : Fin 3 → IVec S16 32) a x).toNat < S24x8x224.size a := fun v6158 v6160 v6164 k0_hw14 => k0_hw14
def k0_off15 (k0_t3 : Fin k0_t3_loop.trips) : Fin 3 → Nat :=
  let c0_i32_4076 : BitVec 32 := 0#32
  let v6168 : Index := Scalar.indexCast c0_i32_4076
  let c0_i32_352 : BitVec 32 := 0#32
  let c1_i32_354 : BitVec 32 := 1#32
  let arg25 : BitVec 32 := Scf.iv c0_i32_352 c1_i32_354 k0_t3
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk15 (v6173 : IVec S16 32) : Prop :=
  (∀ a x, ((![v6173] : Fin 1 → IVec S16 32) a x).toNat < S11264.size a)
theorem k0_idx15_inb : ∀ (v6173 : IVec S16 32) (k0_hw15 : k0_chk15 v6173), ∀ a x, ((![v6173] : Fin 1 → IVec S16 32) a x).toNat < S11264.size a := fun v6173 k0_hw15 => k0_hw15

def k0_chk16 (v6158 : IVec S16 32) (v6160 : IVec S16 32) (v6177 : IVec S16 32) : Prop :=
  (∀ a x, ((![v6177, v6158, v6160] : Fin 3 → IVec S16 32) a x).toNat < S24x8x224.size a)
theorem k0_idx16_inb : ∀ (v6158 : IVec S16 32) (v6160 : IVec S16 32) (v6177 : IVec S16 32) (k0_hw16 : k0_chk16 v6158 v6160 v6177), ∀ a x, ((![v6177, v6158, v6160] : Fin 3 → IVec S16 32) a x).toNat < S24x8x224.size a := fun v6158 v6160 v6177 k0_hw16 => k0_hw16
def k0_off16 (k0_t3 : Fin k0_t3_loop.trips) : Fin 3 → Nat :=
  let c1_i32_4080 : BitVec 32 := 1#32
  let v6181 : Index := Scalar.indexCast c1_i32_4080
  let c0_i32_352 : BitVec 32 := 0#32
  let c1_i32_354 : BitVec 32 := 1#32
  let arg25 : BitVec 32 := Scf.iv c0_i32_352 c1_i32_354 k0_t3
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk17 (v6186 : IVec S16 32) : Prop :=
  (∀ a x, ((![v6186] : Fin 1 → IVec S16 32) a x).toNat < S11264.size a)
theorem k0_idx17_inb : ∀ (v6186 : IVec S16 32) (k0_hw17 : k0_chk17 v6186), ∀ a x, ((![v6186] : Fin 1 → IVec S16 32) a x).toNat < S11264.size a := fun v6186 k0_hw17 => k0_hw17

def k0_chk18 (v6158 : IVec S16 32) (v6160 : IVec S16 32) (v6190 : IVec S16 32) : Prop :=
  (∀ a x, ((![v6190, v6158, v6160] : Fin 3 → IVec S16 32) a x).toNat < S24x8x224.size a)
theorem k0_idx18_inb : ∀ (v6158 : IVec S16 32) (v6160 : IVec S16 32) (v6190 : IVec S16 32) (k0_hw18 : k0_chk18 v6158 v6160 v6190), ∀ a x, ((![v6190, v6158, v6160] : Fin 3 → IVec S16 32) a x).toNat < S24x8x224.size a := fun v6158 v6160 v6190 k0_hw18 => k0_hw18
def k0_off17 (k0_t3 : Fin k0_t3_loop.trips) : Fin 3 → Nat :=
  let c2_i32_4084 : BitVec 32 := 2#32
  let v6194 : Index := Scalar.indexCast c2_i32_4084
  let c0_i32_352 : BitVec 32 := 0#32
  let c1_i32_354 : BitVec 32 := 1#32
  let arg25 : BitVec 32 := Scf.iv c0_i32_352 c1_i32_354 k0_t3
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6195 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6196 : Index := Scalar.indexCast v6138
  ![2, v6195.toNat, v6196.toNat]

def k0_chk19 (v6199 : IVec S16 32) : Prop :=
  (∀ a x, ((![v6199] : Fin 1 → IVec S16 32) a x).toNat < S11264.size a)
theorem k0_idx19_inb : ∀ (v6199 : IVec S16 32) (k0_hw19 : k0_chk19 v6199), ∀ a x, ((![v6199] : Fin 1 → IVec S16 32) a x).toNat < S11264.size a := fun v6199 k0_hw19 => k0_hw19
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_356 : BitVec 32 := 7#32
  let v552 : BitVec 32 := Scalar.muli v1 c7_i32_356
  let c1_i32_357 : BitVec 32 := 1#32
  let v553 : BitVec 32 := Scalar.addi v552 c1_i32_357
  let c28_i32_365 : BitVec 32 := 28#32
  let c0_i32_366 : BitVec 32 := 0#32
  let v571 : BitVec 1 := Scalar.cmpi .eq c28_i32_365 c0_i32_366
  let c1_i32_367 : BitVec 32 := 1#32
  let v572 : BitVec 32 := Scalar.select v571 c1_i32_367 c28_i32_365
  let v573 : BitVec 32 := Scalar.remsi v553 v572
  let c0_i32_369 : BitVec 32 := 0#32
  let v575 : BitVec 1 := Scalar.cmpi .slt v573 c0_i32_369
  let c0_i32_370 : BitVec 32 := 0#32
  let v576 : BitVec 1 := Scalar.cmpi .slt v572 c0_i32_370
  let v577 : BitVec 1 := Scalar.xori v575 v576
  let c0_i32_368 : BitVec 32 := 0#32
  let v574 : BitVec 1 := Scalar.cmpi .ne v573 c0_i32_368
  let v578 : BitVec 1 := Scalar.andi v577 v574
  let v579 : BitVec 32 := Scalar.addi v573 v572
  let v580 : BitVec 32 := Scalar.select v578 v579 v573
  let c8_i32_371 : BitVec 32 := 8#32
  let v581 : BitVec 32 := Scalar.muli v580 c8_i32_371
  v581
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_382 : BitVec 32 := 7#32
  let v589 : BitVec 32 := Scalar.muli v1 c7_i32_382
  let c0_i32_383 : BitVec 32 := 0#32
  let v590 : BitVec 32 := Scalar.addi v589 c0_i32_383
  let c28_i32_391 : BitVec 32 := 28#32
  let c0_i32_392 : BitVec 32 := 0#32
  let v608 : BitVec 1 := Scalar.cmpi .eq c28_i32_391 c0_i32_392
  let c1_i32_393 : BitVec 32 := 1#32
  let v609 : BitVec 32 := Scalar.select v608 c1_i32_393 c28_i32_391
  let v610 : BitVec 32 := Scalar.remsi v590 v609
  let c0_i32_395 : BitVec 32 := 0#32
  let v612 : BitVec 1 := Scalar.cmpi .slt v610 c0_i32_395
  let c0_i32_396 : BitVec 32 := 0#32
  let v613 : BitVec 1 := Scalar.cmpi .slt v609 c0_i32_396
  let v614 : BitVec 1 := Scalar.xori v612 v613
  let c0_i32_394 : BitVec 32 := 0#32
  let v611 : BitVec 1 := Scalar.cmpi .ne v610 c0_i32_394
  let v615 : BitVec 1 := Scalar.andi v614 v611
  let v616 : BitVec 32 := Scalar.addi v610 v609
  let v617 : BitVec 32 := Scalar.select v615 v616 v610
  let c8_i32_397 : BitVec 32 := 8#32
  let v618 : BitVec 32 := Scalar.muli v617 c8_i32_397
  v618
def k0_off18 (i : grid0.Coords) (c0_i32_383 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_382 : BitVec 32 := 7#32
  let v589 : BitVec 32 := Scalar.muli v1 c7_i32_382
  let v590 : BitVec 32 := Scalar.addi v589 c0_i32_383
  let c0_i32_385 : BitVec 32 := 0#32
  let v592 : BitVec 1 := Scalar.cmpi .sgt v590 c0_i32_385
  let v593 : BitVec 32 := Scalar.extui v592
  let c0_i32_386 : BitVec 32 := 0#32
  let v594 : BitVec 1 := Scalar.cmpi .slt v590 c0_i32_386
  let v595 : BitVec 32 := Scalar.extui v594
  let v596 : BitVec 32 := Scalar.subi v593 v595
  let c28_i32_384 : BitVec 32 := 28#32
  let c0_i32_387 : BitVec 32 := 0#32
  let v597 : BitVec 1 := Scalar.cmpi .sgt c28_i32_384 c0_i32_387
  let v598 : BitVec 32 := Scalar.extui v597
  let c0_i32_388 : BitVec 32 := 0#32
  let v599 : BitVec 1 := Scalar.cmpi .slt c28_i32_384 c0_i32_388
  let v600 : BitVec 32 := Scalar.extui v599
  let v601 : BitVec 32 := Scalar.subi v598 v600
  let v602 : BitVec 1 := Scalar.cmpi .ne v596 v601
  let v603 : BitVec 32 := Scalar.remsi v590 c28_i32_384
  let c0_i32_389 : BitVec 32 := 0#32
  let v604 : BitVec 1 := Scalar.cmpi .ne v603 c0_i32_389
  let v605 : BitVec 1 := Scalar.andi v602 v604
  let v591 : BitVec 32 := Scalar.divsi v590 c28_i32_384
  let c1_i32_390 : BitVec 32 := 1#32
  let v606 : BitVec 32 := Scalar.subi v591 c1_i32_390
  let v607 : BitVec 32 := Scalar.select v605 v606 v591
  let c0_i32_401 : BitVec 32 := 0#32
  let c28_i32_391 : BitVec 32 := 28#32
  let c0_i32_392 : BitVec 32 := 0#32
  let v608 : BitVec 1 := Scalar.cmpi .eq c28_i32_391 c0_i32_392
  let c1_i32_393 : BitVec 32 := 1#32
  let v609 : BitVec 32 := Scalar.select v608 c1_i32_393 c28_i32_391
  let v610 : BitVec 32 := Scalar.remsi v590 v609
  let c0_i32_395 : BitVec 32 := 0#32
  let v612 : BitVec 1 := Scalar.cmpi .slt v610 c0_i32_395
  let c0_i32_396 : BitVec 32 := 0#32
  let v613 : BitVec 1 := Scalar.cmpi .slt v609 c0_i32_396
  let v614 : BitVec 1 := Scalar.xori v612 v613
  let c0_i32_394 : BitVec 32 := 0#32
  let v611 : BitVec 1 := Scalar.cmpi .ne v610 c0_i32_394
  let v615 : BitVec 1 := Scalar.andi v614 v611
  let v616 : BitVec 32 := Scalar.addi v610 v609
  let v617 : BitVec 32 := Scalar.select v615 v616 v610
  let c8_i32_397 : BitVec 32 := 8#32
  let v618 : BitVec 32 := Scalar.muli v617 c8_i32_397
  let v619 : BitVec 32 := v618
  let c0_i32_402 : BitVec 32 := 0#32
  ![v607.toNat, 0, v619.toNat, 0]
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_408 : BitVec 32 := 7#32
  let v626 : BitVec 32 := Scalar.muli v1 c7_i32_408
  let c0_i32_409 : BitVec 32 := 0#32
  let v627 : BitVec 32 := Scalar.addi v626 c0_i32_409
  let c28_i32_417 : BitVec 32 := 28#32
  let c0_i32_418 : BitVec 32 := 0#32
  let v645 : BitVec 1 := Scalar.cmpi .eq c28_i32_417 c0_i32_418
  let c1_i32_419 : BitVec 32 := 1#32
  let v646 : BitVec 32 := Scalar.select v645 c1_i32_419 c28_i32_417
  let v647 : BitVec 32 := Scalar.remsi v627 v646
  let c0_i32_421 : BitVec 32 := 0#32
  let v649 : BitVec 1 := Scalar.cmpi .slt v647 c0_i32_421
  let c0_i32_422 : BitVec 32 := 0#32
  let v650 : BitVec 1 := Scalar.cmpi .slt v646 c0_i32_422
  let v651 : BitVec 1 := Scalar.xori v649 v650
  let c0_i32_420 : BitVec 32 := 0#32
  let v648 : BitVec 1 := Scalar.cmpi .ne v647 c0_i32_420
  let v652 : BitVec 1 := Scalar.andi v651 v648
  let v653 : BitVec 32 := Scalar.addi v647 v646
  let v654 : BitVec 32 := Scalar.select v652 v653 v647
  let c8_i32_423 : BitVec 32 := 8#32
  let v655 : BitVec 32 := Scalar.muli v654 c8_i32_423
  v655
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_434 : BitVec 32 := 7#32
  let v663 : BitVec 32 := Scalar.muli v1 c7_i32_434
  let c0_i32_435 : BitVec 32 := 0#32
  let v664 : BitVec 32 := Scalar.addi v663 c0_i32_435
  let c28_i32_443 : BitVec 32 := 28#32
  let c0_i32_444 : BitVec 32 := 0#32
  let v682 : BitVec 1 := Scalar.cmpi .eq c28_i32_443 c0_i32_444
  let c1_i32_445 : BitVec 32 := 1#32
  let v683 : BitVec 32 := Scalar.select v682 c1_i32_445 c28_i32_443
  let v684 : BitVec 32 := Scalar.remsi v664 v683
  let c0_i32_447 : BitVec 32 := 0#32
  let v686 : BitVec 1 := Scalar.cmpi .slt v684 c0_i32_447
  let c0_i32_448 : BitVec 32 := 0#32
  let v687 : BitVec 1 := Scalar.cmpi .slt v683 c0_i32_448
  let v688 : BitVec 1 := Scalar.xori v686 v687
  let c0_i32_446 : BitVec 32 := 0#32
  let v685 : BitVec 1 := Scalar.cmpi .ne v684 c0_i32_446
  let v689 : BitVec 1 := Scalar.andi v688 v685
  let v690 : BitVec 32 := Scalar.addi v684 v683
  let v691 : BitVec 32 := Scalar.select v689 v690 v684
  let c8_i32_449 : BitVec 32 := 8#32
  let v692 : BitVec 32 := Scalar.muli v691 c8_i32_449
  v692
def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_460 : BitVec 32 := 7#32
  let v700 : BitVec 32 := Scalar.muli v1 c7_i32_460
  let c0_i32_461 : BitVec 32 := 0#32
  let v701 : BitVec 32 := Scalar.addi v700 c0_i32_461
  let c28_i32_469 : BitVec 32 := 28#32
  let c0_i32_470 : BitVec 32 := 0#32
  let v719 : BitVec 1 := Scalar.cmpi .eq c28_i32_469 c0_i32_470
  let c1_i32_471 : BitVec 32 := 1#32
  let v720 : BitVec 32 := Scalar.select v719 c1_i32_471 c28_i32_469
  let v721 : BitVec 32 := Scalar.remsi v701 v720
  let c0_i32_473 : BitVec 32 := 0#32
  let v723 : BitVec 1 := Scalar.cmpi .slt v721 c0_i32_473
  let c0_i32_474 : BitVec 32 := 0#32
  let v724 : BitVec 1 := Scalar.cmpi .slt v720 c0_i32_474
  let v725 : BitVec 1 := Scalar.xori v723 v724
  let c0_i32_472 : BitVec 32 := 0#32
  let v722 : BitVec 1 := Scalar.cmpi .ne v721 c0_i32_472
  let v726 : BitVec 1 := Scalar.andi v725 v722
  let v727 : BitVec 32 := Scalar.addi v721 v720
  let v728 : BitVec 32 := Scalar.select v726 v727 v721
  let c8_i32_475 : BitVec 32 := 8#32
  let v729 : BitVec 32 := Scalar.muli v728 c8_i32_475
  v729
@[reducible] def k0_t4_loop : Scf.Loop 32 :=
  let c0_i32_477 : BitVec 32 := 0#32
  let c112_i32_478 : BitVec 32 := 112#32
  let v731 : BitVec 32 := Scalar.addi c0_i32_477 c112_i32_478
  let c1_i32_479 : BitVec 32 := 1#32
  ⟨c0_i32_477, v731, c1_i32_479⟩
def k0_off19 (k0_t4 : Fin k0_t4_loop.trips) : Fin 3 → Nat :=
  let c0_i32_4066 : BitVec 32 := 0#32
  let v6139 : Index := Scalar.indexCast c0_i32_4066
  let c0_i32_477 : BitVec 32 := 0#32
  let c1_i32_479 : BitVec 32 := 1#32
  let arg25 : BitVec 32 := Scf.iv c0_i32_477 c1_i32_479 k0_t4
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk20 (v6158 : IVec S16 32) (v6160 : IVec S16 32) (v6164 : IVec S16 32) : Prop :=
  (∀ a x, ((![v6164, v6158, v6160] : Fin 3 → IVec S16 32) a x).toNat < S24x8x224.size a)
theorem k0_idx20_inb : ∀ (v6158 : IVec S16 32) (v6160 : IVec S16 32) (v6164 : IVec S16 32) (k0_hw20 : k0_chk20 v6158 v6160 v6164), ∀ a x, ((![v6164, v6158, v6160] : Fin 3 → IVec S16 32) a x).toNat < S24x8x224.size a := fun v6158 v6160 v6164 k0_hw20 => k0_hw20
def k0_off20 (k0_t4 : Fin k0_t4_loop.trips) : Fin 3 → Nat :=
  let c0_i32_4076 : BitVec 32 := 0#32
  let v6168 : Index := Scalar.indexCast c0_i32_4076
  let c0_i32_477 : BitVec 32 := 0#32
  let c1_i32_479 : BitVec 32 := 1#32
  let arg25 : BitVec 32 := Scf.iv c0_i32_477 c1_i32_479 k0_t4
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk21 (v6173 : IVec S16 32) : Prop :=
  (∀ a x, ((![v6173] : Fin 1 → IVec S16 32) a x).toNat < S11264.size a)
theorem k0_idx21_inb : ∀ (v6173 : IVec S16 32) (k0_hw21 : k0_chk21 v6173), ∀ a x, ((![v6173] : Fin 1 → IVec S16 32) a x).toNat < S11264.size a := fun v6173 k0_hw21 => k0_hw21

def k0_chk22 (v6158 : IVec S16 32) (v6160 : IVec S16 32) (v6177 : IVec S16 32) : Prop :=
  (∀ a x, ((![v6177, v6158, v6160] : Fin 3 → IVec S16 32) a x).toNat < S24x8x224.size a)
theorem k0_idx22_inb : ∀ (v6158 : IVec S16 32) (v6160 : IVec S16 32) (v6177 : IVec S16 32) (k0_hw22 : k0_chk22 v6158 v6160 v6177), ∀ a x, ((![v6177, v6158, v6160] : Fin 3 → IVec S16 32) a x).toNat < S24x8x224.size a := fun v6158 v6160 v6177 k0_hw22 => k0_hw22
def k0_off21 (k0_t4 : Fin k0_t4_loop.trips) : Fin 3 → Nat :=
  let c1_i32_4080 : BitVec 32 := 1#32
  let v6181 : Index := Scalar.indexCast c1_i32_4080
  let c0_i32_477 : BitVec 32 := 0#32
  let c1_i32_479 : BitVec 32 := 1#32
  let arg25 : BitVec 32 := Scf.iv c0_i32_477 c1_i32_479 k0_t4
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk23 (v6186 : IVec S16 32) : Prop :=
  (∀ a x, ((![v6186] : Fin 1 → IVec S16 32) a x).toNat < S11264.size a)
theorem k0_idx23_inb : ∀ (v6186 : IVec S16 32) (k0_hw23 : k0_chk23 v6186), ∀ a x, ((![v6186] : Fin 1 → IVec S16 32) a x).toNat < S11264.size a := fun v6186 k0_hw23 => k0_hw23
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_481 : BitVec 32 := 7#32
  let v732 : BitVec 32 := Scalar.muli v1 c7_i32_481
  let c1_i32_482 : BitVec 32 := 1#32
  let v733 : BitVec 32 := Scalar.addi v732 c1_i32_482
  let c28_i32_490 : BitVec 32 := 28#32
  let c0_i32_491 : BitVec 32 := 0#32
  let v751 : BitVec 1 := Scalar.cmpi .eq c28_i32_490 c0_i32_491
  let c1_i32_492 : BitVec 32 := 1#32
  let v752 : BitVec 32 := Scalar.select v751 c1_i32_492 c28_i32_490
  let v753 : BitVec 32 := Scalar.remsi v733 v752
  let c0_i32_494 : BitVec 32 := 0#32
  let v755 : BitVec 1 := Scalar.cmpi .slt v753 c0_i32_494
  let c0_i32_495 : BitVec 32 := 0#32
  let v756 : BitVec 1 := Scalar.cmpi .slt v752 c0_i32_495
  let v757 : BitVec 1 := Scalar.xori v755 v756
  let c0_i32_493 : BitVec 32 := 0#32
  let v754 : BitVec 1 := Scalar.cmpi .ne v753 c0_i32_493
  let v758 : BitVec 1 := Scalar.andi v757 v754
  let v759 : BitVec 32 := Scalar.addi v753 v752
  let v760 : BitVec 32 := Scalar.select v758 v759 v753
  let c8_i32_496 : BitVec 32 := 8#32
  let v761 : BitVec 32 := Scalar.muli v760 c8_i32_496
  v761
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_507 : BitVec 32 := 7#32
  let v769 : BitVec 32 := Scalar.muli v1 c7_i32_507
  let c0_i32_508 : BitVec 32 := 0#32
  let v770 : BitVec 32 := Scalar.addi v769 c0_i32_508
  let c28_i32_516 : BitVec 32 := 28#32
  let c0_i32_517 : BitVec 32 := 0#32
  let v788 : BitVec 1 := Scalar.cmpi .eq c28_i32_516 c0_i32_517
  let c1_i32_518 : BitVec 32 := 1#32
  let v789 : BitVec 32 := Scalar.select v788 c1_i32_518 c28_i32_516
  let v790 : BitVec 32 := Scalar.remsi v770 v789
  let c0_i32_520 : BitVec 32 := 0#32
  let v792 : BitVec 1 := Scalar.cmpi .slt v790 c0_i32_520
  let c0_i32_521 : BitVec 32 := 0#32
  let v793 : BitVec 1 := Scalar.cmpi .slt v789 c0_i32_521
  let v794 : BitVec 1 := Scalar.xori v792 v793
  let c0_i32_519 : BitVec 32 := 0#32
  let v791 : BitVec 1 := Scalar.cmpi .ne v790 c0_i32_519
  let v795 : BitVec 1 := Scalar.andi v794 v791
  let v796 : BitVec 32 := Scalar.addi v790 v789
  let v797 : BitVec 32 := Scalar.select v795 v796 v790
  let c8_i32_522 : BitVec 32 := 8#32
  let v798 : BitVec 32 := Scalar.muli v797 c8_i32_522
  v798
def k0_off22 (i : grid0.Coords) (c0_i32_508 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_507 : BitVec 32 := 7#32
  let v769 : BitVec 32 := Scalar.muli v1 c7_i32_507
  let v770 : BitVec 32 := Scalar.addi v769 c0_i32_508
  let c0_i32_510 : BitVec 32 := 0#32
  let v772 : BitVec 1 := Scalar.cmpi .sgt v770 c0_i32_510
  let v773 : BitVec 32 := Scalar.extui v772
  let c0_i32_511 : BitVec 32 := 0#32
  let v774 : BitVec 1 := Scalar.cmpi .slt v770 c0_i32_511
  let v775 : BitVec 32 := Scalar.extui v774
  let v776 : BitVec 32 := Scalar.subi v773 v775
  let c28_i32_509 : BitVec 32 := 28#32
  let c0_i32_512 : BitVec 32 := 0#32
  let v777 : BitVec 1 := Scalar.cmpi .sgt c28_i32_509 c0_i32_512
  let v778 : BitVec 32 := Scalar.extui v777
  let c0_i32_513 : BitVec 32 := 0#32
  let v779 : BitVec 1 := Scalar.cmpi .slt c28_i32_509 c0_i32_513
  let v780 : BitVec 32 := Scalar.extui v779
  let v781 : BitVec 32 := Scalar.subi v778 v780
  let v782 : BitVec 1 := Scalar.cmpi .ne v776 v781
  let v783 : BitVec 32 := Scalar.remsi v770 c28_i32_509
  let c0_i32_514 : BitVec 32 := 0#32
  let v784 : BitVec 1 := Scalar.cmpi .ne v783 c0_i32_514
  let v785 : BitVec 1 := Scalar.andi v782 v784
  let v771 : BitVec 32 := Scalar.divsi v770 c28_i32_509
  let c1_i32_515 : BitVec 32 := 1#32
  let v786 : BitVec 32 := Scalar.subi v771 c1_i32_515
  let v787 : BitVec 32 := Scalar.select v785 v786 v771
  let c0_i32_526 : BitVec 32 := 0#32
  let c28_i32_516 : BitVec 32 := 28#32
  let c0_i32_517 : BitVec 32 := 0#32
  let v788 : BitVec 1 := Scalar.cmpi .eq c28_i32_516 c0_i32_517
  let c1_i32_518 : BitVec 32 := 1#32
  let v789 : BitVec 32 := Scalar.select v788 c1_i32_518 c28_i32_516
  let v790 : BitVec 32 := Scalar.remsi v770 v789
  let c0_i32_520 : BitVec 32 := 0#32
  let v792 : BitVec 1 := Scalar.cmpi .slt v790 c0_i32_520
  let c0_i32_521 : BitVec 32 := 0#32
  let v793 : BitVec 1 := Scalar.cmpi .slt v789 c0_i32_521
  let v794 : BitVec 1 := Scalar.xori v792 v793
  let c0_i32_519 : BitVec 32 := 0#32
  let v791 : BitVec 1 := Scalar.cmpi .ne v790 c0_i32_519
  let v795 : BitVec 1 := Scalar.andi v794 v791
  let v796 : BitVec 32 := Scalar.addi v790 v789
  let v797 : BitVec 32 := Scalar.select v795 v796 v790
  let c8_i32_522 : BitVec 32 := 8#32
  let v798 : BitVec 32 := Scalar.muli v797 c8_i32_522
  let v799 : BitVec 32 := v798
  let c0_i32_527 : BitVec 32 := 0#32
  ![v787.toNat, 0, v799.toNat, 0]
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_533 : BitVec 32 := 7#32
  let v806 : BitVec 32 := Scalar.muli v1 c7_i32_533
  let c0_i32_534 : BitVec 32 := 0#32
  let v807 : BitVec 32 := Scalar.addi v806 c0_i32_534
  let c28_i32_542 : BitVec 32 := 28#32
  let c0_i32_543 : BitVec 32 := 0#32
  let v825 : BitVec 1 := Scalar.cmpi .eq c28_i32_542 c0_i32_543
  let c1_i32_544 : BitVec 32 := 1#32
  let v826 : BitVec 32 := Scalar.select v825 c1_i32_544 c28_i32_542
  let v827 : BitVec 32 := Scalar.remsi v807 v826
  let c0_i32_546 : BitVec 32 := 0#32
  let v829 : BitVec 1 := Scalar.cmpi .slt v827 c0_i32_546
  let c0_i32_547 : BitVec 32 := 0#32
  let v830 : BitVec 1 := Scalar.cmpi .slt v826 c0_i32_547
  let v831 : BitVec 1 := Scalar.xori v829 v830
  let c0_i32_545 : BitVec 32 := 0#32
  let v828 : BitVec 1 := Scalar.cmpi .ne v827 c0_i32_545
  let v832 : BitVec 1 := Scalar.andi v831 v828
  let v833 : BitVec 32 := Scalar.addi v827 v826
  let v834 : BitVec 32 := Scalar.select v832 v833 v827
  let c8_i32_548 : BitVec 32 := 8#32
  let v835 : BitVec 32 := Scalar.muli v834 c8_i32_548
  v835
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_559 : BitVec 32 := 7#32
  let v843 : BitVec 32 := Scalar.muli v1 c7_i32_559
  let c0_i32_560 : BitVec 32 := 0#32
  let v844 : BitVec 32 := Scalar.addi v843 c0_i32_560
  let c28_i32_568 : BitVec 32 := 28#32
  let c0_i32_569 : BitVec 32 := 0#32
  let v862 : BitVec 1 := Scalar.cmpi .eq c28_i32_568 c0_i32_569
  let c1_i32_570 : BitVec 32 := 1#32
  let v863 : BitVec 32 := Scalar.select v862 c1_i32_570 c28_i32_568
  let v864 : BitVec 32 := Scalar.remsi v844 v863
  let c0_i32_572 : BitVec 32 := 0#32
  let v866 : BitVec 1 := Scalar.cmpi .slt v864 c0_i32_572
  let c0_i32_573 : BitVec 32 := 0#32
  let v867 : BitVec 1 := Scalar.cmpi .slt v863 c0_i32_573
  let v868 : BitVec 1 := Scalar.xori v866 v867
  let c0_i32_571 : BitVec 32 := 0#32
  let v865 : BitVec 1 := Scalar.cmpi .ne v864 c0_i32_571
  let v869 : BitVec 1 := Scalar.andi v868 v865
  let v870 : BitVec 32 := Scalar.addi v864 v863
  let v871 : BitVec 32 := Scalar.select v869 v870 v864
  let c8_i32_574 : BitVec 32 := 8#32
  let v872 : BitVec 32 := Scalar.muli v871 c8_i32_574
  v872
@[reducible] def k0_t5_loop : Scf.Loop 32 :=
  let c0_i32_576 : BitVec 32 := 0#32
  let c112_i32_577 : BitVec 32 := 112#32
  let v874 : BitVec 32 := Scalar.addi c0_i32_576 c112_i32_577
  let c1_i32_578 : BitVec 32 := 1#32
  ⟨c0_i32_576, v874, c1_i32_578⟩
def k0_off23 (k0_t5 : Fin k0_t5_loop.trips) : Fin 3 → Nat :=
  let c0_i32_4066 : BitVec 32 := 0#32
  let v6139 : Index := Scalar.indexCast c0_i32_4066
  let c0_i32_576 : BitVec 32 := 0#32
  let c1_i32_578 : BitVec 32 := 1#32
  let arg25 : BitVec 32 := Scf.iv c0_i32_576 c1_i32_578 k0_t5
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk24 (v6158 : IVec S16 32) (v6160 : IVec S16 32) (v6162 : IVec S16 32) : Prop :=
  (∀ a x, ((![v6162, v6158, v6160] : Fin 3 → IVec S16 32) a x).toNat < S24x8x224.size a)
theorem k0_idx24_inb : ∀ (v6158 : IVec S16 32) (v6160 : IVec S16 32) (v6162 : IVec S16 32) (k0_hw24 : k0_chk24 v6158 v6160 v6162), ∀ a x, ((![v6162, v6158, v6160] : Fin 3 → IVec S16 32) a x).toNat < S24x8x224.size a := fun v6158 v6160 v6162 k0_hw24 => k0_hw24
def k0_off24 (k0_t5 : Fin k0_t5_loop.trips) : Fin 3 → Nat :=
  let c2_i32_4075 : BitVec 32 := 2#32
  let v6166 : Index := Scalar.indexCast c2_i32_4075
  let c0_i32_576 : BitVec 32 := 0#32
  let c1_i32_578 : BitVec 32 := 1#32
  let arg25 : BitVec 32 := Scf.iv c0_i32_576 c1_i32_578 k0_t5
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6167 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6168 : Index := Scalar.indexCast v6138
  ![2, v6167.toNat, v6168.toNat]

def k0_chk25 (v6171 : IVec S16 32) : Prop :=
  (∀ a x, ((![v6171] : Fin 1 → IVec S16 32) a x).toNat < S11264.size a)
theorem k0_idx25_inb : ∀ (v6171 : IVec S16 32) (k0_hw25 : k0_chk25 v6171), ∀ a x, ((![v6171] : Fin 1 → IVec S16 32) a x).toNat < S11264.size a := fun v6171 k0_hw25 => k0_hw25
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_580 : BitVec 32 := 7#32
  let v875 : BitVec 32 := Scalar.muli v1 c7_i32_580
  let c0_i32_581 : BitVec 32 := 0#32
  let v876 : BitVec 32 := Scalar.addi v875 c0_i32_581
  let c28_i32_589 : BitVec 32 := 28#32
  let c0_i32_590 : BitVec 32 := 0#32
  let v894 : BitVec 1 := Scalar.cmpi .eq c28_i32_589 c0_i32_590
  let c1_i32_591 : BitVec 32 := 1#32
  let v895 : BitVec 32 := Scalar.select v894 c1_i32_591 c28_i32_589
  let v896 : BitVec 32 := Scalar.remsi v876 v895
  let c0_i32_593 : BitVec 32 := 0#32
  let v898 : BitVec 1 := Scalar.cmpi .slt v896 c0_i32_593
  let c0_i32_594 : BitVec 32 := 0#32
  let v899 : BitVec 1 := Scalar.cmpi .slt v895 c0_i32_594
  let v900 : BitVec 1 := Scalar.xori v898 v899
  let c0_i32_592 : BitVec 32 := 0#32
  let v897 : BitVec 1 := Scalar.cmpi .ne v896 c0_i32_592
  let v901 : BitVec 1 := Scalar.andi v900 v897
  let v902 : BitVec 32 := Scalar.addi v896 v895
  let v903 : BitVec 32 := Scalar.select v901 v902 v896
  let c8_i32_595 : BitVec 32 := 8#32
  let v904 : BitVec 32 := Scalar.muli v903 c8_i32_595
  v904
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_603 : BitVec 32 := 7#32
  let v914 : BitVec 32 := Scalar.muli v1 c7_i32_603
  let c1_i32_604 : BitVec 32 := 1#32
  let v915 : BitVec 32 := Scalar.addi v914 c1_i32_604
  let c28_i32_612 : BitVec 32 := 28#32
  let c0_i32_613 : BitVec 32 := 0#32
  let v933 : BitVec 1 := Scalar.cmpi .eq c28_i32_612 c0_i32_613
  let c1_i32_614 : BitVec 32 := 1#32
  let v934 : BitVec 32 := Scalar.select v933 c1_i32_614 c28_i32_612
  let v935 : BitVec 32 := Scalar.remsi v915 v934
  let c0_i32_616 : BitVec 32 := 0#32
  let v937 : BitVec 1 := Scalar.cmpi .slt v935 c0_i32_616
  let c0_i32_617 : BitVec 32 := 0#32
  let v938 : BitVec 1 := Scalar.cmpi .slt v934 c0_i32_617
  let v939 : BitVec 1 := Scalar.xori v937 v938
  let c0_i32_615 : BitVec 32 := 0#32
  let v936 : BitVec 1 := Scalar.cmpi .ne v935 c0_i32_615
  let v940 : BitVec 1 := Scalar.andi v939 v936
  let v941 : BitVec 32 := Scalar.addi v935 v934
  let v942 : BitVec 32 := Scalar.select v940 v941 v935
  let c8_i32_618 : BitVec 32 := 8#32
  let v943 : BitVec 32 := Scalar.muli v942 c8_i32_618
  v943
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_626 : BitVec 32 := 7#32
  let v953 : BitVec 32 := Scalar.muli v1 c7_i32_626
  let c2_i32_627 : BitVec 32 := 2#32
  let v954 : BitVec 32 := Scalar.addi v953 c2_i32_627
  let c28_i32_635 : BitVec 32 := 28#32
  let c0_i32_636 : BitVec 32 := 0#32
  let v972 : BitVec 1 := Scalar.cmpi .eq c28_i32_635 c0_i32_636
  let c1_i32_637 : BitVec 32 := 1#32
  let v973 : BitVec 32 := Scalar.select v972 c1_i32_637 c28_i32_635
  let v974 : BitVec 32 := Scalar.remsi v954 v973
  let c0_i32_639 : BitVec 32 := 0#32
  let v976 : BitVec 1 := Scalar.cmpi .slt v974 c0_i32_639
  let c0_i32_640 : BitVec 32 := 0#32
  let v977 : BitVec 1 := Scalar.cmpi .slt v973 c0_i32_640
  let v978 : BitVec 1 := Scalar.xori v976 v977
  let c0_i32_638 : BitVec 32 := 0#32
  let v975 : BitVec 1 := Scalar.cmpi .ne v974 c0_i32_638
  let v979 : BitVec 1 := Scalar.andi v978 v975
  let v980 : BitVec 32 := Scalar.addi v974 v973
  let v981 : BitVec 32 := Scalar.select v979 v980 v974
  let c8_i32_641 : BitVec 32 := 8#32
  let v982 : BitVec 32 := Scalar.muli v981 c8_i32_641
  v982
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_649 : BitVec 32 := 7#32
  let v992 : BitVec 32 := Scalar.muli v1 c7_i32_649
  let c1_i32_650 : BitVec 32 := 1#32
  let v993 : BitVec 32 := Scalar.addi v992 c1_i32_650
  let c28_i32_658 : BitVec 32 := 28#32
  let c0_i32_659 : BitVec 32 := 0#32
  let v1011 : BitVec 1 := Scalar.cmpi .eq c28_i32_658 c0_i32_659
  let c1_i32_660 : BitVec 32 := 1#32
  let v1012 : BitVec 32 := Scalar.select v1011 c1_i32_660 c28_i32_658
  let v1013 : BitVec 32 := Scalar.remsi v993 v1012
  let c0_i32_662 : BitVec 32 := 0#32
  let v1015 : BitVec 1 := Scalar.cmpi .slt v1013 c0_i32_662
  let c0_i32_663 : BitVec 32 := 0#32
  let v1016 : BitVec 1 := Scalar.cmpi .slt v1012 c0_i32_663
  let v1017 : BitVec 1 := Scalar.xori v1015 v1016
  let c0_i32_661 : BitVec 32 := 0#32
  let v1014 : BitVec 1 := Scalar.cmpi .ne v1013 c0_i32_661
  let v1018 : BitVec 1 := Scalar.andi v1017 v1014
  let v1019 : BitVec 32 := Scalar.addi v1013 v1012
  let v1020 : BitVec 32 := Scalar.select v1018 v1019 v1013
  let c8_i32_664 : BitVec 32 := 8#32
  let v1021 : BitVec 32 := Scalar.muli v1020 c8_i32_664
  v1021
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_675 : BitVec 32 := 7#32
  let v1029 : BitVec 32 := Scalar.muli v1 c7_i32_675
  let c1_i32_676 : BitVec 32 := 1#32
  let v1030 : BitVec 32 := Scalar.addi v1029 c1_i32_676
  let c28_i32_684 : BitVec 32 := 28#32
  let c0_i32_685 : BitVec 32 := 0#32
  let v1048 : BitVec 1 := Scalar.cmpi .eq c28_i32_684 c0_i32_685
  let c1_i32_686 : BitVec 32 := 1#32
  let v1049 : BitVec 32 := Scalar.select v1048 c1_i32_686 c28_i32_684
  let v1050 : BitVec 32 := Scalar.remsi v1030 v1049
  let c0_i32_688 : BitVec 32 := 0#32
  let v1052 : BitVec 1 := Scalar.cmpi .slt v1050 c0_i32_688
  let c0_i32_689 : BitVec 32 := 0#32
  let v1053 : BitVec 1 := Scalar.cmpi .slt v1049 c0_i32_689
  let v1054 : BitVec 1 := Scalar.xori v1052 v1053
  let c0_i32_687 : BitVec 32 := 0#32
  let v1051 : BitVec 1 := Scalar.cmpi .ne v1050 c0_i32_687
  let v1055 : BitVec 1 := Scalar.andi v1054 v1051
  let v1056 : BitVec 32 := Scalar.addi v1050 v1049
  let v1057 : BitVec 32 := Scalar.select v1055 v1056 v1050
  let c8_i32_690 : BitVec 32 := 8#32
  let v1058 : BitVec 32 := Scalar.muli v1057 c8_i32_690
  v1058
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_701 : BitVec 32 := 7#32
  let v1066 : BitVec 32 := Scalar.muli v1 c7_i32_701
  let c1_i32_702 : BitVec 32 := 1#32
  let v1067 : BitVec 32 := Scalar.addi v1066 c1_i32_702
  let c28_i32_710 : BitVec 32 := 28#32
  let c0_i32_711 : BitVec 32 := 0#32
  let v1085 : BitVec 1 := Scalar.cmpi .eq c28_i32_710 c0_i32_711
  let c1_i32_712 : BitVec 32 := 1#32
  let v1086 : BitVec 32 := Scalar.select v1085 c1_i32_712 c28_i32_710
  let v1087 : BitVec 32 := Scalar.remsi v1067 v1086
  let c0_i32_714 : BitVec 32 := 0#32
  let v1089 : BitVec 1 := Scalar.cmpi .slt v1087 c0_i32_714
  let c0_i32_715 : BitVec 32 := 0#32
  let v1090 : BitVec 1 := Scalar.cmpi .slt v1086 c0_i32_715
  let v1091 : BitVec 1 := Scalar.xori v1089 v1090
  let c0_i32_713 : BitVec 32 := 0#32
  let v1088 : BitVec 1 := Scalar.cmpi .ne v1087 c0_i32_713
  let v1092 : BitVec 1 := Scalar.andi v1091 v1088
  let v1093 : BitVec 32 := Scalar.addi v1087 v1086
  let v1094 : BitVec 32 := Scalar.select v1092 v1093 v1087
  let c8_i32_716 : BitVec 32 := 8#32
  let v1095 : BitVec 32 := Scalar.muli v1094 c8_i32_716
  v1095
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_727 : BitVec 32 := 7#32
  let v1103 : BitVec 32 := Scalar.muli v1 c7_i32_727
  let c0_i32_728 : BitVec 32 := 0#32
  let v1104 : BitVec 32 := Scalar.addi v1103 c0_i32_728
  let c28_i32_736 : BitVec 32 := 28#32
  let c0_i32_737 : BitVec 32 := 0#32
  let v1122 : BitVec 1 := Scalar.cmpi .eq c28_i32_736 c0_i32_737
  let c1_i32_738 : BitVec 32 := 1#32
  let v1123 : BitVec 32 := Scalar.select v1122 c1_i32_738 c28_i32_736
  let v1124 : BitVec 32 := Scalar.remsi v1104 v1123
  let c0_i32_740 : BitVec 32 := 0#32
  let v1126 : BitVec 1 := Scalar.cmpi .slt v1124 c0_i32_740
  let c0_i32_741 : BitVec 32 := 0#32
  let v1127 : BitVec 1 := Scalar.cmpi .slt v1123 c0_i32_741
  let v1128 : BitVec 1 := Scalar.xori v1126 v1127
  let c0_i32_739 : BitVec 32 := 0#32
  let v1125 : BitVec 1 := Scalar.cmpi .ne v1124 c0_i32_739
  let v1129 : BitVec 1 := Scalar.andi v1128 v1125
  let v1130 : BitVec 32 := Scalar.addi v1124 v1123
  let v1131 : BitVec 32 := Scalar.select v1129 v1130 v1124
  let c8_i32_742 : BitVec 32 := 8#32
  let v1132 : BitVec 32 := Scalar.muli v1131 c8_i32_742
  v1132
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_753 : BitVec 32 := 7#32
  let v1140 : BitVec 32 := Scalar.muli v1 c7_i32_753
  let c0_i32_754 : BitVec 32 := 0#32
  let v1141 : BitVec 32 := Scalar.addi v1140 c0_i32_754
  let c28_i32_762 : BitVec 32 := 28#32
  let c0_i32_763 : BitVec 32 := 0#32
  let v1159 : BitVec 1 := Scalar.cmpi .eq c28_i32_762 c0_i32_763
  let c1_i32_764 : BitVec 32 := 1#32
  let v1160 : BitVec 32 := Scalar.select v1159 c1_i32_764 c28_i32_762
  let v1161 : BitVec 32 := Scalar.remsi v1141 v1160
  let c0_i32_766 : BitVec 32 := 0#32
  let v1163 : BitVec 1 := Scalar.cmpi .slt v1161 c0_i32_766
  let c0_i32_767 : BitVec 32 := 0#32
  let v1164 : BitVec 1 := Scalar.cmpi .slt v1160 c0_i32_767
  let v1165 : BitVec 1 := Scalar.xori v1163 v1164
  let c0_i32_765 : BitVec 32 := 0#32
  let v1162 : BitVec 1 := Scalar.cmpi .ne v1161 c0_i32_765
  let v1166 : BitVec 1 := Scalar.andi v1165 v1162
  let v1167 : BitVec 32 := Scalar.addi v1161 v1160
  let v1168 : BitVec 32 := Scalar.select v1166 v1167 v1161
  let c8_i32_768 : BitVec 32 := 8#32
  let v1169 : BitVec 32 := Scalar.muli v1168 c8_i32_768
  v1169
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_776 : BitVec 32 := 7#32
  let v1179 : BitVec 32 := Scalar.muli v1 c7_i32_776
  let c1_i32_777 : BitVec 32 := 1#32
  let v1180 : BitVec 32 := Scalar.addi v1179 c1_i32_777
  let c28_i32_785 : BitVec 32 := 28#32
  let c0_i32_786 : BitVec 32 := 0#32
  let v1198 : BitVec 1 := Scalar.cmpi .eq c28_i32_785 c0_i32_786
  let c1_i32_787 : BitVec 32 := 1#32
  let v1199 : BitVec 32 := Scalar.select v1198 c1_i32_787 c28_i32_785
  let v1200 : BitVec 32 := Scalar.remsi v1180 v1199
  let c0_i32_789 : BitVec 32 := 0#32
  let v1202 : BitVec 1 := Scalar.cmpi .slt v1200 c0_i32_789
  let c0_i32_790 : BitVec 32 := 0#32
  let v1203 : BitVec 1 := Scalar.cmpi .slt v1199 c0_i32_790
  let v1204 : BitVec 1 := Scalar.xori v1202 v1203
  let c0_i32_788 : BitVec 32 := 0#32
  let v1201 : BitVec 1 := Scalar.cmpi .ne v1200 c0_i32_788
  let v1205 : BitVec 1 := Scalar.andi v1204 v1201
  let v1206 : BitVec 32 := Scalar.addi v1200 v1199
  let v1207 : BitVec 32 := Scalar.select v1205 v1206 v1200
  let c8_i32_791 : BitVec 32 := 8#32
  let v1208 : BitVec 32 := Scalar.muli v1207 c8_i32_791
  v1208
@[reducible] def k0_t6_loop : Scf.Loop 32 :=
  let c0_i32_793 : BitVec 32 := 0#32
  let c112_i32_794 : BitVec 32 := 112#32
  let v1210 : BitVec 32 := Scalar.addi c0_i32_793 c112_i32_794
  let c1_i32_795 : BitVec 32 := 1#32
  ⟨c0_i32_793, v1210, c1_i32_795⟩
def k0_off25 (k0_t6 : Fin k0_t6_loop.trips) : Fin 3 → Nat :=
  let c1_i32_4066 : BitVec 32 := 1#32
  let v6139 : Index := Scalar.indexCast c1_i32_4066
  let c0_i32_793 : BitVec 32 := 0#32
  let c1_i32_795 : BitVec 32 := 1#32
  let arg25 : BitVec 32 := Scf.iv c0_i32_793 c1_i32_795 k0_t6
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk26 (v6158 : IVec S16 32) (v6160 : IVec S16 32) (v6178 : IVec S16 32) : Prop :=
  (∀ a x, ((![v6178, v6158, v6160] : Fin 3 → IVec S16 32) a x).toNat < S24x8x224.size a)
theorem k0_idx26_inb : ∀ (v6158 : IVec S16 32) (v6160 : IVec S16 32) (v6178 : IVec S16 32) (k0_hw26 : k0_chk26 v6158 v6160 v6178), ∀ a x, ((![v6178, v6158, v6160] : Fin 3 → IVec S16 32) a x).toNat < S24x8x224.size a := fun v6158 v6160 v6178 k0_hw26 => k0_hw26

def k0_chk27 (v6158 : IVec S16 32) (v6160 : IVec S16 32) (v6181 : IVec S16 32) : Prop :=
  (∀ a x, ((![v6181, v6158, v6160] : Fin 3 → IVec S16 32) a x).toNat < S24x8x224.size a)
theorem k0_idx27_inb : ∀ (v6158 : IVec S16 32) (v6160 : IVec S16 32) (v6181 : IVec S16 32) (k0_hw27 : k0_chk27 v6158 v6160 v6181), ∀ a x, ((![v6181, v6158, v6160] : Fin 3 → IVec S16 32) a x).toNat < S24x8x224.size a := fun v6158 v6160 v6181 k0_hw27 => k0_hw27
def k0_off26 (k0_t6 : Fin k0_t6_loop.trips) : Fin 3 → Nat :=
  let c0_i32_4084 : BitVec 32 := 0#32
  let v6186 : Index := Scalar.indexCast c0_i32_4084
  let c0_i32_793 : BitVec 32 := 0#32
  let c1_i32_795 : BitVec 32 := 1#32
  let arg25 : BitVec 32 := Scf.iv c0_i32_793 c1_i32_795 k0_t6
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6187 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6188 : Index := Scalar.indexCast v6138
  ![0, v6187.toNat, v6188.toNat]

def k0_chk28 (v6191 : IVec S16 32) : Prop :=
  (∀ a x, ((![v6191] : Fin 1 → IVec S16 32) a x).toNat < S11264.size a)
theorem k0_idx28_inb : ∀ (v6191 : IVec S16 32) (k0_hw28 : k0_chk28 v6191), ∀ a x, ((![v6191] : Fin 1 → IVec S16 32) a x).toNat < S11264.size a := fun v6191 k0_hw28 => k0_hw28

def k0_chk29 (v6158 : IVec S16 32) (v6160 : IVec S16 32) (v6193 : IVec S16 32) : Prop :=
  (∀ a x, ((![v6193, v6158, v6160] : Fin 3 → IVec S16 32) a x).toNat < S24x8x224.size a)
theorem k0_idx29_inb : ∀ (v6158 : IVec S16 32) (v6160 : IVec S16 32) (v6193 : IVec S16 32) (k0_hw29 : k0_chk29 v6158 v6160 v6193), ∀ a x, ((![v6193, v6158, v6160] : Fin 3 → IVec S16 32) a x).toNat < S24x8x224.size a := fun v6158 v6160 v6193 k0_hw29 => k0_hw29

def k0_chk30 (v6158 : IVec S16 32) (v6160 : IVec S16 32) (v6196 : IVec S16 32) : Prop :=
  (∀ a x, ((![v6196, v6158, v6160] : Fin 3 → IVec S16 32) a x).toNat < S24x8x224.size a)
theorem k0_idx30_inb : ∀ (v6158 : IVec S16 32) (v6160 : IVec S16 32) (v6196 : IVec S16 32) (k0_hw30 : k0_chk30 v6158 v6160 v6196), ∀ a x, ((![v6196, v6158, v6160] : Fin 3 → IVec S16 32) a x).toNat < S24x8x224.size a := fun v6158 v6160 v6196 k0_hw30 => k0_hw30
def k0_off27 (k0_t6 : Fin k0_t6_loop.trips) : Fin 3 → Nat :=
  let c1_i32_4089 : BitVec 32 := 1#32
  let v6201 : Index := Scalar.indexCast c1_i32_4089
  let c0_i32_793 : BitVec 32 := 0#32
  let c1_i32_795 : BitVec 32 := 1#32
  let arg25 : BitVec 32 := Scf.iv c0_i32_793 c1_i32_795 k0_t6
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6202 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6203 : Index := Scalar.indexCast v6138
  ![1, v6202.toNat, v6203.toNat]

def k0_chk31 (v6206 : IVec S16 32) : Prop :=
  (∀ a x, ((![v6206] : Fin 1 → IVec S16 32) a x).toNat < S11264.size a)
theorem k0_idx31_inb : ∀ (v6206 : IVec S16 32) (k0_hw31 : k0_chk31 v6206), ∀ a x, ((![v6206] : Fin 1 → IVec S16 32) a x).toNat < S11264.size a := fun v6206 k0_hw31 => k0_hw31

def k0_chk32 (v6158 : IVec S16 32) (v6160 : IVec S16 32) (v6208 : IVec S16 32) : Prop :=
  (∀ a x, ((![v6208, v6158, v6160] : Fin 3 → IVec S16 32) a x).toNat < S24x8x224.size a)
theorem k0_idx32_inb : ∀ (v6158 : IVec S16 32) (v6160 : IVec S16 32) (v6208 : IVec S16 32) (k0_hw32 : k0_chk32 v6158 v6160 v6208), ∀ a x, ((![v6208, v6158, v6160] : Fin 3 → IVec S16 32) a x).toNat < S24x8x224.size a := fun v6158 v6160 v6208 k0_hw32 => k0_hw32

def k0_chk33 (v6158 : IVec S16 32) (v6160 : IVec S16 32) (v6211 : IVec S16 32) : Prop :=
  (∀ a x, ((![v6211, v6158, v6160] : Fin 3 → IVec S16 32) a x).toNat < S24x8x224.size a)
theorem k0_idx33_inb : ∀ (v6158 : IVec S16 32) (v6160 : IVec S16 32) (v6211 : IVec S16 32) (k0_hw33 : k0_chk33 v6158 v6160 v6211), ∀ a x, ((![v6211, v6158, v6160] : Fin 3 → IVec S16 32) a x).toNat < S24x8x224.size a := fun v6158 v6160 v6211 k0_hw33 => k0_hw33
def k0_off28 (k0_t6 : Fin k0_t6_loop.trips) : Fin 3 → Nat :=
  let c2_i32_4093 : BitVec 32 := 2#32
  let v6216 : Index := Scalar.indexCast c2_i32_4093
  let c0_i32_793 : BitVec 32 := 0#32
  let c1_i32_795 : BitVec 32 := 1#32
  let arg25 : BitVec 32 := Scf.iv c0_i32_793 c1_i32_795 k0_t6
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6217 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6218 : Index := Scalar.indexCast v6138
  ![2, v6217.toNat, v6218.toNat]

def k0_chk34 (v6221 : IVec S16 32) : Prop :=
  (∀ a x, ((![v6221] : Fin 1 → IVec S16 32) a x).toNat < S11264.size a)
theorem k0_idx34_inb : ∀ (v6221 : IVec S16 32) (k0_hw34 : k0_chk34 v6221), ∀ a x, ((![v6221] : Fin 1 → IVec S16 32) a x).toNat < S11264.size a := fun v6221 k0_hw34 => k0_hw34

def k0_chk35 (v6158 : IVec S16 32) (v6160 : IVec S16 32) (v6223 : IVec S16 32) : Prop :=
  (∀ a x, ((![v6223, v6158, v6160] : Fin 3 → IVec S16 32) a x).toNat < S24x8x224.size a)
theorem k0_idx35_inb : ∀ (v6158 : IVec S16 32) (v6160 : IVec S16 32) (v6223 : IVec S16 32) (k0_hw35 : k0_chk35 v6158 v6160 v6223), ∀ a x, ((![v6223, v6158, v6160] : Fin 3 → IVec S16 32) a x).toNat < S24x8x224.size a := fun v6158 v6160 v6223 k0_hw35 => k0_hw35

def k0_chk36 (v6158 : IVec S16 32) (v6160 : IVec S16 32) (v6226 : IVec S16 32) : Prop :=
  (∀ a x, ((![v6226, v6158, v6160] : Fin 3 → IVec S16 32) a x).toNat < S24x8x224.size a)
theorem k0_idx36_inb : ∀ (v6158 : IVec S16 32) (v6160 : IVec S16 32) (v6226 : IVec S16 32) (k0_hw36 : k0_chk36 v6158 v6160 v6226), ∀ a x, ((![v6226, v6158, v6160] : Fin 3 → IVec S16 32) a x).toNat < S24x8x224.size a := fun v6158 v6160 v6226 k0_hw36 => k0_hw36
def k0_off29 (k0_t6 : Fin k0_t6_loop.trips) : Fin 3 → Nat :=
  let c3_i32_4097 : BitVec 32 := 3#32
  let v6231 : Index := Scalar.indexCast c3_i32_4097
  let c0_i32_793 : BitVec 32 := 0#32
  let c1_i32_795 : BitVec 32 := 1#32
  let arg25 : BitVec 32 := Scf.iv c0_i32_793 c1_i32_795 k0_t6
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6232 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6233 : Index := Scalar.indexCast v6138
  ![3, v6232.toNat, v6233.toNat]

def k0_chk37 (v6236 : IVec S16 32) : Prop :=
  (∀ a x, ((![v6236] : Fin 1 → IVec S16 32) a x).toNat < S11264.size a)
theorem k0_idx37_inb : ∀ (v6236 : IVec S16 32) (k0_hw37 : k0_chk37 v6236), ∀ a x, ((![v6236] : Fin 1 → IVec S16 32) a x).toNat < S11264.size a := fun v6236 k0_hw37 => k0_hw37

def k0_chk38 (v6241 : IVec S16 32) : Prop :=
  (∀ a x, ((![v6241] : Fin 1 → IVec S16 32) a x).toNat < S11264.size a)
theorem k0_idx38_inb : ∀ (v6241 : IVec S16 32) (k0_hw38 : k0_chk38 v6241), ∀ a x, ((![v6241] : Fin 1 → IVec S16 32) a x).toNat < S11264.size a := fun v6241 k0_hw38 => k0_hw38
def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_797 : BitVec 32 := 7#32
  let v1211 : BitVec 32 := Scalar.muli v1 c7_i32_797
  let c1_i32_798 : BitVec 32 := 1#32
  let v1212 : BitVec 32 := Scalar.addi v1211 c1_i32_798
  let c28_i32_806 : BitVec 32 := 28#32
  let c0_i32_807 : BitVec 32 := 0#32
  let v1230 : BitVec 1 := Scalar.cmpi .eq c28_i32_806 c0_i32_807
  let c1_i32_808 : BitVec 32 := 1#32
  let v1231 : BitVec 32 := Scalar.select v1230 c1_i32_808 c28_i32_806
  let v1232 : BitVec 32 := Scalar.remsi v1212 v1231
  let c0_i32_810 : BitVec 32 := 0#32
  let v1234 : BitVec 1 := Scalar.cmpi .slt v1232 c0_i32_810
  let c0_i32_811 : BitVec 32 := 0#32
  let v1235 : BitVec 1 := Scalar.cmpi .slt v1231 c0_i32_811
  let v1236 : BitVec 1 := Scalar.xori v1234 v1235
  let c0_i32_809 : BitVec 32 := 0#32
  let v1233 : BitVec 1 := Scalar.cmpi .ne v1232 c0_i32_809
  let v1237 : BitVec 1 := Scalar.andi v1236 v1233
  let v1238 : BitVec 32 := Scalar.addi v1232 v1231
  let v1239 : BitVec 32 := Scalar.select v1237 v1238 v1232
  let c8_i32_812 : BitVec 32 := 8#32
  let v1240 : BitVec 32 := Scalar.muli v1239 c8_i32_812
  v1240
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_817 : BitVec 32 := 7#32
  let v1246 : BitVec 32 := Scalar.muli v1 c7_i32_817
  let c1_i32_818 : BitVec 32 := 1#32
  let v1247 : BitVec 32 := Scalar.addi v1246 c1_i32_818
  let c28_i32_826 : BitVec 32 := 28#32
  let c0_i32_827 : BitVec 32 := 0#32
  let v1265 : BitVec 1 := Scalar.cmpi .eq c28_i32_826 c0_i32_827
  let c1_i32_828 : BitVec 32 := 1#32
  let v1266 : BitVec 32 := Scalar.select v1265 c1_i32_828 c28_i32_826
  let v1267 : BitVec 32 := Scalar.remsi v1247 v1266
  let c0_i32_830 : BitVec 32 := 0#32
  let v1269 : BitVec 1 := Scalar.cmpi .slt v1267 c0_i32_830
  let c0_i32_831 : BitVec 32 := 0#32
  let v1270 : BitVec 1 := Scalar.cmpi .slt v1266 c0_i32_831
  let v1271 : BitVec 1 := Scalar.xori v1269 v1270
  let c0_i32_829 : BitVec 32 := 0#32
  let v1268 : BitVec 1 := Scalar.cmpi .ne v1267 c0_i32_829
  let v1272 : BitVec 1 := Scalar.andi v1271 v1268
  let v1273 : BitVec 32 := Scalar.addi v1267 v1266
  let v1274 : BitVec 32 := Scalar.select v1272 v1273 v1267
  let c8_i32_832 : BitVec 32 := 8#32
  let v1275 : BitVec 32 := Scalar.muli v1274 c8_i32_832
  v1275
def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_843 : BitVec 32 := 7#32
  let v1283 : BitVec 32 := Scalar.muli v1 c7_i32_843
  let c1_i32_844 : BitVec 32 := 1#32
  let v1284 : BitVec 32 := Scalar.addi v1283 c1_i32_844
  let c28_i32_852 : BitVec 32 := 28#32
  let c0_i32_853 : BitVec 32 := 0#32
  let v1302 : BitVec 1 := Scalar.cmpi .eq c28_i32_852 c0_i32_853
  let c1_i32_854 : BitVec 32 := 1#32
  let v1303 : BitVec 32 := Scalar.select v1302 c1_i32_854 c28_i32_852
  let v1304 : BitVec 32 := Scalar.remsi v1284 v1303
  let c0_i32_856 : BitVec 32 := 0#32
  let v1306 : BitVec 1 := Scalar.cmpi .slt v1304 c0_i32_856
  let c0_i32_857 : BitVec 32 := 0#32
  let v1307 : BitVec 1 := Scalar.cmpi .slt v1303 c0_i32_857
  let v1308 : BitVec 1 := Scalar.xori v1306 v1307
  let c0_i32_855 : BitVec 32 := 0#32
  let v1305 : BitVec 1 := Scalar.cmpi .ne v1304 c0_i32_855
  let v1309 : BitVec 1 := Scalar.andi v1308 v1305
  let v1310 : BitVec 32 := Scalar.addi v1304 v1303
  let v1311 : BitVec 32 := Scalar.select v1309 v1310 v1304
  let c8_i32_858 : BitVec 32 := 8#32
  let v1312 : BitVec 32 := Scalar.muli v1311 c8_i32_858
  v1312
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_869 : BitVec 32 := 7#32
  let v1320 : BitVec 32 := Scalar.muli v1 c7_i32_869
  let c1_i32_870 : BitVec 32 := 1#32
  let v1321 : BitVec 32 := Scalar.addi v1320 c1_i32_870
  let c28_i32_878 : BitVec 32 := 28#32
  let c0_i32_879 : BitVec 32 := 0#32
  let v1339 : BitVec 1 := Scalar.cmpi .eq c28_i32_878 c0_i32_879
  let c1_i32_880 : BitVec 32 := 1#32
  let v1340 : BitVec 32 := Scalar.select v1339 c1_i32_880 c28_i32_878
  let v1341 : BitVec 32 := Scalar.remsi v1321 v1340
  let c0_i32_882 : BitVec 32 := 0#32
  let v1343 : BitVec 1 := Scalar.cmpi .slt v1341 c0_i32_882
  let c0_i32_883 : BitVec 32 := 0#32
  let v1344 : BitVec 1 := Scalar.cmpi .slt v1340 c0_i32_883
  let v1345 : BitVec 1 := Scalar.xori v1343 v1344
  let c0_i32_881 : BitVec 32 := 0#32
  let v1342 : BitVec 1 := Scalar.cmpi .ne v1341 c0_i32_881
  let v1346 : BitVec 1 := Scalar.andi v1345 v1342
  let v1347 : BitVec 32 := Scalar.addi v1341 v1340
  let v1348 : BitVec 32 := Scalar.select v1346 v1347 v1341
  let c8_i32_884 : BitVec 32 := 8#32
  let v1349 : BitVec 32 := Scalar.muli v1348 c8_i32_884
  v1349
def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_889 : BitVec 32 := 7#32
  let v1355 : BitVec 32 := Scalar.muli v1 c7_i32_889
  let c1_i32_890 : BitVec 32 := 1#32
  let v1356 : BitVec 32 := Scalar.addi v1355 c1_i32_890
  let c28_i32_898 : BitVec 32 := 28#32
  let c0_i32_899 : BitVec 32 := 0#32
  let v1374 : BitVec 1 := Scalar.cmpi .eq c28_i32_898 c0_i32_899
  let c1_i32_900 : BitVec 32 := 1#32
  let v1375 : BitVec 32 := Scalar.select v1374 c1_i32_900 c28_i32_898
  let v1376 : BitVec 32 := Scalar.remsi v1356 v1375
  let c0_i32_902 : BitVec 32 := 0#32
  let v1378 : BitVec 1 := Scalar.cmpi .slt v1376 c0_i32_902
  let c0_i32_903 : BitVec 32 := 0#32
  let v1379 : BitVec 1 := Scalar.cmpi .slt v1375 c0_i32_903
  let v1380 : BitVec 1 := Scalar.xori v1378 v1379
  let c0_i32_901 : BitVec 32 := 0#32
  let v1377 : BitVec 1 := Scalar.cmpi .ne v1376 c0_i32_901
  let v1381 : BitVec 1 := Scalar.andi v1380 v1377
  let v1382 : BitVec 32 := Scalar.addi v1376 v1375
  let v1383 : BitVec 32 := Scalar.select v1381 v1382 v1376
  let c8_i32_904 : BitVec 32 := 8#32
  let v1384 : BitVec 32 := Scalar.muli v1383 c8_i32_904
  v1384
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_915 : BitVec 32 := 7#32
  let v1392 : BitVec 32 := Scalar.muli v1 c7_i32_915
  let c1_i32_916 : BitVec 32 := 1#32
  let v1393 : BitVec 32 := Scalar.addi v1392 c1_i32_916
  let c28_i32_924 : BitVec 32 := 28#32
  let c0_i32_925 : BitVec 32 := 0#32
  let v1411 : BitVec 1 := Scalar.cmpi .eq c28_i32_924 c0_i32_925
  let c1_i32_926 : BitVec 32 := 1#32
  let v1412 : BitVec 32 := Scalar.select v1411 c1_i32_926 c28_i32_924
  let v1413 : BitVec 32 := Scalar.remsi v1393 v1412
  let c0_i32_928 : BitVec 32 := 0#32
  let v1415 : BitVec 1 := Scalar.cmpi .slt v1413 c0_i32_928
  let c0_i32_929 : BitVec 32 := 0#32
  let v1416 : BitVec 1 := Scalar.cmpi .slt v1412 c0_i32_929
  let v1417 : BitVec 1 := Scalar.xori v1415 v1416
  let c0_i32_927 : BitVec 32 := 0#32
  let v1414 : BitVec 1 := Scalar.cmpi .ne v1413 c0_i32_927
  let v1418 : BitVec 1 := Scalar.andi v1417 v1414
  let v1419 : BitVec 32 := Scalar.addi v1413 v1412
  let v1420 : BitVec 32 := Scalar.select v1418 v1419 v1413
  let c8_i32_930 : BitVec 32 := 8#32
  let v1421 : BitVec 32 := Scalar.muli v1420 c8_i32_930
  v1421
@[reducible] def k0_t7_loop : Scf.Loop 32 :=
  let c0_i32_932 : BitVec 32 := 0#32
  let c112_i32_933 : BitVec 32 := 112#32
  let v1423 : BitVec 32 := Scalar.addi c0_i32_932 c112_i32_933
  let c1_i32_934 : BitVec 32 := 1#32
  ⟨c0_i32_932, v1423, c1_i32_934⟩
def k0_off30 (k0_t7 : Fin k0_t7_loop.trips) : Fin 3 → Nat :=
  let c1_i32_4066 : BitVec 32 := 1#32
  let v6139 : Index := Scalar.indexCast c1_i32_4066
  let c0_i32_932 : BitVec 32 := 0#32
  let c1_i32_934 : BitVec 32 := 1#32
  let arg25 : BitVec 32 := Scf.iv c0_i32_932 c1_i32_934 k0_t7
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk39 (v6158 : IVec S16 32) (v6160 : IVec S16 32) (v6164 : IVec S16 32) : Prop :=
  (∀ a x, ((![v6164, v6158, v6160] : Fin 3 → IVec S16 32) a x).toNat < S24x8x224.size a)
theorem k0_idx39_inb : ∀ (v6158 : IVec S16 32) (v6160 : IVec S16 32) (v6164 : IVec S16 32) (k0_hw39 : k0_chk39 v6158 v6160 v6164), ∀ a x, ((![v6164, v6158, v6160] : Fin 3 → IVec S16 32) a x).toNat < S24x8x224.size a := fun v6158 v6160 v6164 k0_hw39 => k0_hw39
def k0_off31 (k0_t7 : Fin k0_t7_loop.trips) : Fin 3 → Nat :=
  let c0_i32_4076 : BitVec 32 := 0#32
  let v6168 : Index := Scalar.indexCast c0_i32_4076
  let c0_i32_932 : BitVec 32 := 0#32
  let c1_i32_934 : BitVec 32 := 1#32
  let arg25 : BitVec 32 := Scf.iv c0_i32_932 c1_i32_934 k0_t7
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk40 (v6173 : IVec S16 32) : Prop :=
  (∀ a x, ((![v6173] : Fin 1 → IVec S16 32) a x).toNat < S11264.size a)
theorem k0_idx40_inb : ∀ (v6173 : IVec S16 32) (k0_hw40 : k0_chk40 v6173), ∀ a x, ((![v6173] : Fin 1 → IVec S16 32) a x).toNat < S11264.size a := fun v6173 k0_hw40 => k0_hw40

def k0_chk41 (v6158 : IVec S16 32) (v6160 : IVec S16 32) (v6177 : IVec S16 32) : Prop :=
  (∀ a x, ((![v6177, v6158, v6160] : Fin 3 → IVec S16 32) a x).toNat < S24x8x224.size a)
theorem k0_idx41_inb : ∀ (v6158 : IVec S16 32) (v6160 : IVec S16 32) (v6177 : IVec S16 32) (k0_hw41 : k0_chk41 v6158 v6160 v6177), ∀ a x, ((![v6177, v6158, v6160] : Fin 3 → IVec S16 32) a x).toNat < S24x8x224.size a := fun v6158 v6160 v6177 k0_hw41 => k0_hw41
def k0_off32 (k0_t7 : Fin k0_t7_loop.trips) : Fin 3 → Nat :=
  let c1_i32_4080 : BitVec 32 := 1#32
  let v6181 : Index := Scalar.indexCast c1_i32_4080
  let c0_i32_932 : BitVec 32 := 0#32
  let c1_i32_934 : BitVec 32 := 1#32
  let arg25 : BitVec 32 := Scf.iv c0_i32_932 c1_i32_934 k0_t7
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk42 (v6186 : IVec S16 32) : Prop :=
  (∀ a x, ((![v6186] : Fin 1 → IVec S16 32) a x).toNat < S11264.size a)
theorem k0_idx42_inb : ∀ (v6186 : IVec S16 32) (k0_hw42 : k0_chk42 v6186), ∀ a x, ((![v6186] : Fin 1 → IVec S16 32) a x).toNat < S11264.size a := fun v6186 k0_hw42 => k0_hw42

def k0_chk43 (v6158 : IVec S16 32) (v6160 : IVec S16 32) (v6190 : IVec S16 32) : Prop :=
  (∀ a x, ((![v6190, v6158, v6160] : Fin 3 → IVec S16 32) a x).toNat < S24x8x224.size a)
theorem k0_idx43_inb : ∀ (v6158 : IVec S16 32) (v6160 : IVec S16 32) (v6190 : IVec S16 32) (k0_hw43 : k0_chk43 v6158 v6160 v6190), ∀ a x, ((![v6190, v6158, v6160] : Fin 3 → IVec S16 32) a x).toNat < S24x8x224.size a := fun v6158 v6160 v6190 k0_hw43 => k0_hw43
def k0_off33 (k0_t7 : Fin k0_t7_loop.trips) : Fin 3 → Nat :=
  let c2_i32_4084 : BitVec 32 := 2#32
  let v6194 : Index := Scalar.indexCast c2_i32_4084
  let c0_i32_932 : BitVec 32 := 0#32
  let c1_i32_934 : BitVec 32 := 1#32
  let arg25 : BitVec 32 := Scf.iv c0_i32_932 c1_i32_934 k0_t7
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6195 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6196 : Index := Scalar.indexCast v6138
  ![2, v6195.toNat, v6196.toNat]

def k0_chk44 (v6199 : IVec S16 32) : Prop :=
  (∀ a x, ((![v6199] : Fin 1 → IVec S16 32) a x).toNat < S11264.size a)
theorem k0_idx44_inb : ∀ (v6199 : IVec S16 32) (k0_hw44 : k0_chk44 v6199), ∀ a x, ((![v6199] : Fin 1 → IVec S16 32) a x).toNat < S11264.size a := fun v6199 k0_hw44 => k0_hw44
def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_936 : BitVec 32 := 7#32
  let v1424 : BitVec 32 := Scalar.muli v1 c7_i32_936
  let c2_i32_937 : BitVec 32 := 2#32
  let v1425 : BitVec 32 := Scalar.addi v1424 c2_i32_937
  let c28_i32_945 : BitVec 32 := 28#32
  let c0_i32_946 : BitVec 32 := 0#32
  let v1443 : BitVec 1 := Scalar.cmpi .eq c28_i32_945 c0_i32_946
  let c1_i32_947 : BitVec 32 := 1#32
  let v1444 : BitVec 32 := Scalar.select v1443 c1_i32_947 c28_i32_945
  let v1445 : BitVec 32 := Scalar.remsi v1425 v1444
  let c0_i32_949 : BitVec 32 := 0#32
  let v1447 : BitVec 1 := Scalar.cmpi .slt v1445 c0_i32_949
  let c0_i32_950 : BitVec 32 := 0#32
  let v1448 : BitVec 1 := Scalar.cmpi .slt v1444 c0_i32_950
  let v1449 : BitVec 1 := Scalar.xori v1447 v1448
  let c0_i32_948 : BitVec 32 := 0#32
  let v1446 : BitVec 1 := Scalar.cmpi .ne v1445 c0_i32_948
  let v1450 : BitVec 1 := Scalar.andi v1449 v1446
  let v1451 : BitVec 32 := Scalar.addi v1445 v1444
  let v1452 : BitVec 32 := Scalar.select v1450 v1451 v1445
  let c8_i32_951 : BitVec 32 := 8#32
  let v1453 : BitVec 32 := Scalar.muli v1452 c8_i32_951
  v1453
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_962 : BitVec 32 := 7#32
  let v1461 : BitVec 32 := Scalar.muli v1 c7_i32_962
  let c1_i32_963 : BitVec 32 := 1#32
  let v1462 : BitVec 32 := Scalar.addi v1461 c1_i32_963
  let c28_i32_971 : BitVec 32 := 28#32
  let c0_i32_972 : BitVec 32 := 0#32
  let v1480 : BitVec 1 := Scalar.cmpi .eq c28_i32_971 c0_i32_972
  let c1_i32_973 : BitVec 32 := 1#32
  let v1481 : BitVec 32 := Scalar.select v1480 c1_i32_973 c28_i32_971
  let v1482 : BitVec 32 := Scalar.remsi v1462 v1481
  let c0_i32_975 : BitVec 32 := 0#32
  let v1484 : BitVec 1 := Scalar.cmpi .slt v1482 c0_i32_975
  let c0_i32_976 : BitVec 32 := 0#32
  let v1485 : BitVec 1 := Scalar.cmpi .slt v1481 c0_i32_976
  let v1486 : BitVec 1 := Scalar.xori v1484 v1485
  let c0_i32_974 : BitVec 32 := 0#32
  let v1483 : BitVec 1 := Scalar.cmpi .ne v1482 c0_i32_974
  let v1487 : BitVec 1 := Scalar.andi v1486 v1483
  let v1488 : BitVec 32 := Scalar.addi v1482 v1481
  let v1489 : BitVec 32 := Scalar.select v1487 v1488 v1482
  let c8_i32_977 : BitVec 32 := 8#32
  let v1490 : BitVec 32 := Scalar.muli v1489 c8_i32_977
  v1490
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_988 : BitVec 32 := 7#32
  let v1498 : BitVec 32 := Scalar.muli v1 c7_i32_988
  let c1_i32_989 : BitVec 32 := 1#32
  let v1499 : BitVec 32 := Scalar.addi v1498 c1_i32_989
  let c28_i32_997 : BitVec 32 := 28#32
  let c0_i32_998 : BitVec 32 := 0#32
  let v1517 : BitVec 1 := Scalar.cmpi .eq c28_i32_997 c0_i32_998
  let c1_i32_999 : BitVec 32 := 1#32
  let v1518 : BitVec 32 := Scalar.select v1517 c1_i32_999 c28_i32_997
  let v1519 : BitVec 32 := Scalar.remsi v1499 v1518
  let c0_i32_1001 : BitVec 32 := 0#32
  let v1521 : BitVec 1 := Scalar.cmpi .slt v1519 c0_i32_1001
  let c0_i32_1002 : BitVec 32 := 0#32
  let v1522 : BitVec 1 := Scalar.cmpi .slt v1518 c0_i32_1002
  let v1523 : BitVec 1 := Scalar.xori v1521 v1522
  let c0_i32_1000 : BitVec 32 := 0#32
  let v1520 : BitVec 1 := Scalar.cmpi .ne v1519 c0_i32_1000
  let v1524 : BitVec 1 := Scalar.andi v1523 v1520
  let v1525 : BitVec 32 := Scalar.addi v1519 v1518
  let v1526 : BitVec 32 := Scalar.select v1524 v1525 v1519
  let c8_i32_1003 : BitVec 32 := 8#32
  let v1527 : BitVec 32 := Scalar.muli v1526 c8_i32_1003
  v1527
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1014 : BitVec 32 := 7#32
  let v1535 : BitVec 32 := Scalar.muli v1 c7_i32_1014
  let c1_i32_1015 : BitVec 32 := 1#32
  let v1536 : BitVec 32 := Scalar.addi v1535 c1_i32_1015
  let c28_i32_1023 : BitVec 32 := 28#32
  let c0_i32_1024 : BitVec 32 := 0#32
  let v1554 : BitVec 1 := Scalar.cmpi .eq c28_i32_1023 c0_i32_1024
  let c1_i32_1025 : BitVec 32 := 1#32
  let v1555 : BitVec 32 := Scalar.select v1554 c1_i32_1025 c28_i32_1023
  let v1556 : BitVec 32 := Scalar.remsi v1536 v1555
  let c0_i32_1027 : BitVec 32 := 0#32
  let v1558 : BitVec 1 := Scalar.cmpi .slt v1556 c0_i32_1027
  let c0_i32_1028 : BitVec 32 := 0#32
  let v1559 : BitVec 1 := Scalar.cmpi .slt v1555 c0_i32_1028
  let v1560 : BitVec 1 := Scalar.xori v1558 v1559
  let c0_i32_1026 : BitVec 32 := 0#32
  let v1557 : BitVec 1 := Scalar.cmpi .ne v1556 c0_i32_1026
  let v1561 : BitVec 1 := Scalar.andi v1560 v1557
  let v1562 : BitVec 32 := Scalar.addi v1556 v1555
  let v1563 : BitVec 32 := Scalar.select v1561 v1562 v1556
  let c8_i32_1029 : BitVec 32 := 8#32
  let v1564 : BitVec 32 := Scalar.muli v1563 c8_i32_1029
  v1564
def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1040 : BitVec 32 := 7#32
  let v1572 : BitVec 32 := Scalar.muli v1 c7_i32_1040
  let c1_i32_1041 : BitVec 32 := 1#32
  let v1573 : BitVec 32 := Scalar.addi v1572 c1_i32_1041
  let c28_i32_1049 : BitVec 32 := 28#32
  let c0_i32_1050 : BitVec 32 := 0#32
  let v1591 : BitVec 1 := Scalar.cmpi .eq c28_i32_1049 c0_i32_1050
  let c1_i32_1051 : BitVec 32 := 1#32
  let v1592 : BitVec 32 := Scalar.select v1591 c1_i32_1051 c28_i32_1049
  let v1593 : BitVec 32 := Scalar.remsi v1573 v1592
  let c0_i32_1053 : BitVec 32 := 0#32
  let v1595 : BitVec 1 := Scalar.cmpi .slt v1593 c0_i32_1053
  let c0_i32_1054 : BitVec 32 := 0#32
  let v1596 : BitVec 1 := Scalar.cmpi .slt v1592 c0_i32_1054
  let v1597 : BitVec 1 := Scalar.xori v1595 v1596
  let c0_i32_1052 : BitVec 32 := 0#32
  let v1594 : BitVec 1 := Scalar.cmpi .ne v1593 c0_i32_1052
  let v1598 : BitVec 1 := Scalar.andi v1597 v1594
  let v1599 : BitVec 32 := Scalar.addi v1593 v1592
  let v1600 : BitVec 32 := Scalar.select v1598 v1599 v1593
  let c8_i32_1055 : BitVec 32 := 8#32
  let v1601 : BitVec 32 := Scalar.muli v1600 c8_i32_1055
  v1601
@[reducible] def k0_t8_loop : Scf.Loop 32 :=
  let c0_i32_1057 : BitVec 32 := 0#32
  let c112_i32_1058 : BitVec 32 := 112#32
  let v1603 : BitVec 32 := Scalar.addi c0_i32_1057 c112_i32_1058
  let c1_i32_1059 : BitVec 32 := 1#32
  ⟨c0_i32_1057, v1603, c1_i32_1059⟩
def k0_off34 (k0_t8 : Fin k0_t8_loop.trips) : Fin 3 → Nat :=
  let c1_i32_4066 : BitVec 32 := 1#32
  let v6139 : Index := Scalar.indexCast c1_i32_4066
  let c0_i32_1057 : BitVec 32 := 0#32
  let c1_i32_1059 : BitVec 32 := 1#32
  let arg25 : BitVec 32 := Scf.iv c0_i32_1057 c1_i32_1059 k0_t8
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk45 (v6158 : IVec S16 32) (v6160 : IVec S16 32) (v6164 : IVec S16 32) : Prop :=
  (∀ a x, ((![v6164, v6158, v6160] : Fin 3 → IVec S16 32) a x).toNat < S24x8x224.size a)
theorem k0_idx45_inb : ∀ (v6158 : IVec S16 32) (v6160 : IVec S16 32) (v6164 : IVec S16 32) (k0_hw45 : k0_chk45 v6158 v6160 v6164), ∀ a x, ((![v6164, v6158, v6160] : Fin 3 → IVec S16 32) a x).toNat < S24x8x224.size a := fun v6158 v6160 v6164 k0_hw45 => k0_hw45
def k0_off35 (k0_t8 : Fin k0_t8_loop.trips) : Fin 3 → Nat :=
  let c0_i32_4076 : BitVec 32 := 0#32
  let v6168 : Index := Scalar.indexCast c0_i32_4076
  let c0_i32_1057 : BitVec 32 := 0#32
  let c1_i32_1059 : BitVec 32 := 1#32
  let arg25 : BitVec 32 := Scf.iv c0_i32_1057 c1_i32_1059 k0_t8
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk46 (v6173 : IVec S16 32) : Prop :=
  (∀ a x, ((![v6173] : Fin 1 → IVec S16 32) a x).toNat < S11264.size a)
theorem k0_idx46_inb : ∀ (v6173 : IVec S16 32) (k0_hw46 : k0_chk46 v6173), ∀ a x, ((![v6173] : Fin 1 → IVec S16 32) a x).toNat < S11264.size a := fun v6173 k0_hw46 => k0_hw46

def k0_chk47 (v6158 : IVec S16 32) (v6160 : IVec S16 32) (v6177 : IVec S16 32) : Prop :=
  (∀ a x, ((![v6177, v6158, v6160] : Fin 3 → IVec S16 32) a x).toNat < S24x8x224.size a)
theorem k0_idx47_inb : ∀ (v6158 : IVec S16 32) (v6160 : IVec S16 32) (v6177 : IVec S16 32) (k0_hw47 : k0_chk47 v6158 v6160 v6177), ∀ a x, ((![v6177, v6158, v6160] : Fin 3 → IVec S16 32) a x).toNat < S24x8x224.size a := fun v6158 v6160 v6177 k0_hw47 => k0_hw47
def k0_off36 (k0_t8 : Fin k0_t8_loop.trips) : Fin 3 → Nat :=
  let c1_i32_4080 : BitVec 32 := 1#32
  let v6181 : Index := Scalar.indexCast c1_i32_4080
  let c0_i32_1057 : BitVec 32 := 0#32
  let c1_i32_1059 : BitVec 32 := 1#32
  let arg25 : BitVec 32 := Scf.iv c0_i32_1057 c1_i32_1059 k0_t8
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk48 (v6186 : IVec S16 32) : Prop :=
  (∀ a x, ((![v6186] : Fin 1 → IVec S16 32) a x).toNat < S11264.size a)
theorem k0_idx48_inb : ∀ (v6186 : IVec S16 32) (k0_hw48 : k0_chk48 v6186), ∀ a x, ((![v6186] : Fin 1 → IVec S16 32) a x).toNat < S11264.size a := fun v6186 k0_hw48 => k0_hw48
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1061 : BitVec 32 := 7#32
  let v1604 : BitVec 32 := Scalar.muli v1 c7_i32_1061
  let c2_i32_1062 : BitVec 32 := 2#32
  let v1605 : BitVec 32 := Scalar.addi v1604 c2_i32_1062
  let c28_i32_1070 : BitVec 32 := 28#32
  let c0_i32_1071 : BitVec 32 := 0#32
  let v1623 : BitVec 1 := Scalar.cmpi .eq c28_i32_1070 c0_i32_1071
  let c1_i32_1072 : BitVec 32 := 1#32
  let v1624 : BitVec 32 := Scalar.select v1623 c1_i32_1072 c28_i32_1070
  let v1625 : BitVec 32 := Scalar.remsi v1605 v1624
  let c0_i32_1074 : BitVec 32 := 0#32
  let v1627 : BitVec 1 := Scalar.cmpi .slt v1625 c0_i32_1074
  let c0_i32_1075 : BitVec 32 := 0#32
  let v1628 : BitVec 1 := Scalar.cmpi .slt v1624 c0_i32_1075
  let v1629 : BitVec 1 := Scalar.xori v1627 v1628
  let c0_i32_1073 : BitVec 32 := 0#32
  let v1626 : BitVec 1 := Scalar.cmpi .ne v1625 c0_i32_1073
  let v1630 : BitVec 1 := Scalar.andi v1629 v1626
  let v1631 : BitVec 32 := Scalar.addi v1625 v1624
  let v1632 : BitVec 32 := Scalar.select v1630 v1631 v1625
  let c8_i32_1076 : BitVec 32 := 8#32
  let v1633 : BitVec 32 := Scalar.muli v1632 c8_i32_1076
  v1633
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1087 : BitVec 32 := 7#32
  let v1641 : BitVec 32 := Scalar.muli v1 c7_i32_1087
  let c1_i32_1088 : BitVec 32 := 1#32
  let v1642 : BitVec 32 := Scalar.addi v1641 c1_i32_1088
  let c28_i32_1096 : BitVec 32 := 28#32
  let c0_i32_1097 : BitVec 32 := 0#32
  let v1660 : BitVec 1 := Scalar.cmpi .eq c28_i32_1096 c0_i32_1097
  let c1_i32_1098 : BitVec 32 := 1#32
  let v1661 : BitVec 32 := Scalar.select v1660 c1_i32_1098 c28_i32_1096
  let v1662 : BitVec 32 := Scalar.remsi v1642 v1661
  let c0_i32_1100 : BitVec 32 := 0#32
  let v1664 : BitVec 1 := Scalar.cmpi .slt v1662 c0_i32_1100
  let c0_i32_1101 : BitVec 32 := 0#32
  let v1665 : BitVec 1 := Scalar.cmpi .slt v1661 c0_i32_1101
  let v1666 : BitVec 1 := Scalar.xori v1664 v1665
  let c0_i32_1099 : BitVec 32 := 0#32
  let v1663 : BitVec 1 := Scalar.cmpi .ne v1662 c0_i32_1099
  let v1667 : BitVec 1 := Scalar.andi v1666 v1663
  let v1668 : BitVec 32 := Scalar.addi v1662 v1661
  let v1669 : BitVec 32 := Scalar.select v1667 v1668 v1662
  let c8_i32_1102 : BitVec 32 := 8#32
  let v1670 : BitVec 32 := Scalar.muli v1669 c8_i32_1102
  v1670
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1113 : BitVec 32 := 7#32
  let v1678 : BitVec 32 := Scalar.muli v1 c7_i32_1113
  let c1_i32_1114 : BitVec 32 := 1#32
  let v1679 : BitVec 32 := Scalar.addi v1678 c1_i32_1114
  let c28_i32_1122 : BitVec 32 := 28#32
  let c0_i32_1123 : BitVec 32 := 0#32
  let v1697 : BitVec 1 := Scalar.cmpi .eq c28_i32_1122 c0_i32_1123
  let c1_i32_1124 : BitVec 32 := 1#32
  let v1698 : BitVec 32 := Scalar.select v1697 c1_i32_1124 c28_i32_1122
  let v1699 : BitVec 32 := Scalar.remsi v1679 v1698
  let c0_i32_1126 : BitVec 32 := 0#32
  let v1701 : BitVec 1 := Scalar.cmpi .slt v1699 c0_i32_1126
  let c0_i32_1127 : BitVec 32 := 0#32
  let v1702 : BitVec 1 := Scalar.cmpi .slt v1698 c0_i32_1127
  let v1703 : BitVec 1 := Scalar.xori v1701 v1702
  let c0_i32_1125 : BitVec 32 := 0#32
  let v1700 : BitVec 1 := Scalar.cmpi .ne v1699 c0_i32_1125
  let v1704 : BitVec 1 := Scalar.andi v1703 v1700
  let v1705 : BitVec 32 := Scalar.addi v1699 v1698
  let v1706 : BitVec 32 := Scalar.select v1704 v1705 v1699
  let c8_i32_1128 : BitVec 32 := 8#32
  let v1707 : BitVec 32 := Scalar.muli v1706 c8_i32_1128
  v1707
def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1139 : BitVec 32 := 7#32
  let v1715 : BitVec 32 := Scalar.muli v1 c7_i32_1139
  let c1_i32_1140 : BitVec 32 := 1#32
  let v1716 : BitVec 32 := Scalar.addi v1715 c1_i32_1140
  let c28_i32_1148 : BitVec 32 := 28#32
  let c0_i32_1149 : BitVec 32 := 0#32
  let v1734 : BitVec 1 := Scalar.cmpi .eq c28_i32_1148 c0_i32_1149
  let c1_i32_1150 : BitVec 32 := 1#32
  let v1735 : BitVec 32 := Scalar.select v1734 c1_i32_1150 c28_i32_1148
  let v1736 : BitVec 32 := Scalar.remsi v1716 v1735
  let c0_i32_1152 : BitVec 32 := 0#32
  let v1738 : BitVec 1 := Scalar.cmpi .slt v1736 c0_i32_1152
  let c0_i32_1153 : BitVec 32 := 0#32
  let v1739 : BitVec 1 := Scalar.cmpi .slt v1735 c0_i32_1153
  let v1740 : BitVec 1 := Scalar.xori v1738 v1739
  let c0_i32_1151 : BitVec 32 := 0#32
  let v1737 : BitVec 1 := Scalar.cmpi .ne v1736 c0_i32_1151
  let v1741 : BitVec 1 := Scalar.andi v1740 v1737
  let v1742 : BitVec 32 := Scalar.addi v1736 v1735
  let v1743 : BitVec 32 := Scalar.select v1741 v1742 v1736
  let c8_i32_1154 : BitVec 32 := 8#32
  let v1744 : BitVec 32 := Scalar.muli v1743 c8_i32_1154
  v1744
@[reducible] def k0_t9_loop : Scf.Loop 32 :=
  let c0_i32_1156 : BitVec 32 := 0#32
  let c112_i32_1157 : BitVec 32 := 112#32
  let v1746 : BitVec 32 := Scalar.addi c0_i32_1156 c112_i32_1157
  let c1_i32_1158 : BitVec 32 := 1#32
  ⟨c0_i32_1156, v1746, c1_i32_1158⟩
def k0_off37 (k0_t9 : Fin k0_t9_loop.trips) : Fin 3 → Nat :=
  let c1_i32_4066 : BitVec 32 := 1#32
  let v6139 : Index := Scalar.indexCast c1_i32_4066
  let c0_i32_1156 : BitVec 32 := 0#32
  let c1_i32_1158 : BitVec 32 := 1#32
  let arg25 : BitVec 32 := Scf.iv c0_i32_1156 c1_i32_1158 k0_t9
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk49 (v6158 : IVec S16 32) (v6160 : IVec S16 32) (v6162 : IVec S16 32) : Prop :=
  (∀ a x, ((![v6162, v6158, v6160] : Fin 3 → IVec S16 32) a x).toNat < S24x8x224.size a)
theorem k0_idx49_inb : ∀ (v6158 : IVec S16 32) (v6160 : IVec S16 32) (v6162 : IVec S16 32) (k0_hw49 : k0_chk49 v6158 v6160 v6162), ∀ a x, ((![v6162, v6158, v6160] : Fin 3 → IVec S16 32) a x).toNat < S24x8x224.size a := fun v6158 v6160 v6162 k0_hw49 => k0_hw49
def k0_off38 (k0_t9 : Fin k0_t9_loop.trips) : Fin 3 → Nat :=
  let c2_i32_4075 : BitVec 32 := 2#32
  let v6166 : Index := Scalar.indexCast c2_i32_4075
  let c0_i32_1156 : BitVec 32 := 0#32
  let c1_i32_1158 : BitVec 32 := 1#32
  let arg25 : BitVec 32 := Scf.iv c0_i32_1156 c1_i32_1158 k0_t9
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6167 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6168 : Index := Scalar.indexCast v6138
  ![2, v6167.toNat, v6168.toNat]

def k0_chk50 (v6171 : IVec S16 32) : Prop :=
  (∀ a x, ((![v6171] : Fin 1 → IVec S16 32) a x).toNat < S11264.size a)
theorem k0_idx50_inb : ∀ (v6171 : IVec S16 32) (k0_hw50 : k0_chk50 v6171), ∀ a x, ((![v6171] : Fin 1 → IVec S16 32) a x).toNat < S11264.size a := fun v6171 k0_hw50 => k0_hw50
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1160 : BitVec 32 := 7#32
  let v1747 : BitVec 32 := Scalar.muli v1 c7_i32_1160
  let c1_i32_1161 : BitVec 32 := 1#32
  let v1748 : BitVec 32 := Scalar.addi v1747 c1_i32_1161
  let c28_i32_1169 : BitVec 32 := 28#32
  let c0_i32_1170 : BitVec 32 := 0#32
  let v1766 : BitVec 1 := Scalar.cmpi .eq c28_i32_1169 c0_i32_1170
  let c1_i32_1171 : BitVec 32 := 1#32
  let v1767 : BitVec 32 := Scalar.select v1766 c1_i32_1171 c28_i32_1169
  let v1768 : BitVec 32 := Scalar.remsi v1748 v1767
  let c0_i32_1173 : BitVec 32 := 0#32
  let v1770 : BitVec 1 := Scalar.cmpi .slt v1768 c0_i32_1173
  let c0_i32_1174 : BitVec 32 := 0#32
  let v1771 : BitVec 1 := Scalar.cmpi .slt v1767 c0_i32_1174
  let v1772 : BitVec 1 := Scalar.xori v1770 v1771
  let c0_i32_1172 : BitVec 32 := 0#32
  let v1769 : BitVec 1 := Scalar.cmpi .ne v1768 c0_i32_1172
  let v1773 : BitVec 1 := Scalar.andi v1772 v1769
  let v1774 : BitVec 32 := Scalar.addi v1768 v1767
  let v1775 : BitVec 32 := Scalar.select v1773 v1774 v1768
  let c8_i32_1175 : BitVec 32 := 8#32
  let v1776 : BitVec 32 := Scalar.muli v1775 c8_i32_1175
  v1776
def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1183 : BitVec 32 := 7#32
  let v1786 : BitVec 32 := Scalar.muli v1 c7_i32_1183
  let c2_i32_1184 : BitVec 32 := 2#32
  let v1787 : BitVec 32 := Scalar.addi v1786 c2_i32_1184
  let c28_i32_1192 : BitVec 32 := 28#32
  let c0_i32_1193 : BitVec 32 := 0#32
  let v1805 : BitVec 1 := Scalar.cmpi .eq c28_i32_1192 c0_i32_1193
  let c1_i32_1194 : BitVec 32 := 1#32
  let v1806 : BitVec 32 := Scalar.select v1805 c1_i32_1194 c28_i32_1192
  let v1807 : BitVec 32 := Scalar.remsi v1787 v1806
  let c0_i32_1196 : BitVec 32 := 0#32
  let v1809 : BitVec 1 := Scalar.cmpi .slt v1807 c0_i32_1196
  let c0_i32_1197 : BitVec 32 := 0#32
  let v1810 : BitVec 1 := Scalar.cmpi .slt v1806 c0_i32_1197
  let v1811 : BitVec 1 := Scalar.xori v1809 v1810
  let c0_i32_1195 : BitVec 32 := 0#32
  let v1808 : BitVec 1 := Scalar.cmpi .ne v1807 c0_i32_1195
  let v1812 : BitVec 1 := Scalar.andi v1811 v1808
  let v1813 : BitVec 32 := Scalar.addi v1807 v1806
  let v1814 : BitVec 32 := Scalar.select v1812 v1813 v1807
  let c8_i32_1198 : BitVec 32 := 8#32
  let v1815 : BitVec 32 := Scalar.muli v1814 c8_i32_1198
  v1815
def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1206 : BitVec 32 := 7#32
  let v1825 : BitVec 32 := Scalar.muli v1 c7_i32_1206
  let c3_i32 : BitVec 32 := 3#32
  let v1826 : BitVec 32 := Scalar.addi v1825 c3_i32
  let c28_i32_1214 : BitVec 32 := 28#32
  let c0_i32_1215 : BitVec 32 := 0#32
  let v1844 : BitVec 1 := Scalar.cmpi .eq c28_i32_1214 c0_i32_1215
  let c1_i32_1216 : BitVec 32 := 1#32
  let v1845 : BitVec 32 := Scalar.select v1844 c1_i32_1216 c28_i32_1214
  let v1846 : BitVec 32 := Scalar.remsi v1826 v1845
  let c0_i32_1218 : BitVec 32 := 0#32
  let v1848 : BitVec 1 := Scalar.cmpi .slt v1846 c0_i32_1218
  let c0_i32_1219 : BitVec 32 := 0#32
  let v1849 : BitVec 1 := Scalar.cmpi .slt v1845 c0_i32_1219
  let v1850 : BitVec 1 := Scalar.xori v1848 v1849
  let c0_i32_1217 : BitVec 32 := 0#32
  let v1847 : BitVec 1 := Scalar.cmpi .ne v1846 c0_i32_1217
  let v1851 : BitVec 1 := Scalar.andi v1850 v1847
  let v1852 : BitVec 32 := Scalar.addi v1846 v1845
  let v1853 : BitVec 32 := Scalar.select v1851 v1852 v1846
  let c8_i32_1220 : BitVec 32 := 8#32
  let v1854 : BitVec 32 := Scalar.muli v1853 c8_i32_1220
  v1854
def k0_mult52 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1228 : BitVec 32 := 7#32
  let v1864 : BitVec 32 := Scalar.muli v1 c7_i32_1228
  let c2_i32_1229 : BitVec 32 := 2#32
  let v1865 : BitVec 32 := Scalar.addi v1864 c2_i32_1229
  let c28_i32_1237 : BitVec 32 := 28#32
  let c0_i32_1238 : BitVec 32 := 0#32
  let v1883 : BitVec 1 := Scalar.cmpi .eq c28_i32_1237 c0_i32_1238
  let c1_i32_1239 : BitVec 32 := 1#32
  let v1884 : BitVec 32 := Scalar.select v1883 c1_i32_1239 c28_i32_1237
  let v1885 : BitVec 32 := Scalar.remsi v1865 v1884
  let c0_i32_1241 : BitVec 32 := 0#32
  let v1887 : BitVec 1 := Scalar.cmpi .slt v1885 c0_i32_1241
  let c0_i32_1242 : BitVec 32 := 0#32
  let v1888 : BitVec 1 := Scalar.cmpi .slt v1884 c0_i32_1242
  let v1889 : BitVec 1 := Scalar.xori v1887 v1888
  let c0_i32_1240 : BitVec 32 := 0#32
  let v1886 : BitVec 1 := Scalar.cmpi .ne v1885 c0_i32_1240
  let v1890 : BitVec 1 := Scalar.andi v1889 v1886
  let v1891 : BitVec 32 := Scalar.addi v1885 v1884
  let v1892 : BitVec 32 := Scalar.select v1890 v1891 v1885
  let c8_i32_1243 : BitVec 32 := 8#32
  let v1893 : BitVec 32 := Scalar.muli v1892 c8_i32_1243
  v1893
def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1254 : BitVec 32 := 7#32
  let v1901 : BitVec 32 := Scalar.muli v1 c7_i32_1254
  let c2_i32_1255 : BitVec 32 := 2#32
  let v1902 : BitVec 32 := Scalar.addi v1901 c2_i32_1255
  let c28_i32_1263 : BitVec 32 := 28#32
  let c0_i32_1264 : BitVec 32 := 0#32
  let v1920 : BitVec 1 := Scalar.cmpi .eq c28_i32_1263 c0_i32_1264
  let c1_i32_1265 : BitVec 32 := 1#32
  let v1921 : BitVec 32 := Scalar.select v1920 c1_i32_1265 c28_i32_1263
  let v1922 : BitVec 32 := Scalar.remsi v1902 v1921
  let c0_i32_1267 : BitVec 32 := 0#32
  let v1924 : BitVec 1 := Scalar.cmpi .slt v1922 c0_i32_1267
  let c0_i32_1268 : BitVec 32 := 0#32
  let v1925 : BitVec 1 := Scalar.cmpi .slt v1921 c0_i32_1268
  let v1926 : BitVec 1 := Scalar.xori v1924 v1925
  let c0_i32_1266 : BitVec 32 := 0#32
  let v1923 : BitVec 1 := Scalar.cmpi .ne v1922 c0_i32_1266
  let v1927 : BitVec 1 := Scalar.andi v1926 v1923
  let v1928 : BitVec 32 := Scalar.addi v1922 v1921
  let v1929 : BitVec 32 := Scalar.select v1927 v1928 v1922
  let c8_i32_1269 : BitVec 32 := 8#32
  let v1930 : BitVec 32 := Scalar.muli v1929 c8_i32_1269
  v1930
def k0_mult54 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1280 : BitVec 32 := 7#32
  let v1938 : BitVec 32 := Scalar.muli v1 c7_i32_1280
  let c2_i32_1281 : BitVec 32 := 2#32
  let v1939 : BitVec 32 := Scalar.addi v1938 c2_i32_1281
  let c28_i32_1289 : BitVec 32 := 28#32
  let c0_i32_1290 : BitVec 32 := 0#32
  let v1957 : BitVec 1 := Scalar.cmpi .eq c28_i32_1289 c0_i32_1290
  let c1_i32_1291 : BitVec 32 := 1#32
  let v1958 : BitVec 32 := Scalar.select v1957 c1_i32_1291 c28_i32_1289
  let v1959 : BitVec 32 := Scalar.remsi v1939 v1958
  let c0_i32_1293 : BitVec 32 := 0#32
  let v1961 : BitVec 1 := Scalar.cmpi .slt v1959 c0_i32_1293
  let c0_i32_1294 : BitVec 32 := 0#32
  let v1962 : BitVec 1 := Scalar.cmpi .slt v1958 c0_i32_1294
  let v1963 : BitVec 1 := Scalar.xori v1961 v1962
  let c0_i32_1292 : BitVec 32 := 0#32
  let v1960 : BitVec 1 := Scalar.cmpi .ne v1959 c0_i32_1292
  let v1964 : BitVec 1 := Scalar.andi v1963 v1960
  let v1965 : BitVec 32 := Scalar.addi v1959 v1958
  let v1966 : BitVec 32 := Scalar.select v1964 v1965 v1959
  let c8_i32_1295 : BitVec 32 := 8#32
  let v1967 : BitVec 32 := Scalar.muli v1966 c8_i32_1295
  v1967
def k0_mult55 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1306 : BitVec 32 := 7#32
  let v1975 : BitVec 32 := Scalar.muli v1 c7_i32_1306
  let c1_i32_1307 : BitVec 32 := 1#32
  let v1976 : BitVec 32 := Scalar.addi v1975 c1_i32_1307
  let c28_i32_1315 : BitVec 32 := 28#32
  let c0_i32_1316 : BitVec 32 := 0#32
  let v1994 : BitVec 1 := Scalar.cmpi .eq c28_i32_1315 c0_i32_1316
  let c1_i32_1317 : BitVec 32 := 1#32
  let v1995 : BitVec 32 := Scalar.select v1994 c1_i32_1317 c28_i32_1315
  let v1996 : BitVec 32 := Scalar.remsi v1976 v1995
  let c0_i32_1319 : BitVec 32 := 0#32
  let v1998 : BitVec 1 := Scalar.cmpi .slt v1996 c0_i32_1319
  let c0_i32_1320 : BitVec 32 := 0#32
  let v1999 : BitVec 1 := Scalar.cmpi .slt v1995 c0_i32_1320
  let v2000 : BitVec 1 := Scalar.xori v1998 v1999
  let c0_i32_1318 : BitVec 32 := 0#32
  let v1997 : BitVec 1 := Scalar.cmpi .ne v1996 c0_i32_1318
  let v2001 : BitVec 1 := Scalar.andi v2000 v1997
  let v2002 : BitVec 32 := Scalar.addi v1996 v1995
  let v2003 : BitVec 32 := Scalar.select v2001 v2002 v1996
  let c8_i32_1321 : BitVec 32 := 8#32
  let v2004 : BitVec 32 := Scalar.muli v2003 c8_i32_1321
  v2004
def k0_mult56 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1332 : BitVec 32 := 7#32
  let v2012 : BitVec 32 := Scalar.muli v1 c7_i32_1332
  let c1_i32_1333 : BitVec 32 := 1#32
  let v2013 : BitVec 32 := Scalar.addi v2012 c1_i32_1333
  let c28_i32_1341 : BitVec 32 := 28#32
  let c0_i32_1342 : BitVec 32 := 0#32
  let v2031 : BitVec 1 := Scalar.cmpi .eq c28_i32_1341 c0_i32_1342
  let c1_i32_1343 : BitVec 32 := 1#32
  let v2032 : BitVec 32 := Scalar.select v2031 c1_i32_1343 c28_i32_1341
  let v2033 : BitVec 32 := Scalar.remsi v2013 v2032
  let c0_i32_1345 : BitVec 32 := 0#32
  let v2035 : BitVec 1 := Scalar.cmpi .slt v2033 c0_i32_1345
  let c0_i32_1346 : BitVec 32 := 0#32
  let v2036 : BitVec 1 := Scalar.cmpi .slt v2032 c0_i32_1346
  let v2037 : BitVec 1 := Scalar.xori v2035 v2036
  let c0_i32_1344 : BitVec 32 := 0#32
  let v2034 : BitVec 1 := Scalar.cmpi .ne v2033 c0_i32_1344
  let v2038 : BitVec 1 := Scalar.andi v2037 v2034
  let v2039 : BitVec 32 := Scalar.addi v2033 v2032
  let v2040 : BitVec 32 := Scalar.select v2038 v2039 v2033
  let c8_i32_1347 : BitVec 32 := 8#32
  let v2041 : BitVec 32 := Scalar.muli v2040 c8_i32_1347
  v2041
def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1355 : BitVec 32 := 7#32
  let v2051 : BitVec 32 := Scalar.muli v1 c7_i32_1355
  let c2_i32_1356 : BitVec 32 := 2#32
  let v2052 : BitVec 32 := Scalar.addi v2051 c2_i32_1356
  let c28_i32_1364 : BitVec 32 := 28#32
  let c0_i32_1365 : BitVec 32 := 0#32
  let v2070 : BitVec 1 := Scalar.cmpi .eq c28_i32_1364 c0_i32_1365
  let c1_i32_1366 : BitVec 32 := 1#32
  let v2071 : BitVec 32 := Scalar.select v2070 c1_i32_1366 c28_i32_1364
  let v2072 : BitVec 32 := Scalar.remsi v2052 v2071
  let c0_i32_1368 : BitVec 32 := 0#32
  let v2074 : BitVec 1 := Scalar.cmpi .slt v2072 c0_i32_1368
  let c0_i32_1369 : BitVec 32 := 0#32
  let v2075 : BitVec 1 := Scalar.cmpi .slt v2071 c0_i32_1369
  let v2076 : BitVec 1 := Scalar.xori v2074 v2075
  let c0_i32_1367 : BitVec 32 := 0#32
  let v2073 : BitVec 1 := Scalar.cmpi .ne v2072 c0_i32_1367
  let v2077 : BitVec 1 := Scalar.andi v2076 v2073
  let v2078 : BitVec 32 := Scalar.addi v2072 v2071
  let v2079 : BitVec 32 := Scalar.select v2077 v2078 v2072
  let c8_i32_1370 : BitVec 32 := 8#32
  let v2080 : BitVec 32 := Scalar.muli v2079 c8_i32_1370
  v2080
@[reducible] def k0_t10_loop : Scf.Loop 32 :=
  let c0_i32_1372 : BitVec 32 := 0#32
  let c112_i32_1373 : BitVec 32 := 112#32
  let v2082 : BitVec 32 := Scalar.addi c0_i32_1372 c112_i32_1373
  let c1_i32_1374 : BitVec 32 := 1#32
  ⟨c0_i32_1372, v2082, c1_i32_1374⟩
def k0_off39 (k0_t10 : Fin k0_t10_loop.trips) : Fin 3 → Nat :=
  let c0_i32_4066 : BitVec 32 := 0#32
  let v6139 : Index := Scalar.indexCast c0_i32_4066
  let c0_i32_1372 : BitVec 32 := 0#32
  let c1_i32_1374 : BitVec 32 := 1#32
  let arg25 : BitVec 32 := Scf.iv c0_i32_1372 c1_i32_1374 k0_t10
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk51 (v6158 : IVec S16 32) (v6160 : IVec S16 32) (v6178 : IVec S16 32) : Prop :=
  (∀ a x, ((![v6178, v6158, v6160] : Fin 3 → IVec S16 32) a x).toNat < S24x8x224.size a)
theorem k0_idx51_inb : ∀ (v6158 : IVec S16 32) (v6160 : IVec S16 32) (v6178 : IVec S16 32) (k0_hw51 : k0_chk51 v6158 v6160 v6178), ∀ a x, ((![v6178, v6158, v6160] : Fin 3 → IVec S16 32) a x).toNat < S24x8x224.size a := fun v6158 v6160 v6178 k0_hw51 => k0_hw51

def k0_chk52 (v6158 : IVec S16 32) (v6160 : IVec S16 32) (v6181 : IVec S16 32) : Prop :=
  (∀ a x, ((![v6181, v6158, v6160] : Fin 3 → IVec S16 32) a x).toNat < S24x8x224.size a)
theorem k0_idx52_inb : ∀ (v6158 : IVec S16 32) (v6160 : IVec S16 32) (v6181 : IVec S16 32) (k0_hw52 : k0_chk52 v6158 v6160 v6181), ∀ a x, ((![v6181, v6158, v6160] : Fin 3 → IVec S16 32) a x).toNat < S24x8x224.size a := fun v6158 v6160 v6181 k0_hw52 => k0_hw52
def k0_off40 (k0_t10 : Fin k0_t10_loop.trips) : Fin 3 → Nat :=
  let c0_i32_4084 : BitVec 32 := 0#32
  let v6186 : Index := Scalar.indexCast c0_i32_4084
  let c0_i32_1372 : BitVec 32 := 0#32
  let c1_i32_1374 : BitVec 32 := 1#32
  let arg25 : BitVec 32 := Scf.iv c0_i32_1372 c1_i32_1374 k0_t10
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6187 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6188 : Index := Scalar.indexCast v6138
  ![0, v6187.toNat, v6188.toNat]

def k0_chk53 (v6191 : IVec S16 32) : Prop :=
  (∀ a x, ((![v6191] : Fin 1 → IVec S16 32) a x).toNat < S11264.size a)
theorem k0_idx53_inb : ∀ (v6191 : IVec S16 32) (k0_hw53 : k0_chk53 v6191), ∀ a x, ((![v6191] : Fin 1 → IVec S16 32) a x).toNat < S11264.size a := fun v6191 k0_hw53 => k0_hw53

def k0_chk54 (v6158 : IVec S16 32) (v6160 : IVec S16 32) (v6193 : IVec S16 32) : Prop :=
  (∀ a x, ((![v6193, v6158, v6160] : Fin 3 → IVec S16 32) a x).toNat < S24x8x224.size a)
theorem k0_idx54_inb : ∀ (v6158 : IVec S16 32) (v6160 : IVec S16 32) (v6193 : IVec S16 32) (k0_hw54 : k0_chk54 v6158 v6160 v6193), ∀ a x, ((![v6193, v6158, v6160] : Fin 3 → IVec S16 32) a x).toNat < S24x8x224.size a := fun v6158 v6160 v6193 k0_hw54 => k0_hw54

def k0_chk55 (v6158 : IVec S16 32) (v6160 : IVec S16 32) (v6196 : IVec S16 32) : Prop :=
  (∀ a x, ((![v6196, v6158, v6160] : Fin 3 → IVec S16 32) a x).toNat < S24x8x224.size a)
theorem k0_idx55_inb : ∀ (v6158 : IVec S16 32) (v6160 : IVec S16 32) (v6196 : IVec S16 32) (k0_hw55 : k0_chk55 v6158 v6160 v6196), ∀ a x, ((![v6196, v6158, v6160] : Fin 3 → IVec S16 32) a x).toNat < S24x8x224.size a := fun v6158 v6160 v6196 k0_hw55 => k0_hw55
def k0_off41 (k0_t10 : Fin k0_t10_loop.trips) : Fin 3 → Nat :=
  let c1_i32_4089 : BitVec 32 := 1#32
  let v6201 : Index := Scalar.indexCast c1_i32_4089
  let c0_i32_1372 : BitVec 32 := 0#32
  let c1_i32_1374 : BitVec 32 := 1#32
  let arg25 : BitVec 32 := Scf.iv c0_i32_1372 c1_i32_1374 k0_t10
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6202 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6203 : Index := Scalar.indexCast v6138
  ![1, v6202.toNat, v6203.toNat]

def k0_chk56 (v6206 : IVec S16 32) : Prop :=
  (∀ a x, ((![v6206] : Fin 1 → IVec S16 32) a x).toNat < S11264.size a)
theorem k0_idx56_inb : ∀ (v6206 : IVec S16 32) (k0_hw56 : k0_chk56 v6206), ∀ a x, ((![v6206] : Fin 1 → IVec S16 32) a x).toNat < S11264.size a := fun v6206 k0_hw56 => k0_hw56

def k0_chk57 (v6158 : IVec S16 32) (v6160 : IVec S16 32) (v6208 : IVec S16 32) : Prop :=
  (∀ a x, ((![v6208, v6158, v6160] : Fin 3 → IVec S16 32) a x).toNat < S24x8x224.size a)
theorem k0_idx57_inb : ∀ (v6158 : IVec S16 32) (v6160 : IVec S16 32) (v6208 : IVec S16 32) (k0_hw57 : k0_chk57 v6158 v6160 v6208), ∀ a x, ((![v6208, v6158, v6160] : Fin 3 → IVec S16 32) a x).toNat < S24x8x224.size a := fun v6158 v6160 v6208 k0_hw57 => k0_hw57

def k0_chk58 (v6158 : IVec S16 32) (v6160 : IVec S16 32) (v6211 : IVec S16 32) : Prop :=
  (∀ a x, ((![v6211, v6158, v6160] : Fin 3 → IVec S16 32) a x).toNat < S24x8x224.size a)
theorem k0_idx58_inb : ∀ (v6158 : IVec S16 32) (v6160 : IVec S16 32) (v6211 : IVec S16 32) (k0_hw58 : k0_chk58 v6158 v6160 v6211), ∀ a x, ((![v6211, v6158, v6160] : Fin 3 → IVec S16 32) a x).toNat < S24x8x224.size a := fun v6158 v6160 v6211 k0_hw58 => k0_hw58
def k0_off42 (k0_t10 : Fin k0_t10_loop.trips) : Fin 3 → Nat :=
  let c2_i32_4093 : BitVec 32 := 2#32
  let v6216 : Index := Scalar.indexCast c2_i32_4093
  let c0_i32_1372 : BitVec 32 := 0#32
  let c1_i32_1374 : BitVec 32 := 1#32
  let arg25 : BitVec 32 := Scf.iv c0_i32_1372 c1_i32_1374 k0_t10
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6217 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6218 : Index := Scalar.indexCast v6138
  ![2, v6217.toNat, v6218.toNat]

def k0_chk59 (v6221 : IVec S16 32) : Prop :=
  (∀ a x, ((![v6221] : Fin 1 → IVec S16 32) a x).toNat < S11264.size a)
theorem k0_idx59_inb : ∀ (v6221 : IVec S16 32) (k0_hw59 : k0_chk59 v6221), ∀ a x, ((![v6221] : Fin 1 → IVec S16 32) a x).toNat < S11264.size a := fun v6221 k0_hw59 => k0_hw59

def k0_chk60 (v6158 : IVec S16 32) (v6160 : IVec S16 32) (v6223 : IVec S16 32) : Prop :=
  (∀ a x, ((![v6223, v6158, v6160] : Fin 3 → IVec S16 32) a x).toNat < S24x8x224.size a)
theorem k0_idx60_inb : ∀ (v6158 : IVec S16 32) (v6160 : IVec S16 32) (v6223 : IVec S16 32) (k0_hw60 : k0_chk60 v6158 v6160 v6223), ∀ a x, ((![v6223, v6158, v6160] : Fin 3 → IVec S16 32) a x).toNat < S24x8x224.size a := fun v6158 v6160 v6223 k0_hw60 => k0_hw60

def k0_chk61 (v6158 : IVec S16 32) (v6160 : IVec S16 32) (v6226 : IVec S16 32) : Prop :=
  (∀ a x, ((![v6226, v6158, v6160] : Fin 3 → IVec S16 32) a x).toNat < S24x8x224.size a)
theorem k0_idx61_inb : ∀ (v6158 : IVec S16 32) (v6160 : IVec S16 32) (v6226 : IVec S16 32) (k0_hw61 : k0_chk61 v6158 v6160 v6226), ∀ a x, ((![v6226, v6158, v6160] : Fin 3 → IVec S16 32) a x).toNat < S24x8x224.size a := fun v6158 v6160 v6226 k0_hw61 => k0_hw61
def k0_off43 (k0_t10 : Fin k0_t10_loop.trips) : Fin 3 → Nat :=
  let c3_i32_4097 : BitVec 32 := 3#32
  let v6231 : Index := Scalar.indexCast c3_i32_4097
  let c0_i32_1372 : BitVec 32 := 0#32
  let c1_i32_1374 : BitVec 32 := 1#32
  let arg25 : BitVec 32 := Scf.iv c0_i32_1372 c1_i32_1374 k0_t10
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6232 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6233 : Index := Scalar.indexCast v6138
  ![3, v6232.toNat, v6233.toNat]

def k0_chk62 (v6236 : IVec S16 32) : Prop :=
  (∀ a x, ((![v6236] : Fin 1 → IVec S16 32) a x).toNat < S11264.size a)
theorem k0_idx62_inb : ∀ (v6236 : IVec S16 32) (k0_hw62 : k0_chk62 v6236), ∀ a x, ((![v6236] : Fin 1 → IVec S16 32) a x).toNat < S11264.size a := fun v6236 k0_hw62 => k0_hw62

def k0_chk63 (v6241 : IVec S16 32) : Prop :=
  (∀ a x, ((![v6241] : Fin 1 → IVec S16 32) a x).toNat < S11264.size a)
theorem k0_idx63_inb : ∀ (v6241 : IVec S16 32) (k0_hw63 : k0_chk63 v6241), ∀ a x, ((![v6241] : Fin 1 → IVec S16 32) a x).toNat < S11264.size a := fun v6241 k0_hw63 => k0_hw63
def k0_mult58 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1376 : BitVec 32 := 7#32
  let v2083 : BitVec 32 := Scalar.muli v1 c7_i32_1376
  let c2_i32_1377 : BitVec 32 := 2#32
  let v2084 : BitVec 32 := Scalar.addi v2083 c2_i32_1377
  let c28_i32_1385 : BitVec 32 := 28#32
  let c0_i32_1386 : BitVec 32 := 0#32
  let v2102 : BitVec 1 := Scalar.cmpi .eq c28_i32_1385 c0_i32_1386
  let c1_i32_1387 : BitVec 32 := 1#32
  let v2103 : BitVec 32 := Scalar.select v2102 c1_i32_1387 c28_i32_1385
  let v2104 : BitVec 32 := Scalar.remsi v2084 v2103
  let c0_i32_1389 : BitVec 32 := 0#32
  let v2106 : BitVec 1 := Scalar.cmpi .slt v2104 c0_i32_1389
  let c0_i32_1390 : BitVec 32 := 0#32
  let v2107 : BitVec 1 := Scalar.cmpi .slt v2103 c0_i32_1390
  let v2108 : BitVec 1 := Scalar.xori v2106 v2107
  let c0_i32_1388 : BitVec 32 := 0#32
  let v2105 : BitVec 1 := Scalar.cmpi .ne v2104 c0_i32_1388
  let v2109 : BitVec 1 := Scalar.andi v2108 v2105
  let v2110 : BitVec 32 := Scalar.addi v2104 v2103
  let v2111 : BitVec 32 := Scalar.select v2109 v2110 v2104
  let c8_i32_1391 : BitVec 32 := 8#32
  let v2112 : BitVec 32 := Scalar.muli v2111 c8_i32_1391
  v2112
def k0_mult59 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1396 : BitVec 32 := 7#32
  let v2118 : BitVec 32 := Scalar.muli v1 c7_i32_1396
  let c2_i32_1397 : BitVec 32 := 2#32
  let v2119 : BitVec 32 := Scalar.addi v2118 c2_i32_1397
  let c28_i32_1405 : BitVec 32 := 28#32
  let c0_i32_1406 : BitVec 32 := 0#32
  let v2137 : BitVec 1 := Scalar.cmpi .eq c28_i32_1405 c0_i32_1406
  let c1_i32_1407 : BitVec 32 := 1#32
  let v2138 : BitVec 32 := Scalar.select v2137 c1_i32_1407 c28_i32_1405
  let v2139 : BitVec 32 := Scalar.remsi v2119 v2138
  let c0_i32_1409 : BitVec 32 := 0#32
  let v2141 : BitVec 1 := Scalar.cmpi .slt v2139 c0_i32_1409
  let c0_i32_1410 : BitVec 32 := 0#32
  let v2142 : BitVec 1 := Scalar.cmpi .slt v2138 c0_i32_1410
  let v2143 : BitVec 1 := Scalar.xori v2141 v2142
  let c0_i32_1408 : BitVec 32 := 0#32
  let v2140 : BitVec 1 := Scalar.cmpi .ne v2139 c0_i32_1408
  let v2144 : BitVec 1 := Scalar.andi v2143 v2140
  let v2145 : BitVec 32 := Scalar.addi v2139 v2138
  let v2146 : BitVec 32 := Scalar.select v2144 v2145 v2139
  let c8_i32_1411 : BitVec 32 := 8#32
  let v2147 : BitVec 32 := Scalar.muli v2146 c8_i32_1411
  v2147
def k0_mult60 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1422 : BitVec 32 := 7#32
  let v2155 : BitVec 32 := Scalar.muli v1 c7_i32_1422
  let c2_i32_1423 : BitVec 32 := 2#32
  let v2156 : BitVec 32 := Scalar.addi v2155 c2_i32_1423
  let c28_i32_1431 : BitVec 32 := 28#32
  let c0_i32_1432 : BitVec 32 := 0#32
  let v2174 : BitVec 1 := Scalar.cmpi .eq c28_i32_1431 c0_i32_1432
  let c1_i32_1433 : BitVec 32 := 1#32
  let v2175 : BitVec 32 := Scalar.select v2174 c1_i32_1433 c28_i32_1431
  let v2176 : BitVec 32 := Scalar.remsi v2156 v2175
  let c0_i32_1435 : BitVec 32 := 0#32
  let v2178 : BitVec 1 := Scalar.cmpi .slt v2176 c0_i32_1435
  let c0_i32_1436 : BitVec 32 := 0#32
  let v2179 : BitVec 1 := Scalar.cmpi .slt v2175 c0_i32_1436
  let v2180 : BitVec 1 := Scalar.xori v2178 v2179
  let c0_i32_1434 : BitVec 32 := 0#32
  let v2177 : BitVec 1 := Scalar.cmpi .ne v2176 c0_i32_1434
  let v2181 : BitVec 1 := Scalar.andi v2180 v2177
  let v2182 : BitVec 32 := Scalar.addi v2176 v2175
  let v2183 : BitVec 32 := Scalar.select v2181 v2182 v2176
  let c8_i32_1437 : BitVec 32 := 8#32
  let v2184 : BitVec 32 := Scalar.muli v2183 c8_i32_1437
  v2184
def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1448 : BitVec 32 := 7#32
  let v2192 : BitVec 32 := Scalar.muli v1 c7_i32_1448
  let c2_i32_1449 : BitVec 32 := 2#32
  let v2193 : BitVec 32 := Scalar.addi v2192 c2_i32_1449
  let c28_i32_1457 : BitVec 32 := 28#32
  let c0_i32_1458 : BitVec 32 := 0#32
  let v2211 : BitVec 1 := Scalar.cmpi .eq c28_i32_1457 c0_i32_1458
  let c1_i32_1459 : BitVec 32 := 1#32
  let v2212 : BitVec 32 := Scalar.select v2211 c1_i32_1459 c28_i32_1457
  let v2213 : BitVec 32 := Scalar.remsi v2193 v2212
  let c0_i32_1461 : BitVec 32 := 0#32
  let v2215 : BitVec 1 := Scalar.cmpi .slt v2213 c0_i32_1461
  let c0_i32_1462 : BitVec 32 := 0#32
  let v2216 : BitVec 1 := Scalar.cmpi .slt v2212 c0_i32_1462
  let v2217 : BitVec 1 := Scalar.xori v2215 v2216
  let c0_i32_1460 : BitVec 32 := 0#32
  let v2214 : BitVec 1 := Scalar.cmpi .ne v2213 c0_i32_1460
  let v2218 : BitVec 1 := Scalar.andi v2217 v2214
  let v2219 : BitVec 32 := Scalar.addi v2213 v2212
  let v2220 : BitVec 32 := Scalar.select v2218 v2219 v2213
  let c8_i32_1463 : BitVec 32 := 8#32
  let v2221 : BitVec 32 := Scalar.muli v2220 c8_i32_1463
  v2221
def k0_mult62 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1468 : BitVec 32 := 7#32
  let v2227 : BitVec 32 := Scalar.muli v1 c7_i32_1468
  let c2_i32_1469 : BitVec 32 := 2#32
  let v2228 : BitVec 32 := Scalar.addi v2227 c2_i32_1469
  let c28_i32_1477 : BitVec 32 := 28#32
  let c0_i32_1478 : BitVec 32 := 0#32
  let v2246 : BitVec 1 := Scalar.cmpi .eq c28_i32_1477 c0_i32_1478
  let c1_i32_1479 : BitVec 32 := 1#32
  let v2247 : BitVec 32 := Scalar.select v2246 c1_i32_1479 c28_i32_1477
  let v2248 : BitVec 32 := Scalar.remsi v2228 v2247
  let c0_i32_1481 : BitVec 32 := 0#32
  let v2250 : BitVec 1 := Scalar.cmpi .slt v2248 c0_i32_1481
  let c0_i32_1482 : BitVec 32 := 0#32
  let v2251 : BitVec 1 := Scalar.cmpi .slt v2247 c0_i32_1482
  let v2252 : BitVec 1 := Scalar.xori v2250 v2251
  let c0_i32_1480 : BitVec 32 := 0#32
  let v2249 : BitVec 1 := Scalar.cmpi .ne v2248 c0_i32_1480
  let v2253 : BitVec 1 := Scalar.andi v2252 v2249
  let v2254 : BitVec 32 := Scalar.addi v2248 v2247
  let v2255 : BitVec 32 := Scalar.select v2253 v2254 v2248
  let c8_i32_1483 : BitVec 32 := 8#32
  let v2256 : BitVec 32 := Scalar.muli v2255 c8_i32_1483
  v2256
def k0_mult63 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1494 : BitVec 32 := 7#32
  let v2264 : BitVec 32 := Scalar.muli v1 c7_i32_1494
  let c2_i32_1495 : BitVec 32 := 2#32
  let v2265 : BitVec 32 := Scalar.addi v2264 c2_i32_1495
  let c28_i32_1503 : BitVec 32 := 28#32
  let c0_i32_1504 : BitVec 32 := 0#32
  let v2283 : BitVec 1 := Scalar.cmpi .eq c28_i32_1503 c0_i32_1504
  let c1_i32_1505 : BitVec 32 := 1#32
  let v2284 : BitVec 32 := Scalar.select v2283 c1_i32_1505 c28_i32_1503
  let v2285 : BitVec 32 := Scalar.remsi v2265 v2284
  let c0_i32_1507 : BitVec 32 := 0#32
  let v2287 : BitVec 1 := Scalar.cmpi .slt v2285 c0_i32_1507
  let c0_i32_1508 : BitVec 32 := 0#32
  let v2288 : BitVec 1 := Scalar.cmpi .slt v2284 c0_i32_1508
  let v2289 : BitVec 1 := Scalar.xori v2287 v2288
  let c0_i32_1506 : BitVec 32 := 0#32
  let v2286 : BitVec 1 := Scalar.cmpi .ne v2285 c0_i32_1506
  let v2290 : BitVec 1 := Scalar.andi v2289 v2286
  let v2291 : BitVec 32 := Scalar.addi v2285 v2284
  let v2292 : BitVec 32 := Scalar.select v2290 v2291 v2285
  let c8_i32_1509 : BitVec 32 := 8#32
  let v2293 : BitVec 32 := Scalar.muli v2292 c8_i32_1509
  v2293
@[reducible] def k0_t11_loop : Scf.Loop 32 :=
  let c0_i32_1511 : BitVec 32 := 0#32
  let c112_i32_1512 : BitVec 32 := 112#32
  let v2295 : BitVec 32 := Scalar.addi c0_i32_1511 c112_i32_1512
  let c1_i32_1513 : BitVec 32 := 1#32
  ⟨c0_i32_1511, v2295, c1_i32_1513⟩
def k0_off44 (k0_t11 : Fin k0_t11_loop.trips) : Fin 3 → Nat :=
  let c0_i32_4066 : BitVec 32 := 0#32
  let v6139 : Index := Scalar.indexCast c0_i32_4066
  let c0_i32_1511 : BitVec 32 := 0#32
  let c1_i32_1513 : BitVec 32 := 1#32
  let arg25 : BitVec 32 := Scf.iv c0_i32_1511 c1_i32_1513 k0_t11
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk64 (v6158 : IVec S16 32) (v6160 : IVec S16 32) (v6164 : IVec S16 32) : Prop :=
  (∀ a x, ((![v6164, v6158, v6160] : Fin 3 → IVec S16 32) a x).toNat < S24x8x224.size a)
theorem k0_idx64_inb : ∀ (v6158 : IVec S16 32) (v6160 : IVec S16 32) (v6164 : IVec S16 32) (k0_hw64 : k0_chk64 v6158 v6160 v6164), ∀ a x, ((![v6164, v6158, v6160] : Fin 3 → IVec S16 32) a x).toNat < S24x8x224.size a := fun v6158 v6160 v6164 k0_hw64 => k0_hw64
def k0_off45 (k0_t11 : Fin k0_t11_loop.trips) : Fin 3 → Nat :=
  let c0_i32_4076 : BitVec 32 := 0#32
  let v6168 : Index := Scalar.indexCast c0_i32_4076
  let c0_i32_1511 : BitVec 32 := 0#32
  let c1_i32_1513 : BitVec 32 := 1#32
  let arg25 : BitVec 32 := Scf.iv c0_i32_1511 c1_i32_1513 k0_t11
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk65 (v6173 : IVec S16 32) : Prop :=
  (∀ a x, ((![v6173] : Fin 1 → IVec S16 32) a x).toNat < S11264.size a)
theorem k0_idx65_inb : ∀ (v6173 : IVec S16 32) (k0_hw65 : k0_chk65 v6173), ∀ a x, ((![v6173] : Fin 1 → IVec S16 32) a x).toNat < S11264.size a := fun v6173 k0_hw65 => k0_hw65

def k0_chk66 (v6158 : IVec S16 32) (v6160 : IVec S16 32) (v6177 : IVec S16 32) : Prop :=
  (∀ a x, ((![v6177, v6158, v6160] : Fin 3 → IVec S16 32) a x).toNat < S24x8x224.size a)
theorem k0_idx66_inb : ∀ (v6158 : IVec S16 32) (v6160 : IVec S16 32) (v6177 : IVec S16 32) (k0_hw66 : k0_chk66 v6158 v6160 v6177), ∀ a x, ((![v6177, v6158, v6160] : Fin 3 → IVec S16 32) a x).toNat < S24x8x224.size a := fun v6158 v6160 v6177 k0_hw66 => k0_hw66
def k0_off46 (k0_t11 : Fin k0_t11_loop.trips) : Fin 3 → Nat :=
  let c1_i32_4080 : BitVec 32 := 1#32
  let v6181 : Index := Scalar.indexCast c1_i32_4080
  let c0_i32_1511 : BitVec 32 := 0#32
  let c1_i32_1513 : BitVec 32 := 1#32
  let arg25 : BitVec 32 := Scf.iv c0_i32_1511 c1_i32_1513 k0_t11
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk67 (v6186 : IVec S16 32) : Prop :=
  (∀ a x, ((![v6186] : Fin 1 → IVec S16 32) a x).toNat < S11264.size a)
theorem k0_idx67_inb : ∀ (v6186 : IVec S16 32) (k0_hw67 : k0_chk67 v6186), ∀ a x, ((![v6186] : Fin 1 → IVec S16 32) a x).toNat < S11264.size a := fun v6186 k0_hw67 => k0_hw67

def k0_chk68 (v6158 : IVec S16 32) (v6160 : IVec S16 32) (v6190 : IVec S16 32) : Prop :=
  (∀ a x, ((![v6190, v6158, v6160] : Fin 3 → IVec S16 32) a x).toNat < S24x8x224.size a)
theorem k0_idx68_inb : ∀ (v6158 : IVec S16 32) (v6160 : IVec S16 32) (v6190 : IVec S16 32) (k0_hw68 : k0_chk68 v6158 v6160 v6190), ∀ a x, ((![v6190, v6158, v6160] : Fin 3 → IVec S16 32) a x).toNat < S24x8x224.size a := fun v6158 v6160 v6190 k0_hw68 => k0_hw68
def k0_off47 (k0_t11 : Fin k0_t11_loop.trips) : Fin 3 → Nat :=
  let c2_i32_4084 : BitVec 32 := 2#32
  let v6194 : Index := Scalar.indexCast c2_i32_4084
  let c0_i32_1511 : BitVec 32 := 0#32
  let c1_i32_1513 : BitVec 32 := 1#32
  let arg25 : BitVec 32 := Scf.iv c0_i32_1511 c1_i32_1513 k0_t11
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6195 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6196 : Index := Scalar.indexCast v6138
  ![2, v6195.toNat, v6196.toNat]

def k0_chk69 (v6199 : IVec S16 32) : Prop :=
  (∀ a x, ((![v6199] : Fin 1 → IVec S16 32) a x).toNat < S11264.size a)
theorem k0_idx69_inb : ∀ (v6199 : IVec S16 32) (k0_hw69 : k0_chk69 v6199), ∀ a x, ((![v6199] : Fin 1 → IVec S16 32) a x).toNat < S11264.size a := fun v6199 k0_hw69 => k0_hw69
def k0_mult64 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1515 : BitVec 32 := 7#32
  let v2296 : BitVec 32 := Scalar.muli v1 c7_i32_1515
  let c3_i32_1516 : BitVec 32 := 3#32
  let v2297 : BitVec 32 := Scalar.addi v2296 c3_i32_1516
  let c28_i32_1524 : BitVec 32 := 28#32
  let c0_i32_1525 : BitVec 32 := 0#32
  let v2315 : BitVec 1 := Scalar.cmpi .eq c28_i32_1524 c0_i32_1525
  let c1_i32_1526 : BitVec 32 := 1#32
  let v2316 : BitVec 32 := Scalar.select v2315 c1_i32_1526 c28_i32_1524
  let v2317 : BitVec 32 := Scalar.remsi v2297 v2316
  let c0_i32_1528 : BitVec 32 := 0#32
  let v2319 : BitVec 1 := Scalar.cmpi .slt v2317 c0_i32_1528
  let c0_i32_1529 : BitVec 32 := 0#32
  let v2320 : BitVec 1 := Scalar.cmpi .slt v2316 c0_i32_1529
  let v2321 : BitVec 1 := Scalar.xori v2319 v2320
  let c0_i32_1527 : BitVec 32 := 0#32
  let v2318 : BitVec 1 := Scalar.cmpi .ne v2317 c0_i32_1527
  let v2322 : BitVec 1 := Scalar.andi v2321 v2318
  let v2323 : BitVec 32 := Scalar.addi v2317 v2316
  let v2324 : BitVec 32 := Scalar.select v2322 v2323 v2317
  let c8_i32_1530 : BitVec 32 := 8#32
  let v2325 : BitVec 32 := Scalar.muli v2324 c8_i32_1530
  v2325
def k0_mult65 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1541 : BitVec 32 := 7#32
  let v2333 : BitVec 32 := Scalar.muli v1 c7_i32_1541
  let c2_i32_1542 : BitVec 32 := 2#32
  let v2334 : BitVec 32 := Scalar.addi v2333 c2_i32_1542
  let c28_i32_1550 : BitVec 32 := 28#32
  let c0_i32_1551 : BitVec 32 := 0#32
  let v2352 : BitVec 1 := Scalar.cmpi .eq c28_i32_1550 c0_i32_1551
  let c1_i32_1552 : BitVec 32 := 1#32
  let v2353 : BitVec 32 := Scalar.select v2352 c1_i32_1552 c28_i32_1550
  let v2354 : BitVec 32 := Scalar.remsi v2334 v2353
  let c0_i32_1554 : BitVec 32 := 0#32
  let v2356 : BitVec 1 := Scalar.cmpi .slt v2354 c0_i32_1554
  let c0_i32_1555 : BitVec 32 := 0#32
  let v2357 : BitVec 1 := Scalar.cmpi .slt v2353 c0_i32_1555
  let v2358 : BitVec 1 := Scalar.xori v2356 v2357
  let c0_i32_1553 : BitVec 32 := 0#32
  let v2355 : BitVec 1 := Scalar.cmpi .ne v2354 c0_i32_1553
  let v2359 : BitVec 1 := Scalar.andi v2358 v2355
  let v2360 : BitVec 32 := Scalar.addi v2354 v2353
  let v2361 : BitVec 32 := Scalar.select v2359 v2360 v2354
  let c8_i32_1556 : BitVec 32 := 8#32
  let v2362 : BitVec 32 := Scalar.muli v2361 c8_i32_1556
  v2362
def k0_mult66 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1567 : BitVec 32 := 7#32
  let v2370 : BitVec 32 := Scalar.muli v1 c7_i32_1567
  let c2_i32_1568 : BitVec 32 := 2#32
  let v2371 : BitVec 32 := Scalar.addi v2370 c2_i32_1568
  let c28_i32_1576 : BitVec 32 := 28#32
  let c0_i32_1577 : BitVec 32 := 0#32
  let v2389 : BitVec 1 := Scalar.cmpi .eq c28_i32_1576 c0_i32_1577
  let c1_i32_1578 : BitVec 32 := 1#32
  let v2390 : BitVec 32 := Scalar.select v2389 c1_i32_1578 c28_i32_1576
  let v2391 : BitVec 32 := Scalar.remsi v2371 v2390
  let c0_i32_1580 : BitVec 32 := 0#32
  let v2393 : BitVec 1 := Scalar.cmpi .slt v2391 c0_i32_1580
  let c0_i32_1581 : BitVec 32 := 0#32
  let v2394 : BitVec 1 := Scalar.cmpi .slt v2390 c0_i32_1581
  let v2395 : BitVec 1 := Scalar.xori v2393 v2394
  let c0_i32_1579 : BitVec 32 := 0#32
  let v2392 : BitVec 1 := Scalar.cmpi .ne v2391 c0_i32_1579
  let v2396 : BitVec 1 := Scalar.andi v2395 v2392
  let v2397 : BitVec 32 := Scalar.addi v2391 v2390
  let v2398 : BitVec 32 := Scalar.select v2396 v2397 v2391
  let c8_i32_1582 : BitVec 32 := 8#32
  let v2399 : BitVec 32 := Scalar.muli v2398 c8_i32_1582
  v2399
def k0_mult67 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1593 : BitVec 32 := 7#32
  let v2407 : BitVec 32 := Scalar.muli v1 c7_i32_1593
  let c2_i32_1594 : BitVec 32 := 2#32
  let v2408 : BitVec 32 := Scalar.addi v2407 c2_i32_1594
  let c28_i32_1602 : BitVec 32 := 28#32
  let c0_i32_1603 : BitVec 32 := 0#32
  let v2426 : BitVec 1 := Scalar.cmpi .eq c28_i32_1602 c0_i32_1603
  let c1_i32_1604 : BitVec 32 := 1#32
  let v2427 : BitVec 32 := Scalar.select v2426 c1_i32_1604 c28_i32_1602
  let v2428 : BitVec 32 := Scalar.remsi v2408 v2427
  let c0_i32_1606 : BitVec 32 := 0#32
  let v2430 : BitVec 1 := Scalar.cmpi .slt v2428 c0_i32_1606
  let c0_i32_1607 : BitVec 32 := 0#32
  let v2431 : BitVec 1 := Scalar.cmpi .slt v2427 c0_i32_1607
  let v2432 : BitVec 1 := Scalar.xori v2430 v2431
  let c0_i32_1605 : BitVec 32 := 0#32
  let v2429 : BitVec 1 := Scalar.cmpi .ne v2428 c0_i32_1605
  let v2433 : BitVec 1 := Scalar.andi v2432 v2429
  let v2434 : BitVec 32 := Scalar.addi v2428 v2427
  let v2435 : BitVec 32 := Scalar.select v2433 v2434 v2428
  let c8_i32_1608 : BitVec 32 := 8#32
  let v2436 : BitVec 32 := Scalar.muli v2435 c8_i32_1608
  v2436
def k0_mult68 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1619 : BitVec 32 := 7#32
  let v2444 : BitVec 32 := Scalar.muli v1 c7_i32_1619
  let c2_i32_1620 : BitVec 32 := 2#32
  let v2445 : BitVec 32 := Scalar.addi v2444 c2_i32_1620
  let c28_i32_1628 : BitVec 32 := 28#32
  let c0_i32_1629 : BitVec 32 := 0#32
  let v2463 : BitVec 1 := Scalar.cmpi .eq c28_i32_1628 c0_i32_1629
  let c1_i32_1630 : BitVec 32 := 1#32
  let v2464 : BitVec 32 := Scalar.select v2463 c1_i32_1630 c28_i32_1628
  let v2465 : BitVec 32 := Scalar.remsi v2445 v2464
  let c0_i32_1632 : BitVec 32 := 0#32
  let v2467 : BitVec 1 := Scalar.cmpi .slt v2465 c0_i32_1632
  let c0_i32_1633 : BitVec 32 := 0#32
  let v2468 : BitVec 1 := Scalar.cmpi .slt v2464 c0_i32_1633
  let v2469 : BitVec 1 := Scalar.xori v2467 v2468
  let c0_i32_1631 : BitVec 32 := 0#32
  let v2466 : BitVec 1 := Scalar.cmpi .ne v2465 c0_i32_1631
  let v2470 : BitVec 1 := Scalar.andi v2469 v2466
  let v2471 : BitVec 32 := Scalar.addi v2465 v2464
  let v2472 : BitVec 32 := Scalar.select v2470 v2471 v2465
  let c8_i32_1634 : BitVec 32 := 8#32
  let v2473 : BitVec 32 := Scalar.muli v2472 c8_i32_1634
  v2473
@[reducible] def k0_t12_loop : Scf.Loop 32 :=
  let c0_i32_1636 : BitVec 32 := 0#32
  let c112_i32_1637 : BitVec 32 := 112#32
  let v2475 : BitVec 32 := Scalar.addi c0_i32_1636 c112_i32_1637
  let c1_i32_1638 : BitVec 32 := 1#32
  ⟨c0_i32_1636, v2475, c1_i32_1638⟩
def k0_off48 (k0_t12 : Fin k0_t12_loop.trips) : Fin 3 → Nat :=
  let c0_i32_4066 : BitVec 32 := 0#32
  let v6139 : Index := Scalar.indexCast c0_i32_4066
  let c0_i32_1636 : BitVec 32 := 0#32
  let c1_i32_1638 : BitVec 32 := 1#32
  let arg25 : BitVec 32 := Scf.iv c0_i32_1636 c1_i32_1638 k0_t12
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk70 (v6158 : IVec S16 32) (v6160 : IVec S16 32) (v6164 : IVec S16 32) : Prop :=
  (∀ a x, ((![v6164, v6158, v6160] : Fin 3 → IVec S16 32) a x).toNat < S24x8x224.size a)
theorem k0_idx70_inb : ∀ (v6158 : IVec S16 32) (v6160 : IVec S16 32) (v6164 : IVec S16 32) (k0_hw70 : k0_chk70 v6158 v6160 v6164), ∀ a x, ((![v6164, v6158, v6160] : Fin 3 → IVec S16 32) a x).toNat < S24x8x224.size a := fun v6158 v6160 v6164 k0_hw70 => k0_hw70
def k0_off49 (k0_t12 : Fin k0_t12_loop.trips) : Fin 3 → Nat :=
  let c0_i32_4076 : BitVec 32 := 0#32
  let v6168 : Index := Scalar.indexCast c0_i32_4076
  let c0_i32_1636 : BitVec 32 := 0#32
  let c1_i32_1638 : BitVec 32 := 1#32
  let arg25 : BitVec 32 := Scf.iv c0_i32_1636 c1_i32_1638 k0_t12
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk71 (v6173 : IVec S16 32) : Prop :=
  (∀ a x, ((![v6173] : Fin 1 → IVec S16 32) a x).toNat < S11264.size a)
theorem k0_idx71_inb : ∀ (v6173 : IVec S16 32) (k0_hw71 : k0_chk71 v6173), ∀ a x, ((![v6173] : Fin 1 → IVec S16 32) a x).toNat < S11264.size a := fun v6173 k0_hw71 => k0_hw71

def k0_chk72 (v6158 : IVec S16 32) (v6160 : IVec S16 32) (v6177 : IVec S16 32) : Prop :=
  (∀ a x, ((![v6177, v6158, v6160] : Fin 3 → IVec S16 32) a x).toNat < S24x8x224.size a)
theorem k0_idx72_inb : ∀ (v6158 : IVec S16 32) (v6160 : IVec S16 32) (v6177 : IVec S16 32) (k0_hw72 : k0_chk72 v6158 v6160 v6177), ∀ a x, ((![v6177, v6158, v6160] : Fin 3 → IVec S16 32) a x).toNat < S24x8x224.size a := fun v6158 v6160 v6177 k0_hw72 => k0_hw72
def k0_off50 (k0_t12 : Fin k0_t12_loop.trips) : Fin 3 → Nat :=
  let c1_i32_4080 : BitVec 32 := 1#32
  let v6181 : Index := Scalar.indexCast c1_i32_4080
  let c0_i32_1636 : BitVec 32 := 0#32
  let c1_i32_1638 : BitVec 32 := 1#32
  let arg25 : BitVec 32 := Scf.iv c0_i32_1636 c1_i32_1638 k0_t12
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk73 (v6186 : IVec S16 32) : Prop :=
  (∀ a x, ((![v6186] : Fin 1 → IVec S16 32) a x).toNat < S11264.size a)
theorem k0_idx73_inb : ∀ (v6186 : IVec S16 32) (k0_hw73 : k0_chk73 v6186), ∀ a x, ((![v6186] : Fin 1 → IVec S16 32) a x).toNat < S11264.size a := fun v6186 k0_hw73 => k0_hw73
def k0_mult69 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1640 : BitVec 32 := 7#32
  let v2476 : BitVec 32 := Scalar.muli v1 c7_i32_1640
  let c3_i32_1641 : BitVec 32 := 3#32
  let v2477 : BitVec 32 := Scalar.addi v2476 c3_i32_1641
  let c28_i32_1649 : BitVec 32 := 28#32
  let c0_i32_1650 : BitVec 32 := 0#32
  let v2495 : BitVec 1 := Scalar.cmpi .eq c28_i32_1649 c0_i32_1650
  let c1_i32_1651 : BitVec 32 := 1#32
  let v2496 : BitVec 32 := Scalar.select v2495 c1_i32_1651 c28_i32_1649
  let v2497 : BitVec 32 := Scalar.remsi v2477 v2496
  let c0_i32_1653 : BitVec 32 := 0#32
  let v2499 : BitVec 1 := Scalar.cmpi .slt v2497 c0_i32_1653
  let c0_i32_1654 : BitVec 32 := 0#32
  let v2500 : BitVec 1 := Scalar.cmpi .slt v2496 c0_i32_1654
  let v2501 : BitVec 1 := Scalar.xori v2499 v2500
  let c0_i32_1652 : BitVec 32 := 0#32
  let v2498 : BitVec 1 := Scalar.cmpi .ne v2497 c0_i32_1652
  let v2502 : BitVec 1 := Scalar.andi v2501 v2498
  let v2503 : BitVec 32 := Scalar.addi v2497 v2496
  let v2504 : BitVec 32 := Scalar.select v2502 v2503 v2497
  let c8_i32_1655 : BitVec 32 := 8#32
  let v2505 : BitVec 32 := Scalar.muli v2504 c8_i32_1655
  v2505
def k0_mult70 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1666 : BitVec 32 := 7#32
  let v2513 : BitVec 32 := Scalar.muli v1 c7_i32_1666
  let c2_i32_1667 : BitVec 32 := 2#32
  let v2514 : BitVec 32 := Scalar.addi v2513 c2_i32_1667
  let c28_i32_1675 : BitVec 32 := 28#32
  let c0_i32_1676 : BitVec 32 := 0#32
  let v2532 : BitVec 1 := Scalar.cmpi .eq c28_i32_1675 c0_i32_1676
  let c1_i32_1677 : BitVec 32 := 1#32
  let v2533 : BitVec 32 := Scalar.select v2532 c1_i32_1677 c28_i32_1675
  let v2534 : BitVec 32 := Scalar.remsi v2514 v2533
  let c0_i32_1679 : BitVec 32 := 0#32
  let v2536 : BitVec 1 := Scalar.cmpi .slt v2534 c0_i32_1679
  let c0_i32_1680 : BitVec 32 := 0#32
  let v2537 : BitVec 1 := Scalar.cmpi .slt v2533 c0_i32_1680
  let v2538 : BitVec 1 := Scalar.xori v2536 v2537
  let c0_i32_1678 : BitVec 32 := 0#32
  let v2535 : BitVec 1 := Scalar.cmpi .ne v2534 c0_i32_1678
  let v2539 : BitVec 1 := Scalar.andi v2538 v2535
  let v2540 : BitVec 32 := Scalar.addi v2534 v2533
  let v2541 : BitVec 32 := Scalar.select v2539 v2540 v2534
  let c8_i32_1681 : BitVec 32 := 8#32
  let v2542 : BitVec 32 := Scalar.muli v2541 c8_i32_1681
  v2542
def k0_mult71 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1692 : BitVec 32 := 7#32
  let v2550 : BitVec 32 := Scalar.muli v1 c7_i32_1692
  let c2_i32_1693 : BitVec 32 := 2#32
  let v2551 : BitVec 32 := Scalar.addi v2550 c2_i32_1693
  let c28_i32_1701 : BitVec 32 := 28#32
  let c0_i32_1702 : BitVec 32 := 0#32
  let v2569 : BitVec 1 := Scalar.cmpi .eq c28_i32_1701 c0_i32_1702
  let c1_i32_1703 : BitVec 32 := 1#32
  let v2570 : BitVec 32 := Scalar.select v2569 c1_i32_1703 c28_i32_1701
  let v2571 : BitVec 32 := Scalar.remsi v2551 v2570
  let c0_i32_1705 : BitVec 32 := 0#32
  let v2573 : BitVec 1 := Scalar.cmpi .slt v2571 c0_i32_1705
  let c0_i32_1706 : BitVec 32 := 0#32
  let v2574 : BitVec 1 := Scalar.cmpi .slt v2570 c0_i32_1706
  let v2575 : BitVec 1 := Scalar.xori v2573 v2574
  let c0_i32_1704 : BitVec 32 := 0#32
  let v2572 : BitVec 1 := Scalar.cmpi .ne v2571 c0_i32_1704
  let v2576 : BitVec 1 := Scalar.andi v2575 v2572
  let v2577 : BitVec 32 := Scalar.addi v2571 v2570
  let v2578 : BitVec 32 := Scalar.select v2576 v2577 v2571
  let c8_i32_1707 : BitVec 32 := 8#32
  let v2579 : BitVec 32 := Scalar.muli v2578 c8_i32_1707
  v2579
def k0_mult72 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1718 : BitVec 32 := 7#32
  let v2587 : BitVec 32 := Scalar.muli v1 c7_i32_1718
  let c2_i32_1719 : BitVec 32 := 2#32
  let v2588 : BitVec 32 := Scalar.addi v2587 c2_i32_1719
  let c28_i32_1727 : BitVec 32 := 28#32
  let c0_i32_1728 : BitVec 32 := 0#32
  let v2606 : BitVec 1 := Scalar.cmpi .eq c28_i32_1727 c0_i32_1728
  let c1_i32_1729 : BitVec 32 := 1#32
  let v2607 : BitVec 32 := Scalar.select v2606 c1_i32_1729 c28_i32_1727
  let v2608 : BitVec 32 := Scalar.remsi v2588 v2607
  let c0_i32_1731 : BitVec 32 := 0#32
  let v2610 : BitVec 1 := Scalar.cmpi .slt v2608 c0_i32_1731
  let c0_i32_1732 : BitVec 32 := 0#32
  let v2611 : BitVec 1 := Scalar.cmpi .slt v2607 c0_i32_1732
  let v2612 : BitVec 1 := Scalar.xori v2610 v2611
  let c0_i32_1730 : BitVec 32 := 0#32
  let v2609 : BitVec 1 := Scalar.cmpi .ne v2608 c0_i32_1730
  let v2613 : BitVec 1 := Scalar.andi v2612 v2609
  let v2614 : BitVec 32 := Scalar.addi v2608 v2607
  let v2615 : BitVec 32 := Scalar.select v2613 v2614 v2608
  let c8_i32_1733 : BitVec 32 := 8#32
  let v2616 : BitVec 32 := Scalar.muli v2615 c8_i32_1733
  v2616
@[reducible] def k0_t13_loop : Scf.Loop 32 :=
  let c0_i32_1735 : BitVec 32 := 0#32
  let c112_i32_1736 : BitVec 32 := 112#32
  let v2618 : BitVec 32 := Scalar.addi c0_i32_1735 c112_i32_1736
  let c1_i32_1737 : BitVec 32 := 1#32
  ⟨c0_i32_1735, v2618, c1_i32_1737⟩
def k0_off51 (k0_t13 : Fin k0_t13_loop.trips) : Fin 3 → Nat :=
  let c0_i32_4066 : BitVec 32 := 0#32
  let v6139 : Index := Scalar.indexCast c0_i32_4066
  let c0_i32_1735 : BitVec 32 := 0#32
  let c1_i32_1737 : BitVec 32 := 1#32
  let arg25 : BitVec 32 := Scf.iv c0_i32_1735 c1_i32_1737 k0_t13
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk74 (v6158 : IVec S16 32) (v6160 : IVec S16 32) (v6162 : IVec S16 32) : Prop :=
  (∀ a x, ((![v6162, v6158, v6160] : Fin 3 → IVec S16 32) a x).toNat < S24x8x224.size a)
theorem k0_idx74_inb : ∀ (v6158 : IVec S16 32) (v6160 : IVec S16 32) (v6162 : IVec S16 32) (k0_hw74 : k0_chk74 v6158 v6160 v6162), ∀ a x, ((![v6162, v6158, v6160] : Fin 3 → IVec S16 32) a x).toNat < S24x8x224.size a := fun v6158 v6160 v6162 k0_hw74 => k0_hw74
def k0_off52 (k0_t13 : Fin k0_t13_loop.trips) : Fin 3 → Nat :=
  let c2_i32_4075 : BitVec 32 := 2#32
  let v6166 : Index := Scalar.indexCast c2_i32_4075
  let c0_i32_1735 : BitVec 32 := 0#32
  let c1_i32_1737 : BitVec 32 := 1#32
  let arg25 : BitVec 32 := Scf.iv c0_i32_1735 c1_i32_1737 k0_t13
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6167 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6168 : Index := Scalar.indexCast v6138
  ![2, v6167.toNat, v6168.toNat]

def k0_chk75 (v6171 : IVec S16 32) : Prop :=
  (∀ a x, ((![v6171] : Fin 1 → IVec S16 32) a x).toNat < S11264.size a)
theorem k0_idx75_inb : ∀ (v6171 : IVec S16 32) (k0_hw75 : k0_chk75 v6171), ∀ a x, ((![v6171] : Fin 1 → IVec S16 32) a x).toNat < S11264.size a := fun v6171 k0_hw75 => k0_hw75
def k0_mult73 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1739 : BitVec 32 := 7#32
  let v2619 : BitVec 32 := Scalar.muli v1 c7_i32_1739
  let c2_i32_1740 : BitVec 32 := 2#32
  let v2620 : BitVec 32 := Scalar.addi v2619 c2_i32_1740
  let c28_i32_1748 : BitVec 32 := 28#32
  let c0_i32_1749 : BitVec 32 := 0#32
  let v2638 : BitVec 1 := Scalar.cmpi .eq c28_i32_1748 c0_i32_1749
  let c1_i32_1750 : BitVec 32 := 1#32
  let v2639 : BitVec 32 := Scalar.select v2638 c1_i32_1750 c28_i32_1748
  let v2640 : BitVec 32 := Scalar.remsi v2620 v2639
  let c0_i32_1752 : BitVec 32 := 0#32
  let v2642 : BitVec 1 := Scalar.cmpi .slt v2640 c0_i32_1752
  let c0_i32_1753 : BitVec 32 := 0#32
  let v2643 : BitVec 1 := Scalar.cmpi .slt v2639 c0_i32_1753
  let v2644 : BitVec 1 := Scalar.xori v2642 v2643
  let c0_i32_1751 : BitVec 32 := 0#32
  let v2641 : BitVec 1 := Scalar.cmpi .ne v2640 c0_i32_1751
  let v2645 : BitVec 1 := Scalar.andi v2644 v2641
  let v2646 : BitVec 32 := Scalar.addi v2640 v2639
  let v2647 : BitVec 32 := Scalar.select v2645 v2646 v2640
  let c8_i32_1754 : BitVec 32 := 8#32
  let v2648 : BitVec 32 := Scalar.muli v2647 c8_i32_1754
  v2648
def k0_mult74 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1762 : BitVec 32 := 7#32
  let v2658 : BitVec 32 := Scalar.muli v1 c7_i32_1762
  let c3_i32_1763 : BitVec 32 := 3#32
  let v2659 : BitVec 32 := Scalar.addi v2658 c3_i32_1763
  let c28_i32_1771 : BitVec 32 := 28#32
  let c0_i32_1772 : BitVec 32 := 0#32
  let v2677 : BitVec 1 := Scalar.cmpi .eq c28_i32_1771 c0_i32_1772
  let c1_i32_1773 : BitVec 32 := 1#32
  let v2678 : BitVec 32 := Scalar.select v2677 c1_i32_1773 c28_i32_1771
  let v2679 : BitVec 32 := Scalar.remsi v2659 v2678
  let c0_i32_1775 : BitVec 32 := 0#32
  let v2681 : BitVec 1 := Scalar.cmpi .slt v2679 c0_i32_1775
  let c0_i32_1776 : BitVec 32 := 0#32
  let v2682 : BitVec 1 := Scalar.cmpi .slt v2678 c0_i32_1776
  let v2683 : BitVec 1 := Scalar.xori v2681 v2682
  let c0_i32_1774 : BitVec 32 := 0#32
  let v2680 : BitVec 1 := Scalar.cmpi .ne v2679 c0_i32_1774
  let v2684 : BitVec 1 := Scalar.andi v2683 v2680
  let v2685 : BitVec 32 := Scalar.addi v2679 v2678
  let v2686 : BitVec 32 := Scalar.select v2684 v2685 v2679
  let c8_i32_1777 : BitVec 32 := 8#32
  let v2687 : BitVec 32 := Scalar.muli v2686 c8_i32_1777
  v2687
def k0_mult75 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1785 : BitVec 32 := 7#32
  let v2697 : BitVec 32 := Scalar.muli v1 c7_i32_1785
  let c4_i32 : BitVec 32 := 4#32
  let v2698 : BitVec 32 := Scalar.addi v2697 c4_i32
  let c28_i32_1793 : BitVec 32 := 28#32
  let c0_i32_1794 : BitVec 32 := 0#32
  let v2716 : BitVec 1 := Scalar.cmpi .eq c28_i32_1793 c0_i32_1794
  let c1_i32_1795 : BitVec 32 := 1#32
  let v2717 : BitVec 32 := Scalar.select v2716 c1_i32_1795 c28_i32_1793
  let v2718 : BitVec 32 := Scalar.remsi v2698 v2717
  let c0_i32_1797 : BitVec 32 := 0#32
  let v2720 : BitVec 1 := Scalar.cmpi .slt v2718 c0_i32_1797
  let c0_i32_1798 : BitVec 32 := 0#32
  let v2721 : BitVec 1 := Scalar.cmpi .slt v2717 c0_i32_1798
  let v2722 : BitVec 1 := Scalar.xori v2720 v2721
  let c0_i32_1796 : BitVec 32 := 0#32
  let v2719 : BitVec 1 := Scalar.cmpi .ne v2718 c0_i32_1796
  let v2723 : BitVec 1 := Scalar.andi v2722 v2719
  let v2724 : BitVec 32 := Scalar.addi v2718 v2717
  let v2725 : BitVec 32 := Scalar.select v2723 v2724 v2718
  let c8_i32_1799 : BitVec 32 := 8#32
  let v2726 : BitVec 32 := Scalar.muli v2725 c8_i32_1799
  v2726
def k0_mult76 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1807 : BitVec 32 := 7#32
  let v2736 : BitVec 32 := Scalar.muli v1 c7_i32_1807
  let c3_i32_1808 : BitVec 32 := 3#32
  let v2737 : BitVec 32 := Scalar.addi v2736 c3_i32_1808
  let c28_i32_1816 : BitVec 32 := 28#32
  let c0_i32_1817 : BitVec 32 := 0#32
  let v2755 : BitVec 1 := Scalar.cmpi .eq c28_i32_1816 c0_i32_1817
  let c1_i32_1818 : BitVec 32 := 1#32
  let v2756 : BitVec 32 := Scalar.select v2755 c1_i32_1818 c28_i32_1816
  let v2757 : BitVec 32 := Scalar.remsi v2737 v2756
  let c0_i32_1820 : BitVec 32 := 0#32
  let v2759 : BitVec 1 := Scalar.cmpi .slt v2757 c0_i32_1820
  let c0_i32_1821 : BitVec 32 := 0#32
  let v2760 : BitVec 1 := Scalar.cmpi .slt v2756 c0_i32_1821
  let v2761 : BitVec 1 := Scalar.xori v2759 v2760
  let c0_i32_1819 : BitVec 32 := 0#32
  let v2758 : BitVec 1 := Scalar.cmpi .ne v2757 c0_i32_1819
  let v2762 : BitVec 1 := Scalar.andi v2761 v2758
  let v2763 : BitVec 32 := Scalar.addi v2757 v2756
  let v2764 : BitVec 32 := Scalar.select v2762 v2763 v2757
  let c8_i32_1822 : BitVec 32 := 8#32
  let v2765 : BitVec 32 := Scalar.muli v2764 c8_i32_1822
  v2765
def k0_mult77 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1833 : BitVec 32 := 7#32
  let v2773 : BitVec 32 := Scalar.muli v1 c7_i32_1833
  let c3_i32_1834 : BitVec 32 := 3#32
  let v2774 : BitVec 32 := Scalar.addi v2773 c3_i32_1834
  let c28_i32_1842 : BitVec 32 := 28#32
  let c0_i32_1843 : BitVec 32 := 0#32
  let v2792 : BitVec 1 := Scalar.cmpi .eq c28_i32_1842 c0_i32_1843
  let c1_i32_1844 : BitVec 32 := 1#32
  let v2793 : BitVec 32 := Scalar.select v2792 c1_i32_1844 c28_i32_1842
  let v2794 : BitVec 32 := Scalar.remsi v2774 v2793
  let c0_i32_1846 : BitVec 32 := 0#32
  let v2796 : BitVec 1 := Scalar.cmpi .slt v2794 c0_i32_1846
  let c0_i32_1847 : BitVec 32 := 0#32
  let v2797 : BitVec 1 := Scalar.cmpi .slt v2793 c0_i32_1847
  let v2798 : BitVec 1 := Scalar.xori v2796 v2797
  let c0_i32_1845 : BitVec 32 := 0#32
  let v2795 : BitVec 1 := Scalar.cmpi .ne v2794 c0_i32_1845
  let v2799 : BitVec 1 := Scalar.andi v2798 v2795
  let v2800 : BitVec 32 := Scalar.addi v2794 v2793
  let v2801 : BitVec 32 := Scalar.select v2799 v2800 v2794
  let c8_i32_1848 : BitVec 32 := 8#32
  let v2802 : BitVec 32 := Scalar.muli v2801 c8_i32_1848
  v2802
def k0_mult78 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1859 : BitVec 32 := 7#32
  let v2810 : BitVec 32 := Scalar.muli v1 c7_i32_1859
  let c3_i32_1860 : BitVec 32 := 3#32
  let v2811 : BitVec 32 := Scalar.addi v2810 c3_i32_1860
  let c28_i32_1868 : BitVec 32 := 28#32
  let c0_i32_1869 : BitVec 32 := 0#32
  let v2829 : BitVec 1 := Scalar.cmpi .eq c28_i32_1868 c0_i32_1869
  let c1_i32_1870 : BitVec 32 := 1#32
  let v2830 : BitVec 32 := Scalar.select v2829 c1_i32_1870 c28_i32_1868
  let v2831 : BitVec 32 := Scalar.remsi v2811 v2830
  let c0_i32_1872 : BitVec 32 := 0#32
  let v2833 : BitVec 1 := Scalar.cmpi .slt v2831 c0_i32_1872
  let c0_i32_1873 : BitVec 32 := 0#32
  let v2834 : BitVec 1 := Scalar.cmpi .slt v2830 c0_i32_1873
  let v2835 : BitVec 1 := Scalar.xori v2833 v2834
  let c0_i32_1871 : BitVec 32 := 0#32
  let v2832 : BitVec 1 := Scalar.cmpi .ne v2831 c0_i32_1871
  let v2836 : BitVec 1 := Scalar.andi v2835 v2832
  let v2837 : BitVec 32 := Scalar.addi v2831 v2830
  let v2838 : BitVec 32 := Scalar.select v2836 v2837 v2831
  let c8_i32_1874 : BitVec 32 := 8#32
  let v2839 : BitVec 32 := Scalar.muli v2838 c8_i32_1874
  v2839
def k0_mult79 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1885 : BitVec 32 := 7#32
  let v2847 : BitVec 32 := Scalar.muli v1 c7_i32_1885
  let c2_i32_1886 : BitVec 32 := 2#32
  let v2848 : BitVec 32 := Scalar.addi v2847 c2_i32_1886
  let c28_i32_1894 : BitVec 32 := 28#32
  let c0_i32_1895 : BitVec 32 := 0#32
  let v2866 : BitVec 1 := Scalar.cmpi .eq c28_i32_1894 c0_i32_1895
  let c1_i32_1896 : BitVec 32 := 1#32
  let v2867 : BitVec 32 := Scalar.select v2866 c1_i32_1896 c28_i32_1894
  let v2868 : BitVec 32 := Scalar.remsi v2848 v2867
  let c0_i32_1898 : BitVec 32 := 0#32
  let v2870 : BitVec 1 := Scalar.cmpi .slt v2868 c0_i32_1898
  let c0_i32_1899 : BitVec 32 := 0#32
  let v2871 : BitVec 1 := Scalar.cmpi .slt v2867 c0_i32_1899
  let v2872 : BitVec 1 := Scalar.xori v2870 v2871
  let c0_i32_1897 : BitVec 32 := 0#32
  let v2869 : BitVec 1 := Scalar.cmpi .ne v2868 c0_i32_1897
  let v2873 : BitVec 1 := Scalar.andi v2872 v2869
  let v2874 : BitVec 32 := Scalar.addi v2868 v2867
  let v2875 : BitVec 32 := Scalar.select v2873 v2874 v2868
  let c8_i32_1900 : BitVec 32 := 8#32
  let v2876 : BitVec 32 := Scalar.muli v2875 c8_i32_1900
  v2876
def k0_mult80 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1911 : BitVec 32 := 7#32
  let v2884 : BitVec 32 := Scalar.muli v1 c7_i32_1911
  let c2_i32_1912 : BitVec 32 := 2#32
  let v2885 : BitVec 32 := Scalar.addi v2884 c2_i32_1912
  let c28_i32_1920 : BitVec 32 := 28#32
  let c0_i32_1921 : BitVec 32 := 0#32
  let v2903 : BitVec 1 := Scalar.cmpi .eq c28_i32_1920 c0_i32_1921
  let c1_i32_1922 : BitVec 32 := 1#32
  let v2904 : BitVec 32 := Scalar.select v2903 c1_i32_1922 c28_i32_1920
  let v2905 : BitVec 32 := Scalar.remsi v2885 v2904
  let c0_i32_1924 : BitVec 32 := 0#32
  let v2907 : BitVec 1 := Scalar.cmpi .slt v2905 c0_i32_1924
  let c0_i32_1925 : BitVec 32 := 0#32
  let v2908 : BitVec 1 := Scalar.cmpi .slt v2904 c0_i32_1925
  let v2909 : BitVec 1 := Scalar.xori v2907 v2908
  let c0_i32_1923 : BitVec 32 := 0#32
  let v2906 : BitVec 1 := Scalar.cmpi .ne v2905 c0_i32_1923
  let v2910 : BitVec 1 := Scalar.andi v2909 v2906
  let v2911 : BitVec 32 := Scalar.addi v2905 v2904
  let v2912 : BitVec 32 := Scalar.select v2910 v2911 v2905
  let c8_i32_1926 : BitVec 32 := 8#32
  let v2913 : BitVec 32 := Scalar.muli v2912 c8_i32_1926
  v2913
def k0_mult81 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1934 : BitVec 32 := 7#32
  let v2923 : BitVec 32 := Scalar.muli v1 c7_i32_1934
  let c3_i32_1935 : BitVec 32 := 3#32
  let v2924 : BitVec 32 := Scalar.addi v2923 c3_i32_1935
  let c28_i32_1943 : BitVec 32 := 28#32
  let c0_i32_1944 : BitVec 32 := 0#32
  let v2942 : BitVec 1 := Scalar.cmpi .eq c28_i32_1943 c0_i32_1944
  let c1_i32_1945 : BitVec 32 := 1#32
  let v2943 : BitVec 32 := Scalar.select v2942 c1_i32_1945 c28_i32_1943
  let v2944 : BitVec 32 := Scalar.remsi v2924 v2943
  let c0_i32_1947 : BitVec 32 := 0#32
  let v2946 : BitVec 1 := Scalar.cmpi .slt v2944 c0_i32_1947
  let c0_i32_1948 : BitVec 32 := 0#32
  let v2947 : BitVec 1 := Scalar.cmpi .slt v2943 c0_i32_1948
  let v2948 : BitVec 1 := Scalar.xori v2946 v2947
  let c0_i32_1946 : BitVec 32 := 0#32
  let v2945 : BitVec 1 := Scalar.cmpi .ne v2944 c0_i32_1946
  let v2949 : BitVec 1 := Scalar.andi v2948 v2945
  let v2950 : BitVec 32 := Scalar.addi v2944 v2943
  let v2951 : BitVec 32 := Scalar.select v2949 v2950 v2944
  let c8_i32_1949 : BitVec 32 := 8#32
  let v2952 : BitVec 32 := Scalar.muli v2951 c8_i32_1949
  v2952
@[reducible] def k0_t14_loop : Scf.Loop 32 :=
  let c0_i32_1951 : BitVec 32 := 0#32
  let c112_i32_1952 : BitVec 32 := 112#32
  let v2954 : BitVec 32 := Scalar.addi c0_i32_1951 c112_i32_1952
  let c1_i32_1953 : BitVec 32 := 1#32
  ⟨c0_i32_1951, v2954, c1_i32_1953⟩
def k0_off53 (k0_t14 : Fin k0_t14_loop.trips) : Fin 3 → Nat :=
  let c1_i32_4066 : BitVec 32 := 1#32
  let v6139 : Index := Scalar.indexCast c1_i32_4066
  let c0_i32_1951 : BitVec 32 := 0#32
  let c1_i32_1953 : BitVec 32 := 1#32
  let arg25 : BitVec 32 := Scf.iv c0_i32_1951 c1_i32_1953 k0_t14
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk76 (v6158 : IVec S16 32) (v6160 : IVec S16 32) (v6178 : IVec S16 32) : Prop :=
  (∀ a x, ((![v6178, v6158, v6160] : Fin 3 → IVec S16 32) a x).toNat < S24x8x224.size a)
theorem k0_idx76_inb : ∀ (v6158 : IVec S16 32) (v6160 : IVec S16 32) (v6178 : IVec S16 32) (k0_hw76 : k0_chk76 v6158 v6160 v6178), ∀ a x, ((![v6178, v6158, v6160] : Fin 3 → IVec S16 32) a x).toNat < S24x8x224.size a := fun v6158 v6160 v6178 k0_hw76 => k0_hw76

def k0_chk77 (v6158 : IVec S16 32) (v6160 : IVec S16 32) (v6181 : IVec S16 32) : Prop :=
  (∀ a x, ((![v6181, v6158, v6160] : Fin 3 → IVec S16 32) a x).toNat < S24x8x224.size a)
theorem k0_idx77_inb : ∀ (v6158 : IVec S16 32) (v6160 : IVec S16 32) (v6181 : IVec S16 32) (k0_hw77 : k0_chk77 v6158 v6160 v6181), ∀ a x, ((![v6181, v6158, v6160] : Fin 3 → IVec S16 32) a x).toNat < S24x8x224.size a := fun v6158 v6160 v6181 k0_hw77 => k0_hw77
def k0_off54 (k0_t14 : Fin k0_t14_loop.trips) : Fin 3 → Nat :=
  let c0_i32_4084 : BitVec 32 := 0#32
  let v6186 : Index := Scalar.indexCast c0_i32_4084
  let c0_i32_1951 : BitVec 32 := 0#32
  let c1_i32_1953 : BitVec 32 := 1#32
  let arg25 : BitVec 32 := Scf.iv c0_i32_1951 c1_i32_1953 k0_t14
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6187 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6188 : Index := Scalar.indexCast v6138
  ![0, v6187.toNat, v6188.toNat]

def k0_chk78 (v6191 : IVec S16 32) : Prop :=
  (∀ a x, ((![v6191] : Fin 1 → IVec S16 32) a x).toNat < S11264.size a)
theorem k0_idx78_inb : ∀ (v6191 : IVec S16 32) (k0_hw78 : k0_chk78 v6191), ∀ a x, ((![v6191] : Fin 1 → IVec S16 32) a x).toNat < S11264.size a := fun v6191 k0_hw78 => k0_hw78

def k0_chk79 (v6158 : IVec S16 32) (v6160 : IVec S16 32) (v6193 : IVec S16 32) : Prop :=
  (∀ a x, ((![v6193, v6158, v6160] : Fin 3 → IVec S16 32) a x).toNat < S24x8x224.size a)
theorem k0_idx79_inb : ∀ (v6158 : IVec S16 32) (v6160 : IVec S16 32) (v6193 : IVec S16 32) (k0_hw79 : k0_chk79 v6158 v6160 v6193), ∀ a x, ((![v6193, v6158, v6160] : Fin 3 → IVec S16 32) a x).toNat < S24x8x224.size a := fun v6158 v6160 v6193 k0_hw79 => k0_hw79

def k0_chk80 (v6158 : IVec S16 32) (v6160 : IVec S16 32) (v6196 : IVec S16 32) : Prop :=
  (∀ a x, ((![v6196, v6158, v6160] : Fin 3 → IVec S16 32) a x).toNat < S24x8x224.size a)
theorem k0_idx80_inb : ∀ (v6158 : IVec S16 32) (v6160 : IVec S16 32) (v6196 : IVec S16 32) (k0_hw80 : k0_chk80 v6158 v6160 v6196), ∀ a x, ((![v6196, v6158, v6160] : Fin 3 → IVec S16 32) a x).toNat < S24x8x224.size a := fun v6158 v6160 v6196 k0_hw80 => k0_hw80
def k0_off55 (k0_t14 : Fin k0_t14_loop.trips) : Fin 3 → Nat :=
  let c1_i32_4089 : BitVec 32 := 1#32
  let v6201 : Index := Scalar.indexCast c1_i32_4089
  let c0_i32_1951 : BitVec 32 := 0#32
  let c1_i32_1953 : BitVec 32 := 1#32
  let arg25 : BitVec 32 := Scf.iv c0_i32_1951 c1_i32_1953 k0_t14
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6202 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6203 : Index := Scalar.indexCast v6138
  ![1, v6202.toNat, v6203.toNat]

def k0_chk81 (v6206 : IVec S16 32) : Prop :=
  (∀ a x, ((![v6206] : Fin 1 → IVec S16 32) a x).toNat < S11264.size a)
theorem k0_idx81_inb : ∀ (v6206 : IVec S16 32) (k0_hw81 : k0_chk81 v6206), ∀ a x, ((![v6206] : Fin 1 → IVec S16 32) a x).toNat < S11264.size a := fun v6206 k0_hw81 => k0_hw81

def k0_chk82 (v6158 : IVec S16 32) (v6160 : IVec S16 32) (v6208 : IVec S16 32) : Prop :=
  (∀ a x, ((![v6208, v6158, v6160] : Fin 3 → IVec S16 32) a x).toNat < S24x8x224.size a)
theorem k0_idx82_inb : ∀ (v6158 : IVec S16 32) (v6160 : IVec S16 32) (v6208 : IVec S16 32) (k0_hw82 : k0_chk82 v6158 v6160 v6208), ∀ a x, ((![v6208, v6158, v6160] : Fin 3 → IVec S16 32) a x).toNat < S24x8x224.size a := fun v6158 v6160 v6208 k0_hw82 => k0_hw82

def k0_chk83 (v6158 : IVec S16 32) (v6160 : IVec S16 32) (v6211 : IVec S16 32) : Prop :=
  (∀ a x, ((![v6211, v6158, v6160] : Fin 3 → IVec S16 32) a x).toNat < S24x8x224.size a)
theorem k0_idx83_inb : ∀ (v6158 : IVec S16 32) (v6160 : IVec S16 32) (v6211 : IVec S16 32) (k0_hw83 : k0_chk83 v6158 v6160 v6211), ∀ a x, ((![v6211, v6158, v6160] : Fin 3 → IVec S16 32) a x).toNat < S24x8x224.size a := fun v6158 v6160 v6211 k0_hw83 => k0_hw83
def k0_off56 (k0_t14 : Fin k0_t14_loop.trips) : Fin 3 → Nat :=
  let c2_i32_4093 : BitVec 32 := 2#32
  let v6216 : Index := Scalar.indexCast c2_i32_4093
  let c0_i32_1951 : BitVec 32 := 0#32
  let c1_i32_1953 : BitVec 32 := 1#32
  let arg25 : BitVec 32 := Scf.iv c0_i32_1951 c1_i32_1953 k0_t14
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6217 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6218 : Index := Scalar.indexCast v6138
  ![2, v6217.toNat, v6218.toNat]

def k0_chk84 (v6221 : IVec S16 32) : Prop :=
  (∀ a x, ((![v6221] : Fin 1 → IVec S16 32) a x).toNat < S11264.size a)
theorem k0_idx84_inb : ∀ (v6221 : IVec S16 32) (k0_hw84 : k0_chk84 v6221), ∀ a x, ((![v6221] : Fin 1 → IVec S16 32) a x).toNat < S11264.size a := fun v6221 k0_hw84 => k0_hw84

def k0_chk85 (v6158 : IVec S16 32) (v6160 : IVec S16 32) (v6223 : IVec S16 32) : Prop :=
  (∀ a x, ((![v6223, v6158, v6160] : Fin 3 → IVec S16 32) a x).toNat < S24x8x224.size a)
theorem k0_idx85_inb : ∀ (v6158 : IVec S16 32) (v6160 : IVec S16 32) (v6223 : IVec S16 32) (k0_hw85 : k0_chk85 v6158 v6160 v6223), ∀ a x, ((![v6223, v6158, v6160] : Fin 3 → IVec S16 32) a x).toNat < S24x8x224.size a := fun v6158 v6160 v6223 k0_hw85 => k0_hw85

def k0_chk86 (v6158 : IVec S16 32) (v6160 : IVec S16 32) (v6226 : IVec S16 32) : Prop :=
  (∀ a x, ((![v6226, v6158, v6160] : Fin 3 → IVec S16 32) a x).toNat < S24x8x224.size a)
theorem k0_idx86_inb : ∀ (v6158 : IVec S16 32) (v6160 : IVec S16 32) (v6226 : IVec S16 32) (k0_hw86 : k0_chk86 v6158 v6160 v6226), ∀ a x, ((![v6226, v6158, v6160] : Fin 3 → IVec S16 32) a x).toNat < S24x8x224.size a := fun v6158 v6160 v6226 k0_hw86 => k0_hw86
def k0_off57 (k0_t14 : Fin k0_t14_loop.trips) : Fin 3 → Nat :=
  let c3_i32_4097 : BitVec 32 := 3#32
  let v6231 : Index := Scalar.indexCast c3_i32_4097
  let c0_i32_1951 : BitVec 32 := 0#32
  let c1_i32_1953 : BitVec 32 := 1#32
  let arg25 : BitVec 32 := Scf.iv c0_i32_1951 c1_i32_1953 k0_t14
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6232 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6233 : Index := Scalar.indexCast v6138
  ![3, v6232.toNat, v6233.toNat]

def k0_chk87 (v6236 : IVec S16 32) : Prop :=
  (∀ a x, ((![v6236] : Fin 1 → IVec S16 32) a x).toNat < S11264.size a)
theorem k0_idx87_inb : ∀ (v6236 : IVec S16 32) (k0_hw87 : k0_chk87 v6236), ∀ a x, ((![v6236] : Fin 1 → IVec S16 32) a x).toNat < S11264.size a := fun v6236 k0_hw87 => k0_hw87

def k0_chk88 (v6241 : IVec S16 32) : Prop :=
  (∀ a x, ((![v6241] : Fin 1 → IVec S16 32) a x).toNat < S11264.size a)
theorem k0_idx88_inb : ∀ (v6241 : IVec S16 32) (k0_hw88 : k0_chk88 v6241), ∀ a x, ((![v6241] : Fin 1 → IVec S16 32) a x).toNat < S11264.size a := fun v6241 k0_hw88 => k0_hw88
def k0_mult82 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1955 : BitVec 32 := 7#32
  let v2955 : BitVec 32 := Scalar.muli v1 c7_i32_1955
  let c3_i32_1956 : BitVec 32 := 3#32
  let v2956 : BitVec 32 := Scalar.addi v2955 c3_i32_1956
  let c28_i32_1964 : BitVec 32 := 28#32
  let c0_i32_1965 : BitVec 32 := 0#32
  let v2974 : BitVec 1 := Scalar.cmpi .eq c28_i32_1964 c0_i32_1965
  let c1_i32_1966 : BitVec 32 := 1#32
  let v2975 : BitVec 32 := Scalar.select v2974 c1_i32_1966 c28_i32_1964
  let v2976 : BitVec 32 := Scalar.remsi v2956 v2975
  let c0_i32_1968 : BitVec 32 := 0#32
  let v2978 : BitVec 1 := Scalar.cmpi .slt v2976 c0_i32_1968
  let c0_i32_1969 : BitVec 32 := 0#32
  let v2979 : BitVec 1 := Scalar.cmpi .slt v2975 c0_i32_1969
  let v2980 : BitVec 1 := Scalar.xori v2978 v2979
  let c0_i32_1967 : BitVec 32 := 0#32
  let v2977 : BitVec 1 := Scalar.cmpi .ne v2976 c0_i32_1967
  let v2981 : BitVec 1 := Scalar.andi v2980 v2977
  let v2982 : BitVec 32 := Scalar.addi v2976 v2975
  let v2983 : BitVec 32 := Scalar.select v2981 v2982 v2976
  let c8_i32_1970 : BitVec 32 := 8#32
  let v2984 : BitVec 32 := Scalar.muli v2983 c8_i32_1970
  v2984
def k0_mult83 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_1975 : BitVec 32 := 7#32
  let v2990 : BitVec 32 := Scalar.muli v1 c7_i32_1975
  let c3_i32_1976 : BitVec 32 := 3#32
  let v2991 : BitVec 32 := Scalar.addi v2990 c3_i32_1976
  let c28_i32_1984 : BitVec 32 := 28#32
  let c0_i32_1985 : BitVec 32 := 0#32
  let v3009 : BitVec 1 := Scalar.cmpi .eq c28_i32_1984 c0_i32_1985
  let c1_i32_1986 : BitVec 32 := 1#32
  let v3010 : BitVec 32 := Scalar.select v3009 c1_i32_1986 c28_i32_1984
  let v3011 : BitVec 32 := Scalar.remsi v2991 v3010
  let c0_i32_1988 : BitVec 32 := 0#32
  let v3013 : BitVec 1 := Scalar.cmpi .slt v3011 c0_i32_1988
  let c0_i32_1989 : BitVec 32 := 0#32
  let v3014 : BitVec 1 := Scalar.cmpi .slt v3010 c0_i32_1989
  let v3015 : BitVec 1 := Scalar.xori v3013 v3014
  let c0_i32_1987 : BitVec 32 := 0#32
  let v3012 : BitVec 1 := Scalar.cmpi .ne v3011 c0_i32_1987
  let v3016 : BitVec 1 := Scalar.andi v3015 v3012
  let v3017 : BitVec 32 := Scalar.addi v3011 v3010
  let v3018 : BitVec 32 := Scalar.select v3016 v3017 v3011
  let c8_i32_1990 : BitVec 32 := 8#32
  let v3019 : BitVec 32 := Scalar.muli v3018 c8_i32_1990
  v3019
def k0_mult84 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2001 : BitVec 32 := 7#32
  let v3027 : BitVec 32 := Scalar.muli v1 c7_i32_2001
  let c3_i32_2002 : BitVec 32 := 3#32
  let v3028 : BitVec 32 := Scalar.addi v3027 c3_i32_2002
  let c28_i32_2010 : BitVec 32 := 28#32
  let c0_i32_2011 : BitVec 32 := 0#32
  let v3046 : BitVec 1 := Scalar.cmpi .eq c28_i32_2010 c0_i32_2011
  let c1_i32_2012 : BitVec 32 := 1#32
  let v3047 : BitVec 32 := Scalar.select v3046 c1_i32_2012 c28_i32_2010
  let v3048 : BitVec 32 := Scalar.remsi v3028 v3047
  let c0_i32_2014 : BitVec 32 := 0#32
  let v3050 : BitVec 1 := Scalar.cmpi .slt v3048 c0_i32_2014
  let c0_i32_2015 : BitVec 32 := 0#32
  let v3051 : BitVec 1 := Scalar.cmpi .slt v3047 c0_i32_2015
  let v3052 : BitVec 1 := Scalar.xori v3050 v3051
  let c0_i32_2013 : BitVec 32 := 0#32
  let v3049 : BitVec 1 := Scalar.cmpi .ne v3048 c0_i32_2013
  let v3053 : BitVec 1 := Scalar.andi v3052 v3049
  let v3054 : BitVec 32 := Scalar.addi v3048 v3047
  let v3055 : BitVec 32 := Scalar.select v3053 v3054 v3048
  let c8_i32_2016 : BitVec 32 := 8#32
  let v3056 : BitVec 32 := Scalar.muli v3055 c8_i32_2016
  v3056
def k0_mult85 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2027 : BitVec 32 := 7#32
  let v3064 : BitVec 32 := Scalar.muli v1 c7_i32_2027
  let c3_i32_2028 : BitVec 32 := 3#32
  let v3065 : BitVec 32 := Scalar.addi v3064 c3_i32_2028
  let c28_i32_2036 : BitVec 32 := 28#32
  let c0_i32_2037 : BitVec 32 := 0#32
  let v3083 : BitVec 1 := Scalar.cmpi .eq c28_i32_2036 c0_i32_2037
  let c1_i32_2038 : BitVec 32 := 1#32
  let v3084 : BitVec 32 := Scalar.select v3083 c1_i32_2038 c28_i32_2036
  let v3085 : BitVec 32 := Scalar.remsi v3065 v3084
  let c0_i32_2040 : BitVec 32 := 0#32
  let v3087 : BitVec 1 := Scalar.cmpi .slt v3085 c0_i32_2040
  let c0_i32_2041 : BitVec 32 := 0#32
  let v3088 : BitVec 1 := Scalar.cmpi .slt v3084 c0_i32_2041
  let v3089 : BitVec 1 := Scalar.xori v3087 v3088
  let c0_i32_2039 : BitVec 32 := 0#32
  let v3086 : BitVec 1 := Scalar.cmpi .ne v3085 c0_i32_2039
  let v3090 : BitVec 1 := Scalar.andi v3089 v3086
  let v3091 : BitVec 32 := Scalar.addi v3085 v3084
  let v3092 : BitVec 32 := Scalar.select v3090 v3091 v3085
  let c8_i32_2042 : BitVec 32 := 8#32
  let v3093 : BitVec 32 := Scalar.muli v3092 c8_i32_2042
  v3093
def k0_mult86 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2047 : BitVec 32 := 7#32
  let v3099 : BitVec 32 := Scalar.muli v1 c7_i32_2047
  let c3_i32_2048 : BitVec 32 := 3#32
  let v3100 : BitVec 32 := Scalar.addi v3099 c3_i32_2048
  let c28_i32_2056 : BitVec 32 := 28#32
  let c0_i32_2057 : BitVec 32 := 0#32
  let v3118 : BitVec 1 := Scalar.cmpi .eq c28_i32_2056 c0_i32_2057
  let c1_i32_2058 : BitVec 32 := 1#32
  let v3119 : BitVec 32 := Scalar.select v3118 c1_i32_2058 c28_i32_2056
  let v3120 : BitVec 32 := Scalar.remsi v3100 v3119
  let c0_i32_2060 : BitVec 32 := 0#32
  let v3122 : BitVec 1 := Scalar.cmpi .slt v3120 c0_i32_2060
  let c0_i32_2061 : BitVec 32 := 0#32
  let v3123 : BitVec 1 := Scalar.cmpi .slt v3119 c0_i32_2061
  let v3124 : BitVec 1 := Scalar.xori v3122 v3123
  let c0_i32_2059 : BitVec 32 := 0#32
  let v3121 : BitVec 1 := Scalar.cmpi .ne v3120 c0_i32_2059
  let v3125 : BitVec 1 := Scalar.andi v3124 v3121
  let v3126 : BitVec 32 := Scalar.addi v3120 v3119
  let v3127 : BitVec 32 := Scalar.select v3125 v3126 v3120
  let c8_i32_2062 : BitVec 32 := 8#32
  let v3128 : BitVec 32 := Scalar.muli v3127 c8_i32_2062
  v3128
def k0_mult87 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2073 : BitVec 32 := 7#32
  let v3136 : BitVec 32 := Scalar.muli v1 c7_i32_2073
  let c3_i32_2074 : BitVec 32 := 3#32
  let v3137 : BitVec 32 := Scalar.addi v3136 c3_i32_2074
  let c28_i32_2082 : BitVec 32 := 28#32
  let c0_i32_2083 : BitVec 32 := 0#32
  let v3155 : BitVec 1 := Scalar.cmpi .eq c28_i32_2082 c0_i32_2083
  let c1_i32_2084 : BitVec 32 := 1#32
  let v3156 : BitVec 32 := Scalar.select v3155 c1_i32_2084 c28_i32_2082
  let v3157 : BitVec 32 := Scalar.remsi v3137 v3156
  let c0_i32_2086 : BitVec 32 := 0#32
  let v3159 : BitVec 1 := Scalar.cmpi .slt v3157 c0_i32_2086
  let c0_i32_2087 : BitVec 32 := 0#32
  let v3160 : BitVec 1 := Scalar.cmpi .slt v3156 c0_i32_2087
  let v3161 : BitVec 1 := Scalar.xori v3159 v3160
  let c0_i32_2085 : BitVec 32 := 0#32
  let v3158 : BitVec 1 := Scalar.cmpi .ne v3157 c0_i32_2085
  let v3162 : BitVec 1 := Scalar.andi v3161 v3158
  let v3163 : BitVec 32 := Scalar.addi v3157 v3156
  let v3164 : BitVec 32 := Scalar.select v3162 v3163 v3157
  let c8_i32_2088 : BitVec 32 := 8#32
  let v3165 : BitVec 32 := Scalar.muli v3164 c8_i32_2088
  v3165
@[reducible] def k0_t15_loop : Scf.Loop 32 :=
  let c0_i32_2090 : BitVec 32 := 0#32
  let c112_i32_2091 : BitVec 32 := 112#32
  let v3167 : BitVec 32 := Scalar.addi c0_i32_2090 c112_i32_2091
  let c1_i32_2092 : BitVec 32 := 1#32
  ⟨c0_i32_2090, v3167, c1_i32_2092⟩
def k0_off58 (k0_t15 : Fin k0_t15_loop.trips) : Fin 3 → Nat :=
  let c1_i32_4066 : BitVec 32 := 1#32
  let v6139 : Index := Scalar.indexCast c1_i32_4066
  let c0_i32_2090 : BitVec 32 := 0#32
  let c1_i32_2092 : BitVec 32 := 1#32
  let arg25 : BitVec 32 := Scf.iv c0_i32_2090 c1_i32_2092 k0_t15
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk89 (v6158 : IVec S16 32) (v6160 : IVec S16 32) (v6164 : IVec S16 32) : Prop :=
  (∀ a x, ((![v6164, v6158, v6160] : Fin 3 → IVec S16 32) a x).toNat < S24x8x224.size a)
theorem k0_idx89_inb : ∀ (v6158 : IVec S16 32) (v6160 : IVec S16 32) (v6164 : IVec S16 32) (k0_hw89 : k0_chk89 v6158 v6160 v6164), ∀ a x, ((![v6164, v6158, v6160] : Fin 3 → IVec S16 32) a x).toNat < S24x8x224.size a := fun v6158 v6160 v6164 k0_hw89 => k0_hw89
def k0_off59 (k0_t15 : Fin k0_t15_loop.trips) : Fin 3 → Nat :=
  let c0_i32_4076 : BitVec 32 := 0#32
  let v6168 : Index := Scalar.indexCast c0_i32_4076
  let c0_i32_2090 : BitVec 32 := 0#32
  let c1_i32_2092 : BitVec 32 := 1#32
  let arg25 : BitVec 32 := Scf.iv c0_i32_2090 c1_i32_2092 k0_t15
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk90 (v6173 : IVec S16 32) : Prop :=
  (∀ a x, ((![v6173] : Fin 1 → IVec S16 32) a x).toNat < S11264.size a)
theorem k0_idx90_inb : ∀ (v6173 : IVec S16 32) (k0_hw90 : k0_chk90 v6173), ∀ a x, ((![v6173] : Fin 1 → IVec S16 32) a x).toNat < S11264.size a := fun v6173 k0_hw90 => k0_hw90

def k0_chk91 (v6158 : IVec S16 32) (v6160 : IVec S16 32) (v6177 : IVec S16 32) : Prop :=
  (∀ a x, ((![v6177, v6158, v6160] : Fin 3 → IVec S16 32) a x).toNat < S24x8x224.size a)
theorem k0_idx91_inb : ∀ (v6158 : IVec S16 32) (v6160 : IVec S16 32) (v6177 : IVec S16 32) (k0_hw91 : k0_chk91 v6158 v6160 v6177), ∀ a x, ((![v6177, v6158, v6160] : Fin 3 → IVec S16 32) a x).toNat < S24x8x224.size a := fun v6158 v6160 v6177 k0_hw91 => k0_hw91
def k0_off60 (k0_t15 : Fin k0_t15_loop.trips) : Fin 3 → Nat :=
  let c1_i32_4080 : BitVec 32 := 1#32
  let v6181 : Index := Scalar.indexCast c1_i32_4080
  let c0_i32_2090 : BitVec 32 := 0#32
  let c1_i32_2092 : BitVec 32 := 1#32
  let arg25 : BitVec 32 := Scf.iv c0_i32_2090 c1_i32_2092 k0_t15
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk92 (v6186 : IVec S16 32) : Prop :=
  (∀ a x, ((![v6186] : Fin 1 → IVec S16 32) a x).toNat < S11264.size a)
theorem k0_idx92_inb : ∀ (v6186 : IVec S16 32) (k0_hw92 : k0_chk92 v6186), ∀ a x, ((![v6186] : Fin 1 → IVec S16 32) a x).toNat < S11264.size a := fun v6186 k0_hw92 => k0_hw92

def k0_chk93 (v6158 : IVec S16 32) (v6160 : IVec S16 32) (v6190 : IVec S16 32) : Prop :=
  (∀ a x, ((![v6190, v6158, v6160] : Fin 3 → IVec S16 32) a x).toNat < S24x8x224.size a)
theorem k0_idx93_inb : ∀ (v6158 : IVec S16 32) (v6160 : IVec S16 32) (v6190 : IVec S16 32) (k0_hw93 : k0_chk93 v6158 v6160 v6190), ∀ a x, ((![v6190, v6158, v6160] : Fin 3 → IVec S16 32) a x).toNat < S24x8x224.size a := fun v6158 v6160 v6190 k0_hw93 => k0_hw93
def k0_off61 (k0_t15 : Fin k0_t15_loop.trips) : Fin 3 → Nat :=
  let c2_i32_4084 : BitVec 32 := 2#32
  let v6194 : Index := Scalar.indexCast c2_i32_4084
  let c0_i32_2090 : BitVec 32 := 0#32
  let c1_i32_2092 : BitVec 32 := 1#32
  let arg25 : BitVec 32 := Scf.iv c0_i32_2090 c1_i32_2092 k0_t15
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6195 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6196 : Index := Scalar.indexCast v6138
  ![2, v6195.toNat, v6196.toNat]

def k0_chk94 (v6199 : IVec S16 32) : Prop :=
  (∀ a x, ((![v6199] : Fin 1 → IVec S16 32) a x).toNat < S11264.size a)
theorem k0_idx94_inb : ∀ (v6199 : IVec S16 32) (k0_hw94 : k0_chk94 v6199), ∀ a x, ((![v6199] : Fin 1 → IVec S16 32) a x).toNat < S11264.size a := fun v6199 k0_hw94 => k0_hw94
def k0_mult88 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2094 : BitVec 32 := 7#32
  let v3168 : BitVec 32 := Scalar.muli v1 c7_i32_2094
  let c4_i32_2095 : BitVec 32 := 4#32
  let v3169 : BitVec 32 := Scalar.addi v3168 c4_i32_2095
  let c28_i32_2103 : BitVec 32 := 28#32
  let c0_i32_2104 : BitVec 32 := 0#32
  let v3187 : BitVec 1 := Scalar.cmpi .eq c28_i32_2103 c0_i32_2104
  let c1_i32_2105 : BitVec 32 := 1#32
  let v3188 : BitVec 32 := Scalar.select v3187 c1_i32_2105 c28_i32_2103
  let v3189 : BitVec 32 := Scalar.remsi v3169 v3188
  let c0_i32_2107 : BitVec 32 := 0#32
  let v3191 : BitVec 1 := Scalar.cmpi .slt v3189 c0_i32_2107
  let c0_i32_2108 : BitVec 32 := 0#32
  let v3192 : BitVec 1 := Scalar.cmpi .slt v3188 c0_i32_2108
  let v3193 : BitVec 1 := Scalar.xori v3191 v3192
  let c0_i32_2106 : BitVec 32 := 0#32
  let v3190 : BitVec 1 := Scalar.cmpi .ne v3189 c0_i32_2106
  let v3194 : BitVec 1 := Scalar.andi v3193 v3190
  let v3195 : BitVec 32 := Scalar.addi v3189 v3188
  let v3196 : BitVec 32 := Scalar.select v3194 v3195 v3189
  let c8_i32_2109 : BitVec 32 := 8#32
  let v3197 : BitVec 32 := Scalar.muli v3196 c8_i32_2109
  v3197
def k0_mult89 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2120 : BitVec 32 := 7#32
  let v3205 : BitVec 32 := Scalar.muli v1 c7_i32_2120
  let c3_i32_2121 : BitVec 32 := 3#32
  let v3206 : BitVec 32 := Scalar.addi v3205 c3_i32_2121
  let c28_i32_2129 : BitVec 32 := 28#32
  let c0_i32_2130 : BitVec 32 := 0#32
  let v3224 : BitVec 1 := Scalar.cmpi .eq c28_i32_2129 c0_i32_2130
  let c1_i32_2131 : BitVec 32 := 1#32
  let v3225 : BitVec 32 := Scalar.select v3224 c1_i32_2131 c28_i32_2129
  let v3226 : BitVec 32 := Scalar.remsi v3206 v3225
  let c0_i32_2133 : BitVec 32 := 0#32
  let v3228 : BitVec 1 := Scalar.cmpi .slt v3226 c0_i32_2133
  let c0_i32_2134 : BitVec 32 := 0#32
  let v3229 : BitVec 1 := Scalar.cmpi .slt v3225 c0_i32_2134
  let v3230 : BitVec 1 := Scalar.xori v3228 v3229
  let c0_i32_2132 : BitVec 32 := 0#32
  let v3227 : BitVec 1 := Scalar.cmpi .ne v3226 c0_i32_2132
  let v3231 : BitVec 1 := Scalar.andi v3230 v3227
  let v3232 : BitVec 32 := Scalar.addi v3226 v3225
  let v3233 : BitVec 32 := Scalar.select v3231 v3232 v3226
  let c8_i32_2135 : BitVec 32 := 8#32
  let v3234 : BitVec 32 := Scalar.muli v3233 c8_i32_2135
  v3234
def k0_mult90 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2146 : BitVec 32 := 7#32
  let v3242 : BitVec 32 := Scalar.muli v1 c7_i32_2146
  let c3_i32_2147 : BitVec 32 := 3#32
  let v3243 : BitVec 32 := Scalar.addi v3242 c3_i32_2147
  let c28_i32_2155 : BitVec 32 := 28#32
  let c0_i32_2156 : BitVec 32 := 0#32
  let v3261 : BitVec 1 := Scalar.cmpi .eq c28_i32_2155 c0_i32_2156
  let c1_i32_2157 : BitVec 32 := 1#32
  let v3262 : BitVec 32 := Scalar.select v3261 c1_i32_2157 c28_i32_2155
  let v3263 : BitVec 32 := Scalar.remsi v3243 v3262
  let c0_i32_2159 : BitVec 32 := 0#32
  let v3265 : BitVec 1 := Scalar.cmpi .slt v3263 c0_i32_2159
  let c0_i32_2160 : BitVec 32 := 0#32
  let v3266 : BitVec 1 := Scalar.cmpi .slt v3262 c0_i32_2160
  let v3267 : BitVec 1 := Scalar.xori v3265 v3266
  let c0_i32_2158 : BitVec 32 := 0#32
  let v3264 : BitVec 1 := Scalar.cmpi .ne v3263 c0_i32_2158
  let v3268 : BitVec 1 := Scalar.andi v3267 v3264
  let v3269 : BitVec 32 := Scalar.addi v3263 v3262
  let v3270 : BitVec 32 := Scalar.select v3268 v3269 v3263
  let c8_i32_2161 : BitVec 32 := 8#32
  let v3271 : BitVec 32 := Scalar.muli v3270 c8_i32_2161
  v3271
def k0_mult91 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2172 : BitVec 32 := 7#32
  let v3279 : BitVec 32 := Scalar.muli v1 c7_i32_2172
  let c3_i32_2173 : BitVec 32 := 3#32
  let v3280 : BitVec 32 := Scalar.addi v3279 c3_i32_2173
  let c28_i32_2181 : BitVec 32 := 28#32
  let c0_i32_2182 : BitVec 32 := 0#32
  let v3298 : BitVec 1 := Scalar.cmpi .eq c28_i32_2181 c0_i32_2182
  let c1_i32_2183 : BitVec 32 := 1#32
  let v3299 : BitVec 32 := Scalar.select v3298 c1_i32_2183 c28_i32_2181
  let v3300 : BitVec 32 := Scalar.remsi v3280 v3299
  let c0_i32_2185 : BitVec 32 := 0#32
  let v3302 : BitVec 1 := Scalar.cmpi .slt v3300 c0_i32_2185
  let c0_i32_2186 : BitVec 32 := 0#32
  let v3303 : BitVec 1 := Scalar.cmpi .slt v3299 c0_i32_2186
  let v3304 : BitVec 1 := Scalar.xori v3302 v3303
  let c0_i32_2184 : BitVec 32 := 0#32
  let v3301 : BitVec 1 := Scalar.cmpi .ne v3300 c0_i32_2184
  let v3305 : BitVec 1 := Scalar.andi v3304 v3301
  let v3306 : BitVec 32 := Scalar.addi v3300 v3299
  let v3307 : BitVec 32 := Scalar.select v3305 v3306 v3300
  let c8_i32_2187 : BitVec 32 := 8#32
  let v3308 : BitVec 32 := Scalar.muli v3307 c8_i32_2187
  v3308
def k0_mult92 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2198 : BitVec 32 := 7#32
  let v3316 : BitVec 32 := Scalar.muli v1 c7_i32_2198
  let c3_i32_2199 : BitVec 32 := 3#32
  let v3317 : BitVec 32 := Scalar.addi v3316 c3_i32_2199
  let c28_i32_2207 : BitVec 32 := 28#32
  let c0_i32_2208 : BitVec 32 := 0#32
  let v3335 : BitVec 1 := Scalar.cmpi .eq c28_i32_2207 c0_i32_2208
  let c1_i32_2209 : BitVec 32 := 1#32
  let v3336 : BitVec 32 := Scalar.select v3335 c1_i32_2209 c28_i32_2207
  let v3337 : BitVec 32 := Scalar.remsi v3317 v3336
  let c0_i32_2211 : BitVec 32 := 0#32
  let v3339 : BitVec 1 := Scalar.cmpi .slt v3337 c0_i32_2211
  let c0_i32_2212 : BitVec 32 := 0#32
  let v3340 : BitVec 1 := Scalar.cmpi .slt v3336 c0_i32_2212
  let v3341 : BitVec 1 := Scalar.xori v3339 v3340
  let c0_i32_2210 : BitVec 32 := 0#32
  let v3338 : BitVec 1 := Scalar.cmpi .ne v3337 c0_i32_2210
  let v3342 : BitVec 1 := Scalar.andi v3341 v3338
  let v3343 : BitVec 32 := Scalar.addi v3337 v3336
  let v3344 : BitVec 32 := Scalar.select v3342 v3343 v3337
  let c8_i32_2213 : BitVec 32 := 8#32
  let v3345 : BitVec 32 := Scalar.muli v3344 c8_i32_2213
  v3345
@[reducible] def k0_t16_loop : Scf.Loop 32 :=
  let c0_i32_2215 : BitVec 32 := 0#32
  let c112_i32_2216 : BitVec 32 := 112#32
  let v3347 : BitVec 32 := Scalar.addi c0_i32_2215 c112_i32_2216
  let c1_i32_2217 : BitVec 32 := 1#32
  ⟨c0_i32_2215, v3347, c1_i32_2217⟩
def k0_off62 (k0_t16 : Fin k0_t16_loop.trips) : Fin 3 → Nat :=
  let c1_i32_4066 : BitVec 32 := 1#32
  let v6139 : Index := Scalar.indexCast c1_i32_4066
  let c0_i32_2215 : BitVec 32 := 0#32
  let c1_i32_2217 : BitVec 32 := 1#32
  let arg25 : BitVec 32 := Scf.iv c0_i32_2215 c1_i32_2217 k0_t16
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk95 (v6158 : IVec S16 32) (v6160 : IVec S16 32) (v6164 : IVec S16 32) : Prop :=
  (∀ a x, ((![v6164, v6158, v6160] : Fin 3 → IVec S16 32) a x).toNat < S24x8x224.size a)
theorem k0_idx95_inb : ∀ (v6158 : IVec S16 32) (v6160 : IVec S16 32) (v6164 : IVec S16 32) (k0_hw95 : k0_chk95 v6158 v6160 v6164), ∀ a x, ((![v6164, v6158, v6160] : Fin 3 → IVec S16 32) a x).toNat < S24x8x224.size a := fun v6158 v6160 v6164 k0_hw95 => k0_hw95
def k0_off63 (k0_t16 : Fin k0_t16_loop.trips) : Fin 3 → Nat :=
  let c0_i32_4076 : BitVec 32 := 0#32
  let v6168 : Index := Scalar.indexCast c0_i32_4076
  let c0_i32_2215 : BitVec 32 := 0#32
  let c1_i32_2217 : BitVec 32 := 1#32
  let arg25 : BitVec 32 := Scf.iv c0_i32_2215 c1_i32_2217 k0_t16
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk96 (v6173 : IVec S16 32) : Prop :=
  (∀ a x, ((![v6173] : Fin 1 → IVec S16 32) a x).toNat < S11264.size a)
theorem k0_idx96_inb : ∀ (v6173 : IVec S16 32) (k0_hw96 : k0_chk96 v6173), ∀ a x, ((![v6173] : Fin 1 → IVec S16 32) a x).toNat < S11264.size a := fun v6173 k0_hw96 => k0_hw96

def k0_chk97 (v6158 : IVec S16 32) (v6160 : IVec S16 32) (v6177 : IVec S16 32) : Prop :=
  (∀ a x, ((![v6177, v6158, v6160] : Fin 3 → IVec S16 32) a x).toNat < S24x8x224.size a)
theorem k0_idx97_inb : ∀ (v6158 : IVec S16 32) (v6160 : IVec S16 32) (v6177 : IVec S16 32) (k0_hw97 : k0_chk97 v6158 v6160 v6177), ∀ a x, ((![v6177, v6158, v6160] : Fin 3 → IVec S16 32) a x).toNat < S24x8x224.size a := fun v6158 v6160 v6177 k0_hw97 => k0_hw97
def k0_off64 (k0_t16 : Fin k0_t16_loop.trips) : Fin 3 → Nat :=
  let c1_i32_4080 : BitVec 32 := 1#32
  let v6181 : Index := Scalar.indexCast c1_i32_4080
  let c0_i32_2215 : BitVec 32 := 0#32
  let c1_i32_2217 : BitVec 32 := 1#32
  let arg25 : BitVec 32 := Scf.iv c0_i32_2215 c1_i32_2217 k0_t16
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk98 (v6186 : IVec S16 32) : Prop :=
  (∀ a x, ((![v6186] : Fin 1 → IVec S16 32) a x).toNat < S11264.size a)
theorem k0_idx98_inb : ∀ (v6186 : IVec S16 32) (k0_hw98 : k0_chk98 v6186), ∀ a x, ((![v6186] : Fin 1 → IVec S16 32) a x).toNat < S11264.size a := fun v6186 k0_hw98 => k0_hw98
def k0_mult93 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2219 : BitVec 32 := 7#32
  let v3348 : BitVec 32 := Scalar.muli v1 c7_i32_2219
  let c4_i32_2220 : BitVec 32 := 4#32
  let v3349 : BitVec 32 := Scalar.addi v3348 c4_i32_2220
  let c28_i32_2228 : BitVec 32 := 28#32
  let c0_i32_2229 : BitVec 32 := 0#32
  let v3367 : BitVec 1 := Scalar.cmpi .eq c28_i32_2228 c0_i32_2229
  let c1_i32_2230 : BitVec 32 := 1#32
  let v3368 : BitVec 32 := Scalar.select v3367 c1_i32_2230 c28_i32_2228
  let v3369 : BitVec 32 := Scalar.remsi v3349 v3368
  let c0_i32_2232 : BitVec 32 := 0#32
  let v3371 : BitVec 1 := Scalar.cmpi .slt v3369 c0_i32_2232
  let c0_i32_2233 : BitVec 32 := 0#32
  let v3372 : BitVec 1 := Scalar.cmpi .slt v3368 c0_i32_2233
  let v3373 : BitVec 1 := Scalar.xori v3371 v3372
  let c0_i32_2231 : BitVec 32 := 0#32
  let v3370 : BitVec 1 := Scalar.cmpi .ne v3369 c0_i32_2231
  let v3374 : BitVec 1 := Scalar.andi v3373 v3370
  let v3375 : BitVec 32 := Scalar.addi v3369 v3368
  let v3376 : BitVec 32 := Scalar.select v3374 v3375 v3369
  let c8_i32_2234 : BitVec 32 := 8#32
  let v3377 : BitVec 32 := Scalar.muli v3376 c8_i32_2234
  v3377
def k0_mult94 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2245 : BitVec 32 := 7#32
  let v3385 : BitVec 32 := Scalar.muli v1 c7_i32_2245
  let c3_i32_2246 : BitVec 32 := 3#32
  let v3386 : BitVec 32 := Scalar.addi v3385 c3_i32_2246
  let c28_i32_2254 : BitVec 32 := 28#32
  let c0_i32_2255 : BitVec 32 := 0#32
  let v3404 : BitVec 1 := Scalar.cmpi .eq c28_i32_2254 c0_i32_2255
  let c1_i32_2256 : BitVec 32 := 1#32
  let v3405 : BitVec 32 := Scalar.select v3404 c1_i32_2256 c28_i32_2254
  let v3406 : BitVec 32 := Scalar.remsi v3386 v3405
  let c0_i32_2258 : BitVec 32 := 0#32
  let v3408 : BitVec 1 := Scalar.cmpi .slt v3406 c0_i32_2258
  let c0_i32_2259 : BitVec 32 := 0#32
  let v3409 : BitVec 1 := Scalar.cmpi .slt v3405 c0_i32_2259
  let v3410 : BitVec 1 := Scalar.xori v3408 v3409
  let c0_i32_2257 : BitVec 32 := 0#32
  let v3407 : BitVec 1 := Scalar.cmpi .ne v3406 c0_i32_2257
  let v3411 : BitVec 1 := Scalar.andi v3410 v3407
  let v3412 : BitVec 32 := Scalar.addi v3406 v3405
  let v3413 : BitVec 32 := Scalar.select v3411 v3412 v3406
  let c8_i32_2260 : BitVec 32 := 8#32
  let v3414 : BitVec 32 := Scalar.muli v3413 c8_i32_2260
  v3414
def k0_mult95 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2271 : BitVec 32 := 7#32
  let v3422 : BitVec 32 := Scalar.muli v1 c7_i32_2271
  let c3_i32_2272 : BitVec 32 := 3#32
  let v3423 : BitVec 32 := Scalar.addi v3422 c3_i32_2272
  let c28_i32_2280 : BitVec 32 := 28#32
  let c0_i32_2281 : BitVec 32 := 0#32
  let v3441 : BitVec 1 := Scalar.cmpi .eq c28_i32_2280 c0_i32_2281
  let c1_i32_2282 : BitVec 32 := 1#32
  let v3442 : BitVec 32 := Scalar.select v3441 c1_i32_2282 c28_i32_2280
  let v3443 : BitVec 32 := Scalar.remsi v3423 v3442
  let c0_i32_2284 : BitVec 32 := 0#32
  let v3445 : BitVec 1 := Scalar.cmpi .slt v3443 c0_i32_2284
  let c0_i32_2285 : BitVec 32 := 0#32
  let v3446 : BitVec 1 := Scalar.cmpi .slt v3442 c0_i32_2285
  let v3447 : BitVec 1 := Scalar.xori v3445 v3446
  let c0_i32_2283 : BitVec 32 := 0#32
  let v3444 : BitVec 1 := Scalar.cmpi .ne v3443 c0_i32_2283
  let v3448 : BitVec 1 := Scalar.andi v3447 v3444
  let v3449 : BitVec 32 := Scalar.addi v3443 v3442
  let v3450 : BitVec 32 := Scalar.select v3448 v3449 v3443
  let c8_i32_2286 : BitVec 32 := 8#32
  let v3451 : BitVec 32 := Scalar.muli v3450 c8_i32_2286
  v3451
def k0_mult96 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2297 : BitVec 32 := 7#32
  let v3459 : BitVec 32 := Scalar.muli v1 c7_i32_2297
  let c3_i32_2298 : BitVec 32 := 3#32
  let v3460 : BitVec 32 := Scalar.addi v3459 c3_i32_2298
  let c28_i32_2306 : BitVec 32 := 28#32
  let c0_i32_2307 : BitVec 32 := 0#32
  let v3478 : BitVec 1 := Scalar.cmpi .eq c28_i32_2306 c0_i32_2307
  let c1_i32_2308 : BitVec 32 := 1#32
  let v3479 : BitVec 32 := Scalar.select v3478 c1_i32_2308 c28_i32_2306
  let v3480 : BitVec 32 := Scalar.remsi v3460 v3479
  let c0_i32_2310 : BitVec 32 := 0#32
  let v3482 : BitVec 1 := Scalar.cmpi .slt v3480 c0_i32_2310
  let c0_i32_2311 : BitVec 32 := 0#32
  let v3483 : BitVec 1 := Scalar.cmpi .slt v3479 c0_i32_2311
  let v3484 : BitVec 1 := Scalar.xori v3482 v3483
  let c0_i32_2309 : BitVec 32 := 0#32
  let v3481 : BitVec 1 := Scalar.cmpi .ne v3480 c0_i32_2309
  let v3485 : BitVec 1 := Scalar.andi v3484 v3481
  let v3486 : BitVec 32 := Scalar.addi v3480 v3479
  let v3487 : BitVec 32 := Scalar.select v3485 v3486 v3480
  let c8_i32_2312 : BitVec 32 := 8#32
  let v3488 : BitVec 32 := Scalar.muli v3487 c8_i32_2312
  v3488
@[reducible] def k0_t17_loop : Scf.Loop 32 :=
  let c0_i32_2314 : BitVec 32 := 0#32
  let c112_i32_2315 : BitVec 32 := 112#32
  let v3490 : BitVec 32 := Scalar.addi c0_i32_2314 c112_i32_2315
  let c1_i32_2316 : BitVec 32 := 1#32
  ⟨c0_i32_2314, v3490, c1_i32_2316⟩
def k0_off65 (k0_t17 : Fin k0_t17_loop.trips) : Fin 3 → Nat :=
  let c1_i32_4066 : BitVec 32 := 1#32
  let v6139 : Index := Scalar.indexCast c1_i32_4066
  let c0_i32_2314 : BitVec 32 := 0#32
  let c1_i32_2316 : BitVec 32 := 1#32
  let arg25 : BitVec 32 := Scf.iv c0_i32_2314 c1_i32_2316 k0_t17
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk99 (v6158 : IVec S16 32) (v6160 : IVec S16 32) (v6162 : IVec S16 32) : Prop :=
  (∀ a x, ((![v6162, v6158, v6160] : Fin 3 → IVec S16 32) a x).toNat < S24x8x224.size a)
theorem k0_idx99_inb : ∀ (v6158 : IVec S16 32) (v6160 : IVec S16 32) (v6162 : IVec S16 32) (k0_hw99 : k0_chk99 v6158 v6160 v6162), ∀ a x, ((![v6162, v6158, v6160] : Fin 3 → IVec S16 32) a x).toNat < S24x8x224.size a := fun v6158 v6160 v6162 k0_hw99 => k0_hw99
def k0_off66 (k0_t17 : Fin k0_t17_loop.trips) : Fin 3 → Nat :=
  let c2_i32_4075 : BitVec 32 := 2#32
  let v6166 : Index := Scalar.indexCast c2_i32_4075
  let c0_i32_2314 : BitVec 32 := 0#32
  let c1_i32_2316 : BitVec 32 := 1#32
  let arg25 : BitVec 32 := Scf.iv c0_i32_2314 c1_i32_2316 k0_t17
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6167 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6168 : Index := Scalar.indexCast v6138
  ![2, v6167.toNat, v6168.toNat]

def k0_chk100 (v6171 : IVec S16 32) : Prop :=
  (∀ a x, ((![v6171] : Fin 1 → IVec S16 32) a x).toNat < S11264.size a)
theorem k0_idx100_inb : ∀ (v6171 : IVec S16 32) (k0_hw100 : k0_chk100 v6171), ∀ a x, ((![v6171] : Fin 1 → IVec S16 32) a x).toNat < S11264.size a := fun v6171 k0_hw100 => k0_hw100
def k0_mult97 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2318 : BitVec 32 := 7#32
  let v3491 : BitVec 32 := Scalar.muli v1 c7_i32_2318
  let c3_i32_2319 : BitVec 32 := 3#32
  let v3492 : BitVec 32 := Scalar.addi v3491 c3_i32_2319
  let c28_i32_2327 : BitVec 32 := 28#32
  let c0_i32_2328 : BitVec 32 := 0#32
  let v3510 : BitVec 1 := Scalar.cmpi .eq c28_i32_2327 c0_i32_2328
  let c1_i32_2329 : BitVec 32 := 1#32
  let v3511 : BitVec 32 := Scalar.select v3510 c1_i32_2329 c28_i32_2327
  let v3512 : BitVec 32 := Scalar.remsi v3492 v3511
  let c0_i32_2331 : BitVec 32 := 0#32
  let v3514 : BitVec 1 := Scalar.cmpi .slt v3512 c0_i32_2331
  let c0_i32_2332 : BitVec 32 := 0#32
  let v3515 : BitVec 1 := Scalar.cmpi .slt v3511 c0_i32_2332
  let v3516 : BitVec 1 := Scalar.xori v3514 v3515
  let c0_i32_2330 : BitVec 32 := 0#32
  let v3513 : BitVec 1 := Scalar.cmpi .ne v3512 c0_i32_2330
  let v3517 : BitVec 1 := Scalar.andi v3516 v3513
  let v3518 : BitVec 32 := Scalar.addi v3512 v3511
  let v3519 : BitVec 32 := Scalar.select v3517 v3518 v3512
  let c8_i32_2333 : BitVec 32 := 8#32
  let v3520 : BitVec 32 := Scalar.muli v3519 c8_i32_2333
  v3520
def k0_mult98 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2341 : BitVec 32 := 7#32
  let v3530 : BitVec 32 := Scalar.muli v1 c7_i32_2341
  let c4_i32_2342 : BitVec 32 := 4#32
  let v3531 : BitVec 32 := Scalar.addi v3530 c4_i32_2342
  let c28_i32_2350 : BitVec 32 := 28#32
  let c0_i32_2351 : BitVec 32 := 0#32
  let v3549 : BitVec 1 := Scalar.cmpi .eq c28_i32_2350 c0_i32_2351
  let c1_i32_2352 : BitVec 32 := 1#32
  let v3550 : BitVec 32 := Scalar.select v3549 c1_i32_2352 c28_i32_2350
  let v3551 : BitVec 32 := Scalar.remsi v3531 v3550
  let c0_i32_2354 : BitVec 32 := 0#32
  let v3553 : BitVec 1 := Scalar.cmpi .slt v3551 c0_i32_2354
  let c0_i32_2355 : BitVec 32 := 0#32
  let v3554 : BitVec 1 := Scalar.cmpi .slt v3550 c0_i32_2355
  let v3555 : BitVec 1 := Scalar.xori v3553 v3554
  let c0_i32_2353 : BitVec 32 := 0#32
  let v3552 : BitVec 1 := Scalar.cmpi .ne v3551 c0_i32_2353
  let v3556 : BitVec 1 := Scalar.andi v3555 v3552
  let v3557 : BitVec 32 := Scalar.addi v3551 v3550
  let v3558 : BitVec 32 := Scalar.select v3556 v3557 v3551
  let c8_i32_2356 : BitVec 32 := 8#32
  let v3559 : BitVec 32 := Scalar.muli v3558 c8_i32_2356
  v3559
def k0_mult99 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2364 : BitVec 32 := 7#32
  let v3569 : BitVec 32 := Scalar.muli v1 c7_i32_2364
  let c5_i32 : BitVec 32 := 5#32
  let v3570 : BitVec 32 := Scalar.addi v3569 c5_i32
  let c28_i32_2372 : BitVec 32 := 28#32
  let c0_i32_2373 : BitVec 32 := 0#32
  let v3588 : BitVec 1 := Scalar.cmpi .eq c28_i32_2372 c0_i32_2373
  let c1_i32_2374 : BitVec 32 := 1#32
  let v3589 : BitVec 32 := Scalar.select v3588 c1_i32_2374 c28_i32_2372
  let v3590 : BitVec 32 := Scalar.remsi v3570 v3589
  let c0_i32_2376 : BitVec 32 := 0#32
  let v3592 : BitVec 1 := Scalar.cmpi .slt v3590 c0_i32_2376
  let c0_i32_2377 : BitVec 32 := 0#32
  let v3593 : BitVec 1 := Scalar.cmpi .slt v3589 c0_i32_2377
  let v3594 : BitVec 1 := Scalar.xori v3592 v3593
  let c0_i32_2375 : BitVec 32 := 0#32
  let v3591 : BitVec 1 := Scalar.cmpi .ne v3590 c0_i32_2375
  let v3595 : BitVec 1 := Scalar.andi v3594 v3591
  let v3596 : BitVec 32 := Scalar.addi v3590 v3589
  let v3597 : BitVec 32 := Scalar.select v3595 v3596 v3590
  let c8_i32_2378 : BitVec 32 := 8#32
  let v3598 : BitVec 32 := Scalar.muli v3597 c8_i32_2378
  v3598
def k0_mult100 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2386 : BitVec 32 := 7#32
  let v3608 : BitVec 32 := Scalar.muli v1 c7_i32_2386
  let c4_i32_2387 : BitVec 32 := 4#32
  let v3609 : BitVec 32 := Scalar.addi v3608 c4_i32_2387
  let c28_i32_2395 : BitVec 32 := 28#32
  let c0_i32_2396 : BitVec 32 := 0#32
  let v3627 : BitVec 1 := Scalar.cmpi .eq c28_i32_2395 c0_i32_2396
  let c1_i32_2397 : BitVec 32 := 1#32
  let v3628 : BitVec 32 := Scalar.select v3627 c1_i32_2397 c28_i32_2395
  let v3629 : BitVec 32 := Scalar.remsi v3609 v3628
  let c0_i32_2399 : BitVec 32 := 0#32
  let v3631 : BitVec 1 := Scalar.cmpi .slt v3629 c0_i32_2399
  let c0_i32_2400 : BitVec 32 := 0#32
  let v3632 : BitVec 1 := Scalar.cmpi .slt v3628 c0_i32_2400
  let v3633 : BitVec 1 := Scalar.xori v3631 v3632
  let c0_i32_2398 : BitVec 32 := 0#32
  let v3630 : BitVec 1 := Scalar.cmpi .ne v3629 c0_i32_2398
  let v3634 : BitVec 1 := Scalar.andi v3633 v3630
  let v3635 : BitVec 32 := Scalar.addi v3629 v3628
  let v3636 : BitVec 32 := Scalar.select v3634 v3635 v3629
  let c8_i32_2401 : BitVec 32 := 8#32
  let v3637 : BitVec 32 := Scalar.muli v3636 c8_i32_2401
  v3637
def k0_mult101 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2412 : BitVec 32 := 7#32
  let v3645 : BitVec 32 := Scalar.muli v1 c7_i32_2412
  let c4_i32_2413 : BitVec 32 := 4#32
  let v3646 : BitVec 32 := Scalar.addi v3645 c4_i32_2413
  let c28_i32_2421 : BitVec 32 := 28#32
  let c0_i32_2422 : BitVec 32 := 0#32
  let v3664 : BitVec 1 := Scalar.cmpi .eq c28_i32_2421 c0_i32_2422
  let c1_i32_2423 : BitVec 32 := 1#32
  let v3665 : BitVec 32 := Scalar.select v3664 c1_i32_2423 c28_i32_2421
  let v3666 : BitVec 32 := Scalar.remsi v3646 v3665
  let c0_i32_2425 : BitVec 32 := 0#32
  let v3668 : BitVec 1 := Scalar.cmpi .slt v3666 c0_i32_2425
  let c0_i32_2426 : BitVec 32 := 0#32
  let v3669 : BitVec 1 := Scalar.cmpi .slt v3665 c0_i32_2426
  let v3670 : BitVec 1 := Scalar.xori v3668 v3669
  let c0_i32_2424 : BitVec 32 := 0#32
  let v3667 : BitVec 1 := Scalar.cmpi .ne v3666 c0_i32_2424
  let v3671 : BitVec 1 := Scalar.andi v3670 v3667
  let v3672 : BitVec 32 := Scalar.addi v3666 v3665
  let v3673 : BitVec 32 := Scalar.select v3671 v3672 v3666
  let c8_i32_2427 : BitVec 32 := 8#32
  let v3674 : BitVec 32 := Scalar.muli v3673 c8_i32_2427
  v3674
def k0_mult102 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2438 : BitVec 32 := 7#32
  let v3682 : BitVec 32 := Scalar.muli v1 c7_i32_2438
  let c4_i32_2439 : BitVec 32 := 4#32
  let v3683 : BitVec 32 := Scalar.addi v3682 c4_i32_2439
  let c28_i32_2447 : BitVec 32 := 28#32
  let c0_i32_2448 : BitVec 32 := 0#32
  let v3701 : BitVec 1 := Scalar.cmpi .eq c28_i32_2447 c0_i32_2448
  let c1_i32_2449 : BitVec 32 := 1#32
  let v3702 : BitVec 32 := Scalar.select v3701 c1_i32_2449 c28_i32_2447
  let v3703 : BitVec 32 := Scalar.remsi v3683 v3702
  let c0_i32_2451 : BitVec 32 := 0#32
  let v3705 : BitVec 1 := Scalar.cmpi .slt v3703 c0_i32_2451
  let c0_i32_2452 : BitVec 32 := 0#32
  let v3706 : BitVec 1 := Scalar.cmpi .slt v3702 c0_i32_2452
  let v3707 : BitVec 1 := Scalar.xori v3705 v3706
  let c0_i32_2450 : BitVec 32 := 0#32
  let v3704 : BitVec 1 := Scalar.cmpi .ne v3703 c0_i32_2450
  let v3708 : BitVec 1 := Scalar.andi v3707 v3704
  let v3709 : BitVec 32 := Scalar.addi v3703 v3702
  let v3710 : BitVec 32 := Scalar.select v3708 v3709 v3703
  let c8_i32_2453 : BitVec 32 := 8#32
  let v3711 : BitVec 32 := Scalar.muli v3710 c8_i32_2453
  v3711
def k0_mult103 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2464 : BitVec 32 := 7#32
  let v3719 : BitVec 32 := Scalar.muli v1 c7_i32_2464
  let c3_i32_2465 : BitVec 32 := 3#32
  let v3720 : BitVec 32 := Scalar.addi v3719 c3_i32_2465
  let c28_i32_2473 : BitVec 32 := 28#32
  let c0_i32_2474 : BitVec 32 := 0#32
  let v3738 : BitVec 1 := Scalar.cmpi .eq c28_i32_2473 c0_i32_2474
  let c1_i32_2475 : BitVec 32 := 1#32
  let v3739 : BitVec 32 := Scalar.select v3738 c1_i32_2475 c28_i32_2473
  let v3740 : BitVec 32 := Scalar.remsi v3720 v3739
  let c0_i32_2477 : BitVec 32 := 0#32
  let v3742 : BitVec 1 := Scalar.cmpi .slt v3740 c0_i32_2477
  let c0_i32_2478 : BitVec 32 := 0#32
  let v3743 : BitVec 1 := Scalar.cmpi .slt v3739 c0_i32_2478
  let v3744 : BitVec 1 := Scalar.xori v3742 v3743
  let c0_i32_2476 : BitVec 32 := 0#32
  let v3741 : BitVec 1 := Scalar.cmpi .ne v3740 c0_i32_2476
  let v3745 : BitVec 1 := Scalar.andi v3744 v3741
  let v3746 : BitVec 32 := Scalar.addi v3740 v3739
  let v3747 : BitVec 32 := Scalar.select v3745 v3746 v3740
  let c8_i32_2479 : BitVec 32 := 8#32
  let v3748 : BitVec 32 := Scalar.muli v3747 c8_i32_2479
  v3748
def k0_mult104 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2490 : BitVec 32 := 7#32
  let v3756 : BitVec 32 := Scalar.muli v1 c7_i32_2490
  let c3_i32_2491 : BitVec 32 := 3#32
  let v3757 : BitVec 32 := Scalar.addi v3756 c3_i32_2491
  let c28_i32_2499 : BitVec 32 := 28#32
  let c0_i32_2500 : BitVec 32 := 0#32
  let v3775 : BitVec 1 := Scalar.cmpi .eq c28_i32_2499 c0_i32_2500
  let c1_i32_2501 : BitVec 32 := 1#32
  let v3776 : BitVec 32 := Scalar.select v3775 c1_i32_2501 c28_i32_2499
  let v3777 : BitVec 32 := Scalar.remsi v3757 v3776
  let c0_i32_2503 : BitVec 32 := 0#32
  let v3779 : BitVec 1 := Scalar.cmpi .slt v3777 c0_i32_2503
  let c0_i32_2504 : BitVec 32 := 0#32
  let v3780 : BitVec 1 := Scalar.cmpi .slt v3776 c0_i32_2504
  let v3781 : BitVec 1 := Scalar.xori v3779 v3780
  let c0_i32_2502 : BitVec 32 := 0#32
  let v3778 : BitVec 1 := Scalar.cmpi .ne v3777 c0_i32_2502
  let v3782 : BitVec 1 := Scalar.andi v3781 v3778
  let v3783 : BitVec 32 := Scalar.addi v3777 v3776
  let v3784 : BitVec 32 := Scalar.select v3782 v3783 v3777
  let c8_i32_2505 : BitVec 32 := 8#32
  let v3785 : BitVec 32 := Scalar.muli v3784 c8_i32_2505
  v3785
def k0_mult105 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2513 : BitVec 32 := 7#32
  let v3795 : BitVec 32 := Scalar.muli v1 c7_i32_2513
  let c4_i32_2514 : BitVec 32 := 4#32
  let v3796 : BitVec 32 := Scalar.addi v3795 c4_i32_2514
  let c28_i32_2522 : BitVec 32 := 28#32
  let c0_i32_2523 : BitVec 32 := 0#32
  let v3814 : BitVec 1 := Scalar.cmpi .eq c28_i32_2522 c0_i32_2523
  let c1_i32_2524 : BitVec 32 := 1#32
  let v3815 : BitVec 32 := Scalar.select v3814 c1_i32_2524 c28_i32_2522
  let v3816 : BitVec 32 := Scalar.remsi v3796 v3815
  let c0_i32_2526 : BitVec 32 := 0#32
  let v3818 : BitVec 1 := Scalar.cmpi .slt v3816 c0_i32_2526
  let c0_i32_2527 : BitVec 32 := 0#32
  let v3819 : BitVec 1 := Scalar.cmpi .slt v3815 c0_i32_2527
  let v3820 : BitVec 1 := Scalar.xori v3818 v3819
  let c0_i32_2525 : BitVec 32 := 0#32
  let v3817 : BitVec 1 := Scalar.cmpi .ne v3816 c0_i32_2525
  let v3821 : BitVec 1 := Scalar.andi v3820 v3817
  let v3822 : BitVec 32 := Scalar.addi v3816 v3815
  let v3823 : BitVec 32 := Scalar.select v3821 v3822 v3816
  let c8_i32_2528 : BitVec 32 := 8#32
  let v3824 : BitVec 32 := Scalar.muli v3823 c8_i32_2528
  v3824
@[reducible] def k0_t18_loop : Scf.Loop 32 :=
  let c0_i32_2530 : BitVec 32 := 0#32
  let c112_i32_2531 : BitVec 32 := 112#32
  let v3826 : BitVec 32 := Scalar.addi c0_i32_2530 c112_i32_2531
  let c1_i32_2532 : BitVec 32 := 1#32
  ⟨c0_i32_2530, v3826, c1_i32_2532⟩
def k0_off67 (k0_t18 : Fin k0_t18_loop.trips) : Fin 3 → Nat :=
  let c0_i32_4066 : BitVec 32 := 0#32
  let v6139 : Index := Scalar.indexCast c0_i32_4066
  let c0_i32_2530 : BitVec 32 := 0#32
  let c1_i32_2532 : BitVec 32 := 1#32
  let arg25 : BitVec 32 := Scf.iv c0_i32_2530 c1_i32_2532 k0_t18
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk101 (v6158 : IVec S16 32) (v6160 : IVec S16 32) (v6178 : IVec S16 32) : Prop :=
  (∀ a x, ((![v6178, v6158, v6160] : Fin 3 → IVec S16 32) a x).toNat < S24x8x224.size a)
theorem k0_idx101_inb : ∀ (v6158 : IVec S16 32) (v6160 : IVec S16 32) (v6178 : IVec S16 32) (k0_hw101 : k0_chk101 v6158 v6160 v6178), ∀ a x, ((![v6178, v6158, v6160] : Fin 3 → IVec S16 32) a x).toNat < S24x8x224.size a := fun v6158 v6160 v6178 k0_hw101 => k0_hw101

def k0_chk102 (v6158 : IVec S16 32) (v6160 : IVec S16 32) (v6181 : IVec S16 32) : Prop :=
  (∀ a x, ((![v6181, v6158, v6160] : Fin 3 → IVec S16 32) a x).toNat < S24x8x224.size a)
theorem k0_idx102_inb : ∀ (v6158 : IVec S16 32) (v6160 : IVec S16 32) (v6181 : IVec S16 32) (k0_hw102 : k0_chk102 v6158 v6160 v6181), ∀ a x, ((![v6181, v6158, v6160] : Fin 3 → IVec S16 32) a x).toNat < S24x8x224.size a := fun v6158 v6160 v6181 k0_hw102 => k0_hw102
def k0_off68 (k0_t18 : Fin k0_t18_loop.trips) : Fin 3 → Nat :=
  let c0_i32_4084 : BitVec 32 := 0#32
  let v6186 : Index := Scalar.indexCast c0_i32_4084
  let c0_i32_2530 : BitVec 32 := 0#32
  let c1_i32_2532 : BitVec 32 := 1#32
  let arg25 : BitVec 32 := Scf.iv c0_i32_2530 c1_i32_2532 k0_t18
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6187 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6188 : Index := Scalar.indexCast v6138
  ![0, v6187.toNat, v6188.toNat]

def k0_chk103 (v6191 : IVec S16 32) : Prop :=
  (∀ a x, ((![v6191] : Fin 1 → IVec S16 32) a x).toNat < S11264.size a)
theorem k0_idx103_inb : ∀ (v6191 : IVec S16 32) (k0_hw103 : k0_chk103 v6191), ∀ a x, ((![v6191] : Fin 1 → IVec S16 32) a x).toNat < S11264.size a := fun v6191 k0_hw103 => k0_hw103

def k0_chk104 (v6158 : IVec S16 32) (v6160 : IVec S16 32) (v6193 : IVec S16 32) : Prop :=
  (∀ a x, ((![v6193, v6158, v6160] : Fin 3 → IVec S16 32) a x).toNat < S24x8x224.size a)
theorem k0_idx104_inb : ∀ (v6158 : IVec S16 32) (v6160 : IVec S16 32) (v6193 : IVec S16 32) (k0_hw104 : k0_chk104 v6158 v6160 v6193), ∀ a x, ((![v6193, v6158, v6160] : Fin 3 → IVec S16 32) a x).toNat < S24x8x224.size a := fun v6158 v6160 v6193 k0_hw104 => k0_hw104

def k0_chk105 (v6158 : IVec S16 32) (v6160 : IVec S16 32) (v6196 : IVec S16 32) : Prop :=
  (∀ a x, ((![v6196, v6158, v6160] : Fin 3 → IVec S16 32) a x).toNat < S24x8x224.size a)
theorem k0_idx105_inb : ∀ (v6158 : IVec S16 32) (v6160 : IVec S16 32) (v6196 : IVec S16 32) (k0_hw105 : k0_chk105 v6158 v6160 v6196), ∀ a x, ((![v6196, v6158, v6160] : Fin 3 → IVec S16 32) a x).toNat < S24x8x224.size a := fun v6158 v6160 v6196 k0_hw105 => k0_hw105
def k0_off69 (k0_t18 : Fin k0_t18_loop.trips) : Fin 3 → Nat :=
  let c1_i32_4089 : BitVec 32 := 1#32
  let v6201 : Index := Scalar.indexCast c1_i32_4089
  let c0_i32_2530 : BitVec 32 := 0#32
  let c1_i32_2532 : BitVec 32 := 1#32
  let arg25 : BitVec 32 := Scf.iv c0_i32_2530 c1_i32_2532 k0_t18
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6202 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6203 : Index := Scalar.indexCast v6138
  ![1, v6202.toNat, v6203.toNat]

def k0_chk106 (v6206 : IVec S16 32) : Prop :=
  (∀ a x, ((![v6206] : Fin 1 → IVec S16 32) a x).toNat < S11264.size a)
theorem k0_idx106_inb : ∀ (v6206 : IVec S16 32) (k0_hw106 : k0_chk106 v6206), ∀ a x, ((![v6206] : Fin 1 → IVec S16 32) a x).toNat < S11264.size a := fun v6206 k0_hw106 => k0_hw106

def k0_chk107 (v6158 : IVec S16 32) (v6160 : IVec S16 32) (v6208 : IVec S16 32) : Prop :=
  (∀ a x, ((![v6208, v6158, v6160] : Fin 3 → IVec S16 32) a x).toNat < S24x8x224.size a)
theorem k0_idx107_inb : ∀ (v6158 : IVec S16 32) (v6160 : IVec S16 32) (v6208 : IVec S16 32) (k0_hw107 : k0_chk107 v6158 v6160 v6208), ∀ a x, ((![v6208, v6158, v6160] : Fin 3 → IVec S16 32) a x).toNat < S24x8x224.size a := fun v6158 v6160 v6208 k0_hw107 => k0_hw107

def k0_chk108 (v6158 : IVec S16 32) (v6160 : IVec S16 32) (v6211 : IVec S16 32) : Prop :=
  (∀ a x, ((![v6211, v6158, v6160] : Fin 3 → IVec S16 32) a x).toNat < S24x8x224.size a)
theorem k0_idx108_inb : ∀ (v6158 : IVec S16 32) (v6160 : IVec S16 32) (v6211 : IVec S16 32) (k0_hw108 : k0_chk108 v6158 v6160 v6211), ∀ a x, ((![v6211, v6158, v6160] : Fin 3 → IVec S16 32) a x).toNat < S24x8x224.size a := fun v6158 v6160 v6211 k0_hw108 => k0_hw108
def k0_off70 (k0_t18 : Fin k0_t18_loop.trips) : Fin 3 → Nat :=
  let c2_i32_4093 : BitVec 32 := 2#32
  let v6216 : Index := Scalar.indexCast c2_i32_4093
  let c0_i32_2530 : BitVec 32 := 0#32
  let c1_i32_2532 : BitVec 32 := 1#32
  let arg25 : BitVec 32 := Scf.iv c0_i32_2530 c1_i32_2532 k0_t18
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6217 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6218 : Index := Scalar.indexCast v6138
  ![2, v6217.toNat, v6218.toNat]

def k0_chk109 (v6221 : IVec S16 32) : Prop :=
  (∀ a x, ((![v6221] : Fin 1 → IVec S16 32) a x).toNat < S11264.size a)
theorem k0_idx109_inb : ∀ (v6221 : IVec S16 32) (k0_hw109 : k0_chk109 v6221), ∀ a x, ((![v6221] : Fin 1 → IVec S16 32) a x).toNat < S11264.size a := fun v6221 k0_hw109 => k0_hw109

def k0_chk110 (v6158 : IVec S16 32) (v6160 : IVec S16 32) (v6223 : IVec S16 32) : Prop :=
  (∀ a x, ((![v6223, v6158, v6160] : Fin 3 → IVec S16 32) a x).toNat < S24x8x224.size a)
theorem k0_idx110_inb : ∀ (v6158 : IVec S16 32) (v6160 : IVec S16 32) (v6223 : IVec S16 32) (k0_hw110 : k0_chk110 v6158 v6160 v6223), ∀ a x, ((![v6223, v6158, v6160] : Fin 3 → IVec S16 32) a x).toNat < S24x8x224.size a := fun v6158 v6160 v6223 k0_hw110 => k0_hw110

def k0_chk111 (v6158 : IVec S16 32) (v6160 : IVec S16 32) (v6226 : IVec S16 32) : Prop :=
  (∀ a x, ((![v6226, v6158, v6160] : Fin 3 → IVec S16 32) a x).toNat < S24x8x224.size a)
theorem k0_idx111_inb : ∀ (v6158 : IVec S16 32) (v6160 : IVec S16 32) (v6226 : IVec S16 32) (k0_hw111 : k0_chk111 v6158 v6160 v6226), ∀ a x, ((![v6226, v6158, v6160] : Fin 3 → IVec S16 32) a x).toNat < S24x8x224.size a := fun v6158 v6160 v6226 k0_hw111 => k0_hw111
def k0_off71 (k0_t18 : Fin k0_t18_loop.trips) : Fin 3 → Nat :=
  let c3_i32_4097 : BitVec 32 := 3#32
  let v6231 : Index := Scalar.indexCast c3_i32_4097
  let c0_i32_2530 : BitVec 32 := 0#32
  let c1_i32_2532 : BitVec 32 := 1#32
  let arg25 : BitVec 32 := Scf.iv c0_i32_2530 c1_i32_2532 k0_t18
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6232 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6233 : Index := Scalar.indexCast v6138
  ![3, v6232.toNat, v6233.toNat]

def k0_chk112 (v6236 : IVec S16 32) : Prop :=
  (∀ a x, ((![v6236] : Fin 1 → IVec S16 32) a x).toNat < S11264.size a)
theorem k0_idx112_inb : ∀ (v6236 : IVec S16 32) (k0_hw112 : k0_chk112 v6236), ∀ a x, ((![v6236] : Fin 1 → IVec S16 32) a x).toNat < S11264.size a := fun v6236 k0_hw112 => k0_hw112

def k0_chk113 (v6241 : IVec S16 32) : Prop :=
  (∀ a x, ((![v6241] : Fin 1 → IVec S16 32) a x).toNat < S11264.size a)
theorem k0_idx113_inb : ∀ (v6241 : IVec S16 32) (k0_hw113 : k0_chk113 v6241), ∀ a x, ((![v6241] : Fin 1 → IVec S16 32) a x).toNat < S11264.size a := fun v6241 k0_hw113 => k0_hw113
def k0_mult106 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2534 : BitVec 32 := 7#32
  let v3827 : BitVec 32 := Scalar.muli v1 c7_i32_2534
  let c4_i32_2535 : BitVec 32 := 4#32
  let v3828 : BitVec 32 := Scalar.addi v3827 c4_i32_2535
  let c28_i32_2543 : BitVec 32 := 28#32
  let c0_i32_2544 : BitVec 32 := 0#32
  let v3846 : BitVec 1 := Scalar.cmpi .eq c28_i32_2543 c0_i32_2544
  let c1_i32_2545 : BitVec 32 := 1#32
  let v3847 : BitVec 32 := Scalar.select v3846 c1_i32_2545 c28_i32_2543
  let v3848 : BitVec 32 := Scalar.remsi v3828 v3847
  let c0_i32_2547 : BitVec 32 := 0#32
  let v3850 : BitVec 1 := Scalar.cmpi .slt v3848 c0_i32_2547
  let c0_i32_2548 : BitVec 32 := 0#32
  let v3851 : BitVec 1 := Scalar.cmpi .slt v3847 c0_i32_2548
  let v3852 : BitVec 1 := Scalar.xori v3850 v3851
  let c0_i32_2546 : BitVec 32 := 0#32
  let v3849 : BitVec 1 := Scalar.cmpi .ne v3848 c0_i32_2546
  let v3853 : BitVec 1 := Scalar.andi v3852 v3849
  let v3854 : BitVec 32 := Scalar.addi v3848 v3847
  let v3855 : BitVec 32 := Scalar.select v3853 v3854 v3848
  let c8_i32_2549 : BitVec 32 := 8#32
  let v3856 : BitVec 32 := Scalar.muli v3855 c8_i32_2549
  v3856
def k0_mult107 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2554 : BitVec 32 := 7#32
  let v3862 : BitVec 32 := Scalar.muli v1 c7_i32_2554
  let c4_i32_2555 : BitVec 32 := 4#32
  let v3863 : BitVec 32 := Scalar.addi v3862 c4_i32_2555
  let c28_i32_2563 : BitVec 32 := 28#32
  let c0_i32_2564 : BitVec 32 := 0#32
  let v3881 : BitVec 1 := Scalar.cmpi .eq c28_i32_2563 c0_i32_2564
  let c1_i32_2565 : BitVec 32 := 1#32
  let v3882 : BitVec 32 := Scalar.select v3881 c1_i32_2565 c28_i32_2563
  let v3883 : BitVec 32 := Scalar.remsi v3863 v3882
  let c0_i32_2567 : BitVec 32 := 0#32
  let v3885 : BitVec 1 := Scalar.cmpi .slt v3883 c0_i32_2567
  let c0_i32_2568 : BitVec 32 := 0#32
  let v3886 : BitVec 1 := Scalar.cmpi .slt v3882 c0_i32_2568
  let v3887 : BitVec 1 := Scalar.xori v3885 v3886
  let c0_i32_2566 : BitVec 32 := 0#32
  let v3884 : BitVec 1 := Scalar.cmpi .ne v3883 c0_i32_2566
  let v3888 : BitVec 1 := Scalar.andi v3887 v3884
  let v3889 : BitVec 32 := Scalar.addi v3883 v3882
  let v3890 : BitVec 32 := Scalar.select v3888 v3889 v3883
  let c8_i32_2569 : BitVec 32 := 8#32
  let v3891 : BitVec 32 := Scalar.muli v3890 c8_i32_2569
  v3891
def k0_mult108 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2580 : BitVec 32 := 7#32
  let v3899 : BitVec 32 := Scalar.muli v1 c7_i32_2580
  let c4_i32_2581 : BitVec 32 := 4#32
  let v3900 : BitVec 32 := Scalar.addi v3899 c4_i32_2581
  let c28_i32_2589 : BitVec 32 := 28#32
  let c0_i32_2590 : BitVec 32 := 0#32
  let v3918 : BitVec 1 := Scalar.cmpi .eq c28_i32_2589 c0_i32_2590
  let c1_i32_2591 : BitVec 32 := 1#32
  let v3919 : BitVec 32 := Scalar.select v3918 c1_i32_2591 c28_i32_2589
  let v3920 : BitVec 32 := Scalar.remsi v3900 v3919
  let c0_i32_2593 : BitVec 32 := 0#32
  let v3922 : BitVec 1 := Scalar.cmpi .slt v3920 c0_i32_2593
  let c0_i32_2594 : BitVec 32 := 0#32
  let v3923 : BitVec 1 := Scalar.cmpi .slt v3919 c0_i32_2594
  let v3924 : BitVec 1 := Scalar.xori v3922 v3923
  let c0_i32_2592 : BitVec 32 := 0#32
  let v3921 : BitVec 1 := Scalar.cmpi .ne v3920 c0_i32_2592
  let v3925 : BitVec 1 := Scalar.andi v3924 v3921
  let v3926 : BitVec 32 := Scalar.addi v3920 v3919
  let v3927 : BitVec 32 := Scalar.select v3925 v3926 v3920
  let c8_i32_2595 : BitVec 32 := 8#32
  let v3928 : BitVec 32 := Scalar.muli v3927 c8_i32_2595
  v3928
def k0_mult109 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2606 : BitVec 32 := 7#32
  let v3936 : BitVec 32 := Scalar.muli v1 c7_i32_2606
  let c4_i32_2607 : BitVec 32 := 4#32
  let v3937 : BitVec 32 := Scalar.addi v3936 c4_i32_2607
  let c28_i32_2615 : BitVec 32 := 28#32
  let c0_i32_2616 : BitVec 32 := 0#32
  let v3955 : BitVec 1 := Scalar.cmpi .eq c28_i32_2615 c0_i32_2616
  let c1_i32_2617 : BitVec 32 := 1#32
  let v3956 : BitVec 32 := Scalar.select v3955 c1_i32_2617 c28_i32_2615
  let v3957 : BitVec 32 := Scalar.remsi v3937 v3956
  let c0_i32_2619 : BitVec 32 := 0#32
  let v3959 : BitVec 1 := Scalar.cmpi .slt v3957 c0_i32_2619
  let c0_i32_2620 : BitVec 32 := 0#32
  let v3960 : BitVec 1 := Scalar.cmpi .slt v3956 c0_i32_2620
  let v3961 : BitVec 1 := Scalar.xori v3959 v3960
  let c0_i32_2618 : BitVec 32 := 0#32
  let v3958 : BitVec 1 := Scalar.cmpi .ne v3957 c0_i32_2618
  let v3962 : BitVec 1 := Scalar.andi v3961 v3958
  let v3963 : BitVec 32 := Scalar.addi v3957 v3956
  let v3964 : BitVec 32 := Scalar.select v3962 v3963 v3957
  let c8_i32_2621 : BitVec 32 := 8#32
  let v3965 : BitVec 32 := Scalar.muli v3964 c8_i32_2621
  v3965
def k0_mult110 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2626 : BitVec 32 := 7#32
  let v3971 : BitVec 32 := Scalar.muli v1 c7_i32_2626
  let c4_i32_2627 : BitVec 32 := 4#32
  let v3972 : BitVec 32 := Scalar.addi v3971 c4_i32_2627
  let c28_i32_2635 : BitVec 32 := 28#32
  let c0_i32_2636 : BitVec 32 := 0#32
  let v3990 : BitVec 1 := Scalar.cmpi .eq c28_i32_2635 c0_i32_2636
  let c1_i32_2637 : BitVec 32 := 1#32
  let v3991 : BitVec 32 := Scalar.select v3990 c1_i32_2637 c28_i32_2635
  let v3992 : BitVec 32 := Scalar.remsi v3972 v3991
  let c0_i32_2639 : BitVec 32 := 0#32
  let v3994 : BitVec 1 := Scalar.cmpi .slt v3992 c0_i32_2639
  let c0_i32_2640 : BitVec 32 := 0#32
  let v3995 : BitVec 1 := Scalar.cmpi .slt v3991 c0_i32_2640
  let v3996 : BitVec 1 := Scalar.xori v3994 v3995
  let c0_i32_2638 : BitVec 32 := 0#32
  let v3993 : BitVec 1 := Scalar.cmpi .ne v3992 c0_i32_2638
  let v3997 : BitVec 1 := Scalar.andi v3996 v3993
  let v3998 : BitVec 32 := Scalar.addi v3992 v3991
  let v3999 : BitVec 32 := Scalar.select v3997 v3998 v3992
  let c8_i32_2641 : BitVec 32 := 8#32
  let v4000 : BitVec 32 := Scalar.muli v3999 c8_i32_2641
  v4000
def k0_mult111 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2652 : BitVec 32 := 7#32
  let v4008 : BitVec 32 := Scalar.muli v1 c7_i32_2652
  let c4_i32_2653 : BitVec 32 := 4#32
  let v4009 : BitVec 32 := Scalar.addi v4008 c4_i32_2653
  let c28_i32_2661 : BitVec 32 := 28#32
  let c0_i32_2662 : BitVec 32 := 0#32
  let v4027 : BitVec 1 := Scalar.cmpi .eq c28_i32_2661 c0_i32_2662
  let c1_i32_2663 : BitVec 32 := 1#32
  let v4028 : BitVec 32 := Scalar.select v4027 c1_i32_2663 c28_i32_2661
  let v4029 : BitVec 32 := Scalar.remsi v4009 v4028
  let c0_i32_2665 : BitVec 32 := 0#32
  let v4031 : BitVec 1 := Scalar.cmpi .slt v4029 c0_i32_2665
  let c0_i32_2666 : BitVec 32 := 0#32
  let v4032 : BitVec 1 := Scalar.cmpi .slt v4028 c0_i32_2666
  let v4033 : BitVec 1 := Scalar.xori v4031 v4032
  let c0_i32_2664 : BitVec 32 := 0#32
  let v4030 : BitVec 1 := Scalar.cmpi .ne v4029 c0_i32_2664
  let v4034 : BitVec 1 := Scalar.andi v4033 v4030
  let v4035 : BitVec 32 := Scalar.addi v4029 v4028
  let v4036 : BitVec 32 := Scalar.select v4034 v4035 v4029
  let c8_i32_2667 : BitVec 32 := 8#32
  let v4037 : BitVec 32 := Scalar.muli v4036 c8_i32_2667
  v4037
@[reducible] def k0_t19_loop : Scf.Loop 32 :=
  let c0_i32_2669 : BitVec 32 := 0#32
  let c112_i32_2670 : BitVec 32 := 112#32
  let v4039 : BitVec 32 := Scalar.addi c0_i32_2669 c112_i32_2670
  let c1_i32_2671 : BitVec 32 := 1#32
  ⟨c0_i32_2669, v4039, c1_i32_2671⟩
def k0_off72 (k0_t19 : Fin k0_t19_loop.trips) : Fin 3 → Nat :=
  let c0_i32_4066 : BitVec 32 := 0#32
  let v6139 : Index := Scalar.indexCast c0_i32_4066
  let c0_i32_2669 : BitVec 32 := 0#32
  let c1_i32_2671 : BitVec 32 := 1#32
  let arg25 : BitVec 32 := Scf.iv c0_i32_2669 c1_i32_2671 k0_t19
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk114 (v6158 : IVec S16 32) (v6160 : IVec S16 32) (v6164 : IVec S16 32) : Prop :=
  (∀ a x, ((![v6164, v6158, v6160] : Fin 3 → IVec S16 32) a x).toNat < S24x8x224.size a)
theorem k0_idx114_inb : ∀ (v6158 : IVec S16 32) (v6160 : IVec S16 32) (v6164 : IVec S16 32) (k0_hw114 : k0_chk114 v6158 v6160 v6164), ∀ a x, ((![v6164, v6158, v6160] : Fin 3 → IVec S16 32) a x).toNat < S24x8x224.size a := fun v6158 v6160 v6164 k0_hw114 => k0_hw114
def k0_off73 (k0_t19 : Fin k0_t19_loop.trips) : Fin 3 → Nat :=
  let c0_i32_4076 : BitVec 32 := 0#32
  let v6168 : Index := Scalar.indexCast c0_i32_4076
  let c0_i32_2669 : BitVec 32 := 0#32
  let c1_i32_2671 : BitVec 32 := 1#32
  let arg25 : BitVec 32 := Scf.iv c0_i32_2669 c1_i32_2671 k0_t19
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk115 (v6173 : IVec S16 32) : Prop :=
  (∀ a x, ((![v6173] : Fin 1 → IVec S16 32) a x).toNat < S11264.size a)
theorem k0_idx115_inb : ∀ (v6173 : IVec S16 32) (k0_hw115 : k0_chk115 v6173), ∀ a x, ((![v6173] : Fin 1 → IVec S16 32) a x).toNat < S11264.size a := fun v6173 k0_hw115 => k0_hw115

def k0_chk116 (v6158 : IVec S16 32) (v6160 : IVec S16 32) (v6177 : IVec S16 32) : Prop :=
  (∀ a x, ((![v6177, v6158, v6160] : Fin 3 → IVec S16 32) a x).toNat < S24x8x224.size a)
theorem k0_idx116_inb : ∀ (v6158 : IVec S16 32) (v6160 : IVec S16 32) (v6177 : IVec S16 32) (k0_hw116 : k0_chk116 v6158 v6160 v6177), ∀ a x, ((![v6177, v6158, v6160] : Fin 3 → IVec S16 32) a x).toNat < S24x8x224.size a := fun v6158 v6160 v6177 k0_hw116 => k0_hw116
def k0_off74 (k0_t19 : Fin k0_t19_loop.trips) : Fin 3 → Nat :=
  let c1_i32_4080 : BitVec 32 := 1#32
  let v6181 : Index := Scalar.indexCast c1_i32_4080
  let c0_i32_2669 : BitVec 32 := 0#32
  let c1_i32_2671 : BitVec 32 := 1#32
  let arg25 : BitVec 32 := Scf.iv c0_i32_2669 c1_i32_2671 k0_t19
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk117 (v6186 : IVec S16 32) : Prop :=
  (∀ a x, ((![v6186] : Fin 1 → IVec S16 32) a x).toNat < S11264.size a)
theorem k0_idx117_inb : ∀ (v6186 : IVec S16 32) (k0_hw117 : k0_chk117 v6186), ∀ a x, ((![v6186] : Fin 1 → IVec S16 32) a x).toNat < S11264.size a := fun v6186 k0_hw117 => k0_hw117

def k0_chk118 (v6158 : IVec S16 32) (v6160 : IVec S16 32) (v6190 : IVec S16 32) : Prop :=
  (∀ a x, ((![v6190, v6158, v6160] : Fin 3 → IVec S16 32) a x).toNat < S24x8x224.size a)
theorem k0_idx118_inb : ∀ (v6158 : IVec S16 32) (v6160 : IVec S16 32) (v6190 : IVec S16 32) (k0_hw118 : k0_chk118 v6158 v6160 v6190), ∀ a x, ((![v6190, v6158, v6160] : Fin 3 → IVec S16 32) a x).toNat < S24x8x224.size a := fun v6158 v6160 v6190 k0_hw118 => k0_hw118
def k0_off75 (k0_t19 : Fin k0_t19_loop.trips) : Fin 3 → Nat :=
  let c2_i32_4084 : BitVec 32 := 2#32
  let v6194 : Index := Scalar.indexCast c2_i32_4084
  let c0_i32_2669 : BitVec 32 := 0#32
  let c1_i32_2671 : BitVec 32 := 1#32
  let arg25 : BitVec 32 := Scf.iv c0_i32_2669 c1_i32_2671 k0_t19
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6195 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6196 : Index := Scalar.indexCast v6138
  ![2, v6195.toNat, v6196.toNat]

def k0_chk119 (v6199 : IVec S16 32) : Prop :=
  (∀ a x, ((![v6199] : Fin 1 → IVec S16 32) a x).toNat < S11264.size a)
theorem k0_idx119_inb : ∀ (v6199 : IVec S16 32) (k0_hw119 : k0_chk119 v6199), ∀ a x, ((![v6199] : Fin 1 → IVec S16 32) a x).toNat < S11264.size a := fun v6199 k0_hw119 => k0_hw119
def k0_mult112 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2673 : BitVec 32 := 7#32
  let v4040 : BitVec 32 := Scalar.muli v1 c7_i32_2673
  let c5_i32_2674 : BitVec 32 := 5#32
  let v4041 : BitVec 32 := Scalar.addi v4040 c5_i32_2674
  let c28_i32_2682 : BitVec 32 := 28#32
  let c0_i32_2683 : BitVec 32 := 0#32
  let v4059 : BitVec 1 := Scalar.cmpi .eq c28_i32_2682 c0_i32_2683
  let c1_i32_2684 : BitVec 32 := 1#32
  let v4060 : BitVec 32 := Scalar.select v4059 c1_i32_2684 c28_i32_2682
  let v4061 : BitVec 32 := Scalar.remsi v4041 v4060
  let c0_i32_2686 : BitVec 32 := 0#32
  let v4063 : BitVec 1 := Scalar.cmpi .slt v4061 c0_i32_2686
  let c0_i32_2687 : BitVec 32 := 0#32
  let v4064 : BitVec 1 := Scalar.cmpi .slt v4060 c0_i32_2687
  let v4065 : BitVec 1 := Scalar.xori v4063 v4064
  let c0_i32_2685 : BitVec 32 := 0#32
  let v4062 : BitVec 1 := Scalar.cmpi .ne v4061 c0_i32_2685
  let v4066 : BitVec 1 := Scalar.andi v4065 v4062
  let v4067 : BitVec 32 := Scalar.addi v4061 v4060
  let v4068 : BitVec 32 := Scalar.select v4066 v4067 v4061
  let c8_i32_2688 : BitVec 32 := 8#32
  let v4069 : BitVec 32 := Scalar.muli v4068 c8_i32_2688
  v4069
def k0_mult113 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2699 : BitVec 32 := 7#32
  let v4077 : BitVec 32 := Scalar.muli v1 c7_i32_2699
  let c4_i32_2700 : BitVec 32 := 4#32
  let v4078 : BitVec 32 := Scalar.addi v4077 c4_i32_2700
  let c28_i32_2708 : BitVec 32 := 28#32
  let c0_i32_2709 : BitVec 32 := 0#32
  let v4096 : BitVec 1 := Scalar.cmpi .eq c28_i32_2708 c0_i32_2709
  let c1_i32_2710 : BitVec 32 := 1#32
  let v4097 : BitVec 32 := Scalar.select v4096 c1_i32_2710 c28_i32_2708
  let v4098 : BitVec 32 := Scalar.remsi v4078 v4097
  let c0_i32_2712 : BitVec 32 := 0#32
  let v4100 : BitVec 1 := Scalar.cmpi .slt v4098 c0_i32_2712
  let c0_i32_2713 : BitVec 32 := 0#32
  let v4101 : BitVec 1 := Scalar.cmpi .slt v4097 c0_i32_2713
  let v4102 : BitVec 1 := Scalar.xori v4100 v4101
  let c0_i32_2711 : BitVec 32 := 0#32
  let v4099 : BitVec 1 := Scalar.cmpi .ne v4098 c0_i32_2711
  let v4103 : BitVec 1 := Scalar.andi v4102 v4099
  let v4104 : BitVec 32 := Scalar.addi v4098 v4097
  let v4105 : BitVec 32 := Scalar.select v4103 v4104 v4098
  let c8_i32_2714 : BitVec 32 := 8#32
  let v4106 : BitVec 32 := Scalar.muli v4105 c8_i32_2714
  v4106
def k0_mult114 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2725 : BitVec 32 := 7#32
  let v4114 : BitVec 32 := Scalar.muli v1 c7_i32_2725
  let c4_i32_2726 : BitVec 32 := 4#32
  let v4115 : BitVec 32 := Scalar.addi v4114 c4_i32_2726
  let c28_i32_2734 : BitVec 32 := 28#32
  let c0_i32_2735 : BitVec 32 := 0#32
  let v4133 : BitVec 1 := Scalar.cmpi .eq c28_i32_2734 c0_i32_2735
  let c1_i32_2736 : BitVec 32 := 1#32
  let v4134 : BitVec 32 := Scalar.select v4133 c1_i32_2736 c28_i32_2734
  let v4135 : BitVec 32 := Scalar.remsi v4115 v4134
  let c0_i32_2738 : BitVec 32 := 0#32
  let v4137 : BitVec 1 := Scalar.cmpi .slt v4135 c0_i32_2738
  let c0_i32_2739 : BitVec 32 := 0#32
  let v4138 : BitVec 1 := Scalar.cmpi .slt v4134 c0_i32_2739
  let v4139 : BitVec 1 := Scalar.xori v4137 v4138
  let c0_i32_2737 : BitVec 32 := 0#32
  let v4136 : BitVec 1 := Scalar.cmpi .ne v4135 c0_i32_2737
  let v4140 : BitVec 1 := Scalar.andi v4139 v4136
  let v4141 : BitVec 32 := Scalar.addi v4135 v4134
  let v4142 : BitVec 32 := Scalar.select v4140 v4141 v4135
  let c8_i32_2740 : BitVec 32 := 8#32
  let v4143 : BitVec 32 := Scalar.muli v4142 c8_i32_2740
  v4143
def k0_mult115 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2751 : BitVec 32 := 7#32
  let v4151 : BitVec 32 := Scalar.muli v1 c7_i32_2751
  let c4_i32_2752 : BitVec 32 := 4#32
  let v4152 : BitVec 32 := Scalar.addi v4151 c4_i32_2752
  let c28_i32_2760 : BitVec 32 := 28#32
  let c0_i32_2761 : BitVec 32 := 0#32
  let v4170 : BitVec 1 := Scalar.cmpi .eq c28_i32_2760 c0_i32_2761
  let c1_i32_2762 : BitVec 32 := 1#32
  let v4171 : BitVec 32 := Scalar.select v4170 c1_i32_2762 c28_i32_2760
  let v4172 : BitVec 32 := Scalar.remsi v4152 v4171
  let c0_i32_2764 : BitVec 32 := 0#32
  let v4174 : BitVec 1 := Scalar.cmpi .slt v4172 c0_i32_2764
  let c0_i32_2765 : BitVec 32 := 0#32
  let v4175 : BitVec 1 := Scalar.cmpi .slt v4171 c0_i32_2765
  let v4176 : BitVec 1 := Scalar.xori v4174 v4175
  let c0_i32_2763 : BitVec 32 := 0#32
  let v4173 : BitVec 1 := Scalar.cmpi .ne v4172 c0_i32_2763
  let v4177 : BitVec 1 := Scalar.andi v4176 v4173
  let v4178 : BitVec 32 := Scalar.addi v4172 v4171
  let v4179 : BitVec 32 := Scalar.select v4177 v4178 v4172
  let c8_i32_2766 : BitVec 32 := 8#32
  let v4180 : BitVec 32 := Scalar.muli v4179 c8_i32_2766
  v4180
def k0_mult116 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2777 : BitVec 32 := 7#32
  let v4188 : BitVec 32 := Scalar.muli v1 c7_i32_2777
  let c4_i32_2778 : BitVec 32 := 4#32
  let v4189 : BitVec 32 := Scalar.addi v4188 c4_i32_2778
  let c28_i32_2786 : BitVec 32 := 28#32
  let c0_i32_2787 : BitVec 32 := 0#32
  let v4207 : BitVec 1 := Scalar.cmpi .eq c28_i32_2786 c0_i32_2787
  let c1_i32_2788 : BitVec 32 := 1#32
  let v4208 : BitVec 32 := Scalar.select v4207 c1_i32_2788 c28_i32_2786
  let v4209 : BitVec 32 := Scalar.remsi v4189 v4208
  let c0_i32_2790 : BitVec 32 := 0#32
  let v4211 : BitVec 1 := Scalar.cmpi .slt v4209 c0_i32_2790
  let c0_i32_2791 : BitVec 32 := 0#32
  let v4212 : BitVec 1 := Scalar.cmpi .slt v4208 c0_i32_2791
  let v4213 : BitVec 1 := Scalar.xori v4211 v4212
  let c0_i32_2789 : BitVec 32 := 0#32
  let v4210 : BitVec 1 := Scalar.cmpi .ne v4209 c0_i32_2789
  let v4214 : BitVec 1 := Scalar.andi v4213 v4210
  let v4215 : BitVec 32 := Scalar.addi v4209 v4208
  let v4216 : BitVec 32 := Scalar.select v4214 v4215 v4209
  let c8_i32_2792 : BitVec 32 := 8#32
  let v4217 : BitVec 32 := Scalar.muli v4216 c8_i32_2792
  v4217
@[reducible] def k0_t20_loop : Scf.Loop 32 :=
  let c0_i32_2794 : BitVec 32 := 0#32
  let c112_i32_2795 : BitVec 32 := 112#32
  let v4219 : BitVec 32 := Scalar.addi c0_i32_2794 c112_i32_2795
  let c1_i32_2796 : BitVec 32 := 1#32
  ⟨c0_i32_2794, v4219, c1_i32_2796⟩
def k0_off76 (k0_t20 : Fin k0_t20_loop.trips) : Fin 3 → Nat :=
  let c0_i32_4066 : BitVec 32 := 0#32
  let v6139 : Index := Scalar.indexCast c0_i32_4066
  let c0_i32_2794 : BitVec 32 := 0#32
  let c1_i32_2796 : BitVec 32 := 1#32
  let arg25 : BitVec 32 := Scf.iv c0_i32_2794 c1_i32_2796 k0_t20
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk120 (v6158 : IVec S16 32) (v6160 : IVec S16 32) (v6164 : IVec S16 32) : Prop :=
  (∀ a x, ((![v6164, v6158, v6160] : Fin 3 → IVec S16 32) a x).toNat < S24x8x224.size a)
theorem k0_idx120_inb : ∀ (v6158 : IVec S16 32) (v6160 : IVec S16 32) (v6164 : IVec S16 32) (k0_hw120 : k0_chk120 v6158 v6160 v6164), ∀ a x, ((![v6164, v6158, v6160] : Fin 3 → IVec S16 32) a x).toNat < S24x8x224.size a := fun v6158 v6160 v6164 k0_hw120 => k0_hw120
def k0_off77 (k0_t20 : Fin k0_t20_loop.trips) : Fin 3 → Nat :=
  let c0_i32_4076 : BitVec 32 := 0#32
  let v6168 : Index := Scalar.indexCast c0_i32_4076
  let c0_i32_2794 : BitVec 32 := 0#32
  let c1_i32_2796 : BitVec 32 := 1#32
  let arg25 : BitVec 32 := Scf.iv c0_i32_2794 c1_i32_2796 k0_t20
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk121 (v6173 : IVec S16 32) : Prop :=
  (∀ a x, ((![v6173] : Fin 1 → IVec S16 32) a x).toNat < S11264.size a)
theorem k0_idx121_inb : ∀ (v6173 : IVec S16 32) (k0_hw121 : k0_chk121 v6173), ∀ a x, ((![v6173] : Fin 1 → IVec S16 32) a x).toNat < S11264.size a := fun v6173 k0_hw121 => k0_hw121

def k0_chk122 (v6158 : IVec S16 32) (v6160 : IVec S16 32) (v6177 : IVec S16 32) : Prop :=
  (∀ a x, ((![v6177, v6158, v6160] : Fin 3 → IVec S16 32) a x).toNat < S24x8x224.size a)
theorem k0_idx122_inb : ∀ (v6158 : IVec S16 32) (v6160 : IVec S16 32) (v6177 : IVec S16 32) (k0_hw122 : k0_chk122 v6158 v6160 v6177), ∀ a x, ((![v6177, v6158, v6160] : Fin 3 → IVec S16 32) a x).toNat < S24x8x224.size a := fun v6158 v6160 v6177 k0_hw122 => k0_hw122
def k0_off78 (k0_t20 : Fin k0_t20_loop.trips) : Fin 3 → Nat :=
  let c1_i32_4080 : BitVec 32 := 1#32
  let v6181 : Index := Scalar.indexCast c1_i32_4080
  let c0_i32_2794 : BitVec 32 := 0#32
  let c1_i32_2796 : BitVec 32 := 1#32
  let arg25 : BitVec 32 := Scf.iv c0_i32_2794 c1_i32_2796 k0_t20
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk123 (v6186 : IVec S16 32) : Prop :=
  (∀ a x, ((![v6186] : Fin 1 → IVec S16 32) a x).toNat < S11264.size a)
theorem k0_idx123_inb : ∀ (v6186 : IVec S16 32) (k0_hw123 : k0_chk123 v6186), ∀ a x, ((![v6186] : Fin 1 → IVec S16 32) a x).toNat < S11264.size a := fun v6186 k0_hw123 => k0_hw123
def k0_mult117 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2798 : BitVec 32 := 7#32
  let v4220 : BitVec 32 := Scalar.muli v1 c7_i32_2798
  let c5_i32_2799 : BitVec 32 := 5#32
  let v4221 : BitVec 32 := Scalar.addi v4220 c5_i32_2799
  let c28_i32_2807 : BitVec 32 := 28#32
  let c0_i32_2808 : BitVec 32 := 0#32
  let v4239 : BitVec 1 := Scalar.cmpi .eq c28_i32_2807 c0_i32_2808
  let c1_i32_2809 : BitVec 32 := 1#32
  let v4240 : BitVec 32 := Scalar.select v4239 c1_i32_2809 c28_i32_2807
  let v4241 : BitVec 32 := Scalar.remsi v4221 v4240
  let c0_i32_2811 : BitVec 32 := 0#32
  let v4243 : BitVec 1 := Scalar.cmpi .slt v4241 c0_i32_2811
  let c0_i32_2812 : BitVec 32 := 0#32
  let v4244 : BitVec 1 := Scalar.cmpi .slt v4240 c0_i32_2812
  let v4245 : BitVec 1 := Scalar.xori v4243 v4244
  let c0_i32_2810 : BitVec 32 := 0#32
  let v4242 : BitVec 1 := Scalar.cmpi .ne v4241 c0_i32_2810
  let v4246 : BitVec 1 := Scalar.andi v4245 v4242
  let v4247 : BitVec 32 := Scalar.addi v4241 v4240
  let v4248 : BitVec 32 := Scalar.select v4246 v4247 v4241
  let c8_i32_2813 : BitVec 32 := 8#32
  let v4249 : BitVec 32 := Scalar.muli v4248 c8_i32_2813
  v4249
def k0_mult118 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2824 : BitVec 32 := 7#32
  let v4257 : BitVec 32 := Scalar.muli v1 c7_i32_2824
  let c4_i32_2825 : BitVec 32 := 4#32
  let v4258 : BitVec 32 := Scalar.addi v4257 c4_i32_2825
  let c28_i32_2833 : BitVec 32 := 28#32
  let c0_i32_2834 : BitVec 32 := 0#32
  let v4276 : BitVec 1 := Scalar.cmpi .eq c28_i32_2833 c0_i32_2834
  let c1_i32_2835 : BitVec 32 := 1#32
  let v4277 : BitVec 32 := Scalar.select v4276 c1_i32_2835 c28_i32_2833
  let v4278 : BitVec 32 := Scalar.remsi v4258 v4277
  let c0_i32_2837 : BitVec 32 := 0#32
  let v4280 : BitVec 1 := Scalar.cmpi .slt v4278 c0_i32_2837
  let c0_i32_2838 : BitVec 32 := 0#32
  let v4281 : BitVec 1 := Scalar.cmpi .slt v4277 c0_i32_2838
  let v4282 : BitVec 1 := Scalar.xori v4280 v4281
  let c0_i32_2836 : BitVec 32 := 0#32
  let v4279 : BitVec 1 := Scalar.cmpi .ne v4278 c0_i32_2836
  let v4283 : BitVec 1 := Scalar.andi v4282 v4279
  let v4284 : BitVec 32 := Scalar.addi v4278 v4277
  let v4285 : BitVec 32 := Scalar.select v4283 v4284 v4278
  let c8_i32_2839 : BitVec 32 := 8#32
  let v4286 : BitVec 32 := Scalar.muli v4285 c8_i32_2839
  v4286
def k0_mult119 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2850 : BitVec 32 := 7#32
  let v4294 : BitVec 32 := Scalar.muli v1 c7_i32_2850
  let c4_i32_2851 : BitVec 32 := 4#32
  let v4295 : BitVec 32 := Scalar.addi v4294 c4_i32_2851
  let c28_i32_2859 : BitVec 32 := 28#32
  let c0_i32_2860 : BitVec 32 := 0#32
  let v4313 : BitVec 1 := Scalar.cmpi .eq c28_i32_2859 c0_i32_2860
  let c1_i32_2861 : BitVec 32 := 1#32
  let v4314 : BitVec 32 := Scalar.select v4313 c1_i32_2861 c28_i32_2859
  let v4315 : BitVec 32 := Scalar.remsi v4295 v4314
  let c0_i32_2863 : BitVec 32 := 0#32
  let v4317 : BitVec 1 := Scalar.cmpi .slt v4315 c0_i32_2863
  let c0_i32_2864 : BitVec 32 := 0#32
  let v4318 : BitVec 1 := Scalar.cmpi .slt v4314 c0_i32_2864
  let v4319 : BitVec 1 := Scalar.xori v4317 v4318
  let c0_i32_2862 : BitVec 32 := 0#32
  let v4316 : BitVec 1 := Scalar.cmpi .ne v4315 c0_i32_2862
  let v4320 : BitVec 1 := Scalar.andi v4319 v4316
  let v4321 : BitVec 32 := Scalar.addi v4315 v4314
  let v4322 : BitVec 32 := Scalar.select v4320 v4321 v4315
  let c8_i32_2865 : BitVec 32 := 8#32
  let v4323 : BitVec 32 := Scalar.muli v4322 c8_i32_2865
  v4323
def k0_mult120 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2876 : BitVec 32 := 7#32
  let v4331 : BitVec 32 := Scalar.muli v1 c7_i32_2876
  let c4_i32_2877 : BitVec 32 := 4#32
  let v4332 : BitVec 32 := Scalar.addi v4331 c4_i32_2877
  let c28_i32_2885 : BitVec 32 := 28#32
  let c0_i32_2886 : BitVec 32 := 0#32
  let v4350 : BitVec 1 := Scalar.cmpi .eq c28_i32_2885 c0_i32_2886
  let c1_i32_2887 : BitVec 32 := 1#32
  let v4351 : BitVec 32 := Scalar.select v4350 c1_i32_2887 c28_i32_2885
  let v4352 : BitVec 32 := Scalar.remsi v4332 v4351
  let c0_i32_2889 : BitVec 32 := 0#32
  let v4354 : BitVec 1 := Scalar.cmpi .slt v4352 c0_i32_2889
  let c0_i32_2890 : BitVec 32 := 0#32
  let v4355 : BitVec 1 := Scalar.cmpi .slt v4351 c0_i32_2890
  let v4356 : BitVec 1 := Scalar.xori v4354 v4355
  let c0_i32_2888 : BitVec 32 := 0#32
  let v4353 : BitVec 1 := Scalar.cmpi .ne v4352 c0_i32_2888
  let v4357 : BitVec 1 := Scalar.andi v4356 v4353
  let v4358 : BitVec 32 := Scalar.addi v4352 v4351
  let v4359 : BitVec 32 := Scalar.select v4357 v4358 v4352
  let c8_i32_2891 : BitVec 32 := 8#32
  let v4360 : BitVec 32 := Scalar.muli v4359 c8_i32_2891
  v4360
@[reducible] def k0_t21_loop : Scf.Loop 32 :=
  let c0_i32_2893 : BitVec 32 := 0#32
  let c112_i32_2894 : BitVec 32 := 112#32
  let v4362 : BitVec 32 := Scalar.addi c0_i32_2893 c112_i32_2894
  let c1_i32_2895 : BitVec 32 := 1#32
  ⟨c0_i32_2893, v4362, c1_i32_2895⟩
def k0_off79 (k0_t21 : Fin k0_t21_loop.trips) : Fin 3 → Nat :=
  let c0_i32_4066 : BitVec 32 := 0#32
  let v6139 : Index := Scalar.indexCast c0_i32_4066
  let c0_i32_2893 : BitVec 32 := 0#32
  let c1_i32_2895 : BitVec 32 := 1#32
  let arg25 : BitVec 32 := Scf.iv c0_i32_2893 c1_i32_2895 k0_t21
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk124 (v6158 : IVec S16 32) (v6160 : IVec S16 32) (v6162 : IVec S16 32) : Prop :=
  (∀ a x, ((![v6162, v6158, v6160] : Fin 3 → IVec S16 32) a x).toNat < S24x8x224.size a)
theorem k0_idx124_inb : ∀ (v6158 : IVec S16 32) (v6160 : IVec S16 32) (v6162 : IVec S16 32) (k0_hw124 : k0_chk124 v6158 v6160 v6162), ∀ a x, ((![v6162, v6158, v6160] : Fin 3 → IVec S16 32) a x).toNat < S24x8x224.size a := fun v6158 v6160 v6162 k0_hw124 => k0_hw124
def k0_off80 (k0_t21 : Fin k0_t21_loop.trips) : Fin 3 → Nat :=
  let c2_i32_4075 : BitVec 32 := 2#32
  let v6166 : Index := Scalar.indexCast c2_i32_4075
  let c0_i32_2893 : BitVec 32 := 0#32
  let c1_i32_2895 : BitVec 32 := 1#32
  let arg25 : BitVec 32 := Scf.iv c0_i32_2893 c1_i32_2895 k0_t21
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6167 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6168 : Index := Scalar.indexCast v6138
  ![2, v6167.toNat, v6168.toNat]

def k0_chk125 (v6171 : IVec S16 32) : Prop :=
  (∀ a x, ((![v6171] : Fin 1 → IVec S16 32) a x).toNat < S11264.size a)
theorem k0_idx125_inb : ∀ (v6171 : IVec S16 32) (k0_hw125 : k0_chk125 v6171), ∀ a x, ((![v6171] : Fin 1 → IVec S16 32) a x).toNat < S11264.size a := fun v6171 k0_hw125 => k0_hw125
def k0_mult121 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2897 : BitVec 32 := 7#32
  let v4363 : BitVec 32 := Scalar.muli v1 c7_i32_2897
  let c4_i32_2898 : BitVec 32 := 4#32
  let v4364 : BitVec 32 := Scalar.addi v4363 c4_i32_2898
  let c28_i32_2906 : BitVec 32 := 28#32
  let c0_i32_2907 : BitVec 32 := 0#32
  let v4382 : BitVec 1 := Scalar.cmpi .eq c28_i32_2906 c0_i32_2907
  let c1_i32_2908 : BitVec 32 := 1#32
  let v4383 : BitVec 32 := Scalar.select v4382 c1_i32_2908 c28_i32_2906
  let v4384 : BitVec 32 := Scalar.remsi v4364 v4383
  let c0_i32_2910 : BitVec 32 := 0#32
  let v4386 : BitVec 1 := Scalar.cmpi .slt v4384 c0_i32_2910
  let c0_i32_2911 : BitVec 32 := 0#32
  let v4387 : BitVec 1 := Scalar.cmpi .slt v4383 c0_i32_2911
  let v4388 : BitVec 1 := Scalar.xori v4386 v4387
  let c0_i32_2909 : BitVec 32 := 0#32
  let v4385 : BitVec 1 := Scalar.cmpi .ne v4384 c0_i32_2909
  let v4389 : BitVec 1 := Scalar.andi v4388 v4385
  let v4390 : BitVec 32 := Scalar.addi v4384 v4383
  let v4391 : BitVec 32 := Scalar.select v4389 v4390 v4384
  let c8_i32_2912 : BitVec 32 := 8#32
  let v4392 : BitVec 32 := Scalar.muli v4391 c8_i32_2912
  v4392
def k0_mult122 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2920 : BitVec 32 := 7#32
  let v4402 : BitVec 32 := Scalar.muli v1 c7_i32_2920
  let c5_i32_2921 : BitVec 32 := 5#32
  let v4403 : BitVec 32 := Scalar.addi v4402 c5_i32_2921
  let c28_i32_2929 : BitVec 32 := 28#32
  let c0_i32_2930 : BitVec 32 := 0#32
  let v4421 : BitVec 1 := Scalar.cmpi .eq c28_i32_2929 c0_i32_2930
  let c1_i32_2931 : BitVec 32 := 1#32
  let v4422 : BitVec 32 := Scalar.select v4421 c1_i32_2931 c28_i32_2929
  let v4423 : BitVec 32 := Scalar.remsi v4403 v4422
  let c0_i32_2933 : BitVec 32 := 0#32
  let v4425 : BitVec 1 := Scalar.cmpi .slt v4423 c0_i32_2933
  let c0_i32_2934 : BitVec 32 := 0#32
  let v4426 : BitVec 1 := Scalar.cmpi .slt v4422 c0_i32_2934
  let v4427 : BitVec 1 := Scalar.xori v4425 v4426
  let c0_i32_2932 : BitVec 32 := 0#32
  let v4424 : BitVec 1 := Scalar.cmpi .ne v4423 c0_i32_2932
  let v4428 : BitVec 1 := Scalar.andi v4427 v4424
  let v4429 : BitVec 32 := Scalar.addi v4423 v4422
  let v4430 : BitVec 32 := Scalar.select v4428 v4429 v4423
  let c8_i32_2935 : BitVec 32 := 8#32
  let v4431 : BitVec 32 := Scalar.muli v4430 c8_i32_2935
  v4431
def k0_mult123 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2943 : BitVec 32 := 7#32
  let v4441 : BitVec 32 := Scalar.muli v1 c7_i32_2943
  let c6_i32 : BitVec 32 := 6#32
  let v4442 : BitVec 32 := Scalar.addi v4441 c6_i32
  let c28_i32_2951 : BitVec 32 := 28#32
  let c0_i32_2952 : BitVec 32 := 0#32
  let v4460 : BitVec 1 := Scalar.cmpi .eq c28_i32_2951 c0_i32_2952
  let c1_i32_2953 : BitVec 32 := 1#32
  let v4461 : BitVec 32 := Scalar.select v4460 c1_i32_2953 c28_i32_2951
  let v4462 : BitVec 32 := Scalar.remsi v4442 v4461
  let c0_i32_2955 : BitVec 32 := 0#32
  let v4464 : BitVec 1 := Scalar.cmpi .slt v4462 c0_i32_2955
  let c0_i32_2956 : BitVec 32 := 0#32
  let v4465 : BitVec 1 := Scalar.cmpi .slt v4461 c0_i32_2956
  let v4466 : BitVec 1 := Scalar.xori v4464 v4465
  let c0_i32_2954 : BitVec 32 := 0#32
  let v4463 : BitVec 1 := Scalar.cmpi .ne v4462 c0_i32_2954
  let v4467 : BitVec 1 := Scalar.andi v4466 v4463
  let v4468 : BitVec 32 := Scalar.addi v4462 v4461
  let v4469 : BitVec 32 := Scalar.select v4467 v4468 v4462
  let c8_i32_2957 : BitVec 32 := 8#32
  let v4470 : BitVec 32 := Scalar.muli v4469 c8_i32_2957
  v4470
def k0_mult124 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2965 : BitVec 32 := 7#32
  let v4480 : BitVec 32 := Scalar.muli v1 c7_i32_2965
  let c5_i32_2966 : BitVec 32 := 5#32
  let v4481 : BitVec 32 := Scalar.addi v4480 c5_i32_2966
  let c28_i32_2974 : BitVec 32 := 28#32
  let c0_i32_2975 : BitVec 32 := 0#32
  let v4499 : BitVec 1 := Scalar.cmpi .eq c28_i32_2974 c0_i32_2975
  let c1_i32_2976 : BitVec 32 := 1#32
  let v4500 : BitVec 32 := Scalar.select v4499 c1_i32_2976 c28_i32_2974
  let v4501 : BitVec 32 := Scalar.remsi v4481 v4500
  let c0_i32_2978 : BitVec 32 := 0#32
  let v4503 : BitVec 1 := Scalar.cmpi .slt v4501 c0_i32_2978
  let c0_i32_2979 : BitVec 32 := 0#32
  let v4504 : BitVec 1 := Scalar.cmpi .slt v4500 c0_i32_2979
  let v4505 : BitVec 1 := Scalar.xori v4503 v4504
  let c0_i32_2977 : BitVec 32 := 0#32
  let v4502 : BitVec 1 := Scalar.cmpi .ne v4501 c0_i32_2977
  let v4506 : BitVec 1 := Scalar.andi v4505 v4502
  let v4507 : BitVec 32 := Scalar.addi v4501 v4500
  let v4508 : BitVec 32 := Scalar.select v4506 v4507 v4501
  let c8_i32_2980 : BitVec 32 := 8#32
  let v4509 : BitVec 32 := Scalar.muli v4508 c8_i32_2980
  v4509
def k0_mult125 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_2991 : BitVec 32 := 7#32
  let v4517 : BitVec 32 := Scalar.muli v1 c7_i32_2991
  let c5_i32_2992 : BitVec 32 := 5#32
  let v4518 : BitVec 32 := Scalar.addi v4517 c5_i32_2992
  let c28_i32_3000 : BitVec 32 := 28#32
  let c0_i32_3001 : BitVec 32 := 0#32
  let v4536 : BitVec 1 := Scalar.cmpi .eq c28_i32_3000 c0_i32_3001
  let c1_i32_3002 : BitVec 32 := 1#32
  let v4537 : BitVec 32 := Scalar.select v4536 c1_i32_3002 c28_i32_3000
  let v4538 : BitVec 32 := Scalar.remsi v4518 v4537
  let c0_i32_3004 : BitVec 32 := 0#32
  let v4540 : BitVec 1 := Scalar.cmpi .slt v4538 c0_i32_3004
  let c0_i32_3005 : BitVec 32 := 0#32
  let v4541 : BitVec 1 := Scalar.cmpi .slt v4537 c0_i32_3005
  let v4542 : BitVec 1 := Scalar.xori v4540 v4541
  let c0_i32_3003 : BitVec 32 := 0#32
  let v4539 : BitVec 1 := Scalar.cmpi .ne v4538 c0_i32_3003
  let v4543 : BitVec 1 := Scalar.andi v4542 v4539
  let v4544 : BitVec 32 := Scalar.addi v4538 v4537
  let v4545 : BitVec 32 := Scalar.select v4543 v4544 v4538
  let c8_i32_3006 : BitVec 32 := 8#32
  let v4546 : BitVec 32 := Scalar.muli v4545 c8_i32_3006
  v4546
def k0_mult126 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3017 : BitVec 32 := 7#32
  let v4554 : BitVec 32 := Scalar.muli v1 c7_i32_3017
  let c5_i32_3018 : BitVec 32 := 5#32
  let v4555 : BitVec 32 := Scalar.addi v4554 c5_i32_3018
  let c28_i32_3026 : BitVec 32 := 28#32
  let c0_i32_3027 : BitVec 32 := 0#32
  let v4573 : BitVec 1 := Scalar.cmpi .eq c28_i32_3026 c0_i32_3027
  let c1_i32_3028 : BitVec 32 := 1#32
  let v4574 : BitVec 32 := Scalar.select v4573 c1_i32_3028 c28_i32_3026
  let v4575 : BitVec 32 := Scalar.remsi v4555 v4574
  let c0_i32_3030 : BitVec 32 := 0#32
  let v4577 : BitVec 1 := Scalar.cmpi .slt v4575 c0_i32_3030
  let c0_i32_3031 : BitVec 32 := 0#32
  let v4578 : BitVec 1 := Scalar.cmpi .slt v4574 c0_i32_3031
  let v4579 : BitVec 1 := Scalar.xori v4577 v4578
  let c0_i32_3029 : BitVec 32 := 0#32
  let v4576 : BitVec 1 := Scalar.cmpi .ne v4575 c0_i32_3029
  let v4580 : BitVec 1 := Scalar.andi v4579 v4576
  let v4581 : BitVec 32 := Scalar.addi v4575 v4574
  let v4582 : BitVec 32 := Scalar.select v4580 v4581 v4575
  let c8_i32_3032 : BitVec 32 := 8#32
  let v4583 : BitVec 32 := Scalar.muli v4582 c8_i32_3032
  v4583
def k0_mult127 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3043 : BitVec 32 := 7#32
  let v4591 : BitVec 32 := Scalar.muli v1 c7_i32_3043
  let c4_i32_3044 : BitVec 32 := 4#32
  let v4592 : BitVec 32 := Scalar.addi v4591 c4_i32_3044
  let c28_i32_3052 : BitVec 32 := 28#32
  let c0_i32_3053 : BitVec 32 := 0#32
  let v4610 : BitVec 1 := Scalar.cmpi .eq c28_i32_3052 c0_i32_3053
  let c1_i32_3054 : BitVec 32 := 1#32
  let v4611 : BitVec 32 := Scalar.select v4610 c1_i32_3054 c28_i32_3052
  let v4612 : BitVec 32 := Scalar.remsi v4592 v4611
  let c0_i32_3056 : BitVec 32 := 0#32
  let v4614 : BitVec 1 := Scalar.cmpi .slt v4612 c0_i32_3056
  let c0_i32_3057 : BitVec 32 := 0#32
  let v4615 : BitVec 1 := Scalar.cmpi .slt v4611 c0_i32_3057
  let v4616 : BitVec 1 := Scalar.xori v4614 v4615
  let c0_i32_3055 : BitVec 32 := 0#32
  let v4613 : BitVec 1 := Scalar.cmpi .ne v4612 c0_i32_3055
  let v4617 : BitVec 1 := Scalar.andi v4616 v4613
  let v4618 : BitVec 32 := Scalar.addi v4612 v4611
  let v4619 : BitVec 32 := Scalar.select v4617 v4618 v4612
  let c8_i32_3058 : BitVec 32 := 8#32
  let v4620 : BitVec 32 := Scalar.muli v4619 c8_i32_3058
  v4620
def k0_mult128 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3069 : BitVec 32 := 7#32
  let v4628 : BitVec 32 := Scalar.muli v1 c7_i32_3069
  let c4_i32_3070 : BitVec 32 := 4#32
  let v4629 : BitVec 32 := Scalar.addi v4628 c4_i32_3070
  let c28_i32_3078 : BitVec 32 := 28#32
  let c0_i32_3079 : BitVec 32 := 0#32
  let v4647 : BitVec 1 := Scalar.cmpi .eq c28_i32_3078 c0_i32_3079
  let c1_i32_3080 : BitVec 32 := 1#32
  let v4648 : BitVec 32 := Scalar.select v4647 c1_i32_3080 c28_i32_3078
  let v4649 : BitVec 32 := Scalar.remsi v4629 v4648
  let c0_i32_3082 : BitVec 32 := 0#32
  let v4651 : BitVec 1 := Scalar.cmpi .slt v4649 c0_i32_3082
  let c0_i32_3083 : BitVec 32 := 0#32
  let v4652 : BitVec 1 := Scalar.cmpi .slt v4648 c0_i32_3083
  let v4653 : BitVec 1 := Scalar.xori v4651 v4652
  let c0_i32_3081 : BitVec 32 := 0#32
  let v4650 : BitVec 1 := Scalar.cmpi .ne v4649 c0_i32_3081
  let v4654 : BitVec 1 := Scalar.andi v4653 v4650
  let v4655 : BitVec 32 := Scalar.addi v4649 v4648
  let v4656 : BitVec 32 := Scalar.select v4654 v4655 v4649
  let c8_i32_3084 : BitVec 32 := 8#32
  let v4657 : BitVec 32 := Scalar.muli v4656 c8_i32_3084
  v4657
def k0_mult129 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3092 : BitVec 32 := 7#32
  let v4667 : BitVec 32 := Scalar.muli v1 c7_i32_3092
  let c5_i32_3093 : BitVec 32 := 5#32
  let v4668 : BitVec 32 := Scalar.addi v4667 c5_i32_3093
  let c28_i32_3101 : BitVec 32 := 28#32
  let c0_i32_3102 : BitVec 32 := 0#32
  let v4686 : BitVec 1 := Scalar.cmpi .eq c28_i32_3101 c0_i32_3102
  let c1_i32_3103 : BitVec 32 := 1#32
  let v4687 : BitVec 32 := Scalar.select v4686 c1_i32_3103 c28_i32_3101
  let v4688 : BitVec 32 := Scalar.remsi v4668 v4687
  let c0_i32_3105 : BitVec 32 := 0#32
  let v4690 : BitVec 1 := Scalar.cmpi .slt v4688 c0_i32_3105
  let c0_i32_3106 : BitVec 32 := 0#32
  let v4691 : BitVec 1 := Scalar.cmpi .slt v4687 c0_i32_3106
  let v4692 : BitVec 1 := Scalar.xori v4690 v4691
  let c0_i32_3104 : BitVec 32 := 0#32
  let v4689 : BitVec 1 := Scalar.cmpi .ne v4688 c0_i32_3104
  let v4693 : BitVec 1 := Scalar.andi v4692 v4689
  let v4694 : BitVec 32 := Scalar.addi v4688 v4687
  let v4695 : BitVec 32 := Scalar.select v4693 v4694 v4688
  let c8_i32_3107 : BitVec 32 := 8#32
  let v4696 : BitVec 32 := Scalar.muli v4695 c8_i32_3107
  v4696
@[reducible] def k0_t22_loop : Scf.Loop 32 :=
  let c0_i32_3109 : BitVec 32 := 0#32
  let c112_i32_3110 : BitVec 32 := 112#32
  let v4698 : BitVec 32 := Scalar.addi c0_i32_3109 c112_i32_3110
  let c1_i32_3111 : BitVec 32 := 1#32
  ⟨c0_i32_3109, v4698, c1_i32_3111⟩
def k0_off81 (k0_t22 : Fin k0_t22_loop.trips) : Fin 3 → Nat :=
  let c1_i32_4066 : BitVec 32 := 1#32
  let v6139 : Index := Scalar.indexCast c1_i32_4066
  let c0_i32_3109 : BitVec 32 := 0#32
  let c1_i32_3111 : BitVec 32 := 1#32
  let arg25 : BitVec 32 := Scf.iv c0_i32_3109 c1_i32_3111 k0_t22
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk126 (v6158 : IVec S16 32) (v6160 : IVec S16 32) (v6178 : IVec S16 32) : Prop :=
  (∀ a x, ((![v6178, v6158, v6160] : Fin 3 → IVec S16 32) a x).toNat < S24x8x224.size a)
theorem k0_idx126_inb : ∀ (v6158 : IVec S16 32) (v6160 : IVec S16 32) (v6178 : IVec S16 32) (k0_hw126 : k0_chk126 v6158 v6160 v6178), ∀ a x, ((![v6178, v6158, v6160] : Fin 3 → IVec S16 32) a x).toNat < S24x8x224.size a := fun v6158 v6160 v6178 k0_hw126 => k0_hw126

def k0_chk127 (v6158 : IVec S16 32) (v6160 : IVec S16 32) (v6181 : IVec S16 32) : Prop :=
  (∀ a x, ((![v6181, v6158, v6160] : Fin 3 → IVec S16 32) a x).toNat < S24x8x224.size a)
theorem k0_idx127_inb : ∀ (v6158 : IVec S16 32) (v6160 : IVec S16 32) (v6181 : IVec S16 32) (k0_hw127 : k0_chk127 v6158 v6160 v6181), ∀ a x, ((![v6181, v6158, v6160] : Fin 3 → IVec S16 32) a x).toNat < S24x8x224.size a := fun v6158 v6160 v6181 k0_hw127 => k0_hw127
def k0_off82 (k0_t22 : Fin k0_t22_loop.trips) : Fin 3 → Nat :=
  let c0_i32_4084 : BitVec 32 := 0#32
  let v6186 : Index := Scalar.indexCast c0_i32_4084
  let c0_i32_3109 : BitVec 32 := 0#32
  let c1_i32_3111 : BitVec 32 := 1#32
  let arg25 : BitVec 32 := Scf.iv c0_i32_3109 c1_i32_3111 k0_t22
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6187 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6188 : Index := Scalar.indexCast v6138
  ![0, v6187.toNat, v6188.toNat]

def k0_chk128 (v6191 : IVec S16 32) : Prop :=
  (∀ a x, ((![v6191] : Fin 1 → IVec S16 32) a x).toNat < S11264.size a)
theorem k0_idx128_inb : ∀ (v6191 : IVec S16 32) (k0_hw128 : k0_chk128 v6191), ∀ a x, ((![v6191] : Fin 1 → IVec S16 32) a x).toNat < S11264.size a := fun v6191 k0_hw128 => k0_hw128

def k0_chk129 (v6158 : IVec S16 32) (v6160 : IVec S16 32) (v6193 : IVec S16 32) : Prop :=
  (∀ a x, ((![v6193, v6158, v6160] : Fin 3 → IVec S16 32) a x).toNat < S24x8x224.size a)
theorem k0_idx129_inb : ∀ (v6158 : IVec S16 32) (v6160 : IVec S16 32) (v6193 : IVec S16 32) (k0_hw129 : k0_chk129 v6158 v6160 v6193), ∀ a x, ((![v6193, v6158, v6160] : Fin 3 → IVec S16 32) a x).toNat < S24x8x224.size a := fun v6158 v6160 v6193 k0_hw129 => k0_hw129

def k0_chk130 (v6158 : IVec S16 32) (v6160 : IVec S16 32) (v6196 : IVec S16 32) : Prop :=
  (∀ a x, ((![v6196, v6158, v6160] : Fin 3 → IVec S16 32) a x).toNat < S24x8x224.size a)
theorem k0_idx130_inb : ∀ (v6158 : IVec S16 32) (v6160 : IVec S16 32) (v6196 : IVec S16 32) (k0_hw130 : k0_chk130 v6158 v6160 v6196), ∀ a x, ((![v6196, v6158, v6160] : Fin 3 → IVec S16 32) a x).toNat < S24x8x224.size a := fun v6158 v6160 v6196 k0_hw130 => k0_hw130
def k0_off83 (k0_t22 : Fin k0_t22_loop.trips) : Fin 3 → Nat :=
  let c1_i32_4089 : BitVec 32 := 1#32
  let v6201 : Index := Scalar.indexCast c1_i32_4089
  let c0_i32_3109 : BitVec 32 := 0#32
  let c1_i32_3111 : BitVec 32 := 1#32
  let arg25 : BitVec 32 := Scf.iv c0_i32_3109 c1_i32_3111 k0_t22
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6202 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6203 : Index := Scalar.indexCast v6138
  ![1, v6202.toNat, v6203.toNat]

def k0_chk131 (v6206 : IVec S16 32) : Prop :=
  (∀ a x, ((![v6206] : Fin 1 → IVec S16 32) a x).toNat < S11264.size a)
theorem k0_idx131_inb : ∀ (v6206 : IVec S16 32) (k0_hw131 : k0_chk131 v6206), ∀ a x, ((![v6206] : Fin 1 → IVec S16 32) a x).toNat < S11264.size a := fun v6206 k0_hw131 => k0_hw131

def k0_chk132 (v6158 : IVec S16 32) (v6160 : IVec S16 32) (v6208 : IVec S16 32) : Prop :=
  (∀ a x, ((![v6208, v6158, v6160] : Fin 3 → IVec S16 32) a x).toNat < S24x8x224.size a)
theorem k0_idx132_inb : ∀ (v6158 : IVec S16 32) (v6160 : IVec S16 32) (v6208 : IVec S16 32) (k0_hw132 : k0_chk132 v6158 v6160 v6208), ∀ a x, ((![v6208, v6158, v6160] : Fin 3 → IVec S16 32) a x).toNat < S24x8x224.size a := fun v6158 v6160 v6208 k0_hw132 => k0_hw132

def k0_chk133 (v6158 : IVec S16 32) (v6160 : IVec S16 32) (v6211 : IVec S16 32) : Prop :=
  (∀ a x, ((![v6211, v6158, v6160] : Fin 3 → IVec S16 32) a x).toNat < S24x8x224.size a)
theorem k0_idx133_inb : ∀ (v6158 : IVec S16 32) (v6160 : IVec S16 32) (v6211 : IVec S16 32) (k0_hw133 : k0_chk133 v6158 v6160 v6211), ∀ a x, ((![v6211, v6158, v6160] : Fin 3 → IVec S16 32) a x).toNat < S24x8x224.size a := fun v6158 v6160 v6211 k0_hw133 => k0_hw133
def k0_off84 (k0_t22 : Fin k0_t22_loop.trips) : Fin 3 → Nat :=
  let c2_i32_4093 : BitVec 32 := 2#32
  let v6216 : Index := Scalar.indexCast c2_i32_4093
  let c0_i32_3109 : BitVec 32 := 0#32
  let c1_i32_3111 : BitVec 32 := 1#32
  let arg25 : BitVec 32 := Scf.iv c0_i32_3109 c1_i32_3111 k0_t22
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6217 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6218 : Index := Scalar.indexCast v6138
  ![2, v6217.toNat, v6218.toNat]

def k0_chk134 (v6221 : IVec S16 32) : Prop :=
  (∀ a x, ((![v6221] : Fin 1 → IVec S16 32) a x).toNat < S11264.size a)
theorem k0_idx134_inb : ∀ (v6221 : IVec S16 32) (k0_hw134 : k0_chk134 v6221), ∀ a x, ((![v6221] : Fin 1 → IVec S16 32) a x).toNat < S11264.size a := fun v6221 k0_hw134 => k0_hw134

def k0_chk135 (v6158 : IVec S16 32) (v6160 : IVec S16 32) (v6223 : IVec S16 32) : Prop :=
  (∀ a x, ((![v6223, v6158, v6160] : Fin 3 → IVec S16 32) a x).toNat < S24x8x224.size a)
theorem k0_idx135_inb : ∀ (v6158 : IVec S16 32) (v6160 : IVec S16 32) (v6223 : IVec S16 32) (k0_hw135 : k0_chk135 v6158 v6160 v6223), ∀ a x, ((![v6223, v6158, v6160] : Fin 3 → IVec S16 32) a x).toNat < S24x8x224.size a := fun v6158 v6160 v6223 k0_hw135 => k0_hw135

def k0_chk136 (v6158 : IVec S16 32) (v6160 : IVec S16 32) (v6226 : IVec S16 32) : Prop :=
  (∀ a x, ((![v6226, v6158, v6160] : Fin 3 → IVec S16 32) a x).toNat < S24x8x224.size a)
theorem k0_idx136_inb : ∀ (v6158 : IVec S16 32) (v6160 : IVec S16 32) (v6226 : IVec S16 32) (k0_hw136 : k0_chk136 v6158 v6160 v6226), ∀ a x, ((![v6226, v6158, v6160] : Fin 3 → IVec S16 32) a x).toNat < S24x8x224.size a := fun v6158 v6160 v6226 k0_hw136 => k0_hw136
def k0_off85 (k0_t22 : Fin k0_t22_loop.trips) : Fin 3 → Nat :=
  let c3_i32_4097 : BitVec 32 := 3#32
  let v6231 : Index := Scalar.indexCast c3_i32_4097
  let c0_i32_3109 : BitVec 32 := 0#32
  let c1_i32_3111 : BitVec 32 := 1#32
  let arg25 : BitVec 32 := Scf.iv c0_i32_3109 c1_i32_3111 k0_t22
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6232 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6233 : Index := Scalar.indexCast v6138
  ![3, v6232.toNat, v6233.toNat]

def k0_chk137 (v6236 : IVec S16 32) : Prop :=
  (∀ a x, ((![v6236] : Fin 1 → IVec S16 32) a x).toNat < S11264.size a)
theorem k0_idx137_inb : ∀ (v6236 : IVec S16 32) (k0_hw137 : k0_chk137 v6236), ∀ a x, ((![v6236] : Fin 1 → IVec S16 32) a x).toNat < S11264.size a := fun v6236 k0_hw137 => k0_hw137

def k0_chk138 (v6241 : IVec S16 32) : Prop :=
  (∀ a x, ((![v6241] : Fin 1 → IVec S16 32) a x).toNat < S11264.size a)
theorem k0_idx138_inb : ∀ (v6241 : IVec S16 32) (k0_hw138 : k0_chk138 v6241), ∀ a x, ((![v6241] : Fin 1 → IVec S16 32) a x).toNat < S11264.size a := fun v6241 k0_hw138 => k0_hw138
def k0_mult130 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3113 : BitVec 32 := 7#32
  let v4699 : BitVec 32 := Scalar.muli v1 c7_i32_3113
  let c5_i32_3114 : BitVec 32 := 5#32
  let v4700 : BitVec 32 := Scalar.addi v4699 c5_i32_3114
  let c28_i32_3122 : BitVec 32 := 28#32
  let c0_i32_3123 : BitVec 32 := 0#32
  let v4718 : BitVec 1 := Scalar.cmpi .eq c28_i32_3122 c0_i32_3123
  let c1_i32_3124 : BitVec 32 := 1#32
  let v4719 : BitVec 32 := Scalar.select v4718 c1_i32_3124 c28_i32_3122
  let v4720 : BitVec 32 := Scalar.remsi v4700 v4719
  let c0_i32_3126 : BitVec 32 := 0#32
  let v4722 : BitVec 1 := Scalar.cmpi .slt v4720 c0_i32_3126
  let c0_i32_3127 : BitVec 32 := 0#32
  let v4723 : BitVec 1 := Scalar.cmpi .slt v4719 c0_i32_3127
  let v4724 : BitVec 1 := Scalar.xori v4722 v4723
  let c0_i32_3125 : BitVec 32 := 0#32
  let v4721 : BitVec 1 := Scalar.cmpi .ne v4720 c0_i32_3125
  let v4725 : BitVec 1 := Scalar.andi v4724 v4721
  let v4726 : BitVec 32 := Scalar.addi v4720 v4719
  let v4727 : BitVec 32 := Scalar.select v4725 v4726 v4720
  let c8_i32_3128 : BitVec 32 := 8#32
  let v4728 : BitVec 32 := Scalar.muli v4727 c8_i32_3128
  v4728
def k0_mult131 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3133 : BitVec 32 := 7#32
  let v4734 : BitVec 32 := Scalar.muli v1 c7_i32_3133
  let c5_i32_3134 : BitVec 32 := 5#32
  let v4735 : BitVec 32 := Scalar.addi v4734 c5_i32_3134
  let c28_i32_3142 : BitVec 32 := 28#32
  let c0_i32_3143 : BitVec 32 := 0#32
  let v4753 : BitVec 1 := Scalar.cmpi .eq c28_i32_3142 c0_i32_3143
  let c1_i32_3144 : BitVec 32 := 1#32
  let v4754 : BitVec 32 := Scalar.select v4753 c1_i32_3144 c28_i32_3142
  let v4755 : BitVec 32 := Scalar.remsi v4735 v4754
  let c0_i32_3146 : BitVec 32 := 0#32
  let v4757 : BitVec 1 := Scalar.cmpi .slt v4755 c0_i32_3146
  let c0_i32_3147 : BitVec 32 := 0#32
  let v4758 : BitVec 1 := Scalar.cmpi .slt v4754 c0_i32_3147
  let v4759 : BitVec 1 := Scalar.xori v4757 v4758
  let c0_i32_3145 : BitVec 32 := 0#32
  let v4756 : BitVec 1 := Scalar.cmpi .ne v4755 c0_i32_3145
  let v4760 : BitVec 1 := Scalar.andi v4759 v4756
  let v4761 : BitVec 32 := Scalar.addi v4755 v4754
  let v4762 : BitVec 32 := Scalar.select v4760 v4761 v4755
  let c8_i32_3148 : BitVec 32 := 8#32
  let v4763 : BitVec 32 := Scalar.muli v4762 c8_i32_3148
  v4763
def k0_mult132 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3159 : BitVec 32 := 7#32
  let v4771 : BitVec 32 := Scalar.muli v1 c7_i32_3159
  let c5_i32_3160 : BitVec 32 := 5#32
  let v4772 : BitVec 32 := Scalar.addi v4771 c5_i32_3160
  let c28_i32_3168 : BitVec 32 := 28#32
  let c0_i32_3169 : BitVec 32 := 0#32
  let v4790 : BitVec 1 := Scalar.cmpi .eq c28_i32_3168 c0_i32_3169
  let c1_i32_3170 : BitVec 32 := 1#32
  let v4791 : BitVec 32 := Scalar.select v4790 c1_i32_3170 c28_i32_3168
  let v4792 : BitVec 32 := Scalar.remsi v4772 v4791
  let c0_i32_3172 : BitVec 32 := 0#32
  let v4794 : BitVec 1 := Scalar.cmpi .slt v4792 c0_i32_3172
  let c0_i32_3173 : BitVec 32 := 0#32
  let v4795 : BitVec 1 := Scalar.cmpi .slt v4791 c0_i32_3173
  let v4796 : BitVec 1 := Scalar.xori v4794 v4795
  let c0_i32_3171 : BitVec 32 := 0#32
  let v4793 : BitVec 1 := Scalar.cmpi .ne v4792 c0_i32_3171
  let v4797 : BitVec 1 := Scalar.andi v4796 v4793
  let v4798 : BitVec 32 := Scalar.addi v4792 v4791
  let v4799 : BitVec 32 := Scalar.select v4797 v4798 v4792
  let c8_i32_3174 : BitVec 32 := 8#32
  let v4800 : BitVec 32 := Scalar.muli v4799 c8_i32_3174
  v4800
def k0_mult133 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3185 : BitVec 32 := 7#32
  let v4808 : BitVec 32 := Scalar.muli v1 c7_i32_3185
  let c5_i32_3186 : BitVec 32 := 5#32
  let v4809 : BitVec 32 := Scalar.addi v4808 c5_i32_3186
  let c28_i32_3194 : BitVec 32 := 28#32
  let c0_i32_3195 : BitVec 32 := 0#32
  let v4827 : BitVec 1 := Scalar.cmpi .eq c28_i32_3194 c0_i32_3195
  let c1_i32_3196 : BitVec 32 := 1#32
  let v4828 : BitVec 32 := Scalar.select v4827 c1_i32_3196 c28_i32_3194
  let v4829 : BitVec 32 := Scalar.remsi v4809 v4828
  let c0_i32_3198 : BitVec 32 := 0#32
  let v4831 : BitVec 1 := Scalar.cmpi .slt v4829 c0_i32_3198
  let c0_i32_3199 : BitVec 32 := 0#32
  let v4832 : BitVec 1 := Scalar.cmpi .slt v4828 c0_i32_3199
  let v4833 : BitVec 1 := Scalar.xori v4831 v4832
  let c0_i32_3197 : BitVec 32 := 0#32
  let v4830 : BitVec 1 := Scalar.cmpi .ne v4829 c0_i32_3197
  let v4834 : BitVec 1 := Scalar.andi v4833 v4830
  let v4835 : BitVec 32 := Scalar.addi v4829 v4828
  let v4836 : BitVec 32 := Scalar.select v4834 v4835 v4829
  let c8_i32_3200 : BitVec 32 := 8#32
  let v4837 : BitVec 32 := Scalar.muli v4836 c8_i32_3200
  v4837
def k0_mult134 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3205 : BitVec 32 := 7#32
  let v4843 : BitVec 32 := Scalar.muli v1 c7_i32_3205
  let c5_i32_3206 : BitVec 32 := 5#32
  let v4844 : BitVec 32 := Scalar.addi v4843 c5_i32_3206
  let c28_i32_3214 : BitVec 32 := 28#32
  let c0_i32_3215 : BitVec 32 := 0#32
  let v4862 : BitVec 1 := Scalar.cmpi .eq c28_i32_3214 c0_i32_3215
  let c1_i32_3216 : BitVec 32 := 1#32
  let v4863 : BitVec 32 := Scalar.select v4862 c1_i32_3216 c28_i32_3214
  let v4864 : BitVec 32 := Scalar.remsi v4844 v4863
  let c0_i32_3218 : BitVec 32 := 0#32
  let v4866 : BitVec 1 := Scalar.cmpi .slt v4864 c0_i32_3218
  let c0_i32_3219 : BitVec 32 := 0#32
  let v4867 : BitVec 1 := Scalar.cmpi .slt v4863 c0_i32_3219
  let v4868 : BitVec 1 := Scalar.xori v4866 v4867
  let c0_i32_3217 : BitVec 32 := 0#32
  let v4865 : BitVec 1 := Scalar.cmpi .ne v4864 c0_i32_3217
  let v4869 : BitVec 1 := Scalar.andi v4868 v4865
  let v4870 : BitVec 32 := Scalar.addi v4864 v4863
  let v4871 : BitVec 32 := Scalar.select v4869 v4870 v4864
  let c8_i32_3220 : BitVec 32 := 8#32
  let v4872 : BitVec 32 := Scalar.muli v4871 c8_i32_3220
  v4872
def k0_mult135 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3231 : BitVec 32 := 7#32
  let v4880 : BitVec 32 := Scalar.muli v1 c7_i32_3231
  let c5_i32_3232 : BitVec 32 := 5#32
  let v4881 : BitVec 32 := Scalar.addi v4880 c5_i32_3232
  let c28_i32_3240 : BitVec 32 := 28#32
  let c0_i32_3241 : BitVec 32 := 0#32
  let v4899 : BitVec 1 := Scalar.cmpi .eq c28_i32_3240 c0_i32_3241
  let c1_i32_3242 : BitVec 32 := 1#32
  let v4900 : BitVec 32 := Scalar.select v4899 c1_i32_3242 c28_i32_3240
  let v4901 : BitVec 32 := Scalar.remsi v4881 v4900
  let c0_i32_3244 : BitVec 32 := 0#32
  let v4903 : BitVec 1 := Scalar.cmpi .slt v4901 c0_i32_3244
  let c0_i32_3245 : BitVec 32 := 0#32
  let v4904 : BitVec 1 := Scalar.cmpi .slt v4900 c0_i32_3245
  let v4905 : BitVec 1 := Scalar.xori v4903 v4904
  let c0_i32_3243 : BitVec 32 := 0#32
  let v4902 : BitVec 1 := Scalar.cmpi .ne v4901 c0_i32_3243
  let v4906 : BitVec 1 := Scalar.andi v4905 v4902
  let v4907 : BitVec 32 := Scalar.addi v4901 v4900
  let v4908 : BitVec 32 := Scalar.select v4906 v4907 v4901
  let c8_i32_3246 : BitVec 32 := 8#32
  let v4909 : BitVec 32 := Scalar.muli v4908 c8_i32_3246
  v4909
@[reducible] def k0_t23_loop : Scf.Loop 32 :=
  let c0_i32_3248 : BitVec 32 := 0#32
  let c112_i32_3249 : BitVec 32 := 112#32
  let v4911 : BitVec 32 := Scalar.addi c0_i32_3248 c112_i32_3249
  let c1_i32_3250 : BitVec 32 := 1#32
  ⟨c0_i32_3248, v4911, c1_i32_3250⟩
def k0_off86 (k0_t23 : Fin k0_t23_loop.trips) : Fin 3 → Nat :=
  let c1_i32_4066 : BitVec 32 := 1#32
  let v6139 : Index := Scalar.indexCast c1_i32_4066
  let c0_i32_3248 : BitVec 32 := 0#32
  let c1_i32_3250 : BitVec 32 := 1#32
  let arg25 : BitVec 32 := Scf.iv c0_i32_3248 c1_i32_3250 k0_t23
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk139 (v6158 : IVec S16 32) (v6160 : IVec S16 32) (v6164 : IVec S16 32) : Prop :=
  (∀ a x, ((![v6164, v6158, v6160] : Fin 3 → IVec S16 32) a x).toNat < S24x8x224.size a)
theorem k0_idx139_inb : ∀ (v6158 : IVec S16 32) (v6160 : IVec S16 32) (v6164 : IVec S16 32) (k0_hw139 : k0_chk139 v6158 v6160 v6164), ∀ a x, ((![v6164, v6158, v6160] : Fin 3 → IVec S16 32) a x).toNat < S24x8x224.size a := fun v6158 v6160 v6164 k0_hw139 => k0_hw139
def k0_off87 (k0_t23 : Fin k0_t23_loop.trips) : Fin 3 → Nat :=
  let c0_i32_4076 : BitVec 32 := 0#32
  let v6168 : Index := Scalar.indexCast c0_i32_4076
  let c0_i32_3248 : BitVec 32 := 0#32
  let c1_i32_3250 : BitVec 32 := 1#32
  let arg25 : BitVec 32 := Scf.iv c0_i32_3248 c1_i32_3250 k0_t23
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk140 (v6173 : IVec S16 32) : Prop :=
  (∀ a x, ((![v6173] : Fin 1 → IVec S16 32) a x).toNat < S11264.size a)
theorem k0_idx140_inb : ∀ (v6173 : IVec S16 32) (k0_hw140 : k0_chk140 v6173), ∀ a x, ((![v6173] : Fin 1 → IVec S16 32) a x).toNat < S11264.size a := fun v6173 k0_hw140 => k0_hw140

def k0_chk141 (v6158 : IVec S16 32) (v6160 : IVec S16 32) (v6177 : IVec S16 32) : Prop :=
  (∀ a x, ((![v6177, v6158, v6160] : Fin 3 → IVec S16 32) a x).toNat < S24x8x224.size a)
theorem k0_idx141_inb : ∀ (v6158 : IVec S16 32) (v6160 : IVec S16 32) (v6177 : IVec S16 32) (k0_hw141 : k0_chk141 v6158 v6160 v6177), ∀ a x, ((![v6177, v6158, v6160] : Fin 3 → IVec S16 32) a x).toNat < S24x8x224.size a := fun v6158 v6160 v6177 k0_hw141 => k0_hw141
def k0_off88 (k0_t23 : Fin k0_t23_loop.trips) : Fin 3 → Nat :=
  let c1_i32_4080 : BitVec 32 := 1#32
  let v6181 : Index := Scalar.indexCast c1_i32_4080
  let c0_i32_3248 : BitVec 32 := 0#32
  let c1_i32_3250 : BitVec 32 := 1#32
  let arg25 : BitVec 32 := Scf.iv c0_i32_3248 c1_i32_3250 k0_t23
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk142 (v6186 : IVec S16 32) : Prop :=
  (∀ a x, ((![v6186] : Fin 1 → IVec S16 32) a x).toNat < S11264.size a)
theorem k0_idx142_inb : ∀ (v6186 : IVec S16 32) (k0_hw142 : k0_chk142 v6186), ∀ a x, ((![v6186] : Fin 1 → IVec S16 32) a x).toNat < S11264.size a := fun v6186 k0_hw142 => k0_hw142

def k0_chk143 (v6158 : IVec S16 32) (v6160 : IVec S16 32) (v6190 : IVec S16 32) : Prop :=
  (∀ a x, ((![v6190, v6158, v6160] : Fin 3 → IVec S16 32) a x).toNat < S24x8x224.size a)
theorem k0_idx143_inb : ∀ (v6158 : IVec S16 32) (v6160 : IVec S16 32) (v6190 : IVec S16 32) (k0_hw143 : k0_chk143 v6158 v6160 v6190), ∀ a x, ((![v6190, v6158, v6160] : Fin 3 → IVec S16 32) a x).toNat < S24x8x224.size a := fun v6158 v6160 v6190 k0_hw143 => k0_hw143
def k0_off89 (k0_t23 : Fin k0_t23_loop.trips) : Fin 3 → Nat :=
  let c2_i32_4084 : BitVec 32 := 2#32
  let v6194 : Index := Scalar.indexCast c2_i32_4084
  let c0_i32_3248 : BitVec 32 := 0#32
  let c1_i32_3250 : BitVec 32 := 1#32
  let arg25 : BitVec 32 := Scf.iv c0_i32_3248 c1_i32_3250 k0_t23
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6195 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6196 : Index := Scalar.indexCast v6138
  ![2, v6195.toNat, v6196.toNat]

def k0_chk144 (v6199 : IVec S16 32) : Prop :=
  (∀ a x, ((![v6199] : Fin 1 → IVec S16 32) a x).toNat < S11264.size a)
theorem k0_idx144_inb : ∀ (v6199 : IVec S16 32) (k0_hw144 : k0_chk144 v6199), ∀ a x, ((![v6199] : Fin 1 → IVec S16 32) a x).toNat < S11264.size a := fun v6199 k0_hw144 => k0_hw144
def k0_mult136 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3252 : BitVec 32 := 7#32
  let v4912 : BitVec 32 := Scalar.muli v1 c7_i32_3252
  let c6_i32_3253 : BitVec 32 := 6#32
  let v4913 : BitVec 32 := Scalar.addi v4912 c6_i32_3253
  let c28_i32_3261 : BitVec 32 := 28#32
  let c0_i32_3262 : BitVec 32 := 0#32
  let v4931 : BitVec 1 := Scalar.cmpi .eq c28_i32_3261 c0_i32_3262
  let c1_i32_3263 : BitVec 32 := 1#32
  let v4932 : BitVec 32 := Scalar.select v4931 c1_i32_3263 c28_i32_3261
  let v4933 : BitVec 32 := Scalar.remsi v4913 v4932
  let c0_i32_3265 : BitVec 32 := 0#32
  let v4935 : BitVec 1 := Scalar.cmpi .slt v4933 c0_i32_3265
  let c0_i32_3266 : BitVec 32 := 0#32
  let v4936 : BitVec 1 := Scalar.cmpi .slt v4932 c0_i32_3266
  let v4937 : BitVec 1 := Scalar.xori v4935 v4936
  let c0_i32_3264 : BitVec 32 := 0#32
  let v4934 : BitVec 1 := Scalar.cmpi .ne v4933 c0_i32_3264
  let v4938 : BitVec 1 := Scalar.andi v4937 v4934
  let v4939 : BitVec 32 := Scalar.addi v4933 v4932
  let v4940 : BitVec 32 := Scalar.select v4938 v4939 v4933
  let c8_i32_3267 : BitVec 32 := 8#32
  let v4941 : BitVec 32 := Scalar.muli v4940 c8_i32_3267
  v4941
def k0_mult137 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3278 : BitVec 32 := 7#32
  let v4949 : BitVec 32 := Scalar.muli v1 c7_i32_3278
  let c5_i32_3279 : BitVec 32 := 5#32
  let v4950 : BitVec 32 := Scalar.addi v4949 c5_i32_3279
  let c28_i32_3287 : BitVec 32 := 28#32
  let c0_i32_3288 : BitVec 32 := 0#32
  let v4968 : BitVec 1 := Scalar.cmpi .eq c28_i32_3287 c0_i32_3288
  let c1_i32_3289 : BitVec 32 := 1#32
  let v4969 : BitVec 32 := Scalar.select v4968 c1_i32_3289 c28_i32_3287
  let v4970 : BitVec 32 := Scalar.remsi v4950 v4969
  let c0_i32_3291 : BitVec 32 := 0#32
  let v4972 : BitVec 1 := Scalar.cmpi .slt v4970 c0_i32_3291
  let c0_i32_3292 : BitVec 32 := 0#32
  let v4973 : BitVec 1 := Scalar.cmpi .slt v4969 c0_i32_3292
  let v4974 : BitVec 1 := Scalar.xori v4972 v4973
  let c0_i32_3290 : BitVec 32 := 0#32
  let v4971 : BitVec 1 := Scalar.cmpi .ne v4970 c0_i32_3290
  let v4975 : BitVec 1 := Scalar.andi v4974 v4971
  let v4976 : BitVec 32 := Scalar.addi v4970 v4969
  let v4977 : BitVec 32 := Scalar.select v4975 v4976 v4970
  let c8_i32_3293 : BitVec 32 := 8#32
  let v4978 : BitVec 32 := Scalar.muli v4977 c8_i32_3293
  v4978
def k0_mult138 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3304 : BitVec 32 := 7#32
  let v4986 : BitVec 32 := Scalar.muli v1 c7_i32_3304
  let c5_i32_3305 : BitVec 32 := 5#32
  let v4987 : BitVec 32 := Scalar.addi v4986 c5_i32_3305
  let c28_i32_3313 : BitVec 32 := 28#32
  let c0_i32_3314 : BitVec 32 := 0#32
  let v5005 : BitVec 1 := Scalar.cmpi .eq c28_i32_3313 c0_i32_3314
  let c1_i32_3315 : BitVec 32 := 1#32
  let v5006 : BitVec 32 := Scalar.select v5005 c1_i32_3315 c28_i32_3313
  let v5007 : BitVec 32 := Scalar.remsi v4987 v5006
  let c0_i32_3317 : BitVec 32 := 0#32
  let v5009 : BitVec 1 := Scalar.cmpi .slt v5007 c0_i32_3317
  let c0_i32_3318 : BitVec 32 := 0#32
  let v5010 : BitVec 1 := Scalar.cmpi .slt v5006 c0_i32_3318
  let v5011 : BitVec 1 := Scalar.xori v5009 v5010
  let c0_i32_3316 : BitVec 32 := 0#32
  let v5008 : BitVec 1 := Scalar.cmpi .ne v5007 c0_i32_3316
  let v5012 : BitVec 1 := Scalar.andi v5011 v5008
  let v5013 : BitVec 32 := Scalar.addi v5007 v5006
  let v5014 : BitVec 32 := Scalar.select v5012 v5013 v5007
  let c8_i32_3319 : BitVec 32 := 8#32
  let v5015 : BitVec 32 := Scalar.muli v5014 c8_i32_3319
  v5015
def k0_mult139 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3330 : BitVec 32 := 7#32
  let v5023 : BitVec 32 := Scalar.muli v1 c7_i32_3330
  let c5_i32_3331 : BitVec 32 := 5#32
  let v5024 : BitVec 32 := Scalar.addi v5023 c5_i32_3331
  let c28_i32_3339 : BitVec 32 := 28#32
  let c0_i32_3340 : BitVec 32 := 0#32
  let v5042 : BitVec 1 := Scalar.cmpi .eq c28_i32_3339 c0_i32_3340
  let c1_i32_3341 : BitVec 32 := 1#32
  let v5043 : BitVec 32 := Scalar.select v5042 c1_i32_3341 c28_i32_3339
  let v5044 : BitVec 32 := Scalar.remsi v5024 v5043
  let c0_i32_3343 : BitVec 32 := 0#32
  let v5046 : BitVec 1 := Scalar.cmpi .slt v5044 c0_i32_3343
  let c0_i32_3344 : BitVec 32 := 0#32
  let v5047 : BitVec 1 := Scalar.cmpi .slt v5043 c0_i32_3344
  let v5048 : BitVec 1 := Scalar.xori v5046 v5047
  let c0_i32_3342 : BitVec 32 := 0#32
  let v5045 : BitVec 1 := Scalar.cmpi .ne v5044 c0_i32_3342
  let v5049 : BitVec 1 := Scalar.andi v5048 v5045
  let v5050 : BitVec 32 := Scalar.addi v5044 v5043
  let v5051 : BitVec 32 := Scalar.select v5049 v5050 v5044
  let c8_i32_3345 : BitVec 32 := 8#32
  let v5052 : BitVec 32 := Scalar.muli v5051 c8_i32_3345
  v5052
def k0_mult140 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3356 : BitVec 32 := 7#32
  let v5060 : BitVec 32 := Scalar.muli v1 c7_i32_3356
  let c5_i32_3357 : BitVec 32 := 5#32
  let v5061 : BitVec 32 := Scalar.addi v5060 c5_i32_3357
  let c28_i32_3365 : BitVec 32 := 28#32
  let c0_i32_3366 : BitVec 32 := 0#32
  let v5079 : BitVec 1 := Scalar.cmpi .eq c28_i32_3365 c0_i32_3366
  let c1_i32_3367 : BitVec 32 := 1#32
  let v5080 : BitVec 32 := Scalar.select v5079 c1_i32_3367 c28_i32_3365
  let v5081 : BitVec 32 := Scalar.remsi v5061 v5080
  let c0_i32_3369 : BitVec 32 := 0#32
  let v5083 : BitVec 1 := Scalar.cmpi .slt v5081 c0_i32_3369
  let c0_i32_3370 : BitVec 32 := 0#32
  let v5084 : BitVec 1 := Scalar.cmpi .slt v5080 c0_i32_3370
  let v5085 : BitVec 1 := Scalar.xori v5083 v5084
  let c0_i32_3368 : BitVec 32 := 0#32
  let v5082 : BitVec 1 := Scalar.cmpi .ne v5081 c0_i32_3368
  let v5086 : BitVec 1 := Scalar.andi v5085 v5082
  let v5087 : BitVec 32 := Scalar.addi v5081 v5080
  let v5088 : BitVec 32 := Scalar.select v5086 v5087 v5081
  let c8_i32_3371 : BitVec 32 := 8#32
  let v5089 : BitVec 32 := Scalar.muli v5088 c8_i32_3371
  v5089
@[reducible] def k0_t24_loop : Scf.Loop 32 :=
  let c0_i32_3373 : BitVec 32 := 0#32
  let c112_i32_3374 : BitVec 32 := 112#32
  let v5091 : BitVec 32 := Scalar.addi c0_i32_3373 c112_i32_3374
  let c1_i32_3375 : BitVec 32 := 1#32
  ⟨c0_i32_3373, v5091, c1_i32_3375⟩
def k0_off90 (k0_t24 : Fin k0_t24_loop.trips) : Fin 3 → Nat :=
  let c1_i32_4066 : BitVec 32 := 1#32
  let v6139 : Index := Scalar.indexCast c1_i32_4066
  let c0_i32_3373 : BitVec 32 := 0#32
  let c1_i32_3375 : BitVec 32 := 1#32
  let arg25 : BitVec 32 := Scf.iv c0_i32_3373 c1_i32_3375 k0_t24
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk145 (v6158 : IVec S16 32) (v6160 : IVec S16 32) (v6164 : IVec S16 32) : Prop :=
  (∀ a x, ((![v6164, v6158, v6160] : Fin 3 → IVec S16 32) a x).toNat < S24x8x224.size a)
theorem k0_idx145_inb : ∀ (v6158 : IVec S16 32) (v6160 : IVec S16 32) (v6164 : IVec S16 32) (k0_hw145 : k0_chk145 v6158 v6160 v6164), ∀ a x, ((![v6164, v6158, v6160] : Fin 3 → IVec S16 32) a x).toNat < S24x8x224.size a := fun v6158 v6160 v6164 k0_hw145 => k0_hw145
def k0_off91 (k0_t24 : Fin k0_t24_loop.trips) : Fin 3 → Nat :=
  let c0_i32_4076 : BitVec 32 := 0#32
  let v6168 : Index := Scalar.indexCast c0_i32_4076
  let c0_i32_3373 : BitVec 32 := 0#32
  let c1_i32_3375 : BitVec 32 := 1#32
  let arg25 : BitVec 32 := Scf.iv c0_i32_3373 c1_i32_3375 k0_t24
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk146 (v6173 : IVec S16 32) : Prop :=
  (∀ a x, ((![v6173] : Fin 1 → IVec S16 32) a x).toNat < S11264.size a)
theorem k0_idx146_inb : ∀ (v6173 : IVec S16 32) (k0_hw146 : k0_chk146 v6173), ∀ a x, ((![v6173] : Fin 1 → IVec S16 32) a x).toNat < S11264.size a := fun v6173 k0_hw146 => k0_hw146

def k0_chk147 (v6158 : IVec S16 32) (v6160 : IVec S16 32) (v6177 : IVec S16 32) : Prop :=
  (∀ a x, ((![v6177, v6158, v6160] : Fin 3 → IVec S16 32) a x).toNat < S24x8x224.size a)
theorem k0_idx147_inb : ∀ (v6158 : IVec S16 32) (v6160 : IVec S16 32) (v6177 : IVec S16 32) (k0_hw147 : k0_chk147 v6158 v6160 v6177), ∀ a x, ((![v6177, v6158, v6160] : Fin 3 → IVec S16 32) a x).toNat < S24x8x224.size a := fun v6158 v6160 v6177 k0_hw147 => k0_hw147
def k0_off92 (k0_t24 : Fin k0_t24_loop.trips) : Fin 3 → Nat :=
  let c1_i32_4080 : BitVec 32 := 1#32
  let v6181 : Index := Scalar.indexCast c1_i32_4080
  let c0_i32_3373 : BitVec 32 := 0#32
  let c1_i32_3375 : BitVec 32 := 1#32
  let arg25 : BitVec 32 := Scf.iv c0_i32_3373 c1_i32_3375 k0_t24
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk148 (v6186 : IVec S16 32) : Prop :=
  (∀ a x, ((![v6186] : Fin 1 → IVec S16 32) a x).toNat < S11264.size a)
theorem k0_idx148_inb : ∀ (v6186 : IVec S16 32) (k0_hw148 : k0_chk148 v6186), ∀ a x, ((![v6186] : Fin 1 → IVec S16 32) a x).toNat < S11264.size a := fun v6186 k0_hw148 => k0_hw148
def k0_mult141 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3377 : BitVec 32 := 7#32
  let v5092 : BitVec 32 := Scalar.muli v1 c7_i32_3377
  let c6_i32_3378 : BitVec 32 := 6#32
  let v5093 : BitVec 32 := Scalar.addi v5092 c6_i32_3378
  let c28_i32_3386 : BitVec 32 := 28#32
  let c0_i32_3387 : BitVec 32 := 0#32
  let v5111 : BitVec 1 := Scalar.cmpi .eq c28_i32_3386 c0_i32_3387
  let c1_i32_3388 : BitVec 32 := 1#32
  let v5112 : BitVec 32 := Scalar.select v5111 c1_i32_3388 c28_i32_3386
  let v5113 : BitVec 32 := Scalar.remsi v5093 v5112
  let c0_i32_3390 : BitVec 32 := 0#32
  let v5115 : BitVec 1 := Scalar.cmpi .slt v5113 c0_i32_3390
  let c0_i32_3391 : BitVec 32 := 0#32
  let v5116 : BitVec 1 := Scalar.cmpi .slt v5112 c0_i32_3391
  let v5117 : BitVec 1 := Scalar.xori v5115 v5116
  let c0_i32_3389 : BitVec 32 := 0#32
  let v5114 : BitVec 1 := Scalar.cmpi .ne v5113 c0_i32_3389
  let v5118 : BitVec 1 := Scalar.andi v5117 v5114
  let v5119 : BitVec 32 := Scalar.addi v5113 v5112
  let v5120 : BitVec 32 := Scalar.select v5118 v5119 v5113
  let c8_i32_3392 : BitVec 32 := 8#32
  let v5121 : BitVec 32 := Scalar.muli v5120 c8_i32_3392
  v5121
def k0_mult142 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3403 : BitVec 32 := 7#32
  let v5129 : BitVec 32 := Scalar.muli v1 c7_i32_3403
  let c5_i32_3404 : BitVec 32 := 5#32
  let v5130 : BitVec 32 := Scalar.addi v5129 c5_i32_3404
  let c28_i32_3412 : BitVec 32 := 28#32
  let c0_i32_3413 : BitVec 32 := 0#32
  let v5148 : BitVec 1 := Scalar.cmpi .eq c28_i32_3412 c0_i32_3413
  let c1_i32_3414 : BitVec 32 := 1#32
  let v5149 : BitVec 32 := Scalar.select v5148 c1_i32_3414 c28_i32_3412
  let v5150 : BitVec 32 := Scalar.remsi v5130 v5149
  let c0_i32_3416 : BitVec 32 := 0#32
  let v5152 : BitVec 1 := Scalar.cmpi .slt v5150 c0_i32_3416
  let c0_i32_3417 : BitVec 32 := 0#32
  let v5153 : BitVec 1 := Scalar.cmpi .slt v5149 c0_i32_3417
  let v5154 : BitVec 1 := Scalar.xori v5152 v5153
  let c0_i32_3415 : BitVec 32 := 0#32
  let v5151 : BitVec 1 := Scalar.cmpi .ne v5150 c0_i32_3415
  let v5155 : BitVec 1 := Scalar.andi v5154 v5151
  let v5156 : BitVec 32 := Scalar.addi v5150 v5149
  let v5157 : BitVec 32 := Scalar.select v5155 v5156 v5150
  let c8_i32_3418 : BitVec 32 := 8#32
  let v5158 : BitVec 32 := Scalar.muli v5157 c8_i32_3418
  v5158
def k0_mult143 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3429 : BitVec 32 := 7#32
  let v5166 : BitVec 32 := Scalar.muli v1 c7_i32_3429
  let c5_i32_3430 : BitVec 32 := 5#32
  let v5167 : BitVec 32 := Scalar.addi v5166 c5_i32_3430
  let c28_i32_3438 : BitVec 32 := 28#32
  let c0_i32_3439 : BitVec 32 := 0#32
  let v5185 : BitVec 1 := Scalar.cmpi .eq c28_i32_3438 c0_i32_3439
  let c1_i32_3440 : BitVec 32 := 1#32
  let v5186 : BitVec 32 := Scalar.select v5185 c1_i32_3440 c28_i32_3438
  let v5187 : BitVec 32 := Scalar.remsi v5167 v5186
  let c0_i32_3442 : BitVec 32 := 0#32
  let v5189 : BitVec 1 := Scalar.cmpi .slt v5187 c0_i32_3442
  let c0_i32_3443 : BitVec 32 := 0#32
  let v5190 : BitVec 1 := Scalar.cmpi .slt v5186 c0_i32_3443
  let v5191 : BitVec 1 := Scalar.xori v5189 v5190
  let c0_i32_3441 : BitVec 32 := 0#32
  let v5188 : BitVec 1 := Scalar.cmpi .ne v5187 c0_i32_3441
  let v5192 : BitVec 1 := Scalar.andi v5191 v5188
  let v5193 : BitVec 32 := Scalar.addi v5187 v5186
  let v5194 : BitVec 32 := Scalar.select v5192 v5193 v5187
  let c8_i32_3444 : BitVec 32 := 8#32
  let v5195 : BitVec 32 := Scalar.muli v5194 c8_i32_3444
  v5195
def k0_mult144 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3455 : BitVec 32 := 7#32
  let v5203 : BitVec 32 := Scalar.muli v1 c7_i32_3455
  let c5_i32_3456 : BitVec 32 := 5#32
  let v5204 : BitVec 32 := Scalar.addi v5203 c5_i32_3456
  let c28_i32_3464 : BitVec 32 := 28#32
  let c0_i32_3465 : BitVec 32 := 0#32
  let v5222 : BitVec 1 := Scalar.cmpi .eq c28_i32_3464 c0_i32_3465
  let c1_i32_3466 : BitVec 32 := 1#32
  let v5223 : BitVec 32 := Scalar.select v5222 c1_i32_3466 c28_i32_3464
  let v5224 : BitVec 32 := Scalar.remsi v5204 v5223
  let c0_i32_3468 : BitVec 32 := 0#32
  let v5226 : BitVec 1 := Scalar.cmpi .slt v5224 c0_i32_3468
  let c0_i32_3469 : BitVec 32 := 0#32
  let v5227 : BitVec 1 := Scalar.cmpi .slt v5223 c0_i32_3469
  let v5228 : BitVec 1 := Scalar.xori v5226 v5227
  let c0_i32_3467 : BitVec 32 := 0#32
  let v5225 : BitVec 1 := Scalar.cmpi .ne v5224 c0_i32_3467
  let v5229 : BitVec 1 := Scalar.andi v5228 v5225
  let v5230 : BitVec 32 := Scalar.addi v5224 v5223
  let v5231 : BitVec 32 := Scalar.select v5229 v5230 v5224
  let c8_i32_3470 : BitVec 32 := 8#32
  let v5232 : BitVec 32 := Scalar.muli v5231 c8_i32_3470
  v5232
@[reducible] def k0_t25_loop : Scf.Loop 32 :=
  let c0_i32_3472 : BitVec 32 := 0#32
  let c112_i32_3473 : BitVec 32 := 112#32
  let v5234 : BitVec 32 := Scalar.addi c0_i32_3472 c112_i32_3473
  let c1_i32_3474 : BitVec 32 := 1#32
  ⟨c0_i32_3472, v5234, c1_i32_3474⟩
def k0_off93 (k0_t25 : Fin k0_t25_loop.trips) : Fin 3 → Nat :=
  let c1_i32_4066 : BitVec 32 := 1#32
  let v6139 : Index := Scalar.indexCast c1_i32_4066
  let c0_i32_3472 : BitVec 32 := 0#32
  let c1_i32_3474 : BitVec 32 := 1#32
  let arg25 : BitVec 32 := Scf.iv c0_i32_3472 c1_i32_3474 k0_t25
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![1, v6140.toNat, v6141.toNat]

def k0_chk149 (v6158 : IVec S16 32) (v6160 : IVec S16 32) (v6162 : IVec S16 32) : Prop :=
  (∀ a x, ((![v6162, v6158, v6160] : Fin 3 → IVec S16 32) a x).toNat < S24x8x224.size a)
theorem k0_idx149_inb : ∀ (v6158 : IVec S16 32) (v6160 : IVec S16 32) (v6162 : IVec S16 32) (k0_hw149 : k0_chk149 v6158 v6160 v6162), ∀ a x, ((![v6162, v6158, v6160] : Fin 3 → IVec S16 32) a x).toNat < S24x8x224.size a := fun v6158 v6160 v6162 k0_hw149 => k0_hw149
def k0_off94 (k0_t25 : Fin k0_t25_loop.trips) : Fin 3 → Nat :=
  let c2_i32_4075 : BitVec 32 := 2#32
  let v6166 : Index := Scalar.indexCast c2_i32_4075
  let c0_i32_3472 : BitVec 32 := 0#32
  let c1_i32_3474 : BitVec 32 := 1#32
  let arg25 : BitVec 32 := Scf.iv c0_i32_3472 c1_i32_3474 k0_t25
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6167 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6168 : Index := Scalar.indexCast v6138
  ![2, v6167.toNat, v6168.toNat]

def k0_chk150 (v6171 : IVec S16 32) : Prop :=
  (∀ a x, ((![v6171] : Fin 1 → IVec S16 32) a x).toNat < S11264.size a)
theorem k0_idx150_inb : ∀ (v6171 : IVec S16 32) (k0_hw150 : k0_chk150 v6171), ∀ a x, ((![v6171] : Fin 1 → IVec S16 32) a x).toNat < S11264.size a := fun v6171 k0_hw150 => k0_hw150
def k0_mult145 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3476 : BitVec 32 := 7#32
  let v5235 : BitVec 32 := Scalar.muli v1 c7_i32_3476
  let c5_i32_3477 : BitVec 32 := 5#32
  let v5236 : BitVec 32 := Scalar.addi v5235 c5_i32_3477
  let c28_i32_3485 : BitVec 32 := 28#32
  let c0_i32_3486 : BitVec 32 := 0#32
  let v5254 : BitVec 1 := Scalar.cmpi .eq c28_i32_3485 c0_i32_3486
  let c1_i32_3487 : BitVec 32 := 1#32
  let v5255 : BitVec 32 := Scalar.select v5254 c1_i32_3487 c28_i32_3485
  let v5256 : BitVec 32 := Scalar.remsi v5236 v5255
  let c0_i32_3489 : BitVec 32 := 0#32
  let v5258 : BitVec 1 := Scalar.cmpi .slt v5256 c0_i32_3489
  let c0_i32_3490 : BitVec 32 := 0#32
  let v5259 : BitVec 1 := Scalar.cmpi .slt v5255 c0_i32_3490
  let v5260 : BitVec 1 := Scalar.xori v5258 v5259
  let c0_i32_3488 : BitVec 32 := 0#32
  let v5257 : BitVec 1 := Scalar.cmpi .ne v5256 c0_i32_3488
  let v5261 : BitVec 1 := Scalar.andi v5260 v5257
  let v5262 : BitVec 32 := Scalar.addi v5256 v5255
  let v5263 : BitVec 32 := Scalar.select v5261 v5262 v5256
  let c8_i32_3491 : BitVec 32 := 8#32
  let v5264 : BitVec 32 := Scalar.muli v5263 c8_i32_3491
  v5264
def k0_mult146 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3499 : BitVec 32 := 7#32
  let v5274 : BitVec 32 := Scalar.muli v1 c7_i32_3499
  let c6_i32_3500 : BitVec 32 := 6#32
  let v5275 : BitVec 32 := Scalar.addi v5274 c6_i32_3500
  let c28_i32_3508 : BitVec 32 := 28#32
  let c0_i32_3509 : BitVec 32 := 0#32
  let v5293 : BitVec 1 := Scalar.cmpi .eq c28_i32_3508 c0_i32_3509
  let c1_i32_3510 : BitVec 32 := 1#32
  let v5294 : BitVec 32 := Scalar.select v5293 c1_i32_3510 c28_i32_3508
  let v5295 : BitVec 32 := Scalar.remsi v5275 v5294
  let c0_i32_3512 : BitVec 32 := 0#32
  let v5297 : BitVec 1 := Scalar.cmpi .slt v5295 c0_i32_3512
  let c0_i32_3513 : BitVec 32 := 0#32
  let v5298 : BitVec 1 := Scalar.cmpi .slt v5294 c0_i32_3513
  let v5299 : BitVec 1 := Scalar.xori v5297 v5298
  let c0_i32_3511 : BitVec 32 := 0#32
  let v5296 : BitVec 1 := Scalar.cmpi .ne v5295 c0_i32_3511
  let v5300 : BitVec 1 := Scalar.andi v5299 v5296
  let v5301 : BitVec 32 := Scalar.addi v5295 v5294
  let v5302 : BitVec 32 := Scalar.select v5300 v5301 v5295
  let c8_i32_3514 : BitVec 32 := 8#32
  let v5303 : BitVec 32 := Scalar.muli v5302 c8_i32_3514
  v5303
def k0_mult147 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3522 : BitVec 32 := 7#32
  let v5313 : BitVec 32 := Scalar.muli v1 c7_i32_3522
  let c6_i32_3523 : BitVec 32 := 6#32
  let v5314 : BitVec 32 := Scalar.addi v5313 c6_i32_3523
  let c28_i32_3531 : BitVec 32 := 28#32
  let c0_i32_3532 : BitVec 32 := 0#32
  let v5332 : BitVec 1 := Scalar.cmpi .eq c28_i32_3531 c0_i32_3532
  let c1_i32_3533 : BitVec 32 := 1#32
  let v5333 : BitVec 32 := Scalar.select v5332 c1_i32_3533 c28_i32_3531
  let v5334 : BitVec 32 := Scalar.remsi v5314 v5333
  let c0_i32_3535 : BitVec 32 := 0#32
  let v5336 : BitVec 1 := Scalar.cmpi .slt v5334 c0_i32_3535
  let c0_i32_3536 : BitVec 32 := 0#32
  let v5337 : BitVec 1 := Scalar.cmpi .slt v5333 c0_i32_3536
  let v5338 : BitVec 1 := Scalar.xori v5336 v5337
  let c0_i32_3534 : BitVec 32 := 0#32
  let v5335 : BitVec 1 := Scalar.cmpi .ne v5334 c0_i32_3534
  let v5339 : BitVec 1 := Scalar.andi v5338 v5335
  let v5340 : BitVec 32 := Scalar.addi v5334 v5333
  let v5341 : BitVec 32 := Scalar.select v5339 v5340 v5334
  let c8_i32_3537 : BitVec 32 := 8#32
  let v5342 : BitVec 32 := Scalar.muli v5341 c8_i32_3537
  v5342
def k0_mult148 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3548 : BitVec 32 := 7#32
  let v5350 : BitVec 32 := Scalar.muli v1 c7_i32_3548
  let c6_i32_3549 : BitVec 32 := 6#32
  let v5351 : BitVec 32 := Scalar.addi v5350 c6_i32_3549
  let c28_i32_3557 : BitVec 32 := 28#32
  let c0_i32_3558 : BitVec 32 := 0#32
  let v5369 : BitVec 1 := Scalar.cmpi .eq c28_i32_3557 c0_i32_3558
  let c1_i32_3559 : BitVec 32 := 1#32
  let v5370 : BitVec 32 := Scalar.select v5369 c1_i32_3559 c28_i32_3557
  let v5371 : BitVec 32 := Scalar.remsi v5351 v5370
  let c0_i32_3561 : BitVec 32 := 0#32
  let v5373 : BitVec 1 := Scalar.cmpi .slt v5371 c0_i32_3561
  let c0_i32_3562 : BitVec 32 := 0#32
  let v5374 : BitVec 1 := Scalar.cmpi .slt v5370 c0_i32_3562
  let v5375 : BitVec 1 := Scalar.xori v5373 v5374
  let c0_i32_3560 : BitVec 32 := 0#32
  let v5372 : BitVec 1 := Scalar.cmpi .ne v5371 c0_i32_3560
  let v5376 : BitVec 1 := Scalar.andi v5375 v5372
  let v5377 : BitVec 32 := Scalar.addi v5371 v5370
  let v5378 : BitVec 32 := Scalar.select v5376 v5377 v5371
  let c8_i32_3563 : BitVec 32 := 8#32
  let v5379 : BitVec 32 := Scalar.muli v5378 c8_i32_3563
  v5379
def k0_mult149 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3574 : BitVec 32 := 7#32
  let v5387 : BitVec 32 := Scalar.muli v1 c7_i32_3574
  let c6_i32_3575 : BitVec 32 := 6#32
  let v5388 : BitVec 32 := Scalar.addi v5387 c6_i32_3575
  let c28_i32_3583 : BitVec 32 := 28#32
  let c0_i32_3584 : BitVec 32 := 0#32
  let v5406 : BitVec 1 := Scalar.cmpi .eq c28_i32_3583 c0_i32_3584
  let c1_i32_3585 : BitVec 32 := 1#32
  let v5407 : BitVec 32 := Scalar.select v5406 c1_i32_3585 c28_i32_3583
  let v5408 : BitVec 32 := Scalar.remsi v5388 v5407
  let c0_i32_3587 : BitVec 32 := 0#32
  let v5410 : BitVec 1 := Scalar.cmpi .slt v5408 c0_i32_3587
  let c0_i32_3588 : BitVec 32 := 0#32
  let v5411 : BitVec 1 := Scalar.cmpi .slt v5407 c0_i32_3588
  let v5412 : BitVec 1 := Scalar.xori v5410 v5411
  let c0_i32_3586 : BitVec 32 := 0#32
  let v5409 : BitVec 1 := Scalar.cmpi .ne v5408 c0_i32_3586
  let v5413 : BitVec 1 := Scalar.andi v5412 v5409
  let v5414 : BitVec 32 := Scalar.addi v5408 v5407
  let v5415 : BitVec 32 := Scalar.select v5413 v5414 v5408
  let c8_i32_3589 : BitVec 32 := 8#32
  let v5416 : BitVec 32 := Scalar.muli v5415 c8_i32_3589
  v5416
def k0_mult150 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3600 : BitVec 32 := 7#32
  let v5424 : BitVec 32 := Scalar.muli v1 c7_i32_3600
  let c5_i32_3601 : BitVec 32 := 5#32
  let v5425 : BitVec 32 := Scalar.addi v5424 c5_i32_3601
  let c28_i32_3609 : BitVec 32 := 28#32
  let c0_i32_3610 : BitVec 32 := 0#32
  let v5443 : BitVec 1 := Scalar.cmpi .eq c28_i32_3609 c0_i32_3610
  let c1_i32_3611 : BitVec 32 := 1#32
  let v5444 : BitVec 32 := Scalar.select v5443 c1_i32_3611 c28_i32_3609
  let v5445 : BitVec 32 := Scalar.remsi v5425 v5444
  let c0_i32_3613 : BitVec 32 := 0#32
  let v5447 : BitVec 1 := Scalar.cmpi .slt v5445 c0_i32_3613
  let c0_i32_3614 : BitVec 32 := 0#32
  let v5448 : BitVec 1 := Scalar.cmpi .slt v5444 c0_i32_3614
  let v5449 : BitVec 1 := Scalar.xori v5447 v5448
  let c0_i32_3612 : BitVec 32 := 0#32
  let v5446 : BitVec 1 := Scalar.cmpi .ne v5445 c0_i32_3612
  let v5450 : BitVec 1 := Scalar.andi v5449 v5446
  let v5451 : BitVec 32 := Scalar.addi v5445 v5444
  let v5452 : BitVec 32 := Scalar.select v5450 v5451 v5445
  let c8_i32_3615 : BitVec 32 := 8#32
  let v5453 : BitVec 32 := Scalar.muli v5452 c8_i32_3615
  v5453
def k0_mult151 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3626 : BitVec 32 := 7#32
  let v5461 : BitVec 32 := Scalar.muli v1 c7_i32_3626
  let c5_i32_3627 : BitVec 32 := 5#32
  let v5462 : BitVec 32 := Scalar.addi v5461 c5_i32_3627
  let c28_i32_3635 : BitVec 32 := 28#32
  let c0_i32_3636 : BitVec 32 := 0#32
  let v5480 : BitVec 1 := Scalar.cmpi .eq c28_i32_3635 c0_i32_3636
  let c1_i32_3637 : BitVec 32 := 1#32
  let v5481 : BitVec 32 := Scalar.select v5480 c1_i32_3637 c28_i32_3635
  let v5482 : BitVec 32 := Scalar.remsi v5462 v5481
  let c0_i32_3639 : BitVec 32 := 0#32
  let v5484 : BitVec 1 := Scalar.cmpi .slt v5482 c0_i32_3639
  let c0_i32_3640 : BitVec 32 := 0#32
  let v5485 : BitVec 1 := Scalar.cmpi .slt v5481 c0_i32_3640
  let v5486 : BitVec 1 := Scalar.xori v5484 v5485
  let c0_i32_3638 : BitVec 32 := 0#32
  let v5483 : BitVec 1 := Scalar.cmpi .ne v5482 c0_i32_3638
  let v5487 : BitVec 1 := Scalar.andi v5486 v5483
  let v5488 : BitVec 32 := Scalar.addi v5482 v5481
  let v5489 : BitVec 32 := Scalar.select v5487 v5488 v5482
  let c8_i32_3641 : BitVec 32 := 8#32
  let v5490 : BitVec 32 := Scalar.muli v5489 c8_i32_3641
  v5490
def k0_mult152 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3649 : BitVec 32 := 7#32
  let v5500 : BitVec 32 := Scalar.muli v1 c7_i32_3649
  let c6_i32_3650 : BitVec 32 := 6#32
  let v5501 : BitVec 32 := Scalar.addi v5500 c6_i32_3650
  let c28_i32_3658 : BitVec 32 := 28#32
  let c0_i32_3659 : BitVec 32 := 0#32
  let v5519 : BitVec 1 := Scalar.cmpi .eq c28_i32_3658 c0_i32_3659
  let c1_i32_3660 : BitVec 32 := 1#32
  let v5520 : BitVec 32 := Scalar.select v5519 c1_i32_3660 c28_i32_3658
  let v5521 : BitVec 32 := Scalar.remsi v5501 v5520
  let c0_i32_3662 : BitVec 32 := 0#32
  let v5523 : BitVec 1 := Scalar.cmpi .slt v5521 c0_i32_3662
  let c0_i32_3663 : BitVec 32 := 0#32
  let v5524 : BitVec 1 := Scalar.cmpi .slt v5520 c0_i32_3663
  let v5525 : BitVec 1 := Scalar.xori v5523 v5524
  let c0_i32_3661 : BitVec 32 := 0#32
  let v5522 : BitVec 1 := Scalar.cmpi .ne v5521 c0_i32_3661
  let v5526 : BitVec 1 := Scalar.andi v5525 v5522
  let v5527 : BitVec 32 := Scalar.addi v5521 v5520
  let v5528 : BitVec 32 := Scalar.select v5526 v5527 v5521
  let c8_i32_3664 : BitVec 32 := 8#32
  let v5529 : BitVec 32 := Scalar.muli v5528 c8_i32_3664
  v5529
@[reducible] def k0_t26_loop : Scf.Loop 32 :=
  let c0_i32_3666 : BitVec 32 := 0#32
  let c112_i32_3667 : BitVec 32 := 112#32
  let v5531 : BitVec 32 := Scalar.addi c0_i32_3666 c112_i32_3667
  let c1_i32_3668 : BitVec 32 := 1#32
  ⟨c0_i32_3666, v5531, c1_i32_3668⟩
def k0_off95 (k0_t26 : Fin k0_t26_loop.trips) : Fin 3 → Nat :=
  let c0_i32_4066 : BitVec 32 := 0#32
  let v6139 : Index := Scalar.indexCast c0_i32_4066
  let c0_i32_3666 : BitVec 32 := 0#32
  let c1_i32_3668 : BitVec 32 := 1#32
  let arg25 : BitVec 32 := Scf.iv c0_i32_3666 c1_i32_3668 k0_t26
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk151 (v6158 : IVec S16 32) (v6160 : IVec S16 32) (v6178 : IVec S16 32) : Prop :=
  (∀ a x, ((![v6178, v6158, v6160] : Fin 3 → IVec S16 32) a x).toNat < S24x8x224.size a)
theorem k0_idx151_inb : ∀ (v6158 : IVec S16 32) (v6160 : IVec S16 32) (v6178 : IVec S16 32) (k0_hw151 : k0_chk151 v6158 v6160 v6178), ∀ a x, ((![v6178, v6158, v6160] : Fin 3 → IVec S16 32) a x).toNat < S24x8x224.size a := fun v6158 v6160 v6178 k0_hw151 => k0_hw151

def k0_chk152 (v6158 : IVec S16 32) (v6160 : IVec S16 32) (v6181 : IVec S16 32) : Prop :=
  (∀ a x, ((![v6181, v6158, v6160] : Fin 3 → IVec S16 32) a x).toNat < S24x8x224.size a)
theorem k0_idx152_inb : ∀ (v6158 : IVec S16 32) (v6160 : IVec S16 32) (v6181 : IVec S16 32) (k0_hw152 : k0_chk152 v6158 v6160 v6181), ∀ a x, ((![v6181, v6158, v6160] : Fin 3 → IVec S16 32) a x).toNat < S24x8x224.size a := fun v6158 v6160 v6181 k0_hw152 => k0_hw152
def k0_off96 (k0_t26 : Fin k0_t26_loop.trips) : Fin 3 → Nat :=
  let c0_i32_4084 : BitVec 32 := 0#32
  let v6186 : Index := Scalar.indexCast c0_i32_4084
  let c0_i32_3666 : BitVec 32 := 0#32
  let c1_i32_3668 : BitVec 32 := 1#32
  let arg25 : BitVec 32 := Scf.iv c0_i32_3666 c1_i32_3668 k0_t26
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6187 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6188 : Index := Scalar.indexCast v6138
  ![0, v6187.toNat, v6188.toNat]

def k0_chk153 (v6191 : IVec S16 32) : Prop :=
  (∀ a x, ((![v6191] : Fin 1 → IVec S16 32) a x).toNat < S11264.size a)
theorem k0_idx153_inb : ∀ (v6191 : IVec S16 32) (k0_hw153 : k0_chk153 v6191), ∀ a x, ((![v6191] : Fin 1 → IVec S16 32) a x).toNat < S11264.size a := fun v6191 k0_hw153 => k0_hw153

def k0_chk154 (v6158 : IVec S16 32) (v6160 : IVec S16 32) (v6193 : IVec S16 32) : Prop :=
  (∀ a x, ((![v6193, v6158, v6160] : Fin 3 → IVec S16 32) a x).toNat < S24x8x224.size a)
theorem k0_idx154_inb : ∀ (v6158 : IVec S16 32) (v6160 : IVec S16 32) (v6193 : IVec S16 32) (k0_hw154 : k0_chk154 v6158 v6160 v6193), ∀ a x, ((![v6193, v6158, v6160] : Fin 3 → IVec S16 32) a x).toNat < S24x8x224.size a := fun v6158 v6160 v6193 k0_hw154 => k0_hw154

def k0_chk155 (v6158 : IVec S16 32) (v6160 : IVec S16 32) (v6196 : IVec S16 32) : Prop :=
  (∀ a x, ((![v6196, v6158, v6160] : Fin 3 → IVec S16 32) a x).toNat < S24x8x224.size a)
theorem k0_idx155_inb : ∀ (v6158 : IVec S16 32) (v6160 : IVec S16 32) (v6196 : IVec S16 32) (k0_hw155 : k0_chk155 v6158 v6160 v6196), ∀ a x, ((![v6196, v6158, v6160] : Fin 3 → IVec S16 32) a x).toNat < S24x8x224.size a := fun v6158 v6160 v6196 k0_hw155 => k0_hw155
def k0_off97 (k0_t26 : Fin k0_t26_loop.trips) : Fin 3 → Nat :=
  let c1_i32_4089 : BitVec 32 := 1#32
  let v6201 : Index := Scalar.indexCast c1_i32_4089
  let c0_i32_3666 : BitVec 32 := 0#32
  let c1_i32_3668 : BitVec 32 := 1#32
  let arg25 : BitVec 32 := Scf.iv c0_i32_3666 c1_i32_3668 k0_t26
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6202 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6203 : Index := Scalar.indexCast v6138
  ![1, v6202.toNat, v6203.toNat]

def k0_chk156 (v6206 : IVec S16 32) : Prop :=
  (∀ a x, ((![v6206] : Fin 1 → IVec S16 32) a x).toNat < S11264.size a)
theorem k0_idx156_inb : ∀ (v6206 : IVec S16 32) (k0_hw156 : k0_chk156 v6206), ∀ a x, ((![v6206] : Fin 1 → IVec S16 32) a x).toNat < S11264.size a := fun v6206 k0_hw156 => k0_hw156

def k0_chk157 (v6158 : IVec S16 32) (v6160 : IVec S16 32) (v6208 : IVec S16 32) : Prop :=
  (∀ a x, ((![v6208, v6158, v6160] : Fin 3 → IVec S16 32) a x).toNat < S24x8x224.size a)
theorem k0_idx157_inb : ∀ (v6158 : IVec S16 32) (v6160 : IVec S16 32) (v6208 : IVec S16 32) (k0_hw157 : k0_chk157 v6158 v6160 v6208), ∀ a x, ((![v6208, v6158, v6160] : Fin 3 → IVec S16 32) a x).toNat < S24x8x224.size a := fun v6158 v6160 v6208 k0_hw157 => k0_hw157

def k0_chk158 (v6158 : IVec S16 32) (v6160 : IVec S16 32) (v6211 : IVec S16 32) : Prop :=
  (∀ a x, ((![v6211, v6158, v6160] : Fin 3 → IVec S16 32) a x).toNat < S24x8x224.size a)
theorem k0_idx158_inb : ∀ (v6158 : IVec S16 32) (v6160 : IVec S16 32) (v6211 : IVec S16 32) (k0_hw158 : k0_chk158 v6158 v6160 v6211), ∀ a x, ((![v6211, v6158, v6160] : Fin 3 → IVec S16 32) a x).toNat < S24x8x224.size a := fun v6158 v6160 v6211 k0_hw158 => k0_hw158
def k0_off98 (k0_t26 : Fin k0_t26_loop.trips) : Fin 3 → Nat :=
  let c2_i32_4093 : BitVec 32 := 2#32
  let v6216 : Index := Scalar.indexCast c2_i32_4093
  let c0_i32_3666 : BitVec 32 := 0#32
  let c1_i32_3668 : BitVec 32 := 1#32
  let arg25 : BitVec 32 := Scf.iv c0_i32_3666 c1_i32_3668 k0_t26
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6217 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6218 : Index := Scalar.indexCast v6138
  ![2, v6217.toNat, v6218.toNat]

def k0_chk159 (v6221 : IVec S16 32) : Prop :=
  (∀ a x, ((![v6221] : Fin 1 → IVec S16 32) a x).toNat < S11264.size a)
theorem k0_idx159_inb : ∀ (v6221 : IVec S16 32) (k0_hw159 : k0_chk159 v6221), ∀ a x, ((![v6221] : Fin 1 → IVec S16 32) a x).toNat < S11264.size a := fun v6221 k0_hw159 => k0_hw159

def k0_chk160 (v6158 : IVec S16 32) (v6160 : IVec S16 32) (v6223 : IVec S16 32) : Prop :=
  (∀ a x, ((![v6223, v6158, v6160] : Fin 3 → IVec S16 32) a x).toNat < S24x8x224.size a)
theorem k0_idx160_inb : ∀ (v6158 : IVec S16 32) (v6160 : IVec S16 32) (v6223 : IVec S16 32) (k0_hw160 : k0_chk160 v6158 v6160 v6223), ∀ a x, ((![v6223, v6158, v6160] : Fin 3 → IVec S16 32) a x).toNat < S24x8x224.size a := fun v6158 v6160 v6223 k0_hw160 => k0_hw160

def k0_chk161 (v6158 : IVec S16 32) (v6160 : IVec S16 32) (v6226 : IVec S16 32) : Prop :=
  (∀ a x, ((![v6226, v6158, v6160] : Fin 3 → IVec S16 32) a x).toNat < S24x8x224.size a)
theorem k0_idx161_inb : ∀ (v6158 : IVec S16 32) (v6160 : IVec S16 32) (v6226 : IVec S16 32) (k0_hw161 : k0_chk161 v6158 v6160 v6226), ∀ a x, ((![v6226, v6158, v6160] : Fin 3 → IVec S16 32) a x).toNat < S24x8x224.size a := fun v6158 v6160 v6226 k0_hw161 => k0_hw161
def k0_off99 (k0_t26 : Fin k0_t26_loop.trips) : Fin 3 → Nat :=
  let c3_i32_4097 : BitVec 32 := 3#32
  let v6231 : Index := Scalar.indexCast c3_i32_4097
  let c0_i32_3666 : BitVec 32 := 0#32
  let c1_i32_3668 : BitVec 32 := 1#32
  let arg25 : BitVec 32 := Scf.iv c0_i32_3666 c1_i32_3668 k0_t26
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6232 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6233 : Index := Scalar.indexCast v6138
  ![3, v6232.toNat, v6233.toNat]

def k0_chk162 (v6236 : IVec S16 32) : Prop :=
  (∀ a x, ((![v6236] : Fin 1 → IVec S16 32) a x).toNat < S11264.size a)
theorem k0_idx162_inb : ∀ (v6236 : IVec S16 32) (k0_hw162 : k0_chk162 v6236), ∀ a x, ((![v6236] : Fin 1 → IVec S16 32) a x).toNat < S11264.size a := fun v6236 k0_hw162 => k0_hw162

def k0_chk163 (v6241 : IVec S16 32) : Prop :=
  (∀ a x, ((![v6241] : Fin 1 → IVec S16 32) a x).toNat < S11264.size a)
theorem k0_idx163_inb : ∀ (v6241 : IVec S16 32) (k0_hw163 : k0_chk163 v6241), ∀ a x, ((![v6241] : Fin 1 → IVec S16 32) a x).toNat < S11264.size a := fun v6241 k0_hw163 => k0_hw163
def k0_mult153 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3670 : BitVec 32 := 7#32
  let v5532 : BitVec 32 := Scalar.muli v1 c7_i32_3670
  let c6_i32_3671 : BitVec 32 := 6#32
  let v5533 : BitVec 32 := Scalar.addi v5532 c6_i32_3671
  let c28_i32_3679 : BitVec 32 := 28#32
  let c0_i32_3680 : BitVec 32 := 0#32
  let v5551 : BitVec 1 := Scalar.cmpi .eq c28_i32_3679 c0_i32_3680
  let c1_i32_3681 : BitVec 32 := 1#32
  let v5552 : BitVec 32 := Scalar.select v5551 c1_i32_3681 c28_i32_3679
  let v5553 : BitVec 32 := Scalar.remsi v5533 v5552
  let c0_i32_3683 : BitVec 32 := 0#32
  let v5555 : BitVec 1 := Scalar.cmpi .slt v5553 c0_i32_3683
  let c0_i32_3684 : BitVec 32 := 0#32
  let v5556 : BitVec 1 := Scalar.cmpi .slt v5552 c0_i32_3684
  let v5557 : BitVec 1 := Scalar.xori v5555 v5556
  let c0_i32_3682 : BitVec 32 := 0#32
  let v5554 : BitVec 1 := Scalar.cmpi .ne v5553 c0_i32_3682
  let v5558 : BitVec 1 := Scalar.andi v5557 v5554
  let v5559 : BitVec 32 := Scalar.addi v5553 v5552
  let v5560 : BitVec 32 := Scalar.select v5558 v5559 v5553
  let c8_i32_3685 : BitVec 32 := 8#32
  let v5561 : BitVec 32 := Scalar.muli v5560 c8_i32_3685
  v5561
def k0_mult154 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3690 : BitVec 32 := 7#32
  let v5567 : BitVec 32 := Scalar.muli v1 c7_i32_3690
  let c6_i32_3691 : BitVec 32 := 6#32
  let v5568 : BitVec 32 := Scalar.addi v5567 c6_i32_3691
  let c28_i32_3699 : BitVec 32 := 28#32
  let c0_i32_3700 : BitVec 32 := 0#32
  let v5586 : BitVec 1 := Scalar.cmpi .eq c28_i32_3699 c0_i32_3700
  let c1_i32_3701 : BitVec 32 := 1#32
  let v5587 : BitVec 32 := Scalar.select v5586 c1_i32_3701 c28_i32_3699
  let v5588 : BitVec 32 := Scalar.remsi v5568 v5587
  let c0_i32_3703 : BitVec 32 := 0#32
  let v5590 : BitVec 1 := Scalar.cmpi .slt v5588 c0_i32_3703
  let c0_i32_3704 : BitVec 32 := 0#32
  let v5591 : BitVec 1 := Scalar.cmpi .slt v5587 c0_i32_3704
  let v5592 : BitVec 1 := Scalar.xori v5590 v5591
  let c0_i32_3702 : BitVec 32 := 0#32
  let v5589 : BitVec 1 := Scalar.cmpi .ne v5588 c0_i32_3702
  let v5593 : BitVec 1 := Scalar.andi v5592 v5589
  let v5594 : BitVec 32 := Scalar.addi v5588 v5587
  let v5595 : BitVec 32 := Scalar.select v5593 v5594 v5588
  let c8_i32_3705 : BitVec 32 := 8#32
  let v5596 : BitVec 32 := Scalar.muli v5595 c8_i32_3705
  v5596
def k0_mult155 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3716 : BitVec 32 := 7#32
  let v5604 : BitVec 32 := Scalar.muli v1 c7_i32_3716
  let c6_i32_3717 : BitVec 32 := 6#32
  let v5605 : BitVec 32 := Scalar.addi v5604 c6_i32_3717
  let c28_i32_3725 : BitVec 32 := 28#32
  let c0_i32_3726 : BitVec 32 := 0#32
  let v5623 : BitVec 1 := Scalar.cmpi .eq c28_i32_3725 c0_i32_3726
  let c1_i32_3727 : BitVec 32 := 1#32
  let v5624 : BitVec 32 := Scalar.select v5623 c1_i32_3727 c28_i32_3725
  let v5625 : BitVec 32 := Scalar.remsi v5605 v5624
  let c0_i32_3729 : BitVec 32 := 0#32
  let v5627 : BitVec 1 := Scalar.cmpi .slt v5625 c0_i32_3729
  let c0_i32_3730 : BitVec 32 := 0#32
  let v5628 : BitVec 1 := Scalar.cmpi .slt v5624 c0_i32_3730
  let v5629 : BitVec 1 := Scalar.xori v5627 v5628
  let c0_i32_3728 : BitVec 32 := 0#32
  let v5626 : BitVec 1 := Scalar.cmpi .ne v5625 c0_i32_3728
  let v5630 : BitVec 1 := Scalar.andi v5629 v5626
  let v5631 : BitVec 32 := Scalar.addi v5625 v5624
  let v5632 : BitVec 32 := Scalar.select v5630 v5631 v5625
  let c8_i32_3731 : BitVec 32 := 8#32
  let v5633 : BitVec 32 := Scalar.muli v5632 c8_i32_3731
  v5633
def k0_mult156 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3742 : BitVec 32 := 7#32
  let v5641 : BitVec 32 := Scalar.muli v1 c7_i32_3742
  let c6_i32_3743 : BitVec 32 := 6#32
  let v5642 : BitVec 32 := Scalar.addi v5641 c6_i32_3743
  let c28_i32_3751 : BitVec 32 := 28#32
  let c0_i32_3752 : BitVec 32 := 0#32
  let v5660 : BitVec 1 := Scalar.cmpi .eq c28_i32_3751 c0_i32_3752
  let c1_i32_3753 : BitVec 32 := 1#32
  let v5661 : BitVec 32 := Scalar.select v5660 c1_i32_3753 c28_i32_3751
  let v5662 : BitVec 32 := Scalar.remsi v5642 v5661
  let c0_i32_3755 : BitVec 32 := 0#32
  let v5664 : BitVec 1 := Scalar.cmpi .slt v5662 c0_i32_3755
  let c0_i32_3756 : BitVec 32 := 0#32
  let v5665 : BitVec 1 := Scalar.cmpi .slt v5661 c0_i32_3756
  let v5666 : BitVec 1 := Scalar.xori v5664 v5665
  let c0_i32_3754 : BitVec 32 := 0#32
  let v5663 : BitVec 1 := Scalar.cmpi .ne v5662 c0_i32_3754
  let v5667 : BitVec 1 := Scalar.andi v5666 v5663
  let v5668 : BitVec 32 := Scalar.addi v5662 v5661
  let v5669 : BitVec 32 := Scalar.select v5667 v5668 v5662
  let c8_i32_3757 : BitVec 32 := 8#32
  let v5670 : BitVec 32 := Scalar.muli v5669 c8_i32_3757
  v5670
def k0_mult157 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3762 : BitVec 32 := 7#32
  let v5676 : BitVec 32 := Scalar.muli v1 c7_i32_3762
  let c6_i32_3763 : BitVec 32 := 6#32
  let v5677 : BitVec 32 := Scalar.addi v5676 c6_i32_3763
  let c28_i32_3771 : BitVec 32 := 28#32
  let c0_i32_3772 : BitVec 32 := 0#32
  let v5695 : BitVec 1 := Scalar.cmpi .eq c28_i32_3771 c0_i32_3772
  let c1_i32_3773 : BitVec 32 := 1#32
  let v5696 : BitVec 32 := Scalar.select v5695 c1_i32_3773 c28_i32_3771
  let v5697 : BitVec 32 := Scalar.remsi v5677 v5696
  let c0_i32_3775 : BitVec 32 := 0#32
  let v5699 : BitVec 1 := Scalar.cmpi .slt v5697 c0_i32_3775
  let c0_i32_3776 : BitVec 32 := 0#32
  let v5700 : BitVec 1 := Scalar.cmpi .slt v5696 c0_i32_3776
  let v5701 : BitVec 1 := Scalar.xori v5699 v5700
  let c0_i32_3774 : BitVec 32 := 0#32
  let v5698 : BitVec 1 := Scalar.cmpi .ne v5697 c0_i32_3774
  let v5702 : BitVec 1 := Scalar.andi v5701 v5698
  let v5703 : BitVec 32 := Scalar.addi v5697 v5696
  let v5704 : BitVec 32 := Scalar.select v5702 v5703 v5697
  let c8_i32_3777 : BitVec 32 := 8#32
  let v5705 : BitVec 32 := Scalar.muli v5704 c8_i32_3777
  v5705
def k0_mult158 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3788 : BitVec 32 := 7#32
  let v5713 : BitVec 32 := Scalar.muli v1 c7_i32_3788
  let c6_i32_3789 : BitVec 32 := 6#32
  let v5714 : BitVec 32 := Scalar.addi v5713 c6_i32_3789
  let c28_i32_3797 : BitVec 32 := 28#32
  let c0_i32_3798 : BitVec 32 := 0#32
  let v5732 : BitVec 1 := Scalar.cmpi .eq c28_i32_3797 c0_i32_3798
  let c1_i32_3799 : BitVec 32 := 1#32
  let v5733 : BitVec 32 := Scalar.select v5732 c1_i32_3799 c28_i32_3797
  let v5734 : BitVec 32 := Scalar.remsi v5714 v5733
  let c0_i32_3801 : BitVec 32 := 0#32
  let v5736 : BitVec 1 := Scalar.cmpi .slt v5734 c0_i32_3801
  let c0_i32_3802 : BitVec 32 := 0#32
  let v5737 : BitVec 1 := Scalar.cmpi .slt v5733 c0_i32_3802
  let v5738 : BitVec 1 := Scalar.xori v5736 v5737
  let c0_i32_3800 : BitVec 32 := 0#32
  let v5735 : BitVec 1 := Scalar.cmpi .ne v5734 c0_i32_3800
  let v5739 : BitVec 1 := Scalar.andi v5738 v5735
  let v5740 : BitVec 32 := Scalar.addi v5734 v5733
  let v5741 : BitVec 32 := Scalar.select v5739 v5740 v5734
  let c8_i32_3803 : BitVec 32 := 8#32
  let v5742 : BitVec 32 := Scalar.muli v5741 c8_i32_3803
  v5742
@[reducible] def k0_t27_loop : Scf.Loop 32 :=
  let c0_i32_3805 : BitVec 32 := 0#32
  let c112_i32_3806 : BitVec 32 := 112#32
  let v5744 : BitVec 32 := Scalar.addi c0_i32_3805 c112_i32_3806
  let c1_i32_3807 : BitVec 32 := 1#32
  ⟨c0_i32_3805, v5744, c1_i32_3807⟩
def k0_off100 (k0_t27 : Fin k0_t27_loop.trips) : Fin 3 → Nat :=
  let c0_i32_4066 : BitVec 32 := 0#32
  let v6139 : Index := Scalar.indexCast c0_i32_4066
  let c0_i32_3805 : BitVec 32 := 0#32
  let c1_i32_3807 : BitVec 32 := 1#32
  let arg25 : BitVec 32 := Scf.iv c0_i32_3805 c1_i32_3807 k0_t27
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk164 (v6158 : IVec S16 32) (v6160 : IVec S16 32) (v6164 : IVec S16 32) : Prop :=
  (∀ a x, ((![v6164, v6158, v6160] : Fin 3 → IVec S16 32) a x).toNat < S24x8x224.size a)
theorem k0_idx164_inb : ∀ (v6158 : IVec S16 32) (v6160 : IVec S16 32) (v6164 : IVec S16 32) (k0_hw164 : k0_chk164 v6158 v6160 v6164), ∀ a x, ((![v6164, v6158, v6160] : Fin 3 → IVec S16 32) a x).toNat < S24x8x224.size a := fun v6158 v6160 v6164 k0_hw164 => k0_hw164
def k0_off101 (k0_t27 : Fin k0_t27_loop.trips) : Fin 3 → Nat :=
  let c0_i32_4076 : BitVec 32 := 0#32
  let v6168 : Index := Scalar.indexCast c0_i32_4076
  let c0_i32_3805 : BitVec 32 := 0#32
  let c1_i32_3807 : BitVec 32 := 1#32
  let arg25 : BitVec 32 := Scf.iv c0_i32_3805 c1_i32_3807 k0_t27
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk165 (v6173 : IVec S16 32) : Prop :=
  (∀ a x, ((![v6173] : Fin 1 → IVec S16 32) a x).toNat < S11264.size a)
theorem k0_idx165_inb : ∀ (v6173 : IVec S16 32) (k0_hw165 : k0_chk165 v6173), ∀ a x, ((![v6173] : Fin 1 → IVec S16 32) a x).toNat < S11264.size a := fun v6173 k0_hw165 => k0_hw165

def k0_chk166 (v6158 : IVec S16 32) (v6160 : IVec S16 32) (v6177 : IVec S16 32) : Prop :=
  (∀ a x, ((![v6177, v6158, v6160] : Fin 3 → IVec S16 32) a x).toNat < S24x8x224.size a)
theorem k0_idx166_inb : ∀ (v6158 : IVec S16 32) (v6160 : IVec S16 32) (v6177 : IVec S16 32) (k0_hw166 : k0_chk166 v6158 v6160 v6177), ∀ a x, ((![v6177, v6158, v6160] : Fin 3 → IVec S16 32) a x).toNat < S24x8x224.size a := fun v6158 v6160 v6177 k0_hw166 => k0_hw166
def k0_off102 (k0_t27 : Fin k0_t27_loop.trips) : Fin 3 → Nat :=
  let c1_i32_4080 : BitVec 32 := 1#32
  let v6181 : Index := Scalar.indexCast c1_i32_4080
  let c0_i32_3805 : BitVec 32 := 0#32
  let c1_i32_3807 : BitVec 32 := 1#32
  let arg25 : BitVec 32 := Scf.iv c0_i32_3805 c1_i32_3807 k0_t27
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk167 (v6186 : IVec S16 32) : Prop :=
  (∀ a x, ((![v6186] : Fin 1 → IVec S16 32) a x).toNat < S11264.size a)
theorem k0_idx167_inb : ∀ (v6186 : IVec S16 32) (k0_hw167 : k0_chk167 v6186), ∀ a x, ((![v6186] : Fin 1 → IVec S16 32) a x).toNat < S11264.size a := fun v6186 k0_hw167 => k0_hw167

def k0_chk168 (v6158 : IVec S16 32) (v6160 : IVec S16 32) (v6190 : IVec S16 32) : Prop :=
  (∀ a x, ((![v6190, v6158, v6160] : Fin 3 → IVec S16 32) a x).toNat < S24x8x224.size a)
theorem k0_idx168_inb : ∀ (v6158 : IVec S16 32) (v6160 : IVec S16 32) (v6190 : IVec S16 32) (k0_hw168 : k0_chk168 v6158 v6160 v6190), ∀ a x, ((![v6190, v6158, v6160] : Fin 3 → IVec S16 32) a x).toNat < S24x8x224.size a := fun v6158 v6160 v6190 k0_hw168 => k0_hw168
def k0_off103 (k0_t27 : Fin k0_t27_loop.trips) : Fin 3 → Nat :=
  let c2_i32_4084 : BitVec 32 := 2#32
  let v6194 : Index := Scalar.indexCast c2_i32_4084
  let c0_i32_3805 : BitVec 32 := 0#32
  let c1_i32_3807 : BitVec 32 := 1#32
  let arg25 : BitVec 32 := Scf.iv c0_i32_3805 c1_i32_3807 k0_t27
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6195 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6196 : Index := Scalar.indexCast v6138
  ![2, v6195.toNat, v6196.toNat]

def k0_chk169 (v6199 : IVec S16 32) : Prop :=
  (∀ a x, ((![v6199] : Fin 1 → IVec S16 32) a x).toNat < S11264.size a)
theorem k0_idx169_inb : ∀ (v6199 : IVec S16 32) (k0_hw169 : k0_chk169 v6199), ∀ a x, ((![v6199] : Fin 1 → IVec S16 32) a x).toNat < S11264.size a := fun v6199 k0_hw169 => k0_hw169
def k0_mult159 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3809 : BitVec 32 := 7#32
  let v5745 : BitVec 32 := Scalar.muli v1 c7_i32_3809
  let c6_i32_3810 : BitVec 32 := 6#32
  let v5746 : BitVec 32 := Scalar.addi v5745 c6_i32_3810
  let c28_i32_3818 : BitVec 32 := 28#32
  let c0_i32_3819 : BitVec 32 := 0#32
  let v5764 : BitVec 1 := Scalar.cmpi .eq c28_i32_3818 c0_i32_3819
  let c1_i32_3820 : BitVec 32 := 1#32
  let v5765 : BitVec 32 := Scalar.select v5764 c1_i32_3820 c28_i32_3818
  let v5766 : BitVec 32 := Scalar.remsi v5746 v5765
  let c0_i32_3822 : BitVec 32 := 0#32
  let v5768 : BitVec 1 := Scalar.cmpi .slt v5766 c0_i32_3822
  let c0_i32_3823 : BitVec 32 := 0#32
  let v5769 : BitVec 1 := Scalar.cmpi .slt v5765 c0_i32_3823
  let v5770 : BitVec 1 := Scalar.xori v5768 v5769
  let c0_i32_3821 : BitVec 32 := 0#32
  let v5767 : BitVec 1 := Scalar.cmpi .ne v5766 c0_i32_3821
  let v5771 : BitVec 1 := Scalar.andi v5770 v5767
  let v5772 : BitVec 32 := Scalar.addi v5766 v5765
  let v5773 : BitVec 32 := Scalar.select v5771 v5772 v5766
  let c8_i32_3824 : BitVec 32 := 8#32
  let v5774 : BitVec 32 := Scalar.muli v5773 c8_i32_3824
  v5774
def k0_mult160 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3835 : BitVec 32 := 7#32
  let v5782 : BitVec 32 := Scalar.muli v1 c7_i32_3835
  let c6_i32_3836 : BitVec 32 := 6#32
  let v5783 : BitVec 32 := Scalar.addi v5782 c6_i32_3836
  let c28_i32_3844 : BitVec 32 := 28#32
  let c0_i32_3845 : BitVec 32 := 0#32
  let v5801 : BitVec 1 := Scalar.cmpi .eq c28_i32_3844 c0_i32_3845
  let c1_i32_3846 : BitVec 32 := 1#32
  let v5802 : BitVec 32 := Scalar.select v5801 c1_i32_3846 c28_i32_3844
  let v5803 : BitVec 32 := Scalar.remsi v5783 v5802
  let c0_i32_3848 : BitVec 32 := 0#32
  let v5805 : BitVec 1 := Scalar.cmpi .slt v5803 c0_i32_3848
  let c0_i32_3849 : BitVec 32 := 0#32
  let v5806 : BitVec 1 := Scalar.cmpi .slt v5802 c0_i32_3849
  let v5807 : BitVec 1 := Scalar.xori v5805 v5806
  let c0_i32_3847 : BitVec 32 := 0#32
  let v5804 : BitVec 1 := Scalar.cmpi .ne v5803 c0_i32_3847
  let v5808 : BitVec 1 := Scalar.andi v5807 v5804
  let v5809 : BitVec 32 := Scalar.addi v5803 v5802
  let v5810 : BitVec 32 := Scalar.select v5808 v5809 v5803
  let c8_i32_3850 : BitVec 32 := 8#32
  let v5811 : BitVec 32 := Scalar.muli v5810 c8_i32_3850
  v5811
def k0_mult161 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3861 : BitVec 32 := 7#32
  let v5819 : BitVec 32 := Scalar.muli v1 c7_i32_3861
  let c6_i32_3862 : BitVec 32 := 6#32
  let v5820 : BitVec 32 := Scalar.addi v5819 c6_i32_3862
  let c28_i32_3870 : BitVec 32 := 28#32
  let c0_i32_3871 : BitVec 32 := 0#32
  let v5838 : BitVec 1 := Scalar.cmpi .eq c28_i32_3870 c0_i32_3871
  let c1_i32_3872 : BitVec 32 := 1#32
  let v5839 : BitVec 32 := Scalar.select v5838 c1_i32_3872 c28_i32_3870
  let v5840 : BitVec 32 := Scalar.remsi v5820 v5839
  let c0_i32_3874 : BitVec 32 := 0#32
  let v5842 : BitVec 1 := Scalar.cmpi .slt v5840 c0_i32_3874
  let c0_i32_3875 : BitVec 32 := 0#32
  let v5843 : BitVec 1 := Scalar.cmpi .slt v5839 c0_i32_3875
  let v5844 : BitVec 1 := Scalar.xori v5842 v5843
  let c0_i32_3873 : BitVec 32 := 0#32
  let v5841 : BitVec 1 := Scalar.cmpi .ne v5840 c0_i32_3873
  let v5845 : BitVec 1 := Scalar.andi v5844 v5841
  let v5846 : BitVec 32 := Scalar.addi v5840 v5839
  let v5847 : BitVec 32 := Scalar.select v5845 v5846 v5840
  let c8_i32_3876 : BitVec 32 := 8#32
  let v5848 : BitVec 32 := Scalar.muli v5847 c8_i32_3876
  v5848
def k0_mult162 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3887 : BitVec 32 := 7#32
  let v5856 : BitVec 32 := Scalar.muli v1 c7_i32_3887
  let c6_i32_3888 : BitVec 32 := 6#32
  let v5857 : BitVec 32 := Scalar.addi v5856 c6_i32_3888
  let c28_i32_3896 : BitVec 32 := 28#32
  let c0_i32_3897 : BitVec 32 := 0#32
  let v5875 : BitVec 1 := Scalar.cmpi .eq c28_i32_3896 c0_i32_3897
  let c1_i32_3898 : BitVec 32 := 1#32
  let v5876 : BitVec 32 := Scalar.select v5875 c1_i32_3898 c28_i32_3896
  let v5877 : BitVec 32 := Scalar.remsi v5857 v5876
  let c0_i32_3900 : BitVec 32 := 0#32
  let v5879 : BitVec 1 := Scalar.cmpi .slt v5877 c0_i32_3900
  let c0_i32_3901 : BitVec 32 := 0#32
  let v5880 : BitVec 1 := Scalar.cmpi .slt v5876 c0_i32_3901
  let v5881 : BitVec 1 := Scalar.xori v5879 v5880
  let c0_i32_3899 : BitVec 32 := 0#32
  let v5878 : BitVec 1 := Scalar.cmpi .ne v5877 c0_i32_3899
  let v5882 : BitVec 1 := Scalar.andi v5881 v5878
  let v5883 : BitVec 32 := Scalar.addi v5877 v5876
  let v5884 : BitVec 32 := Scalar.select v5882 v5883 v5877
  let c8_i32_3902 : BitVec 32 := 8#32
  let v5885 : BitVec 32 := Scalar.muli v5884 c8_i32_3902
  v5885
@[reducible] def k0_t28_loop : Scf.Loop 32 :=
  let c0_i32_3904 : BitVec 32 := 0#32
  let c112_i32_3905 : BitVec 32 := 112#32
  let v5887 : BitVec 32 := Scalar.addi c0_i32_3904 c112_i32_3905
  let c1_i32_3906 : BitVec 32 := 1#32
  ⟨c0_i32_3904, v5887, c1_i32_3906⟩
def k0_off104 (k0_t28 : Fin k0_t28_loop.trips) : Fin 3 → Nat :=
  let c0_i32_4066 : BitVec 32 := 0#32
  let v6139 : Index := Scalar.indexCast c0_i32_4066
  let c0_i32_3904 : BitVec 32 := 0#32
  let c1_i32_3906 : BitVec 32 := 1#32
  let arg25 : BitVec 32 := Scf.iv c0_i32_3904 c1_i32_3906 k0_t28
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk170 (v6158 : IVec S16 32) (v6160 : IVec S16 32) (v6164 : IVec S16 32) : Prop :=
  (∀ a x, ((![v6164, v6158, v6160] : Fin 3 → IVec S16 32) a x).toNat < S24x8x224.size a)
theorem k0_idx170_inb : ∀ (v6158 : IVec S16 32) (v6160 : IVec S16 32) (v6164 : IVec S16 32) (k0_hw170 : k0_chk170 v6158 v6160 v6164), ∀ a x, ((![v6164, v6158, v6160] : Fin 3 → IVec S16 32) a x).toNat < S24x8x224.size a := fun v6158 v6160 v6164 k0_hw170 => k0_hw170
def k0_off105 (k0_t28 : Fin k0_t28_loop.trips) : Fin 3 → Nat :=
  let c0_i32_4076 : BitVec 32 := 0#32
  let v6168 : Index := Scalar.indexCast c0_i32_4076
  let c0_i32_3904 : BitVec 32 := 0#32
  let c1_i32_3906 : BitVec 32 := 1#32
  let arg25 : BitVec 32 := Scf.iv c0_i32_3904 c1_i32_3906 k0_t28
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6169 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6170 : Index := Scalar.indexCast v6138
  ![0, v6169.toNat, v6170.toNat]

def k0_chk171 (v6173 : IVec S16 32) : Prop :=
  (∀ a x, ((![v6173] : Fin 1 → IVec S16 32) a x).toNat < S11264.size a)
theorem k0_idx171_inb : ∀ (v6173 : IVec S16 32) (k0_hw171 : k0_chk171 v6173), ∀ a x, ((![v6173] : Fin 1 → IVec S16 32) a x).toNat < S11264.size a := fun v6173 k0_hw171 => k0_hw171

def k0_chk172 (v6158 : IVec S16 32) (v6160 : IVec S16 32) (v6177 : IVec S16 32) : Prop :=
  (∀ a x, ((![v6177, v6158, v6160] : Fin 3 → IVec S16 32) a x).toNat < S24x8x224.size a)
theorem k0_idx172_inb : ∀ (v6158 : IVec S16 32) (v6160 : IVec S16 32) (v6177 : IVec S16 32) (k0_hw172 : k0_chk172 v6158 v6160 v6177), ∀ a x, ((![v6177, v6158, v6160] : Fin 3 → IVec S16 32) a x).toNat < S24x8x224.size a := fun v6158 v6160 v6177 k0_hw172 => k0_hw172
def k0_off106 (k0_t28 : Fin k0_t28_loop.trips) : Fin 3 → Nat :=
  let c1_i32_4080 : BitVec 32 := 1#32
  let v6181 : Index := Scalar.indexCast c1_i32_4080
  let c0_i32_3904 : BitVec 32 := 0#32
  let c1_i32_3906 : BitVec 32 := 1#32
  let arg25 : BitVec 32 := Scf.iv c0_i32_3904 c1_i32_3906 k0_t28
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6182 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6183 : Index := Scalar.indexCast v6138
  ![1, v6182.toNat, v6183.toNat]

def k0_chk173 (v6186 : IVec S16 32) : Prop :=
  (∀ a x, ((![v6186] : Fin 1 → IVec S16 32) a x).toNat < S11264.size a)
theorem k0_idx173_inb : ∀ (v6186 : IVec S16 32) (k0_hw173 : k0_chk173 v6186), ∀ a x, ((![v6186] : Fin 1 → IVec S16 32) a x).toNat < S11264.size a := fun v6186 k0_hw173 => k0_hw173
def k0_mult163 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3908 : BitVec 32 := 7#32
  let v5888 : BitVec 32 := Scalar.muli v1 c7_i32_3908
  let c6_i32_3909 : BitVec 32 := 6#32
  let v5889 : BitVec 32 := Scalar.addi v5888 c6_i32_3909
  let c28_i32_3917 : BitVec 32 := 28#32
  let c0_i32_3918 : BitVec 32 := 0#32
  let v5907 : BitVec 1 := Scalar.cmpi .eq c28_i32_3917 c0_i32_3918
  let c1_i32_3919 : BitVec 32 := 1#32
  let v5908 : BitVec 32 := Scalar.select v5907 c1_i32_3919 c28_i32_3917
  let v5909 : BitVec 32 := Scalar.remsi v5889 v5908
  let c0_i32_3921 : BitVec 32 := 0#32
  let v5911 : BitVec 1 := Scalar.cmpi .slt v5909 c0_i32_3921
  let c0_i32_3922 : BitVec 32 := 0#32
  let v5912 : BitVec 1 := Scalar.cmpi .slt v5908 c0_i32_3922
  let v5913 : BitVec 1 := Scalar.xori v5911 v5912
  let c0_i32_3920 : BitVec 32 := 0#32
  let v5910 : BitVec 1 := Scalar.cmpi .ne v5909 c0_i32_3920
  let v5914 : BitVec 1 := Scalar.andi v5913 v5910
  let v5915 : BitVec 32 := Scalar.addi v5909 v5908
  let v5916 : BitVec 32 := Scalar.select v5914 v5915 v5909
  let c8_i32_3923 : BitVec 32 := 8#32
  let v5917 : BitVec 32 := Scalar.muli v5916 c8_i32_3923
  v5917
def k0_mult164 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3934 : BitVec 32 := 7#32
  let v5925 : BitVec 32 := Scalar.muli v1 c7_i32_3934
  let c6_i32_3935 : BitVec 32 := 6#32
  let v5926 : BitVec 32 := Scalar.addi v5925 c6_i32_3935
  let c28_i32_3943 : BitVec 32 := 28#32
  let c0_i32_3944 : BitVec 32 := 0#32
  let v5944 : BitVec 1 := Scalar.cmpi .eq c28_i32_3943 c0_i32_3944
  let c1_i32_3945 : BitVec 32 := 1#32
  let v5945 : BitVec 32 := Scalar.select v5944 c1_i32_3945 c28_i32_3943
  let v5946 : BitVec 32 := Scalar.remsi v5926 v5945
  let c0_i32_3947 : BitVec 32 := 0#32
  let v5948 : BitVec 1 := Scalar.cmpi .slt v5946 c0_i32_3947
  let c0_i32_3948 : BitVec 32 := 0#32
  let v5949 : BitVec 1 := Scalar.cmpi .slt v5945 c0_i32_3948
  let v5950 : BitVec 1 := Scalar.xori v5948 v5949
  let c0_i32_3946 : BitVec 32 := 0#32
  let v5947 : BitVec 1 := Scalar.cmpi .ne v5946 c0_i32_3946
  let v5951 : BitVec 1 := Scalar.andi v5950 v5947
  let v5952 : BitVec 32 := Scalar.addi v5946 v5945
  let v5953 : BitVec 32 := Scalar.select v5951 v5952 v5946
  let c8_i32_3949 : BitVec 32 := 8#32
  let v5954 : BitVec 32 := Scalar.muli v5953 c8_i32_3949
  v5954
def k0_mult165 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3960 : BitVec 32 := 7#32
  let v5962 : BitVec 32 := Scalar.muli v1 c7_i32_3960
  let c6_i32_3961 : BitVec 32 := 6#32
  let v5963 : BitVec 32 := Scalar.addi v5962 c6_i32_3961
  let c28_i32_3969 : BitVec 32 := 28#32
  let c0_i32_3970 : BitVec 32 := 0#32
  let v5981 : BitVec 1 := Scalar.cmpi .eq c28_i32_3969 c0_i32_3970
  let c1_i32_3971 : BitVec 32 := 1#32
  let v5982 : BitVec 32 := Scalar.select v5981 c1_i32_3971 c28_i32_3969
  let v5983 : BitVec 32 := Scalar.remsi v5963 v5982
  let c0_i32_3973 : BitVec 32 := 0#32
  let v5985 : BitVec 1 := Scalar.cmpi .slt v5983 c0_i32_3973
  let c0_i32_3974 : BitVec 32 := 0#32
  let v5986 : BitVec 1 := Scalar.cmpi .slt v5982 c0_i32_3974
  let v5987 : BitVec 1 := Scalar.xori v5985 v5986
  let c0_i32_3972 : BitVec 32 := 0#32
  let v5984 : BitVec 1 := Scalar.cmpi .ne v5983 c0_i32_3972
  let v5988 : BitVec 1 := Scalar.andi v5987 v5984
  let v5989 : BitVec 32 := Scalar.addi v5983 v5982
  let v5990 : BitVec 32 := Scalar.select v5988 v5989 v5983
  let c8_i32_3975 : BitVec 32 := 8#32
  let v5991 : BitVec 32 := Scalar.muli v5990 c8_i32_3975
  v5991
@[reducible] def k0_t29_loop : Scf.Loop 32 :=
  let c0_i32_3977 : BitVec 32 := 0#32
  let c112_i32_3978 : BitVec 32 := 112#32
  let v5993 : BitVec 32 := Scalar.addi c0_i32_3977 c112_i32_3978
  let c1_i32_3979 : BitVec 32 := 1#32
  ⟨c0_i32_3977, v5993, c1_i32_3979⟩
def k0_off107 (k0_t29 : Fin k0_t29_loop.trips) : Fin 3 → Nat :=
  let c0_i32_4066 : BitVec 32 := 0#32
  let v6139 : Index := Scalar.indexCast c0_i32_4066
  let c0_i32_3977 : BitVec 32 := 0#32
  let c1_i32_3979 : BitVec 32 := 1#32
  let arg25 : BitVec 32 := Scf.iv c0_i32_3977 c1_i32_3979 k0_t29
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6140 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6141 : Index := Scalar.indexCast v6138
  ![0, v6140.toNat, v6141.toNat]

def k0_chk174 (v6158 : IVec S16 32) (v6160 : IVec S16 32) (v6162 : IVec S16 32) : Prop :=
  (∀ a x, ((![v6162, v6158, v6160] : Fin 3 → IVec S16 32) a x).toNat < S24x8x224.size a)
theorem k0_idx174_inb : ∀ (v6158 : IVec S16 32) (v6160 : IVec S16 32) (v6162 : IVec S16 32) (k0_hw174 : k0_chk174 v6158 v6160 v6162), ∀ a x, ((![v6162, v6158, v6160] : Fin 3 → IVec S16 32) a x).toNat < S24x8x224.size a := fun v6158 v6160 v6162 k0_hw174 => k0_hw174
def k0_off108 (k0_t29 : Fin k0_t29_loop.trips) : Fin 3 → Nat :=
  let c2_i32_4075 : BitVec 32 := 2#32
  let v6166 : Index := Scalar.indexCast c2_i32_4075
  let c0_i32_3977 : BitVec 32 := 0#32
  let c1_i32_3979 : BitVec 32 := 1#32
  let arg25 : BitVec 32 := Scf.iv c0_i32_3977 c1_i32_3979 k0_t29
  let c0_i32_4053 : BitVec 32 := 0#32
  let v6112 : BitVec 1 := Scalar.cmpi .sgt arg25 c0_i32_4053
  let v6113 : BitVec 32 := Scalar.extui v6112
  let c0_i32_4054 : BitVec 32 := 0#32
  let v6114 : BitVec 1 := Scalar.cmpi .slt arg25 c0_i32_4054
  let v6115 : BitVec 32 := Scalar.extui v6114
  let v6116 : BitVec 32 := Scalar.subi v6113 v6115
  let c14_i32 : BitVec 32 := 14#32
  let c0_i32_4055 : BitVec 32 := 0#32
  let v6117 : BitVec 1 := Scalar.cmpi .sgt c14_i32 c0_i32_4055
  let v6118 : BitVec 32 := Scalar.extui v6117
  let c0_i32_4056 : BitVec 32 := 0#32
  let v6119 : BitVec 1 := Scalar.cmpi .slt c14_i32 c0_i32_4056
  let v6120 : BitVec 32 := Scalar.extui v6119
  let v6121 : BitVec 32 := Scalar.subi v6118 v6120
  let v6122 : BitVec 1 := Scalar.cmpi .ne v6116 v6121
  let v6123 : BitVec 32 := Scalar.remsi arg25 c14_i32
  let c0_i32_4057 : BitVec 32 := 0#32
  let v6124 : BitVec 1 := Scalar.cmpi .ne v6123 c0_i32_4057
  let v6125 : BitVec 1 := Scalar.andi v6122 v6124
  let v6111 : BitVec 32 := Scalar.divsi arg25 c14_i32
  let c1_i32_4058 : BitVec 32 := 1#32
  let v6126 : BitVec 32 := Scalar.subi v6111 c1_i32_4058
  let v6127 : BitVec 32 := Scalar.select v6125 v6126 v6111
  let v6167 : Index := Scalar.indexCast v6127
  let c14_i32_4059 : BitVec 32 := 14#32
  let c0_i32_4060 : BitVec 32 := 0#32
  let v6128 : BitVec 1 := Scalar.cmpi .eq c14_i32_4059 c0_i32_4060
  let c1_i32_4061 : BitVec 32 := 1#32
  let v6129 : BitVec 32 := Scalar.select v6128 c1_i32_4061 c14_i32_4059
  let v6130 : BitVec 32 := Scalar.remsi arg25 v6129
  let c0_i32_4063 : BitVec 32 := 0#32
  let v6132 : BitVec 1 := Scalar.cmpi .slt v6130 c0_i32_4063
  let c0_i32_4064 : BitVec 32 := 0#32
  let v6133 : BitVec 1 := Scalar.cmpi .slt v6129 c0_i32_4064
  let v6134 : BitVec 1 := Scalar.xori v6132 v6133
  let c0_i32_4062 : BitVec 32 := 0#32
  let v6131 : BitVec 1 := Scalar.cmpi .ne v6130 c0_i32_4062
  let v6135 : BitVec 1 := Scalar.andi v6134 v6131
  let v6136 : BitVec 32 := Scalar.addi v6130 v6129
  let v6137 : BitVec 32 := Scalar.select v6135 v6136 v6130
  let c16_i32_4065 : BitVec 32 := 16#32
  let v6138 : BitVec 32 := Scalar.muli v6137 c16_i32_4065
  let v6168 : Index := Scalar.indexCast v6138
  ![2, v6167.toNat, v6168.toNat]

def k0_chk175 (v6171 : IVec S16 32) : Prop :=
  (∀ a x, ((![v6171] : Fin 1 → IVec S16 32) a x).toNat < S11264.size a)
theorem k0_idx175_inb : ∀ (v6171 : IVec S16 32) (k0_hw175 : k0_chk175 v6171), ∀ a x, ((![v6171] : Fin 1 → IVec S16 32) a x).toNat < S11264.size a := fun v6171 k0_hw175 => k0_hw175
def k0_mult166 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_3981 : BitVec 32 := 7#32
  let v5994 : BitVec 32 := Scalar.muli v1 c7_i32_3981
  let c6_i32_3982 : BitVec 32 := 6#32
  let v5995 : BitVec 32 := Scalar.addi v5994 c6_i32_3982
  let c28_i32_3990 : BitVec 32 := 28#32
  let c0_i32_3991 : BitVec 32 := 0#32
  let v6013 : BitVec 1 := Scalar.cmpi .eq c28_i32_3990 c0_i32_3991
  let c1_i32_3992 : BitVec 32 := 1#32
  let v6014 : BitVec 32 := Scalar.select v6013 c1_i32_3992 c28_i32_3990
  let v6015 : BitVec 32 := Scalar.remsi v5995 v6014
  let c0_i32_3994 : BitVec 32 := 0#32
  let v6017 : BitVec 1 := Scalar.cmpi .slt v6015 c0_i32_3994
  let c0_i32_3995 : BitVec 32 := 0#32
  let v6018 : BitVec 1 := Scalar.cmpi .slt v6014 c0_i32_3995
  let v6019 : BitVec 1 := Scalar.xori v6017 v6018
  let c0_i32_3993 : BitVec 32 := 0#32
  let v6016 : BitVec 1 := Scalar.cmpi .ne v6015 c0_i32_3993
  let v6020 : BitVec 1 := Scalar.andi v6019 v6016
  let v6021 : BitVec 32 := Scalar.addi v6015 v6014
  let v6022 : BitVec 32 := Scalar.select v6020 v6021 v6015
  let c8_i32_3996 : BitVec 32 := 8#32
  let v6023 : BitVec 32 := Scalar.muli v6022 c8_i32_3996
  v6023
def k0_mult167 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_4004 : BitVec 32 := 7#32
  let v6033 : BitVec 32 := Scalar.muli v1 c7_i32_4004
  let c6_i32_4005 : BitVec 32 := 6#32
  let v6034 : BitVec 32 := Scalar.addi v6033 c6_i32_4005
  let c28_i32_4013 : BitVec 32 := 28#32
  let c0_i32_4014 : BitVec 32 := 0#32
  let v6052 : BitVec 1 := Scalar.cmpi .eq c28_i32_4013 c0_i32_4014
  let c1_i32_4015 : BitVec 32 := 1#32
  let v6053 : BitVec 32 := Scalar.select v6052 c1_i32_4015 c28_i32_4013
  let v6054 : BitVec 32 := Scalar.remsi v6034 v6053
  let c0_i32_4017 : BitVec 32 := 0#32
  let v6056 : BitVec 1 := Scalar.cmpi .slt v6054 c0_i32_4017
  let c0_i32_4018 : BitVec 32 := 0#32
  let v6057 : BitVec 1 := Scalar.cmpi .slt v6053 c0_i32_4018
  let v6058 : BitVec 1 := Scalar.xori v6056 v6057
  let c0_i32_4016 : BitVec 32 := 0#32
  let v6055 : BitVec 1 := Scalar.cmpi .ne v6054 c0_i32_4016
  let v6059 : BitVec 1 := Scalar.andi v6058 v6055
  let v6060 : BitVec 32 := Scalar.addi v6054 v6053
  let v6061 : BitVec 32 := Scalar.select v6059 v6060 v6054
  let c8_i32_4019 : BitVec 32 := 8#32
  let v6062 : BitVec 32 := Scalar.muli v6061 c8_i32_4019
  v6062
def k0_mult168 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_4030 : BitVec 32 := 7#32
  let v6070 : BitVec 32 := Scalar.muli v1 c7_i32_4030
  let c6_i32_4031 : BitVec 32 := 6#32
  let v6071 : BitVec 32 := Scalar.addi v6070 c6_i32_4031
  let c28_i32_4039 : BitVec 32 := 28#32
  let c0_i32_4040 : BitVec 32 := 0#32
  let v6089 : BitVec 1 := Scalar.cmpi .eq c28_i32_4039 c0_i32_4040
  let c1_i32_4041 : BitVec 32 := 1#32
  let v6090 : BitVec 32 := Scalar.select v6089 c1_i32_4041 c28_i32_4039
  let v6091 : BitVec 32 := Scalar.remsi v6071 v6090
  let c0_i32_4043 : BitVec 32 := 0#32
  let v6093 : BitVec 1 := Scalar.cmpi .slt v6091 c0_i32_4043
  let c0_i32_4044 : BitVec 32 := 0#32
  let v6094 : BitVec 1 := Scalar.cmpi .slt v6090 c0_i32_4044
  let v6095 : BitVec 1 := Scalar.xori v6093 v6094
  let c0_i32_4042 : BitVec 32 := 0#32
  let v6092 : BitVec 1 := Scalar.cmpi .ne v6091 c0_i32_4042
  let v6096 : BitVec 1 := Scalar.andi v6095 v6092
  let v6097 : BitVec 32 := Scalar.addi v6091 v6090
  let v6098 : BitVec 32 := Scalar.select v6096 v6097 v6091
  let c8_i32_4045 : BitVec 32 := 8#32
  let v6099 : BitVec 32 := Scalar.muli v6098 c8_i32_4045
  v6099
def k0_mult169 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11264_i32 : BitVec 32 := 11264#32
  let v6109 : BitVec 32 := Scalar.muli v1 c11264_i32
  v6109
def k0_off109 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11264_i32 : BitVec 32 := 11264#32
  let v6109 : BitVec 32 := Scalar.muli v1 c11264_i32
  let v6110 : BitVec 32 := v6109
  ![v6110.toNat]
abbrev grid1 : Pipeline.Grid := .none

abbrev stage1_0 : Fin 1 → Memref sig .tc .vmem S64x5632 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x224x224 : Shape := ⟨3, ![8, 224, 224]⟩
abbrev S8x32x224x224 : Shape := ⟨4, ![8, 32, 224, 224]⟩
abbrev S8x24x224x224 : Shape := ⟨4, ![8, 24, 224, 224]⟩
abbrev S8x16x224x224 : Shape := ⟨4, ![8, 16, 224, 224]⟩
abbrev S8x8x224x224 : Shape := ⟨4, ![8, 8, 224, 224]⟩
abbrev S3x3 : Shape := ⟨2, ![3, 3]⟩
abbrev S4 : Shape := ⟨1, ![4]⟩
abbrev S8x8x4x224x224 : Shape := ⟨5, ![8, 8, 4, 224, 224]⟩
abbrev S_ : Shape := ⟨0, ![]⟩
abbrev S8x1x1x224x224 : Shape := ⟨5, ![8, 1, 1, 224, 224]⟩
abbrev S8x1x4x224x224 : Shape := ⟨5, ![8, 1, 4, 224, 224]⟩
abbrev S8x1x4x224x224x1 : Shape := ⟨6, ![8, 1, 4, 224, 224, 1]⟩
abbrev S1 : Shape := ⟨1, ![1]⟩
abbrev S1x1x1x1x1x1 : Shape := ⟨6, ![1, 1, 1, 1, 1, 1]⟩
abbrev S8x4x224x224 : Shape := ⟨4, ![8, 4, 224, 224]⟩
abbrev S8x1x224x224 : Shape := ⟨4, ![8, 1, 224, 224]⟩
abbrev S8x8x3x224x224 : Shape := ⟨5, ![8, 8, 3, 224, 224]⟩
abbrev S8x1x3x224x224 : Shape := ⟨5, ![8, 1, 3, 224, 224]⟩
abbrev S8x1x3x224x224x1 : Shape := ⟨6, ![8, 1, 3, 224, 224, 1]⟩
abbrev S8x3x224x224 : Shape := ⟨4, ![8, 3, 224, 224]⟩
abbrev S8x8x2x224x224 : Shape := ⟨5, ![8, 8, 2, 224, 224]⟩
abbrev S8x1x2x224x224 : Shape := ⟨5, ![8, 1, 2, 224, 224]⟩
abbrev S8x1x2x224x224x1 : Shape := ⟨6, ![8, 1, 2, 224, 224, 1]⟩
abbrev S8x2x224x224 : Shape := ⟨4, ![8, 2, 224, 224]⟩
abbrev S8x8x1x224x224 : Shape := ⟨5, ![8, 8, 1, 224, 224]⟩
abbrev S8x1x224x224x1 : Shape := ⟨5, ![8, 1, 224, 224, 1]⟩
abbrev S1x1x1x1x1 : Shape := ⟨5, ![1, 1, 1, 1, 1]⟩
abbrev S8 : Shape := ⟨1, ![8]⟩
abbrev S8x1x1 : Shape := ⟨3, ![8, 1, 1]⟩
abbrev S401408 : Shape := ⟨1, ![401408]⟩
abbrev S72 : Shape := ⟨1, ![72]⟩
abbrev S401408x1 : Shape := ⟨2, ![401408, 1]⟩
abbrev S72x1 : Shape := ⟨2, ![72, 1]⟩
abbrev S8x224x224x4 : Shape := ⟨4, ![8, 224, 224, 4]⟩
abbrev S401408x4 : Shape := ⟨2, ![401408, 4]⟩
abbrev S72x4 : Shape := ⟨2, ![72, 4]⟩
abbrev S8x9x4 : Shape := ⟨3, ![8, 9, 4]⟩
abbrev S8x8x4 : Shape := ⟨3, ![8, 8, 4]⟩
abbrev S64x4 : Shape := ⟨2, ![64, 4]⟩
abbrev S8x224x224x3 : Shape := ⟨4, ![8, 224, 224, 3]⟩
abbrev S401408x3 : Shape := ⟨2, ![401408, 3]⟩
abbrev S72x3 : Shape := ⟨2, ![72, 3]⟩
abbrev S8x9x3 : Shape := ⟨3, ![8, 9, 3]⟩
abbrev S8x8x3 : Shape := ⟨3, ![8, 8, 3]⟩
abbrev S64x3 : Shape := ⟨2, ![64, 3]⟩
abbrev S8x224x224x2 : Shape := ⟨4, ![8, 224, 224, 2]⟩
abbrev S401408x2 : Shape := ⟨2, ![401408, 2]⟩
abbrev S72x2 : Shape := ⟨2, ![72, 2]⟩
abbrev S8x9x2 : Shape := ⟨3, ![8, 9, 2]⟩
abbrev S8x8x2 : Shape := ⟨3, ![8, 8, 2]⟩
abbrev S64x2 : Shape := ⟨2, ![64, 2]⟩
abbrev S8x224x224x1 : Shape := ⟨4, ![8, 224, 224, 1]⟩
abbrev S8x9x1 : Shape := ⟨3, ![8, 9, 1]⟩
abbrev S8x8x1 : Shape := ⟨3, ![8, 8, 1]⟩
abbrev S64x1 : Shape := ⟨2, ![64, 1]⟩
abbrev S64 : Shape := ⟨1, ![64]⟩
abbrev S64x1x3 : Shape := ⟨3, ![64, 1, 3]⟩
abbrev S64x3x3 : Shape := ⟨3, ![64, 3, 3]⟩
abbrev S64x3x1 : Shape := ⟨3, ![64, 3, 1]⟩
abbrev S64x3x4 : Shape := ⟨3, ![64, 3, 4]⟩
abbrev S64x1x4 : Shape := ⟨3, ![64, 1, 4]⟩
abbrev S64x4x4 : Shape := ⟨3, ![64, 4, 4]⟩

abbrev nBuf : Space → Nat
  | .hbm => 364
  | .vmem => 0
  | .smem => 0
  | _ => 0

abbrev hbmTy0_0 (i : Nat) : BufTy := match i % 128 with
  | 0 => ⟨S8x224x224, .i32⟩
  | 1 => ⟨S8x32x224x224, .f32⟩
  | 2 => ⟨S8x24x224x224, .f32⟩
  | 3 => ⟨S8x16x224x224, .f32⟩
  | 4 => ⟨S8x8x224x224, .f32⟩
  | 5 => ⟨S3x3, .f32⟩
  | 6 => ⟨S4, .f32⟩
  | 7 => ⟨S8x8x4x224x224, .f32⟩
  | 8 => ⟨S_, .i32⟩
  | 9 => ⟨S8x224x224, .i32⟩
  | 10 => ⟨S8x224x224, .i32⟩
  | 11 => ⟨S_, .i32⟩
  | 12 => ⟨S_, .i32⟩
  | 13 => ⟨S_, .i32⟩
  | 14 => ⟨S8x224x224, .i32⟩
  | 15 => ⟨S8x224x224, .i32⟩
  | 16 => ⟨S_, .i32⟩
  | 17 => ⟨S8x224x224, .i32⟩
  | 18 => ⟨S8x224x224, .i32⟩
  | 19 => ⟨S8x1x1x224x224, .i32⟩
  | 20 => ⟨S8x1x4x224x224, .i32⟩
  | 21 => ⟨S_, .i32⟩
  | 22 => ⟨S8x1x4x224x224, .i32⟩
  | 23 => ⟨S8x1x4x224x224, .i1⟩
  | 24 => ⟨S_, .i32⟩
  | 25 => ⟨S8x1x4x224x224, .i32⟩
  | 26 => ⟨S8x1x4x224x224, .i32⟩
  | 27 => ⟨S8x1x4x224x224, .i32⟩
  | 28 => ⟨S8x1x4x224x224x1, .i32⟩
  | 29 => ⟨S1, .i32⟩
  | 30 => ⟨S_, .i32⟩
  | 31 => ⟨S8x1x4x224x224x1, .i32⟩
  | 32 => ⟨S8x1x4x224x224x1, .i1⟩
  | 33 => ⟨S1x1x1x1x1x1, .i32⟩
  | 34 => ⟨S8x1x4x224x224x1, .i32⟩
  | 35 => ⟨S8x1x4x224x224x1, .i1⟩
  | 36 => ⟨S8x1x4x224x224x1, .i1⟩
  | 37 => ⟨S_, .i1⟩
  | 38 => ⟨S8x1x4x224x224, .i1⟩
  | 39 => ⟨S8x1x4x224x224, .f32⟩
  | 40 => ⟨S_, .f32⟩
  | 41 => ⟨S8x1x4x224x224, .f32⟩
  | 42 => ⟨S8x1x4x224x224, .f32⟩
  | 43 => ⟨S8x4x224x224, .f32⟩
  | 44 => ⟨S_, .i32⟩
  | 45 => ⟨S8x224x224, .i32⟩
  | 46 => ⟨S8x224x224, .i1⟩
  | 47 => ⟨S8x224x224, .f32⟩
  | 48 => ⟨S8x1x224x224, .f32⟩
  | 49 => ⟨S8x4x224x224, .f32⟩
  | 50 => ⟨S8x4x224x224, .f32⟩
  | 51 => ⟨S8x8x3x224x224, .f32⟩
  | 52 => ⟨S_, .i32⟩
  | 53 => ⟨S8x224x224, .i32⟩
  | 54 => ⟨S8x224x224, .i32⟩
  | 55 => ⟨S_, .i32⟩
  | 56 => ⟨S_, .i32⟩
  | 57 => ⟨S_, .i32⟩
  | 58 => ⟨S8x224x224, .i32⟩
  | 59 => ⟨S8x224x224, .i32⟩
  | 60 => ⟨S_, .i32⟩
  | 61 => ⟨S8x224x224, .i32⟩
  | 62 => ⟨S8x224x224, .i32⟩
  | 63 => ⟨S8x1x1x224x224, .i32⟩
  | 64 => ⟨S8x1x3x224x224, .i32⟩
  | 65 => ⟨S_, .i32⟩
  | 66 => ⟨S8x1x3x224x224, .i32⟩
  | 67 => ⟨S8x1x3x224x224, .i1⟩
  | 68 => ⟨S_, .i32⟩
  | 69 => ⟨S8x1x3x224x224, .i32⟩
  | 70 => ⟨S8x1x3x224x224, .i32⟩
  | 71 => ⟨S8x1x3x224x224, .i32⟩
  | 72 => ⟨S8x1x3x224x224x1, .i32⟩
  | 73 => ⟨S1, .i32⟩
  | 74 => ⟨S_, .i32⟩
  | 75 => ⟨S8x1x3x224x224x1, .i32⟩
  | 76 => ⟨S8x1x3x224x224x1, .i1⟩
  | 77 => ⟨S1x1x1x1x1x1, .i32⟩
  | 78 => ⟨S8x1x3x224x224x1, .i32⟩
  | 79 => ⟨S8x1x3x224x224x1, .i1⟩
  | 80 => ⟨S8x1x3x224x224x1, .i1⟩
  | 81 => ⟨S_, .i1⟩
  | 82 => ⟨S8x1x3x224x224, .i1⟩
  | 83 => ⟨S8x1x3x224x224, .f32⟩
  | 84 => ⟨S_, .f32⟩
  | 85 => ⟨S8x1x3x224x224, .f32⟩
  | 86 => ⟨S8x1x3x224x224, .f32⟩
  | 87 => ⟨S8x3x224x224, .f32⟩
  | 88 => ⟨S_, .i32⟩
  | 89 => ⟨S8x224x224, .i32⟩
  | 90 => ⟨S8x224x224, .i1⟩
  | 91 => ⟨S8x224x224, .f32⟩
  | 92 => ⟨S8x1x224x224, .f32⟩
  | 93 => ⟨S8x3x224x224, .f32⟩
  | 94 => ⟨S8x3x224x224, .f32⟩
  | 95 => ⟨S8x8x2x224x224, .f32⟩
  | 96 => ⟨S_, .i32⟩
  | 97 => ⟨S8x224x224, .i32⟩
  | 98 => ⟨S8x224x224, .i32⟩
  | 99 => ⟨S_, .i32⟩
  | 100 => ⟨S_, .i32⟩
  | 101 => ⟨S_, .i32⟩
  | 102 => ⟨S8x224x224, .i32⟩
  | 103 => ⟨S8x224x224, .i32⟩
  | 104 => ⟨S_, .i32⟩
  | 105 => ⟨S8x224x224, .i32⟩
  | 106 => ⟨S8x224x224, .i32⟩
  | 107 => ⟨S8x1x1x224x224, .i32⟩
  | 108 => ⟨S8x1x2x224x224, .i32⟩
  | 109 => ⟨S_, .i32⟩
  | 110 => ⟨S8x1x2x224x224, .i32⟩
  | 111 => ⟨S8x1x2x224x224, .i1⟩
  | 112 => ⟨S_, .i32⟩
  | 113 => ⟨S8x1x2x224x224, .i32⟩
  | 114 => ⟨S8x1x2x224x224, .i32⟩
  | 115 => ⟨S8x1x2x224x224, .i32⟩
  | 116 => ⟨S8x1x2x224x224x1, .i32⟩
  | 117 => ⟨S1, .i32⟩
  | 118 => ⟨S_, .i32⟩
  | 119 => ⟨S8x1x2x224x224x1, .i32⟩
  | 120 => ⟨S8x1x2x224x224x1, .i1⟩
  | 121 => ⟨S1x1x1x1x1x1, .i32⟩
  | 122 => ⟨S8x1x2x224x224x1, .i32⟩
  | 123 => ⟨S8x1x2x224x224x1, .i1⟩
  | 124 => ⟨S8x1x2x224x224x1, .i1⟩
  | 125 => ⟨S_, .i1⟩
  | 126 => ⟨S8x1x2x224x224, .i1⟩
  | 127 => ⟨S8x1x2x224x224, .f32⟩
  | _ => ⟨S8x224x224, .i32⟩

abbrev hbmTy0_1 (i : Nat) : BufTy := match i % 128 with
  | 0 => ⟨S_, .f32⟩
  | 1 => ⟨S8x1x2x224x224, .f32⟩
  | 2 => ⟨S8x1x2x224x224, .f32⟩
  | 3 => ⟨S8x2x224x224, .f32⟩
  | 4 => ⟨S_, .i32⟩
  | 5 => ⟨S8x224x224, .i32⟩
  | 6 => ⟨S8x224x224, .i1⟩
  | 7 => ⟨S8x224x224, .f32⟩
  | 8 => ⟨S8x1x224x224, .f32⟩
  | 9 => ⟨S8x2x224x224, .f32⟩
  | 10 => ⟨S8x2x224x224, .f32⟩
  | 11 => ⟨S8x8x1x224x224, .f32⟩
  | 12 => ⟨S_, .i32⟩
  | 13 => ⟨S8x224x224, .i32⟩
  | 14 => ⟨S8x224x224, .i32⟩
  | 15 => ⟨S_, .i32⟩
  | 16 => ⟨S_, .i32⟩
  | 17 => ⟨S_, .i32⟩
  | 18 => ⟨S8x224x224, .i32⟩
  | 19 => ⟨S8x224x224, .i32⟩
  | 20 => ⟨S_, .i32⟩
  | 21 => ⟨S8x224x224, .i32⟩
  | 22 => ⟨S8x224x224, .i32⟩
  | 23 => ⟨S8x1x1x224x224, .i32⟩
  | 24 => ⟨S_, .i32⟩
  | 25 => ⟨S8x1x1x224x224, .i32⟩
  | 26 => ⟨S8x1x1x224x224, .i1⟩
  | 27 => ⟨S_, .i32⟩
  | 28 => ⟨S8x1x1x224x224, .i32⟩
  | 29 => ⟨S8x1x1x224x224, .i32⟩
  | 30 => ⟨S8x1x1x224x224, .i32⟩
  | 31 => ⟨S8x1x224x224x1, .i32⟩
  | 32 => ⟨S1, .i32⟩
  | 33 => ⟨S_, .i32⟩
  | 34 => ⟨S8x1x224x224x1, .i32⟩
  | 35 => ⟨S8x1x224x224x1, .i1⟩
  | 36 => ⟨S1x1x1x1x1, .i32⟩
  | 37 => ⟨S8x1x224x224x1, .i32⟩
  | 38 => ⟨S8x1x224x224x1, .i1⟩
  | 39 => ⟨S8x1x224x224x1, .i1⟩
  | 40 => ⟨S_, .i1⟩
  | 41 => ⟨S8x1x224x224, .i1⟩
  | 42 => ⟨S8x1x1x224x224, .f32⟩
  | 43 => ⟨S8x1x1x224x224, .i1⟩
  | 44 => ⟨S_, .f32⟩
  | 45 => ⟨S8x1x1x224x224, .f32⟩
  | 46 => ⟨S8x1x1x224x224, .f32⟩
  | 47 => ⟨S8x1x224x224, .f32⟩
  | 48 => ⟨S_, .i32⟩
  | 49 => ⟨S8x224x224, .i32⟩
  | 50 => ⟨S8x224x224, .i1⟩
  | 51 => ⟨S8x224x224, .f32⟩
  | 52 => ⟨S8x1x224x224, .f32⟩
  | 53 => ⟨S8x1x224x224, .f32⟩
  | 54 => ⟨S8, .i32⟩
  | 55 => ⟨S8x1x1, .i32⟩
  | 56 => ⟨S_, .i32⟩
  | 57 => ⟨S8x1x1, .i32⟩
  | 58 => ⟨S8x1x1, .i32⟩
  | 59 => ⟨S8x224x224, .i32⟩
  | 60 => ⟨S8x224x224, .i32⟩
  | 61 => ⟨S401408, .i32⟩
  | 62 => ⟨S_, .f32⟩
  | 63 => ⟨S401408, .f32⟩
  | 64 => ⟨S_, .f32⟩
  | 65 => ⟨S72, .f32⟩
  | 66 => ⟨S401408x1, .i32⟩
  | 67 => ⟨S72, .f32⟩
  | 68 => ⟨S_, .f32⟩
  | 69 => ⟨S72, .f32⟩
  | 70 => ⟨S72, .f32⟩
  | 71 => ⟨S72x1, .f32⟩
  | 72 => ⟨S8x224x224x4, .f32⟩
  | 73 => ⟨S401408x4, .f32⟩
  | 74 => ⟨S_, .f32⟩
  | 75 => ⟨S72x4, .f32⟩
  | 76 => ⟨S401408x1, .i32⟩
  | 77 => ⟨S72x4, .f32⟩
  | 78 => ⟨S72x4, .f32⟩
  | 79 => ⟨S72x4, .f32⟩
  | 80 => ⟨S8x9x4, .f32⟩
  | 81 => ⟨S8x8x4, .f32⟩
  | 82 => ⟨S8x8x4, .f32⟩
  | 83 => ⟨S64x4, .f32⟩
  | 84 => ⟨S8x224x224x3, .f32⟩
  | 85 => ⟨S401408x3, .f32⟩
  | 86 => ⟨S_, .f32⟩
  | 87 => ⟨S72x3, .f32⟩
  | 88 => ⟨S401408x1, .i32⟩
  | 89 => ⟨S72x3, .f32⟩
  | 90 => ⟨S72x3, .f32⟩
  | 91 => ⟨S72x3, .f32⟩
  | 92 => ⟨S8x9x3, .f32⟩
  | 93 => ⟨S8x8x3, .f32⟩
  | 94 => ⟨S8x8x3, .f32⟩
  | 95 => ⟨S64x3, .f32⟩
  | 96 => ⟨S8x224x224x2, .f32⟩
  | 97 => ⟨S401408x2, .f32⟩
  | 98 => ⟨S_, .f32⟩
  | 99 => ⟨S72x2, .f32⟩
  | 100 => ⟨S401408x1, .i32⟩
  | 101 => ⟨S72x2, .f32⟩
  | 102 => ⟨S72x2, .f32⟩
  | 103 => ⟨S72x2, .f32⟩
  | 104 => ⟨S8x9x2, .f32⟩
  | 105 => ⟨S8x8x2, .f32⟩
  | 106 => ⟨S8x8x2, .f32⟩
  | 107 => ⟨S64x2, .f32⟩
  | 108 => ⟨S8x224x224x1, .f32⟩
  | 109 => ⟨S401408x1, .f32⟩
  | 110 => ⟨S_, .f32⟩
  | 111 => ⟨S72x1, .f32⟩
  | 112 => ⟨S401408x1, .i32⟩
  | 113 => ⟨S72x1, .f32⟩
  | 114 => ⟨S72x1, .f32⟩
  | 115 => ⟨S8x9x1, .f32⟩
  | 116 => ⟨S8x8x1, .f32⟩
  | 117 => ⟨S8x8x1, .f32⟩
  | 118 => ⟨S64x1, .f32⟩
  | 119 => ⟨S64x4, .f32⟩
  | 120 => ⟨S_, .f32⟩
  | 121 => ⟨S64, .f32⟩
  | 122 => ⟨S64x1, .f32⟩
  | 123 => ⟨S64x1, .f32⟩
  | 124 => ⟨S_, .f32⟩
  | 125 => ⟨S64x1, .f32⟩
  | 126 => ⟨S64x1, .f32⟩
  | 127 => ⟨S64x4, .f32⟩
  | _ => ⟨S8x224x224, .i32⟩

abbrev hbmTy0_2 (i : Nat) : BufTy := match i % 128 with
  | 0 => ⟨S64x4, .f32⟩
  | 1 => ⟨S64x1, .f32⟩
  | 2 => ⟨S64, .f32⟩
  | 3 => ⟨S64x1, .f32⟩
  | 4 => ⟨S64, .f32⟩
  | 5 => ⟨S64x1, .f32⟩
  | 6 => ⟨S64, .f32⟩
  | 7 => ⟨S64x1, .f32⟩
  | 8 => ⟨S64, .f32⟩
  | 9 => ⟨S64, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S64, .f32⟩
  | 26 => ⟨S64, .f32⟩
  | 27 => ⟨S_, .f32⟩
  | 28 => ⟨S64, .f32⟩
  | 29 => ⟨S64, .f32⟩
  | 30 => ⟨S64x1, .f32⟩
  | 31 => ⟨S64x1, .f32⟩
  | 32 => ⟨S64x1, .f32⟩
  | 33 => ⟨S64x3, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S64, .f32⟩
  | 50 => ⟨S64, .f32⟩
  | 51 => ⟨S64, .f32⟩
  | 52 => ⟨S_, .f32⟩
  | 53 => ⟨S64, .f32⟩
  | 54 => ⟨S64, .f32⟩
  | 55 => ⟨S64x1, .f32⟩
  | 56 => ⟨S64x1, .f32⟩
  | 57 => ⟨S64x1, .f32⟩
  | 58 => ⟨S64x3, .f32⟩
  | 59 => ⟨S64, .f32⟩
  | 60 => ⟨S64, .f32⟩
  | 61 => ⟨S64, .f32⟩
  | 62 => ⟨S_, .f32⟩
  | 63 => ⟨S64, .f32⟩
  | 64 => ⟨S64, .f32⟩
  | 65 => ⟨S64, .f32⟩
  | 66 => ⟨S64, .f32⟩
  | 67 => ⟨S64, .f32⟩
  | 68 => ⟨S_, .f32⟩
  | 69 => ⟨S64, .f32⟩
  | 70 => ⟨S64, .f32⟩
  | 71 => ⟨S64, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S64x1, .f32⟩
  | 81 => ⟨S64x1, .f32⟩
  | 82 => ⟨S64x1, .f32⟩
  | 83 => ⟨S64x3, .f32⟩
  | 84 => ⟨S64x1x3, .f32⟩
  | 85 => ⟨S64x1x3, .f32⟩
  | 86 => ⟨S64x1x3, .f32⟩
  | 87 => ⟨S64x3x3, .f32⟩
  | 88 => ⟨S64, .f32⟩
  | 89 => ⟨S64, .f32⟩
  | 90 => ⟨S_, .f32⟩
  | 91 => ⟨S64x1, .f32⟩
  | 92 => ⟨S64x3, .f32⟩
  | 93 => ⟨S64x1, .f32⟩
  | 94 => ⟨S3x3, .f32⟩
  | 95 => ⟨S64x3, .f32⟩
  | 96 => ⟨S64x3, .f32⟩
  | 97 => ⟨S64x3, .f32⟩
  | 98 => ⟨S64x3x1, .f32⟩
  | 99 => ⟨S64x3x4, .f32⟩
  | 100 => ⟨S64x1x4, .f32⟩
  | 101 => ⟨S64x4x4, .f32⟩
  | 102 => ⟨S72x1, .f32⟩
  | 103 => ⟨S8x9x1, .f32⟩
  | 104 => ⟨S8x8x1, .f32⟩
  | 105 => ⟨S8x8x1, .f32⟩
  | 106 => ⟨S64x1, .f32⟩
  | 107 => ⟨S8x224x224, .f32⟩
  | _ => ⟨S8x224x224, .i32⟩

abbrev hbmTy (i : Nat) : BufTy := match i / 128 with
  | 0 => hbmTy0_0 i
  | 1 => hbmTy0_1 i
  | 2 => hbmTy0_2 i
  | _ => ⟨S8x224x224, .i32⟩

abbrev bufTy : (tb : Table) → Fin (tcTables nBuf tb) → BufTy
  | .hbm, ⟨i, _⟩ => hbmTy i
  | _, _ => ⟨S8x224x224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v6 : Ref sig .tc := ⟨.hbm, 42, rfl⟩
abbrev main_v7 : Ref sig .tc := ⟨.hbm, 43, rfl⟩
abbrev main_c_3 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_c_4 : Ref sig .tc := ⟨.hbm, 52, rfl⟩
abbrev main_v15 : Ref sig .tc := ⟨.hbm, 53, rfl⟩
abbrev main_v16 : Ref sig .tc := ⟨.hbm, 54, rfl⟩
abbrev main_c_5 : Ref sig .tc := ⟨.hbm, 55, rfl⟩
abbrev main_c_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v20 : Ref sig .tc := ⟨.hbm, 86, rfl⟩
abbrev main_v21 : Ref sig .tc := ⟨.hbm, 87, rfl⟩
abbrev main_c_7 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_c_8 : Ref sig .tc := ⟨.hbm, 96, rfl⟩
abbrev main_v29 : Ref sig .tc := ⟨.hbm, 97, rfl⟩
abbrev main_v30 : Ref sig .tc := ⟨.hbm, 98, rfl⟩
abbrev main_c_9 : Ref sig .tc := ⟨.hbm, 99, rfl⟩
abbrev main_c_10 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_c_1 : Ref sig .tc := ⟨.hbm, 117, rfl⟩
abbrev main_call5_c_2 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_3 : Ref sig .tc := ⟨.hbm, 125, rfl⟩
abbrev main_call5_v12 : Ref sig .tc := ⟨.hbm, 126, rfl⟩
abbrev main_call5_v13 : Ref sig .tc := ⟨.hbm, 127, rfl⟩
abbrev main_call5_cst : Ref sig .tc := ⟨.hbm, 128, rfl⟩
abbrev main_call5_v14 : Ref sig .tc := ⟨.hbm, 129, rfl⟩
abbrev main_v34 : Ref sig .tc := ⟨.hbm, 130, rfl⟩
abbrev main_v35 : Ref sig .tc := ⟨.hbm, 131, rfl⟩
abbrev main_c_11 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_c_12 : Ref sig .tc := ⟨.hbm, 140, rfl⟩
abbrev main_v43 : Ref sig .tc := ⟨.hbm, 141, rfl⟩
abbrev main_v44 : Ref sig .tc := ⟨.hbm, 142, rfl⟩
abbrev main_c_13 : Ref sig .tc := ⟨.hbm, 143, rfl⟩
abbrev main_c_14 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_v45 : Ref sig .tc := ⟨.hbm, 150, rfl⟩
abbrev main_v46 : Ref sig .tc := ⟨.hbm, 151, rfl⟩
abbrev main_call7_c : Ref sig .tc := ⟨.hbm, 152, rfl⟩
abbrev main_call7_v0 : Ref sig .tc := ⟨.hbm, 153, rfl⟩
abbrev main_call7_v1 : Ref sig .tc := ⟨.hbm, 154, rfl⟩
abbrev main_call7_c_0 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_v5 : Ref sig .tc := ⟨.hbm, 159, rfl⟩
abbrev main_call7_c_1 : Ref sig .tc := ⟨.hbm, 160, rfl⟩
abbrev main_call7_c_2 : Ref sig .tc := ⟨.hbm, 161, rfl⟩
abbrev main_call7_v6 : Ref sig .tc := ⟨.hbm, 162, rfl⟩
abbrev main_call7_v7 : Ref sig .tc := ⟨.hbm, 163, rfl⟩
abbrev main_call7_v8 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_c_3 : Ref sig .tc := ⟨.hbm, 168, rfl⟩
abbrev main_call7_v12 : Ref sig .tc := ⟨.hbm, 169, rfl⟩
abbrev main_call7_v13 : Ref sig .tc := ⟨.hbm, 170, rfl⟩
abbrev main_call7_v14 : Ref sig .tc := ⟨.hbm, 171, rfl⟩
abbrev main_call7_cst : Ref sig .tc := ⟨.hbm, 172, rfl⟩
abbrev main_call7_v15 : Ref sig .tc := ⟨.hbm, 173, rfl⟩
abbrev main_v47 : Ref sig .tc := ⟨.hbm, 174, rfl⟩
abbrev main_v48 : Ref sig .tc := ⟨.hbm, 175, rfl⟩
abbrev main_c_15 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_c_16 : Ref sig .tc := ⟨.hbm, 184, rfl⟩
abbrev main_v56 : Ref sig .tc := ⟨.hbm, 185, rfl⟩
abbrev main_v57 : Ref sig .tc := ⟨.hbm, 186, rfl⟩
abbrev main_v58 : Ref sig .tc := ⟨.hbm, 187, rfl⟩
abbrev main_v59 : Ref sig .tc := ⟨.hbm, 188, rfl⟩
abbrev main_v60 : Ref sig .tc := ⟨.hbm, 189, rfl⟩
abbrev main_cst_17 : Ref sig .tc := ⟨.hbm, 190, rfl⟩
abbrev main_v61 : Ref sig .tc := ⟨.hbm, 191, rfl⟩
abbrev main_cst_18 : Ref sig .tc := ⟨.hbm, 192, rfl⟩
abbrev main_v62 : Ref sig .tc := ⟨.hbm, 193, rfl⟩
abbrev main_v63 : Ref sig .tc := ⟨.hbm, 194, rfl⟩
abbrev main_v64 : Ref sig .tc := ⟨.hbm, 195, rfl⟩
abbrev main_cst_19 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_cst_20 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_v76 : Ref sig .tc := ⟨.hbm, 209, rfl⟩
abbrev main_v77 : Ref sig .tc := ⟨.hbm, 210, rfl⟩
abbrev main_v78 : Ref sig .tc := ⟨.hbm, 211, rfl⟩
abbrev main_v79 : Ref sig .tc := ⟨.hbm, 212, rfl⟩
abbrev main_v80 : Ref sig .tc := ⟨.hbm, 213, rfl⟩
abbrev main_cst_21 : Ref sig .tc := ⟨.hbm, 214, rfl⟩
abbrev main_v81 : Ref sig .tc := ⟨.hbm, 215, rfl⟩
abbrev main_v82 : Ref sig .tc := ⟨.hbm, 216, rfl⟩
abbrev main_v83 : Ref sig .tc := ⟨.hbm, 217, rfl⟩
abbrev main_v84 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_cst_22 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_v96 : Ref sig .tc := ⟨.hbm, 231, rfl⟩
abbrev main_v97 : Ref sig .tc := ⟨.hbm, 232, rfl⟩
abbrev main_v98 : Ref sig .tc := ⟨.hbm, 233, rfl⟩
abbrev main_v99 : Ref sig .tc := ⟨.hbm, 234, rfl⟩
abbrev main_v100 : Ref sig .tc := ⟨.hbm, 235, rfl⟩
abbrev main_v101 : Ref sig .tc := ⟨.hbm, 236, rfl⟩
abbrev main_v102 : Ref sig .tc := ⟨.hbm, 237, rfl⟩
abbrev main_cst_23 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_v108 : Ref sig .tc := ⟨.hbm, 244, rfl⟩
abbrev main_v109 : Ref sig .tc := ⟨.hbm, 245, rfl⟩
abbrev main_v110 : Ref sig .tc := ⟨.hbm, 246, rfl⟩
abbrev main_call8_v0 : Ref sig .tc := ⟨.hbm, 247, rfl⟩
abbrev main_call8_cst : Ref sig .tc := ⟨.hbm, 248, rfl⟩
abbrev main_call8_v1 : Ref sig .tc := ⟨.hbm, 249, rfl⟩
abbrev main_call8_v2 : Ref sig .tc := ⟨.hbm, 250, rfl⟩
abbrev main_v111 : Ref sig .tc := ⟨.hbm, 251, rfl⟩
abbrev main_cst_24 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_cst_25 : Ref sig .tc := ⟨.hbm, 268, rfl⟩
abbrev main_v127 : Ref sig .tc := ⟨.hbm, 269, rfl⟩
abbrev main_v128 : Ref sig .tc := ⟨.hbm, 270, rfl⟩
abbrev main_cst_26 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_cst_27 : Ref sig .tc := ⟨.hbm, 277, rfl⟩
abbrev main_v134 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_v138 : Ref sig .tc := ⟨.hbm, 282, rfl⟩
abbrev main_cst_28 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_v146 : Ref sig .tc := ⟨.hbm, 291, rfl⟩
abbrev main_v147 : Ref sig .tc := ⟨.hbm, 292, rfl⟩
abbrev main_cst_29 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_cst_30 : Ref sig .tc := ⟨.hbm, 299, rfl⟩
abbrev main_v153 : Ref sig .tc := ⟨.hbm, 300, rfl⟩
abbrev main_v154 : Ref sig .tc := ⟨.hbm, 301, rfl⟩
abbrev main_cst_31 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_cst_32 : Ref sig .tc := ⟨.hbm, 308, rfl⟩
abbrev main_v160 : Ref sig .tc := ⟨.hbm, 309, rfl⟩
abbrev main_v161 : Ref sig .tc := ⟨.hbm, 310, rfl⟩
abbrev main_v162 : Ref sig .tc := ⟨.hbm, 311, rfl⟩
abbrev main_v163 : Ref sig .tc := ⟨.hbm, 312, rfl⟩
abbrev main_v164 : Ref sig .tc := ⟨.hbm, 313, rfl⟩
abbrev main_v165 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_cst_33 : Ref sig .tc := ⟨.hbm, 318, rfl⟩
abbrev main_v169 : Ref sig .tc := ⟨.hbm, 319, rfl⟩
abbrev main_v170 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_cst_34 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_v178 : Ref sig .tc := ⟨.hbm, 329, rfl⟩
abbrev main_cst_35 : Ref sig .tc := ⟨.hbm, 330, rfl⟩
abbrev main_v179 : Ref sig .tc := ⟨.hbm, 331, rfl⟩
abbrev main_v180 : Ref sig .tc := ⟨.hbm, 332, rfl⟩
abbrev main_cst_36 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_cst_37 : Ref sig .tc := ⟨.hbm, 346, rfl⟩
abbrev main_v193 : Ref sig .tc := ⟨.hbm, 347, rfl⟩
abbrev main_v194 : Ref sig .tc := ⟨.hbm, 348, rfl⟩
abbrev main_v195 : Ref sig .tc := ⟨.hbm, 349, rfl⟩
abbrev main_v196 : Ref sig .tc := ⟨.hbm, 350, rfl⟩
abbrev main_v197 : Ref sig .tc := ⟨.hbm, 351, rfl⟩
abbrev main_v198 : Ref sig .tc := ⟨.hbm, 352, rfl⟩
abbrev main_v199 : Ref sig .tc := ⟨.hbm, 353, rfl⟩
abbrev main_v200 : Ref sig .tc := ⟨.hbm, 354, rfl⟩
abbrev main_v201 : Ref sig .tc := ⟨.hbm, 355, rfl⟩
abbrev main_v202 : Ref sig .tc := ⟨.hbm, 356, rfl⟩
abbrev main_v203 : Ref sig .tc := ⟨.hbm, 357, rfl⟩
abbrev main_v204 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩

abbrev nD : Nat := 1
abbrev τ : Topo := Topo.v7x

variable {F : FTy → Type} [FloatOps F]
-- ==== Proof.Part.lean ====
module

public import Idealize.ShloMosaic.Lib.Transfers
public import Idealize.ShloMosaic.Lib.MemrefSat
public import Idealize.ShloMosaic.Lib.SparseCore.Ops
public import Idealize.ShloMosaic.Lib.Tactic

/-!
Part of a memref, held at stated contents, and the rules of the vector subcore's steps over it.

`part c m q S X` says: thread `c` holds share `q` of the elements of `m` at the indices `S`, and they read `X` there. The
rules below are loads, stores, gathers, scatters and copies over such parts. A copy may also be made into a part that the
program goes on reading while the copy is under way (`wp_issueRace`): half of the part's share then lies in an invariant,
at contents of which nothing is known, and a gather opens it (`wp_gatherRace`).
-/

@[expose] public section

noncomputable section

namespace Cert.Proof

open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

section Basics

variable (c : Thread nD τ) {sp : Space} {s : Shape} {e : EltTy} (m : Memref sig c.2.kind sp s e) (q : PosShare TreeShare)

/-- Share `q` of the elements of `m` at the indices `S`, reading `X` there. -/
def part (S : Finset s.Idx) (X : s.Idx → Val e) : sProp 𝕄 :=
  iprop(∃ f, ⌜∀ j ∈ S, m.view.read Val f j = X j⌝ ∗ (m.view.loc c ↦[m.view.setOn S]{q} f))

instance part_storable (S : Finset s.Idx) (X : s.Idx → Val e) : Storable (upEmb : UEmb _ 𝕄) (part c m q S X) := by
  unfold part; infer_instance

/-- The same elements at contents that are not named. -/
def some' (S : Finset s.Idx) : sProp 𝕄 := iprop(∃ X, part c m q S X)

instance some_storable (S : Finset s.Idx) : Storable (upEmb : UEmb _ 𝕄) (some' c m q S) := by
  unfold some'; infer_instance

variable {c m q}

theorem part_congr {S : Finset s.Idx} {X Y : s.Idx → Val e} (h : ∀ j ∈ S, X j = Y j) :
    (part c m q S X : sProp 𝕄) ⊢ part c m q S Y := by
  unfold part
  iintro ⟨%f, %hf, H⟩
  iexists f
  isplitr
  · ipureintro; exact fun j hj => (hf j hj).trans (h j hj)
  iexact H

theorem part_pts {S : Finset s.Idx} (f : Buf Val (m.view.loc c)) :
    (m.view.loc c ↦[m.view.setOn S]{q} f : sProp 𝕄) ⊢ part c m q S (m.view.read Val f) := by
  unfold part
  iintro H
  iexists f
  isplitr
  · ipureintro; exact fun _ _ => rfl
  iexact H

theorem setOn_union (v : View sig c.2.kind sp s e) (S T : Finset s.Idx) [DecidableEq v.ty.Idx] : v.setOn (S ∪ T) = v.setOn S ∪ v.setOn T := by
  unfold View.setOn; rw [Finset.map_union]

theorem setOn_disj (v : View sig c.2.kind sp s e) {S T : Finset s.Idx} (h : Disjoint S T) : Disjoint (v.setOn S) (v.setOn T) := by
  unfold View.setOn; exact (Finset.disjoint_map _).mpr h

/-- A part is its two parts, along disjoint sets of indices. -/
theorem part_split {S T : Finset s.Idx} (h : Disjoint S T) (X : s.Idx → Val e) :
    (part c m q (S ∪ T) X : sProp 𝕄) ⊢ iprop(part c m q S X ∗ part c m q T X) := by
  unfold part
  iintro ⟨%f, %hf, H⟩
  rw [setOn_union]
  ihave H2 := (pointsTo_union (setOn_disj m.view h)).1 $$ H
  icases H2 with ⟨H1, H2⟩
  isplitl [H1]
  · iexists f
    isplitr
    · ipureintro; exact fun j hj => hf j (Finset.mem_union_left _ hj)
    iexact H1
  · iexists f
    isplitr
    · ipureintro; exact fun j hj => hf j (Finset.mem_union_right _ hj)
    iexact H2

theorem part_join {S T : Finset s.Idx} (h : Disjoint S T) {X Y Z : s.Idx → Val e} (hX : ∀ j ∈ S, X j = Z j) (hY : ∀ j ∈ T, Y j = Z j) :
    iprop(part c m q S X ∗ part c m q T Y) ⊢ (part c m q (S ∪ T) Z : sProp 𝕄) := by
  unfold part
  iintro ⟨⟨%f, %hf, H1⟩, ⟨%g, %hg, H2⟩⟩
  rw [setOn_union]
  iexists (m.view.setOn T).piecewise g f
  isplitr
  · ipureintro
    intro j hj
    rcases Finset.mem_union.mp hj with hj | hj
    · have hn : m.view.emb j ∉ m.view.setOn T := fun h' => Finset.disjoint_left.mp h hj (m.view.mem_setOn.mp h')
      rw [← hX j hj, ← hf j hj, View.read_apply, View.read_apply, Finset.piecewise_eq_of_notMem _ _ _ hn]
    · have hn : m.view.emb j ∈ m.view.setOn T := m.view.mem_setOn.mpr hj
      rw [← hY j hj, ← hg j hj, View.read_apply, View.read_apply, Finset.piecewise_eq_of_mem _ _ _ hn]
  · iapply (pointsTo_join (setOn_disj m.view h))
    isplitl [H1] <;> iassumption

/-- Two holders of one part read the same there. -/
theorem part_agree {q' : PosShare TreeShare} {S : Finset s.Idx} {X Y : s.Idx → Val e} :
    iprop(part c m q S X ∗ part c m q' S Y) ⊢ (⌜∀ j ∈ S, X j = Y j⌝ : sProp 𝕄) := by
  unfold part
  iintro ⟨⟨%f, %hf, H1⟩, ⟨%g, %hg, H2⟩⟩
  ihave H := (pointsTo_agree (ℓ := m.view.loc c)) $$ [H1 H2]
  · isplitl [H1] <;> iassumption
  icases H with %h
  ipureintro
  intro j hj
  have hm := m.view.mem_setOn.mpr hj
  rw [← hf j hj, ← hg j hj, View.read_apply, View.read_apply, (h _ (Finset.mem_inter.mpr ⟨hm, hm⟩)).1]

/-- A share of a part is its two halves. -/
theorem part_halve {S : Finset s.Idx} (X : s.Idx → Val e) :
    (part c m q S X : sProp 𝕄) ⊢ iprop(part c m q.left S X ∗ part c m q.right S X) := by
  unfold part
  iintro ⟨%f, %hf, H⟩
  ihave H2 := (pointsTo_share (PosShare.mem_left_op_right q)).1 $$ H
  icases H2 with ⟨H1, H2⟩
  isplitl [H1]
  · iexists f
    isplitr; · ipureintro; exact hf
    iexact H1
  · iexists f
    isplitr; · ipureintro; exact hf
    iexact H2

theorem part_unhalve {S : Finset s.Idx} (X Y : s.Idx → Val e) :
    iprop(part c m q.left S X ∗ part c m q.right S Y) ⊢ (part c m q S X : sProp 𝕄) := by
  unfold part
  iintro ⟨⟨%f, %hf, H1⟩, ⟨%g, %hg, H2⟩⟩
  ihave #H := (pointsTo_agree (ℓ := m.view.loc c)) $$ [H1 H2]
  · isplitl [H1] <;> iassumption
  icases H with %h
  iexists f
  isplitr; · ipureintro; exact hf
  iapply (pointsTo_share (PosShare.mem_left_op_right q)).2
  isplitl [H1]; · iexact H1
  rw [pointsTo_congr fun i hi => (h i (Finset.mem_inter.mpr ⟨hi, hi⟩)).1]
  iexact H2

/-- Two halves of a share of one set of elements are the share, at either's contents. -/
theorem pts_unhalve {ℓ : Loc nD τ sig} {I : Finset (Idx ℓ)} (f g : Buf Val ℓ) :
    iprop((ℓ ↦[I]{q.left} f) ∗ (ℓ ↦[I]{q.right} g)) ⊢ (ℓ ↦[I]{q} f : sProp 𝕄) := by
  iintro ⟨H1, H2⟩
  ihave #H := (pointsTo_agree (ℓ := ℓ)) $$ [H1 H2]
  · isplitl [H1] <;> iassumption
  icases H with %h
  iapply (pointsTo_share (PosShare.mem_left_op_right q)).2
  isplitl [H1]; · iexact H1
  rw [pointsTo_congr fun i hi => (h i (Finset.mem_inter.mpr ⟨hi, hi⟩)).1]
  iexact H2

end Basics

section Sub

variable {c : Thread nD τ} {sp : Space} {s : Shape} {e : EltTy} {m : Memref sig c.2.kind sp s e} {q : PosShare TreeShare}

/-- A slice, held whole, is the part of the memref under its rectangle. -/
theorem part_slice {r : Rect s} {hr : ∀ a, r.stride a = 1} {X : s.Idx → Val e} {Y : r.shape.Idx → Val e} (h : ∀ j, X (r.emb j) = Y j) :
    (part c m q r.set X : sProp 𝕄) ⊢ part c (m.slice r hr) q Finset.univ Y := by
  unfold part
  iintro ⟨%f, %hf, H⟩
  iexists f
  isplitr
  · ipureintro
    intro j _
    exact (hf (r.emb j) (by rw [← Rect.map_emb_univ]; exact Finset.mem_map_of_mem _ (Finset.mem_univ j))).trans (h j)
  · have : (m.slice r hr).view.setOn Finset.univ = m.view.setOn r.set := m.view.set_slice r
    rw [this]
    iexact H

theorem part_of_slice {r : Rect s} {hr : ∀ a, r.stride a = 1} {X : s.Idx → Val e} {Y : r.shape.Idx → Val e} (h : ∀ j, X (r.emb j) = Y j) :
    (part c (m.slice r hr) q Finset.univ Y : sProp 𝕄) ⊢ part c m q r.set X := by
  unfold part
  iintro ⟨%f, %hf, H⟩
  iexists f
  isplitr
  · ipureintro
    intro j hj
    rw [← Rect.map_emb_univ] at hj
    obtain ⟨j, -, rfl⟩ := Finset.mem_map.mp hj
    exact (hf j (Finset.mem_univ j)).trans (h j).symm
  · have : m.view.setOn r.set = (m.slice r hr).view.setOn Finset.univ := (m.view.set_slice r).symm
    rw [this]
    iexact H

theorem setOn_squeeze {s' : Shape} (h : s.Squeezes s') : (m.squeeze s' h).view.setOn Finset.univ = m.view.setOn Finset.univ := by
  rw [View.setOn_univ, View.setOn_univ]
  ext i
  unfold View.set
  rw [Finset.mem_map, Finset.mem_map]
  constructor
  · rintro ⟨x, -, rfl⟩
    exact ⟨Shape.reshapeEquiv h.numel_eq x, Finset.mem_univ _, rfl⟩
  · rintro ⟨x, -, rfl⟩
    refine ⟨(Shape.reshapeEquiv h.numel_eq).symm x, Finset.mem_univ _, ?_⟩
    exact congrArg m.view.emb ((Shape.reshapeEquiv h.numel_eq).apply_symm_apply x)

/-- A squeezed memref, held whole, is the memref held whole. -/
theorem part_squeeze {s' : Shape} {h : s.Squeezes s'} {X : s.Idx → Val e} {Y : s'.Idx → Val e}
    (hY : ∀ j, X (Shape.reshapeEquiv h.numel_eq j) = Y j) :
    (part c m q Finset.univ X : sProp 𝕄) ⊢ part c (m.squeeze s' h) q Finset.univ Y := by
  unfold part
  iintro ⟨%f, %hf, H⟩
  iexists f
  isplitr
  · ipureintro
    intro j _
    exact (hf _ (Finset.mem_univ _)).trans (hY j)
  · rw [setOn_squeeze]
    iexact H

theorem part_of_squeeze {s' : Shape} {h : s.Squeezes s'} {X : s.Idx → Val e} {Y : s'.Idx → Val e}
    (hY : ∀ j, X (Shape.reshapeEquiv h.numel_eq j) = Y j) :
    (part c (m.squeeze s' h) q Finset.univ Y : sProp 𝕄) ⊢ part c m q Finset.univ X := by
  unfold part
  iintro ⟨%f, %hf, H⟩
  iexists f
  isplitr
  · ipureintro
    intro j _
    have := hY ((Shape.reshapeEquiv h.numel_eq).symm j)
    rw [Equiv.apply_symm_apply] at this
    rw [this, ← hf _ (Finset.mem_univ _)]
    exact congrArg (m.view.read Val f) ((Shape.reshapeEquiv h.numel_eq).apply_symm_apply j).symm
  · rw [← setOn_squeeze h]
    iexact H

end Sub

section Rules

variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A load through a rectangle whose indices are held. -/
theorem wp_loadP {cs : CoreSpace} {m : Memref sig c.2.kind cs s e} {r : Rect s} {hl : m.view.LoadsAt r.toLoadRect}
    {k : (r.shape.Idx → Val e) → Prog (TpuEff nD τ sig Val Λ c.2) α} {q : PosShare TreeShare} {S : Finset s.Idx} {X : s.Idx → Val e}
    (hS : r.set ⊆ S) :
    (part c m q S X : sProp 𝕄)
      ⊢ iprop((part c m q S X -∗ wp frame (wpE defs 𝒱 c bd) Set.univ (k fun j => X (r.emb j)) Q)
        -∗ wp frame (wpE defs 𝒱 c bd) Set.univ (.op (.load m r.toLoadRect hl) k) Q) := by
  unfold part
  iintro ⟨%f, %hf, H⟩ Hk
  have hs : m.view.setOn r.toLoadRect.set ⊆ m.view.setOn S := Finset.map_subset_map.mpr hS
  iapply (wp_load (defs := defs) 𝒱 c bd Set.univ (Q := Q) (hl := hl) (k := k) (f := f) hs) $$ H
  iintro H
  have : m.view.readAt Val r.toLoadRect f = fun j => X (r.emb j) := by
    funext j
    exact hf _ (hS (by rw [← Rect.map_emb_univ]; exact Finset.mem_map_of_mem _ (Finset.mem_univ j)))
  rw [this]
  iapply Hk
  iexists f
  isplitr; · ipureintro; exact hf
  iexact H

/-- A store through a rectangle whose indices are held outright. -/
theorem wp_storeP {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {S : Finset s.Idx} {X : s.Idx → Val e}
    (hS : r.set ⊆ S) :
    (part c m fullShare S X : sProp 𝕄)
      ⊢ iprop((part c m fullShare S (r.overlay X w) -∗ wp frame (wpE defs 𝒱 c bd) Set.univ (k ⟨⟩) Q)
        -∗ wp frame (wpE defs 𝒱 c bd) Set.univ (.op (.store m r w Finset.univ hx hm) k) Q) := by
  unfold part
  iintro ⟨%f, %hf, H⟩ Hk
  have hs : (m.access r).setOn Finset.univ ⊆ m.view.setOn S := by
    rw [View.setOn_univ, View.set_slice]
    exact Finset.map_subset_map.mpr hS
  iapply (wp_store (defs := defs) 𝒱 c bd Set.univ (Q := Q) (m := m) (r := r) (hx := hx) (hm := hm) (k := k) (f := f) hs) $$ H
  iintro H
  iapply Hk
  iexists (m.access r).write Val f w Finset.univ
  isplitr
  · ipureintro
    intro j hj
    by_cases h : j ∈ r.set
    · rw [← Rect.map_emb_univ] at h
      obtain ⟨i, -, rfl⟩ := Finset.mem_map.mp h
      rw [Rect.overlay_emb]
      exact View.read_write_of_mem (v := m.access r) f w (Finset.mem_univ i)
    · rw [Rect.overlay_of_not_mem _ _ _ h, ← hf j hj, View.read_apply, View.read_apply]
      congr 1
      refine View.write_of_not_mem (v := m.access r) f w Finset.univ fun h' => h ?_
      rw [View.setOn_univ, View.set_slice] at h'
      exact m.view.mem_setOn.mp h'
  · iexact H

/-- A copy between two memrefs held whole, on a cell at zero: its flight delivers the destination at what the source
    reads, the source, and `R`, which the issuer sets aside until then. -/
theorem wp_issueP [Infinite Name] (EC : UEmb Counters 𝕄) [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hs : 0 < s.numel) (R : sProp 𝕄) [Storable (upEmb : UEmb _ 𝕄) R] :
    iprop(part c src q Finset.univ X ∗ part c dst fullShare Finset.univ Y ∗ R ∗ semVal (c, sm) 0)
      ⊢ iprop((Flight EC c sm ι N iprop(part c dst fullShare Finset.univ X ∗ part c src q Finset.univ X ∗ R)
              -∗ wp frame (wpE defs 𝒱 c bd) Set.univ (k ⟨⟩) Q)
          -∗ wp frame (wpE defs 𝒱 c bd) Set.univ (.op (.enqueueDma src (.here dst) sm hsrc hdst hsem) k) Q) := by
  unfold part
  iintro ⟨⟨%f, %hf, Hs⟩, ⟨%g, %hg, Hd⟩, HR, Hv⟩ Hk
  simp only [View.setOn_univ]
  have hN0 : 0 < N := hN ▸ dst.view.amount_pos sm hs
  have hfX : src.view.read Val f = X := funext fun j => hf j (Finset.mem_univ j)
  imod (flight_alloc EC hN0 iprop(((dst.view.loc c ↦[dst.view.set]{fullShare} (dst.view.write Val g (src.view.read Val f) Finset.univ)) ∗ R)
      ∗ (src.view.loc c ↦[src.view.set]{q} f)) (g := (c, sm))) $$ Hv with ⟨%γ, %δ, %κ, #Hinv, Hγ, Hδ⟩
  iapply (wp_enqueueDma 𝒱 c bd Set.univ ι N hN) $$ [Hs Hd HR] [Hγ]
  · isplitl [Hs]; · iexact Hs
    iapply (writeUpdate_frame c)
    isplitl [Hd]
    · iapply (pointsTo_writeUpdate c subset_rfl) $$ Hd
    · iexact HR
  · iapply (flight_creditUpdate EC (δ := δ))
    isplitr; · iexact Hinv
    iexact Hγ
  iintro Hcred
  iapply Hk
  iapply (Flight_mono EC c (D := iprop(((dst.view.loc c ↦[dst.view.set]{fullShare} (dst.view.write Val g (src.view.read Val f) Finset.univ)) ∗ R)
      ∗ (src.view.loc c ↦[src.view.set]{q} f))) (by
    iintro ⟨⟨Hd, HR⟩, Hs⟩
    isplitl [Hd]
    · iexists (dst.view.write Val g (src.view.read Val f) Finset.univ)
      isplitr
      · ipureintro; intro j _; rw [View.read_write_univ, hfX]
      iexact Hd
    isplitl [Hs]
    · iexists f
      isplitr; · ipureintro; exact hf
      iexact Hs
    iexact HR))
  iapply (flight_intro EC c (κ := κ))
  isplitr; · iexact Hinv
  isplitl [Hδ] <;> iassumption

/-! ### Copies into what goes on being read -/

/-- What the invariant of such a copy holds: half the destination's share, or, once that is taken back, the copy's token
    and the program's. -/
def raceBody (EC : UEmb Counters 𝕄) (dst : Memref sig c.2.kind sp s e) (δ ε : ℕ) : sProp 𝕄 :=
  iprop((∃ f, dst.view.loc c ↦[dst.view.set]{fullShare.right} f) ∨ (tok EC δ ∗ tok EC ε))

instance raceBody_storable (EC : UEmb Counters 𝕄) [EC.LandsIn (upEmb : UEmb _ 𝕄)] (dst : Memref sig c.2.kind sp s e) (δ ε : ℕ) :
    Storable (upEmb : UEmb _ 𝕄) (raceBody c EC dst δ ε) := by
  unfold raceBody tok count; infer_instance

/-- What the program holds of such a copy while it is under way. -/
def racing (EC : UEmb Counters 𝕄) (dst : Memref sig c.2.kind sp s e) (κ : Name) (δ ε : ℕ) : sProp 𝕄 :=
  iprop(inv κ (raceBody c EC dst δ ε) ∗ tok EC ε)

/-- What the copy itself holds of its progress: the other half, written at the indices done, and the token. -/
def raceProg (EC : UEmb Counters 𝕄) (dst : Memref sig c.2.kind sp s e) (w : s.Idx → Val e) (δ : ℕ) (M : Finset s.Idx) : sProp 𝕄 :=
  iprop(∃ f, ⌜∀ x ∈ M, dst.view.read Val f x = w x⌝ ∗ (dst.view.loc c ↦[dst.view.set]{fullShare.left} f) ∗ tok EC δ)

theorem race_steps (EC : UEmb Counters 𝕄) [EC.LandsIn (upEmb : UEmb _ 𝕄)] {dst : Memref sig c.2.kind sp s e} {w : s.Idx → Val e} {δ ε : ℕ} {κ : Name} :
    (inv κ (raceBody c EC dst δ ε) : sProp 𝕄) ⊢ writeSteps c dst.view w (raceProg c EC dst w δ) := by
  rw [writeSteps_def]
  iintro #Hinv
  imodintro
  iintro %M %M' HA
  unfold raceProg
  icases HA with ⟨%f, %hf, Hl, Hδ⟩
  imod (inv_acc (Set.mem_univ κ)) $$ Hinv with ⟨Hb, Hclose⟩
  unfold raceBody
  icases Hb with (⟨%g, Hr⟩ | ⟨Hδ', -⟩)
  · ihave Hf := (pts_unhalve f g) $$ [Hl Hr]
    · isplitl [Hl] <;> iassumption
    imodintro
    rw [storeSpec_apply]
    iexists dst.view.set, f
    isplitl [Hf]; · iexact Hf
    isplitr; · ipureintro; exact dst.view.setOn_subset_set _
    iintro Hf
    ihave Hf := (pointsTo_share (PosShare.mem_left_op_right fullShare)).1 $$ Hf
    icases Hf with ⟨Hl, Hr⟩
    ihave Hc := Hclose $$ [Hr]
    · ileft; iexists _; iexact Hr
    imod Hc
    imodintro
    iexists (dst.view.write Val f w M')
    isplitr
    · ipureintro
      intro x hx
      by_cases h' : x ∈ M'
      · exact View.read_write_of_mem f w h'
      · rw [View.read_apply, View.write_emb, if_neg h', ← View.read_apply]
        exact hf x ((Finset.mem_union.mp hx).resolve_right h')
    isplitl [Hl]; · iexact Hl
    iexact Hδ
  · iexfalso; iapply (tok_tok_false EC δ); isplitl [Hδ'] <;> iassumption

instance raceProg_storable (EC : UEmb Counters 𝕄) [EC.LandsIn (upEmb : UEmb _ 𝕄)] (dst : Memref sig c.2.kind sp s e) (w : s.Idx → Val e) (δ : ℕ)
    (M : Finset s.Idx) : Storable (upEmb : UEmb _ 𝕄) (raceProg c EC dst w δ M) := by
  unfold raceProg tok count; infer_instance

/-- Such a copy's issue. Its flight delivers half the destination and the token that takes the other half back. -/
theorem wp_issueRace [Infinite Name] (EC : UEmb Counters 𝕄) [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hs : 0 < s.numel) (R : sProp 𝕄) [Storable (upEmb : UEmb _ 𝕄) R] :
    iprop(part c src q Finset.univ X ∗ part c dst fullShare Finset.univ Y ∗ R ∗ semVal (c, sm) 0)
      ⊢ iprop((∀ κ δ ε, racing c EC dst κ δ ε
              -∗ Flight EC c sm ι N iprop(raceProg c EC dst X δ Finset.univ ∗ part c src q Finset.univ X ∗ R)
              -∗ wp frame (wpE defs 𝒱 c bd) Set.univ (k ⟨⟩) Q)
          -∗ wp frame (wpE defs 𝒱 c bd) Set.univ (.op (.enqueueDma src (.here dst) sm hsrc hdst hsem) k) Q) := by
  unfold part
  iintro ⟨⟨%f, %hf, Hs⟩, ⟨%g, %hg, Hd⟩, HR, Hv⟩ Hk
  simp only [View.setOn_univ]
  have hN0 : 0 < N := hN ▸ dst.view.amount_pos sm hs
  have hfX : src.view.read Val f = X := funext fun j => hf j (Finset.mem_univ j)
  imod (count_alloc EC ∅) $$ [] with ⟨%ε, -, -, Hε⟩; · iempintro
  imod (count_alloc EC ∅) $$ [] with ⟨%ζ, -, -, Hζ⟩; · iempintro
  ihave Hd := (pointsTo_share (PosShare.mem_left_op_right fullShare)).1 $$ Hd
  icases Hd with ⟨Hl, Hr⟩
  imod (inv_alloc (P := raceBody c EC dst ε ζ) (E := Set.univ)) $$ [Hr] with ⟨%ν, #Hrace⟩
  · unfold raceBody; ileft; iexists g; iexact Hr
  imod (flight_alloc EC hN0 iprop((raceProg c EC dst X ε Finset.univ ∗ R)
      ∗ (src.view.loc c ↦[src.view.set]{q} f)) (g := (c, sm))) $$ Hv with ⟨%γ, %δ, %κ, #Hinv, Hγ, Hδ⟩
  iapply (wp_enqueueDma 𝒱 c bd Set.univ ι N hN) $$ [Hs Hl Hε HR] [Hγ]
  · isplitl [Hs]; · iexact Hs
    rw [hfX]
    iapply (writeUpdate_frame c)
    isplitl [Hl Hε]
    · rw [writeUpdate, writeUpdateFrom_def]
      iexists raceProg c EC dst X ε
      isplitl [Hl Hε]
      · unfold raceProg
        iexists g
        isplitr; · ipureintro; intro x hx; exact absurd hx (Finset.notMem_empty x)
        isplitl [Hl] <;> iassumption
      isplitr
      · iapply (race_steps c EC) $$ Hrace
      · iintro H; iexact H
    · iexact HR
  · iapply (flight_creditUpdate EC (δ := δ))
    isplitr; · iexact Hinv
    iexact Hγ
  iintro Hcred
  iapply Hk $$ %ν %ε %ζ [Hζ]
  · unfold racing
    isplitr; · iexact Hrace
    iexact Hζ
  iapply (Flight_mono EC c (D := iprop((raceProg c EC dst X ε Finset.univ ∗ R)
      ∗ (src.view.loc c ↦[src.view.set]{q} f))) (by
    iintro ⟨⟨Hd, HR⟩, Hs⟩
    isplitl [Hd]; · iexact Hd
    isplitl [Hs]
    · iexists f
      isplitr; · ipureintro; exact hf
      iexact Hs
    iexact HR))
  iapply (flight_intro EC c (κ := κ))
  isplitr; · iexact Hinv
  isplitl [Hδ] <;> iassumption

/-- Taking the destination back whole, once the flight has delivered. -/
theorem race_close (EC : UEmb Counters 𝕄) [EC.LandsIn (upEmb : UEmb _ 𝕄)] {dst : Memref sig c.2.kind sp s e} {w : s.Idx → Val e} {δ ε : ℕ} {κ : Name} :
    iprop(racing c EC dst κ δ ε ∗ raceProg c EC dst w δ Finset.univ) ⊢ (|={Set.univ}=> part c dst fullShare Finset.univ w : sProp 𝕄) := by
  unfold racing
  iintro ⟨⟨#Hinv, Hε⟩, HA⟩
  unfold raceProg
  icases HA with ⟨%f, %hf, Hl, Hδ⟩
  imod (inv_acc (Set.mem_univ κ)) $$ Hinv with ⟨Hb, Hclose⟩
  unfold raceBody
  icases Hb with (⟨%g, Hr⟩ | ⟨Hδ', -⟩)
  · ihave Hf := (pts_unhalve f g) $$ [Hl Hr]
    · isplitl [Hl] <;> iassumption
    ihave Hc := Hclose $$ [Hδ Hε]
    · iright; isplitl [Hδ] <;> iassumption
    imod Hc
    imodintro
    unfold part
    iexists f
    isplitr; · ipureintro; exact hf
    iexact Hf
  · iexfalso; iapply (tok_tok_false EC δ); isplitl [Hδ'] <;> iassumption

/-- The gather of a memref of which `S` is held and the slice under `r` is being copied into, at indices in `S`. -/
theorem wp_loadRace (EC : UEmb Counters 𝕄) [EC.LandsIn (upEmb : UEmb _ 𝕄)] {cs : CoreSpace} {m : Memref sig c.2.kind cs s e} {r : Rect s} {hr : ∀ a, r.stride a = 1}
    {hl : m.view.LoadsAt (Rect.whole s).toLoadRect} {k : (s.Idx → Val e) → Prog (TpuEff nD τ sig Val Λ c.2) α}
    {S : Finset s.Idx} {X : s.Idx → Val e} {δ ε : ℕ} {κ : Name} (hS : Disjoint r.set S) (hU : r.set ∪ S = Finset.univ) :
    iprop(part c m fullShare S X ∗ racing c EC (m.slice r hr) κ δ ε)
      ⊢ iprop((∀ Y, ⌜∀ j ∈ S, Y j = X j⌝ -∗ part c m fullShare S X -∗ racing c EC (m.slice r hr) κ δ ε -∗ wp frame (wpE defs 𝒱 c bd) Set.univ (k Y) Q)
        -∗ wp frame (wpE defs 𝒱 c bd) Set.univ (.op (.load m (Rect.whole s).toLoadRect hl) k) Q) := by
  iintro ⟨Hm, Hrace⟩ Hk
  rw [wp_op, wpE_eq_atomically 𝒱 c bd Set.univ (e := TpuEff.load m (Rect.whole s).toLoadRect hl)]
  unfold racing
  icases Hrace with ⟨#Hinv, Hε⟩
  imodintro
  imod (inv_acc (Set.mem_univ κ)) $$ Hinv with ⟨Hb, Hclose⟩
  unfold raceBody
  icases Hb with (⟨%g, Hr⟩ | ⟨-, Hε'⟩)
  · ihave Hm := (part_halve X) $$ Hm
    icases Hm with ⟨Hm, Hm'⟩
    ihave Hr := (part_pts (m := m.slice r hr) (S := Finset.univ) g) $$ [Hr]
    · rw [View.setOn_univ]; iexact Hr
    ihave Hr := (part_of_slice (m := m) (hr := hr) (X := r.overlay X ((m.slice r hr).view.read Val g)) fun j => Rect.overlay_emb _ _ _ j) $$ Hr
    ihave Hall := (part_join (Z := r.overlay X ((m.slice r hr).view.read Val g)) hS (fun _ _ => rfl)
      (fun j hj => (Rect.overlay_of_not_mem _ _ _ (fun h => Finset.disjoint_left.mp hS h hj)).symm)) $$ [Hr Hm']
    · isplitl [Hr] <;> iassumption
    rw [hU]
    ihave Hall := (show part c m fullShare.right Finset.univ _ ⊢ iprop(∃ f, ⌜∀ j ∈ Finset.univ, m.view.read Val f j = _⌝
        ∗ (m.view.loc c ↦[m.view.setOn Finset.univ]{fullShare.right} f)) from .rfl) $$ Hall
    icases Hall with ⟨%f, %hf, Hall⟩
    imodintro
    iapply (fp_load (hl := hl) c (S := m.view.setOn Finset.univ) (f := f) (Finset.map_subset_map.mpr (Finset.subset_univ _))) $$ Hall
    iintro Hall
    ihave Hall := (part_pts (m := m) (S := Finset.univ) f) $$ Hall
    rw [← hU]
    ihave Hall := (part_split hS _) $$ Hall
    icases Hall with ⟨Hr, Hm'⟩
    ihave Hm := (part_unhalve X _) $$ [Hm Hm']
    · isplitl [Hm] <;> iassumption
    ihave Hr := (part_slice (hr := hr) (Y := fun j => m.view.read Val f (r.emb j)) fun _ => rfl) $$ Hr
    unfold part
    icases Hr with ⟨%g', -, Hr⟩
    ihave Hc := Hclose $$ [Hr]
    · ileft; iexists g'; iexact Hr
    imod Hc
    imodintro
    iapply Hk $$ %_ [] Hm [Hε]
    · ipureintro
      intro j hj
      have hj' : (Rect.whole s).emb j = j := by simp
      refine (congrArg (m.view.read Val f) hj').trans ((hf j (Finset.mem_univ j)).trans ?_)
      exact Rect.overlay_of_not_mem _ _ _ fun h => Finset.disjoint_left.mp hS h hj
    · isplitr; · iexact Hinv
      iexact Hε
  · iexfalso; iapply (tok_tok_false EC ε); isplitl [Hε'] <;> iassumption

end Rules

end Cert.Proof
end
-- ==== Proof.Copy.lean ====
module

public import proofs.«01_k».proof.Proof.Part

/-!
Copies between parts of two memrefs, each end a slice of one (perhaps with its leading axis dropped): the flight hands back
both, the destination at the copied contents.
-/

@[expose] public section

noncomputable section

namespace Cert.Proof

open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- `m'` is the elements of `m` at the indices `T`, its index `j` being `m`'s index `φ j`. -/
structure Sub (nD : Nat) (τ : Topo) (sig : RefSig) (Ix : Type) [DecidableEq Ix] (Val : EltTy → Type) (Name : Type) [DecidableEq Name] (U : Type) [URA U] (Lvl : Type)
    (c : Thread nD τ) {sp : Space} {s s' : Shape} {e : EltTy} (m' : Memref sig c.2.kind sp s' e) (m : Memref sig c.2.kind sp s e)
    (φ : s'.Idx → s.Idx) (T : Finset s.Idx) : Prop where
  mem : ∀ j, φ j ∈ T
  lend : ∀ (q : PosShare TreeShare) (X : s.Idx → Val e), (part c m q T X : sProp (MT nD τ sig Ix Val Name U Lvl)) ⊢ part c m' q Finset.univ fun j => X (φ j)
  back : ∀ (q : PosShare TreeShare) (X : s.Idx → Val e) (Y : s'.Idx → Val e), (∀ j, X (φ j) = Y j) →
    ((part c m' q Finset.univ Y : sProp (MT nD τ sig Ix Val Name U Lvl)) ⊢ part c m q T X)

section
variable {c : Thread nD τ} {sp : Space} {s : Shape} {e : EltTy} {m : Memref sig c.2.kind sp s e}

theorem Sub.refl : Sub nD τ sig Ix Val Name U Lvl c m m id Finset.univ where
  mem _ := Finset.mem_univ _
  lend _ _ := .rfl
  back _ _ _ h := part_congr fun j _ => (h j).symm

theorem Sub.slice (r : Rect s) (hr : ∀ a, r.stride a = 1) : Sub nD τ sig Ix Val Name U Lvl c (m.slice r hr) m r.emb r.set where
  mem j := by rw [← Rect.map_emb_univ]; exact Finset.mem_map_of_mem _ (Finset.mem_univ j)
  lend _ _ := part_slice fun _ => rfl
  back _ _ _ h := part_of_slice h

theorem Sub.squeeze (r : Rect s) (hr : ∀ a, r.stride a = 1) {s' : Shape} (h : r.shape.Squeezes s') :
    Sub nD τ sig Ix Val Name U Lvl c ((m.slice r hr).squeeze s' h) m (fun j => r.emb (Shape.reshapeEquiv h.numel_eq j)) r.set where
  mem j := by rw [← Rect.map_emb_univ]; exact Finset.mem_map_of_mem _ (Finset.mem_univ _)
  lend _ _ := (part_slice fun _ => rfl).trans (part_squeeze fun _ => rfl)
  back _ X _ hX := (part_of_squeeze (X := fun j => X (r.emb j)) hX).trans (part_of_slice fun _ => rfl)

end

section Rules

variable [Preorder Lvl] {Λ : Labels} {defs : Defs nD τ sig Val Λ} (𝒱 : Variants) (c : Thread nD τ) (bd : Option 𝒱.V)
variable {Q : PUnit → sProp (MT nD τ sig Ix Val Name U Lvl)} {sp sp' : Space} {s s₁ s₂ : Shape} {e : EltTy}

/-- What a finished copy leaves of its destination. -/
def held (m : Memref sig c.2.kind sp s e) (S : Finset s.Idx) (P : s.Idx → Prop) (V : s.Idx → Val e) : sProp 𝕄 :=
  iprop(∃ X, ⌜∀ x ∈ S, P x → X x = V x⌝ ∗ part c m fullShare S X)

instance held_storable (m : Memref sig c.2.kind sp s e) (S : Finset s.Idx) (P : s.Idx → Prop) (V : s.Idx → Val e) :
    Storable (upEmb : UEmb _ 𝕄) (held c m S P V) := by
  unfold held; infer_instance

variable {m₁ : Memref sig c.2.kind sp s₁ e} {m₂ : Memref sig c.2.kind sp' s₂ e} {src : Memref sig c.2.kind sp s e} {dst : Memref sig c.2.kind sp' s e}
  {φ₁ : s.Idx → s₁.Idx} {φ₂ : s.Idx → s₂.Idx} {T₁ S₁ : Finset s₁.Idx} {T₂ S₂ : Finset s₂.Idx}

theorem lend (h : Sub nD τ sig Ix Val Name U Lvl c src m₁ φ₁ T₁) (hT : T₁ ⊆ S₁) (q : PosShare TreeShare) (X : s₁.Idx → Val e) :
    (part c m₁ q S₁ X : sProp 𝕄) ⊢ iprop(part c src q Finset.univ (fun j => X (φ₁ j)) ∗ part c m₁ q (S₁ \ T₁) X) := by
  conv_lhs => rw [← Finset.union_sdiff_of_subset hT]
  exact (part_split Finset.disjoint_sdiff X).trans (sep_mono_left (h.lend q X))

theorem giveBack (h : Sub nD τ sig Ix Val Name U Lvl c src m₁ φ₁ T₁) (hT : T₁ ⊆ S₁) (q : PosShare TreeShare) {X Z : s₁.Idx → Val e} {Y : s.Idx → Val e}
    (hY : ∀ j, Z (φ₁ j) = Y j) (hX : ∀ x ∈ S₁ \ T₁, X x = Z x) :
    iprop(part c src q Finset.univ Y ∗ part c m₁ q (S₁ \ T₁) X) ⊢ (part c m₁ q S₁ Z : sProp 𝕄) := by
  conv_rhs => rw [← Finset.union_sdiff_of_subset hT]
  exact (sep_mono_left (h.back q Z Y hY)).trans (part_join Finset.disjoint_sdiff (fun _ _ => rfl) hX)

/-- A copy from a part of `m₁` into a part of `m₂`. -/
theorem wp_copy [Infinite Name] (EC : UEmb Counters 𝕄) [EC.LandsIn (upEmb : UEmb _ 𝕄)] {sm : DmaSem sig}
    {hsrc : src.view.WordExact} {hdst : dst.view.WordExact} {hsem : DmaTarget.Typed (nD := nD) sp (.dma sm) (.here dst)}
    (ι : Ix) (hs : 0 < s.numel) (h₁ : Sub nD τ sig Ix Val Name U Lvl c src m₁ φ₁ T₁) (h₂ : Sub nD τ sig Ix Val Name U Lvl c dst m₂ φ₂ T₂)
    (hT₁ : T₁ ⊆ S₁) (hT₂ : T₂ ⊆ S₂) {q : PosShare TreeShare} {X : s₁.Idx → Val e} {Y V : s₂.Idx → Val e} {P P' : s₂.Idx → Prop} (hV : ∀ j, V (φ₂ j) = X (φ₁ j))
    (hY : ∀ x ∈ S₂, P x → Y x = V x) (hP : ∀ x ∈ S₂, x ∉ T₂ → P' x → P x) :
    iprop(part c m₁ q S₁ X ∗ part c m₂ fullShare S₂ Y ∗ semVal (c, .dma sm) 0)
      ⊢ iprop((Flight EC c (.dma sm) ι dst.view.dmaCredit iprop(held c m₂ S₂ P' V ∗ part c m₁ q S₁ X) -∗ Q ⟨⟩)
          -∗ wp frame (wpE defs 𝒱 c bd) Set.univ (Prog.lift (.enqueueDma src (.here dst) (.dma sm) hsrc hdst hsem) : Prog (TpuEff nD τ sig Val Λ c.2) PUnit) Q) := by
  iintro ⟨H₁, H₂, Hv⟩ Hk
  ihave H₁ := (lend c h₁ hT₁ q X) $$ H₁
  icases H₁ with ⟨H₁, H₁'⟩
  ihave H₂ := (lend c h₂ hT₂ fullShare Y) $$ H₂
  icases H₂ with ⟨H₂, H₂'⟩
  unfold Prog.lift
  iapply (wp_issueP 𝒱 c bd EC ι dst.view.dmaCredit rfl hs iprop(part c m₁ q (S₁ \ T₁) X ∗ part c m₂ fullShare (S₂ \ T₂) Y)) $$ [H₁ H₁' H₂ H₂' Hv]
  · isplitl [H₁]; · iexact H₁
    isplitl [H₂]; · iexact H₂
    isplitr [Hv]
    · isplitl [H₁'] <;> iassumption
    iexact Hv
  iintro Hf
  rw [wp_ret]
  imodintro
  iapply Hk
  iapply (Flight_mono EC c ?_) $$ Hf
  iintro ⟨H₂, H₁, H₁', H₂'⟩
  isplitl [H₂ H₂']
  · unfold held
    iexists (fun x => if x ∈ T₂ then V x else Y x)
    isplitr
    · ipureintro
      intro x hx hP'
      by_cases h : x ∈ T₂
      · simp only [h, if_true]
      · simp only [h, if_false]; exact hY x hx (hP x hx h hP')
    · iapply (giveBack c h₂ hT₂ fullShare (X := Y) (Y := fun j => X (φ₁ j)) ?_ ?_)
      · intro j
        simp only [h₂.mem j, if_true, hV j]
      · intro x hx
        simp only [(Finset.mem_sdiff.mp hx).2, if_false]
      isplitl [H₂] <;> iassumption
  · iapply (giveBack c h₁ hT₁ q (X := X) (fun _ => rfl) (fun _ _ => rfl))
    isplitl [H₁] <;> iassumption

/-- A copy from a part of `m₁` into a slice that goes on being loaded (as part of more) while it is under way. -/
theorem wp_copyRace [Infinite Name] (EC : UEmb Counters 𝕄) [EC.LandsIn (upEmb : UEmb _ 𝕄)] {sm : DmaSem sig}
    {hsrc : src.view.WordExact} {hdst : dst.view.WordExact} {hsem : DmaTarget.Typed (nD := nD) sp (.dma sm) (.here dst)}
    (ι : Ix) (hs : 0 < s.numel) (h₁ : Sub nD τ sig Ix Val Name U Lvl c src m₁ φ₁ T₁)
    (hT₁ : T₁ ⊆ S₁) {q : PosShare TreeShare} {X : s₁.Idx → Val e} {Y : s.Idx → Val e} :
    iprop(part c m₁ q S₁ X ∗ part c dst fullShare Finset.univ Y ∗ semVal (c, .dma sm) 0)
      ⊢ iprop((∀ κ δ ε, racing c EC dst κ δ ε -∗ Flight EC c (.dma sm) ι dst.view.dmaCredit
              iprop(raceProg c EC dst (fun j => X (φ₁ j)) δ Finset.univ ∗ part c m₁ q S₁ X) -∗ Q ⟨⟩)
          -∗ wp frame (wpE defs 𝒱 c bd) Set.univ (Prog.lift (.enqueueDma src (.here dst) (.dma sm) hsrc hdst hsem) : Prog (TpuEff nD τ sig Val Λ c.2) PUnit) Q) := by
  iintro ⟨H₁, H₂, Hv⟩ Hk
  ihave H₁ := (lend c h₁ hT₁ q X) $$ H₁
  icases H₁ with ⟨H₁, H₁'⟩
  unfold Prog.lift
  iapply (wp_issueRace 𝒱 c bd EC ι dst.view.dmaCredit rfl hs iprop(part c m₁ q (S₁ \ T₁) X)) $$ [H₁ H₁' H₂ Hv]
  · isplitl [H₁]; · iexact H₁
    isplitl [H₂]; · iexact H₂
    isplitl [H₁'] <;> iassumption
  iintro %κ %δ %ε Hr Hf
  rw [wp_ret]
  imodintro
  iapply Hk $$ %κ %δ %ε Hr
  iapply (Flight_mono EC c ?_) $$ Hf
  iintro ⟨H₂, H₁, H₁'⟩
  isplitl [H₂]; · iexact H₂
  iapply (giveBack c h₁ hT₁ q (X := X) (fun _ => rfl) (fun _ _ => rfl))
  isplitl [H₁] <;> iassumption

/-- What a thread owes, having waited at `ι` alone since `W`. -/
def owing (ι : Ix) (O : CellTallies nD τ sig Ix) (W : Waits sig Ix) : sProp 𝕄 :=
  iprop(∃ W', ⌜∀ p ∈ W', p ∈ W ∨ p.2 = ι⌝ ∗ owes c O W')

theorem owing_intro (ι : Ix) (O : CellTallies nD τ sig Ix) (W : Waits sig Ix) : (owes c O W : sProp 𝕄) ⊢ owing c ι O W := by
  unfold owing
  iintro H
  iexists W
  isplitr
  · ipureintro; exact fun p hp => Or.inl hp
  · iexact H

theorem wp_wait (EC : UEmb Counters 𝕄) [EC.LandsIn (upEmb : UEmb _ 𝕄)] {sm : DmaSem sig}
    {hsrc : src.view.WordExact} {hdst : dst.view.WordExact} (ι : Ix) {O : CellTallies nD τ sig Ix} {W : Waits sig Ix} {D : sProp 𝕄} :
    iprop(MayWaits c ι O ∗ owing c ι O W ∗ Flight EC c (.dma sm) ι dst.view.dmaCredit D)
      ⊢ iprop((D -∗ semVal (c, .dma sm) 0 -∗ owing c ι O W -∗ Q ⟨⟩)
          -∗ wp frame (wpE defs 𝒱 c bd) Set.univ (Prog.lift (.waitDma2 sm src dst hsrc hdst) : Prog (TpuEff nD τ sig Val Λ c.2) PUnit) Q) := by
  unfold owing
  iintro ⟨Hmw, ⟨%W', %hW, Ho⟩, Hf⟩ Hk
  ihave Hmw := (MayWaits.elim (SemLoc.dma sm)) $$ Hmw
  unfold Prog.lift
  iapply (wp_waitLocalO EC 𝒱 c bd ι rfl) $$ [Hf Ho Hmw]
  · isplitl [Hf]; · iexact Hf
    isplitl [Ho] <;> iassumption
  iintro ⟨HD, Hv, Ho⟩
  rw [wp_ret]
  imodintro
  iapply Hk $$ HD Hv
  iexists (insert (SemLoc.dma sm, ι) W')
  isplitr
  · ipureintro
    intro p hp
    rcases Finset.mem_insert.mp hp with rfl | h
    · exact Or.inr rfl
    · exact hW p h
  · iexact Ho

theorem held_all {m : Memref sig c.2.kind sp s e} {S : Finset s.Idx} {P : s.Idx → Prop} {V : s.Idx → Val e} (h : ∀ x ∈ S, P x) :
    (held c m S P V : sProp 𝕄) ⊢ part c m fullShare S V := by
  unfold held
  iintro ⟨%X, %hX, H⟩
  iapply (part_congr fun x hx => hX x hx (h x hx)) $$ H

/-- A copy from a part of `m₁` that fills a part of `m₂`. -/
theorem wp_copyIn [Infinite Name] (EC : UEmb Counters 𝕄) [EC.LandsIn (upEmb : UEmb _ 𝕄)] {sm : DmaSem sig}
    {hsrc : src.view.WordExact} {hdst : dst.view.WordExact} {hsem : DmaTarget.Typed (nD := nD) sp (.dma sm) (.here dst)}
    (ι : Ix) (hs : 0 < s.numel) (h₁ : Sub nD τ sig Ix Val Name U Lvl c src m₁ φ₁ T₁) (h₂ : Sub nD τ sig Ix Val Name U Lvl c dst m₂ φ₂ T₂)
    (hT₁ : T₁ ⊆ S₁) (hT₂ : T₂ = S₂) {q : PosShare TreeShare} {X : s₁.Idx → Val e} {V : s₂.Idx → Val e} (hV : ∀ j, V (φ₂ j) = X (φ₁ j)) :
    iprop(part c m₁ q S₁ X ∗ some' c m₂ fullShare S₂ ∗ semVal (c, .dma sm) 0)
      ⊢ iprop((Flight EC c (.dma sm) ι dst.view.dmaCredit iprop(part c m₂ fullShare S₂ V ∗ part c m₁ q S₁ X) -∗ Q ⟨⟩)
          -∗ wp frame (wpE defs 𝒱 c bd) Set.univ (Prog.lift (.enqueueDma src (.here dst) (.dma sm) hsrc hdst hsem) : Prog (TpuEff nD τ sig Val Λ c.2) PUnit) Q) := by
  subst hT₂
  unfold some'
  iintro ⟨H₁, ⟨%Y, H₂⟩, Hv⟩ Hk
  iapply (wp_copy 𝒱 c bd EC ι hs h₁ h₂ hT₁ (Finset.Subset.refl _) (P := fun _ => False) (P' := fun _ => True) (Y := Y) hV (fun _ _ h => h.elim) (fun x h h' => absurd h h')) $$ [H₁ H₂ Hv]
  · isplitl [H₁]; · iexact H₁
    isplitl [H₂] <;> iassumption
  iintro Hf
  iapply Hk
  iapply (Flight_mono EC c (sep_mono_left (held_all c fun _ _ => trivial))) $$ Hf

/-- A copy from a part of `m₁` that adds to what is known of `m₂`. -/
theorem wp_copyOut [Infinite Name] (EC : UEmb Counters 𝕄) [EC.LandsIn (upEmb : UEmb _ 𝕄)] {sm : DmaSem sig}
    {hsrc : src.view.WordExact} {hdst : dst.view.WordExact} {hsem : DmaTarget.Typed (nD := nD) sp (.dma sm) (.here dst)}
    (ι : Ix) (hs : 0 < s.numel) (h₁ : Sub nD τ sig Ix Val Name U Lvl c src m₁ φ₁ T₁) (h₂ : Sub nD τ sig Ix Val Name U Lvl c dst m₂ φ₂ T₂)
    (hT₁ : T₁ ⊆ S₁) (hT₂ : T₂ ⊆ S₂) {q : PosShare TreeShare} {X : s₁.Idx → Val e} {V : s₂.Idx → Val e} {P P' : s₂.Idx → Prop} (hV : ∀ j, V (φ₂ j) = X (φ₁ j))
    (hP : ∀ x ∈ S₂, x ∉ T₂ → P' x → P x) :
    iprop(part c m₁ q S₁ X ∗ held c m₂ S₂ P V ∗ semVal (c, .dma sm) 0)
      ⊢ iprop((Flight EC c (.dma sm) ι dst.view.dmaCredit iprop(held c m₂ S₂ P' V ∗ part c m₁ q S₁ X) -∗ Q ⟨⟩)
          -∗ wp frame (wpE defs 𝒱 c bd) Set.univ (Prog.lift (.enqueueDma src (.here dst) (.dma sm) hsrc hdst hsem) : Prog (TpuEff nD τ sig Val Λ c.2) PUnit) Q) := by
  rw [show (held c m₂ S₂ P V : sProp 𝕄) = iprop(∃ X, ⌜∀ x ∈ S₂, P x → X x = V x⌝ ∗ part c m₂ fullShare S₂ X) from rfl]
  iintro ⟨H₁, ⟨%Y, %hY, H₂⟩, Hv⟩ Hk
  iapply (wp_copy 𝒱 c bd EC ι hs h₁ h₂ hT₁ hT₂ (Y := Y) hV hY hP) $$ [H₁ H₂ Hv]
  · isplitl [H₁]; · iexact H₁
    isplitl [H₂] <;> iassumption
  iexact Hk

/-- The wait for a copy whose destination was being loaded meanwhile. -/
theorem wp_waitRace (EC : UEmb Counters 𝕄) [EC.LandsIn (upEmb : UEmb _ 𝕄)] {sm : DmaSem sig}
    {hsrc : src.view.WordExact} {hdst : dst.view.WordExact} (ι : Ix) {O : CellTallies nD τ sig Ix} {W : Waits sig Ix} {D : sProp 𝕄}
    {κ : Name} {δ ε : ℕ} {w : s.Idx → Val e} (h₂ : Sub nD τ sig Ix Val Name U Lvl c dst m₂ φ₂ T₂) (hT₂ : T₂ = S₂) {V : s₂.Idx → Val e} (hV : ∀ j, V (φ₂ j) = w j) :
    iprop(MayWaits c ι O ∗ owing c ι O W ∗ racing c EC dst κ δ ε ∗ Flight EC c (.dma sm) ι dst.view.dmaCredit iprop(raceProg c EC dst w δ Finset.univ ∗ D))
      ⊢ iprop((part c m₂ fullShare S₂ V -∗ D -∗ semVal (c, .dma sm) 0 -∗ owing c ι O W -∗ Q ⟨⟩)
          -∗ wp frame (wpE defs 𝒱 c bd) Set.univ (Prog.lift (.waitDma2 sm src dst hsrc hdst) : Prog (TpuEff nD τ sig Val Λ c.2) PUnit) Q) := by
  subst hT₂
  unfold owing
  iintro ⟨Hmw, ⟨%W', %hW, Ho⟩, Hr, Hf⟩ Hk
  ihave Hmw := (MayWaits.elim (SemLoc.dma sm)) $$ Hmw
  unfold Prog.lift
  iapply (wp_waitLocalO EC 𝒱 c bd ι rfl) $$ [Hf Ho Hmw]
  · isplitl [Hf]; · iexact Hf
    isplitl [Ho] <;> iassumption
  iintro ⟨⟨HA, HD⟩, Hv, Ho⟩
  rw [wp_ret]
  imod (race_close c EC) $$ [Hr HA] with H
  · isplitl [Hr] <;> iassumption
  imodintro
  ihave H := (h₂.back fullShare V w hV) $$ H
  iapply Hk $$ H HD Hv
  iexists (insert (SemLoc.dma sm, ι) W')
  isplitr
  · ipureintro
    intro p hp
    rcases Finset.mem_insert.mp hp with rfl | h
    · exact Or.inr rfl
    · exact hW p h
  · iexact Ho

end Rules

end Cert.Proof
end
-- ==== Proof.Whole.lean ====
module

public import proofs.«01_k».proof.Proof.Copy

/-!
A part of a whole buffer is the buffer's elements themselves.
-/

@[expose] public section

noncomputable section

namespace Cert.Proof

open Idealize.ShloMosaic Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

section
variable (c : Thread nD τ) (b : Ref sig c.2.kind) {q : PosShare TreeShare}

theorem setOn_whole (S : Finset b.ty.Idx) : (View.whole b : View sig c.2.kind _ _ _).setOn S = S := by
  unfold View.setOn; exact Finset.map_refl

theorem whole_of_pts {S : Finset b.ty.Idx} {X : b.ty.Contents Val} {f : Buf Val (c.loc b)} (h : ∀ j ∈ S, f j = X j) :
    ((c.loc b) ↦[S]{q} f : sProp 𝕄) ⊢ part c (Memref.whole b) q S X := by
  unfold part
  iintro H
  iexists f
  isplitr
  · ipureintro; exact h
  rw [show (Memref.whole b : Memref sig c.2.kind _ _ _).view.setOn S = S from setOn_whole c b S]
  iexact H

theorem pts_of_whole {S : Finset b.ty.Idx} {X : b.ty.Contents Val} :
    (part c (Memref.whole b) q S X : sProp 𝕄) ⊢ ((c.loc b) ↦[S]{q} X) := by
  unfold part
  iintro ⟨%f, %hf, H⟩
  rw [show (Memref.whole b : Memref sig c.2.kind _ _ _).view.setOn S = S from setOn_whole c b S]
  iapply (Entails.of_eq (pointsTo_congr (ℓ := c.loc b) (I := S) (f := f) (g := X) hf))
  iexact H

theorem some_of_pts {f : Buf Val (c.loc b)} : ((c.loc b) ↦{q} f : sProp 𝕄) ⊢ some' c (Memref.whole b) q Finset.univ := by
  unfold some'
  iintro H
  iexists f
  iapply (whole_of_pts c b (S := Finset.univ) (X := f) fun _ _ => rfl) $$ H

theorem pts_of_some : (some' c (Memref.whole b) q Finset.univ : sProp 𝕄) ⊢ iprop(∃ f, (c.loc b) ↦{q} f) := by
  unfold some'
  iintro ⟨%X, H⟩
  iexists X
  iapply (pts_of_whole c b (S := Finset.univ) (X := X)) $$ H

theorem held_of_pts {S : Finset b.ty.Idx} {P : b.ty.Idx → Prop} (hP : ∀ x ∈ S, ¬ P x) {X : b.ty.Contents Val} {f : Buf Val (c.loc b)} :
    ((c.loc b) ↦[S]{fullShare} f : sProp 𝕄) ⊢ held c (Memref.whole b) S P X := by
  unfold held
  iintro H
  iexists f
  isplitr
  · ipureintro; exact fun x hx h => absurd h (hP x hx)
  iapply (whole_of_pts c b (X := f) fun _ _ => rfl) $$ H

theorem pts_of_held {S : Finset b.ty.Idx} {P : b.ty.Idx → Prop} (hP : ∀ x ∈ S, P x) {X : b.ty.Contents Val} :
    (held c (Memref.whole b) S P X : sProp 𝕄) ⊢ ((c.loc b) ↦[S]{fullShare} X) := by
  unfold held
  iintro ⟨%Y, %hY, H⟩
  ihave H := (pts_of_whole c b) $$ H
  iapply (Entails.of_eq (pointsTo_congr (ℓ := c.loc b) (I := S) (f := Y) (g := X) fun x hx => hY x hx (hP x hx)))
  iexact H
end

/-! ## Dealing a share to many -/

/-- Any number of readers can be dealt a share each, of every array in the same way. -/
theorem shares_exist {κ : Type} [DecidableEq κ] (S : Finset κ) (q : PosShare TreeShare) :
    ∃ (g : κ → PosShare TreeShare) (r : PosShare TreeShare), ∀ (ℓ : Loc nD τ sig) (f : Buf Val ℓ),
      (ℓ ↦{q} f : sProp 𝕄) = iprop((bigSep S fun i => ℓ ↦{g i} f) ∗ ℓ ↦{r} f) := by
  classical
  induction S using Finset.induction_on with
  | empty =>
    refine ⟨fun _ => q, q, fun ℓ f => ?_⟩
    rw [BI.bigSep_empty]
    exact BI.Entails.antisymm
      (show (ℓ ↦{q} f : sProp 𝕄) ⊢ iprop(emp ∗ ℓ ↦{q} f) from by
        iintro H
        isplitr; · iempintro
        iexact H)
      (show iprop(emp ∗ ℓ ↦{q} f) ⊢ (ℓ ↦{q} f : sProp 𝕄) from by iintro ⟨-, H⟩; iexact H)
  | insert a S ha ih =>
    obtain ⟨g, r, h⟩ := ih
    refine ⟨Function.update g a r.left, r.right, fun ℓ f => ?_⟩
    have hc : (bigSep S fun i => ℓ ↦{Function.update g a r.left i} f : sProp 𝕄) = bigSep S fun i => ℓ ↦{g i} f :=
      BI.bigSep_congr fun i hi => by
        have hne : i ≠ a := fun e => ha (e ▸ hi)
        rw [Function.update_of_ne hne]
    have e := pointsTo_share (nD := nD) (τ := τ) (sig := sig) (Ix := Ix) (Val := Val) (Name := Name) (U := U) (Lvl := Lvl)
      (ℓ := ℓ) (I := Finset.univ) (f := f) (PosShare.mem_left_op_right r)
    rw [SparseCore.bigSep_insert' ha, Function.update_self, h ℓ f, hc]
    exact BI.Entails.antisymm
      (show iprop((bigSep S fun i => ℓ ↦{g i} f) ∗ ℓ ↦{r} f) ⊢ (iprop(((ℓ ↦{r.left} f) ∗ bigSep S fun i => ℓ ↦{g i} f) ∗ ℓ ↦{r.right} f) : sProp 𝕄) from by
        iintro ⟨Hs, Hr⟩
        ihave H := e.1 $$ Hr
        icases H with ⟨H1, H2⟩
        isplitl [H1 Hs]
        · isplitl [H1]; · iexact H1
          iexact Hs
        iexact H2)
      (show (iprop(((ℓ ↦{r.left} f) ∗ bigSep S fun i => ℓ ↦{g i} f) ∗ ℓ ↦{r.right} f) : sProp 𝕄) ⊢ iprop((bigSep S fun i => ℓ ↦{g i} f) ∗ ℓ ↦{r} f) from by
        iintro ⟨⟨H1, Hs⟩, H2⟩
        isplitl [Hs]; · iexact Hs
        iapply e.2
        isplitl [H1]; · iexact H1
        iexact H2)

end Cert.Proof
end
-- ==== Proof.Ideal.Pass.lean ====
module

public import proofs.«01_k».proof.Proof.Gen.KernelIdeal
public import proofs.«01_k».proof.Proof.Gen.KernelIdeal.Skeleton
public import Idealize.ShloMosaic.PureOps.Ideal
public import Idealize.ShloMosaic.PureOps.IdealRules

/-!
The four passes of a block: sixteen pixels at a time, the rows of each pixel's class are looked up, stored and added up.
-/

@[expose] public section

noncomputable section

namespace Cert.Proof.KernelIdeal

open Cert.KernelIdeal Cert.KernelIdeal.Gen
open Idealize.ShloMosaic Idealize.SL.Sem

variable {F : FTy → Type} [FloatOps F]

/-- Programs of the vector subcore at grid point `i`. -/
abbrev TP (F : FTy → Type) [FloatOps F] (i : grid0.Coords) (α : Type) : Type 1 :=
  Prog (TpuEff nD τ sig (Elt F) Λ₀ (.scVector ((i 0).castLE hcore0) ((i 1).castLE hsub0))) α

/-! ## The values of one group of sixteen pixels -/

/-- The trip's word, its row of the eight and the first column of its sixteen. -/
def tripW (t : ℕ) : BitVec 32 := Scf.iv 0#32 1#32 t
def rowW (t : ℕ) : BitVec 32 :=
  Scalar.select (Scalar.andi
      (Scalar.cmpi .ne
        (Scalar.subi (Scalar.extui (Scalar.cmpi .sgt (tripW t) 0#32)) (Scalar.extui (Scalar.cmpi .slt (tripW t) 0#32)))
        (Scalar.subi (Scalar.extui (Scalar.cmpi .sgt 14#32 0#32)) (Scalar.extui (Scalar.cmpi .slt 14#32 0#32))))
      (Scalar.cmpi .ne (Scalar.remsi (tripW t) 14#32) 0#32))
    (Scalar.subi (Scalar.divsi (tripW t) 14#32) 1#32) (Scalar.divsi (tripW t) 14#32)
def modW (t : ℕ) : BitVec 32 := Scalar.remsi (tripW t) (Scalar.select (Scalar.cmpi .eq 14#32 0#32) 1#32 14#32)
def colW (t : ℕ) : BitVec 32 :=
  Scalar.muli (Scalar.select
    (Scalar.andi (Scalar.xori (Scalar.cmpi .slt (modW t) 0#32)
        (Scalar.cmpi .slt (Scalar.select (Scalar.cmpi .eq 14#32 0#32) 1#32 14#32) 0#32)) (Scalar.cmpi .ne (modW t) 0#32))
    (Scalar.addi (modW t) (Scalar.select (Scalar.cmpi .eq 14#32 0#32) 1#32 14#32)) (modW t)) 16#32
/-- Where the sixteen stand in a staging buffer's plane `r`. -/
def grpOff (r t : ℕ) : Fin 3 → ℕ := ![r, (Scalar.indexCast (rowW t)).toNat, (Scalar.indexCast (colW t)).toNat]

variable (cls : IVec S16 32) (b : BitVec 32) (t : ℕ)
def lanes : IVec S16 32 := iota .scVector S16 32 [0] iota_S16_d0_w32_scVector
/-- Where a pixel has a class. -/
def fgV : IVec S16 1 := cmpi .sgt cls (broadcast S16 0#32)
/-- The class counted from zero, kept between 0 and 7. -/
def cmV : IVec S16 32 := minsi (broadcast S16 7#32) (maxsi (broadcast S16 0#32) (subi cls (broadcast S16 1#32)))
/-- The place of (class, image, lane) in one plane of the accumulator. -/
def segV : IVec S16 32 := addi (muli (addi (muli (cmV cls) (broadcast S16 8#32)) (broadcast S16 b)) (broadcast S16 16#32)) lanes
/-- The row of the sixteen pixels in their block. -/
def hV : IVec S16 32 := broadcast S16 (rowW t)
/-- Their columns. -/
def wV : IVec S16 32 := addi (broadcast S16 (colW t)) lanes
/-- The first row of the class in the first buffer, where it is one of the classes 0 to 3. -/
def loV : IVec S16 32 := muli (minsi (broadcast S16 3#32) (maxsi (broadcast S16 0#32) (cmV cls))) (broadcast S16 4#32)
/-- The first row of the class in the second buffer, where it is one of the classes 4 to 7. -/
def hiV : IVec S16 32 := muli (minsi (broadcast S16 3#32) (maxsi (broadcast S16 0#32) (subi (cmV cls) (broadcast S16 4#32)))) (broadcast S16 4#32)
/-- Whether the class is one of 4 to 7. -/
def isHi : IVec S16 1 := cmpi .sge (cmV cls) (broadcast S16 4#32)
def zeroV : FVec F S16 .f32 := broadcast S16 (Scalar.ofBits .f32 0x00000000#32)
def oneV : FVec F S16 .f32 := broadcast S16 (Scalar.ofBits .f32 0x3F800000#32)

/-! ## The steps of a pass -/

/-- A gather's three indices lie in the buffer. -/
def GatOK (p h w : IVec S16 32) : Prop := ∀ a x, ((![p, h, w] : Fin 3 → IVec S16 32) a x).toNat < S24x8x224.size a
/-- A scatter's index lies in the accumulator. -/
def AccOK (q : IVec S16 32) : Prop := ∀ a x, ((![q] : Fin 1 → IVec S16 32) a x).toNat < S11264.size a
instance GatOK.dec (p h w : IVec S16 32) : Decidable (GatOK p h w) := decidable_of_iff' _ (Iff.of_eq (GatOK.eq_1 p h w))
instance AccOK.dec (q : IVec S16 32) : Decidable (AccOK q) := decidable_of_iff' _ (Iff.of_eq (AccOK.eq_1 q))

/-- Sixteen elements of a buffer, each at its own three indices. -/
def gat (i : grid0.Coords) (m : Memref sig .scVector .vmem S24x8x224 .f32) (p h w : IVec S16 32) : TP F i (Vec F S16 .f32) := do
  have hw : GatOK p h w := (← Prog.lift (TpuEff.assume (GatOK p h w) (GatOK.dec p h w))).down
  SparseCore.vectorLoadIdx m ![p, h, w] hw (View.loads_vmem h_S24x8x224)

/-- Store sixteen elements in row `r` of the output buffer. -/
def putRow (i : grid0.Coords) (o : Memref sig .scVector .vmem S4x8x224 .f32) (r : ℕ)
    (hr : ∀ a, grpOff r t a + S1x1x16.size a ≤ S4x8x224.size a) (v : Vec F S16 .f32) : TP F i PUnit := do
  let _ : Vec F S1x1x16 .f32 ← Prog.lift (.load o (Rect.unit (s := S4x8x224) (grpOff r t) S1x1x16.size hr).toLoadRect (View.loadsAt_vmem h_S1x1x16))
  Prog.lift (.store o (Rect.unit (s := S4x8x224) (grpOff r t) S1x1x16.size hr) (shapeCast S1x1x16 v shapeCasts_S16_S1x1x16) Finset.univ (View.stores_vmem_bits_univ h_S1x1x16 rfl) (.inl rfl))

/-- Add sixteen elements into the accumulator, each at its own place. -/
def addAcc (i : grid0.Coords) (acc : Memref sig .scVector .vmem S11264 .f32) (q : IVec S16 32) (v : Vec F S16 .f32) : TP F i PUnit := do
  have hw : AccOK q := (← Prog.lift (TpuEff.assume (AccOK q) (AccOK.dec q))).down
  SparseCore.vectorStoreIdx acc ![q] v (fun _ => 1#1) true hw (View.stores_vmem_bits_univ h_S11264 rfl)

/-- One channel of the quaternion: its rows lie in two buffers. -/
def chanQ (i : grid0.Coords) (a bb : Memref sig .scVector .vmem S24x8x224 .f32) (o : Memref sig .scVector .vmem S4x8x224 .f32)
    (acc : Memref sig .scVector .vmem S11264 .f32) (k : BitVec 32) (q : BitVec 32) (r : ℕ) (hr : ∀ a, grpOff r t a + S1x1x16.size a ≤ S4x8x224.size a) : TP F i PUnit := do
  let g₁ : Vec F S16 .f32 ← gat i a (addi (loV cls) (broadcast S16 k)) (hV t) (wV t)
  let g₂ : Vec F S16 .f32 ← gat i bb (addi (hiV cls) (broadcast S16 k)) (hV t) (wV t)
  putRow t i o r hr (select (fgV cls) (select (isHi cls) g₂ g₁) zeroV)
  addAcc i acc (addi (broadcast S16 q) (segV cls b)) (select (fgV cls) (select (isHi cls) g₂ g₁) zeroV)

/-- One channel of another array: its rows lie in one buffer. -/
def chan1 (i : grid0.Coords) (a : Memref sig .scVector .vmem S24x8x224 .f32) (o : Memref sig .scVector .vmem S4x8x224 .f32)
    (acc : Memref sig .scVector .vmem S11264 .f32) (p : IVec S16 32) (q : BitVec 32) (r : ℕ) (hr : ∀ a, grpOff r t a + S1x1x16.size a ≤ S4x8x224.size a) : TP F i PUnit := do
  let g : Vec F S16 .f32 ← gat i a p (hV t) (wV t)
  putRow t i o r hr (select (fgV cls) g zeroV)
  addAcc i acc (addi (broadcast S16 q) (segV cls b)) (select (fgV cls) g zeroV)

/-- The classes of the sixteen pixels. -/
def loadCls (i : grid0.Coords) (cm : Memref sig .scVector .vmem S2x8x224 .i32) (pb : ℕ)
    (hp : ∀ a, grpOff pb t a + S1x1x16.size a ≤ S2x8x224.size a) : TP F i (Vec F S16 .i32) := do
  let v : Vec F S1x1x16 .i32 ← Prog.lift (.load cm (Rect.unit (s := S2x8x224) (grpOff pb t) S1x1x16.size hp).toLoadRect (View.loadsAt_vmem h_S1x1x16))
  pure (shapeCast S16 v shapeCasts_S1x1x16_S16)

/-- The sixteen places of a trip lie in the output buffer. -/
def Rows (t : ℕ) : Prop := ∀ r < 4, ∀ a, grpOff r t a + S1x1x16.size a ≤ S4x8x224.size a
/-- The sixteen places of a trip lie in the buffer of classes. -/
def Rows2 (t : ℕ) : Prop := ∀ r < 2, ∀ a, grpOff r t a + S1x1x16.size a ≤ S2x8x224.size a

/-- The quaternion's four channels, and the count of pixels. -/
def passQ (i : grid0.Coords) (cm : Memref sig .scVector .vmem S2x8x224 .i32) (a bb : Memref sig .scVector .vmem S24x8x224 .f32) (o : Memref sig .scVector .vmem S4x8x224 .f32)
    (acc : Memref sig .scVector .vmem S11264 .f32) (b : BitVec 32) (pb : Fin 2) (t : ℕ) (ht : Rows t) (ht₂ : Rows2 t) : TP F i PUnit := do
  let cls ← loadCls t i cm pb (ht₂ pb pb.2)
  chanQ cls b t i a bb o acc 0#32 0#32 0 (ht 0 (by decide))
  chanQ cls b t i a bb o acc 1#32 1024#32 1 (ht 1 (by decide))
  chanQ cls b t i a bb o acc 2#32 2048#32 2 (ht 2 (by decide))
  chanQ cls b t i a bb o acc 3#32 3072#32 3 (ht 3 (by decide))
  addAcc i acc (addi (broadcast S16 10240#32) (segV cls b)) (select (fgV cls) oneV zeroV)
  pure ⟨⟩

/-- The three channels of the scales. -/
def passS (i : grid0.Coords) (cm : Memref sig .scVector .vmem S2x8x224 .i32) (bb : Memref sig .scVector .vmem S24x8x224 .f32) (o : Memref sig .scVector .vmem S4x8x224 .f32)
    (acc : Memref sig .scVector .vmem S11264 .f32) (b : BitVec 32) (pb : Fin 2) (t : ℕ) (ht : Rows t) (ht₂ : Rows2 t) : TP F i PUnit := do
  let cls ← loadCls t i cm pb (ht₂ pb pb.2)
  chan1 cls b t i bb o acc (addi (muli (cmV cls) (broadcast S16 3#32)) (broadcast S16 0#32)) 4096#32 0 (ht 0 (by decide))
  chan1 cls b t i bb o acc (addi (muli (cmV cls) (broadcast S16 3#32)) (broadcast S16 1#32)) 5120#32 1 (ht 1 (by decide))
  chan1 cls b t i bb o acc (addi (muli (cmV cls) (broadcast S16 3#32)) (broadcast S16 2#32)) 6144#32 2 (ht 2 (by decide))
  pure ⟨⟩

/-- The two channels of the centres. -/
def passXY (i : grid0.Coords) (cm : Memref sig .scVector .vmem S2x8x224 .i32) (a : Memref sig .scVector .vmem S24x8x224 .f32) (o : Memref sig .scVector .vmem S4x8x224 .f32)
    (acc : Memref sig .scVector .vmem S11264 .f32) (b : BitVec 32) (pb : Fin 2) (t : ℕ) (ht : Rows t) (ht₂ : Rows2 t) : TP F i PUnit := do
  let cls ← loadCls t i cm pb (ht₂ pb pb.2)
  chan1 cls b t i a o acc (addi (muli (cmV cls) (broadcast S16 2#32)) (broadcast S16 0#32)) 7168#32 0 (ht 0 (by decide))
  chan1 cls b t i a o acc (addi (muli (cmV cls) (broadcast S16 2#32)) (broadcast S16 1#32)) 8192#32 1 (ht 1 (by decide))
  pure ⟨⟩

/-- The depth. -/
def passZ (i : grid0.Coords) (cm : Memref sig .scVector .vmem S2x8x224 .i32) (a : Memref sig .scVector .vmem S24x8x224 .f32) (o : Memref sig .scVector .vmem S4x8x224 .f32)
    (acc : Memref sig .scVector .vmem S11264 .f32) (b : BitVec 32) (pb : Fin 2) (t : ℕ) (ht : Rows t) (ht₂ : Rows2 t) : TP F i PUnit := do
  let cls ← loadCls t i cm pb (ht₂ pb pb.2)
  chan1 cls b t i a o acc (addi (broadcast S16 16#32) (cmV cls)) 9216#32 2 (ht 2 (by decide))
  pure ⟨⟩

/-! ## The loops -/

/-- A pass's 112 trips, and the 704 that zero the accumulator. -/
@[reducible] def passL : Scf.Loop 32 := ⟨0#32, Scalar.addi 0#32 112#32, 1#32⟩
@[reducible] def zeroL : Scf.Loop 32 := ⟨0#32, Scalar.addi 0#32 704#32, 1#32⟩
theorem passL_trips : passL.trips = 112 := by decide
theorem zeroL_trips : zeroL.trips = 704 := by decide
theorem passL_ok : passL.OK := k0_t2_ok
theorem zeroL_ok : zeroL.OK := k0_t1_ok

theorem rows : ∀ t : Fin passL.trips, Rows t := by
  unfold Rows
  decide +kernel
theorem rows2 : ∀ t : Fin passL.trips, Rows2 t := by
  unfold Rows2
  decide +kernel

end Cert.Proof.KernelIdeal
end
-- ==== Proof.Ideal.Steps.lean ====
module

public import proofs.«01_k».proof.Proof.Part
public import proofs.«01_k».proof.Proof.Ideal.Pass

/-!
The steps of a pass, each with the contents it leaves: the class words of a group of sixteen pixels, a gather, a store of
sixteen words into the staging buffer, an add into the accumulator. Contents are named by functions of natural numbers, the
coordinates.
-/

@[expose] public section

noncomputable section

namespace Cert.Proof.KernelIdeal

open Cert.KernelIdeal Cert.KernelIdeal.Gen
open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

/-! ## Words and coordinates -/

/-- An array of rank three by its coordinates. -/
def on3 {α : Type} {s : Fin 3 → ℕ} (A : ℕ → ℕ → ℕ → α) : (⟨3, s⟩ : Shape).Idx → α := fun j => A (j 0).val (j 1).val (j 2).val

theorem rowW_toNat : ∀ t : Fin 112, (rowW t).toNat = t.val / 14 := by decide +kernel
theorem colW_toNat : ∀ t : Fin 112, (colW t).toNat = t.val % 14 * 16 := by decide +kernel
theorem grpOff_eq (r : ℕ) (t : Fin 112) : grpOff r t = ![r, t.val / 14, t.val % 14 * 16] := by
  unfold grpOff
  rw [show (Scalar.indexCast (rowW t)).toNat = (rowW t).toNat from rfl, show (Scalar.indexCast (colW t)).toNat = (colW t).toNat from rfl,
    rowW_toNat, colW_toNat]

theorem lanes_toNat (x : S16.Idx) : (lanes x).toNat = (x 0).val := by
  have h : (x 0).val < 16 := (x 0).isLt
  show (BitVec.ofNat 32 (0 * S16.size 0 + (x 0).val)).toNat = _
  rw [BitVec.toNat_ofNat]; omega

theorem wV_toNat (t : Fin 112) (x : S16.Idx) : (wV t x).toNat = t.val % 14 * 16 + (x 0).val := by
  have h : (x 0).val < 16 := (x 0).isLt
  show (colW t + lanes x).toNat = _
  rw [BitVec.toNat_add, colW_toNat, lanes_toNat]; omega

theorem hV_toNat (t : Fin 112) (x : S16.Idx) : (hV t x).toNat = t.val / 14 := rowW_toNat t

/-- The class words of group `t`. -/
def clsV (C : ℕ → ℕ → BitVec 32) (t : ℕ) : IVec S16 32 := fun x => C (t / 14) (t % 14 * 16 + (x 0).val)

/-- A class's number less one, kept within 0 to 7; the rows it takes of two quarters of an image; a class's place. -/
def cmW (c : BitVec 32) : BitVec 32 := IntOp.minsi 7#32 (IntOp.maxsi 0#32 (IntOp.subi c 1#32))
def loW (c : BitVec 32) : BitVec 32 := IntOp.muli (IntOp.minsi 3#32 (IntOp.maxsi 0#32 (cmW c))) 4#32
def hiW (c : BitVec 32) : BitVec 32 := IntOp.muli (IntOp.minsi 3#32 (IntOp.maxsi 0#32 (IntOp.subi (cmW c) 4#32))) 4#32

theorem clip_toNat (m c : BitVec 32) (hm : 0#32 |>.sle m) : (IntOp.minsi m (IntOp.maxsi 0#32 c)).toNat ≤ m.toNat := by
  have h0 : (0#32 : BitVec 32).toInt = 0 := rfl
  have e : (0#32 |>.sle m) = decide ((0 : Int) ≤ m.toInt) := rfl
  rw [e, decide_eq_true_eq] at hm
  unfold IntOp.minsi IntOp.maxsi
  have hnn : ∀ x : BitVec 32, 0 ≤ x.toInt → x.toInt = x.toNat := by
    intro x hx
    rw [BitVec.toInt_eq_toNat_cond] at hx ⊢
    have := x.isLt
    split_ifs at hx ⊢ <;> omega
  by_cases h1 : c.slt 0#32
  · rw [if_pos h1]
    split
    · exact le_rfl
    · simp
  · rw [if_neg h1]
    have h1' : 0 ≤ c.toInt := by
      rw [BitVec.slt] at h1; simpa using h1
    split
    · exact le_rfl
    · rename_i h2
      rw [BitVec.slt, decide_eq_true_eq] at h2
      have := hnn _ hm; have := hnn _ h1'; omega

theorem cmW_le (c : BitVec 32) : (cmW c).toNat ≤ 7 := clip_toNat 7#32 _ (by decide)
theorem loW_le (c : BitVec 32) : (loW c).toNat ≤ 12 := by
  have := clip_toNat 3#32 (cmW c) (by decide)
  have h3 : (3#32 : BitVec 32).toNat = 3 := rfl
  unfold loW
  show (_ * 4#32).toNat ≤ 12
  rw [BitVec.toNat_mul, show (4#32 : BitVec 32).toNat = 4 from rfl]
  rw [Nat.mod_eq_of_lt (by omega)]; omega
theorem hiW_le (c : BitVec 32) : (hiW c).toNat ≤ 12 := by
  have := clip_toNat 3#32 (IntOp.subi (cmW c) 4#32) (by decide)
  have h3 : (3#32 : BitVec 32).toNat = 3 := rfl
  unfold hiW
  show (_ * 4#32).toNat ≤ 12
  rw [BitVec.toNat_mul, show (4#32 : BitVec 32).toNat = 4 from rfl]
  rw [Nat.mod_eq_of_lt (by omega)]; omega

/-! ## Rows of a buffer, and sixteen words put into the staging buffer -/

/-- The indices of rows `lo` to `hi`. -/
def rowsS {s : Fin 3 → ℕ} (lo hi : ℕ) : Finset (⟨3, s⟩ : Shape).Idx := Finset.univ.filter fun j => lo ≤ (j 0).val ∧ (j 0).val < hi

theorem mem_rowsS {s : Fin 3 → ℕ} {lo hi : ℕ} {j : (⟨3, s⟩ : Shape).Idx} : j ∈ rowsS lo hi ↔ lo ≤ (j 0).val ∧ (j 0).val < hi := by
  unfold rowsS; rw [Finset.mem_filter]; exact and_iff_right (Finset.mem_univ j)

/-- The group of sixteen that a pixel lies in, and its lane. -/
def grp (j : S4x8x224.Idx) : ℕ := (j 1).val * 14 + (j 2).val / 16
def lane (j : S4x8x224.Idx) : S16.Idx := fun a => ⟨(j 2).val % 16, by fin_cases a; exact Nat.mod_lt _ (by decide)⟩

/-- `X` with sixteen words put into plane `r` at group `t`. -/
def putV {α : Type} (X : S4x8x224.Idx → α) (r t : ℕ) (v : S16.Idx → α) : S4x8x224.Idx → α :=
  fun j => if (j 0).val = r ∧ grp j = t then v (lane j) else X j

theorem reshape_S16 (j : S1x1x16.Idx) : (Shape.reshapeEquiv shapeCasts_S16_S1x1x16 j : S16.Idx) = fun a => ⟨(j 2).val, by fin_cases a; exact (j 2).isLt⟩ := by
  refine Shape.reshapeEquiv_eq_of_rowMajor _ ?_
  rw [Shape.rowMajor_val_three, Shape.rowMajor_val_one]
  have h0 : (j 0).val = 0 := by have : (j 0).val < 1 := (j 0).isLt; omega
  have h1 : (j 1).val = 0 := by have : (j 1).val < 1 := (j 1).isLt; omega
  rw [h0, h1]; simp

theorem reshape_S1x1x16 (x : S16.Idx) : ((Shape.reshapeEquiv shapeCasts_S1x1x16_S16 x : S1x1x16.Idx) 2).val = (x 0).val := by
  have h := Shape.rowMajor_reshapeEquiv (s := S1x1x16) (s' := S16) shapeCasts_S1x1x16_S16 x
  rw [Shape.rowMajor_val_three, Shape.rowMajor_val_one] at h
  generalize (Shape.reshapeEquiv shapeCasts_S1x1x16_S16 x : S1x1x16.Idx) = j at h ⊢
  have h0 : (j 0).val = 0 := by have : (j 0).val < 1 := (j 0).isLt; omega
  have h1 : (j 1).val = 0 := by have : (j 1).val < 1 := (j 1).isLt; omega
  rw [h0, h1] at h; simpa using h

theorem overlay_put {α : Type} (X : S4x8x224.Idx → α) (r : ℕ) (t : Fin 112) (hr : ∀ a, grpOff r t a + S1x1x16.size a ≤ S4x8x224.size a) (v : S16.Idx → α) :
    (Rect.unit (s := S4x8x224) (grpOff r t) S1x1x16.size hr).overlay X (shapeCast S1x1x16 v shapeCasts_S16_S1x1x16) = putV X r t v := by
  have hg := grpOff_eq r t
  funext j
  have hj2 : (j 2).val < 224 := (j 2).isLt
  have ht := t.isLt
  unfold putV
  by_cases h : j ∈ (Rect.unit (s := S4x8x224) (grpOff r t) S1x1x16.size hr).set
  · rw [← Rect.map_emb_univ] at h
    obtain ⟨y, -, rfl⟩ := Finset.mem_map.mp h
    rw [Rect.overlay_emb]
    have y0 : (y 0).val < 1 := (y 0).isLt
    have y1 : (y 1).val < 1 := (y 1).isLt
    have y2 : (y 2).val < 16 := (y 2).isLt
    have e0 : ((Rect.unit (s := S4x8x224) (grpOff r t) S1x1x16.size hr).emb y 0).val = r + (y 0).val := by
      have : grpOff r t 0 = _ := congrFun hg 0
      show grpOff r t 0 + 1 * (y 0).val = _
      rw [Nat.one_mul, this]; rfl
    have e1 : ((Rect.unit (s := S4x8x224) (grpOff r t) S1x1x16.size hr).emb y 1).val = t.val / 14 + (y 1).val := by
      have : grpOff r t 1 = _ := congrFun hg 1
      show grpOff r t 1 + 1 * (y 1).val = _
      rw [Nat.one_mul, this]; rfl
    have e2 : ((Rect.unit (s := S4x8x224) (grpOff r t) S1x1x16.size hr).emb y 2).val = t.val % 14 * 16 + (y 2).val := by
      have : grpOff r t 2 = _ := congrFun hg 2
      show grpOff r t 2 + 1 * (y 2).val = _
      rw [Nat.one_mul, this]; rfl
    rw [if_pos ⟨by rw [e0]; omega, by unfold grp; rw [e1, e2]; omega⟩]
    unfold shapeCast
    rw [reshape_S16]
    congr 1
    funext a
    refine Fin.ext ?_
    show (y 2).val = _ % 16
    rw [e2]; omega
  · rw [Rect.overlay_of_not_mem _ _ _ h, if_neg]
    rintro ⟨h0, h1⟩
    refine h (Rect.mem_set_unit.mpr ?_)
    rw [hg]
    unfold grp at h1
    intro a
    fin_cases a
    · show r ≤ (j 0).val ∧ (j 0).val < r + 1; omega
    · show t.val / 14 ≤ (j 1).val ∧ (j 1).val < t.val / 14 + 1; omega
    · show t.val % 14 * 16 ≤ (j 2).val ∧ (j 2).val < t.val % 14 * 16 + 16; omega

theorem put_mem {r : ℕ} {t : Fin 112} {hr : ∀ a, grpOff r t a + S1x1x16.size a ≤ S4x8x224.size a} :
    (Rect.unit (s := S4x8x224) (grpOff r t) S1x1x16.size hr).set ⊆ rowsS r (r + 1) := by
  intro j hj
  have := Rect.mem_set_unit.mp hj 0
  exact mem_rowsS.mpr this

variable {F : FTy → Type} [FloatOps F]

/-- Contents of the accumulator with sixteen words added at places `q`. -/
def addV (X : Vec F S11264 .f32) (q : IVec S16 32) (v : Vec F S16 .f32) : Vec F S11264 .f32 :=
  if h : AccOK q then storeIdx X ![q] v (fun _ => 1#1) true h else X

variable {Ix : Type} [DecidableEq Ix] {Name : Type} [DecidableEq Name] {U : Type} [URA U] {Lvl : Type} [Preorder Lvl]
local notation "𝕄" => MT nD τ sig Ix (Elt F) Name U Lvl

/-- The thread of the subcore at grid point `i`. -/
abbrev tid (d : Dev nD) (i : grid0.Coords) : Thread nD τ := (d, .scVector ((i 0).castLE hcore0) ((i 1).castLE hsub0))

variable {defs : Defs nD τ sig (Elt F) Λ₀} (𝒱 : Variants) (d : Dev nD) (i : grid0.Coords) (bd : Option 𝒱.V)

local notation "WP" => wp frame (wpE (Ix := Ix) (Name := Name) (U := U) (Lvl := Lvl) defs 𝒱 (tid d i) bd) Set.univ

/-- `G` holds enough of a buffer to gather from its rows `lo` to `hi`, which read `A`. -/
def Gathers (defs : Defs nD τ sig (Elt F) Λ₀) (m : Memref sig .scVector .vmem S24x8x224 .f32) (lo hi : ℕ) (A : ℕ → ℕ → ℕ → F .f32) (G : sProp 𝕄) : Prop :=
  ∀ (p h w : IVec S16 32) (_ : GatOK p h w) (_ : ∀ x, lo ≤ (p x).toNat ∧ (p x).toNat < hi) (Q : Vec F S16 .f32 → sProp 𝕄),
    G ⊢ iprop((G -∗ Q fun x => A (p x).toNat (h x).toNat (w x).toNat) -∗ wp frame (wpE defs 𝒱 (tid d i) bd) Set.univ (gat i m p h w) Q)

theorem gat_eq (m : Memref sig .scVector .vmem S24x8x224 .f32) (p h w : IVec S16 32) :
    gat (F := F) i m p h w = .op (.assume (GatOK p h w) (GatOK.dec p h w)) fun hp =>
      .op (.load m (Rect.whole _).toLoadRect (View.loadsAt_whole (View.loads_vmem h_S24x8x224))) fun f => .ret (loadIdx f ![p, h, w] hp.down) := rfl

theorem addAcc_eq (acc : Memref sig .scVector .vmem S11264 .f32) (q : IVec S16 32) (v : Vec F S16 .f32) :
    addAcc (F := F) i acc q v = .op (.assume (AccOK q) (AccOK.dec q)) fun hq =>
      .op (.load acc (Rect.whole _).toLoadRect (View.loadsAt_rect (View.stores_vmem_bits_univ h_S11264 rfl).loads)) fun f =>
      .op (.store acc (Rect.whole _) (storeIdx f ![q] v (fun _ => 1#1) true hq.down) Finset.univ (View.stores_vmem_bits_univ h_S11264 rfl) (.inl rfl)) fun _ => .ret ⟨⟩ := rfl

theorem wp_gat {m : Memref sig .scVector .vmem S24x8x224 .f32} {S : Finset S24x8x224.Idx} {lo hi : ℕ} {A : ℕ → ℕ → ℕ → F .f32}
    {G : sProp 𝕄} {p h w : IVec S16 32} (hp : GatOK p h w) {Q : Vec F S16 .f32 → sProp 𝕄}
    (hG : ∀ k : Vec F S24x8x224 .f32 → TP F i (Vec F S16 .f32),
      G ⊢ iprop((∀ Y, ⌜∀ j ∈ rowsS lo hi, Y j = on3 A j⌝ -∗ G -∗ wp frame (wpE defs 𝒱 (tid d i) bd) Set.univ (k Y) Q)
        -∗ wp frame (wpE defs 𝒱 (tid d i) bd) Set.univ (.op (.load m (Rect.whole _).toLoadRect (View.loadsAt_whole (View.loads_vmem h_S24x8x224))) k) Q))
    (hS : ∀ x, lo ≤ (p x).toNat ∧ (p x).toNat < hi) :
    G ⊢ iprop((G -∗ Q fun x => A (p x).toNat (h x).toNat (w x).toNat) -∗ wp frame (wpE defs 𝒱 (tid d i) bd) Set.univ (gat i m p h w) Q) := by
  rw [gat_eq]
  iintro HG Hk
  rw [wp_assume_of _ _ _ _ hp]
  iapply (hG _) $$ HG
  iintro %Y %hY HG
  have e : loadIdx Y ![p, h, w] hp = fun x => A (p x).toNat (h x).toNat (w x).toNat := by
    funext x
    exact hY _ (mem_rowsS.mpr (hS x))
  rw [e, wp_ret]
  imodintro
  iapply Hk $$ HG

/-- A buffer that is held whole, or of which rows are read while the others are copied into. -/
theorem gathers_part {m : Memref sig .scVector .vmem S24x8x224 .f32} {q : PosShare TreeShare} {lo hi : ℕ} {A : ℕ → ℕ → ℕ → F .f32} {X : Vec F S24x8x224 .f32}
    (hX : ∀ j ∈ rowsS lo hi, X j = on3 A j) :
    Gathers 𝒱 d i bd defs m lo hi A (part (tid d i) m q Finset.univ X : sProp 𝕄) := by
  intro p h w hp hS Q
  refine wp_gat 𝒱 d i bd (S := Finset.univ) hp (fun k => ?_) hS
  iintro H Hk
  iapply (wp_loadP 𝒱 (tid d i) bd (Finset.subset_univ _)) $$ H
  iintro H
  iapply Hk $$ %_ [] H
  ipureintro
  intro j hj
  rw [← hX j hj]
  exact congrArg X (by simp)

theorem gathers_race (EC : UEmb Counters 𝕄) [EC.LandsIn (upEmb : UEmb _ 𝕄)] {m : Memref sig .scVector .vmem S24x8x224 .f32} {r : Rect S24x8x224} {hr : ∀ a, r.stride a = 1}
    {lo hi : ℕ} {A : ℕ → ℕ → ℕ → F .f32} {X : Vec F S24x8x224 .f32} {S : Finset S24x8x224.Idx} {δ ε : ℕ} {κ : Name}
    (hS : Disjoint r.set S) (hU : r.set ∪ S = Finset.univ) (hX : ∀ j ∈ rowsS lo hi, j ∈ S ∧ X j = on3 A j) :
    Gathers 𝒱 d i bd defs m lo hi A iprop(part (tid d i) m fullShare S X ∗ racing (tid d i) EC (m.slice r hr) κ δ ε) := by
  intro p h w hp hS' Q
  refine wp_gat 𝒱 d i bd (S := Finset.univ) hp (fun k => ?_) hS'
  iintro H Hk
  iapply (wp_loadRace 𝒱 (tid d i) bd EC hS hU) $$ H
  iintro %Y %hY H H'
  iapply Hk $$ %Y [] [H H']
  · ipureintro
    intro j hj
    obtain ⟨h1, h2⟩ := hX j hj
    exact (hY j h1).trans h2
  · isplitl [H] <;> iassumption

/-- The class words of a group. -/
theorem wp_cls {cm : Memref sig .scVector .vmem S2x8x224 .i32} {pb : Fin 2} {t : Fin 112} {hp : ∀ a, grpOff pb t a + S1x1x16.size a ≤ S2x8x224.size a}
    {q : PosShare TreeShare} {C : ℕ → ℕ → BitVec 32} {Q : Vec F S16 .i32 → sProp 𝕄} :
    (part (tid d i) cm q (rowsS pb (pb + 1)) (on3 fun _ => C) : sProp 𝕄)
      ⊢ iprop((part (tid d i) cm q (rowsS pb (pb + 1)) (on3 fun _ => C) -∗ Q (clsV C t))
        -∗ wp frame (wpE defs 𝒱 (tid d i) bd) Set.univ (loadCls (F := F) t i cm pb hp) Q) := by
  have hg := grpOff_eq pb t
  unfold loadCls
  iintro H Hk
  rw [wp_bind, Prog.lift]
  have hs : (Rect.unit (s := S2x8x224) (grpOff pb t) S1x1x16.size hp).set ⊆ rowsS pb.val (pb.val + 1) := fun j hj => mem_rowsS.mpr (Rect.mem_set_unit.mp hj 0)
  iapply (wp_loadP 𝒱 (tid d i) bd hs) $$ H
  iintro H
  rw [wp_ret]
  imodintro
  rw [show (pure (shapeCast S16 (fun j => on3 (fun _ => C) ((Rect.unit (s := S2x8x224) (grpOff pb t) S1x1x16.size hp).emb j)) shapeCasts_S1x1x16_S16) : TP F i (Vec F S16 .i32))
    = .ret (clsV C t) from congrArg Prog.ret (by
      funext x
      have hx : (x 0).val < 16 := (x 0).isLt
      unfold shapeCast on3 clsV
      have g1 : grpOff pb t 1 = _ := congrFun hg 1
      have g2 : grpOff pb t 2 = _ := congrFun hg 2
      show C (grpOff pb t 1 + 1 * ((Shape.reshapeEquiv shapeCasts_S1x1x16_S16 x : S1x1x16.Idx) 1).val)
        (grpOff pb t 2 + 1 * ((Shape.reshapeEquiv shapeCasts_S1x1x16_S16 x : S1x1x16.Idx) 2).val) = _
      rw [g1, g2, reshape_S1x1x16]
      have h1 : ((Shape.reshapeEquiv shapeCasts_S1x1x16_S16 x : S1x1x16.Idx) 1).val = 0 := by
        have : ((Shape.reshapeEquiv shapeCasts_S1x1x16_S16 x : S1x1x16.Idx) 1).val < 1 := ((Shape.reshapeEquiv shapeCasts_S1x1x16_S16 x : S1x1x16.Idx) 1).isLt
        omega
      rw [h1]; simp only [Nat.one_mul]; rfl), wp_ret]
  imodintro
  iapply Hk $$ H

/-- Sixteen words put into the staging buffer. -/
theorem wp_put {o : Memref sig .scVector .vmem S4x8x224 .f32} {r : ℕ} {t : Fin 112} {hr : ∀ a, grpOff r t a + S1x1x16.size a ≤ S4x8x224.size a}
    {v : Vec F S16 .f32} {S : Finset S4x8x224.Idx} {X : Vec F S4x8x224 .f32} (hS : rowsS r (r + 1) ⊆ S) {Q : PUnit → sProp 𝕄} :
    (part (tid d i) o fullShare S X : sProp 𝕄)
      ⊢ iprop((part (tid d i) o fullShare S (putV X r t v) -∗ Q ⟨⟩) -∗ wp frame (wpE defs 𝒱 (tid d i) bd) Set.univ (putRow t i o r hr v) Q) := by
  unfold putRow
  iintro H Hk
  rw [wp_bind, Prog.lift]
  iapply (wp_loadP 𝒱 (tid d i) bd (put_mem.trans hS)) $$ H
  iintro H
  rw [wp_ret]
  imodintro
  rw [Prog.lift]
  iapply (wp_storeP 𝒱 (tid d i) bd (put_mem.trans hS)) $$ H
  iintro H
  rw [overlay_put, wp_ret]
  imodintro
  iapply Hk $$ H

/-- Sixteen words added into the accumulator. -/
theorem wp_add {acc : Memref sig .scVector .vmem S11264 .f32} {q : IVec S16 32} {v : Vec F S16 .f32} (hq : AccOK q)
    {X : Vec F S11264 .f32} {Q : PUnit → sProp 𝕄} :
    (part (tid d i) acc fullShare Finset.univ X : sProp 𝕄)
      ⊢ iprop((part (tid d i) acc fullShare Finset.univ (addV X q v) -∗ Q ⟨⟩) -∗ wp frame (wpE defs 𝒱 (tid d i) bd) Set.univ (addAcc i acc q v) Q) := by
  rw [addAcc_eq]
  iintro H Hk
  rw [wp_assume_of _ _ _ _ hq]
  iapply (wp_loadP 𝒱 (tid d i) bd (Finset.subset_univ _)) $$ H
  iintro H
  iapply (wp_storeP 𝒱 (tid d i) bd (Finset.subset_univ _)) $$ H
  iintro H
  rw [wp_ret]
  imodintro
  iapply Hk
  iapply (part_congr _) $$ H
  intro j _
  unfold addV
  rw [dif_pos hq]
  have hw : ∀ j : S11264.Idx, (Rect.whole S11264).emb j = j := fun j => by simp
  conv_lhs => rw [← hw j]
  rw [Rect.overlay_emb]
  congr 1
  funext j
  exact congrArg X (hw j)

end Cert.Proof.KernelIdeal
end
-- ==== Proof.Ideal.Tile.lean ====
module

public import proofs.«01_k».proof.Proof.Ideal.Pass

/-!
The program of one subcore: seven blocks of eight rows of an image, with the copies that bring each block in and take its results out.
-/

@[expose] public section

noncomputable section

namespace Cert.Proof.KernelIdeal

open Cert.KernelIdeal Cert.KernelIdeal.Gen
open Idealize.ShloMosaic Idealize.SL.Sem

variable {F : FTy → Type} [FloatOps F]

/-- What the subcore's program is given: the arrays in HBM, its own buffers, its semaphores. -/
structure Args where
  cm : Memref sig .scVector .hbm S8x224x224 .i32
  q : Memref sig .scVector .hbm S8x32x224x224 .f32
  s : Memref sig .scVector .hbm S8x24x224x224 .f32
  xy : Memref sig .scVector .hbm S8x16x224x224 .f32
  z : Memref sig .scVector .hbm S8x8x224x224 .f32
  gq : Memref sig .scVector .hbm S8x4x224x224 .f32
  gs : Memref sig .scVector .hbm S8x3x224x224 .f32
  gxy : Memref sig .scVector .hbm S8x2x224x224 .f32
  gz : Memref sig .scVector .hbm S8x224x224 .f32
  part : Memref sig .scVector .hbm S360448 .f32
  cmv : Memref sig .scVector .vmem S2x8x224 .i32
  av : Memref sig .scVector .vmem S24x8x224 .f32
  bv : Memref sig .scVector .vmem S24x8x224 .f32
  ov : Memref sig .scVector .vmem S4x8x224 .f32
  acc : Memref sig .scVector .vmem S11264 .f32
  hb : bv.IsWhole
  hacc : acc.IsWhole
  msM : DmaSems sig S_
  asM : DmaSems sig S_
  bsM : DmaSems sig S_
  zsM : DmaSems sig S_
  oqM : DmaSems sig S_
  osM : DmaSems sig S_
  oxyM : DmaSems sig S_
  ozM : DmaSems sig S_
  scM : DmaSems sig S_

variable (i : grid0.Coords) (A : Args)

/-- A block number as a word. -/
abbrev jw (jt : Fin 7) : BitVec 32 := BitVec.ofNat 32 jt.val
/-- The half of the buffer of classes that block `jt` uses. -/
def par (jt : Fin 7) : Fin 2 := ⟨jt.val % 2, Nat.mod_lt _ (by decide)⟩

/-- The number of block `jt` of the subcore among all the blocks. -/
def idxW (jt : Fin 7) : BitVec 32 :=
  Scalar.addi (Scalar.muli (Scalar.addi (Scalar.muli (BitVec.ofNat 32 (i 1).val) 2#32) (BitVec.ofNat 32 (i 0).val)) 7#32) (jw jt)
/-- The image itself: the block's number divided by 28. -/
def imgW (jt : Fin 7) : BitVec 32 :=
  Scalar.select (Scalar.andi
      (Scalar.cmpi .ne
        (Scalar.subi (Scalar.extui (Scalar.cmpi .sgt (idxW i jt) 0#32)) (Scalar.extui (Scalar.cmpi .slt (idxW i jt) 0#32)))
        (Scalar.subi (Scalar.extui (Scalar.cmpi .sgt 28#32 0#32)) (Scalar.extui (Scalar.cmpi .slt 28#32 0#32))))
      (Scalar.cmpi .ne (Scalar.remsi (idxW i jt) 28#32) 0#32))
    (Scalar.subi (Scalar.divsi (idxW i jt) 28#32) 1#32) (Scalar.divsi (idxW i jt) 28#32)

/-! ## The two ends of each copy -/

theorem inb_cmv : ∀ pb : Fin 2, ∀ a, (![pb.val, 0, 0] : Fin 3 → ℕ) a + S1x8x224.size a ≤ S2x8x224.size a := by decide

abbrev cmSrc (jt : Fin 7) : Memref sig .scVector .hbm S8x224 .i32 :=
  (A.cm.slice (Rect.unit (s := S8x224x224) (k0_off2 i (jw jt)) S1x8x224.size (k0_off2_inb i jt)) (fun _ => rfl)).squeeze S8x224 squeezes_S1x8x224_S8x224
abbrev cmDst (pb : Fin 2) : Memref sig .scVector .vmem S8x224 .i32 :=
  (A.cmv.slice (Rect.unit (s := S2x8x224) ![pb.val, 0, 0] S1x8x224.size (inb_cmv pb)) (fun _ => rfl)).squeeze S8x224 squeezes_S1x8x224_S8x224
abbrev qaSrc (jt : Fin 7) : Memref sig .scVector .hbm S16x8x224 .f32 :=
  (A.q.slice (Rect.unit (s := S8x32x224x224) (k0_off3 i (jw jt)) S1x16x8x224.size (k0_off3_inb i jt)) (fun _ => rfl)).squeeze S16x8x224 squeezes_S1x16x8x224_S16x8x224
abbrev qbSrc (jt : Fin 7) : Memref sig .scVector .hbm S16x8x224 .f32 :=
  (A.q.slice (Rect.unit (s := S8x32x224x224) (k0_off4 i (jw jt)) S1x16x8x224.size (k0_off4_inb i jt)) (fun _ => rfl)).squeeze S16x8x224 squeezes_S1x16x8x224_S16x8x224
abbrev zSrc (jt : Fin 7) : Memref sig .scVector .hbm S8x8x224 .f32 :=
  (A.z.slice (Rect.unit (s := S8x8x224x224) (k0_off5 i (jw jt)) S1x8x8x224.size (k0_off5_inb i jt)) (fun _ => rfl)).squeeze S8x8x224 squeezes_S1x8x8x224_S8x8x224
abbrev sSrc (jt : Fin 7) : Memref sig .scVector .hbm S24x8x224 .f32 :=
  (A.s.slice (Rect.unit (s := S8x24x224x224) (k0_off11 i (jw jt)) S1x24x8x224.size (k0_off11_inb i jt)) (fun _ => rfl)).squeeze S24x8x224 squeezes_S1x24x8x224_S24x8x224
abbrev xySrc (jt : Fin 7) : Memref sig .scVector .hbm S16x8x224 .f32 :=
  (A.xy.slice (Rect.unit (s := S8x16x224x224) (k0_off12 i (jw jt)) S1x16x8x224.size (k0_off12_inb i jt)) (fun _ => rfl)).squeeze S16x8x224 squeezes_S1x16x8x224_S16x8x224
/-- The first sixteen rows of the first buffer, its last eight, and the second's first sixteen. -/
abbrev aLo : Memref sig .scVector .vmem S16x8x224 .f32 :=
  A.av.slice (Rect.unit (s := S24x8x224) ![0, 0, 0] S16x8x224.size inb_S24x8x224_S16x8x224_0_0_0) (fun _ => rfl)
abbrev aHi : Memref sig .scVector .vmem S8x8x224 .f32 :=
  A.av.slice (Rect.unit (s := S24x8x224) ![16, 0, 0] S8x8x224.size inb_S24x8x224_S8x8x224_16_0_0) (fun _ => rfl)
abbrev bLo : Memref sig .scVector .vmem S16x8x224 .f32 :=
  A.bv.slice (Rect.unit (s := S24x8x224) ![0, 0, 0] S16x8x224.size inb_S24x8x224_S16x8x224_0_0_0) (fun _ => rfl)
abbrev gqDst (jt : Fin 7) : Memref sig .scVector .hbm S4x8x224 .f32 :=
  (A.gq.slice (Rect.unit (s := S8x4x224x224) (k0_off13 i (jw jt)) S1x4x8x224.size (k0_off13_inb i jt)) (fun _ => rfl)).squeeze S4x8x224 squeezes_S1x4x8x224_S4x8x224
abbrev gsDst (jt : Fin 7) : Memref sig .scVector .hbm S3x8x224 .f32 :=
  (A.gs.slice (Rect.unit (s := S8x3x224x224) (k0_off18 i (jw jt)) S1x3x8x224.size (k0_off18_inb i jt)) (fun _ => rfl)).squeeze S3x8x224 squeezes_S1x3x8x224_S3x8x224
abbrev gxyDst (jt : Fin 7) : Memref sig .scVector .hbm S2x8x224 .f32 :=
  (A.gxy.slice (Rect.unit (s := S8x2x224x224) (k0_off22 i (jw jt)) S1x2x8x224.size (k0_off22_inb i jt)) (fun _ => rfl)).squeeze S2x8x224 squeezes_S1x2x8x224_S2x8x224
abbrev gzDst (jt : Fin 7) : Memref sig .scVector .hbm S8x224 .f32 :=
  (A.gz.slice (Rect.unit (s := S8x224x224) (k0_off2 i (jw jt)) S1x8x224.size (k0_off2_inb i jt)) (fun _ => rfl)).squeeze S8x224 squeezes_S1x8x224_S8x224
abbrev o4 : Memref sig .scVector .vmem S4x8x224 .f32 :=
  A.ov.slice (Rect.unit (s := S4x8x224) ![0, 0, 0] S4x8x224.size inb_S4x8x224_S4x8x224_0_0_0) (fun _ => rfl)
abbrev o3 : Memref sig .scVector .vmem S3x8x224 .f32 :=
  A.ov.slice (Rect.unit (s := S4x8x224) ![0, 0, 0] S3x8x224.size inb_S4x8x224_S3x8x224_0_0_0) (fun _ => rfl)
abbrev o2 : Memref sig .scVector .vmem S2x8x224 .f32 :=
  A.ov.slice (Rect.unit (s := S4x8x224) ![0, 0, 0] S2x8x224.size inb_S4x8x224_S2x8x224_0_0_0) (fun _ => rfl)
abbrev o1 : Memref sig .scVector .vmem S8x224 .f32 :=
  (A.ov.slice (Rect.unit (s := S4x8x224) ![2, 0, 0] S1x8x224.size inb_S4x8x224_S1x8x224_2_0_0) (fun _ => rfl)).squeeze S8x224 squeezes_S1x8x224_S8x224
abbrev partDst : Memref sig .scVector .hbm S11264 .f32 :=
  A.part.slice (Rect.unit (s := S360448) (k0_off109 i) S11264.size (k0_off109_inb i)) (fun _ => rfl)

/-! ## Issuing and awaiting each copy -/

variable (F)
section
variable (jt : Fin 7)
abbrev issM : TP F i PUnit := Prog.lift (.enqueueDma (cmSrc i A jt) (.here (cmDst A (par jt))) (.dma A.msM.sem) ((View.wordExact_bits rfl).reshape _ _) ((View.wordExact_bits rfl).reshape _ _) ⟨Or.inl rfl, trivial⟩)
abbrev waiM : TP F i PUnit := Prog.lift (.waitDma2 A.msM.sem (cmSrc i A jt) (cmDst A (par jt)) ((View.wordExact_bits rfl).reshape _ _) ((View.wordExact_bits rfl).reshape _ _))
abbrev issQa : TP F i PUnit := Prog.lift (.enqueueDma (qaSrc i A jt) (.here (aLo A)) (.dma A.asM.sem) ((View.wordExact_bits rfl).reshape _ _) (View.wordExact_bits rfl) ⟨Or.inl rfl, trivial⟩)
abbrev waiQa : TP F i PUnit := Prog.lift (.waitDma2 A.asM.sem (qaSrc i A jt) (aLo A) ((View.wordExact_bits rfl).reshape _ _) (View.wordExact_bits rfl))
abbrev issQb : TP F i PUnit := Prog.lift (.enqueueDma (qbSrc i A jt) (.here (bLo A)) (.dma A.bsM.sem) ((View.wordExact_bits rfl).reshape _ _) (View.wordExact_bits rfl) ⟨Or.inl rfl, trivial⟩)
abbrev waiQb : TP F i PUnit := Prog.lift (.waitDma2 A.bsM.sem (qbSrc i A jt) (bLo A) ((View.wordExact_bits rfl).reshape _ _) (View.wordExact_bits rfl))
abbrev issS : TP F i PUnit := Prog.lift (.enqueueDma (sSrc i A jt) (.here A.bv) (.dma A.bsM.sem) ((View.wordExact_bits rfl).reshape _ _) A.hb.wordExact ⟨Or.inl rfl, trivial⟩)
abbrev waiS : TP F i PUnit := Prog.lift (.waitDma2 A.bsM.sem (sSrc i A jt) A.bv ((View.wordExact_bits rfl).reshape _ _) A.hb.wordExact)
abbrev issXY : TP F i PUnit := Prog.lift (.enqueueDma (xySrc i A jt) (.here (aLo A)) (.dma A.asM.sem) ((View.wordExact_bits rfl).reshape _ _) (View.wordExact_bits rfl) ⟨Or.inl rfl, trivial⟩)
abbrev waiXY : TP F i PUnit := Prog.lift (.waitDma2 A.asM.sem (xySrc i A jt) (aLo A) ((View.wordExact_bits rfl).reshape _ _) (View.wordExact_bits rfl))
abbrev issZ : TP F i PUnit := Prog.lift (.enqueueDma (zSrc i A jt) (.here (aHi A)) (.dma A.zsM.sem) ((View.wordExact_bits rfl).reshape _ _) (View.wordExact_bits rfl) ⟨Or.inl rfl, trivial⟩)
abbrev waiZ : TP F i PUnit := Prog.lift (.waitDma2 A.zsM.sem (zSrc i A jt) (aHi A) ((View.wordExact_bits rfl).reshape _ _) (View.wordExact_bits rfl))
abbrev issOq : TP F i PUnit := Prog.lift (.enqueueDma (o4 A) (.here (gqDst i A jt)) (.dma A.oqM.sem) (View.wordExact_bits rfl) ((View.wordExact_bits rfl).reshape _ _) ⟨Or.inl rfl, trivial⟩)
abbrev waiOq : TP F i PUnit := Prog.lift (.waitDma2 A.oqM.sem (o4 A) (gqDst i A jt) (View.wordExact_bits rfl) ((View.wordExact_bits rfl).reshape _ _))
abbrev issOs : TP F i PUnit := Prog.lift (.enqueueDma (o3 A) (.here (gsDst i A jt)) (.dma A.osM.sem) (View.wordExact_bits rfl) ((View.wordExact_bits rfl).reshape _ _) ⟨Or.inl rfl, trivial⟩)
abbrev waiOs : TP F i PUnit := Prog.lift (.waitDma2 A.osM.sem (o3 A) (gsDst i A jt) (View.wordExact_bits rfl) ((View.wordExact_bits rfl).reshape _ _))
abbrev issOxy : TP F i PUnit := Prog.lift (.enqueueDma (o2 A) (.here (gxyDst i A jt)) (.dma A.oxyM.sem) (View.wordExact_bits rfl) ((View.wordExact_bits rfl).reshape _ _) ⟨Or.inl rfl, trivial⟩)
abbrev waiOxy : TP F i PUnit := Prog.lift (.waitDma2 A.oxyM.sem (o2 A) (gxyDst i A jt) (View.wordExact_bits rfl) ((View.wordExact_bits rfl).reshape _ _))
abbrev issOz : TP F i PUnit := Prog.lift (.enqueueDma (o1 A) (.here (gzDst i A jt)) (.dma A.ozM.sem) ((View.wordExact_bits rfl).reshape _ _) ((View.wordExact_bits rfl).reshape _ _) ⟨Or.inl rfl, trivial⟩)
abbrev waiOz : TP F i PUnit := Prog.lift (.waitDma2 A.ozM.sem (o1 A) (gzDst i A jt) ((View.wordExact_bits rfl).reshape _ _) ((View.wordExact_bits rfl).reshape _ _))

/-! ## The passes, the blocks, the whole -/

/-- The pass over a block's quaternions. -/
def loopQ : TP F i PUnit := Scf.Loop.for passL passL_ok PUnit.unit fun t _ => passQ i A.cmv A.av A.bv A.ov A.acc (imgW i jt) (par jt) t (rows t) (rows2 t)
/-- The pass over its scales. -/
def loopS : TP F i PUnit := Scf.Loop.for passL passL_ok PUnit.unit fun t _ => passS i A.cmv A.bv A.ov A.acc (imgW i jt) (par jt) t (rows t) (rows2 t)
/-- The pass over its centres. -/
def loopXY : TP F i PUnit := Scf.Loop.for passL passL_ok PUnit.unit fun t _ => passXY i A.cmv A.av A.ov A.acc (imgW i jt) (par jt) t (rows t) (rows2 t)
/-- The pass over its depths. -/
def loopZ : TP F i PUnit := Scf.Loop.for passL passL_ok PUnit.unit fun t _ => passZ i A.cmv A.av A.ov A.acc (imgW i jt) (par jt) t (rows t) (rows2 t)
end

/-- Zero sixteen places of the accumulator. -/
def zeroBody (t : Fin zeroL.trips) : TP F i PUnit := do
  let _ : Vec F S16 .f32 ← Prog.lift (.load A.acc (Rect.unit (s := S11264) (k0_off1 t) S16.size (k0_off1_inb t)).toLoadRect (View.loadsAt_vmem h_S16))
  Prog.lift (.store A.acc (Rect.unit (s := S11264) (k0_off1 t) S16.size (k0_off1_inb t)) (zeroV (F := F)) Finset.univ (View.stores_vmem_bits_univ h_S16 rfl) (.inl rfl))
  pure ⟨⟩
/-- Zero the accumulator. -/
def zeroAll : TP F i PUnit := Scf.Loop.for zeroL zeroL_ok PUnit.unit fun t _ => zeroBody F i A t

/-- The block after, where there is one, and the block before. -/
def nxt (jt : Fin 7) (p : Fin 7 → TP F i PUnit) : TP F i PUnit := if h : jt.val + 1 < 7 then p ⟨jt.val + 1, h⟩ else pure ⟨⟩
def prv (jt : Fin 7) (p : Fin 7 → TP F i PUnit) : TP F i PUnit :=
  match jt with
  | ⟨0, _⟩ => pure ⟨⟩
  | ⟨n + 1, h⟩ => p ⟨n, Nat.lt_of_succ_lt h⟩

/-- One block: its copies in and out, and its four passes. -/
def block (jt : Fin 7) : TP F i PUnit := do
  waiM F i A jt
  nxt F i jt (issM F i A)
  issZ F i A jt
  waiQa F i A jt
  waiQb F i A jt
  prv F i jt (waiOxy F i A)
  prv F i jt (waiOz F i A)
  loopQ F i A jt
  issS F i A jt
  issXY F i A jt
  issOq F i A jt
  waiS F i A jt
  waiOq F i A jt
  loopS F i A jt
  nxt F i jt (issQb F i A)
  issOs F i A jt
  waiXY F i A jt
  waiOs F i A jt
  loopXY F i A jt
  nxt F i jt (issQa F i A)
  issOxy F i A jt
  waiZ F i A jt
  loopZ F i A jt
  issOz F i A jt

/-- The whole: zero the accumulator, do the seven blocks, copy the accumulator out. -/
def tile : TP F i PUnit := do
  zeroAll F i A
  issM F i A 0
  issQa F i A 0
  issQb F i A 0
  block F i A 0
  block F i A 1
  block F i A 2
  block F i A 3
  block F i A 4
  block F i A 5
  block F i A 6
  waiOxy F i A 6
  waiOz F i A 6
  Prog.lift (.enqueueDma A.acc (.here (partDst i A)) (.dma A.scM.sem) A.hacc.wordExact (View.wordExact_bits rfl) ⟨Or.inl rfl, trivial⟩)
  Prog.lift (.waitDma2 A.scM.sem A.acc (partDst i A) A.hacc.wordExact (View.wordExact_bits rfl))
  pure ⟨⟩

end Cert.Proof.KernelIdeal
end
-- ==== Proof.Ideal.Loops.lean ====
module

public import proofs.«01_k».proof.Proof.Ideal.Steps
public import proofs.«01_k».proof.Proof.Ideal.Tile

/-!
The four passes over a block of 8 by 224 pixels and the loops that make them, with what they leave in the staging buffer and in
the accumulator.
-/

@[expose] public section

noncomputable section

namespace Cert.Proof.KernelIdeal

open Cert.KernelIdeal Cert.KernelIdeal.Gen
open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

variable {F : FTy → Type} [FloatOps F]

/-! ## What a pixel gets -/

/-- Channel `k` of a pixel of class `c`, from the two halves of the quaternion rows. -/
def valQ (c : BitVec 32) (fa fb : ℕ → F .f32) (k : BitVec 32) : F .f32 :=
  Scalar.select (IntOp.cmpi .sgt c 0#32)
    (Scalar.select (IntOp.cmpi .sge (cmW c) 4#32) (fb (IntOp.addi (hiW c) k).toNat) (fa (IntOp.addi (loW c) k).toNat))
    (Scalar.ofBits .f32 0x00000000#32)
/-- A pixel of class `c` from the one row `f` that is looked up: `f` of the row's number. -/
def val1 (c : BitVec 32) (f : ℕ → F .f32) (p : BitVec 32) : F .f32 :=
  Scalar.select (IntOp.cmpi .sgt c 0#32) (f p.toNat) (Scalar.ofBits .f32 0x00000000#32)

def rowS (k c : BitVec 32) : BitVec 32 := IntOp.addi (IntOp.muli (cmW c) 3#32) k
def rowXY (k c : BitVec 32) : BitVec 32 := IntOp.addi (IntOp.muli (cmW c) 2#32) k
def rowZ (_k c : BitVec 32) : BitVec 32 := IntOp.addi 16#32 (cmW c)

section
variable (C : ℕ → ℕ → BitVec 32) (A B : ℕ → ℕ → ℕ → F .f32) (b : BitVec 32) (t : ℕ)

/-- A group's sixteen values, and its sixteen places in the accumulator. -/
def vecQ (k : BitVec 32) : Vec F S16 .f32 := fun x =>
  valQ (C (t / 14) (t % 14 * 16 + (x 0).val)) (fun p => A p (t / 14) (t % 14 * 16 + (x 0).val)) (fun p => B p (t / 14) (t % 14 * 16 + (x 0).val)) k
def vec1 (row : BitVec 32 → BitVec 32) : Vec F S16 .f32 := fun x =>
  val1 (C (t / 14) (t % 14 * 16 + (x 0).val)) (fun p => A p (t / 14) (t % 14 * 16 + (x 0).val)) (row (C (t / 14) (t % 14 * 16 + (x 0).val)))
def vecN : Vec F S16 .f32 := fun x =>
  Scalar.select (IntOp.cmpi .sgt (C (t / 14) (t % 14 * 16 + (x 0).val)) 0#32) (Scalar.ofBits .f32 0x3F800000#32) (Scalar.ofBits .f32 0x00000000#32)
def place (base : BitVec 32) : IVec S16 32 := addi (broadcast S16 base) (segV (clsV C t) b)

/-- A whole pass's values. -/
def outQ : Vec F S4x8x224 .f32 := fun j =>
  valQ (C (j 1).val (j 2).val) (fun p => A p (j 1).val (j 2).val) (fun p => B p (j 1).val (j 2).val) (BitVec.ofNat 32 (j 0).val)
def out1 (row : BitVec 32 → BitVec 32 → BitVec 32) : Vec F S4x8x224 .f32 := fun j =>
  val1 (C (j 1).val (j 2).val) (fun p => A p (j 1).val (j 2).val) (row (BitVec.ofNat 32 (j 0).val) (C (j 1).val (j 2).val))

/-- The accumulator after a group of each pass. -/
def accQ (G : Vec F S11264 .f32) : Vec F S11264 .f32 :=
  addV (addV (addV (addV (addV G (place C b t 0#32) (vecQ C A B t 0#32)) (place C b t 1024#32) (vecQ C A B t 1#32)) (place C b t 2048#32) (vecQ C A B t 2#32))
    (place C b t 3072#32) (vecQ C A B t 3#32)) (place C b t 10240#32) (vecN C t)
def accS (G : Vec F S11264 .f32) : Vec F S11264 .f32 :=
  addV (addV (addV G (place C b t 4096#32) (vec1 C A t (rowS 0#32))) (place C b t 5120#32) (vec1 C A t (rowS 1#32))) (place C b t 6144#32) (vec1 C A t (rowS 2#32))
def accXY (G : Vec F S11264 .f32) : Vec F S11264 .f32 :=
  addV (addV G (place C b t 7168#32) (vec1 C A t (rowXY 0#32))) (place C b t 8192#32) (vec1 C A t (rowXY 1#32))
def accZ (G : Vec F S11264 .f32) : Vec F S11264 .f32 := addV G (place C b t 9216#32) (vec1 C A t (rowZ 2#32))
end

/-- The first `n` steps, in order. -/
def steps {α : Type} (f : ℕ → α → α) : ℕ → α → α
  | 0, G => G
  | n + 1, G => f n (steps f n G)

theorem vec_lane {t : ℕ} {j : S4x8x224.Idx} (h : grp j = t) : t / 14 = (j 1).val ∧ t % 14 * 16 + (lane j 0).val = (j 2).val := by
  have h2 : (j 2).val < 224 := (j 2).isLt
  have : (lane j 0).val = (j 2).val % 16 := rfl
  unfold grp at h
  omega

theorem vecQ_lane (C : ℕ → ℕ → BitVec 32) (A B : ℕ → ℕ → ℕ → F .f32) {t : ℕ} {k : ℕ} {j : S4x8x224.Idx} (h : grp j = t) (hk : (j 0).val = k) :
    vecQ C A B t (BitVec.ofNat 32 k) (lane j) = outQ C A B j := by
  obtain ⟨h1, h2⟩ := vec_lane h
  unfold vecQ outQ
  rw [h1, h2, hk]
theorem vec1_lane (C : ℕ → ℕ → BitVec 32) (A : ℕ → ℕ → ℕ → F .f32) (row : BitVec 32 → BitVec 32 → BitVec 32) {t : ℕ} {k : ℕ} {j : S4x8x224.Idx} (h : grp j = t) (hk : (j 0).val = k) :
    vec1 C A t (row (BitVec.ofNat 32 k)) (lane j) = out1 C A row j := by
  obtain ⟨h1, h2⟩ := vec_lane h
  unfold vec1 out1
  rw [h1, h2, hk]

/-! ## Every index is within bounds -/

theorem add_small {x k : BitVec 32} {n : ℕ} (hx : x.toNat ≤ n) (hk : n + k.toNat < 2 ^ 32) : (IntOp.addi x k).toNat = x.toNat + k.toNat := by
  show (x + k).toNat = _
  rw [BitVec.toNat_add, Nat.mod_eq_of_lt (by omega)]

theorem mul_small {x k : BitVec 32} {n : ℕ} (hx : x.toNat ≤ n) (hk : n * k.toNat < 2 ^ 32) : (IntOp.muli x k).toNat = x.toNat * k.toNat := by
  show (x * k).toNat = _
  rw [BitVec.toNat_mul, Nat.mod_eq_of_lt (lt_of_le_of_lt (Nat.mul_le_mul_right _ hx) hk)]

theorem gatOK {p : IVec S16 32} (t : Fin 112) (hp : ∀ x, (p x).toNat < 24) : GatOK p (hV t) (wV t) := by
  have ht := t.isLt
  intro a x
  have hx : (x 0).val < 16 := (x 0).isLt
  fin_cases a
  · exact hp x
  · show (hV t x).toNat < 8; rw [hV_toNat]; omega
  · show (wV t x).toNat < 224; rw [wV_toNat]; omega

theorem seg_le {C : ℕ → ℕ → BitVec 32} {b : BitVec 32} (hb : b.toNat < 8) (t : ℕ) (x : S16.Idx) :
    (segV (clsV C t) b x).toNat = ((cmW (clsV C t x)).toNat * 8 + b.toNat) * 16 + (x 0).val := by
  have hx : (x 0).val < 16 := (x 0).isLt
  have h7 := cmW_le (clsV C t x)
  show (IntOp.addi (IntOp.muli (IntOp.addi (IntOp.muli (cmW (clsV C t x)) 8#32) b) 16#32) (lanes x)).toNat = _
  have e8 : (8#32 : BitVec 32).toNat = 8 := rfl
  have e16 : (16#32 : BitVec 32).toNat = 16 := rfl
  have h1 := mul_small (k := 8#32) h7 (by rw [e8]; norm_num)
  rw [e8] at h1
  have h2 := add_small (x := IntOp.muli (cmW (clsV C t x)) 8#32) (k := b) (n := 56) (by omega) (by omega)
  have h3 := mul_small (x := IntOp.addi (IntOp.muli (cmW (clsV C t x)) 8#32) b) (k := 16#32) (n := 63) (by omega) (by rw [e16]; norm_num)
  rw [e16] at h3
  have h4 := add_small (x := IntOp.muli (IntOp.addi (IntOp.muli (cmW (clsV C t x)) 8#32) b) 16#32) (k := lanes x) (n := 1008) (by omega) (by rw [lanes_toNat]; omega)
  rw [h4, h3, h2, h1, lanes_toNat]

theorem accOK {C : ℕ → ℕ → BitVec 32} {b : BitVec 32} (hb : b.toNat < 8) (t : ℕ) {base : BitVec 32} (hbase : base.toNat ≤ 10240) : AccOK (place C b t base) := by
  intro a x
  have hx : (x 0).val < 16 := (x 0).isLt
  have h7 := cmW_le (clsV C t x)
  fin_cases a
  show (IntOp.addi base (segV (clsV C t) b x)).toNat < 11264
  have h := seg_le (C := C) hb t x
  rw [add_small (n := 10240) hbase (by omega)]; omega

theorem rowS_lt (k : BitVec 32) (hk : k.toNat < 3) (c : BitVec 32) : 0 ≤ (rowS k c).toNat ∧ (rowS k c).toNat < 24 := by
  have h7 := cmW_le c
  have e : (3#32 : BitVec 32).toNat = 3 := rfl
  have h1 := mul_small (k := 3#32) h7 (by rw [e]; norm_num)
  rw [e] at h1
  have h2 := add_small (x := IntOp.muli (cmW c) 3#32) (k := k) (n := 21) (by omega) (by omega)
  unfold rowS; omega
theorem rowXY_lt (k : BitVec 32) (hk : k.toNat < 2) (c : BitVec 32) : 0 ≤ (rowXY k c).toNat ∧ (rowXY k c).toNat < 16 := by
  have h7 := cmW_le c
  have e : (2#32 : BitVec 32).toNat = 2 := rfl
  have h1 := mul_small (k := 2#32) h7 (by rw [e]; norm_num)
  rw [e] at h1
  have h2 := add_small (x := IntOp.muli (cmW c) 2#32) (k := k) (n := 14) (by omega) (by omega)
  unfold rowXY; omega
theorem rowZ_lt (k : BitVec 32) (_ : k.toNat < 3) (c : BitVec 32) : 16 ≤ (rowZ k c).toNat ∧ (rowZ k c).toNat < 24 := by
  have h7 := cmW_le c
  have e : (16#32 : BitVec 32).toNat = 16 := rfl
  have h2 := add_small (x := 16#32) (k := cmW c) (n := 16) (by rw [e]) (by omega)
  unfold rowZ; omega

/-! ## The passes -/

variable {Ix : Type} [DecidableEq Ix] {Name : Type} [DecidableEq Name] {U : Type} [URA U] {Lvl : Type} [Preorder Lvl]
local notation "𝕄" => MT nD τ sig Ix (Elt F) Name U Lvl

variable {defs : Defs nD τ sig (Elt F) Λ₀} (𝒱 : Variants) (d : Dev nD) (i : grid0.Coords) (bd : Option 𝒱.V)

section Chan
variable {C : ℕ → ℕ → BitVec 32} {A B : ℕ → ℕ → ℕ → F .f32} {b : BitVec 32} {t : Fin 112} {a bb : Memref sig .scVector .vmem S24x8x224 .f32} {o : Memref sig .scVector .vmem S4x8x224 .f32}
  {acc : Memref sig .scVector .vmem S11264 .f32} {Ga Gb : sProp (MT nD τ sig Ix (Elt F) Name U Lvl)} {S : Finset S4x8x224.Idx} {X : Vec F S4x8x224 .f32} {G : Vec F S11264 .f32}
  {r : ℕ} {hr : ∀ a, grpOff r t a + S1x1x16.size a ≤ S4x8x224.size a} {Q : PUnit → sProp (MT nD τ sig Ix (Elt F) Name U Lvl)}

theorem wp_chanQ (hb : b.toNat < 8) (hS : rowsS r (r + 1) ⊆ S) {k base : BitVec 32} (hk : k.toNat < 4) (hbase : base.toNat ≤ 10240)
    (ha : Gathers (Lvl := Lvl) 𝒱 d i bd defs a 0 16 A Ga) (hbb : Gathers (Lvl := Lvl) 𝒱 d i bd defs bb 0 16 B Gb) :
    iprop(Ga ∗ Gb ∗ part (tid d i) o fullShare S X ∗ part (tid d i) acc fullShare Finset.univ G)
      ⊢ iprop((Ga -∗ Gb -∗ part (tid d i) o fullShare S (putV X r t (vecQ C A B t k)) -∗ part (tid d i) acc fullShare Finset.univ (addV G (place C b t base) (vecQ C A B t k)) -∗ Q ⟨⟩)
        -∗ wp frame (wpE (Ix := Ix) (Name := Name) (U := U) (Lvl := Lvl) defs 𝒱 (tid d i) bd) Set.univ (chanQ (F := F) (clsV C t) b t i a bb o acc k base r hr) Q) := by
  have hlo : ∀ x, (addi (loV (clsV C t)) (broadcast S16 k) x).toNat < 16 := fun x => by
    have h := loW_le (clsV C t x)
    show (IntOp.addi (loW (clsV C t x)) k).toNat < 16
    rw [add_small h (by omega)]; omega
  have hhi : ∀ x, (addi (hiV (clsV C t)) (broadcast S16 k) x).toNat < 16 := fun x => by
    have h := hiW_le (clsV C t x)
    show (IntOp.addi (hiW (clsV C t x)) k).toNat < 16
    rw [add_small h (by omega)]; omega
  unfold chanQ
  iintro ⟨Ha, Hb, Ho, Hacc⟩ Hk
  rw [wp_bind]
  iapply (ha _ _ _ (gatOK t fun x => (hlo x).trans (by norm_num)) (fun x => ⟨Nat.zero_le _, hlo x⟩) _) $$ Ha
  iintro Ha
  rw [wp_bind]
  iapply (hbb _ _ _ (gatOK t fun x => (hhi x).trans (by norm_num)) (fun x => ⟨Nat.zero_le _, hhi x⟩) _) $$ Hb
  iintro Hb
  have e : (select (fgV (clsV C t)) (select (isHi (clsV C t)) (fun x => B (addi (hiV (clsV C t)) (broadcast S16 k) x).toNat (hV t x).toNat (wV t x).toNat)
      (fun x => A (addi (loV (clsV C t)) (broadcast S16 k) x).toNat (hV t x).toNat (wV t x).toNat)) zeroV : Vec F S16 .f32) = vecQ C A B t k := by
    funext x
    unfold select
    beta_reduce
    rw [hV_toNat, wV_toNat]; rfl
  rw [e, wp_bind]
  iapply (wp_put 𝒱 d i bd hS) $$ Ho
  iintro Ho
  iapply (wp_add 𝒱 d i bd (accOK hb t hbase)) $$ Hacc
  iintro Hacc
  iapply Hk $$ Ha Hb Ho Hacc

theorem wp_chan1 (hb : b.toNat < 8) (hS : rowsS r (r + 1) ⊆ S) {row : BitVec 32 → BitVec 32} {p : IVec S16 32} (hp : ∀ x, p x = row (clsV C t x)) {lo hi : ℕ} (hhi : hi ≤ 24)
    (hrow : ∀ c, lo ≤ (row c).toNat ∧ (row c).toNat < hi) {base : BitVec 32} (hbase : base.toNat ≤ 10240)
    (ha : Gathers (Lvl := Lvl) 𝒱 d i bd defs a lo hi A Ga) :
    iprop(Ga ∗ part (tid d i) o fullShare S X ∗ part (tid d i) acc fullShare Finset.univ G)
      ⊢ iprop((Ga -∗ part (tid d i) o fullShare S (putV X r t (vec1 C A t row)) -∗ part (tid d i) acc fullShare Finset.univ (addV G (place C b t base) (vec1 C A t row)) -∗ Q ⟨⟩)
        -∗ wp frame (wpE (Ix := Ix) (Name := Name) (U := U) (Lvl := Lvl) defs 𝒱 (tid d i) bd) Set.univ (chan1 (F := F) (clsV C t) b t i a o acc p base r hr) Q) := by
  unfold chan1
  iintro ⟨Ha, Ho, Hacc⟩ Hk
  rw [wp_bind]
  iapply (ha _ _ _ (gatOK t fun x => by rw [hp]; exact lt_of_lt_of_le (hrow _).2 hhi) (fun x => by rw [hp]; exact hrow _) _) $$ Ha
  iintro Ha
  have e : (select (fgV (clsV C t)) (fun x => A (p x).toNat (hV t x).toNat (wV t x).toNat) zeroV : Vec F S16 .f32) = vec1 C A t row := by
    funext x
    unfold select
    beta_reduce
    rw [hV_toNat, wV_toNat, hp]; rfl
  rw [e, wp_bind]
  iapply (wp_put 𝒱 d i bd hS) $$ Ho
  iintro Ho
  iapply (wp_add 𝒱 d i bd (accOK hb t hbase)) $$ Hacc
  iintro Hacc
  iapply Hk $$ Ha Ho Hacc
end Chan

/-- A loop over the 112 groups, from what a trip does: it fills rows `r0` to `r1` of the staging buffer at its group. -/
theorem wp_loop {body : Fin passL.trips → PUnit → TP F i PUnit} {o : Memref sig .scVector .vmem S4x8x224 .f32} {acc : Memref sig .scVector .vmem S11264 .f32}
    {S : Finset S4x8x224.Idx} (r0 r1 : ℕ) (out : Vec F S4x8x224 .f32) (step : ℕ → Vec F S11264 .f32 → Vec F S11264 .f32) (R : sProp 𝕄)
    (hbody : ∀ (t : Fin passL.trips) (t' : Fin 112), t.val = t'.val → ∀ X G (Q : PUnit → sProp 𝕄),
      iprop(R ∗ part (tid d i) o fullShare S X ∗ part (tid d i) acc fullShare Finset.univ G)
        ⊢ iprop((∀ Y, ⌜∀ j, ((r0 ≤ (j 0).val ∧ (j 0).val < r1 → grp j = t → Y j = out j) ∧ (grp j ≠ t → Y j = X j))⌝
            -∗ R -∗ part (tid d i) o fullShare S Y -∗ part (tid d i) acc fullShare Finset.univ (step t G) -∗ Q ⟨⟩)
          -∗ wp frame (wpE defs 𝒱 (tid d i) bd) Set.univ (body t ⟨⟩) Q))
    {X : Vec F S4x8x224 .f32} {G : Vec F S11264 .f32} {Q : PUnit → sProp 𝕄} :
    iprop(R ∗ part (tid d i) o fullShare S X ∗ part (tid d i) acc fullShare Finset.univ G)
      ⊢ iprop((∀ Y, ⌜∀ j, r0 ≤ (j 0).val ∧ (j 0).val < r1 → Y j = out j⌝
            -∗ R -∗ part (tid d i) o fullShare S Y -∗ part (tid d i) acc fullShare Finset.univ (steps step 112 G) -∗ Q ⟨⟩)
        -∗ wp frame (wpE defs 𝒱 (tid d i) bd) Set.univ (Scf.Loop.for passL passL_ok PUnit.unit body) Q) := by
  have hI := Scf.wp_for (Idealize.ShloMosaic.frame) (wpE (Ix := Ix) (Name := Name) (U := U) (Lvl := Lvl) defs 𝒱 (tid d i) bd) Set.univ passL.lb passL.ub passL.st passL_ok PUnit.unit body
    (fun n _ => iprop(∃ Y, ⌜∀ j, r0 ≤ (j 0).val ∧ (j 0).val < r1 → grp j < n → Y j = out j⌝
            ∗ R ∗ part (tid d i) o fullShare S Y ∗ part (tid d i) acc fullShare Finset.univ (steps step n G))) (by
    intro t _
    iintro ⟨%Y, %hY, HR, Ho, Hacc⟩
    iapply (hbody t ⟨t.val, lt_of_lt_of_eq t.isLt passL_trips⟩ rfl Y _ _) $$ [HR Ho Hacc]
    · isplitl [HR]; · iexact HR
      isplitl [Ho] <;> iassumption
    iintro %Z %hZ HR Ho Hacc
    iexists Z
    isplitr
    · ipureintro
      intro j hj hg
      by_cases h : grp j = t.val
      · exact (hZ j).1 hj h
      · rw [(hZ j).2 h]
        exact hY j hj (by omega)
    isplitl [HR]; · iexact HR
    isplitl [Ho]; · iexact Ho
    iexact Hacc) (Q := Q)
  iintro ⟨HR, Ho, Hacc⟩ Hk
  iapply hI
  isplitl [HR Ho Hacc]
  · iexists X
    isplitr
    · ipureintro; intro j _ h; exact absurd h (Nat.not_lt_zero _)
    isplitl [HR]; · iexact HR
    isplitl [Ho]; · iexact Ho
    iexact Hacc
  · iintro %_ ⟨%Y, %hY, HR, Ho, Hacc⟩
    iapply Hk $$ %Y [] HR Ho [Hacc]
    · ipureintro
      intro j hj
      refine hY j hj ?_
      have h1 : (j 1).val < 8 := (j 1).isLt
      have h2 : (j 2).val < 224 := (j 2).isLt
      show grp j < passL.trips
      rw [passL_trips]
      unfold grp; omega
    · rw [show Scf.trips passL.lb passL.ub passL.st = 112 from passL_trips]
      iexact Hacc

section
variable {A : Args} {C : ℕ → ℕ → BitVec 32} {Xa Xb : ℕ → ℕ → ℕ → F .f32} {Ga Gb : sProp (MT nD τ sig Ix (Elt F) Name U Lvl)} {q : PosShare TreeShare} {jt : Fin 7}
  {X : Vec F S4x8x224 .f32} {G : Vec F S11264 .f32} {Q : PUnit → sProp (MT nD τ sig Ix (Elt F) Name U Lvl)}

/-- The quaternion pass. -/
theorem wp_loopQ (hb : (imgW i jt).toNat < 8) (ha : Gathers (Lvl := Lvl) 𝒱 d i bd defs A.av 0 16 Xa Ga) (hbb : Gathers (Lvl := Lvl) 𝒱 d i bd defs A.bv 0 16 Xb Gb) :
    iprop((Ga ∗ Gb ∗ part (tid d i) A.cmv q (rowsS (par jt) (par jt + 1)) (on3 fun _ => C)) ∗ part (tid d i) A.ov fullShare Finset.univ X ∗ part (tid d i) A.acc fullShare Finset.univ G)
      ⊢ iprop((∀ Y, ⌜∀ j : S4x8x224.Idx, 0 ≤ (j 0).val ∧ (j 0).val < 4 → Y j = outQ C Xa Xb j⌝
            -∗ (Ga ∗ Gb ∗ part (tid d i) A.cmv q (rowsS (par jt) (par jt + 1)) (on3 fun _ => C)) -∗ part (tid d i) A.ov fullShare Finset.univ Y
            -∗ part (tid d i) A.acc fullShare Finset.univ (steps (accQ C Xa Xb (imgW i jt)) 112 G) -∗ Q ⟨⟩)
        -∗ wp frame (wpE (Ix := Ix) (Name := Name) (U := U) (Lvl := Lvl) defs 𝒱 (tid d i) bd) Set.univ (loopQ F i A jt) Q) := by
  refine wp_loop 𝒱 d i bd 0 4 (outQ C Xa Xb) (accQ C Xa Xb (imgW i jt)) _ (fun t t' ht X G Q => ?_)
  obtain ⟨t, ht1⟩ := t
  obtain ⟨t', ht2⟩ := t'
  obtain rfl : t = t' := ht
  unfold passQ
  iintro ⟨⟨Ha, Hb, Hc⟩, Ho, Hacc⟩ Hk
  rw [wp_bind]
  iapply (wp_cls 𝒱 d i bd (t := ⟨t, ht2⟩)) $$ Hc
  iintro Hc
  rw [wp_bind]
  iapply (wp_chanQ 𝒱 d i bd (t := ⟨t, ht2⟩) hb (Finset.subset_univ _) (by decide) (by decide) ha hbb) $$ [Ha Hb Ho Hacc]
  · isplitl [Ha]; · iexact Ha
    isplitl [Hb]; · iexact Hb
    isplitl [Ho]; · iexact Ho
    iexact Hacc
  iintro Ha Hb Ho Hacc
  rw [wp_bind]
  iapply (wp_chanQ 𝒱 d i bd (t := ⟨t, ht2⟩) hb (Finset.subset_univ _) (by decide) (by decide) ha hbb) $$ [Ha Hb Ho Hacc]
  · isplitl [Ha]; · iexact Ha
    isplitl [Hb]; · iexact Hb
    isplitl [Ho]; · iexact Ho
    iexact Hacc
  iintro Ha Hb Ho Hacc
  rw [wp_bind]
  iapply (wp_chanQ 𝒱 d i bd (t := ⟨t, ht2⟩) hb (Finset.subset_univ _) (by decide) (by decide) ha hbb) $$ [Ha Hb Ho Hacc]
  · isplitl [Ha]; · iexact Ha
    isplitl [Hb]; · iexact Hb
    isplitl [Ho]; · iexact Ho
    iexact Hacc
  iintro Ha Hb Ho Hacc
  rw [wp_bind]
  iapply (wp_chanQ 𝒱 d i bd (t := ⟨t, ht2⟩) hb (Finset.subset_univ _) (by decide) (by decide) ha hbb) $$ [Ha Hb Ho Hacc]
  · isplitl [Ha]; · iexact Ha
    isplitl [Hb]; · iexact Hb
    isplitl [Ho]; · iexact Ho
    iexact Hacc
  iintro Ha Hb Ho Hacc
  rw [wp_bind]
  iapply (wp_add 𝒱 d i bd (accOK hb t (C := C) (by decide))) $$ Hacc
  iintro Hacc
  rw [show (pure PUnit.unit : TP F i PUnit) = .ret ⟨⟩ from rfl, wp_ret]
  imodintro
  iapply Hk $$ %_ [] [Ha Hb Hc] Ho [Hacc]
  · ipureintro
    intro j
    refine ⟨fun hj hg => ?_, fun hg => ?_⟩
    · have h4 := hj.2
      have : (j 0).val = 0 ∨ (j 0).val = 1 ∨ (j 0).val = 2 ∨ (j 0).val = 3 := by omega
      unfold putV
      rcases this with h | h | h | h <;> simp [h, hg] <;> exact vecQ_lane C Xa Xb hg h
    · unfold putV
      have hg' : ¬ grp j = t := hg
      simp [hg']
  · isplitl [Ha]; · iexact Ha
    isplitl [Hb]; · iexact Hb
    iexact Hc
  · iexact Hacc

/-- The scale pass. -/
theorem wp_loopS (hb : (imgW i jt).toNat < 8) (ha : Gathers (Lvl := Lvl) 𝒱 d i bd defs A.bv 0 24 Xa Ga) :
    iprop((Ga ∗ part (tid d i) A.cmv q (rowsS (par jt) (par jt + 1)) (on3 fun _ => C)) ∗ part (tid d i) A.ov fullShare Finset.univ X ∗ part (tid d i) A.acc fullShare Finset.univ G)
      ⊢ iprop((∀ Y, ⌜∀ j : S4x8x224.Idx, 0 ≤ (j 0).val ∧ (j 0).val < 3 → Y j = out1 C Xa rowS j⌝
            -∗ (Ga ∗ part (tid d i) A.cmv q (rowsS (par jt) (par jt + 1)) (on3 fun _ => C)) -∗ part (tid d i) A.ov fullShare Finset.univ Y
            -∗ part (tid d i) A.acc fullShare Finset.univ (steps (accS C Xa (imgW i jt)) 112 G) -∗ Q ⟨⟩)
        -∗ wp frame (wpE (Ix := Ix) (Name := Name) (U := U) (Lvl := Lvl) defs 𝒱 (tid d i) bd) Set.univ (loopS F i A jt) Q) := by
  refine wp_loop 𝒱 d i bd 0 3 (out1 C Xa rowS) (accS C Xa (imgW i jt)) _ (fun t t' ht X G Q => ?_)
  obtain ⟨t, ht1⟩ := t
  obtain ⟨t', ht2⟩ := t'
  obtain rfl : t = t' := ht
  unfold passS
  iintro ⟨⟨Ha, Hc⟩, Ho, Hacc⟩ Hk
  rw [wp_bind]
  iapply (wp_cls 𝒱 d i bd (t := ⟨t, ht2⟩)) $$ Hc
  iintro Hc
  rw [wp_bind]
  iapply (wp_chan1 𝒱 d i bd (t := ⟨t, ht2⟩) hb (Finset.subset_univ _) (row := rowS 0#32) (fun _ => rfl) (by decide) (rowS_lt 0#32 (by decide)) (by decide) ha) $$ [Ha Ho Hacc]
  · isplitl [Ha]; · iexact Ha
    isplitl [Ho]; · iexact Ho
    iexact Hacc
  iintro Ha Ho Hacc
  rw [wp_bind]
  iapply (wp_chan1 𝒱 d i bd (t := ⟨t, ht2⟩) hb (Finset.subset_univ _) (row := rowS 1#32) (fun _ => rfl) (by decide) (rowS_lt 1#32 (by decide)) (by decide) ha) $$ [Ha Ho Hacc]
  · isplitl [Ha]; · iexact Ha
    isplitl [Ho]; · iexact Ho
    iexact Hacc
  iintro Ha Ho Hacc
  rw [wp_bind]
  iapply (wp_chan1 𝒱 d i bd (t := ⟨t, ht2⟩) hb (Finset.subset_univ _) (row := rowS 2#32) (fun _ => rfl) (by decide) (rowS_lt 2#32 (by decide)) (by decide) ha) $$ [Ha Ho Hacc]
  · isplitl [Ha]; · iexact Ha
    isplitl [Ho]; · iexact Ho
    iexact Hacc
  iintro Ha Ho Hacc
  rw [show (pure PUnit.unit : TP F i PUnit) = .ret ⟨⟩ from rfl, wp_ret]
  imodintro
  iapply Hk $$ %_ [] [Ha Hc] Ho [Hacc]
  · ipureintro
    intro j
    refine ⟨fun hj hg => ?_, fun hg => ?_⟩
    · have h4 := hj.2
      have : (j 0).val = 0 ∨ (j 0).val = 1 ∨ (j 0).val = 2 := by omega
      unfold putV
      rcases this with h | h | h <;> simp [h, hg] <;> exact vec1_lane C Xa rowS hg h
    · unfold putV
      have hg' : ¬ grp j = t := hg
      simp [hg']
  · isplitl [Ha]; · iexact Ha
    iexact Hc
  · iexact Hacc

/-- The pass of the plane offsets. -/
theorem wp_loopXY (hb : (imgW i jt).toNat < 8) (ha : Gathers (Lvl := Lvl) 𝒱 d i bd defs A.av 0 16 Xa Ga) :
    iprop((Ga ∗ part (tid d i) A.cmv q (rowsS (par jt) (par jt + 1)) (on3 fun _ => C)) ∗ part (tid d i) A.ov fullShare Finset.univ X ∗ part (tid d i) A.acc fullShare Finset.univ G)
      ⊢ iprop((∀ Y, ⌜∀ j : S4x8x224.Idx, 0 ≤ (j 0).val ∧ (j 0).val < 2 → Y j = out1 C Xa rowXY j⌝
            -∗ (Ga ∗ part (tid d i) A.cmv q (rowsS (par jt) (par jt + 1)) (on3 fun _ => C)) -∗ part (tid d i) A.ov fullShare Finset.univ Y
            -∗ part (tid d i) A.acc fullShare Finset.univ (steps (accXY C Xa (imgW i jt)) 112 G) -∗ Q ⟨⟩)
        -∗ wp frame (wpE (Ix := Ix) (Name := Name) (U := U) (Lvl := Lvl) defs 𝒱 (tid d i) bd) Set.univ (loopXY F i A jt) Q) := by
  refine wp_loop 𝒱 d i bd 0 2 (out1 C Xa rowXY) (accXY C Xa (imgW i jt)) _ (fun t t' ht X G Q => ?_)
  obtain ⟨t, ht1⟩ := t
  obtain ⟨t', ht2⟩ := t'
  obtain rfl : t = t' := ht
  unfold passXY
  iintro ⟨⟨Ha, Hc⟩, Ho, Hacc⟩ Hk
  rw [wp_bind]
  iapply (wp_cls 𝒱 d i bd (t := ⟨t, ht2⟩)) $$ Hc
  iintro Hc
  rw [wp_bind]
  iapply (wp_chan1 𝒱 d i bd (t := ⟨t, ht2⟩) hb (Finset.subset_univ _) (row := rowXY 0#32) (fun _ => rfl) (by decide) (rowXY_lt 0#32 (by decide)) (by decide) ha) $$ [Ha Ho Hacc]
  · isplitl [Ha]; · iexact Ha
    isplitl [Ho]; · iexact Ho
    iexact Hacc
  iintro Ha Ho Hacc
  rw [wp_bind]
  iapply (wp_chan1 𝒱 d i bd (t := ⟨t, ht2⟩) hb (Finset.subset_univ _) (row := rowXY 1#32) (fun _ => rfl) (by decide) (rowXY_lt 1#32 (by decide)) (by decide) ha) $$ [Ha Ho Hacc]
  · isplitl [Ha]; · iexact Ha
    isplitl [Ho]; · iexact Ho
    iexact Hacc
  iintro Ha Ho Hacc
  rw [show (pure PUnit.unit : TP F i PUnit) = .ret ⟨⟩ from rfl, wp_ret]
  imodintro
  iapply Hk $$ %_ [] [Ha Hc] Ho [Hacc]
  · ipureintro
    intro j
    refine ⟨fun hj hg => ?_, fun hg => ?_⟩
    · have h4 := hj.2
      have : (j 0).val = 0 ∨ (j 0).val = 1 := by omega
      unfold putV
      rcases this with h | h <;> simp [h, hg] <;> exact vec1_lane C Xa rowXY hg h
    · unfold putV
      have hg' : ¬ grp j = t := hg
      simp [hg']
  · isplitl [Ha]; · iexact Ha
    iexact Hc
  · iexact Hacc

/-- The depth pass, which fills the third plane alone. -/
theorem wp_loopZ (hb : (imgW i jt).toNat < 8) (ha : Gathers (Lvl := Lvl) 𝒱 d i bd defs A.av 16 24 Xa Ga) :
    iprop((Ga ∗ part (tid d i) A.cmv q (rowsS (par jt) (par jt + 1)) (on3 fun _ => C)) ∗ part (tid d i) A.ov fullShare (rowsS 2 4) X ∗ part (tid d i) A.acc fullShare Finset.univ G)
      ⊢ iprop((∀ Y, ⌜∀ j : S4x8x224.Idx, 2 ≤ (j 0).val ∧ (j 0).val < 3 → Y j = out1 C Xa rowZ j⌝
            -∗ (Ga ∗ part (tid d i) A.cmv q (rowsS (par jt) (par jt + 1)) (on3 fun _ => C)) -∗ part (tid d i) A.ov fullShare (rowsS 2 4) Y
            -∗ part (tid d i) A.acc fullShare Finset.univ (steps (accZ C Xa (imgW i jt)) 112 G) -∗ Q ⟨⟩)
        -∗ wp frame (wpE (Ix := Ix) (Name := Name) (U := U) (Lvl := Lvl) defs 𝒱 (tid d i) bd) Set.univ (loopZ F i A jt) Q) := by
  refine wp_loop 𝒱 d i bd 2 3 (out1 C Xa rowZ) (accZ C Xa (imgW i jt)) _ (fun t t' ht X G Q => ?_)
  obtain ⟨t, ht1⟩ := t
  obtain ⟨t', ht2⟩ := t'
  obtain rfl : t = t' := ht
  unfold passZ
  iintro ⟨⟨Ha, Hc⟩, Ho, Hacc⟩ Hk
  rw [wp_bind]
  iapply (wp_cls 𝒱 d i bd (t := ⟨t, ht2⟩)) $$ Hc
  iintro Hc
  rw [wp_bind]
  iapply (wp_chan1 𝒱 d i bd (t := ⟨t, ht2⟩) hb (fun j hj => mem_rowsS.mpr ⟨(mem_rowsS.mp hj).1, lt_of_lt_of_le (mem_rowsS.mp hj).2 (show 2 + 1 ≤ 4 by decide)⟩) (row := rowZ 2#32) (fun _ => rfl) (by decide) (rowZ_lt 2#32 (by decide)) (by decide) ha) $$ [Ha Ho Hacc]
  · isplitl [Ha]; · iexact Ha
    isplitl [Ho]; · iexact Ho
    iexact Hacc
  iintro Ha Ho Hacc
  rw [show (pure PUnit.unit : TP F i PUnit) = .ret ⟨⟩ from rfl, wp_ret]
  imodintro
  iapply Hk $$ %_ [] [Ha Hc] Ho [Hacc]
  · ipureintro
    intro j
    refine ⟨fun hj hg => ?_, fun hg => ?_⟩
    · have h4 := hj.2
      have h : (j 0).val = 2 := by omega
      unfold putV
      simp only [h, hg, and_self, if_true]
      exact vec1_lane C Xa rowZ hg h
    · unfold putV
      have hg' : ¬ grp j = t := hg
      simp [hg']
  · isplitl [Ha]; · iexact Ha
    iexact Hc
  · iexact Hacc
end

end Cert.Proof.KernelIdeal
end
-- ==== Proof.Ideal.Places.lean ====
module

public import proofs.«01_k».proof.Proof.Ideal.Loops
public import proofs.«01_k».proof.Proof.Copy

/-!
Where the subcore's copies read and write: subcore `s` of core `c` has the number `2 s + c`, and owns 56 rows of one image, in
seven blocks of eight.
-/

@[expose] public section

noncomputable section

namespace Cert.Proof.KernelIdeal

open Cert.KernelIdeal Cert.KernelIdeal.Gen
open Idealize.ShloMosaic Idealize.ShloMosaic.Transfers
open Idealize.SL.RA

/-- The subcore's number, its image, and the first row of its block `n`. -/
def wid (i : grid0.Coords) : ℕ := (i 1).val * 2 + (i 0).val
def imgN (i : grid0.Coords) : ℕ := wid i / 4
def rowN (i : grid0.Coords) (n : ℕ) : ℕ := (wid i % 4 * 7 + n) * 8

theorem off2 : ∀ i, ∀ jt : Fin 7, k0_off2 i (jw jt) = ![imgN i, rowN i jt.val, 0] := by decide +kernel
theorem off3 : ∀ i, ∀ jt : Fin 7, k0_off3 i (jw jt) = ![imgN i, 0, rowN i jt.val, 0] := by decide +kernel
theorem off4 : ∀ i, ∀ jt : Fin 7, k0_off4 i (jw jt) = ![imgN i, 16, rowN i jt.val, 0] := by decide +kernel
theorem off5 : ∀ i, ∀ jt : Fin 7, k0_off5 i (jw jt) = ![imgN i, 0, rowN i jt.val, 0] := by decide +kernel
theorem off11 : ∀ i, ∀ jt : Fin 7, k0_off11 i (jw jt) = ![imgN i, 0, rowN i jt.val, 0] := by decide +kernel
theorem off12 : ∀ i, ∀ jt : Fin 7, k0_off12 i (jw jt) = ![imgN i, 0, rowN i jt.val, 0] := by decide +kernel
theorem off13 : ∀ i, ∀ jt : Fin 7, k0_off13 i (jw jt) = ![imgN i, 0, rowN i jt.val, 0] := by decide +kernel
theorem off18 : ∀ i, ∀ jt : Fin 7, k0_off18 i (jw jt) = ![imgN i, 0, rowN i jt.val, 0] := by decide +kernel
theorem off22 : ∀ i, ∀ jt : Fin 7, k0_off22 i (jw jt) = ![imgN i, 0, rowN i jt.val, 0] := by decide +kernel
theorem off109 : ∀ i, k0_off109 i = ![wid i * 11264] := by decide +kernel
theorem off1 : ∀ t, k0_off1 t = ![t.val * 16] := by decide +kernel
theorem imgW_eq : ∀ i, ∀ jt : Fin 7, imgW i jt = BitVec.ofNat 32 (imgN i) := by decide +kernel
theorem wid_lt : ∀ i, wid i < 32 := by decide +kernel

/-! ## Coordinates -/

theorem coord4 {s : Fin 4 → ℕ} {d : Fin 3 → ℕ} {off : Fin 4 → ℕ} {a b c e : ℕ} (ho : off = ![a, b, c, e]) (inb : ∀ a, off a + Matrix.vecCons 1 d a ≤ s a)
    (h : (⟨3, d⟩ : Shape).numel = (⟨4, Matrix.vecCons 1 d⟩ : Shape).numel) (j : (⟨3, d⟩ : Shape).Idx) :
    ((((Rect.unit (s := ⟨4, s⟩) off (Matrix.vecCons 1 d) inb).emb (Shape.reshapeEquiv h j)) 0 : ℕ) = a
      ∧ (((Rect.unit (s := ⟨4, s⟩) off (Matrix.vecCons 1 d) inb).emb (Shape.reshapeEquiv h j)) 1 : ℕ) = b + (j 0).val
      ∧ (((Rect.unit (s := ⟨4, s⟩) off (Matrix.vecCons 1 d) inb).emb (Shape.reshapeEquiv h j)) 2 : ℕ) = c + (j 1).val
      ∧ (((Rect.unit (s := ⟨4, s⟩) off (Matrix.vecCons 1 d) inb).emb (Shape.reshapeEquiv h j)) 3 : ℕ) = e + (j 2).val) := by
  subst ho
  rw [Shape.reshapeEquiv_cons_one]
  refine ⟨?_, ?_, ?_, ?_⟩
  · show a + 1 * 0 = a; omega
  · show b + 1 * (j 0).val = _; omega
  · show c + 1 * (j 1).val = _; omega
  · show e + 1 * (j 2).val = _; omega

theorem coord3 {s : Fin 3 → ℕ} {d : Fin 2 → ℕ} {off : Fin 3 → ℕ} {a b c : ℕ} (ho : off = ![a, b, c]) (inb : ∀ a, off a + Matrix.vecCons 1 d a ≤ s a)
    (h : (⟨2, d⟩ : Shape).numel = (⟨3, Matrix.vecCons 1 d⟩ : Shape).numel) (j : (⟨2, d⟩ : Shape).Idx) :
    ((((Rect.unit (s := ⟨3, s⟩) off (Matrix.vecCons 1 d) inb).emb (Shape.reshapeEquiv h j)) 0 : ℕ) = a
      ∧ (((Rect.unit (s := ⟨3, s⟩) off (Matrix.vecCons 1 d) inb).emb (Shape.reshapeEquiv h j)) 1 : ℕ) = b + (j 0).val
      ∧ (((Rect.unit (s := ⟨3, s⟩) off (Matrix.vecCons 1 d) inb).emb (Shape.reshapeEquiv h j)) 2 : ℕ) = c + (j 1).val) := by
  subst ho
  rw [Shape.reshapeEquiv_cons_one]
  refine ⟨?_, ?_, ?_⟩
  · show a + 1 * 0 = a; omega
  · show b + 1 * (j 0).val = _; omega
  · show c + 1 * (j 1).val = _; omega

theorem coordU {s d : Fin 3 → ℕ} {a b c : ℕ} (inb : ∀ k, (![a, b, c] : Fin 3 → ℕ) k + d k ≤ s k) (j : (⟨3, d⟩ : Shape).Idx) :
    ((((Rect.unit (s := ⟨3, s⟩) ![a, b, c] d inb).emb j) 0 : ℕ) = a + (j 0).val
      ∧ (((Rect.unit (s := ⟨3, s⟩) ![a, b, c] d inb).emb j) 1 : ℕ) = b + (j 1).val
      ∧ (((Rect.unit (s := ⟨3, s⟩) ![a, b, c] d inb).emb j) 2 : ℕ) = c + (j 2).val) := by
  refine ⟨?_, ?_, ?_⟩
  · show a + 1 * (j 0).val = _; omega
  · show b + 1 * (j 1).val = _; omega
  · show c + 1 * (j 2).val = _; omega

/-- Whole planes of a staging buffer. -/
theorem planes {s d : Fin 3 → ℕ} {lo hi : ℕ} (inb : ∀ k, (![lo, 0, 0] : Fin 3 → ℕ) k + d k ≤ s k) (h0 : lo + d 0 = hi) (h1 : d 1 = s 1) (h2 : d 2 = s 2) :
    (Rect.unit (s := ⟨3, s⟩) ![lo, 0, 0] d inb).set = rowsS lo hi := by
  ext x
  rw [Rect.mem_set_unit, mem_rowsS]
  constructor
  · intro h
    have := h 0
    exact ⟨this.1, h0 ▸ this.2⟩
  · rintro ⟨ha, hb⟩ k
    have e1 : (x 1).val < s 1 := (x 1).isLt
    have e2 : (x 2).val < s 2 := (x 2).isLt
    match k with
    | ⟨0, _⟩ => exact ⟨ha, by show (x 0).val < lo + d 0; omega⟩
    | ⟨1, _⟩ => exact ⟨Nat.zero_le _, by show (x 1).val < 0 + d 1; omega⟩
    | ⟨2, _⟩ => exact ⟨Nat.zero_le _, by show (x 2).val < 0 + d 2; omega⟩

/-- A block's rows of an array of images. -/
theorem mem_block4 {s : Fin 4 → ℕ} {off : Fin 4 → ℕ} {a c n : ℕ} (ho : off = ![a, 0, c, 0]) (hs : s 1 = n) (h3 : s 3 = 224)
    (inb : ∀ k, off k + (![1, n, 8, 224] : Fin 4 → ℕ) k ≤ s k) (x : (⟨4, s⟩ : Shape).Idx) :
    x ∈ (Rect.unit (s := ⟨4, s⟩) off ![1, n, 8, 224] inb).set ↔ (x 0).val = a ∧ c ≤ (x 2).val ∧ (x 2).val < c + 8 := by
  subst ho
  rw [Rect.mem_set_unit]
  constructor
  · intro h
    have a0 := h 0
    have a2 := h 2
    exact ⟨by have h1 : a ≤ (x 0).val := a0.1; have h2 : (x 0).val < a + 1 := a0.2; omega, a2.1, a2.2⟩
  · rintro ⟨h0, h1, h2⟩ k
    have e1 : (x 1).val < s 1 := (x 1).isLt
    have e2 : (x 3).val < s 3 := (x 3).isLt
    match k with
    | ⟨0, _⟩ => exact ⟨le_of_eq h0.symm, by show (x 0).val < a + 1; omega⟩
    | ⟨1, _⟩ => exact ⟨Nat.zero_le _, by show (x 1).val < 0 + n; omega⟩
    | ⟨2, _⟩ => exact ⟨h1, h2⟩
    | ⟨3, _⟩ => exact ⟨Nat.zero_le _, by show (x 3).val < 0 + 224; omega⟩

theorem mem_block3 {s : Fin 3 → ℕ} {off : Fin 3 → ℕ} {a c : ℕ} (ho : off = ![a, c, 0]) (h3 : s 2 = 224)
    (inb : ∀ k, off k + (![1, 8, 224] : Fin 3 → ℕ) k ≤ s k) (x : (⟨3, s⟩ : Shape).Idx) :
    x ∈ (Rect.unit (s := ⟨3, s⟩) off ![1, 8, 224] inb).set ↔ (x 0).val = a ∧ c ≤ (x 1).val ∧ (x 1).val < c + 8 := by
  subst ho
  rw [Rect.mem_set_unit]
  constructor
  · intro h
    have a0 := h 0
    have a2 := h 1
    exact ⟨by have h1 : a ≤ (x 0).val := a0.1; have h2 : (x 0).val < a + 1 := a0.2; omega, a2.1, a2.2⟩
  · rintro ⟨h0, h1, h2⟩ k
    have e2 : (x 2).val < s 2 := (x 2).isLt
    match k with
    | ⟨0, _⟩ => exact ⟨le_of_eq h0.symm, by show (x 0).val < a + 1; omega⟩
    | ⟨1, _⟩ => exact ⟨h1, h2⟩
    | ⟨2, _⟩ => exact ⟨Nat.zero_le _, by show (x 2).val < 0 + 224; omega⟩

/-- The rows that the subcore owns, of an array of images whose rows are counted by axis `k`. -/
def own {s : Shape} (i : grid0.Coords) (a k : Fin s.rank) : Finset s.Idx :=
  Finset.univ.filter fun x => (x a).val = imgN i ∧ rowN i 0 ≤ (x k).val ∧ (x k).val < rowN i 7

theorem mem_own {s : Shape} {i : grid0.Coords} {a k : Fin s.rank} {x : s.Idx} :
    x ∈ own i a k ↔ (x a).val = imgN i ∧ rowN i 0 ≤ (x k).val ∧ (x k).val < rowN i 7 := by
  unfold own; rw [Finset.mem_filter]; exact and_iff_right (Finset.mem_univ x)

end Cert.Proof.KernelIdeal
end
-- ==== Proof.Ideal.Copies.lean ====
module

public import proofs.«01_k».proof.Proof.Ideal.Places

/-!
The subcore's copies, with the contents that each leaves.
-/

@[expose] public section

noncomputable section

namespace Cert.Proof.KernelIdeal

open Cert.KernelIdeal Cert.KernelIdeal.Gen
open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

variable {F : FTy → Type} [FloatOps F]

/-- The five arrays, as functions of the natural coordinates. -/
structure Ins (F : FTy → Type) where
  C : ℕ → ℕ → ℕ → BitVec 32
  Q : ℕ → ℕ → ℕ → ℕ → F .f32
  S : ℕ → ℕ → ℕ → ℕ → F .f32
  XY : ℕ → ℕ → ℕ → ℕ → F .f32
  Z : ℕ → ℕ → ℕ → ℕ → F .f32

def on4 {α : Type} {s : Fin 4 → ℕ} (A : ℕ → ℕ → ℕ → ℕ → α) : (⟨4, s⟩ : Shape).Idx → α := fun j => A (j 0).val (j 1).val (j 2).val (j 3).val

section
variable (I : Ins F)

/-- What the four arrays of looked-up values end at. -/
def valsQ : Vec F S8x4x224x224 .f32 := fun j =>
  valQ (I.C (j 0).val (j 2).val (j 3).val) (fun p => I.Q (j 0).val p (j 2).val (j 3).val) (fun p => I.Q (j 0).val (16 + p) (j 2).val (j 3).val) (BitVec.ofNat 32 (j 1).val)
def valsS : Vec F S8x3x224x224 .f32 := fun j =>
  val1 (I.C (j 0).val (j 2).val (j 3).val) (fun p => I.S (j 0).val p (j 2).val (j 3).val) (rowS (BitVec.ofNat 32 (j 1).val) (I.C (j 0).val (j 2).val (j 3).val))
def valsXY : Vec F S8x2x224x224 .f32 := fun j =>
  val1 (I.C (j 0).val (j 2).val (j 3).val) (fun p => I.XY (j 0).val p (j 2).val (j 3).val) (rowXY (BitVec.ofNat 32 (j 1).val) (I.C (j 0).val (j 2).val (j 3).val))
def valsZ : Vec F S8x224x224 .f32 := fun j =>
  val1 (I.C (j 0).val (j 1).val (j 2).val) (fun p => I.Z (j 0).val (p - 16) (j 1).val (j 2).val) (rowZ 2#32 (I.C (j 0).val (j 1).val (j 2).val))

variable (i : grid0.Coords) (n : ℕ)

/-- Block `n`'s part of each array, as it lies in the subcore's buffers. -/
def blkC : ℕ → ℕ → BitVec 32 := fun h w => I.C (imgN i) (rowN i n + h) w
def blkQa : ℕ → ℕ → ℕ → F .f32 := fun r h w => I.Q (imgN i) r (rowN i n + h) w
def blkQb : ℕ → ℕ → ℕ → F .f32 := fun r h w => I.Q (imgN i) (16 + r) (rowN i n + h) w
def blkS : ℕ → ℕ → ℕ → F .f32 := fun r h w => I.S (imgN i) r (rowN i n + h) w
def blkXY : ℕ → ℕ → ℕ → F .f32 := fun r h w => I.XY (imgN i) r (rowN i n + h) w
def blkZ : ℕ → ℕ → ℕ → F .f32 := fun r h w => I.Z (imgN i) (r - 16) (rowN i n + h) w

/-- The accumulator after a block, and after the first `n`. -/
def accBlk (G : Vec F S11264 .f32) : Vec F S11264 .f32 :=
  steps (accZ (blkC I i n) (blkZ I i n) (BitVec.ofNat 32 (imgN i))) 112
    (steps (accXY (blkC I i n) (blkXY I i n) (BitVec.ofNat 32 (imgN i))) 112
      (steps (accS (blkC I i n) (blkS I i n) (BitVec.ofNat 32 (imgN i))) 112
        (steps (accQ (blkC I i n) (blkQa I i n) (blkQb I i n) (BitVec.ofNat 32 (imgN i))) 112 G)))
def accAt : Vec F S11264 .f32 := steps (accBlk I i) n fun _ => Scalar.ofBits .f32 0x00000000#32

end

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid0.Coords) (bd : Option 𝒱.V)
variable (EC : UEmb Counters (MT nD τ sig Ix (Elt F) Name U Lvl)) [EC.LandsIn (upEmb : UEmb _ (MT nD τ sig Ix (Elt F) Name U Lvl))]
variable (ι : Ix) (A : Args) (I : Ins F) (jt : Fin 7) {q : PosShare TreeShare} {Q : PUnit → sProp (MT nD τ sig Ix (Elt F) Name U Lvl)}

local notation "𝕄" => MT nD τ sig Ix (Elt F) Name U Lvl

/-! ## The ends of the copies in the subcore's own buffers -/

theorem subLo (m : Memref sig .scVector .vmem S24x8x224 .f32) : Sub nD τ sig Ix (Elt F) Name U Lvl (tid d i)
    (m.slice (Rect.unit (s := S24x8x224) ![0, 0, 0] S16x8x224.size inb_S24x8x224_S16x8x224_0_0_0) (fun _ => rfl)) m
    (fun j => (Rect.unit (s := S24x8x224) ![0, 0, 0] S16x8x224.size inb_S24x8x224_S16x8x224_0_0_0).emb j) (rowsS 0 16) := by
  have h := Sub.slice (nD := nD) (τ := τ) (Ix := Ix) (Val := Elt F) (Name := Name) (U := U) (Lvl := Lvl) (c := tid d i) (m := m)
    (Rect.unit (s := S24x8x224) ![0, 0, 0] S16x8x224.size inb_S24x8x224_S16x8x224_0_0_0) (fun _ => rfl)
  exact (planes (s := S24x8x224.size) (hi := 16) inb_S24x8x224_S16x8x224_0_0_0 rfl rfl rfl) ▸ h

theorem subHi (m : Memref sig .scVector .vmem S24x8x224 .f32) : Sub nD τ sig Ix (Elt F) Name U Lvl (tid d i)
    (m.slice (Rect.unit (s := S24x8x224) ![16, 0, 0] S8x8x224.size inb_S24x8x224_S8x8x224_16_0_0) (fun _ => rfl)) m
    (fun j => (Rect.unit (s := S24x8x224) ![16, 0, 0] S8x8x224.size inb_S24x8x224_S8x8x224_16_0_0).emb j) (rowsS 16 24) := by
  have h := Sub.slice (nD := nD) (τ := τ) (Ix := Ix) (Val := Elt F) (Name := Name) (U := U) (Lvl := Lvl) (c := tid d i) (m := m)
    (Rect.unit (s := S24x8x224) ![16, 0, 0] S8x8x224.size inb_S24x8x224_S8x8x224_16_0_0) (fun _ => rfl)
  exact (planes (s := S24x8x224.size) (hi := 24) inb_S24x8x224_S8x8x224_16_0_0 rfl rfl rfl) ▸ h

theorem subSlot : Sub nD τ sig Ix (Elt F) Name U Lvl (tid d i) (cmDst A (par jt)) A.cmv
    (fun j => (Rect.unit (s := S2x8x224) ![(par jt).val, 0, 0] S1x8x224.size (inb_cmv (par jt))).emb (Shape.reshapeEquiv squeezes_S1x8x224_S8x224.numel_eq j))
    (rowsS (jt.val % 2) (jt.val % 2 + 1)) := by
  have h := Sub.squeeze (nD := nD) (τ := τ) (Ix := Ix) (Val := Elt F) (Name := Name) (U := U) (Lvl := Lvl) (c := tid d i) (m := A.cmv)
    (Rect.unit (s := S2x8x224) ![(par jt).val, 0, 0] S1x8x224.size (inb_cmv (par jt))) (fun _ => rfl) squeezes_S1x8x224_S8x224
  exact (planes (s := S2x8x224.size) (hi := jt.val % 2 + 1) (inb_cmv (par jt)) rfl rfl rfl) ▸ h

theorem subO4 : Sub nD τ sig Ix (Elt F) Name U Lvl (tid d i) (o4 A) A.ov
    (fun j => (Rect.unit (s := S4x8x224) ![0, 0, 0] S4x8x224.size inb_S4x8x224_S4x8x224_0_0_0).emb j) (rowsS 0 4) := by
  have h := Sub.slice (nD := nD) (τ := τ) (Ix := Ix) (Val := Elt F) (Name := Name) (U := U) (Lvl := Lvl) (c := tid d i) (m := A.ov)
    (Rect.unit (s := S4x8x224) ![0, 0, 0] S4x8x224.size inb_S4x8x224_S4x8x224_0_0_0) (fun _ => rfl)
  exact (planes (s := S4x8x224.size) (hi := 4) inb_S4x8x224_S4x8x224_0_0_0 rfl rfl rfl) ▸ h

theorem subO3 : Sub nD τ sig Ix (Elt F) Name U Lvl (tid d i) (o3 A) A.ov
    (fun j => (Rect.unit (s := S4x8x224) ![0, 0, 0] S3x8x224.size inb_S4x8x224_S3x8x224_0_0_0).emb j) (rowsS 0 3) := by
  have h := Sub.slice (nD := nD) (τ := τ) (Ix := Ix) (Val := Elt F) (Name := Name) (U := U) (Lvl := Lvl) (c := tid d i) (m := A.ov)
    (Rect.unit (s := S4x8x224) ![0, 0, 0] S3x8x224.size inb_S4x8x224_S3x8x224_0_0_0) (fun _ => rfl)
  exact (planes (s := S4x8x224.size) (hi := 3) inb_S4x8x224_S3x8x224_0_0_0 rfl rfl rfl) ▸ h

theorem subO2 : Sub nD τ sig Ix (Elt F) Name U Lvl (tid d i) (o2 A) A.ov
    (fun j => (Rect.unit (s := S4x8x224) ![0, 0, 0] S2x8x224.size inb_S4x8x224_S2x8x224_0_0_0).emb j) (rowsS 0 2) := by
  have h := Sub.slice (nD := nD) (τ := τ) (Ix := Ix) (Val := Elt F) (Name := Name) (U := U) (Lvl := Lvl) (c := tid d i) (m := A.ov)
    (Rect.unit (s := S4x8x224) ![0, 0, 0] S2x8x224.size inb_S4x8x224_S2x8x224_0_0_0) (fun _ => rfl)
  exact (planes (s := S4x8x224.size) (hi := 2) inb_S4x8x224_S2x8x224_0_0_0 rfl rfl rfl) ▸ h

theorem subO1 : Sub nD τ sig Ix (Elt F) Name U Lvl (tid d i) (o1 A) A.ov
    (fun j => (Rect.unit (s := S4x8x224) ![2, 0, 0] S1x8x224.size inb_S4x8x224_S1x8x224_2_0_0).emb (Shape.reshapeEquiv squeezes_S1x8x224_S8x224.numel_eq j)) (rowsS 2 3) := by
  have h := Sub.squeeze (nD := nD) (τ := τ) (Ix := Ix) (Val := Elt F) (Name := Name) (U := U) (Lvl := Lvl) (c := tid d i) (m := A.ov)
    (Rect.unit (s := S4x8x224) ![2, 0, 0] S1x8x224.size inb_S4x8x224_S1x8x224_2_0_0) (fun _ => rfl) squeezes_S1x8x224_S8x224
  exact (planes (s := S4x8x224.size) (hi := 3) inb_S4x8x224_S1x8x224_2_0_0 rfl rfl rfl) ▸ h

/-! ## Copies in -/

def fM : sProp 𝕄 :=
  Flight EC (tid d i) (.dma A.msM.sem) ι (cmDst A (par jt)).view.dmaCredit
    iprop(part (tid d i) A.cmv fullShare (rowsS (jt.val % 2) (jt.val % 2 + 1)) (on3 fun _ => blkC I i jt.val) ∗ part (tid d i) A.cm q Finset.univ (on3 I.C))

theorem wp_issM :
    iprop(part (tid d i) A.cm q Finset.univ (on3 I.C) ∗ some' (tid d i) A.cmv fullShare (rowsS (jt.val % 2) (jt.val % 2 + 1)) ∗ semVal (tid d i, .dma A.msM.sem) 0)
      ⊢ iprop((fM d i EC ι A I jt (q := q) -∗ Q ⟨⟩) -∗ wp frame (wpE (Ix := Ix) (Name := Name) (U := U) (Lvl := Lvl) defs 𝒱 (tid d i) bd) Set.univ (issM F i A jt) Q) := by
  unfold fM
  refine wp_copyIn 𝒱 (tid d i) bd EC ι (by decide) (Sub.squeeze _ _ _) (subSlot d i A jt) (Finset.subset_univ _) rfl (fun j => ?_)
  obtain ⟨a0, a1, a2⟩ := coord3 (off2 i jt) (k0_off2_inb i jt) squeezes_S1x8x224_S8x224.numel_eq j
  obtain ⟨b0, b1, b2⟩ := coord3 rfl (inb_cmv (par jt)) squeezes_S1x8x224_S8x224.numel_eq j
  unfold on3 blkC
  rw [a0, a1, a2, b1, b2]
  simp only [Nat.zero_add]

def fQb : sProp 𝕄 :=
  Flight EC (tid d i) (.dma A.bsM.sem) ι (bLo A).view.dmaCredit
    iprop(part (tid d i) A.bv fullShare (rowsS 0 16) (on3 (blkQb I i jt.val)) ∗ part (tid d i) A.q q Finset.univ (on4 I.Q))

theorem wp_issQb :
    iprop(part (tid d i) A.q q Finset.univ (on4 I.Q) ∗ some' (tid d i) A.bv fullShare (rowsS 0 16) ∗ semVal (tid d i, .dma A.bsM.sem) 0)
      ⊢ iprop((fQb d i EC ι A I jt (q := q) -∗ Q ⟨⟩) -∗ wp frame (wpE (Ix := Ix) (Name := Name) (U := U) (Lvl := Lvl) defs 𝒱 (tid d i) bd) Set.univ (issQb F i A jt) Q) := by
  unfold fQb
  refine wp_copyIn 𝒱 (tid d i) bd EC ι (by decide) (Sub.squeeze _ _ _) (subLo d i A.bv) (Finset.subset_univ _) rfl (fun j => ?_)
  obtain ⟨a0, a1, a2, a3⟩ := coord4 (off4 i jt) (k0_off4_inb i jt) squeezes_S1x16x8x224_S16x8x224.numel_eq j
  obtain ⟨b0, b1, b2⟩ := coordU inb_S24x8x224_S16x8x224_0_0_0 j
  unfold on3 on4 blkQb
  rw [a0, a1, a2, a3, b0, b1, b2]
  simp only [Nat.zero_add]

def fS : sProp 𝕄 :=
  Flight EC (tid d i) (.dma A.bsM.sem) ι A.bv.view.dmaCredit
    iprop(part (tid d i) A.bv fullShare Finset.univ (on3 (blkS I i jt.val)) ∗ part (tid d i) A.s q Finset.univ (on4 I.S))

theorem wp_issS :
    iprop(part (tid d i) A.s q Finset.univ (on4 I.S) ∗ some' (tid d i) A.bv fullShare Finset.univ ∗ semVal (tid d i, .dma A.bsM.sem) 0)
      ⊢ iprop((fS d i EC ι A I jt (q := q) -∗ Q ⟨⟩) -∗ wp frame (wpE (Ix := Ix) (Name := Name) (U := U) (Lvl := Lvl) defs 𝒱 (tid d i) bd) Set.univ (issS F i A jt) Q) := by
  unfold fS
  refine wp_copyIn 𝒱 (tid d i) bd EC ι (by decide) (Sub.squeeze _ _ _) Sub.refl (Finset.subset_univ _) rfl (fun j => ?_)
  obtain ⟨a0, a1, a2, a3⟩ := coord4 (off11 i jt) (k0_off11_inb i jt) squeezes_S1x24x8x224_S24x8x224.numel_eq j
  unfold on3 on4 blkS
  rw [a0, a1, a2, a3]
  simp only [Nat.zero_add, id]

def fXY : sProp 𝕄 :=
  Flight EC (tid d i) (.dma A.asM.sem) ι (aLo A).view.dmaCredit
    iprop(part (tid d i) A.av fullShare (rowsS 0 16) (on3 (blkXY I i jt.val)) ∗ part (tid d i) A.xy q Finset.univ (on4 I.XY))

theorem wp_issXY :
    iprop(part (tid d i) A.xy q Finset.univ (on4 I.XY) ∗ some' (tid d i) A.av fullShare (rowsS 0 16) ∗ semVal (tid d i, .dma A.asM.sem) 0)
      ⊢ iprop((fXY d i EC ι A I jt (q := q) -∗ Q ⟨⟩) -∗ wp frame (wpE (Ix := Ix) (Name := Name) (U := U) (Lvl := Lvl) defs 𝒱 (tid d i) bd) Set.univ (issXY F i A jt) Q) := by
  unfold fXY
  refine wp_copyIn 𝒱 (tid d i) bd EC ι (by decide) (Sub.squeeze _ _ _) (subLo d i A.av) (Finset.subset_univ _) rfl (fun j => ?_)
  obtain ⟨a0, a1, a2, a3⟩ := coord4 (off12 i jt) (k0_off12_inb i jt) squeezes_S1x16x8x224_S16x8x224.numel_eq j
  obtain ⟨b0, b1, b2⟩ := coordU inb_S24x8x224_S16x8x224_0_0_0 j
  unfold on3 on4 blkXY
  rw [a0, a1, a2, a3, b0, b1, b2]
  simp only [Nat.zero_add]

/-- The copies into what goes on being loaded. -/
def fQa (κ : Name) (δ ε : ℕ) : sProp 𝕄 :=
  iprop(racing (tid d i) EC (aLo A) κ δ ε ∗ Flight EC (tid d i) (.dma A.asM.sem) ι (aLo A).view.dmaCredit
    iprop(raceProg (tid d i) EC (aLo A) (fun j => blkQa I i jt.val (j 0).val (j 1).val (j 2).val) δ Finset.univ ∗ part (tid d i) A.q q Finset.univ (on4 I.Q)))

theorem wp_issQa :
    iprop(part (tid d i) A.q q Finset.univ (on4 I.Q) ∗ some' (tid d i) A.av fullShare (rowsS 0 16) ∗ semVal (tid d i, .dma A.asM.sem) 0)
      ⊢ iprop((∀ κ δ ε, fQa d i EC ι A I jt (q := q) κ δ ε -∗ Q ⟨⟩) -∗ wp frame (wpE (Ix := Ix) (Name := Name) (U := U) (Lvl := Lvl) defs 𝒱 (tid d i) bd) Set.univ (issQa F i A jt) Q) := by
  have hX : (fun j : S16x8x224.Idx => on4 (s := S8x32x224x224.size) I.Q ((Rect.unit (s := S8x32x224x224) (k0_off3 i (jw jt)) S1x16x8x224.size (k0_off3_inb i jt)).emb (Shape.reshapeEquiv squeezes_S1x16x8x224_S16x8x224.numel_eq j)))
      = fun j => blkQa I i jt.val (j 0).val (j 1).val (j 2).val := by
    funext j
    obtain ⟨a0, a1, a2, a3⟩ := coord4 (off3 i jt) (k0_off3_inb i jt) squeezes_S1x16x8x224_S16x8x224.numel_eq j
    unfold on4 blkQa
    rw [a0, a1, a2, a3]
    simp only [Nat.zero_add]
  unfold some' fQa
  rw [← hX, ← planes (s := S24x8x224.size) inb_S24x8x224_S16x8x224_0_0_0 (show 0 + S16x8x224.size 0 = 16 from rfl) rfl rfl]
  iintro ⟨H₁, ⟨%Y, H₂⟩, Hv⟩ Hk
  ihave H₂ := ((Sub.slice (Rect.unit (s := S24x8x224) ![0, 0, 0] S16x8x224.size inb_S24x8x224_S16x8x224_0_0_0) (fun _ => rfl)).lend fullShare Y) $$ H₂
  iapply (wp_copyRace 𝒱 (tid d i) bd EC ι (by decide) (Sub.squeeze _ _ _) (Finset.subset_univ _)) $$ [H₁ H₂ Hv]
  · isplitl [H₁]; · iexact H₁
    isplitl [H₂] <;> iassumption
  iintro %κ %δ %ε Hr Hf
  iapply Hk $$ %κ %δ %ε
  isplitl [Hr] <;> iassumption

def fZ (κ : Name) (δ ε : ℕ) : sProp 𝕄 :=
  iprop(racing (tid d i) EC (aHi A) κ δ ε ∗ Flight EC (tid d i) (.dma A.zsM.sem) ι (aHi A).view.dmaCredit
    iprop(raceProg (tid d i) EC (aHi A) (fun j => blkZ I i jt.val (16 + (j 0).val) (j 1).val (j 2).val) δ Finset.univ ∗ part (tid d i) A.z q Finset.univ (on4 I.Z)))

theorem wp_issZ :
    iprop(part (tid d i) A.z q Finset.univ (on4 I.Z) ∗ some' (tid d i) A.av fullShare (rowsS 16 24) ∗ semVal (tid d i, .dma A.zsM.sem) 0)
      ⊢ iprop((∀ κ δ ε, fZ d i EC ι A I jt (q := q) κ δ ε -∗ Q ⟨⟩) -∗ wp frame (wpE (Ix := Ix) (Name := Name) (U := U) (Lvl := Lvl) defs 𝒱 (tid d i) bd) Set.univ (issZ F i A jt) Q) := by
  have hX : (fun j : S8x8x224.Idx => on4 (s := S8x8x224x224.size) I.Z ((Rect.unit (s := S8x8x224x224) (k0_off5 i (jw jt)) S1x8x8x224.size (k0_off5_inb i jt)).emb (Shape.reshapeEquiv squeezes_S1x8x8x224_S8x8x224.numel_eq j)))
      = fun j => blkZ I i jt.val (16 + (j 0).val) (j 1).val (j 2).val := by
    funext j
    obtain ⟨a0, a1, a2, a3⟩ := coord4 (off5 i jt) (k0_off5_inb i jt) squeezes_S1x8x8x224_S8x8x224.numel_eq j
    unfold on4 blkZ
    rw [a0, a1, a2, a3]
    simp only [Nat.zero_add, Nat.add_sub_cancel_left]
  unfold some' fZ
  rw [← hX, ← planes (s := S24x8x224.size) inb_S24x8x224_S8x8x224_16_0_0 (show 16 + S8x8x224.size 0 = 24 from rfl) rfl rfl]
  iintro ⟨H₁, ⟨%Y, H₂⟩, Hv⟩ Hk
  ihave H₂ := ((Sub.slice (Rect.unit (s := S24x8x224) ![16, 0, 0] S8x8x224.size inb_S24x8x224_S8x8x224_16_0_0) (fun _ => rfl)).lend fullShare Y) $$ H₂
  iapply (wp_copyRace 𝒱 (tid d i) bd EC ι (by decide) (Sub.squeeze _ _ _) (Finset.subset_univ _)) $$ [H₁ H₂ Hv]
  · isplitl [H₁]; · iexact H₁
    isplitl [H₂] <;> iassumption
  iintro %κ %δ %ε Hr Hf
  iapply Hk $$ %κ %δ %ε
  isplitl [Hr] <;> iassumption

/-! ## Copies out -/

/-- An output array of images: the subcore's own rows, known in the first `n` blocks. -/
def outS {s : Shape} (m : Memref sig .scVector .hbm s .f32) (a k : Fin s.rank) (V : Vec F s .f32) (n : ℕ) : sProp 𝕄 :=
  held (tid d i) m (own i a k) (fun x => (x k).val < rowN i n) V

theorem rowN_succ (n : ℕ) : rowN i (n + 1) = rowN i n + 8 := by unfold rowN; omega
theorem rowN_in (jt : Fin 7) : rowN i 0 ≤ rowN i jt.val ∧ rowN i jt.val + 8 ≤ rowN i 7 := by unfold rowN; have := jt.isLt; omega

variable {X : Vec F S4x8x224 .f32} {S : Finset S4x8x224.Idx}

def fOq (X : Vec F S4x8x224 .f32) : sProp 𝕄 :=
  Flight EC (tid d i) (.dma A.oqM.sem) ι (gqDst i A jt).view.dmaCredit
    iprop(outS d i A.gq 0 2 (valsQ I) (jt.val + 1) ∗ part (tid d i) A.ov fullShare Finset.univ X)

theorem wp_issOq (hX : ∀ j : S4x8x224.Idx, 0 ≤ (j 0).val ∧ (j 0).val < 4 → X j = outQ (blkC I i jt.val) (blkQa I i jt.val) (blkQb I i jt.val) j) :
    iprop(part (tid d i) A.ov fullShare Finset.univ X ∗ outS d i A.gq 0 2 (valsQ I) jt.val ∗ semVal (tid d i, .dma A.oqM.sem) 0)
      ⊢ iprop((fOq d i EC ι A I jt X -∗ Q ⟨⟩) -∗ wp frame (wpE (Ix := Ix) (Name := Name) (U := U) (Lvl := Lvl) defs 𝒱 (tid d i) bd) Set.univ (issOq F i A jt) Q) := by
  unfold fOq outS
  refine wp_copyOut 𝒱 (tid d i) bd EC ι (by decide) (subO4 d i A) (Sub.squeeze _ _ _) (Finset.subset_univ _) (fun x hx => ?_) (fun j => ?_) (fun x hx hn hlt => ?_)
  · have := rowN_in i jt
    replace hx := (mem_block4 (s := S8x4x224x224.size) (off13 i jt) rfl rfl (k0_off13_inb i jt) x).mp hx
    exact mem_own.mpr ⟨hx.1, by omega, by omega⟩
  · obtain ⟨a0, a1, a2, a3⟩ := coord4 (off13 i jt) (k0_off13_inb i jt) squeezes_S1x4x8x224_S4x8x224.numel_eq j
    obtain ⟨b0, b1, b2⟩ := coordU inb_S4x8x224_S4x8x224_0_0_0 j
    rw [hX _ ⟨Nat.zero_le _, by rw [b0, Nat.zero_add]; exact (j 0).isLt⟩]
    unfold valsQ outQ blkC blkQa blkQb
    rw [a0, a1, a2, a3, b0, b1, b2]
    simp only [Nat.zero_add]
  · replace hn := mt (mem_block4 (s := S8x4x224x224.size) (off13 i jt) rfl rfl (k0_off13_inb i jt) x).mpr hn
    have h1 := (mem_own.mp hx)
    have h2 : (x 2).val < rowN i (jt.val + 1) := hlt
    rw [rowN_succ] at h2
    show (x 2).val < rowN i jt.val
    by_contra h
    exact hn ⟨h1.1, by omega, h2⟩

def fOs (X : Vec F S4x8x224 .f32) : sProp 𝕄 :=
  Flight EC (tid d i) (.dma A.osM.sem) ι (gsDst i A jt).view.dmaCredit
    iprop(outS d i A.gs 0 2 (valsS I) (jt.val + 1) ∗ part (tid d i) A.ov fullShare Finset.univ X)

theorem wp_issOs (hX : ∀ j : S4x8x224.Idx, 0 ≤ (j 0).val ∧ (j 0).val < 3 → X j = out1 (blkC I i jt.val) (blkS I i jt.val) rowS j) :
    iprop(part (tid d i) A.ov fullShare Finset.univ X ∗ outS d i A.gs 0 2 (valsS I) jt.val ∗ semVal (tid d i, .dma A.osM.sem) 0)
      ⊢ iprop((fOs d i EC ι A I jt X -∗ Q ⟨⟩) -∗ wp frame (wpE (Ix := Ix) (Name := Name) (U := U) (Lvl := Lvl) defs 𝒱 (tid d i) bd) Set.univ (issOs F i A jt) Q) := by
  unfold fOs outS
  refine wp_copyOut 𝒱 (tid d i) bd EC ι (by decide) (subO3 d i A) (Sub.squeeze _ _ _) (Finset.subset_univ _) (fun x hx => ?_) (fun j => ?_) (fun x hx hn hlt => ?_)
  · have := rowN_in i jt
    replace hx := (mem_block4 (s := S8x3x224x224.size) (off18 i jt) rfl rfl (k0_off18_inb i jt) x).mp hx
    exact mem_own.mpr ⟨hx.1, by omega, by omega⟩
  · obtain ⟨a0, a1, a2, a3⟩ := coord4 (off18 i jt) (k0_off18_inb i jt) squeezes_S1x3x8x224_S3x8x224.numel_eq j
    obtain ⟨b0, b1, b2⟩ := coordU inb_S4x8x224_S3x8x224_0_0_0 j
    rw [hX _ ⟨Nat.zero_le _, by rw [b0, Nat.zero_add]; exact (j 0).isLt⟩]
    unfold valsS out1 blkC blkS
    rw [a0, a1, a2, a3, b0, b1, b2]
    simp only [Nat.zero_add]
  · replace hn := mt (mem_block4 (s := S8x3x224x224.size) (off18 i jt) rfl rfl (k0_off18_inb i jt) x).mpr hn
    have h1 := (mem_own.mp hx)
    have h2 : (x 2).val < rowN i (jt.val + 1) := hlt
    rw [rowN_succ] at h2
    show (x 2).val < rowN i jt.val
    by_contra h
    exact hn ⟨h1.1, by omega, h2⟩

def fOxy (X : Vec F S4x8x224 .f32) : sProp 𝕄 :=
  Flight EC (tid d i) (.dma A.oxyM.sem) ι (gxyDst i A jt).view.dmaCredit
    iprop(outS d i A.gxy 0 2 (valsXY I) (jt.val + 1) ∗ part (tid d i) A.ov fullShare (rowsS 0 2) X)

theorem wp_issOxy (hX : ∀ j : S4x8x224.Idx, 0 ≤ (j 0).val ∧ (j 0).val < 2 → X j = out1 (blkC I i jt.val) (blkXY I i jt.val) rowXY j) :
    iprop(part (tid d i) A.ov fullShare (rowsS 0 2) X ∗ outS d i A.gxy 0 2 (valsXY I) jt.val ∗ semVal (tid d i, .dma A.oxyM.sem) 0)
      ⊢ iprop((fOxy d i EC ι A I jt X -∗ Q ⟨⟩) -∗ wp frame (wpE (Ix := Ix) (Name := Name) (U := U) (Lvl := Lvl) defs 𝒱 (tid d i) bd) Set.univ (issOxy F i A jt) Q) := by
  unfold fOxy outS
  refine wp_copyOut 𝒱 (tid d i) bd EC ι (by decide) (subO2 d i A) (Sub.squeeze _ _ _) (Finset.Subset.refl _) (fun x hx => ?_) (fun j => ?_) (fun x hx hn hlt => ?_)
  · have := rowN_in i jt
    replace hx := (mem_block4 (s := S8x2x224x224.size) (off22 i jt) rfl rfl (k0_off22_inb i jt) x).mp hx
    exact mem_own.mpr ⟨hx.1, by omega, by omega⟩
  · obtain ⟨a0, a1, a2, a3⟩ := coord4 (off22 i jt) (k0_off22_inb i jt) squeezes_S1x2x8x224_S2x8x224.numel_eq j
    obtain ⟨b0, b1, b2⟩ := coordU inb_S4x8x224_S2x8x224_0_0_0 j
    rw [hX _ ⟨Nat.zero_le _, by rw [b0, Nat.zero_add]; exact (j 0).isLt⟩]
    unfold valsXY out1 blkC blkXY
    rw [a0, a1, a2, a3, b0, b1, b2]
    simp only [Nat.zero_add]
  · replace hn := mt (mem_block4 (s := S8x2x224x224.size) (off22 i jt) rfl rfl (k0_off22_inb i jt) x).mpr hn
    have h1 := (mem_own.mp hx)
    have h2 : (x 2).val < rowN i (jt.val + 1) := hlt
    rw [rowN_succ] at h2
    show (x 2).val < rowN i jt.val
    by_contra h
    exact hn ⟨h1.1, by omega, h2⟩

def fOz (X : Vec F S4x8x224 .f32) : sProp 𝕄 :=
  Flight EC (tid d i) (.dma A.ozM.sem) ι (gzDst i A jt).view.dmaCredit
    iprop(outS d i A.gz 0 1 (valsZ I) (jt.val + 1) ∗ part (tid d i) A.ov fullShare (rowsS 2 4) X)

theorem wp_issOz (hX : ∀ j : S4x8x224.Idx, 2 ≤ (j 0).val ∧ (j 0).val < 3 → X j = out1 (blkC I i jt.val) (blkZ I i jt.val) rowZ j) :
    iprop(part (tid d i) A.ov fullShare (rowsS 2 4) X ∗ outS d i A.gz 0 1 (valsZ I) jt.val ∗ semVal (tid d i, .dma A.ozM.sem) 0)
      ⊢ iprop((fOz d i EC ι A I jt X -∗ Q ⟨⟩) -∗ wp frame (wpE (Ix := Ix) (Name := Name) (U := U) (Lvl := Lvl) defs 𝒱 (tid d i) bd) Set.univ (issOz F i A jt) Q) := by
  unfold fOz outS
  refine wp_copyOut 𝒱 (tid d i) bd EC ι (by decide) (subO1 d i A) (Sub.squeeze _ _ _) (fun x hx => ?_) (fun x hx => ?_) (fun j => ?_) (fun x hx hn hlt => ?_)
  · rw [mem_rowsS] at hx ⊢; omega
  · have := rowN_in i jt
    rw [mem_block3 (off2 i jt) rfl] at hx
    exact mem_own.mpr ⟨hx.1, by omega, by omega⟩
  · obtain ⟨a0, a1, a2⟩ := coord3 (off2 i jt) (k0_off2_inb i jt) squeezes_S1x8x224_S8x224.numel_eq j
    obtain ⟨b0, b1, b2⟩ := coord3 rfl inb_S4x8x224_S1x8x224_2_0_0 squeezes_S1x8x224_S8x224.numel_eq j
    rw [hX _ ⟨by rw [b0], by rw [b0]; decide⟩]
    unfold valsZ out1 blkC blkZ
    rw [a0, a1, a2, b0, b1, b2]
    simp only [Nat.zero_add]
  · rw [mem_block3 (off2 i jt) rfl] at hn
    have h1 := (mem_own.mp hx)
    have h2 : (x 1).val < rowN i (jt.val + 1) := hlt
    rw [rowN_succ] at h2
    show (x 1).val < rowN i jt.val
    by_contra h
    exact hn ⟨h1.1, by omega, h2⟩

end Cert.Proof.KernelIdeal
end
-- ==== Proof.Ideal.Block.lean ====
module

public import proofs.«01_k».proof.Proof.Ideal.Copies

/-!
One block: what the subcore holds between two blocks, and that a block leads from one such state to the next.
-/

@[expose] public section

noncomputable section

namespace Cert.Proof.KernelIdeal

open Cert.KernelIdeal Cert.KernelIdeal.Gen
open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

theorem rows_disj {s : Fin 3 → ℕ} (a b c : ℕ) : Disjoint (rowsS (s := s) a b) (rowsS b c) := by
  rw [Finset.disjoint_left]
  intro x hx hy
  rw [mem_rowsS] at hx hy
  omega
theorem rows_union {s : Fin 3 → ℕ} {a b c : ℕ} (h : a ≤ b) (h' : b ≤ c) : rowsS (s := s) a b ∪ rowsS b c = rowsS a c := by
  ext x
  rw [Finset.mem_union, mem_rowsS, mem_rowsS, mem_rowsS]
  omega
theorem rows_all {s : Fin 3 → ℕ} {n : ℕ} (h : s 0 = n) : rowsS (s := s) 0 n = Finset.univ := by
  ext x
  rw [mem_rowsS]
  have : (x 0).val < s 0 := (x 0).isLt
  simp only [Finset.mem_univ, iff_true]
  omega

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid0.Coords) (bd : Option 𝒱.V)
variable (EC : UEmb Counters (MT nD τ sig Ix (Elt F) Name U Lvl)) [EC.LandsIn (upEmb : UEmb _ (MT nD τ sig Ix (Elt F) Name U Lvl))]
variable (ι : Ix) (O : CellTallies nD τ sig Ix) (W : Waits sig Ix) (A : Args) (I : Ins F) {Q : PUnit → sProp (MT nD τ sig Ix (Elt F) Name U Lvl)}

local notation "𝕄" => MT nD τ sig Ix (Elt F) Name U Lvl

section
variable {κ : Kind} {c : Thread nD τ} {sp : Space} {s : Shape} {e : EltTy} {m : Memref sig c.2.kind sp s e} {q : PosShare TreeShare} {S T : Finset s.Idx} {X : s.Idx → Elt F e}

theorem some_of (X : s.Idx → Elt F e) : (part c m q S X : sProp 𝕄) ⊢ some' c m q S := by
  unfold some'
  iintro H
  iexists X
  iexact H

theorem some_elim : (some' c m q S : sProp 𝕄) ⊢ ∃ X, part c m q S X := .rfl

theorem part_some_join (h : Disjoint S T) : iprop(part c m q S X ∗ some' c m q T) ⊢ (∃ Z, ⌜∀ j ∈ S, Z j = X j⌝ ∗ part c m q (S ∪ T) Z : sProp 𝕄) := by
  unfold some'
  iintro ⟨H, ⟨%Y, H'⟩⟩
  iexists (fun j => if j ∈ S then X j else Y j)
  isplitr
  · ipureintro
    intro j hj
    simp only [hj, if_true]
  · iapply (part_join h (X := X) (Y := Y) ?_ ?_)
    · intro j hj
      simp only [hj, if_true]
    · intro j hj
      simp only [Finset.disjoint_right.mp h hj, if_false]
    isplitl [H] <;> iassumption

theorem some_join (h : Disjoint S T) : iprop(some' c m q S ∗ some' c m q T) ⊢ (some' c m q (S ∪ T) : sProp 𝕄) := by
  rw [show (some' c m q S : sProp 𝕄) = iprop(∃ X, part c m q S X) from rfl]
  iintro ⟨⟨%X, H⟩, H'⟩
  ihave H := (part_some_join h) $$ [H H']
  · isplitl [H] <;> iassumption
  icases H with ⟨%Z, -, H⟩
  iapply (some_of Z) $$ H

theorem some_split (h : Disjoint S T) : (some' c m q (S ∪ T) : sProp 𝕄) ⊢ iprop(some' c m q S ∗ some' c m q T) := by
  rw [show (some' c m q (S ∪ T) : sProp 𝕄) = iprop(∃ X, part c m q (S ∪ T) X) from rfl]
  iintro ⟨%X, H⟩
  ihave H := (part_split h X) $$ H
  icases H with ⟨H, H'⟩
  isplitl [H]
  · iapply (some_of X) $$ H
  · iapply (some_of X) $$ H'
end

/-! ## Gathering beside a copy -/

theorem gathers_lo {G : ℕ → ℕ → ℕ → F .f32} {κ : Name} {δ ε : ℕ} :
    Gathers (Lvl := Lvl) 𝒱 d i bd defs A.av 0 16 G iprop(part (tid d i) A.av fullShare (rowsS 0 16) (on3 G) ∗ racing (tid d i) EC (aHi A) κ δ ε) := by
  have h := planes (s := S24x8x224.size) (hi := 24) inb_S24x8x224_S8x8x224_16_0_0 rfl rfl rfl
  refine gathers_race 𝒱 d i bd EC ?_ ?_ fun j hj => ⟨hj, rfl⟩
  · rw [h]; exact (rows_disj 0 16 24).symm
  · rw [h, Finset.union_comm, rows_union (by decide) (by decide), rows_all (s := S24x8x224.size) (n := 24) rfl]

theorem gathers_hi {G : ℕ → ℕ → ℕ → F .f32} {κ : Name} {δ ε : ℕ} :
    Gathers (Lvl := Lvl) 𝒱 d i bd defs A.av 16 24 G iprop(part (tid d i) A.av fullShare (rowsS 16 24) (on3 G) ∗ racing (tid d i) EC (aLo A) κ δ ε) := by
  have h := planes (s := S24x8x224.size) (hi := 16) inb_S24x8x224_S16x8x224_0_0_0 rfl rfl rfl
  refine gathers_race 𝒱 d i bd EC ?_ ?_ fun j hj => ⟨hj, rfl⟩
  · rw [h]; exact rows_disj 0 16 24
  · rw [h, rows_union (by decide) (by decide), rows_all (s := S24x8x224.size) (n := 24) rfl]

theorem accAt_succ (n : ℕ) : accAt I i (n + 1) = accBlk I i n (accAt I i n) := by
  unfold accAt
  rw [steps]

theorem imgW_lt : ∀ i, ∀ jt : Fin 7, (imgW i jt).toNat < 8 := by decide +kernel

/-! ## Between two blocks -/

variable (q qa qb : PosShare TreeShare) (n : ℕ) (jt : Fin 7)

def inM : sProp 𝕄 :=
  if h : n < 7 then fM d i EC ι A I ⟨n, h⟩ (q := q)
  else iprop(part (tid d i) A.cm q Finset.univ (on3 I.C) ∗ some' (tid d i) A.cmv fullShare (rowsS (n % 2) (n % 2 + 1)) ∗ semVal (tid d i, .dma A.msM.sem) 0)
def inQa : sProp 𝕄 :=
  if h : n < 7 then iprop(∃ κ δ ε, fQa d i EC ι A I ⟨n, h⟩ (q := q) κ δ ε)
  else iprop(part (tid d i) A.q q Finset.univ (on4 I.Q) ∗ some' (tid d i) A.av fullShare (rowsS 0 16) ∗ semVal (tid d i, .dma A.asM.sem) 0)
def inQb : sProp 𝕄 :=
  if h : n < 7 then fQb d i EC ι A I ⟨n, h⟩ (q := q)
  else iprop(part (tid d i) A.q q Finset.univ (on4 I.Q) ∗ some' (tid d i) A.bv fullShare (rowsS 0 16) ∗ semVal (tid d i, .dma A.bsM.sem) 0)
def outXY : ℕ → sProp 𝕄
  | 0 => iprop(outS d i A.gxy 0 2 (valsXY I) 0 ∗ some' (tid d i) A.ov fullShare (rowsS 0 2) ∗ semVal (tid d i, .dma A.oxyM.sem) 0)
  | n + 1 => iprop(∃ jt X, ⌜jt.val = n⌝ ∗ fOxy d i EC ι A I jt X)
def outZ : ℕ → sProp 𝕄
  | 0 => iprop(outS d i A.gz 0 1 (valsZ I) 0 ∗ some' (tid d i) A.ov fullShare (rowsS 2 4) ∗ semVal (tid d i, .dma A.ozM.sem) 0)
  | n + 1 => iprop(∃ jt X, ⌜jt.val = n⌝ ∗ fOz d i EC ι A I jt X)

/-- What lies idle between two blocks. -/
def idle : sProp 𝕄 :=
  iprop(some' (tid d i) A.cmv fullShare (rowsS ((n + 1) % 2) ((n + 1) % 2 + 1)) ∗ some' (tid d i) A.av fullShare (rowsS 16 24) ∗ some' (tid d i) A.bv fullShare (rowsS 16 24)
    ∗ part (tid d i) A.s q Finset.univ (on4 I.S) ∗ part (tid d i) A.xy q Finset.univ (on4 I.XY) ∗ part (tid d i) A.z q Finset.univ (on4 I.Z)
    ∗ semVal (tid d i, .dma A.zsM.sem) 0 ∗ semVal (tid d i, .dma A.oqM.sem) 0 ∗ semVal (tid d i, .dma A.osM.sem) 0
    ∗ outS d i A.gq 0 2 (valsQ I) n ∗ outS d i A.gs 0 2 (valsS I) n
    ∗ part (tid d i) A.acc fullShare Finset.univ (accAt I i n))

def state : sProp 𝕄 :=
  iprop(inM d i EC ι A I q n ∗ inQa d i EC ι A I qa n ∗ inQb d i EC ι A I qb n ∗ outXY d i EC ι A I n ∗ outZ d i EC ι A I n ∗ idle d i A I q n ∗ owing (tid d i) ι O W)

section Next
variable {p : Fin 7 → TP F i PUnit}

theorem wp_nxt {P R : sProp 𝕄} (h1 : ∀ h : jt.val + 1 < 7, P ⊢ iprop((R -∗ Q ⟨⟩) -∗ wp frame (wpE defs 𝒱 (tid d i) bd) Set.univ (p ⟨jt.val + 1, h⟩) Q))
    (h2 : ¬ jt.val + 1 < 7 → P ⊢ R) :
    P ⊢ iprop((R -∗ Q ⟨⟩) -∗ wp frame (wpE defs 𝒱 (tid d i) bd) Set.univ (nxt F i jt p) Q) := by
  unfold nxt
  by_cases h : jt.val + 1 < 7
  · rw [dif_pos h]; exact h1 h
  · rw [dif_neg h]
    iintro HP Hk
    ihave HR := (h2 h) $$ HP
    rw [show (pure ⟨⟩ : TP F i PUnit) = Prog.ret ⟨⟩ from rfl, wp_ret]
    imodintro
    iapply Hk $$ HR

theorem wp_nxtM :
    iprop(part (tid d i) A.cm q Finset.univ (on3 I.C) ∗ some' (tid d i) A.cmv fullShare (rowsS ((jt.val + 1) % 2) ((jt.val + 1) % 2 + 1)) ∗ semVal (tid d i, .dma A.msM.sem) 0)
      ⊢ iprop((inM d i EC ι A I q (jt.val + 1) -∗ Q ⟨⟩) -∗ wp frame (wpE (Ix := Ix) (Name := Name) (U := U) (Lvl := Lvl) defs 𝒱 (tid d i) bd) Set.univ (nxt F i jt (issM F i A)) Q) := by
  unfold inM
  refine wp_nxt 𝒱 d i bd jt (fun h => ?_) (fun h => ?_)
  · rw [dif_pos h]; exact wp_issM 𝒱 d i bd EC ι A I ⟨jt.val + 1, h⟩
  · rw [dif_neg h]

theorem wp_nxtQa :
    iprop(part (tid d i) A.q q Finset.univ (on4 I.Q) ∗ some' (tid d i) A.av fullShare (rowsS 0 16) ∗ semVal (tid d i, .dma A.asM.sem) 0)
      ⊢ iprop((inQa d i EC ι A I q (jt.val + 1) -∗ Q ⟨⟩) -∗ wp frame (wpE (Ix := Ix) (Name := Name) (U := U) (Lvl := Lvl) defs 𝒱 (tid d i) bd) Set.univ (nxt F i jt (issQa F i A)) Q) := by
  unfold inQa
  refine wp_nxt 𝒱 d i bd jt (fun h => ?_) (fun h => ?_)
  · rw [dif_pos h]
    iintro H Hk
    iapply (wp_issQa 𝒱 d i bd EC ι A I ⟨jt.val + 1, h⟩) $$ H
    iintro %κ %δ %ε H
    iapply Hk
    iexists κ, δ, ε
    iexact H
  · rw [dif_neg h]

theorem wp_nxtQb :
    iprop(part (tid d i) A.q q Finset.univ (on4 I.Q) ∗ some' (tid d i) A.bv fullShare (rowsS 0 16) ∗ semVal (tid d i, .dma A.bsM.sem) 0)
      ⊢ iprop((inQb d i EC ι A I q (jt.val + 1) -∗ Q ⟨⟩) -∗ wp frame (wpE (Ix := Ix) (Name := Name) (U := U) (Lvl := Lvl) defs 𝒱 (tid d i) bd) Set.univ (nxt F i jt (issQb F i A)) Q) := by
  unfold inQb
  refine wp_nxt 𝒱 d i bd jt (fun h => ?_) (fun h => ?_)
  · rw [dif_pos h]; exact wp_issQb 𝒱 d i bd EC ι A I ⟨jt.val + 1, h⟩
  · rw [dif_neg h]

end Next

section Waits
variable {O W}

theorem wp_waiOxy :
    iprop(MayWaits (tid d i) ι O ∗ owing (tid d i) ι O W ∗ outXY d i EC ι A I (jt.val + 1))
      ⊢ iprop((outS d i A.gxy 0 2 (valsXY I) (jt.val + 1) -∗ some' (tid d i) A.ov fullShare (rowsS 0 2) -∗ semVal (tid d i, .dma A.oxyM.sem) 0 -∗ owing (tid d i) ι O W -∗ Q ⟨⟩)
          -∗ wp frame (wpE (Ix := Ix) (Name := Name) (U := U) (Lvl := Lvl) defs 𝒱 (tid d i) bd) Set.univ (waiOxy F i A jt) Q) := by
  rw [show outXY d i EC ι A I (jt.val + 1) = iprop(∃ jt' X, ⌜jt'.val = jt.val⌝ ∗ fOxy d i EC ι A I jt' X) from rfl]
  iintro ⟨Hmw, Ho, ⟨%jt', %X, %h, H⟩⟩ Hk
  obtain rfl : jt' = jt := Fin.ext h
  unfold fOxy
  iapply (wp_wait 𝒱 (tid d i) bd EC ι) $$ [Hmw Ho H]
  · isplitl [Hmw]; · iexact Hmw
    isplitl [Ho] <;> iassumption
  iintro ⟨H1, H2⟩ Hv Ho
  ihave H2 := (some_of X) $$ H2
  iapply Hk $$ H1 H2 Hv Ho

theorem wp_waiOz :
    iprop(MayWaits (tid d i) ι O ∗ owing (tid d i) ι O W ∗ outZ d i EC ι A I (jt.val + 1))
      ⊢ iprop((outS d i A.gz 0 1 (valsZ I) (jt.val + 1) -∗ some' (tid d i) A.ov fullShare (rowsS 2 4) -∗ semVal (tid d i, .dma A.ozM.sem) 0 -∗ owing (tid d i) ι O W -∗ Q ⟨⟩)
          -∗ wp frame (wpE (Ix := Ix) (Name := Name) (U := U) (Lvl := Lvl) defs 𝒱 (tid d i) bd) Set.univ (waiOz F i A jt) Q) := by
  rw [show outZ d i EC ι A I (jt.val + 1) = iprop(∃ jt' X, ⌜jt'.val = jt.val⌝ ∗ fOz d i EC ι A I jt' X) from rfl]
  iintro ⟨Hmw, Ho, ⟨%jt', %X, %h, H⟩⟩ Hk
  obtain rfl : jt' = jt := Fin.ext h
  unfold fOz
  iapply (wp_wait 𝒱 (tid d i) bd EC ι) $$ [Hmw Ho H]
  · isplitl [Hmw]; · iexact Hmw
    isplitl [Ho] <;> iassumption
  iintro ⟨H1, H2⟩ Hv Ho
  ihave H2 := (some_of X) $$ H2
  iapply Hk $$ H1 H2 Hv Ho

theorem wp_prvOxy :
    iprop(MayWaits (tid d i) ι O ∗ owing (tid d i) ι O W ∗ outXY d i EC ι A I jt.val)
      ⊢ iprop((outS d i A.gxy 0 2 (valsXY I) jt.val -∗ some' (tid d i) A.ov fullShare (rowsS 0 2) -∗ semVal (tid d i, .dma A.oxyM.sem) 0 -∗ owing (tid d i) ι O W -∗ Q ⟨⟩)
          -∗ wp frame (wpE (Ix := Ix) (Name := Name) (U := U) (Lvl := Lvl) defs 𝒱 (tid d i) bd) Set.univ (prv F i jt (waiOxy F i A)) Q) := by
  obtain ⟨n, hn⟩ := jt
  cases n with
  | zero =>
    rw [show outXY d i EC ι A I (⟨0, hn⟩ : Fin 7).val = iprop(outS d i A.gxy 0 2 (valsXY I) 0 ∗ some' (tid d i) A.ov fullShare (rowsS 0 2) ∗ semVal (tid d i, .dma A.oxyM.sem) 0) from rfl,
      show prv F i ⟨0, hn⟩ (waiOxy F i A) = Prog.ret ⟨⟩ from rfl, wp_ret]
    iintro ⟨-, Ho, H1, H2, Hv⟩ Hk
    imodintro
    iapply Hk $$ H1 H2 Hv Ho
  | succ n => exact wp_waiOxy 𝒱 d i bd EC ι A I ⟨n, Nat.lt_of_succ_lt hn⟩

theorem wp_prvOz :
    iprop(MayWaits (tid d i) ι O ∗ owing (tid d i) ι O W ∗ outZ d i EC ι A I jt.val)
      ⊢ iprop((outS d i A.gz 0 1 (valsZ I) jt.val -∗ some' (tid d i) A.ov fullShare (rowsS 2 4) -∗ semVal (tid d i, .dma A.ozM.sem) 0 -∗ owing (tid d i) ι O W -∗ Q ⟨⟩)
          -∗ wp frame (wpE (Ix := Ix) (Name := Name) (U := U) (Lvl := Lvl) defs 𝒱 (tid d i) bd) Set.univ (prv F i jt (waiOz F i A)) Q) := by
  obtain ⟨n, hn⟩ := jt
  cases n with
  | zero =>
    rw [show outZ d i EC ι A I (⟨0, hn⟩ : Fin 7).val = iprop(outS d i A.gz 0 1 (valsZ I) 0 ∗ some' (tid d i) A.ov fullShare (rowsS 2 4) ∗ semVal (tid d i, .dma A.ozM.sem) 0) from rfl,
      show prv F i ⟨0, hn⟩ (waiOz F i A) = Prog.ret ⟨⟩ from rfl, wp_ret]
    iintro ⟨-, Ho, H1, H2, Hv⟩ Hk
    imodintro
    iapply Hk $$ H1 H2 Hv Ho
  | succ n => exact wp_waiOz 𝒱 d i bd EC ι A I ⟨n, Nat.lt_of_succ_lt hn⟩

theorem wp_waiQa {κ : Name} {δ ε : ℕ} :
    iprop(MayWaits (tid d i) ι O ∗ owing (tid d i) ι O W ∗ fQa d i EC ι A I jt (q := q) κ δ ε)
      ⊢ iprop((part (tid d i) A.av fullShare (rowsS 0 16) (on3 (blkQa I i jt.val)) -∗ part (tid d i) A.q q Finset.univ (on4 I.Q) -∗ semVal (tid d i, .dma A.asM.sem) 0
            -∗ owing (tid d i) ι O W -∗ Q ⟨⟩)
          -∗ wp frame (wpE (Ix := Ix) (Name := Name) (U := U) (Lvl := Lvl) defs 𝒱 (tid d i) bd) Set.univ (waiQa F i A jt) Q) := by
  unfold fQa
  have hV : ∀ j : S16x8x224.Idx, on3 (s := S24x8x224.size) (blkQa I i jt.val) ((Rect.unit (s := S24x8x224) ![0, 0, 0] S16x8x224.size inb_S24x8x224_S16x8x224_0_0_0).emb j)
      = blkQa I i jt.val (j 0).val (j 1).val (j 2).val := by
    intro j
    obtain ⟨b0, b1, b2⟩ := coordU inb_S24x8x224_S16x8x224_0_0_0 j
    unfold on3
    rw [b0, b1, b2]
    simp only [Nat.zero_add]
  exact wp_waitRace 𝒱 (tid d i) bd EC ι (subLo d i A.av) rfl hV

theorem wp_waiZ {κ : Name} {δ ε : ℕ} :
    iprop(MayWaits (tid d i) ι O ∗ owing (tid d i) ι O W ∗ fZ d i EC ι A I jt (q := q) κ δ ε)
      ⊢ iprop((part (tid d i) A.av fullShare (rowsS 16 24) (on3 (blkZ I i jt.val)) -∗ part (tid d i) A.z q Finset.univ (on4 I.Z) -∗ semVal (tid d i, .dma A.zsM.sem) 0
            -∗ owing (tid d i) ι O W -∗ Q ⟨⟩)
          -∗ wp frame (wpE (Ix := Ix) (Name := Name) (U := U) (Lvl := Lvl) defs 𝒱 (tid d i) bd) Set.univ (waiZ F i A jt) Q) := by
  unfold fZ
  have hV : ∀ j : S8x8x224.Idx, on3 (s := S24x8x224.size) (blkZ I i jt.val) ((Rect.unit (s := S24x8x224) ![16, 0, 0] S8x8x224.size inb_S24x8x224_S8x8x224_16_0_0).emb j)
      = blkZ I i jt.val (16 + (j 0).val) (j 1).val (j 2).val := by
    intro j
    obtain ⟨b0, b1, b2⟩ := coordU inb_S24x8x224_S8x8x224_16_0_0 j
    unfold on3
    rw [b0, b1, b2]
    simp only [Nat.zero_add]
  exact wp_waitRace 𝒱 (tid d i) bd EC ι (subHi d i A.av) rfl hV

/-- The last pass, with the next block's first copy under way or not. -/
theorem wp_lastZ {X : Vec F S4x8x224 .f32} {C : ℕ → ℕ → BitVec 32} {Xa : ℕ → ℕ → ℕ → F .f32} {G : Vec F S11264 .f32} :
    iprop(part (tid d i) A.av fullShare (rowsS 16 24) (on3 Xa) ∗ inQa d i EC ι A I q (jt.val + 1) ∗ part (tid d i) A.cmv fullShare (rowsS (par jt) (par jt + 1)) (on3 fun _ => C)
        ∗ part (tid d i) A.ov fullShare (rowsS 2 4) X ∗ part (tid d i) A.acc fullShare Finset.univ G)
      ⊢ iprop((∀ Y, ⌜∀ j : S4x8x224.Idx, 2 ≤ (j 0).val ∧ (j 0).val < 3 → Y j = out1 C Xa rowZ j⌝
            -∗ some' (tid d i) A.av fullShare (rowsS 16 24) -∗ inQa d i EC ι A I q (jt.val + 1) -∗ part (tid d i) A.cmv fullShare (rowsS (par jt) (par jt + 1)) (on3 fun _ => C)
            -∗ part (tid d i) A.ov fullShare (rowsS 2 4) Y
            -∗ part (tid d i) A.acc fullShare Finset.univ (steps (accZ C Xa (imgW i jt)) 112 G) -∗ Q ⟨⟩)
        -∗ wp frame (wpE (Ix := Ix) (Name := Name) (U := U) (Lvl := Lvl) defs 𝒱 (tid d i) bd) Set.univ (loopZ F i A jt) Q) := by
  unfold inQa
  by_cases h : jt.val + 1 < 7
  · rw [dif_pos h]
    unfold fQa
    iintro ⟨Ha, ⟨%κ, %δ, %ε, Hr, Hf⟩, Hc, Ho, Hacc⟩ Hk
    iapply (wp_loopZ 𝒱 d i bd (imgW_lt i jt) (gathers_hi 𝒱 d i bd EC A (G := Xa) (κ := κ) (δ := δ) (ε := ε))) $$ [Ha Hr Hc Ho Hacc]
    · isplitl [Ha Hr Hc]
      · isplitl [Ha Hr]
        · isplitl [Ha] <;> iassumption
        · iexact Hc
      isplitl [Ho] <;> iassumption
    iintro %Y %hY ⟨⟨Ha, Hr⟩, Hc⟩ Ho Hacc
    ihave Ha := (some_of _) $$ Ha
    iapply Hk $$ %Y %hY Ha [Hr Hf] Hc Ho Hacc
    iexists κ, δ, ε
    isplitl [Hr] <;> iassumption
  · rw [dif_neg h]
    iintro ⟨Ha, ⟨Hq, Hl, Hv⟩, Hc, Ho, Hacc⟩ Hk
    ihave Ha := (part_some_join (rows_disj 0 16 24).symm) $$ [Ha Hl]
    · isplitl [Ha] <;> iassumption
    rw [Finset.union_comm, rows_union (by decide) (by decide), rows_all (s := S24x8x224.size) (n := 24) rfl]
    icases Ha with ⟨%Z, %hZ, Ha⟩
    iapply (wp_loopZ 𝒱 d i bd (imgW_lt i jt) (gathers_part 𝒱 d i bd hZ)) $$ [Ha Hc Ho Hacc]
    · isplitl [Ha Hc]
      · isplitl [Ha] <;> iassumption
      isplitl [Ho] <;> iassumption
    iintro %Y %hY ⟨Ha, Hc⟩ Ho Hacc
    ihave Ha := (some_of _) $$ Ha
    rw [← rows_all (s := S24x8x224.size) (n := 24) rfl, ← rows_union (a := 0) (b := 16) (c := 24) (by decide) (by decide)]
    ihave Ha := (some_split (rows_disj 0 16 24)) $$ Ha
    icases Ha with ⟨Hl, Ha⟩
    iapply Hk $$ %Y %hY Ha [Hq Hl Hv] Hc Ho Hacc
    isplitl [Hq]; · iexact Hq
    isplitl [Hl] <;> iassumption

end Waits

set_option maxHeartbeats 1000000 in
/-- A block. -/
theorem wp_block :
    iprop(MayWaits (tid d i) ι O ∗ state d i EC ι O W A I q qa qb jt.val)
      ⊢ iprop((state d i EC ι O W A I q qa qb (jt.val + 1) -∗ Q ⟨⟩)
        -∗ wp frame (wpE (Ix := Ix) (Name := Name) (U := U) (Lvl := Lvl) defs 𝒱 (tid d i) bd) Set.univ (block F i A jt) Q) := by
  have e2 : (jt.val + 1 + 1) % 2 = jt.val % 2 := by omega
  have e3 : (rowsS 0 16 : Finset S24x8x224.Idx) ∪ rowsS 16 24 = Finset.univ := by rw [rows_union (by decide) (by decide), rows_all (s := S24x8x224.size) (n := 24) rfl]
  have e4 : (rowsS 0 2 : Finset S4x8x224.Idx) ∪ rowsS 2 4 = Finset.univ := by rw [rows_union (by decide) (by decide), rows_all (s := S4x8x224.size) (n := 4) rfl]
  unfold block
  rw [show state d i EC ι O W A I q qa qb jt.val = iprop(fM d i EC ι A I jt (q := q) ∗ (∃ κ δ ε, fQa d i EC ι A I jt (q := qa) κ δ ε) ∗ fQb d i EC ι A I jt (q := qb) ∗ outXY d i EC ι A I jt.val ∗ outZ d i EC ι A I jt.val ∗ idle d i A I q jt.val ∗ owing (tid d i) ι O W) by
    unfold state inM inQa inQb; rw [dif_pos jt.isLt, dif_pos jt.isLt, dif_pos jt.isLt]]
  unfold idle
  iintro ⟨#Hmw, HM, ⟨%κa, %δa, %εa, HQa⟩, HQb, Hxy, Hz, ⟨Hslot, Hhi, Hbhi, Hs, Hxyi, Hzi, Hzs, Hoq, Hos, Hgq, Hgs, Hacc⟩, Hw⟩ Hk
  -- the classes
  rw [wp_bind]
  unfold fM
  iapply (wp_wait 𝒱 (tid d i) bd EC ι) $$ [Hw HM]
  · isplitr; · iexact Hmw
    isplitl [Hw] <;> iassumption
  iintro ⟨HC, Hcm⟩ Hv Hw
  rw [wp_bind]
  iapply (wp_nxtM 𝒱 d i bd EC ι A I q jt) $$ [Hcm Hslot Hv]
  · isplitl [Hcm]; · iexact Hcm
    isplitl [Hslot] <;> iassumption
  iintro HM
  rw [wp_bind]
  iapply (wp_issZ 𝒱 d i bd EC ι A I jt) $$ [Hzi Hhi Hzs]
  · isplitl [Hzi]; · iexact Hzi
    isplitl [Hhi] <;> iassumption
  iintro %κz %δz %εz HZ
  unfold fZ
  icases HZ with ⟨Hrz, HZ⟩
  -- the quaternion rows
  rw [wp_bind]
  iapply (wp_waiQa 𝒱 d i bd EC ι A I qa jt) $$ [Hw HQa]
  · isplitr; · iexact Hmw
    isplitl [Hw] <;> iassumption
  iintro Ha Hqa Has Hw
  rw [wp_bind]
  unfold fQb
  iapply (wp_wait 𝒱 (tid d i) bd EC ι) $$ [Hw HQb]
  · isplitr; · iexact Hmw
    isplitl [Hw] <;> iassumption
  iintro ⟨Hb, Hqb⟩ Hbs Hw
  ihave Hb := (part_some_join (rows_disj 0 16 24)) $$ [Hb Hbhi]
  · isplitl [Hb] <;> iassumption
  rw [e3]
  icases Hb with ⟨%Z, %hZ, Hb⟩
  rw [wp_bind]
  iapply (wp_prvOxy 𝒱 d i bd EC ι A I jt) $$ [Hw Hxy]
  · isplitr; · iexact Hmw
    isplitl [Hw] <;> iassumption
  iintro Hgxy Ho1 Hoxy Hw
  rw [wp_bind]
  iapply (wp_prvOz 𝒱 d i bd EC ι A I jt) $$ [Hw Hz]
  · isplitr; · iexact Hmw
    isplitl [Hw] <;> iassumption
  iintro Hgz Ho2 Hoz Hw
  ihave Ho := (some_join (rows_disj 0 2 4)) $$ [Ho1 Ho2]
  · isplitl [Ho1] <;> iassumption
  rw [e4]
  ihave Ho := some_elim $$ Ho
  icases Ho with ⟨%X₀, Ho⟩
  rw [wp_bind]
  iapply (wp_loopQ 𝒱 d i bd (imgW_lt i jt) (gathers_lo 𝒱 d i bd EC A (G := blkQa I i jt.val) (κ := κz) (δ := δz) (ε := εz)) (gathers_part 𝒱 d i bd hZ) (C := blkC I i jt.val)) $$ [Ha Hrz Hb HC Ho Hacc]
  · isplitl [Ha Hrz Hb HC]
    · isplitl [Ha Hrz]
      · isplitl [Ha] <;> iassumption
      isplitl [Hb]; · iexact Hb
      iexact HC
    isplitl [Ho] <;> iassumption
  iintro %X₁ %hX₁ ⟨⟨Ha, Hrz⟩, Hb, HC⟩ Ho Hacc
  ihave Hb := (some_of Z) $$ Hb
  ihave Ha := (some_of _) $$ Ha
  -- the size rows
  rw [wp_bind]
  iapply (wp_issS 𝒱 d i bd EC ι A I jt) $$ [Hs Hb Hbs]
  · isplitl [Hs]; · iexact Hs
    isplitl [Hb] <;> iassumption
  iintro HS
  rw [wp_bind]
  iapply (wp_issXY 𝒱 d i bd EC ι A I jt) $$ [Hxyi Ha Has]
  · isplitl [Hxyi]; · iexact Hxyi
    isplitl [Ha] <;> iassumption
  iintro HXY
  rw [wp_bind]
  iapply (wp_issOq 𝒱 d i bd EC ι A I jt hX₁) $$ [Ho Hgq Hoq]
  · isplitl [Ho]; · iexact Ho
    isplitl [Hgq] <;> iassumption
  iintro HOq
  rw [wp_bind]
  unfold fS
  iapply (wp_wait 𝒱 (tid d i) bd EC ι) $$ [Hw HS]
  · isplitr; · iexact Hmw
    isplitl [Hw] <;> iassumption
  iintro ⟨Hb, Hs⟩ Hbs Hw
  rw [wp_bind]
  unfold fOq
  iapply (wp_wait 𝒱 (tid d i) bd EC ι) $$ [Hw HOq]
  · isplitr; · iexact Hmw
    isplitl [Hw] <;> iassumption
  iintro ⟨Hgq, Ho⟩ Hoq Hw
  rw [wp_bind]
  iapply (wp_loopS 𝒱 d i bd (imgW_lt i jt) (gathers_part 𝒱 d i bd (X := on3 (blkS I i jt.val)) (fun _ _ => rfl)) (C := blkC I i jt.val)) $$ [Hb HC Ho Hacc]
  · isplitl [Hb HC]
    · isplitl [Hb] <;> iassumption
    isplitl [Ho] <;> iassumption
  iintro %X₂ %hX₂ ⟨Hb, HC⟩ Ho Hacc
  ihave Hb := (some_of _) $$ Hb
  rw [← e3]
  ihave Hb := (some_split (rows_disj 0 16 24)) $$ Hb
  icases Hb with ⟨Hb, Hbhi⟩
  rw [wp_bind]
  iapply (wp_nxtQb 𝒱 d i bd EC ι A I qb jt) $$ [Hqb Hb Hbs]
  · isplitl [Hqb]; · iexact Hqb
    isplitl [Hb] <;> iassumption
  iintro HQb
  rw [wp_bind]
  iapply (wp_issOs 𝒱 d i bd EC ι A I jt hX₂) $$ [Ho Hgs Hos]
  · isplitl [Ho]; · iexact Ho
    isplitl [Hgs] <;> iassumption
  iintro HOs
  -- the translations
  rw [wp_bind]
  unfold fXY
  iapply (wp_wait 𝒱 (tid d i) bd EC ι) $$ [Hw HXY]
  · isplitr; · iexact Hmw
    isplitl [Hw] <;> iassumption
  iintro ⟨Ha, Hxyi⟩ Has Hw
  rw [wp_bind]
  unfold fOs
  iapply (wp_wait 𝒱 (tid d i) bd EC ι) $$ [Hw HOs]
  · isplitr; · iexact Hmw
    isplitl [Hw] <;> iassumption
  iintro ⟨Hgs, Ho⟩ Hos Hw
  rw [wp_bind]
  iapply (wp_loopXY 𝒱 d i bd (imgW_lt i jt) (gathers_lo 𝒱 d i bd EC A (G := blkXY I i jt.val) (κ := κz) (δ := δz) (ε := εz)) (C := blkC I i jt.val)) $$ [Ha Hrz HC Ho Hacc]
  · isplitl [Ha Hrz HC]
    · isplitl [Ha Hrz]
      · isplitl [Ha] <;> iassumption
      iexact HC
    isplitl [Ho] <;> iassumption
  iintro %X₃ %hX₃ ⟨⟨Ha, Hrz⟩, HC⟩ Ho Hacc
  ihave Ha := (some_of _) $$ Ha
  rw [wp_bind]
  iapply (wp_nxtQa 𝒱 d i bd EC ι A I qa jt) $$ [Hqa Ha Has]
  · isplitl [Hqa]; · iexact Hqa
    isplitl [Ha] <;> iassumption
  iintro HQa
  rw [← e4]
  ihave Ho := (part_split (rows_disj 0 2 4) X₃) $$ Ho
  icases Ho with ⟨Ho1, Ho2⟩
  rw [wp_bind]
  iapply (wp_issOxy 𝒱 d i bd EC ι A I jt hX₃) $$ [Ho1 Hgxy Hoxy]
  · isplitl [Ho1]; · iexact Ho1
    isplitl [Hgxy] <;> iassumption
  iintro HOxy
  -- the depths
  rw [wp_bind]
  iapply (wp_waiZ 𝒱 d i bd EC ι A I q jt (κ := κz) (δ := δz) (ε := εz)) $$ [Hw Hrz HZ]
  · isplitr; · iexact Hmw
    isplitl [Hw]; · iexact Hw
    unfold fZ
    isplitl [Hrz] <;> iassumption
  iintro Ha Hzi Hzs Hw
  rw [wp_bind]
  iapply (wp_lastZ 𝒱 d i bd EC ι A I qa jt (C := blkC I i jt.val)) $$ [Ha HQa HC Ho2 Hacc]
  · isplitl [Ha]; · iexact Ha
    isplitl [HQa]; · iexact HQa
    isplitl [HC]; · iexact HC
    isplitl [Ho2] <;> iassumption
  iintro %X₄ %hX₄ Hhi HQa HC Ho2 Hacc
  iapply (wp_issOz 𝒱 d i bd EC ι A I jt hX₄) $$ [Ho2 Hgz Hoz]
  · isplitl [Ho2]; · iexact Ho2
    isplitl [Hgz] <;> iassumption
  iintro HOz
  iapply Hk
  unfold state idle
  isplitl [HM]; · iexact HM
  isplitl [HQa]; · iexact HQa
  isplitl [HQb]; · iexact HQb
  isplitl [HOxy]
  · iapply (show iprop(∃ jt' X, ⌜jt'.val = jt.val⌝ ∗ fOxy d i EC ι A I jt' X) ⊢ outXY d i EC ι A I (jt.val + 1) from .rfl)
    iexists jt, X₃
    isplitr; · ipureintro; rfl
    iexact HOxy
  isplitl [HOz]
  · iapply (show iprop(∃ jt' X, ⌜jt'.val = jt.val⌝ ∗ fOz d i EC ι A I jt' X) ⊢ outZ d i EC ι A I (jt.val + 1) from .rfl)
    iexists jt, X₄
    isplitr; · ipureintro; rfl
    iexact HOz
  isplitr [Hw]
  · isplitl [HC]
    · rw [e2]
      iapply (some_of _) $$ HC
    isplitl [Hhi]; · iexact Hhi
    isplitl [Hbhi]; · iexact Hbhi
    isplitl [Hs]; · iexact Hs
    isplitl [Hxyi]; · iexact Hxyi
    isplitl [Hzi]; · iexact Hzi
    isplitl [Hzs]; · iexact Hzs
    isplitl [Hoq]; · iexact Hoq
    isplitl [Hos]; · iexact Hos
    isplitl [Hgq]; · iexact Hgq
    isplitl [Hgs]; · iexact Hgs
    rw [accAt_succ]
    unfold accBlk
    rw [imgW_eq]
    iexact Hacc
  iexact Hw

end Cert.Proof.KernelIdeal
end
-- ==== Proof.Ideal.Run.lean ====
module

public import proofs.«01_k».proof.Proof.Ideal.Block

/-!
The subcore's whole program.
-/

@[expose] public section

noncomputable section

namespace Cert.Proof.KernelIdeal

open Cert.KernelIdeal Cert.KernelIdeal.Gen
open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid0.Coords) (bd : Option 𝒱.V)
variable (EC : UEmb Counters (MT nD τ sig Ix (Elt F) Name U Lvl)) [EC.LandsIn (upEmb : UEmb _ (MT nD τ sig Ix (Elt F) Name U Lvl))]
variable (ι : Ix) (O : CellTallies nD τ sig Ix) (W : Waits sig Ix) (A : Args) (I : Ins F) {Q : PUnit → sProp (MT nD τ sig Ix (Elt F) Name U Lvl)}

local notation "𝕄" => MT nD τ sig Ix (Elt F) Name U Lvl

/-! ## Zeroing the accumulator -/

theorem wp_zeroAll :
    some' (tid d i) A.acc fullShare Finset.univ
      ⊢ iprop((part (tid d i) A.acc fullShare Finset.univ (accAt I i 0) -∗ Q ⟨⟩)
        -∗ wp frame (wpE (Ix := Ix) (Name := Name) (U := U) (Lvl := Lvl) defs 𝒱 (tid d i) bd) Set.univ (zeroAll F i A) Q) := by
  have hI := Scf.wp_for (Idealize.ShloMosaic.frame) (wpE (Ix := Ix) (Name := Name) (U := U) (Lvl := Lvl) defs 𝒱 (tid d i) bd) Set.univ zeroL.lb zeroL.ub zeroL.st zeroL_ok PUnit.unit
    (fun t _ => zeroBody F i A t)
    (fun n _ => iprop(∃ Y : Vec F S11264 .f32, ⌜∀ j : S11264.Idx, (j 0).val < n * 16 → Y j = Scalar.ofBits .f32 0x00000000#32⌝
            ∗ part (tid d i) A.acc fullShare Finset.univ Y)) (by
    intro t _
    have hset : ∀ j : S11264.Idx, j ∈ (Rect.unit (s := S11264) (k0_off1 t) S16.size (k0_off1_inb t)).set ↔ t.val * 16 ≤ (j 0).val ∧ (j 0).val < t.val * 16 + 16 := by
      intro j
      rw [Rect.mem_set_unit, off1 t]
      constructor
      · intro h; exact h 0
      · intro h a
        match a with
        | ⟨0, _⟩ => exact h
    unfold zeroBody
    iintro ⟨%Y, %hY, H⟩
    rw [wp_bind]
    unfold Prog.lift
    iapply (wp_loadP 𝒱 (tid d i) bd (Finset.subset_univ _)) $$ H
    iintro H
    rw [wp_ret]
    imodintro
    rw [wp_bind]
    iapply (wp_storeP 𝒱 (tid d i) bd (Finset.subset_univ _)) $$ H
    iintro H
    rw [wp_ret]
    imodintro
    rw [show (pure ⟨⟩ : TP F i PUnit) = Prog.ret ⟨⟩ from rfl, wp_ret]
    imodintro
    iexists _
    isplitr
    · ipureintro
      intro j hj
      swap
      exact (Rect.unit (s := S11264) (k0_off1 t) S16.size (k0_off1_inb t)).overlay Y (zeroV (F := F))
      by_cases h : j ∈ (Rect.unit (s := S11264) (k0_off1 t) S16.size (k0_off1_inb t)).set
      · rw [← Rect.map_emb_univ] at h
        obtain ⟨k, -, rfl⟩ := Finset.mem_map.mp h
        rw [Rect.overlay_emb]
        rfl
      · rw [Rect.overlay_of_not_mem (h := h)]
        rw [hset] at h
        exact hY j (by omega)
    · iexact H) (Q := Q)
  iintro H Hk
  unfold zeroAll
  iapply hI
  isplitl [H]
  · ihave H := some_elim $$ H
    icases H with ⟨%Y, H⟩
    iexists Y
    isplitr
    · ipureintro; intro j hj; omega
    · iexact H
  · iintro %_ ⟨%Y, %hY, H⟩
    iapply Hk
    iapply (part_congr ?_) $$ H
    intro j _
    have : (j 0).val < 11264 := (j 0).isLt
    exact hY j (by rw [show Scf.trips zeroL.lb zeroL.ub zeroL.st = 704 from zeroL_trips]; omega)

/-! ## The whole -/

/-- The subcore's part of the array of accumulators. -/
def ownP : Finset S360448.Idx := Finset.univ.filter fun x => (x 0).val / 11264 = wid i

theorem ownP_eq : (Rect.unit (s := S360448) (k0_off109 i) S11264.size (k0_off109_inb i)).set = ownP i := by
  ext x
  unfold ownP
  rw [Rect.mem_set_unit, Finset.mem_filter, off109 i]
  constructor
  · intro h
    have h0 : wid i * 11264 ≤ (x 0).val := (h 0).1
    have h1 : (x 0).val < wid i * 11264 + 11264 := (h 0).2
    exact ⟨Finset.mem_univ x, by omega⟩
  · rintro ⟨-, h⟩ a
    match a with
    | ⟨0, _⟩ => exact ⟨by show wid i * 11264 ≤ (x 0).val; omega, by show (x 0).val < wid i * 11264 + 11264; omega⟩

theorem subP : Sub nD τ sig Ix (Elt F) Name U Lvl (tid d i) (partDst i A) A.part
    (fun j => (Rect.unit (s := S360448) (k0_off109 i) S11264.size (k0_off109_inb i)).emb j) (ownP i) := by
  have h := Sub.slice (nD := nD) (τ := τ) (Ix := Ix) (Val := Elt F) (Name := Name) (U := U) (Lvl := Lvl) (c := tid d i) (m := A.part)
    (Rect.unit (s := S360448) (k0_off109 i) S11264.size (k0_off109_inb i)) (fun _ => rfl)
  exact (ownP_eq i) ▸ h

variable (q qa qb : PosShare TreeShare)

/-- The subcore's shares of the arrays it reads. -/
def reads : sProp 𝕄 :=
  iprop(part (tid d i) A.cm q Finset.univ (on3 I.C) ∗ part (tid d i) A.q qa Finset.univ (on4 I.Q) ∗ part (tid d i) A.q qb Finset.univ (on4 I.Q)
    ∗ part (tid d i) A.s q Finset.univ (on4 I.S) ∗ part (tid d i) A.xy q Finset.univ (on4 I.XY) ∗ part (tid d i) A.z q Finset.univ (on4 I.Z))

/-- Its own buffers and semaphores. -/
def scratch : sProp 𝕄 :=
  iprop((some' (tid d i) A.cmv fullShare Finset.univ ∗ some' (tid d i) A.av fullShare Finset.univ ∗ some' (tid d i) A.bv fullShare Finset.univ
      ∗ some' (tid d i) A.ov fullShare Finset.univ ∗ some' (tid d i) A.acc fullShare Finset.univ)
    ∗ semVal (tid d i, .dma A.msM.sem) 0 ∗ semVal (tid d i, .dma A.asM.sem) 0 ∗ semVal (tid d i, .dma A.bsM.sem) 0 ∗ semVal (tid d i, .dma A.zsM.sem) 0
    ∗ semVal (tid d i, .dma A.oqM.sem) 0 ∗ semVal (tid d i, .dma A.osM.sem) 0 ∗ semVal (tid d i, .dma A.oxyM.sem) 0 ∗ semVal (tid d i, .dma A.ozM.sem) 0
    ∗ semVal (tid d i, .dma A.scM.sem) 0)

/-- Its parts of the arrays it writes, known in the first `n` blocks. -/
def writes (n : ℕ) : sProp 𝕄 :=
  iprop(outS d i A.gq 0 2 (valsQ I) n ∗ outS d i A.gs 0 2 (valsS I) n ∗ outS d i A.gxy 0 2 (valsXY I) n ∗ outS d i A.gz 0 1 (valsZ I) n)

include EC in
set_option maxHeartbeats 1000000 in
theorem wp_tile {V : Vec F S360448 .f32} (hV : ∀ j, V ((Rect.unit (s := S360448) (k0_off109 i) S11264.size (k0_off109_inb i)).emb j) = accAt I i 7 j) :
    iprop(MayWaits (tid d i) ι O ∗ owing (tid d i) ι O W ∗ reads d i A I q qa qb ∗ scratch d i A ∗ writes d i A I 0 ∗ some' (tid d i) A.part fullShare (ownP i))
      ⊢ iprop((owing (tid d i) ι O W -∗ reads d i A I q qa qb -∗ scratch d i A -∗ writes d i A I 7 -∗ part (tid d i) A.part fullShare (ownP i) V -∗ Q ⟨⟩)
        -∗ wp frame (wpE (Ix := Ix) (Name := Name) (U := U) (Lvl := Lvl) defs 𝒱 (tid d i) bd) Set.univ (tile F i A) Q) := by
  have e2 : (rowsS 0 1 : Finset S2x8x224.Idx) ∪ rowsS 1 2 = Finset.univ := by rw [rows_union (by decide) (by decide), rows_all (s := S2x8x224.size) (n := 2) rfl]
  have e3 : (rowsS 0 16 : Finset S24x8x224.Idx) ∪ rowsS 16 24 = Finset.univ := by rw [rows_union (by decide) (by decide), rows_all (s := S24x8x224.size) (n := 24) rfl]
  have e4 : (rowsS 0 2 : Finset S4x8x224.Idx) ∪ rowsS 2 4 = Finset.univ := by rw [rows_union (by decide) (by decide), rows_all (s := S4x8x224.size) (n := 4) rfl]
  unfold tile reads scratch writes
  rw [← e2, ← e3, ← e4]
  iintro ⟨#Hmw, Hw, ⟨Hcm, Hqa, Hqb, Hs, Hxy, Hz⟩, ⟨⟨Hcmv, Hav, Hbv, Hov, Hacc⟩, Hms, Has, Hbs, Hzs, Hoq, Hos, Hoxy, Hoz, Hsc⟩, ⟨Hgq, Hgs, Hgxy, Hgz⟩, Hpart⟩ Hk
  ihave Hcmv := (some_split (rows_disj 0 1 2)) $$ Hcmv
  icases Hcmv with ⟨Hc0, Hc1⟩
  ihave Hav := (some_split (rows_disj 0 16 24)) $$ Hav
  icases Hav with ⟨Ha0, Ha1⟩
  ihave Hbv := (some_split (rows_disj 0 16 24)) $$ Hbv
  icases Hbv with ⟨Hb0, Hb1⟩
  ihave Hov := (some_split (rows_disj 0 2 4)) $$ Hov
  icases Hov with ⟨Ho0, Ho1⟩
  rw [wp_bind]
  iapply (wp_zeroAll 𝒱 d i bd A I) $$ Hacc
  iintro Hacc
  rw [wp_bind]
  iapply (wp_issM 𝒱 d i bd EC ι A I 0) $$ [Hcm Hc0 Hms]
  · isplitl [Hcm]; · iexact Hcm
    isplitl [Hc0]; · iexact Hc0
    iexact Hms
  iintro HM
  rw [wp_bind]
  iapply (wp_issQa 𝒱 d i bd EC ι A I 0) $$ [Hqa Ha0 Has]
  · isplitl [Hqa]; · iexact Hqa
    isplitl [Ha0]; · iexact Ha0
    iexact Has
  iintro %κ %δ %ε HQa
  rw [wp_bind]
  iapply (wp_issQb 𝒱 d i bd EC ι A I 0) $$ [Hqb Hb0 Hbs]
  · isplitl [Hqb]; · iexact Hqb
    isplitl [Hb0]; · iexact Hb0
    iexact Hbs
  iintro HQb
  ihave Hst : state d i EC ι O W A I q qa qb 0 $$ [HM HQa HQb Hgxy Ho0 Hoxy Hgz Ho1 Hoz Hc1 Ha1 Hb1 Hs Hxy Hz Hzs Hoq Hos Hgq Hgs Hacc Hw]
  · unfold state inM inQa inQb outXY outZ idle
    rw [dif_pos (by decide), dif_pos (by decide), dif_pos (by decide)]
    isplitl [HM]; · iexact HM
    isplitl [HQa]
    · iexists κ, δ, ε
      iexact HQa
    isplitl [HQb]; · iexact HQb
    isplitl [Hgxy Ho0 Hoxy]
    · isplitl [Hgxy]; · iexact Hgxy
      isplitl [Ho0] <;> iassumption
    isplitl [Hgz Ho1 Hoz]
    · isplitl [Hgz]; · iexact Hgz
      isplitl [Ho1] <;> iassumption
    isplitr [Hw]
    · isplitl [Hc1]; · iexact Hc1
      isplitl [Ha1]; · iexact Ha1
      isplitl [Hb1]; · iexact Hb1
      isplitl [Hs]; · iexact Hs
      isplitl [Hxy]; · iexact Hxy
      isplitl [Hz]; · iexact Hz
      isplitl [Hzs]; · iexact Hzs
      isplitl [Hoq]; · iexact Hoq
      isplitl [Hos]; · iexact Hos
      isplitl [Hgq]; · iexact Hgq
      isplitl [Hgs]; · iexact Hgs
      iexact Hacc
    iexact Hw
  rw [wp_bind]
  iapply (wp_block 𝒱 d i bd EC ι O W A I q qa qb 0) $$ [Hst]
  · isplitr; · iexact Hmw
    iexact Hst
  iintro Hst
  rw [wp_bind]
  iapply (wp_block 𝒱 d i bd EC ι O W A I q qa qb 1) $$ [Hst]
  · isplitr; · iexact Hmw
    iexact Hst
  iintro Hst
  rw [wp_bind]
  iapply (wp_block 𝒱 d i bd EC ι O W A I q qa qb 2) $$ [Hst]
  · isplitr; · iexact Hmw
    iexact Hst
  iintro Hst
  rw [wp_bind]
  iapply (wp_block 𝒱 d i bd EC ι O W A I q qa qb 3) $$ [Hst]
  · isplitr; · iexact Hmw
    iexact Hst
  iintro Hst
  rw [wp_bind]
  iapply (wp_block 𝒱 d i bd EC ι O W A I q qa qb 4) $$ [Hst]
  · isplitr; · iexact Hmw
    iexact Hst
  iintro Hst
  rw [wp_bind]
  iapply (wp_block 𝒱 d i bd EC ι O W A I q qa qb 5) $$ [Hst]
  · isplitr; · iexact Hmw
    iexact Hst
  iintro Hst
  rw [wp_bind]
  iapply (wp_block 𝒱 d i bd EC ι O W A I q qa qb 6) $$ [Hst]
  · isplitr; · iexact Hmw
    iexact Hst
  iintro Hst
  ihave Hst := (show state d i EC ι O W A I q qa qb ((6 : Fin 7).val + 1) ⊢ state d i EC ι O W A I q qa qb 7 from .rfl) $$ Hst
  unfold state inM inQa inQb idle
  rw [dif_neg (by decide), dif_neg (by decide), dif_neg (by decide)]
  icases Hst with ⟨⟨Hcm, Hc1, Hms⟩, ⟨Hqa, Ha0, Has⟩, ⟨Hqb, Hb0, Hbs⟩, Hxy', Hz', ⟨Hc0, Ha1, Hb1, Hs, Hxy, Hz, Hzs, Hoq, Hos, Hgq, Hgs, Hacc⟩, Hw⟩
  rw [wp_bind]
  iapply (wp_waiOxy 𝒱 d i bd EC ι A I 6) $$ [Hw Hxy']
  · isplitr; · iexact Hmw
    isplitl [Hw]; · iexact Hw
    iexact Hxy'
  iintro Hgxy Ho0 Hoxy Hw
  rw [wp_bind]
  iapply (wp_waiOz 𝒱 d i bd EC ι A I 6) $$ [Hw Hz']
  · isplitr; · iexact Hmw
    isplitl [Hw]; · iexact Hw
    iexact Hz'
  iintro Hgz Ho1 Hoz Hw
  rw [wp_bind]
  iapply (wp_copyIn 𝒱 (tid d i) bd EC ι (by decide) Sub.refl (subP d i A) (Finset.subset_univ _) rfl (V := V) hV) $$ [Hacc Hpart Hsc]
  · isplitl [Hacc]; · iexact Hacc
    isplitl [Hpart] <;> iassumption
  iintro Hf
  rw [wp_bind]
  iapply (wp_wait 𝒱 (tid d i) bd EC ι) $$ [Hw Hf]
  · isplitr; · iexact Hmw
    isplitl [Hw] <;> iassumption
  iintro ⟨Hpart, Hacc⟩ Hsc Hw
  ihave Hacc := (some_of _) $$ Hacc
  rw [show (pure ⟨⟩ : TP F i PUnit) = Prog.ret ⟨⟩ from rfl, wp_ret]
  imodintro
  iapply Hk $$ Hw [Hcm Hqa Hqb Hs Hxy Hz] [Hc0 Hc1 Ha0 Ha1 Hb0 Hb1 Ho0 Ho1 Hacc Hms Has Hbs Hzs Hoq Hos Hoxy Hoz Hsc] [Hgq Hgs Hgxy Hgz] Hpart
  · isplitl [Hcm]; · iexact Hcm
    isplitl [Hqa]; · iexact Hqa
    isplitl [Hqb]; · iexact Hqb
    isplitl [Hs]; · iexact Hs
    isplitl [Hxy] <;> iassumption
  · isplitl [Hc0 Hc1 Ha0 Ha1 Hb0 Hb1 Ho0 Ho1 Hacc]
    · isplitl [Hc0 Hc1]
      · iapply (some_join (rows_disj 0 1 2))
        isplitl [Hc0]; · iexact Hc0
        iexact Hc1
      isplitl [Ha0 Ha1]
      · iapply (some_join (rows_disj 0 16 24))
        isplitl [Ha0] <;> iassumption
      isplitl [Hb0 Hb1]
      · iapply (some_join (rows_disj 0 16 24))
        isplitl [Hb0] <;> iassumption
      isplitl [Ho0 Ho1]
      · iapply (some_join (rows_disj 0 2 4))
        isplitl [Ho0] <;> iassumption
      iexact Hacc
    isplitl [Hms]; · iexact Hms
    isplitl [Has]; · iexact Has
    isplitl [Hbs]; · iexact Hbs
    isplitl [Hzs]; · iexact Hzs
    isplitl [Hoq]; · iexact Hoq
    isplitl [Hos]; · iexact Hos
    isplitl [Hoxy]; · iexact Hoxy
    isplitl [Hoz] <;> iassumption
  · isplitl [Hgq]; · iexact Hgq
    isplitl [Hgs]; · iexact Hgs
    isplitl [Hgxy]; · iexact Hgxy
    iexact Hgz

end Cert.Proof.KernelIdeal
end
-- ==== Proof.Ideal.Body.lean ====
module

public import proofs.«01_k».proof.Proof.Ideal.Tile

@[expose] public section

noncomputable section

namespace Cert.Proof.KernelIdeal

open Cert.KernelIdeal Cert.KernelIdeal.Gen
open Idealize.ShloMosaic Idealize.SL.Sem

variable {F : FTy → Type} [FloatOps F]
set_option maxRecDepth 65536 in
set_option maxHeartbeats 40000000 in
/-- The program of a subcore, operation by operation, is `tile`. -/
theorem body_eq (i : grid0.Coords) (arg2 : Memref sig .scVector .hbm S8x224x224 .i32) (harg2 : arg2.IsWhole) (arg3 : Memref sig .scVector .hbm S8x32x224x224 .f32) (harg3 : arg3.IsWhole) (arg4 : Memref sig .scVector .hbm S8x24x224x224 .f32) (harg4 : arg4.IsWhole) (arg5 : Memref sig .scVector .hbm S8x16x224x224 .f32) (harg5 : arg5.IsWhole) (arg6 : Memref sig .scVector .hbm S8x8x224x224 .f32) (harg6 : arg6.IsWhole) (arg7 : Memref sig .scVector .hbm S8x4x224x224 .f32) (harg7 : arg7.IsWhole) (arg8 : Memref sig .scVector .hbm S8x3x224x224 .f32) (harg8 : arg8.IsWhole) (arg9 : Memref sig .scVector .hbm S8x2x224x224 .f32) (harg9 : arg9.IsWhole) (arg10 : Memref sig .scVector .hbm S8x224x224 .f32) (harg10 : arg10.IsWhole) (arg11 : Memref sig .scVector .hbm S360448 .f32) (harg11 : arg11.IsWhole) (arg12 : Memref sig .scVector .vmem S2x8x224 .i32) (harg12 : arg12.IsWhole) (arg13 : Memref sig .scVector .vmem S24x8x224 .f32) (harg13 : arg13.IsWhole) (arg14 : Memref sig .scVector .vmem S24x8x224 .f32) (harg14 : arg14.IsWhole) (arg15 : Memref sig .scVector .vmem S4x8x224 .f32) (harg15 : arg15.IsWhole) (arg16 : Memref sig .scVector .vmem S11264 .f32) (harg16 : arg16.IsWhole)
    (arg17 arg18 arg19 arg20 arg21 arg22 arg23 arg24 v6111_r0 : DmaSems sig S_) :
    cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v6111_r0 =
      tile F i ⟨arg2, arg3, arg4, arg5, arg6, arg7, arg8, arg9, arg10, arg11, arg12, arg13, arg14, arg15, arg16, harg14, harg16, arg17, arg18, arg19, arg20, arg21, arg22, arg23, arg24, v6111_r0⟩ := by
  simp only [cc0__sc_body, k0_part229, k0_part230, k0_part231, k0_part57, k0_part58, k0_part59, k0_part60, k0_part61, k0_part62, k0_part63, k0_part64, k0_part65, k0_part66,
    k0_part67, k0_part68, k0_part69, k0_part70, k0_part71, k0_part72, k0_part73, k0_part74, k0_part75, k0_part76, k0_part77, k0_part78, k0_part79,
    k0_part80, k0_part81, k0_part82, k0_part83, k0_part84, k0_part85, k0_part86, k0_part87, k0_part88, k0_part89, k0_part90, k0_part91, k0_part92,
    k0_part93, k0_part94, k0_part95, k0_part96, k0_part97, k0_part98, k0_part99, k0_part100, k0_part101, k0_part102, k0_part103, k0_part104, k0_part105,
    k0_part106, k0_part107, k0_part108, k0_part109, k0_part110, k0_part111, k0_part112, k0_part113, k0_part114, k0_part115, k0_part116, k0_part117,
    k0_part118, k0_part119, k0_part120, k0_part121, k0_part122, k0_part123, k0_part124, k0_part125, k0_part126, k0_part127, k0_part128, k0_part129,
    k0_part130, k0_part131, k0_part132, k0_part133, k0_part134, k0_part135, k0_part136, k0_part137, k0_part138, k0_part139, k0_part140, k0_part141,
    k0_part142, k0_part143, k0_part144, k0_part145, k0_part146, k0_part147, k0_part148, k0_part149, k0_part150, k0_part151, k0_part152, k0_part153,
    k0_part154, k0_part155, k0_part156, k0_part157, k0_part158, k0_part159, k0_part160, k0_part161, k0_part162, k0_part163, k0_part164, k0_part165,
    k0_part166, k0_part167, k0_part168, k0_part169, k0_part170, k0_part171, k0_part172, k0_part173, k0_part174, k0_part175, k0_part176, k0_part177,
    k0_part178, k0_part179, k0_part180, k0_part181, k0_part182, k0_part183, k0_part184, k0_part185, k0_part186, k0_part187, k0_part188, k0_part189,
    k0_part190, k0_part191, k0_part192, k0_part193, k0_part194, k0_part195, k0_part196, k0_part197, k0_part198, k0_part199, k0_part200, k0_part201,
    k0_part202, k0_part203, k0_part204, k0_part205, k0_part206, k0_part207, k0_part208, k0_part209, k0_part210, k0_part211, k0_part212, k0_part213,
    k0_part214, k0_part215, k0_part216, k0_part217, k0_part218, k0_part219, k0_part220, k0_part221, k0_part222, k0_part223, k0_part224, k0_part225,
    k0_part226, k0_part227, k0_part228, Prog.bind_assoc, bind_assoc, pure_bind, tile, block]
  rfl

end Cert.Proof.KernelIdeal
end
-- ==== Proof.Ideal.Task.lean ====
module

public import proofs.«01_k».proof.Proof.Ideal.Run
public import proofs.«01_k».proof.Proof.Ideal.Body
public import proofs.«01_k».proof.Proof.Whole
public import Idealize.ShloMosaic.Lib.SparseCore.Quiescent
public import Idealize.ShloMosaic.Lib.Pipeline.Regions
public import Idealize.ShloMosaic.Lib.Pipeline.Kit

/-!
One subcore's task: from its shares of the arrays it reads and its rows of the arrays it writes, to its rows written.
-/

@[expose] public section

noncomputable section

namespace Cert.Proof.KernelIdeal

open Cert.KernelIdeal Cert.KernelIdeal.Gen
open Idealize.ShloMosaic Idealize.ShloMosaic.Transfers
open Idealize.ShloMosaic.SparseCore (V T)
open Idealize.ShloMosaic.SparseCore.Cfg (HIx Pay ownBufs ownSems0 ownCells ownRefs mem_ownCells mem_ownRefs)
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Rounds

variable {F : FTy → Type}

/-! ## The program as it is launched -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch's handshakes, the pipeline's rounds, and the counters of the copies. -/
abbrev UH : Type := URounds (GSem nD τ sig) ℕ
abbrev UU : Type := UH × (UR sig nD τ × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_lands : (EH : Emb UH 𝕄).LandsIn (upEmb : UEmb _ 𝕄) := by unfold EH; infer_instance
instance EP_lands : (EP : Emb (UR sig nD τ) 𝕄).LandsIn (upEmb : UEmb _ 𝕄) := by unfold EP; infer_instance

variable [FloatOps F]

/-! ## A subcore's buffers and semaphores -/

/-- The memrefs and semaphores of the subcore's program. -/
def args : Args where
  cm := Memref.whole main_arg0_scv
  q := Memref.whole main_arg1_scv
  s := Memref.whole main_arg2_scv
  xy := Memref.whole main_arg3_scv
  z := Memref.whole main_arg4_scv
  gq := Memref.whole main_v0_0_scv
  gs := Memref.whole main_v0_1_scv
  gxy := Memref.whole main_v0_2_scv
  gz := Memref.whole main_v0_3_scv
  part := Memref.whole main_v0_4_scv
  cmv := Memref.whole cc0_scratch0
  av := Memref.whole cc0_scratch1
  bv := Memref.whole cc0_scratch2
  ov := Memref.whole cc0_scratch3
  acc := Memref.whole cc0_scratch4
  hb := Memref.isWhole_whole _
  hacc := Memref.isWhole_whole _
  msM := cc0_scratch5
  asM := cc0_scratch6
  bsM := cc0_scratch7
  zsM := cc0_scratch8
  oqM := cc0_scratch9
  osM := cc0_scratch10
  oxyM := cc0_scratch11
  ozM := cc0_scratch12
  scM := cc0_scoped0

def bufSet : Finset (Ref sig .scVector) := {cc0_scratch0, cc0_scratch1, cc0_scratch2, cc0_scratch3, cc0_scratch4}
def semSet : Finset (SemLoc sig) :=
  {.dma cc0_scratch5.sem, .dma cc0_scratch6.sem, .dma cc0_scratch7.sem, .dma cc0_scratch8.sem, .dma cc0_scratch9.sem, .dma cc0_scratch10.sem,
    .dma cc0_scratch11.sem, .dma cc0_scratch12.sem, .dma cc0_scoped0.sem}

section
variable (d : Dev nD) (c : Fin τ.nSC) (j : Fin τ.nSub)

theorem ownBufs_eq :
    (ownBufs (V d c j) : sProp 𝕄)
      = iprop((bigSep bufSet fun b => iprop(∃ f, (V d c j).loc b ↦{fullShare} f))
          ∗ bigSep (ownRefs (τ := τ) (.scVector c j) \ bufSet.map ⟨fun b => (Proc.scVector c j).devRef b, Proc.devRef_injective _⟩)
              fun b => iprop(∃ f, ((d, b) : Loc nD τ sig) ↦{fullShare} f)) := by
  have hsub : bufSet.map ⟨fun b => (Proc.scVector c j).devRef b, Proc.devRef_injective _⟩ ⊆ ownRefs (τ := τ) (sig := sig) (.scVector c j) := by
    intro x hx
    obtain ⟨b, hb, rfl⟩ := Finset.mem_map.mp hx
    have h : ∀ b ∈ bufSet, ∀ c j, ((Proc.scVector (τ := τ) c j).devRef b : DevRef τ sig).owner = .proc (.scVector c j) := by
      intro b hb c j
      unfold bufSet at hb
      fin_cases hb <;> rfl
    exact SparseCore.Cfg.mem_ownRefs_of_owner (h b hb c j)
  unfold SparseCore.Cfg.ownBufs
  conv_lhs => rw [← Finset.union_sdiff_of_subset hsub]
  rw [SparseCore.bigSep_union' Finset.disjoint_sdiff, BI.bigSep_map]
  rfl

theorem ownSems_eq :
    (ownSems0 (V d c j) : sProp 𝕄)
      = iprop((bigSep semSet fun sm => semVal ((V d c j, sm) : GSem nD τ sig) 0)
          ∗ bigSep (ownCells (V d c j) \ semSet.map ⟨fun sm => ((V d c j, sm) : GSem nD τ sig), fun _ _ e => (Prod.mk.inj e).2⟩) fun g => semVal g 0) := by
  have hsub : semSet.map ⟨fun sm => ((V d c j, sm) : GSem nD τ sig), fun _ _ e => (Prod.mk.inj e).2⟩ ⊆ ownCells (V d c j) := by
    intro x hx
    obtain ⟨b, hb, rfl⟩ := Finset.mem_map.mp hx
    have h : ∀ b ∈ semSet, b.isScoped .scVector = true := by decide
    exact mem_ownCells.mpr ⟨rfl, h b hb⟩
  unfold SparseCore.Cfg.ownSems0
  conv_lhs => rw [← Finset.union_sdiff_of_subset hsub]
  rw [SparseCore.bigSep_union' Finset.disjoint_sdiff, BI.bigSep_map]
  rfl

theorem bufs_list : (bigSep bufSet fun b => iprop(∃ f, (V d c j).loc b ↦{fullShare} f) : sProp 𝕄)
    = iprop((∃ f, (V d c j).loc cc0_scratch0 ↦{fullShare} f) ∗ (∃ f, (V d c j).loc cc0_scratch1 ↦{fullShare} f) ∗ (∃ f, (V d c j).loc cc0_scratch2 ↦{fullShare} f)
        ∗ (∃ f, (V d c j).loc cc0_scratch3 ↦{fullShare} f) ∗ (∃ f, (V d c j).loc cc0_scratch4 ↦{fullShare} f)) := by
  unfold bufSet
  rw [SparseCore.bigSep_insert' (by decide), SparseCore.bigSep_insert' (by decide), SparseCore.bigSep_insert' (by decide), SparseCore.bigSep_insert' (by decide),
    BI.bigSep_singleton]

theorem sems_list : (bigSep semSet fun sm => semVal ((V d c j, sm) : GSem nD τ sig) 0 : sProp 𝕄)
    = iprop(semVal (V d c j, .dma cc0_scratch5.sem) 0 ∗ semVal (V d c j, .dma cc0_scratch6.sem) 0 ∗ semVal (V d c j, .dma cc0_scratch7.sem) 0
        ∗ semVal (V d c j, .dma cc0_scratch8.sem) 0 ∗ semVal (V d c j, .dma cc0_scratch9.sem) 0 ∗ semVal (V d c j, .dma cc0_scratch10.sem) 0
        ∗ semVal (V d c j, .dma cc0_scratch11.sem) 0 ∗ semVal (V d c j, .dma cc0_scratch12.sem) 0 ∗ semVal (V d c j, .dma cc0_scoped0.sem) 0) := by
  unfold semSet
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    BI.bigSep_singleton]
end

section
variable (d : Dev nD) (i : grid0.Coords)

/-- What the subcore holds of its own besides what its program uses. -/
def others : sProp 𝕄 :=
  iprop((bigSep (ownRefs (τ := τ) (tid d i).2 \ bufSet.map ⟨fun b => (tid d i).2.devRef b, Proc.devRef_injective _⟩)
          fun b => iprop(∃ f, ((d, b) : Loc nD τ sig) ↦{fullShare} f))
    ∗ bigSep (ownCells (tid d i) \ semSet.map ⟨fun sm => ((tid d i, sm) : GSem nD τ sig), fun _ _ e => (Prod.mk.inj e).2⟩) fun g => semVal g 0)

theorem scratch_in : iprop(scopedBufs (tid d i) ∗ scopedSems0 (tid d i)) ⊢ (iprop(scratch d i args ∗ others d i) : sProp 𝕄) := by
  rw [show (scopedBufs (tid d i) : sProp 𝕄) = ownBufs (tid d i) from (K (F := F)).scopedBufs_V facts d _ _,
    show (scopedSems0 (tid d i) : sProp 𝕄) = ownSems0 (tid d i) from SparseCore.Cfg.scopedSems0_V (Val := Elt F) d _ _]
  unfold tid others
  rw [ownBufs_eq, ownSems_eq, bufs_list, sems_list]
  iintro ⟨⟨⟨⟨%f0, H0⟩, ⟨%f1, H1⟩, ⟨%f2, H2⟩, ⟨%f3, H3⟩, ⟨%f4, H4⟩⟩, Hb⟩, ⟨S0, S1, S2, S3, S4, S5, S6, S7, S8⟩, Hs⟩
  isplitr [Hb Hs]
  · unfold scratch args tid
    isplitl [H0 H1 H2 H3 H4]
    · isplitl [H0]; · iapply (some_of_pts _ cc0_scratch0) $$ H0
      isplitl [H1]; · iapply (some_of_pts _ cc0_scratch1) $$ H1
      isplitl [H2]; · iapply (some_of_pts _ cc0_scratch2) $$ H2
      isplitl [H3]; · iapply (some_of_pts _ cc0_scratch3) $$ H3
      iapply (some_of_pts _ cc0_scratch4) $$ H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [Hb]; · iexact Hb
  iexact Hs

theorem scratch_out : (iprop(scratch d i args ∗ others d i) : sProp 𝕄) ⊢ iprop(scopedBufs (tid d i) ∗ scopedSems0 (tid d i)) := by
  rw [show (scopedBufs (tid d i) : sProp 𝕄) = ownBufs (tid d i) from (K (F := F)).scopedBufs_V facts d _ _,
    show (scopedSems0 (tid d i) : sProp 𝕄) = ownSems0 (tid d i) from SparseCore.Cfg.scopedSems0_V (Val := Elt F) d _ _]
  unfold tid others
  rw [ownBufs_eq, ownSems_eq, bufs_list, sems_list]
  unfold scratch args tid
  iintro ⟨⟨⟨H0, H1, H2, H3, H4⟩, S0, S1, S2, S3, S4, S5, S6, S7, S8⟩, Hb, Hs⟩
  isplitl [H0 H1 H2 H3 H4 Hb]
  · isplitr [Hb]
    · isplitl [H0]; · iapply (pts_of_some _ cc0_scratch0) $$ H0
      isplitl [H1]; · iapply (pts_of_some _ cc0_scratch1) $$ H1
      isplitl [H2]; · iapply (pts_of_some _ cc0_scratch2) $$ H2
      isplitl [H3]; · iapply (pts_of_some _ cc0_scratch3) $$ H3
      iapply (pts_of_some _ cc0_scratch4) $$ H4
    iexact Hb
  isplitr [Hs]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iexact Hs
end

end Cert.Proof.KernelIdeal
end
-- ==== Proof.Ideal.Coords.lean ====
module

public import proofs.«01_k».proof.Proof.Ideal.Copies

/-!
The arguments as functions of natural coordinates.
-/

@[expose] public section

noncomputable section

namespace Cert.Proof.KernelIdeal

open Cert.KernelIdeal Cert.KernelIdeal.Gen
open Idealize.ShloMosaic Idealize.ShloMosaic.Transfers
open Idealize.ShloMosaic.SparseCore (V T)
open Idealize.ShloMosaic.SparseCore.Cfg (HIx Pay)
open Idealize.SL
open Idealize.SL.BI (sProp Storable bigSep bigSep_sep')
open scoped Idealize.SL.BI
open Idealize.SL.BI.BIBase Idealize.SL.BI.Laws Idealize.SL.Sem Idealize.SL.ProofMode
open Idealize.SL.RA
open Idealize.ShloMosaic.Rounds

variable {F : FTy → Type} [FloatOps F]

/-! ## The arrays as functions of natural coordinates -/

/-- The index with the given coordinates, each taken modulo the axis. -/
def ixN {s : Shape} (h : ∀ k, 0 < s.size k) (v : Fin s.rank → ℕ) : s.Idx := fun k => ⟨v k % s.size k, Nat.mod_lt _ (h k)⟩

theorem ixN_self {s : Shape} (h : ∀ k, 0 < s.size k) (j : s.Idx) (v : Fin s.rank → ℕ) (hv : ∀ k, v k = (j k).val) : ixN h v = j := by
  funext k
  apply Fin.ext
  show v k % s.size k = (j k).val
  rw [hv k]
  exact Nat.mod_eq_of_lt (j k).isLt

def nat3 {α : Type} {s : Fin 3 → ℕ} (h : ∀ k, 0 < s k) (X : (⟨3, s⟩ : Shape).Idx → α) : ℕ → ℕ → ℕ → α :=
  fun a b c => X (ixN (s := ⟨3, s⟩) h ![a, b, c])
def nat4 {α : Type} {s : Fin 4 → ℕ} (h : ∀ k, 0 < s k) (X : (⟨4, s⟩ : Shape).Idx → α) : ℕ → ℕ → ℕ → ℕ → α :=
  fun a b c e => X (ixN (s := ⟨4, s⟩) h ![a, b, c, e])

theorem on3_nat3 {α : Type} {s : Fin 3 → ℕ} (h : ∀ k, 0 < s k) (X : (⟨3, s⟩ : Shape).Idx → α) : on3 (nat3 h X) = X := by
  funext j
  unfold on3 nat3
  congr 1
  exact ixN_self (s := ⟨3, s⟩) h j _ fun k => by match k with | ⟨0, _⟩ => rfl | ⟨1, _⟩ => rfl | ⟨2, _⟩ => rfl

theorem on4_nat4 {α : Type} {s : Fin 4 → ℕ} (h : ∀ k, 0 < s k) (X : (⟨4, s⟩ : Shape).Idx → α) : on4 (nat4 h X) = X := by
  funext j
  unfold on4 nat4
  congr 1
  exact ixN_self (s := ⟨4, s⟩) h j _ fun k => by match k with | ⟨0, _⟩ => rfl | ⟨1, _⟩ => rfl | ⟨2, _⟩ => rfl | ⟨3, _⟩ => rfl

variable (m : (ℓ : Loc nD τ sig) → Buf (Elt F) ℓ)

/-- A buffer of the TensorCore's on device `d`. -/
abbrev lc (d : Dev nD) (b : Ref sig .tc) : Loc nD τ sig := (SparseCore.T d).loc b

theorem p3 : ∀ k, 0 < S8x224x224.size k := by decide
theorem pq : ∀ k, 0 < S8x32x224x224.size k := by decide
theorem ps : ∀ k, 0 < S8x24x224x224.size k := by decide
theorem pxy : ∀ k, 0 < S8x16x224x224.size k := by decide
theorem pz : ∀ k, 0 < S8x8x224x224.size k := by decide

def ins (c : Vec F S8x224x224 .i32) (q : Vec F S8x32x224x224 .f32) (s : Vec F S8x24x224x224 .f32) (xy : Vec F S8x16x224x224 .f32)
    (z : Vec F S8x8x224x224 .f32) : Ins F where
  C := nat3 p3 c
  Q := nat4 pq q
  S := nat4 ps s
  XY := nat4 pxy xy
  Z := nat4 pz z

/-- The arguments in the memory at launch. -/
def insM (d : Dev nD) : Ins F := ins (m (lc d main_arg0)) (m (lc d main_arg1)) (m (lc d main_arg2)) (m (lc d main_arg3)) (m (lc d main_arg4))

end Cert.Proof.KernelIdeal
-- ==== Proof.Ideal.Deal.lean ====
module

public import proofs.«01_k».proof.Proof.Ideal.Task
public import proofs.«01_k».proof.Proof.Ideal.Coords

/-!
What each subcore is handed and hands back, and the whole arrays dealt to the subcores and joined again.
-/

@[expose] public section

noncomputable section

namespace Cert.Proof.KernelIdeal

open Cert.KernelIdeal Cert.KernelIdeal.Gen
open Idealize.ShloMosaic Idealize.ShloMosaic.Transfers
open Idealize.ShloMosaic.SparseCore (V T)
open Idealize.ShloMosaic.SparseCore.Cfg (HIx Pay)
open Idealize.SL
open Idealize.SL.BI (sProp Storable bigSep bigSep_sep')
open scoped Idealize.SL.BI
open Idealize.SL.BI.BIBase Idealize.SL.BI.Laws Idealize.SL.Sem Idealize.SL.ProofMode
open Idealize.SL.RA
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The subcores -/

/-- The coordinates of a subcore. -/
def coordsV (c : Fin (grid0.bound 0)) (s : Fin (grid0.bound 1)) : grid0.Coords :=
  fun | 0 => c | 1 => s | ⟨_ + 2, h⟩ => absurd h (Nat.not_lt.2 (Nat.le_add_left _ _))

/-- A subcore is a core and a number in it. -/
abbrev Sub' : Type := Fin 2 × Fin 16
def co (p : Sub') : grid0.Coords := coordsV p.1 p.2

theorem wid_co (p : Sub') : wid (co p) = p.2.val * 2 + p.1.val := rfl

/-- The subcore with a given number. -/
def tileOf (w : ℕ) : Sub' := (⟨w % 2, Nat.mod_lt _ (by decide)⟩, ⟨w / 2 % 16, Nat.mod_lt _ (by decide)⟩)

theorem tileOf_wid (p : Sub') : tileOf (wid (co p)) = p := by
  rw [wid_co]
  have h1 := p.1.isLt
  have h2 := p.2.isLt
  refine Prod.ext (Fin.ext ?_) (Fin.ext ?_)
  · show (p.2.val * 2 + p.1.val) % 2 = p.1.val; omega
  · show (p.2.val * 2 + p.1.val) / 2 % 16 = p.2.val; omega

theorem wid_tileOf {w : ℕ} (h : w < 32) : wid (co (tileOf w)) = w := by
  rw [wid_co]
  show w / 2 % 16 * 2 + w % 2 = w
  omega

/-- What the subcores leave in the array of partial sums. -/
def partV (I : Ins F) : Vec F S360448 .f32 :=
  fun x => accAt I (co (tileOf ((x 0).val / 11264))) 7 (ixN (s := S11264) (by decide) fun _ => (x 0).val)

theorem partV_emb (I : Ins F) (p : Sub') (j : (Rect.unit (s := S360448) (k0_off109 (co p)) S11264.size (k0_off109_inb (co p))).shape.Idx) :
    partV I ((Rect.unit (s := S360448) (k0_off109 (co p)) S11264.size (k0_off109_inb (co p))).emb j) = accAt I (co p) 7 j := by
  have h0 : (((Rect.unit (s := S360448) (k0_off109 (co p)) S11264.size (k0_off109_inb (co p))).emb j) 0).val = wid (co p) * 11264 + (j 0).val := by
    show k0_off109 (co p) 0 + 1 * (j 0).val = _
    have h := congrFun (off109 (co p)) 0
    have h' : k0_off109 (co p) 0 = wid (co p) * 11264 := h
    omega
  have hj : (j 0).val < 11264 := (j 0).isLt
  unfold partV
  rw [h0, show (wid (co p) * 11264 + (j 0).val) / 11264 = wid (co p) by omega, tileOf_wid]
  congr 1
  funext k
  apply Fin.ext
  match k with
  | ⟨0, _⟩ =>
    show (wid (co p) * 11264 + (j 0).val) % 11264 = (j 0).val
    omega

/-! ## What a subcore is handed -/

theorem shares (F : FTy → Type) : ∃ (g : Sub' → PosShare TreeShare) (r : PosShare TreeShare), ∀ (ℓ : Loc nD τ sig) (f : Buf (Elt F) ℓ),
    (ℓ ↦{fullShare} f : sProp (MT nD τ sig (HIx 1) (Elt F) ℕ UU ℕ)) = iprop((bigSep Finset.univ fun i => ℓ ↦{g i} f) ∗ ℓ ↦{r} f) :=
  shares_exist Finset.univ fullShare

/-- Subcore `p`'s share of an array that all read, and what is left. -/
def shr (F : FTy → Type) (p : Sub') : PosShare TreeShare := (shares F).choose p
def shrRest (F : FTy → Type) : PosShare TreeShare := (shares F).choose_spec.choose
theorem pts_deal {ℓ : Loc nD τ sig} (f : Buf (Elt F) ℓ) :
    (ℓ ↦{fullShare} f : sProp 𝕄) = iprop((bigSep Finset.univ fun p => ℓ ↦{shr F p} f) ∗ ℓ ↦{shrRest F} f) :=
  (shares F).choose_spec.choose_spec ℓ f

variable (d : Dev nD)

/-- The arrays that are read, at a share. -/
def rdP (q : PosShare TreeShare) : sProp 𝕄 :=
  iprop((lc d main_arg0 ↦{q} m (lc d main_arg0)) ∗ (lc d main_arg1 ↦{q} m (lc d main_arg1)) ∗ (lc d main_arg2 ↦{q} m (lc d main_arg2))
    ∗ (lc d main_arg3 ↦{q} m (lc d main_arg3)) ∗ (lc d main_arg4 ↦{q} m (lc d main_arg4)))

/-- Subcore `p`'s rows of the arrays that are written, at the given contents. -/
def wrP (p : Sub') (gq : Vec F S8x4x224x224 .f32) (gs : Vec F S8x3x224x224 .f32) (gxy : Vec F S8x2x224x224 .f32) (gz : Vec F S8x224x224 .f32)
    (pt : Vec F S360448 .f32) : sProp 𝕄 :=
  iprop((lc d main_v0_0 ↦[own (s := S8x4x224x224) (co p) 0 2]{fullShare} gq) ∗ (lc d main_v0_1 ↦[own (s := S8x3x224x224) (co p) 0 2]{fullShare} gs)
    ∗ (lc d main_v0_2 ↦[own (s := S8x2x224x224) (co p) 0 2]{fullShare} gxy) ∗ (lc d main_v0_3 ↦[own (s := S8x224x224) (co p) 0 1]{fullShare} gz)
    ∗ (lc d main_v0_4 ↦[ownP (co p)]{fullShare} pt))

instance rdP_storable (q : PosShare TreeShare) : Storable (upEmb : UEmb _ 𝕄) (rdP m d q) := by unfold rdP; infer_instance
instance wrP_storable (p : Sub') (gq : Vec F S8x4x224x224 .f32) (gs : Vec F S8x3x224x224 .f32) (gxy : Vec F S8x2x224x224 .f32)
    (gz : Vec F S8x224x224 .f32) (pt : Vec F S360448 .f32) : Storable (upEmb : UEmb _ 𝕄) (wrP d p gq gs gxy gz pt) := by unfold wrP; infer_instance

def goP (p : Sub') : sProp 𝕄 :=
  iprop(rdP m d (shr F p) ∗ wrP d p (m (lc d main_v0_0)) (m (lc d main_v0_1)) (m (lc d main_v0_2)) (m (lc d main_v0_3)) (m (lc d main_v0_4)))
def tdP (p : Sub') : sProp 𝕄 :=
  iprop(rdP m d (shr F p) ∗ wrP d p (valsQ (insM m d)) (valsS (insM m d)) (valsXY (insM m d)) (valsZ (insM m d)) (partV (insM m d)))

instance goP_storable (p : Sub') : Storable (upEmb : UEmb _ 𝕄) (goP m d p) := by unfold goP; infer_instance
instance tdP_storable (p : Sub') : Storable (upEmb : UEmb _ 𝕄) (tdP m d p) := by unfold tdP; infer_instance

/-! ## In the terms of the subcore's program -/

theorem reads_in (p : Sub') (q : PosShare TreeShare) :
    rdP m d q ⊢ (reads d (co p) args (insM m d) q q.left q.right : sProp 𝕄) := by
  unfold rdP reads insM ins
  simp only [on3_nat3, on4_nat4]
  iintro ⟨H0, H1, H2, H3, H4⟩
  ihave H1 := (whole_of_pts (tid d (co p)) main_arg1_scv (S := Finset.univ) (X := m (lc d main_arg1)) fun _ _ => rfl) $$ H1
  ihave H1 := (part_halve _) $$ H1
  icases H1 with ⟨H1, H1'⟩
  isplitl [H0]; · iapply (whole_of_pts (tid d (co p)) main_arg0_scv (S := Finset.univ) (X := m (lc d main_arg0)) fun _ _ => rfl) $$ H0
  isplitl [H1]; · iexact H1
  isplitl [H1']; · iexact H1'
  isplitl [H2]; · iapply (whole_of_pts (tid d (co p)) main_arg2_scv (S := Finset.univ) (X := m (lc d main_arg2)) fun _ _ => rfl) $$ H2
  isplitl [H3]; · iapply (whole_of_pts (tid d (co p)) main_arg3_scv (S := Finset.univ) (X := m (lc d main_arg3)) fun _ _ => rfl) $$ H3
  iapply (whole_of_pts (tid d (co p)) main_arg4_scv (S := Finset.univ) (X := m (lc d main_arg4)) fun _ _ => rfl) $$ H4

theorem reads_out (p : Sub') (q : PosShare TreeShare) :
    (reads d (co p) args (insM m d) q q.left q.right : sProp 𝕄) ⊢ rdP m d q := by
  unfold rdP reads insM ins args
  simp only [on3_nat3, on4_nat4]
  iintro ⟨H0, H1, H1', H2, H3, H4⟩
  ihave H1 := (part_unhalve) $$ [H1 H1']
  · isplitl [H1]; · iexact H1
    iexact H1'
  isplitl [H0]; · iapply (pts_of_whole (tid d (co p)) main_arg0_scv (S := Finset.univ) (X := m (lc d main_arg0))) $$ H0
  isplitl [H1]; · iapply (pts_of_whole (tid d (co p)) main_arg1_scv (S := Finset.univ) (X := m (lc d main_arg1))) $$ H1
  isplitl [H2]; · iapply (pts_of_whole (tid d (co p)) main_arg2_scv (S := Finset.univ) (X := m (lc d main_arg2))) $$ H2
  isplitl [H3]; · iapply (pts_of_whole (tid d (co p)) main_arg3_scv (S := Finset.univ) (X := m (lc d main_arg3))) $$ H3
  iapply (pts_of_whole (tid d (co p)) main_arg4_scv (S := Finset.univ) (X := m (lc d main_arg4))) $$ H4

theorem writes_in (p : Sub') (I : Ins F) (gq : Vec F S8x4x224x224 .f32) (gs : Vec F S8x3x224x224 .f32) (gxy : Vec F S8x2x224x224 .f32)
    (gz : Vec F S8x224x224 .f32) (pt : Vec F S360448 .f32) :
    wrP d p gq gs gxy gz pt ⊢ (iprop(writes d (co p) args I 0 ∗ some' (tid d (co p)) args.part fullShare (ownP (co p))) : sProp 𝕄) := by
  have h {s : Shape} (a k : Fin s.rank) : ∀ x ∈ (own (co p) a k : Finset s.Idx), ¬ (x k).val < rowN (co p) 0 :=
    fun x hx => Nat.not_lt.mpr (mem_own.mp hx).2.1
  unfold wrP writes outS some'
  iintro ⟨H0, H1, H2, H3, H4⟩
  isplitr [H4]
  · isplitl [H0]; · iapply (held_of_pts (tid d (co p)) main_v0_0_scv (h (s := S8x4x224x224) 0 2)) $$ H0
    isplitl [H1]; · iapply (held_of_pts (tid d (co p)) main_v0_1_scv (h (s := S8x3x224x224) 0 2)) $$ H1
    isplitl [H2]; · iapply (held_of_pts (tid d (co p)) main_v0_2_scv (h (s := S8x2x224x224) 0 2)) $$ H2
    iapply (held_of_pts (tid d (co p)) main_v0_3_scv (h (s := S8x224x224) 0 1)) $$ H3
  iexists pt
  iapply (whole_of_pts (tid d (co p)) main_v0_4_scv (S := ownP (co p)) (X := pt) fun _ _ => rfl) $$ H4

theorem writes_out (p : Sub') (I : Ins F) (pt : Vec F S360448 .f32) :
    (iprop(writes d (co p) args I 7 ∗ part (tid d (co p)) args.part fullShare (ownP (co p)) pt) : sProp 𝕄)
      ⊢ wrP d p (valsQ I) (valsS I) (valsXY I) (valsZ I) pt := by
  have h {s : Shape} (a k : Fin s.rank) : ∀ x ∈ (own (co p) a k : Finset s.Idx), (x k).val < rowN (co p) 7 :=
    fun x hx => (mem_own.mp hx).2.2
  unfold wrP writes outS args
  iintro ⟨⟨H0, H1, H2, H3⟩, H4⟩
  isplitl [H0]; · iapply (pts_of_held (tid d (co p)) main_v0_0_scv (h (s := S8x4x224x224) 0 2)) $$ H0
  isplitl [H1]; · iapply (pts_of_held (tid d (co p)) main_v0_1_scv (h (s := S8x3x224x224) 0 2)) $$ H1
  isplitl [H2]; · iapply (pts_of_held (tid d (co p)) main_v0_2_scv (h (s := S8x2x224x224) 0 2)) $$ H2
  isplitl [H3]; · iapply (pts_of_held (tid d (co p)) main_v0_3_scv (h (s := S8x224x224) 0 1)) $$ H3
  iapply (pts_of_whole (tid d (co p)) main_v0_4_scv (S := ownP (co p)) (X := pt)) $$ H4

/-! ## The task -/

/-- The subcore's program, from what it is handed to what it hands back. -/
theorem tile_body (p : Sub') (O : CellTallies nD τ sig (HIx 1)) (W : Waits sig (HIx 1)) (hO : ∀ g, O g none = 0) :
    iprop(levAts (K (F := F)).L (K (F := F)).lev ∗ goP m d p ∗ scopedBufs (tid d (co p)) ∗ scopedSems0 (tid d (co p)) ∗ owes (tid d (co p)) O W)
      ⊢ wp frame (wpE (defs₀ (F := F)) 𝒱₀ (tid d (co p)) none) Set.univ (tile F (co p) args)
          fun _ => iprop(tdP m d p ∗ scopedBufs (tid d (co p)) ∗ scopedSems0 (tid d (co p))
            ∗ ∃ W', ⌜∀ x ∈ W', x ∈ W ∨ x.2 = none⌝ ∗ owes (tid d (co p)) O W') := by
  unfold goP tdP
  iintro ⟨Hlv, ⟨Hrd, Hwr⟩, Hb, Hs, HO⟩
  ihave Hmw := ((K (F := F)).mayWaits_none (thr := tid d (co p)) hO) $$ Hlv
  ihave HO := (owing_intro (tid d (co p)) none O W) $$ HO
  ihave Hrd := (reads_in m d p (shr F p)) $$ Hrd
  ihave Hwr := (writes_in d p (insM m d) _ _ _ _ _) $$ Hwr
  icases Hwr with ⟨Hwr, Hpt⟩
  ihave Hsc := (scratch_in d (co p)) $$ [Hb Hs]
  · isplitl [Hb]; · iexact Hb
    iexact Hs
  icases Hsc with ⟨Hsc, Hoth⟩
  iapply (wp_tile 𝒱₀ d (co p) none EC none O W args (insM m d) (shr F p) (shr F p).left (shr F p).right (V := partV (insM m d))
    (partV_emb (insM m d) p)) $$ [Hmw HO Hrd Hsc Hwr Hpt]
  · isplitl [Hmw]; · iexact Hmw
    isplitl [HO]; · iexact HO
    isplitl [Hrd]; · iexact Hrd
    isplitl [Hsc]; · iexact Hsc
    isplitl [Hwr]; · iexact Hwr
    iexact Hpt
  iintro HO Hrd Hsc Hwr Hpt
  isplitl [Hrd Hwr Hpt]
  · isplitl [Hrd]; · iapply (reads_out m d p (shr F p)) $$ Hrd
    iapply (writes_out d p (insM m d) (partV (insM m d)))
    isplitl [Hwr]; · iexact Hwr
    iexact Hpt
  ihave Hsc := (scratch_out d (co p)) $$ [Hsc Hoth]
  · isplitl [Hsc]; · iexact Hsc
    iexact Hoth
  icases Hsc with ⟨Hb, Hs⟩
  isplitl [Hb]; · iexact Hb
  isplitl [Hs]; · iexact Hs
  unfold owing
  iexact HO

/-! ## The launch's payloads -/

/-- What passes between the TensorCore, the cores and the subcores at the call. -/
def P : (K (F := F)).Pay (nD := nD) (Val := Elt F) (Name := ℕ) (U := UU) where
  st q d c := match q with | 0 => bigSep Finset.univ fun s : Fin 16 => goP m d (c, s)
  dn q d c := match q with | 0 => bigSep Finset.univ fun s : Fin 16 => tdP m d (c, s)
  go q d c s := match q with | 0 => goP m d (c, s)
  td q d c s := match q with | 0 => tdP m d (c, s)
  x _ _ := iprop(emp)

instance P_storable : (P (F := F) m).IsStorable where
  st q d c := match q with
    | 0 => (inferInstance : Storable (upEmb : UEmb _ 𝕄) (bigSep Finset.univ fun s : Fin 16 => goP m d (c, s)))
  dn q d c := match q with
    | 0 => (inferInstance : Storable (upEmb : UEmb _ 𝕄) (bigSep Finset.univ fun s : Fin 16 => tdP m d (c, s)))
  go q d c s := match q with
    | 0 => (inferInstance : Storable (upEmb : UEmb _ 𝕄) (goP m d (c, s)))
  td q d c s := match q with
    | 0 => (inferInstance : Storable (upEmb : UEmb _ 𝕄) (tdP m d (c, s)))

theorem defs₀_vector (c : Fin τ.nSC) (s : Fin τ.nSub) :
    defs₀ (F := F) (.scVector c s) 0 ()
      = SparseCore.onTile hcore0 hsub0 (fun c s => cc0__sc_body (F := F) (coordsV c s)
          (Memref.whole main_arg0_scv) (Memref.isWhole_whole _) (Memref.whole main_arg1_scv) (Memref.isWhole_whole _) (Memref.whole main_arg2_scv) (Memref.isWhole_whole _)
          (Memref.whole main_arg3_scv) (Memref.isWhole_whole _) (Memref.whole main_arg4_scv) (Memref.isWhole_whole _) (Memref.whole main_v0_0_scv) (Memref.isWhole_whole _)
          (Memref.whole main_v0_1_scv) (Memref.isWhole_whole _) (Memref.whole main_v0_2_scv) (Memref.isWhole_whole _) (Memref.whole main_v0_3_scv) (Memref.isWhole_whole _)
          (Memref.whole main_v0_4_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 cc0_scratch9 cc0_scratch10 cc0_scratch11 cc0_scratch12 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 2048 in
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  rw [body_eq]
  have h := (tile_body m d (c, i) O W hO).trans (wp_mono frame _ _ fun _ => obl_post (q := 0))
  exact (sep_mono (BI.Entails.refl _) sep_elim_right).trans h

theorem vecSplit : (K (F := F)).VecSplit' (P m) 0 := by
  intro d c
  show (bigSep Finset.univ fun s : Fin 16 => goP m d (c, s)) ⊢ |={Set.univ}=> iprop(
      (bigSep Finset.univ fun s : Fin 16 => goP m d (c, s))
      ∗ ((bigSep Finset.univ fun s : Fin 16 => tdP m d (c, s)) -∗ bigSep Finset.univ fun s : Fin 16 => tdP m d (c, s)))
  iintro H
  imodintro
  isplitl [H]; · iexact H
  iintro H
  iexact H

/-! ## The whole arrays -/

/-- An array whose elements are dealt by number. -/
theorem pts_parts {ℓ : Loc nD τ sig} (f : Buf (Elt F) ℓ) (n : Idx ℓ → ℕ) (hn : ∀ x, n x < 32) (S : Sub' → Finset (Idx ℓ))
    (hS : ∀ p x, x ∈ S p ↔ n x = wid (co p)) :
    (ℓ ↦{fullShare} f : sProp 𝕄) = bigSep Finset.univ fun p => ℓ ↦[S p]{fullShare} f := by
  rw [← pointsTo_biUnion (ℓ := ℓ) Finset.univ S]
  · congr 1
    ext x
    rw [Finset.mem_biUnion]
    exact ⟨fun _ => ⟨tileOf (n x), Finset.mem_univ _, (hS _ _).mpr (wid_tileOf (hn x)).symm⟩, fun _ => Finset.mem_univ _⟩
  · intro p _ p' _ hne
    refine Finset.disjoint_left.mpr fun x h h' => hne ?_
    rw [← tileOf_wid p, ← tileOf_wid p', ← (hS p x).mp h, ← (hS p' x).mp h']

theorem own_iff {s : Shape} {a k : Fin s.rank} (ha : s.size a = 8) (hk : s.size k = 224) (p : Sub') (x : s.Idx) :
    x ∈ (own (co p) a k : Finset s.Idx) ↔ (x a).val * 4 + (x k).val / 56 = wid (co p) := by
  have h1 : (x a).val < 8 := ha ▸ (x a).isLt
  have h2 : (x k).val < 224 := hk ▸ (x k).isLt
  rw [mem_own]
  unfold imgN rowN
  omega

theorem own_lt {s : Shape} {a k : Fin s.rank} (ha : s.size a = 8) (hk : s.size k = 224) (x : s.Idx) :
    (x a).val * 4 + (x k).val / 56 < 32 := by
  have h1 : (x a).val < 8 := ha ▸ (x a).isLt
  have h2 : (x k).val < 224 := hk ▸ (x k).isLt
  omega

/-- The five written arrays whole. -/
def wrAll (gq : Vec F S8x4x224x224 .f32) (gs : Vec F S8x3x224x224 .f32) (gxy : Vec F S8x2x224x224 .f32) (gz : Vec F S8x224x224 .f32)
    (pt : Vec F S360448 .f32) : sProp 𝕄 :=
  iprop((lc d main_v0_0 ↦{fullShare} gq) ∗ (lc d main_v0_1 ↦{fullShare} gs)
    ∗ (lc d main_v0_2 ↦{fullShare} gxy) ∗ (lc d main_v0_3 ↦{fullShare} gz) ∗ (lc d main_v0_4 ↦{fullShare} pt))

theorem wrAll_eq (gq : Vec F S8x4x224x224 .f32) (gs : Vec F S8x3x224x224 .f32) (gxy : Vec F S8x2x224x224 .f32) (gz : Vec F S8x224x224 .f32)
    (pt : Vec F S360448 .f32) :
    (wrAll d gq gs gxy gz pt : sProp 𝕄) = bigSep Finset.univ fun p => wrP d p gq gs gxy gz pt := by
  unfold wrAll wrP
  rw [bigSep_sep', bigSep_sep', bigSep_sep', bigSep_sep',
    pts_parts (ℓ := lc d main_v0_0) gq (fun x : S8x4x224x224.Idx => (x 0).val * 4 + (x 2).val / 56) (fun x => own_lt (s := S8x4x224x224) rfl rfl x)
      (fun p => own (s := S8x4x224x224) (co p) 0 2) (fun p x => own_iff (s := S8x4x224x224) rfl rfl p x),
    pts_parts (ℓ := lc d main_v0_1) gs (fun x : S8x3x224x224.Idx => (x 0).val * 4 + (x 2).val / 56) (fun x => own_lt (s := S8x3x224x224) rfl rfl x)
      (fun p => own (s := S8x3x224x224) (co p) 0 2) (fun p x => own_iff (s := S8x3x224x224) rfl rfl p x),
    pts_parts (ℓ := lc d main_v0_2) gxy (fun x : S8x2x224x224.Idx => (x 0).val * 4 + (x 2).val / 56) (fun x => own_lt (s := S8x2x224x224) rfl rfl x)
      (fun p => own (s := S8x2x224x224) (co p) 0 2) (fun p x => own_iff (s := S8x2x224x224) rfl rfl p x),
    pts_parts (ℓ := lc d main_v0_3) gz (fun x : S8x224x224.Idx => (x 0).val * 4 + (x 1).val / 56) (fun x => own_lt (s := S8x224x224) rfl rfl x)
      (fun p => own (s := S8x224x224) (co p) 0 1) (fun p x => own_iff (s := S8x224x224) rfl rfl p x),
    pts_parts (ℓ := lc d main_v0_4) pt (fun x : S360448.Idx => (x 0).val / 11264)
      (fun x => by have h : ((x : S360448.Idx) 0).val < 360448 := (x 0).isLt
                   show ((x : S360448.Idx) 0).val / 11264 < 32
                   omega)
      (fun p => ownP (co p)) (fun p x => by unfold ownP; rw [Finset.mem_filter]; exact and_iff_right (Finset.mem_univ x))]

/-- Five pairs dealt into two fives. -/
theorem sep_deal (A0 A1 A2 A3 A4 B0 B1 B2 B3 B4 : sProp 𝕄) :
    (iprop((A0 ∗ B0) ∗ (A1 ∗ B1) ∗ (A2 ∗ B2) ∗ (A3 ∗ B3) ∗ (A4 ∗ B4)) : sProp 𝕄)
      = iprop((A0 ∗ A1 ∗ A2 ∗ A3 ∗ A4) ∗ (B0 ∗ B1 ∗ B2 ∗ B3 ∗ B4)) := by
  have h1 : (iprop((A0 ∗ B0) ∗ (A1 ∗ B1) ∗ (A2 ∗ B2) ∗ (A3 ∗ B3) ∗ (A4 ∗ B4)) : sProp 𝕄)
      ⊢ iprop((A0 ∗ A1 ∗ A2 ∗ A3 ∗ A4) ∗ (B0 ∗ B1 ∗ B2 ∗ B3 ∗ B4)) := by
    iintro ⟨⟨A0, B0⟩, ⟨A1, B1⟩, ⟨A2, B2⟩, ⟨A3, B3⟩, A4, B4⟩
    isplitl [A0 A1 A2 A3 A4]
    · isplitl [A0]; · iexact A0
      isplitl [A1]; · iexact A1
      isplitl [A2]; · iexact A2
      isplitl [A3]; · iexact A3
      iexact A4
    isplitl [B0]; · iexact B0
    isplitl [B1]; · iexact B1
    isplitl [B2]; · iexact B2
    isplitl [B3]; · iexact B3
    iexact B4
  have h2 : (iprop((A0 ∗ A1 ∗ A2 ∗ A3 ∗ A4) ∗ (B0 ∗ B1 ∗ B2 ∗ B3 ∗ B4)) : sProp 𝕄)
      ⊢ iprop((A0 ∗ B0) ∗ (A1 ∗ B1) ∗ (A2 ∗ B2) ∗ (A3 ∗ B3) ∗ (A4 ∗ B4)) := by
    iintro ⟨⟨A0, A1, A2, A3, A4⟩, B0, B1, B2, B3, B4⟩
    isplitl [A0 B0]; · isplitl [A0] <;> iassumption
    isplitl [A1 B1]; · isplitl [A1] <;> iassumption
    isplitl [A2 B2]; · isplitl [A2] <;> iassumption
    isplitl [A3 B3]; · isplitl [A3] <;> iassumption
    isplitl [A4] <;> iassumption
  exact BI.Entails.antisymm h1 h2

theorem rdAll_eq :
    (rdP m d fullShare : sProp 𝕄) = iprop((bigSep Finset.univ fun p => rdP m d (shr F p)) ∗ rdP m d (shrRest F)) := by
  unfold rdP
  rw [bigSep_sep', bigSep_sep', bigSep_sep', bigSep_sep', pts_deal (ℓ := lc d main_arg0), pts_deal (ℓ := lc d main_arg1),
    pts_deal (ℓ := lc d main_arg2), pts_deal (ℓ := lc d main_arg3), pts_deal (ℓ := lc d main_arg4)]
  exact sep_deal _ _ _ _ _ _ _ _ _ _

theorem bigSep_subs (Φ : Sub' → sProp 𝕄) :
    (bigSep Finset.univ fun c : Fin 2 => bigSep Finset.univ fun s : Fin 16 => Φ (c, s)) = bigSep Finset.univ Φ := by
  rw [← SparseCore.bigSep_product]
  rfl

/-- Before the call. -/
theorem call_in :
    (iprop(rdP m d fullShare ∗ wrAll d (m (lc d main_v0_0)) (m (lc d main_v0_1)) (m (lc d main_v0_2)) (m (lc d main_v0_3)) (m (lc d main_v0_4))) : sProp 𝕄)
      ⊢ iprop((bigSep Finset.univ fun c : Fin ((K (F := F)).nCore 0) => (P m).st 0 d c) ∗ rdP m d (shrRest F)) := by
  show _ ⊢ iprop((bigSep Finset.univ fun c : Fin 2 => bigSep Finset.univ fun s : Fin 16 => goP m d (c, s)) ∗ rdP m d (shrRest F))
  rw [bigSep_subs (fun p => goP m d p), rdAll_eq, wrAll_eq]
  unfold goP
  rw [bigSep_sep']
  iintro ⟨⟨H1, H2⟩, H3⟩
  isplitr [H2]
  · isplitl [H1] <;> iassumption
  iexact H2

/-- After it. -/
theorem call_out :
    (iprop((bigSep Finset.univ fun c : Fin ((K (F := F)).nCore 0) => (P m).dn 0 d c) ∗ rdP m d (shrRest F)) : sProp 𝕄)
      ⊢ iprop(rdP m d fullShare ∗ wrAll d (valsQ (insM m d)) (valsS (insM m d)) (valsXY (insM m d)) (valsZ (insM m d)) (partV (insM m d))) := by
  show iprop((bigSep Finset.univ fun c : Fin 2 => bigSep Finset.univ fun s : Fin 16 => tdP m d (c, s)) ∗ rdP m d (shrRest F)) ⊢ _
  rw [bigSep_subs (fun p => tdP m d p), rdAll_eq, wrAll_eq]
  unfold tdP
  rw [bigSep_sep']
  iintro ⟨⟨H1, H3⟩, H2⟩
  isplitr [H3]
  · isplitl [H1] <;> iassumption
  iexact H3

end Cert.Proof.KernelIdeal
end
-- ==== Proof.Ideal.Call.lean ====
module

public import proofs.«01_k».proof.Proof.Ideal.Deal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Value
public import Idealize.ShloMosaic.Lib.Tactic

/-!
The TensorCore's call: one point, one array read and six written.
-/

@[expose] public section

noncomputable section

namespace Cert.Proof.KernelIdeal

open Cert.KernelIdeal Cert.KernelIdeal.Gen
open Idealize.ShloMosaic Idealize.ShloMosaic.TcCoe
open Idealize.ShloMosaic.SparseCore.Cfg (HIx)
open Idealize.SL
open Idealize.SL.BI (sProp Storable bigSep bigSep_sep')
open scoped Idealize.SL.BI
open Idealize.SL.BI.BIBase Idealize.SL.BI.Laws Idealize.SL.Sem Idealize.SL.ProofMode
open Idealize.SL.RA
open Idealize.ShloMosaic.Rounds
open Idealize.ShloMosaic.Pipeline (BodyObligation)

variable {F : FTy → Type} [FloatOps F]

local notation "𝕄" => MT nD τ sig (HIx 1) (Elt F) ℕ UU ℕ

/-- The contents of a TensorCore's arrays. -/
abbrev Conts (F : FTy → Type) : Type := (d : Dev nD) → (b : Ref sig .tc) → Buf (Elt F) ((d : Thread nD τ).loc b)

variable (W : Conts F)

abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body on whole staging buffers, with what it leaves in the six it writes. -/
def finRun (c : Dev nD) (f0 : Buf (Elt F) ((c : Thread nD τ).loc cc1_stg0_0)) :
    { o : Buf (Elt F) ((c : Thread nD τ).loc cc1_stg1_0) × Buf (Elt F) ((c : Thread nD τ).loc cc1_stg2_0) × Buf (Elt F) ((c : Thread nD τ).loc cc1_stg3_0)
        × Buf (Elt F) ((c : Thread nD τ).loc cc1_stg4_0) × Buf (Elt F) ((c : Thread nD τ).loc cc1_stg5_0) × Buf (Elt F) ((c : Thread nD τ).loc cc1_stg6_0) //
      ∀ (f1 : Buf (Elt F) ((c : Thread nD τ).loc cc1_stg1_0)) (f2 : Buf (Elt F) ((c : Thread nD τ).loc cc1_stg2_0)) (f3 : Buf (Elt F) ((c : Thread nD τ).loc cc1_stg3_0))
        (f4 : Buf (Elt F) ((c : Thread nD τ).loc cc1_stg4_0)) (f5 : Buf (Elt F) ((c : Thread nD τ).loc cc1_stg5_0)) (f6 : Buf (Elt F) ((c : Thread nD τ).loc cc1_stg6_0))
        (Q : PUnit → sProp 𝕄),
        iprop(ptM c (Memref.whole cc1_stg0_0) f0 ∗ ptM c (Memref.whole cc1_stg1_0) f1 ∗ ptM c (Memref.whole cc1_stg2_0) f2 ∗ ptM c (Memref.whole cc1_stg3_0) f3
            ∗ ptM c (Memref.whole cc1_stg4_0) f4 ∗ ptM c (Memref.whole cc1_stg5_0) f5 ∗ ptM c (Memref.whole cc1_stg6_0) f6
            ∗ (iprop(ptM c (Memref.whole cc1_stg0_0) f0 ∗ ptM c (Memref.whole cc1_stg1_0) o.1 ∗ ptM c (Memref.whole cc1_stg2_0) o.2.1 ∗ ptM c (Memref.whole cc1_stg3_0) o.2.2.1
            ∗ ptM c (Memref.whole cc1_stg4_0) o.2.2.2.1 ∗ ptM c (Memref.whole cc1_stg5_0) o.2.2.2.2.1 ∗ ptM c (Memref.whole cc1_stg6_0) o.2.2.2.2.2) -∗ Q ⟨⟩))
          ⊢ wp frame (wpE (defs₀ (F := F)) Variants.none (c : Thread nD τ) none) Set.univ
              (cc1__fin_body (F := F) (Memref.whole cc1_stg0_0) (Memref.isWhole_whole _) (Memref.whole cc1_stg1_0) (Memref.isWhole_whole _) (Memref.whole cc1_stg2_0) (Memref.isWhole_whole _)
                (Memref.whole cc1_stg3_0) (Memref.isWhole_whole _) (Memref.whole cc1_stg4_0) (Memref.isWhole_whole _) (Memref.whole cc1_stg5_0) (Memref.isWhole_whole _)
                (Memref.whole cc1_stg6_0) (Memref.isWhole_whole _)) Q } := by
  refine ⟨⟨?_, ?_, ?_, ?_, ?_, ?_⟩, fun f1 f2 f3 f4 f5 f6 Q => ?run⟩
  case run =>
    dsimp only
    iintro ⟨H0, H1, H2, H3, H4, H5, H6, Hk⟩
    simp only [cc1__fin_body_eq_skeleton]; unfold cc1__fin_body_skel
    simp only [k1_part1_eq_skeleton, k1_part2_eq_skeleton, k1_part3_eq_skeleton]; unfold k1_part1_skel k1_part2_skel k1_part3_skel
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    iexact H6

/-- What the call reads. -/
abbrev inP (c : Dev nD) : Buf (Elt F) ((c : Thread nD τ).loc cc1_stg0_0) := ((cfg1.win 0).blk t1_0).view.read (Elt F) (W c main_v3)

/-- What the call leaves in the six staging buffers. -/
abbrev outP (c : Dev nD) := (finRun c (inP W c)).1

/-- The call's proof data. -/
def dat1 (c : Dev nD) : Pipeline.Dat τ (Elt F) (HIx 1) ℕ UU ℕ cfg1 c where
  A w := W c (Pipeline.arrRef spec1 w)
  after w _ := match w with
    | ⟨0, _⟩ => inP W c
    | ⟨1, _⟩ => (outP W c).1
    | ⟨2, _⟩ => (outP W c).2.1
    | ⟨3, _⟩ => (outP W c).2.2.1
    | ⟨4, _⟩ => (outP W c).2.2.2.1
    | ⟨5, _⟩ => (outP W c).2.2.2.2.1
    | ⟨6, _⟩ => (outP W c).2.2.2.2.2
  Φ _ := iprop(emp)
  q _ := fullShare
  owed _ := 0
  recorded _ := {p | (K (F := F)).lev ((c : Thread nD τ), p.1) p.2 ≤ 8}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat1 W

/-- What the arrays hold after the call. -/
abbrev finalA (c : Dev nD) (w : Fin cfg1.W) : Buf (Elt F) ((cfg1.win w).arr.view.loc (c : Thread nD τ)) := (dat1 W c).arrAt w cfg1.N

theorem before_in (c : Dev nD) (d : (cfg1.win 0).block.Idx → Elt F (cfg1.win 0).elt) : (dat1 W c).before 0 t1_0 d = inP W c := by
  unfold Pipeline.Dat.before; rw [if_pos (by decide)]; rfl

theorem owns_whole_eq (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem own_intro (c : Dev nD) (b : Ref sig .tc) {f X : b.ty.Contents (Elt F)} (h : f = X) :
    (((c : Thread nD τ).loc b) ↦{fullShare} f : sProp 𝕄)
      ⊢ iprop(∃ f : Buf (Elt F) (((c : Dev nD) : Thread nD τ).loc b), ⌜f = X⌝ ∗ (((c : Thread nD τ).loc b) ↦{fullShare} f)) := by
  iintro H
  iexists f
  isplitr
  · ipureintro; exact h
  · iexact H

theorem body_obligation (c : Dev nD) : BodyObligation (dat1 (F := F) W c) (defs₀ (F := F)) 𝒱₀ none Set.univ := fun t => by
  obtain rfl := fin_N1 t
  rw [bigSep_W1, bigSep_W1]
  simp only [owns_whole_eq]
  rw [show (dat1 W c).Φ t1_0.castSucc = iprop(emp) from rfl, show (dat1 W c).Φ t1_0.succ = iprop(emp) from rfl,
    show (dat1 W c).owesAt none t1_0.succ = (dat1 W c).owesAt none t1_0.castSucc from rfl]
  iintro ⟨-, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  rw [before_in] at hf0
  subst hf0
  iapply ((finRun c (inP W c)).2 f1 f2 f3 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitr; · iempintro
  isplitl [HO]; · iexact HO
  isplitl [H0]; · iapply (own_intro c cc1_stg0_0 rfl); iexact H0
  isplitl [H1]; · iapply (own_intro c cc1_stg1_0 rfl); iexact H1
  isplitl [H2]; · iapply (own_intro c cc1_stg2_0 rfl); iexact H2
  isplitl [H3]; · iapply (own_intro c cc1_stg3_0 rfl); iexact H3
  isplitl [H4]; · iapply (own_intro c cc1_stg4_0 rfl); iexact H4
  isplitl [H5]; · iapply (own_intro c cc1_stg5_0 rfl); iexact H5
  iapply (own_intro c cc1_stg6_0 rfl); iexact H6

/-- The TensorCore's waits so far, all at or below the level it has reached. -/
def tcOwes (c : Dev nD) : sProp 𝕄 := iprop(∃ Wt, ⌜(K (F := F)).WBelow (c : Thread nD τ) Wt (8)⌝ ∗ owes (c : Thread nD τ) 0 Wt)

theorem arrays_eq1 (c : Dev nD) (Fa) : ((pdats (F := F) W 0 c).arrays Fa : sProp 𝕄)
    = bigSep Finset.univ fun w : Fin 7 => (((c : Thread nD τ).loc (Pipeline.arrRef spec1 w)) ↦{fullShare} Fa w : sProp 𝕄) :=
  Pipeline.arrays_eq (Pipeline.pin (pcfgs (F := F)) adm) (pdats W) 0 c launch1.arr_whole ((pdats W 0 c).share_full fun _ => rfl) Fa

def reg1 : Pipeline.RegionSeg (pcfgs (F := F)) adm (pdats W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits c := Pipeline.hwaits_of_owed_zero (pcfgs (F := F)) adm (pdats W) none (K (F := F)).L (K (F := F)).lev 0 (fun _ _ => rfl) c
  pre c := iprop(unscopedBufs c (W c) ∗ tcOwes c)
  post c := iprop((bigSep Finset.univ fun w : Fin 7 => ((c : Thread nD τ).loc (Pipeline.arrRef spec1 w)) ↦{fullShare} finalA W c w)
    ∗ Pipeline.unscopedRest (Ix := HIx 1) (Name := ℕ) (U := UU) (Lvl := ℕ) spec1 c (W c) ∗ tcOwes c)
  X _ := iprop(emp)
  Y _ := iprop(emp)
  Z c := Pipeline.unscopedRest (Ix := HIx 1) (Name := ℕ) (U := UU) (Lvl := ℕ) spec1 c (W c)
  hentry c := by
    rw [Pipeline.ownSems0_none]
    have hsplit := Pipeline.arrays_of_unscopedBufs (pcfgs (F := F)) adm (pdats W) launch1.win launch1.arr_whole c
      ((pdats W 0 c).share_full fun _ => rfl) (W c) fun _ => rfl
    unfold tcOwes
    iintro ⟨⟨Hub, %Wt, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun p hp => Or.inl (hW p hp)
      iexact HO
    isplitr; · iempintro
    iexact Hr
  hin c := by iintro -; iempintro
  hout c := by
    rw [Pipeline.ownSems0_none, scopedRest1_eq]
    iintro -; isplitr; · iempintro
    isplitr <;> iempintro
  hexit c := by
    rw [arrays_eq1]
    unfold tcOwes Pipeline.Dat.owesAt Pipeline.owesWithin
    iintro ⟨Ha, ⟨%Wt, %hW, HO⟩, -, Hr⟩
    imodintro
    isplitl [Ha]; · iexact Ha
    isplitl [Hr]; · iexact Hr
    iexists Wt
    isplitr
    · ipureintro
      intro p hp
      rcases hW (Finset.mem_coe.mpr hp) with h | ⟨w, s, rfl⟩
      · exact h
      · exact Nat.zero_le _
    · iexact HO

end Cert.Proof.KernelIdeal
end
-- ==== Proof.Ideal.Launch.lean ====
module

public import proofs.«01_k».proof.Proof.Ideal.Call

/-!
The program as a whole: its run from any memory, and what its arrays then hold.
-/

@[expose] public section

noncomputable section

namespace Cert.Proof.KernelIdeal

open Cert.KernelIdeal Cert.KernelIdeal.Gen
open Idealize.ShloMosaic Idealize.ShloMosaic.TcCoe
open Idealize.ShloMosaic.SparseCore.Cfg (HIx)
open Idealize.SL
open Idealize.SL.BI (sProp Storable bigSep bigSep_sep')
open scoped Idealize.SL.BI
open Idealize.SL.BI.BIBase Idealize.SL.BI.Laws Idealize.SL.Sem Idealize.SL.ProofMode
open Idealize.SL.RA
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays -/

theorem sep_assoc_eq (A B C : sProp 𝕄) : (iprop((A ∗ B) ∗ C) : sProp 𝕄) = iprop(A ∗ B ∗ C) := BI.Entails.antisymm BI.sep_assoc BI.sep_assoc'
theorem sep_left_eq (A B C : sProp 𝕄) : (iprop(A ∗ B ∗ C) : sProp 𝕄) = iprop(B ∗ A ∗ C) := by
  rw [← sep_assoc_eq, ← sep_assoc_eq]
  congr 1
  exact BI.Entails.antisymm BI.sep_comm BI.sep_comm

/-- The arrays that the SparseCore's call touches, and the others. -/
def rest (d : Dev nD) (W : (b : Ref sig .tc) → Buf (Elt F) ((d : Thread nD τ).loc b)) : sProp 𝕄 :=
  iprop((bigSep Finset.univ fun w : Fin 7 => ((d : Thread nD τ).loc (Pipeline.arrRef spec1 w)) ↦{fullShare} W (Pipeline.arrRef spec1 w))
    ∗ (lc d main_v1 ↦{fullShare} W main_v1) ∗ (lc d main_v2 ↦{fullShare} W main_v2) ∗ (lc d main_v5 ↦{fullShare} W main_v5))

def rdW (d : Dev nD) (W : (b : Ref sig .tc) → Buf (Elt F) ((d : Thread nD τ).loc b)) : sProp 𝕄 :=
  iprop((lc d main_arg0 ↦{fullShare} W main_arg0) ∗ (lc d main_arg1 ↦{fullShare} W main_arg1) ∗ (lc d main_arg2 ↦{fullShare} W main_arg2)
    ∗ (lc d main_arg3 ↦{fullShare} W main_arg3) ∗ (lc d main_arg4 ↦{fullShare} W main_arg4))

theorem rest1_eq (d : Dev nD) (W : (b : Ref sig .tc) → Buf (Elt F) ((d : Thread nD τ).loc b)) :
    (Pipeline.unscopedRest (Ix := HIx 1) (Name := ℕ) (U := UU) (Lvl := ℕ) spec1 d W : sProp 𝕄)
      = iprop(rdW d W ∗ wrAll d (W main_v0_0) (W main_v0_1) (W main_v0_2) (W main_v0_3) (W main_v0_4)
          ∗ (lc d main_v1 ↦{fullShare} W main_v1) ∗ (lc d main_v2 ↦{fullShare} W main_v2) ∗ (lc d main_v5 ↦{fullShare} W main_v5)) := by
  rw [unscopedRest1_eq]
  unfold rdW wrAll
  simp only [sep_assoc_eq]

theorem bufs_eq (d : Dev nD) (W : (b : Ref sig .tc) → Buf (Elt F) ((d : Thread nD τ).loc b)) :
    (unscopedBufs d W : sProp 𝕄)
      = iprop(rdW d W ∗ wrAll d (W main_v0_0) (W main_v0_1) (W main_v0_2) (W main_v0_3) (W main_v0_4) ∗ rest d W) := by
  rw [Pipeline.unscopedBufs_split (Pipeline.pin (pcfgs (F := F)) adm) 0 winFacts1.arr_unscoped winFacts1.arr_inj d W,
    show (Pipeline.unscopedRest ((Pipeline.pin (pcfgs (F := F)) adm 0)).spec d W : sProp 𝕄)
      = Pipeline.unscopedRest (Ix := HIx 1) (Name := ℕ) (U := UU) (Lvl := ℕ) spec1 d W from rfl, rest1_eq]
  unfold rest
  rw [sep_left_eq, sep_left_eq (B := wrAll d _ _ _ _ _)]

/-! ## Its contents, statement by statement -/

/-- Before the program, -/
def V₀ (d : Dev nD) : Valuation τ sig (Elt F) := fun b => m (d, b)

/-- after the SparseCore's call, -/
def V₁ (d : Dev nD) : Valuation τ sig (Elt F) :=
  Function.update (Function.update (Function.update (Function.update (Function.update (V₀ m d)
    (Proc.devRef .tc main_v0_0) (valsQ (insM m d))) (Proc.devRef .tc main_v0_1) (valsS (insM m d))) (Proc.devRef .tc main_v0_2) (valsXY (insM m d)))
    (Proc.devRef .tc main_v0_3) (valsZ (insM m d))) (Proc.devRef .tc main_v0_4) (partV (insM m d))

theorem V₁_0 (d : Dev nD) : V₁ m d main_v0_0 = valsQ (insM m d) := by
  unfold V₁
  rw [Function.update_of_ne (by decide), Function.update_of_ne (by decide), Function.update_of_ne (by decide), Function.update_of_ne (by decide), Function.update_self]
theorem V₁_1 (d : Dev nD) : V₁ m d main_v0_1 = valsS (insM m d) := by
  unfold V₁
  rw [Function.update_of_ne (by decide), Function.update_of_ne (by decide), Function.update_of_ne (by decide), Function.update_self]
theorem V₁_2 (d : Dev nD) : V₁ m d main_v0_2 = valsXY (insM m d) := by
  unfold V₁
  rw [Function.update_of_ne (by decide), Function.update_of_ne (by decide), Function.update_self]
theorem V₁_3 (d : Dev nD) : V₁ m d main_v0_3 = valsZ (insM m d) := by
  unfold V₁
  rw [Function.update_of_ne (by decide), Function.update_self]
theorem V₁_4 (d : Dev nD) : V₁ m d main_v0_4 = partV (insM m d) := by
  unfold V₁
  rw [Function.update_self]
theorem V₁_ne (d : Dev nD) (b : Ref sig .tc) (h : b ∉ ([main_v0_0, main_v0_1, main_v0_2, main_v0_3, main_v0_4] : List (Ref sig .tc))) :
    V₁ m d b = m (lc d b) := by
  have hb : ∀ b' ∈ ([main_v0_0, main_v0_1, main_v0_2, main_v0_3, main_v0_4] : List (Ref sig .tc)), (Proc.devRef .tc b : DevRef τ sig) ≠ Proc.devRef .tc b' :=
    fun b' hb' => StableHlo.devRef_ne_of_ne fun e => h (e ▸ hb')
  unfold V₁
  rw [Function.update_of_ne (hb _ (by decide)), Function.update_of_ne (hb _ (by decide)), Function.update_of_ne (hb _ (by decide)),
    Function.update_of_ne (hb _ (by decide)), Function.update_of_ne (hb _ (by decide))]
  rfl

abbrev op1 : HloOp τ sig (Elt F) := StableHlo.reshape main_v0_4 main_v1 (rfl : (.f32 : EltTy) = .f32) shapeCasts_S360448_S32x11x64x16
abbrev op2 : HloOp τ sig (Elt F) :=
  StableHlo.unary main_v1 main_v2 ((transpose S64x11x32x16 [2, 1, 0, 3] · transposes_S32x11x64x16_S64x11x32x16_2_1_0_3) :
    (⟨S32x11x64x16, .f32⟩ : BufTy).Contents (Elt F) → (⟨S64x11x32x16, .f32⟩ : BufTy).Contents (Elt F))
abbrev op3 : HloOp τ sig (Elt F) := StableHlo.reshape main_v2 main_v3 (rfl : (.f32 : EltTy) = .f32) shapeCasts_S64x11x32x16_S64x5632
abbrev op4 : HloOp τ sig (Elt F) := StableHlo.reshape main_v4_4 main_v5 (rfl : (.f32 : EltTy) = .f32) shapeCasts_S64x16_S64x4x4

/-- and before the TensorCore's. -/
def V₄ (d : Dev nD) : Valuation τ sig (Elt F) := op3.result (op2.result (op1.result (V₁ m d)))

theorem V₄_ne (d : Dev nD) (b : Ref sig .tc) (h1 : b ≠ main_v1) (h2 : b ≠ main_v2) (h3 : b ≠ main_v3) : V₄ m d b = V₁ m d b := by
  unfold V₄
  rw [StableHlo.reshape_result_ne _ _ _ _ _ _ _ h3, StableHlo.unary_result_ne _ _ _ _ _ _ h2, StableHlo.reshape_result_ne _ _ _ _ _ _ _ h1]

abbrev W₄ : Conts F := fun d b => V₄ m d b

/-- After the TensorCore's call, -/
def V₅ (d : Dev nD) : Valuation τ sig (Elt F) :=
  Function.update (Function.update (Function.update (Function.update (Function.update (Function.update (Function.update (V₄ m d)
    (Proc.devRef .tc main_v3) (finalA (W₄ m) d 0)) (Proc.devRef .tc main_v4_0) (finalA (W₄ m) d 1)) (Proc.devRef .tc main_v4_1) (finalA (W₄ m) d 2))
    (Proc.devRef .tc main_v4_2) (finalA (W₄ m) d 3)) (Proc.devRef .tc main_v4_3) (finalA (W₄ m) d 4)) (Proc.devRef .tc main_v4_4) (finalA (W₄ m) d 5))
    (Proc.devRef .tc main_v4_5) (finalA (W₄ m) d 6)

theorem V₅_0 (d : Dev nD) : V₅ m d main_v3 = finalA (W₄ m) d 0 := by
  unfold V₅
  rw [Function.update_of_ne (by decide), Function.update_of_ne (by decide), Function.update_of_ne (by decide), Function.update_of_ne (by decide),
    Function.update_of_ne (by decide), Function.update_of_ne (by decide), Function.update_self]
theorem V₅_1 (d : Dev nD) : V₅ m d main_v4_0 = finalA (W₄ m) d 1 := by
  unfold V₅
  rw [Function.update_of_ne (by decide), Function.update_of_ne (by decide), Function.update_of_ne (by decide), Function.update_of_ne (by decide),
    Function.update_of_ne (by decide), Function.update_self]
theorem V₅_2 (d : Dev nD) : V₅ m d main_v4_1 = finalA (W₄ m) d 2 := by
  unfold V₅
  rw [Function.update_of_ne (by decide), Function.update_of_ne (by decide), Function.update_of_ne (by decide), Function.update_of_ne (by decide),
    Function.update_self]
theorem V₅_3 (d : Dev nD) : V₅ m d main_v4_2 = finalA (W₄ m) d 3 := by
  unfold V₅
  rw [Function.update_of_ne (by decide), Function.update_of_ne (by decide), Function.update_of_ne (by decide), Function.update_self]
theorem V₅_4 (d : Dev nD) : V₅ m d main_v4_3 = finalA (W₄ m) d 4 := by
  unfold V₅
  rw [Function.update_of_ne (by decide), Function.update_of_ne (by decide), Function.update_self]
theorem V₅_5 (d : Dev nD) : V₅ m d main_v4_4 = finalA (W₄ m) d 5 := by
  unfold V₅
  rw [Function.update_of_ne (by decide), Function.update_self]
theorem V₅_6 (d : Dev nD) : V₅ m d main_v4_5 = finalA (W₄ m) d 6 := by
  unfold V₅
  rw [Function.update_self]
theorem V₅_ne (d : Dev nD) (b : Ref sig .tc) (h : b ∉ ([main_v3, main_v4_0, main_v4_1, main_v4_2, main_v4_3, main_v4_4, main_v4_5] : List (Ref sig .tc))) :
    V₅ m d b = V₄ m d b := by
  have hb : ∀ b' ∈ ([main_v3, main_v4_0, main_v4_1, main_v4_2, main_v4_3, main_v4_4, main_v4_5] : List (Ref sig .tc)), (Proc.devRef .tc b : DevRef τ sig) ≠ Proc.devRef .tc b' :=
    fun b' hb' => StableHlo.devRef_ne_of_ne fun e => h (e ▸ hb')
  unfold V₅
  rw [Function.update_of_ne (hb _ (by decide)), Function.update_of_ne (hb _ (by decide)), Function.update_of_ne (hb _ (by decide)),
    Function.update_of_ne (hb _ (by decide)), Function.update_of_ne (hb _ (by decide)), Function.update_of_ne (hb _ (by decide)), Function.update_of_ne (hb _ (by decide))]

/-- and after the program. -/
def V₆ (d : Dev nD) : Valuation τ sig (Elt F) := op4.result (V₅ m d)

theorem V₆_ne (d : Dev nD) (b : Ref sig .tc) (h : b ≠ main_v5) : V₆ m d b = V₅ m d b := StableHlo.reshape_result_ne _ _ _ _ _ _ _ h
theorem V₆_last (d : Dev nD) : V₆ m d main_v5 = shapeCast S64x4x4 (finalA (W₄ m) d 5) shapeCasts_S64x16_S64x4x4 := by
  rw [← V₅_5]
  exact StableHlo.reshape_result' _ _ _ _ _
theorem V₆_arg (d : Dev nD) (b : Ref sig .tc) (h : b ∈ ([main_arg0, main_arg1, main_arg2, main_arg3, main_arg4] : List (Ref sig .tc))) :
    V₆ m d b = m (lc d b) := by
  rw [V₆_ne m d b (by rintro rfl; revert h; decide), V₅_ne m d b (by revert h; revert b; decide),
    V₄_ne m d b (by rintro rfl; revert h; decide) (by rintro rfl; revert h; decide) (by rintro rfl; revert h; decide), V₁_ne m d b (by revert h; revert b; decide)]
theorem V₆_sc (d : Dev nD) (b : Ref sig .tc) (h : b ∈ ([main_v0_0, main_v0_1, main_v0_2, main_v0_3, main_v0_4] : List (Ref sig .tc))) :
    V₆ m d b = V₁ m d b := by
  rw [V₆_ne m d b (by rintro rfl; revert h; decide), V₅_ne m d b (by revert h; revert b; decide),
    V₄_ne m d b (by rintro rfl; revert h; decide) (by rintro rfl; revert h; decide) (by rintro rfl; revert h; decide)]

/-! ## The program on the TensorCore -/

/-- What the program leaves. -/
def FIN (d : Dev nD) : sProp 𝕄 := StableHlo.held (d : Thread nD τ) (Pipeline.ucRefs τ sig) (V₆ m d)

/-- The pipeline's ghost state. -/
def G (d : Dev nD) : sProp 𝕄 :=
  iprop((bigSep Finset.univ fun p : Fin 1 => Pipeline.cellsGhost (Pipeline.pin (pcfgs (F := F)) adm) EP p d)
    ∗ bigSep Finset.univ fun p : Fin 1 => Pipeline.toksInit (Pipeline.pin (pcfgs (F := F)) adm) EP p d)

theorem bufs_in (d : Dev nD) :
    (unscopedBufs d (fun b => m (lc d b)) : sProp 𝕄)
      ⊢ iprop((rdP m d fullShare ∗ wrAll d (m (lc d main_v0_0)) (m (lc d main_v0_1)) (m (lc d main_v0_2)) (m (lc d main_v0_3)) (m (lc d main_v0_4)))
          ∗ rest d (fun b => V₁ m d b)) := by
  rw [bufs_eq]
  have hr : (rest d (fun b => m (lc d b)) : sProp 𝕄) = rest d (fun b => V₁ m d b) := by
    unfold rest
    dsimp only
    rw [V₁_ne m d main_v1 (by decide), V₁_ne m d main_v2 (by decide), V₁_ne m d main_v5 (by decide)]
    congr 1
  rw [hr]
  exact sep_assoc.2

theorem bufs_mid (d : Dev nD) :
    iprop((rdP m d fullShare ∗ wrAll d (valsQ (insM m d)) (valsS (insM m d)) (valsXY (insM m d)) (valsZ (insM m d)) (partV (insM m d)))
          ∗ rest d (fun b => V₁ m d b))
      ⊢ (StableHlo.held (d : Thread nD τ) (Pipeline.ucRefs τ sig) (V₁ m d) : sProp 𝕄) := by
  rw [← Pipeline.unscopedBufs_held, bufs_eq, V₁_0, V₁_1, V₁_2, V₁_3, V₁_4]
  have hr : (rdW d (fun b => V₁ m d b) : sProp 𝕄) = rdP m d fullShare := by
    unfold rdW rdP
    dsimp only
    rw [V₁_ne m d main_arg0 (by decide), V₁_ne m d main_arg1 (by decide), V₁_ne m d main_arg2 (by decide), V₁_ne m d main_arg3 (by decide), V₁_ne m d main_arg4 (by decide)]
  rw [hr]
  exact sep_assoc.1

/-- The TensorCore's call. -/
theorem wp_call (d : Dev nD) (Q : PUnit → sProp 𝕄) :
    iprop((iprop(boundary (d : Thread nD τ) ∗ (reg1 (W₄ m)).post d) -∗ Q ⟨⟩)
        ∗ boundary (d : Thread nD τ) ∗ (reg1 (W₄ m)).pre d ∗ levAts (K (F := F)).L (K (F := F)).lev ∗ G (F := F) d)
      ⊢ wp frame (wpE ((K (F := F)).defs (D (F := F))) 𝒱 (d : Thread nD τ) none) Set.univ (Prog.lift (.customCall (SparseCore.inner (Pipeline.entry 0)) ())) Q := by
  have h : iprop((iprop(boundary (d : Thread nD τ) ∗ (reg1 (W₄ m)).post d) -∗ wp frame (wpE (D (F := F)) 𝒱 (d : Thread nD τ) none) Set.univ (.ret ⟨⟩) Q)
        ∗ boundary (d : Thread nD τ) ∗ (reg1 (W₄ m)).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (.op (.customCall (Pipeline.entry 0) ()) .ret) Q :=
    Pipeline.RegionSeg.wp (pcfgs (F := F)) adm (pdats (W₄ m)) (none : HIx 1) cellOf_inj EP defs₀ 𝒱₀ (K (F := F)).L (K (F := F)).lev
      (reg1 (W₄ m)) d none (by nofun) .ret Q
  have h2 := (K (F := F)).wp_liftProg (D (F := F)) 𝒱 (d : Thread nD τ) (Set.univ : Set ℕ) none (.op (.customCall (Pipeline.entry 0) ()) .ret) Q
  have e : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl
  rw [e]
  have hk : iprop((boundary (d : Thread nD τ) ∗ (reg1 (W₄ m)).post d) -∗ Q ⟨⟩)
      ⊢ (iprop((boundary (d : Thread nD τ) ∗ (reg1 (W₄ m)).post d) -∗ wp frame (wpE (D (F := F)) 𝒱 (d : Thread nD τ) none) Set.univ (.ret ⟨⟩) Q) : sProp 𝕄) := by
    iintro Hk H
    rw [wp_ret]
    imodintro
    iapply Hk
    iexact H
  unfold G
  rw [BI.bigSep_univ_of_subsingleton (0 : Fin 1), BI.bigSep_univ_of_subsingleton (0 : Fin 1)]
  exact ((sep_mono_left hk).trans h).trans h2

theorem bufs_arr (d : Dev nD) (W : (b : Ref sig .tc) → Buf (Elt F) ((d : Thread nD τ).loc b)) :
    (unscopedBufs d W : sProp 𝕄)
      = iprop((bigSep Finset.univ fun w : Fin 7 => ((d : Thread nD τ).loc (Pipeline.arrRef spec1 w)) ↦{fullShare} W (Pipeline.arrRef spec1 w))
          ∗ Pipeline.unscopedRest (Ix := HIx 1) (Name := ℕ) (U := UU) (Lvl := ℕ) spec1 d W) :=
  Pipeline.unscopedBufs_split (Pipeline.pin (pcfgs (F := F)) adm) 0 winFacts1.arr_unscoped winFacts1.arr_inj d W

theorem arr_congr (d : Dev nD) (W : (b : Ref sig .tc) → Buf (Elt F) ((d : Thread nD τ).loc b))
    (A : (w : Fin 7) → Buf (Elt F) ((d : Thread nD τ).loc (Pipeline.arrRef spec1 w))) (h0 : W main_v3 = A 0) (h1 : W main_v4_0 = A 1) (h2 : W main_v4_1 = A 2)
    (h3 : W main_v4_2 = A 3) (h4 : W main_v4_3 = A 4) (h5 : W main_v4_4 = A 5) (h6 : W main_v4_5 = A 6) :
    (bigSep Finset.univ fun w : Fin 7 => ((d : Thread nD τ).loc (Pipeline.arrRef spec1 w)) ↦{fullShare} W (Pipeline.arrRef spec1 w) : sProp 𝕄)
      = bigSep Finset.univ fun w : Fin 7 => ((d : Thread nD τ).loc (Pipeline.arrRef spec1 w)) ↦{fullShare} A w := by
  have h : ∀ w : Fin 7, W (Pipeline.arrRef spec1 w) = A w := fun w => match w with
    | 0 => h0 | 1 => h1 | 2 => h2 | 3 => h3 | 4 => h4 | 5 => h5 | 6 => h6
  exact BI.bigSep_congr fun w _ => by rw [h w]

theorem rest_congr (d : Dev nD) (W W' : (b : Ref sig .tc) → Buf (Elt F) ((d : Thread nD τ).loc b))
    (h : ∀ b, b ∉ ([main_v3, main_v4_0, main_v4_1, main_v4_2, main_v4_3, main_v4_4, main_v4_5] : List (Ref sig .tc)) → W b = W' b) :
    (Pipeline.unscopedRest (Ix := HIx 1) (Name := ℕ) (U := UU) (Lvl := ℕ) spec1 d W : sProp 𝕄) = Pipeline.unscopedRest spec1 d W' := by
  unfold Pipeline.unscopedRest
  refine BI.bigSep_congr fun b hb => ?_
  rw [h b fun hl => (Finset.mem_sdiff.mp hb).2 (Finset.mem_image.mpr ?_)]
  simp only [List.mem_cons, List.not_mem_nil, or_false] at hl
  rcases hl with rfl | rfl | rfl | rfl | rfl | rfl | rfl
  · exact ⟨0, Finset.mem_univ _, rfl⟩
  · exact ⟨1, Finset.mem_univ _, rfl⟩
  · exact ⟨2, Finset.mem_univ _, rfl⟩
  · exact ⟨3, Finset.mem_univ _, rfl⟩
  · exact ⟨4, Finset.mem_univ _, rfl⟩
  · exact ⟨5, Finset.mem_univ _, rfl⟩
  · exact ⟨6, Finset.mem_univ _, rfl⟩

/-- The arrays after it. -/
theorem bufs_out (d : Dev nD) :
    (reg1 (W₄ m)).post d ⊢ (iprop(StableHlo.held (d : Thread nD τ) (Pipeline.ucRefs τ sig) (V₅ m d) ∗ tcOwes d) : sProp 𝕄) := by
  have e : (reg1 (W₄ m)).post d = (iprop((bigSep Finset.univ fun w : Fin 7 => ((d : Thread nD τ).loc (Pipeline.arrRef spec1 w)) ↦{fullShare} finalA (W₄ m) d w)
    ∗ Pipeline.unscopedRest (Ix := HIx 1) (Name := ℕ) (U := UU) (Lvl := ℕ) spec1 d (W₄ m d) ∗ tcOwes d) : sProp 𝕄) := rfl
  rw [e, ← Pipeline.unscopedBufs_held, bufs_arr,
    arr_congr d (fun b => V₅ m d b) (fun w => finalA (W₄ m) d w) (V₅_0 m d) (V₅_1 m d) (V₅_2 m d) (V₅_3 m d) (V₅_4 m d) (V₅_5 m d) (V₅_6 m d),
    rest_congr d (fun b => V₅ m d b) (W₄ m d) fun b hb => V₅_ne m d b hb]
  exact sep_assoc.2

/-- A statement touches only the TensorCore's arrays. -/
theorem sub_uc (op : HloOp τ sig (Elt F)) (h : op.bufs ⊆ StableHlo.tcRefs τ sig) : op.bufs ⊆ Pipeline.ucRefs τ sig := fun b hb =>
  Finset.mem_filter.mpr ⟨h hb, fun h' => Bool.false_ne_true ((op.no_scoped b hb).symm.trans h')⟩

theorem call_pre (d : Dev nD) :
    iprop(StableHlo.held (d : Thread nD τ) (Pipeline.ucRefs τ sig) (V₄ m d) ∗ tcOwes (F := F) d) ⊢ (reg1 (W₄ m)).pre d := by
  rw [← Pipeline.unscopedBufs_held]
  exact BI.Entails.refl _

/-- The TensorCore's waits, in its state and out of it. -/
theorem tcSt_owes (d : Dev nD) :
    ((K (F := F)).tcSt EH d 1 : sProp 𝕄) ⊢ iprop(tcOwes (F := F) d ∗ (tcOwes (F := F) d -∗ (K (F := F)).tcSt EH d 1)) := by
  unfold SparseCore.Cfg.tcSt tcOwes
  rw [(K (F := F)).Otc_end d le_rfl]
  iintro ⟨H, Hr⟩
  isplitl [H]; · iexact H
  iintro H
  isplitl [H]; · iexact H
  iexact Hr

/-- The program on the TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  ihave Hub := (bufs_in m d) $$ Hub
  icases Hub with ⟨Hub, Hrest⟩
  ihave Hub := (call_in m d) $$ Hub
  icases Hub with ⟨Hgo, Hrd⟩
  iapply ((K (F := F)).wp_run (D (F := F)) 𝒱 (EH := EH) (P := P m) κ d 0)
  isplitr; · iexact Hctx
  isplitl [Hst]; · iexact Hst
  isplitl [Hgo]; · iexact Hgo
  iintro ⟨Hst, Hdn⟩
  ihave Hub := (call_out m d) $$ [Hdn Hrd]
  · isplitl [Hdn] <;> iassumption
  ihave Hub := (bufs_mid m d) $$ [Hub Hrest]
  · isplitl [Hub] <;> iassumption
  iapply (StableHlo.wp_hlo_within 𝒱 (d : Thread nD τ) none Set.univ (op := op1) (S := Pipeline.ucRefs τ sig) (sub_uc _ (StableHlo.reshape_bufs_sub ..)) (V := V₁ m d)) $$ [Hb Hub]
  · isplitl [Hb] <;> iassumption
  iintro ⟨Hb, Hub⟩
  rw [wp_ret]; imodintro
  iapply (StableHlo.wp_hlo_within 𝒱 (d : Thread nD τ) none Set.univ (op := op2) (S := Pipeline.ucRefs τ sig) (sub_uc _ (StableHlo.unary_bufs_sub ..)) (V := op1.result (V₁ m d))) $$ [Hb Hub]
  · isplitl [Hb] <;> iassumption
  iintro ⟨Hb, Hub⟩
  rw [wp_ret]; imodintro
  iapply (StableHlo.wp_hlo_within 𝒱 (d : Thread nD τ) none Set.univ (op := op3) (S := Pipeline.ucRefs τ sig) (sub_uc _ (StableHlo.reshape_bufs_sub ..)) (V := op2.result (op1.result (V₁ m d)))) $$ [Hb Hub]
  · isplitl [Hb] <;> iassumption
  iintro ⟨Hb, Hub⟩
  rw [wp_ret]; imodintro
  ihave Hst := (show (K (F := F)).tcSt EH d ((0 : Fin 1).val + 1) ⊢ _ from tcSt_owes d) $$ Hst
  icases Hst with ⟨Ho, Hst⟩
  iapply (wp_call m d _)
  isplitr [Hb Hub Ho HG]
  · iintro ⟨Hb, Hp⟩
    ihave Hp := (bufs_out m d) $$ Hp
    icases Hp with ⟨Hub, Ho⟩
    iapply (StableHlo.wp_hlo_within 𝒱 (d : Thread nD τ) none Set.univ (op := op4) (S := Pipeline.ucRefs τ sig) (sub_uc _ (StableHlo.reshape_bufs_sub ..)) (V := V₅ m d)) $$ [Hb Hub]
    · isplitl [Hb] <;> iassumption
    iintro ⟨Hb, Hub⟩
    rw [wp_ret]; imodintro; imodintro
    isplitl [Hst Ho]
    · iapply Hst; iexact Ho
    isplitl [Hub]
    · unfold FIN V₆; iexact Hub
    isplitl [Hb]; · iexact Hb
    iexact Hts
  isplitl [Hb]; · iexact Hb
  isplitl [Hub Ho]
  · iapply (call_pre m d)
    isplitl [Hub]; · unfold V₄; iexact Hub
    iexact Ho
  isplitr
  · iapply (SparseCore.Cfg.ctx_levAts κ); iexact Hctx
  iexact HG

/-! ## The launch -/

/-- What the program leaves in the memory. -/
def fq (d : Dev nD) (s' : Phys nD τ sig (Elt F)) : Prop := ∀ b ∈ Pipeline.ucRefs τ sig, s'.mem.mem (d, b) = V₆ m d b

theorem hfin (d : Dev nD) (s' : Phys nD τ sig (Elt F)) : iprop(FIN m d ∗ SI s') ⊢ (⌜fq m d s'⌝ : sProp 𝕄) := by
  have one (b : DevRef τ sig) (hb : b ∈ Pipeline.ucRefs τ sig) : iprop(FIN m d ∗ SI s') ⊢ (⌜s'.mem.mem (d, b) = V₆ m d b⌝ : sProp 𝕄) := by
    have h : (FIN m d : sProp 𝕄) ⊢ ((d, b) ↦{fullShare} V₆ m d b) := by
      unfold FIN StableHlo.held
      exact BI.bigSep_elim hb
    iintro ⟨H, HSI⟩
    ihave H := h $$ H
    ihave H := (SI_pointsTo_agree (st := s') (ℓ := (d, b)) (I := Finset.univ) (q := fullShare) (f := V₆ m d b)) $$ [HSI H]
    · isplitl [HSI] <;> iassumption
    icases H with %h1
    ipureintro; exact funext fun i => h1 i (Finset.mem_univ i)
  have all : iprop(FIN m d ∗ SI s') ⊢ (⌜∀ x : { b // b ∈ Pipeline.ucRefs τ sig }, s'.mem.mem (d, x.1) = V₆ m d x.1⌝ : sProp 𝕄) :=
    (forall_intro fun x : { b // b ∈ Pipeline.ucRefs τ sig } => one x.1 x.2).trans pure_forall.2
  exact all.trans (pure_mono fun h b hb => h ⟨b, hb⟩)

/-- The ghost state at the launch. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_parts (a : UH) (b : UR sig nD τ) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_parts _ _) $$ Hu
  icases H with ⟨HH, HK⟩
  imod (Pipeline.fund_ghost (Pipeline.pin (pcfgs (F := F)) adm) EP cellOf_inj) $$ HK with ⟨H1, H2⟩
  imodintro
  isplitl [HH]; · iexact HH
  isplitl [H1 H2]
  · unfold G
    rw [bigSep_sep']
    isplitl [H1]; · iexact H1
    iexact H2
  rw [show (fun thr : Thread nD τ => bigSep Finset.univ fun q : Fin 1 => (P m).x q thr) = (fun _ => (iprop(emp) : sProp 𝕄)) from
    funext fun thr => BI.bigSep_emp_const _]
  iapply (Entails.of_eq (BI.bigSep_emp_const (M := 𝕄) (Finset.univ : Finset (Thread nD τ))).symm)
  iempintro

/-- The memory at the end. -/
def QC : PUnit × MemSt nD τ sig (Elt F) → Prop := fun r => (∀ d : Dev nD, ∀ b ∈ Pipeline.ucRefs τ sig, r.2.mem (d, b) = V₆ m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KernelIdeal
end
-- ==== Proof.Ideal.Rows.lean ====
module

public import proofs.«01_k».proof.Proof.Ideal.Coords
public import Idealize.ShloMosaic.Lib.Pointwise

@[expose] public section

/-! The subcores' gathered arrays, read at a pixel over the extended reals: the row of the pixel's own class, times one
where the pixel has a class and zero where it has none. -/

noncomputable section

namespace Cert.Proof.KernelIdeal

open Cert.KernelIdeal Cert.KernelIdeal.Gen
open Idealize.ShloMosaic Idealize.SL.Sem
open Idealize.ShloMosaic.Pointwise

/-- The class of a pixel counted from zero, as a natural number. -/
def cmN (c : BitVec 32) : Fin 8 := ⟨(cmW c).toNat, Nat.lt_succ_of_le (clip_toNat 7#32 _ (by decide))⟩

theorem cmW_eq (c : BitVec 32) : cmW c = BitVec.ofNat 32 (cmN c).val := by
  apply BitVec.eq_of_toNat_eq
  rw [BitVec.toNat_ofNat]
  exact (Nat.mod_eq_of_lt (cmW c).isLt).symm

/-- Where the class is in the upper half, its row `k` counted from the sixteenth; where in the lower, from the first. -/
theorem rowQ_hi : ∀ (x : Fin 8) (k : Fin 4), 4 ≤ x.val →
    IntOp.cmpi .sge (BitVec.ofNat 32 x.val) 4#32 = 1#1
      ∧ 16 + (IntOp.addi (IntOp.muli (IntOp.minsi 3#32 (IntOp.maxsi 0#32 (IntOp.subi (BitVec.ofNat 32 x.val) 4#32))) 4#32) (BitVec.ofNat 32 k.val)).toNat = x.val * 4 + k.val := by
  decide
theorem rowQ_lo : ∀ (x : Fin 8) (k : Fin 4), x.val < 4 →
    IntOp.cmpi .sge (BitVec.ofNat 32 x.val) 4#32 = 0#1
      ∧ (IntOp.addi (IntOp.muli (IntOp.minsi 3#32 (IntOp.maxsi 0#32 (BitVec.ofNat 32 x.val))) 4#32) (BitVec.ofNat 32 k.val)).toNat = x.val * 4 + k.val := by
  decide
theorem rowS_nat : ∀ (x : Fin 8) (k : Fin 3), (IntOp.addi (IntOp.muli (BitVec.ofNat 32 x.val) 3#32) (BitVec.ofNat 32 k.val)).toNat = x.val * 3 + k.val := by decide
theorem rowXY_nat : ∀ (x : Fin 8) (k : Fin 2), (IntOp.addi (IntOp.muli (BitVec.ofNat 32 x.val) 2#32) (BitVec.ofNat 32 k.val)).toNat = x.val * 2 + k.val := by decide
theorem rowZ_nat : ∀ x : Fin 8, (IntOp.addi 16#32 (BitVec.ofNat 32 x.val)).toNat - 16 = x.val := by decide

theorem select_one' {α : Type} (a b : α) : Scalar.select 1#1 a b = a := rfl
theorem select_zero' {α : Type} (a b : α) : Scalar.select 0#1 a b = b := rfl

/-- Keeping a value where a bit is set is multiplying it by the bit. -/
theorem gate (g : BitVec 1) (A : EReal) : A * FloatOps.uitofp (F := Ideal) FTy.f32 g = Scalar.select g A (Scalar.ofBits (F := Ideal) .f32 0x00000000#32 : EReal) := by
  have h : g = 1#1 ∨ g = 0#1 := by revert g; decide
  rcases h with rfl | rfl
  · rw [select_one']
    show A * (((1#1 : BitVec 1).toNat : ℝ) : EReal) = A
    norm_num
  · rw [select_zero']
    show A * (((0#1 : BitVec 1).toNat : ℝ) : EReal) = Ideal.ofBits .f32 0x00000000#32
    norm_num

section
variable (c : Vec Ideal S8x224x224 .i32) (q : Vec Ideal S8x32x224x224 .f32) (s : Vec Ideal S8x24x224x224 .f32) (xy : Vec Ideal S8x16x224x224 .f32)
  (z : Vec Ideal S8x8x224x224 .f32)

theorem nat4_ix {α : Type} {n0 n1 n2 n3 : ℕ} (hp : ∀ k, 0 < (![n0, n1, n2, n3] : Fin 4 → ℕ) k) (X : (⟨4, ![n0, n1, n2, n3]⟩ : Shape).Idx → α)
    (a : Fin n0) (b : Fin n1) (e : Fin n2) (f : Fin n3) {b' : ℕ} (hb : b' = b.val) : nat4 hp X a.val b' e.val f.val = X (ix4 a b e f) := by
  subst hb
  unfold nat4
  congr 1
  exact ixN_self (s := ⟨4, ![n0, n1, n2, n3]⟩) hp (ix4 a b e f) _ fun k => by match k with | ⟨0, _⟩ => rfl | ⟨1, _⟩ => rfl | ⟨2, _⟩ => rfl | ⟨3, _⟩ => rfl
theorem nat3_ix {α : Type} {n0 n1 n2 : ℕ} (hp : ∀ k, 0 < (![n0, n1, n2] : Fin 3 → ℕ) k) (X : (⟨3, ![n0, n1, n2]⟩ : Shape).Idx → α)
    (a : Fin n0) (e : Fin n1) (f : Fin n2) : nat3 hp X a.val e.val f.val = X (ix3 a e f) := by
  unfold nat3
  congr 1
  exact ixN_self (s := ⟨3, ![n0, n1, n2]⟩) hp (ix3 a e f) _ fun k => by match k with | ⟨0, _⟩ => rfl | ⟨1, _⟩ => rfl | ⟨2, _⟩ => rfl

theorem valsQ_at (I : Ins Ideal) (b : Fin 8) (k : Fin 4) (h w : Fin 224) : valsQ I (ix4 b k h w)
    = valQ (I.C b.val h.val w.val) (fun p => I.Q b.val p h.val w.val) (fun p => I.Q b.val (16 + p) h.val w.val) (BitVec.ofNat 32 k.val) := rfl
theorem valsS_at (I : Ins Ideal) (b : Fin 8) (k : Fin 3) (h w : Fin 224) : valsS I (ix4 b k h w)
    = val1 (I.C b.val h.val w.val) (fun p => I.S b.val p h.val w.val) (rowS (BitVec.ofNat 32 k.val) (I.C b.val h.val w.val)) := rfl
theorem valsXY_at (I : Ins Ideal) (b : Fin 8) (k : Fin 2) (h w : Fin 224) : valsXY I (ix4 b k h w)
    = val1 (I.C b.val h.val w.val) (fun p => I.XY b.val p h.val w.val) (rowXY (BitVec.ofNat 32 k.val) (I.C b.val h.val w.val)) := rfl
theorem valsZ_at (I : Ins Ideal) (b : Fin 8) (h w : Fin 224) : valsZ I (ix3 b h w)
    = val1 (I.C b.val h.val w.val) (fun p => I.Z b.val (p - 16) h.val w.val) (rowZ 2#32 (I.C b.val h.val w.val)) := rfl

theorem ins_C (b : Fin 8) (h w : Fin 224) : (ins c q s xy z).C b.val h.val w.val = c (ix3 b h w) := nat3_ix p3 c b h w
theorem ins_Q (b : Fin 8) (R : Fin 32) (h w : Fin 224) {r : ℕ} (hr : r = R.val) : (ins c q s xy z).Q b.val r h.val w.val = q (ix4 b R h w) := nat4_ix pq q b R h w hr
theorem ins_S (b : Fin 8) (R : Fin 24) (h w : Fin 224) {r : ℕ} (hr : r = R.val) : (ins c q s xy z).S b.val r h.val w.val = s (ix4 b R h w) := nat4_ix ps s b R h w hr
theorem ins_XY (b : Fin 8) (R : Fin 16) (h w : Fin 224) {r : ℕ} (hr : r = R.val) : (ins c q s xy z).XY b.val r h.val w.val = xy (ix4 b R h w) := nat4_ix pxy xy b R h w hr
theorem ins_Z (b : Fin 8) (R : Fin 8) (h w : Fin 224) {r : ℕ} (hr : r = R.val) : (ins c q s xy z).Z b.val r h.val w.val = z (ix4 b R h w) := nat4_ix pz z b R h w hr

/-- The row of channel `k` of a pixel of class `v`. -/
def rowOf (ch : ℕ) (v : BitVec 32) (k : Fin ch) : Fin (8 * ch) := ⟨(cmN v).val * ch + k.val, by
  have h1 := (cmN v).isLt
  have h2 := k.isLt
  calc (cmN v).val * ch + k.val < (cmN v).val * ch + ch := by omega
    _ = ((cmN v).val + 1) * ch := by rw [Nat.add_mul, Nat.one_mul]
    _ ≤ 8 * ch := Nat.mul_le_mul_right ch h1⟩

theorem valQ_eq (v : BitVec 32) (fa fb : ℕ → Ideal .f32) (k : Fin 4) (A : Ideal .f32)
    (hlo : (cmN v).val < 4 → fa ((cmN v).val * 4 + k.val) = A) (hhi : 4 ≤ (cmN v).val → ∀ r, 16 + r = (cmN v).val * 4 + k.val → fb r = A) :
    valQ v fa fb (BitVec.ofNat 32 k.val) = (A : EReal) * FloatOps.uitofp (F := Ideal) FTy.f32 (IntOp.cmpi .sgt v 0#32) := by
  rw [gate]
  unfold valQ hiW loW
  rw [cmW_eq]
  congr 1
  by_cases h4 : 4 ≤ (cmN v).val
  · obtain ⟨e1, e2⟩ := rowQ_hi (cmN v) k h4
    rw [e1, select_one']
    exact hhi h4 _ e2
  · obtain ⟨e1, e2⟩ := rowQ_lo (cmN v) k (by omega)
    rw [e1, select_zero', e2]
    exact hlo (by omega)

theorem val1_eq (v : BitVec 32) (f : ℕ → Ideal .f32) (p : BitVec 32) (A : Ideal .f32) (h : f p.toNat = A) :
    val1 v f p = (A : EReal) * FloatOps.uitofp (F := Ideal) FTy.f32 (IntOp.cmpi .sgt v 0#32) := by
  rw [gate]
  unfold val1
  rw [h]

theorem valsQ_ix (b : Fin 8) (k : Fin 4) (h w : Fin 224) :
    valsQ (ins c q s xy z) (ix4 b k h w)
      = (q (ix4 b (rowOf 4 (c (ix3 b h w)) k) h w) : EReal) * FloatOps.uitofp (F := Ideal) FTy.f32 (IntOp.cmpi .sgt (c (ix3 b h w)) 0#32) := by
  rw [valsQ_at, ins_C]
  exact valQ_eq _ _ _ k _ (fun _ => ins_Q c q s xy z b (rowOf 4 _ k) h w rfl) (fun _ r e => ins_Q c q s xy z b (rowOf 4 _ k) h w e)

theorem valsS_ix (b : Fin 8) (k : Fin 3) (h w : Fin 224) :
    valsS (ins c q s xy z) (ix4 b k h w)
      = (s (ix4 b (rowOf 3 (c (ix3 b h w)) k) h w) : EReal) * FloatOps.uitofp (F := Ideal) FTy.f32 (IntOp.cmpi .sgt (c (ix3 b h w)) 0#32) := by
  rw [valsS_at, ins_C]
  refine val1_eq _ _ _ _ (ins_S c q s xy z b (rowOf 3 _ k) h w ?_)
  unfold rowS
  rw [cmW_eq]
  exact rowS_nat _ k

theorem valsXY_ix (b : Fin 8) (k : Fin 2) (h w : Fin 224) :
    valsXY (ins c q s xy z) (ix4 b k h w)
      = (xy (ix4 b (rowOf 2 (c (ix3 b h w)) k) h w) : EReal) * FloatOps.uitofp (F := Ideal) FTy.f32 (IntOp.cmpi .sgt (c (ix3 b h w)) 0#32) := by
  rw [valsXY_at, ins_C]
  refine val1_eq _ _ _ _ (ins_XY c q s xy z b (rowOf 2 _ k) h w ?_)
  unfold rowXY
  rw [cmW_eq]
  exact rowXY_nat _ k

theorem valsZ_ix (b : Fin 8) (h w : Fin 224) :
    valsZ (ins c q s xy z) (ix3 b h w)
      = (z (ix4 b (cmN (c (ix3 b h w))) h w) : EReal) * FloatOps.uitofp (F := Ideal) FTy.f32 (IntOp.cmpi .sgt (c (ix3 b h w)) 0#32) := by
  rw [valsZ_at, ins_C]
  refine val1_eq _ _ _ _ (ins_Z c q s xy z b _ h w ?_)
  unfold rowZ
  rw [cmW_eq]
  exact rowZ_nat _

end

end Cert.Proof.KernelIdeal
-- ==== Proof.Gather.lean ====
module

public import proofs.«01_k».proof.Proof.Gen.ReferenceIdeal
public import Idealize.ShloMosaic.Lib.Pointwise

@[expose] public section

/-! `take_along_axis` along the class axis, read at an element: the class's own row, where the index is in range. -/

noncomputable section

namespace Cert.Proof

open Idealize.ShloMosaic
open Idealize.ShloMosaic.Pointwise

/-- A conjunction of bits that are all one is one. -/
theorem reduce_ones {s t u : Shape} {axes : List (Fin s.rank)} (x : s.Idx → BitVec 1) (init : u.Idx → BitVec 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  generalize (List.finRange s.numel).filter _ = l
  induction l with
  | nil => rfl
  | cons a l ih => rw [List.foldl_cons, hx]; exact ih

section
variable {ch : ℕ}

abbrev sX (ch : ℕ) : Shape := ⟨5, ![8, 8, ch, 224, 224]⟩
abbrev sI (ch : ℕ) : Shape := ⟨6, ![8, 1, ch, 224, 224, 1]⟩
abbrev sO (ch : ℕ) : Shape := ⟨5, ![8, 1, ch, 224, 224]⟩

/-- The gather's dimension numbers: one class at each place, the other axes kept. -/
abbrev along (ch : ℕ) (wf : GatherDims.WF (sX ch) (sI ch) (sO ch) [] [1] [0, 2, 3, 4] [1] [0, 2, 3, 4] 5 ![1, 1, 1, 1, 1]) :
    GatherDims (sX ch) (sI ch) (sO ch) where
  offsetDims := []
  collapsedSliceDims := [1]
  operandBatchingDims := [0, 2, 3, 4]
  startIndicesBatchingDims := [0, 2, 3, 4]
  startIndexMap := [1]
  indexVectorDim := 5
  sliceSizes := ![1, 1, 1, 1, 1]
  wf := wf

theorem gather_along (wf : GatherDims.WF (sX ch) (sI ch) (sO ch) [] [1] [0, 2, 3, 4] [1] [0, 2, 3, 4] 5 ![1, 1, 1, 1, 1]) {α : Type}
    (x : (sX ch).Idx → α) (idx : IVec (sI ch) 32) (b : Fin 8) (k : Fin ch) (h w : Fin 224) :
    Host.gather (along ch wf) x idx (ix5 b 0 k h w) = x (ix5 b ⟨min (idx (ix6 b 0 k h w 0)).toInt.toNat 7, by omega⟩ k h w) := by
  unfold Host.gather
  congr 1
  funext a
  refine Fin.ext ?_
  show (along ch wf).start (ix5 b 0 k h w) idx a + (along ch wf).batchCoord (ix5 b 0 k h w) a + (along ch wf).offCoord (ix5 b 0 k h w) a = _
  have hk : ∀ a : Fin 5, a ∉ (along ch wf).sKept := fun a h => by
    have h' := (GatherDims.mem_sKept _ _).mp h
    exact (show ∀ a : Fin 5, a ∈ ([1] : List (Fin 5)) ∨ a ∈ ([0, 2, 3, 4] : List (Fin 5)) by decide) a |>.elim h'.1 h'.2
  rw [GatherDims.offCoord_eq_zero _ _ _ (hk a), Nat.add_zero]
  have hb : ∀ a : Fin 5, a ∈ ([0, 2, 3, 4] : List (Fin 5)) → (along ch wf).start (ix5 b 0 k h w) idx a = 0 := fun a ha => GatherDims.start_batching _ _ _ _ ha
  have cs : a = 0 ∨ a = 1 ∨ a = 2 ∨ a = 3 ∨ a = 4 := (show ∀ a : Fin 5, a = 0 ∨ a = 1 ∨ a = 2 ∨ a = 3 ∨ a = 4 by decide) a
  rcases cs with rfl | rfl | rfl | rfl | rfl
  · rw [hb 0 (by decide), Nat.zero_add]
    unfold GatherDims.batchCoord
    rw [dif_pos (show (0 : Fin 5) ∈ ([0, 2, 3, 4] : List (Fin 5)) by decide)]
    rfl
  · rw [GatherDims.batchCoord_eq_zero _ _ _ (show (1 : Fin 5) ∉ ([0, 2, 3, 4] : List (Fin 5)) by decide), Nat.add_zero]
    unfold GatherDims.start
    rw [dif_pos (show (1 : Fin 5) ∈ ([1] : List (Fin 5)) by decide)]
    have hsi : ∀ c, (along ch wf).siIdx (ix5 b 0 k h w) c = ix6 b 0 k h w 0 := fun c => by
      funext e; refine Fin.ext ?_
      match e with
      | ⟨0, _⟩ => rfl
      | ⟨1, _⟩ => rfl
      | ⟨2, _⟩ => rfl
      | ⟨3, _⟩ => rfl
      | ⟨4, _⟩ => rfl
      | ⟨5, _⟩ => exact Nat.lt_one_iff.mp c.isLt
    rw [hsi]
    rfl
  · rw [hb 2 (by decide), Nat.zero_add]
    unfold GatherDims.batchCoord
    rw [dif_pos (show (2 : Fin 5) ∈ ([0, 2, 3, 4] : List (Fin 5)) by decide)]
    rfl
  · rw [hb 3 (by decide), Nat.zero_add]
    unfold GatherDims.batchCoord
    rw [dif_pos (show (3 : Fin 5) ∈ ([0, 2, 3, 4] : List (Fin 5)) by decide)]
    rfl
  · rw [hb 4 (by decide), Nat.zero_add]
    unfold GatherDims.batchCoord
    rw [dif_pos (show (4 : Fin 5) ∈ ([0, 2, 3, 4] : List (Fin 5)) by decide)]
    rfl

end

abbrev sZ : Shape := ⟨5, ![8, 8, 1, 224, 224]⟩
abbrev sZI : Shape := ⟨5, ![8, 1, 224, 224, 1]⟩
abbrev sZO : Shape := ⟨5, ![8, 1, 1, 224, 224]⟩

/-- The same where each class has one row. -/
abbrev alongZ (wf : GatherDims.WF sZ sZI sZO [2] [1] [0, 3, 4] [1] [0, 2, 3] 4 ![1, 1, 1, 1, 1]) : GatherDims sZ sZI sZO where
  offsetDims := [2]
  collapsedSliceDims := [1]
  operandBatchingDims := [0, 3, 4]
  startIndicesBatchingDims := [0, 2, 3]
  startIndexMap := [1]
  indexVectorDim := 4
  sliceSizes := ![1, 1, 1, 1, 1]
  wf := wf

theorem gather_alongZ (wf : GatherDims.WF sZ sZI sZO [2] [1] [0, 3, 4] [1] [0, 2, 3] 4 ![1, 1, 1, 1, 1]) {α : Type}
    (x : sZ.Idx → α) (idx : IVec sZI 32) (b : Fin 8) (h w : Fin 224) :
    Host.gather (alongZ wf) x idx (ix5 b 0 0 h w) = x (ix5 b ⟨min (idx (ix5 b 0 h w 0)).toInt.toNat 7, by omega⟩ 0 h w) := by
  unfold Host.gather
  congr 1
  funext a
  refine Fin.ext ?_
  show (alongZ wf).start (ix5 b 0 0 h w) idx a + (alongZ wf).batchCoord (ix5 b 0 0 h w) a + (alongZ wf).offCoord (ix5 b 0 0 h w) a = _
  have hk : ∀ a : Fin 5, a ≠ 2 → a ∉ (alongZ wf).sKept := fun a ha h => by
    have h' := (GatherDims.mem_sKept _ _).mp h
    exact (show ∀ a : Fin 5, a ≠ 2 → a ∈ ([1] : List (Fin 5)) ∨ a ∈ ([0, 3, 4] : List (Fin 5)) by decide) a ha |>.elim h'.1 h'.2
  have hb : ∀ a : Fin 5, a ∈ ([0, 3, 4] : List (Fin 5)) → (alongZ wf).start (ix5 b 0 0 h w) idx a = 0 := fun a ha => GatherDims.start_batching _ _ _ _ ha
  have cs : a = 0 ∨ a = 1 ∨ a = 2 ∨ a = 3 ∨ a = 4 := (show ∀ a : Fin 5, a = 0 ∨ a = 1 ∨ a = 2 ∨ a = 3 ∨ a = 4 by decide) a
  rcases cs with rfl | rfl | rfl | rfl | rfl
  · rw [GatherDims.offCoord_eq_zero _ _ _ (hk _ (by decide)), Nat.add_zero, hb _ (by decide), Nat.zero_add]
    unfold GatherDims.batchCoord
    rw [dif_pos (show (0 : Fin 5) ∈ ([0, 3, 4] : List (Fin 5)) by decide)]
    rfl
  · rw [GatherDims.offCoord_eq_zero _ _ _ (hk _ (by decide)), Nat.add_zero,
      GatherDims.batchCoord_eq_zero _ _ _ (show (1 : Fin 5) ∉ ([0, 3, 4] : List (Fin 5)) by decide), Nat.add_zero]
    unfold GatherDims.start
    rw [dif_pos (show (1 : Fin 5) ∈ ([1] : List (Fin 5)) by decide)]
    have hsi : ∀ c, (alongZ wf).siIdx (ix5 b 0 0 h w) c = ix5 b 0 h w 0 := fun c => by
      funext e; refine Fin.ext ?_
      match e with
      | ⟨0, _⟩ => rfl
      | ⟨1, _⟩ => rfl
      | ⟨2, _⟩ => rfl
      | ⟨3, _⟩ => rfl
      | ⟨4, _⟩ => exact Nat.lt_one_iff.mp c.isLt
    rw [hsi]
    rfl
  · have l := (alongZ wf).lt (ix5 b 0 0 h w) idx 2
    exact Nat.lt_one_iff.mp l
  · rw [GatherDims.offCoord_eq_zero _ _ _ (hk _ (by decide)), Nat.add_zero, hb _ (by decide), Nat.zero_add]
    unfold GatherDims.batchCoord
    rw [dif_pos (show (3 : Fin 5) ∈ ([0, 3, 4] : List (Fin 5)) by decide)]
    rfl
  · rw [GatherDims.offCoord_eq_zero _ _ _ (hk _ (by decide)), Nat.add_zero, hb _ (by decide), Nat.zero_add]
    unfold GatherDims.batchCoord
    rw [dif_pos (show (4 : Fin 5) ∈ ([0, 3, 4] : List (Fin 5)) by decide)]
    rfl

end Cert.Proof
-- ==== Proof.Ideal.Lookup.lean ====
module

public import proofs.«01_k».proof.Proof.Ideal.Rows
public import proofs.«01_k».proof.Proof.Gather
public import proofs.«01_k».proof.Proof.Gen.ReferenceIdeal
public import proofs.«01_k».proof.Proof.Gen.ReferenceIdeal.Run
public import Idealize.ShloMosaic.Lib.Pointwise

@[expose] public section

/-! The reference's four gathered arrays are those that the subcores leave. -/

noncomputable section

namespace Cert.Proof.KernelIdeal

open Idealize.ShloMosaic Idealize.SL.Sem Cert.ReferenceIdeal Cert.ReferenceIdeal.Gen
open Cert.ReferenceIdeal.Value
open Idealize.ShloMosaic.Pointwise

theorem class_nonneg : ∀ x : Fin 8, Scalar.select (IntOp.cmpi .slt (BitVec.ofNat 32 x.val) 0#32) (IntOp.addi (BitVec.ofNat 32 x.val) 8#32) (BitVec.ofNat 32 x.val) = BitVec.ofNat 32 x.val := by
  decide
theorem class_range : ∀ x : Fin 8, IntOp.andi (IntOp.cmpi .sge (BitVec.ofNat 32 x.val) 0#32) (IntOp.cmpi .sle (BitVec.ofNat 32 x.val) 7#32) = 1#1 := by
  decide
theorem class_row : ∀ x : Fin 8, min (BitVec.ofNat 32 x.val).toInt.toNat 7 = x.val := by
  decide

/-- A negative class would count from the end; the clipped class is not negative. -/
theorem wrap_cmW (c : BitVec 32) : Scalar.select (IntOp.cmpi .slt (cmW c) 0#32) (IntOp.addi (cmW c) 8#32) (cmW c) = cmW c := by
  rw [cmW_eq]; exact class_nonneg _
theorem range_cmW (c : BitVec 32) : IntOp.andi (IntOp.cmpi .sge (cmW c) 0#32) (IntOp.cmpi .sle (cmW c) 7#32) = 1#1 := by
  rw [cmW_eq]; exact class_range _
theorem row_cmW (c : BitVec 32) : min (cmW c).toInt.toNat 7 = (cmN c).val := by
  rw [cmW_eq]; exact class_row _

theorem ix6_ex {ch : ℕ} (i : (sI ch).Idx) : ∃ (b : Fin 8) (k : Fin ch) (h w : Fin 224), i = ix6 b 0 k h w 0 := ⟨i 0, i 2, i 3, i 4, by
  funext a
  match a with
  | ⟨0, _⟩ => rfl
  | ⟨1, h⟩ => exact Fin.ext (Nat.lt_one_iff.mp (i ⟨1, h⟩).isLt)
  | ⟨2, _⟩ => rfl
  | ⟨3, _⟩ => rfl
  | ⟨4, _⟩ => rfl
  | ⟨5, h⟩ => exact Fin.ext (Nat.lt_one_iff.mp (i ⟨5, h⟩).isLt)⟩
theorem ix5_ex (i : sZI.Idx) : ∃ (b : Fin 8) (h w : Fin 224), i = ix5 b 0 h w 0 := ⟨i 0, i 2, i 3, by
  funext a
  match a with
  | ⟨0, _⟩ => rfl
  | ⟨1, h⟩ => exact Fin.ext (Nat.lt_one_iff.mp (i ⟨1, h⟩).isLt)
  | ⟨2, _⟩ => rfl
  | ⟨3, _⟩ => rfl
  | ⟨4, h⟩ => exact Fin.ext (Nat.lt_one_iff.mp (i ⟨4, h⟩).isLt)⟩

variable (V0 : Valuation τ sig (Elt Ideal))

/-- The reference's arguments. -/
abbrev insR : Ins Ideal := ins (V0 (Proc.devRef .tc main_arg0)) (V0 (Proc.devRef .tc main_arg1)) (V0 (Proc.devRef .tc main_arg2)) (V0 (Proc.devRef .tc main_arg3)) (V0 (Proc.devRef .tc main_arg4))

/-! ## The quaternion -/

theorem wordQ (b : Fin 8) (k : Fin 4) (h w : Fin 224) : res_main_call1_v5 V0 (ix6 b 0 k h w 0) = cmW (V0 (Proc.devRef .tc main_arg0) (ix3 b h w)) := by
  refine Eq.trans ?_ (wrap_cmW _)
  pointwise [res_main_call1_v5, res_main_v5]
  rfl

theorem maskQ : Host.reduce IntOp.andi (andi (cmpi .sge (res_main_call1_v5 V0) (broadcastInDim S8x1x4x224x224x1 ![] bcast_S_S8x1x4x224x224x1 (constantI S_ 32 0#32))) (cmpi .sle (res_main_call1_v5 V0) (broadcastInDim S8x1x4x224x224x1 ![0, 1, 2, 3, 4, 5] bcast_S1x1x1x1x1x1_S8x1x4x224x224x1_0_1_2_3_4_5 (broadcastInDim S1x1x1x1x1x1 ![5] bcast_S1_S1x1x1x1x1x1_5 (constantI S1 32 7#32))))) (constantI S_ 1 1#1) reducesTo_S8x1x4x224x224x1_S8x1x4x224x224_d5 h_S_ = fun _ => 1#1 := by
  funext j
  refine reduce_ones _ _ _ _ (fun x => ?_) (fun _ => rfl) j
  obtain ⟨b, k, h, w, rfl⟩ := ix6_ex (ch := 4) x
  refine Eq.trans ?_ (range_cmW (V0 (Proc.devRef .tc main_arg0) (ix3 b h w)))
  rw [← wordQ V0 b k h w]
  rfl

theorem flatQ (X : Vec Ideal S8x32x224x224 .f32) (b : Fin 8) (x : Fin 8) (k : Fin 4) (h w : Fin 224) :
    shapeCast S8x8x4x224x224 X shapeCasts_S8x32x224x224_S8x8x4x224x224 (ix5 b x k h w) = X (ix4 b ⟨x.val * 4 + k.val, by omega⟩ h w) := by
  pointwise

theorem lookQ (X : Vec Ideal S8x32x224x224 .f32) (b : Fin 8) (k : Fin 4) (h w : Fin 224) :
    Host.gather gather_S8x8x4x224x224_S8x1x4x224x224x1_S8x1x4x224x224_n_1_0234_0234_1_5_11111 (shapeCast S8x8x4x224x224 X shapeCasts_S8x32x224x224_S8x8x4x224x224) (res_main_call1_v5 V0) (ix5 b 0 k h w)
      = X (ix4 b (rowOf 4 (V0 (Proc.devRef .tc main_arg0) (ix3 b h w)) k) h w) := by
  refine (gather_along (ch := 4) gather_S8x8x4x224x224_S8x1x4x224x224x1_S8x1x4x224x224_n_1_0234_0234_1_5_11111_wf _ _ b k h w).trans ?_
  have e := row_cmW (V0 (Proc.devRef .tc main_arg0) (ix3 b h w))
  rw [← wordQ V0 b k h w] at e
  rw [show (⟨min (res_main_call1_v5 V0 (ix6 b 0 k h w 0)).toInt.toNat 7, by omega⟩ : Fin 8) = cmN (V0 (Proc.devRef .tc main_arg0) (ix3 b h w)) from Fin.ext e]
  exact flatQ X b _ k h w

theorem refQ : (val5 V0 (Proc.devRef .tc main_v13) : Vec Ideal S8x4x224x224 .f32) = valsQ (insR V0) := by
  rw [val5_main_v13, maskQ V0]
  funext j
  obtain ⟨b, k, h, w, rfl⟩ : ∃ (b : Fin 8) (k : Fin 4) (h w : Fin 224), j = ix4 b k h w := ⟨j 0, j 1, j 2, j 3, by
    funext a; match a with | ⟨0, _⟩ => rfl | ⟨1, _⟩ => rfl | ⟨2, _⟩ => rfl | ⟨3, _⟩ => rfl⟩
  rw [valsQ_ix]
  generalize hG : Host.gather gather_S8x8x4x224x224_S8x1x4x224x224x1_S8x1x4x224x224_n_1_0234_0234_1_5_11111 (shapeCast S8x8x4x224x224 (V0 (Proc.devRef .tc main_arg1)) shapeCasts_S8x32x224x224_S8x8x4x224x224) (res_main_call1_v5 V0) = G
  have e := lookQ V0 (V0 (Proc.devRef .tc main_arg1)) b k h w
  rw [hG] at e
  rw [← e]
  pointwise

/-! ## The scales -/

theorem wordS (b : Fin 8) (k : Fin 3) (h w : Fin 224) : res_main_call3_v5 V0 (ix6 b 0 k h w 0) = cmW (V0 (Proc.devRef .tc main_arg0) (ix3 b h w)) := by
  refine Eq.trans ?_ (wrap_cmW _)
  pointwise [res_main_call3_v5, res_main_v19]
  rfl

theorem maskS : Host.reduce IntOp.andi (andi (cmpi .sge (res_main_call3_v5 V0) (broadcastInDim S8x1x3x224x224x1 ![] bcast_S_S8x1x3x224x224x1 (constantI S_ 32 0#32))) (cmpi .sle (res_main_call3_v5 V0) (broadcastInDim S8x1x3x224x224x1 ![0, 1, 2, 3, 4, 5] bcast_S1x1x1x1x1x1_S8x1x3x224x224x1_0_1_2_3_4_5 (broadcastInDim S1x1x1x1x1x1 ![5] bcast_S1_S1x1x1x1x1x1_5 (constantI S1 32 7#32))))) (constantI S_ 1 1#1) reducesTo_S8x1x3x224x224x1_S8x1x3x224x224_d5 h_S_ = fun _ => 1#1 := by
  funext j
  refine reduce_ones _ _ _ _ (fun x => ?_) (fun _ => rfl) j
  obtain ⟨b, k, h, w, rfl⟩ := ix6_ex (ch := 3) x
  refine Eq.trans ?_ (range_cmW (V0 (Proc.devRef .tc main_arg0) (ix3 b h w)))
  rw [← wordS V0 b k h w]
  rfl

theorem flatS (X : Vec Ideal S8x24x224x224 .f32) (b : Fin 8) (x : Fin 8) (k : Fin 3) (h w : Fin 224) :
    shapeCast S8x8x3x224x224 X shapeCasts_S8x24x224x224_S8x8x3x224x224 (ix5 b x k h w) = X (ix4 b ⟨x.val * 3 + k.val, by omega⟩ h w) := by
  pointwise

theorem lookS (X : Vec Ideal S8x24x224x224 .f32) (b : Fin 8) (k : Fin 3) (h w : Fin 224) :
    Host.gather gather_S8x8x3x224x224_S8x1x3x224x224x1_S8x1x3x224x224_n_1_0234_0234_1_5_11111 (shapeCast S8x8x3x224x224 X shapeCasts_S8x24x224x224_S8x8x3x224x224) (res_main_call3_v5 V0) (ix5 b 0 k h w)
      = X (ix4 b (rowOf 3 (V0 (Proc.devRef .tc main_arg0) (ix3 b h w)) k) h w) := by
  refine (gather_along (ch := 3) gather_S8x8x3x224x224_S8x1x3x224x224x1_S8x1x3x224x224_n_1_0234_0234_1_5_11111_wf _ _ b k h w).trans ?_
  have e := row_cmW (V0 (Proc.devRef .tc main_arg0) (ix3 b h w))
  rw [← wordS V0 b k h w] at e
  rw [show (⟨min (res_main_call3_v5 V0 (ix6 b 0 k h w 0)).toInt.toNat 7, by omega⟩ : Fin 8) = cmN (V0 (Proc.devRef .tc main_arg0) (ix3 b h w)) from Fin.ext e]
  exact flatS X b _ k h w

theorem refS : (val5 V0 (Proc.devRef .tc main_v27) : Vec Ideal S8x3x224x224 .f32) = valsS (insR V0) := by
  rw [val5_main_v27, maskS V0]
  funext j
  obtain ⟨b, k, h, w, rfl⟩ : ∃ (b : Fin 8) (k : Fin 3) (h w : Fin 224), j = ix4 b k h w := ⟨j 0, j 1, j 2, j 3, by
    funext a; match a with | ⟨0, _⟩ => rfl | ⟨1, _⟩ => rfl | ⟨2, _⟩ => rfl | ⟨3, _⟩ => rfl⟩
  rw [valsS_ix]
  generalize hG : Host.gather gather_S8x8x3x224x224_S8x1x3x224x224x1_S8x1x3x224x224_n_1_0234_0234_1_5_11111 (shapeCast S8x8x3x224x224 (V0 (Proc.devRef .tc main_arg2)) shapeCasts_S8x24x224x224_S8x8x3x224x224) (res_main_call3_v5 V0) = G
  have e := lookS V0 (V0 (Proc.devRef .tc main_arg2)) b k h w
  rw [hG] at e
  rw [← e]
  pointwise

/-! ## The centre -/

theorem wordXY (b : Fin 8) (k : Fin 2) (h w : Fin 224) : res_main_call5_v5 V0 (ix6 b 0 k h w 0) = cmW (V0 (Proc.devRef .tc main_arg0) (ix3 b h w)) := by
  refine Eq.trans ?_ (wrap_cmW _)
  pointwise [res_main_call5_v5, res_main_v33]
  rfl

theorem maskXY : Host.reduce IntOp.andi (andi (cmpi .sge (res_main_call5_v5 V0) (broadcastInDim S8x1x2x224x224x1 ![] bcast_S_S8x1x2x224x224x1 (constantI S_ 32 0#32))) (cmpi .sle (res_main_call5_v5 V0) (broadcastInDim S8x1x2x224x224x1 ![0, 1, 2, 3, 4, 5] bcast_S1x1x1x1x1x1_S8x1x2x224x224x1_0_1_2_3_4_5 (broadcastInDim S1x1x1x1x1x1 ![5] bcast_S1_S1x1x1x1x1x1_5 (constantI S1 32 7#32))))) (constantI S_ 1 1#1) reducesTo_S8x1x2x224x224x1_S8x1x2x224x224_d5 h_S_ = fun _ => 1#1 := by
  funext j
  refine reduce_ones _ _ _ _ (fun x => ?_) (fun _ => rfl) j
  obtain ⟨b, k, h, w, rfl⟩ := ix6_ex (ch := 2) x
  refine Eq.trans ?_ (range_cmW (V0 (Proc.devRef .tc main_arg0) (ix3 b h w)))
  rw [← wordXY V0 b k h w]
  rfl

theorem flatXY (X : Vec Ideal S8x16x224x224 .f32) (b : Fin 8) (x : Fin 8) (k : Fin 2) (h w : Fin 224) :
    shapeCast S8x8x2x224x224 X shapeCasts_S8x16x224x224_S8x8x2x224x224 (ix5 b x k h w) = X (ix4 b ⟨x.val * 2 + k.val, by omega⟩ h w) := by
  pointwise

theorem lookXY (X : Vec Ideal S8x16x224x224 .f32) (b : Fin 8) (k : Fin 2) (h w : Fin 224) :
    Host.gather gather_S8x8x2x224x224_S8x1x2x224x224x1_S8x1x2x224x224_n_1_0234_0234_1_5_11111 (shapeCast S8x8x2x224x224 X shapeCasts_S8x16x224x224_S8x8x2x224x224) (res_main_call5_v5 V0) (ix5 b 0 k h w)
      = X (ix4 b (rowOf 2 (V0 (Proc.devRef .tc main_arg0) (ix3 b h w)) k) h w) := by
  refine (gather_along (ch := 2) gather_S8x8x2x224x224_S8x1x2x224x224x1_S8x1x2x224x224_n_1_0234_0234_1_5_11111_wf _ _ b k h w).trans ?_
  have e := row_cmW (V0 (Proc.devRef .tc main_arg0) (ix3 b h w))
  rw [← wordXY V0 b k h w] at e
  rw [show (⟨min (res_main_call5_v5 V0 (ix6 b 0 k h w 0)).toInt.toNat 7, by omega⟩ : Fin 8) = cmN (V0 (Proc.devRef .tc main_arg0) (ix3 b h w)) from Fin.ext e]
  exact flatXY X b _ k h w

theorem refXY : (val5 V0 (Proc.devRef .tc main_v41) : Vec Ideal S8x2x224x224 .f32) = valsXY (insR V0) := by
  rw [val5_main_v41, maskXY V0]
  funext j
  obtain ⟨b, k, h, w, rfl⟩ : ∃ (b : Fin 8) (k : Fin 2) (h w : Fin 224), j = ix4 b k h w := ⟨j 0, j 1, j 2, j 3, by
    funext a; match a with | ⟨0, _⟩ => rfl | ⟨1, _⟩ => rfl | ⟨2, _⟩ => rfl | ⟨3, _⟩ => rfl⟩
  rw [valsXY_ix]
  generalize hG : Host.gather gather_S8x8x2x224x224_S8x1x2x224x224x1_S8x1x2x224x224_n_1_0234_0234_1_5_11111 (shapeCast S8x8x2x224x224 (V0 (Proc.devRef .tc main_arg3)) shapeCasts_S8x16x224x224_S8x8x2x224x224) (res_main_call5_v5 V0) = G
  have e := lookXY V0 (V0 (Proc.devRef .tc main_arg3)) b k h w
  rw [hG] at e
  rw [← e]
  pointwise

/-! ## The depth -/

theorem wordZ (b : Fin 8) (h w : Fin 224) : res_main_call7_v5 V0 (ix5 b 0 h w 0) = cmW (V0 (Proc.devRef .tc main_arg0) (ix3 b h w)) := by
  refine Eq.trans ?_ (wrap_cmW _)
  pointwise [res_main_call7_v5, res_main_v46]
  rfl

theorem maskZ : Host.reduce IntOp.andi (andi (cmpi .sge (res_main_call7_v5 V0) (broadcastInDim S8x1x224x224x1 ![] bcast_S_S8x1x224x224x1 (constantI S_ 32 0#32))) (cmpi .sle (res_main_call7_v5 V0) (broadcastInDim S8x1x224x224x1 ![0, 1, 2, 3, 4] bcast_S1x1x1x1x1_S8x1x224x224x1_0_1_2_3_4 (broadcastInDim S1x1x1x1x1 ![4] bcast_S1_S1x1x1x1x1_4 (constantI S1 32 7#32))))) (constantI S_ 1 1#1) reducesTo_S8x1x224x224x1_S8x1x224x224_d4 h_S_ = fun _ => 1#1 := by
  funext j
  refine reduce_ones _ _ _ _ (fun x => ?_) (fun _ => rfl) j
  obtain ⟨b, h, w, rfl⟩ := ix5_ex x
  refine Eq.trans ?_ (range_cmW (V0 (Proc.devRef .tc main_arg0) (ix3 b h w)))
  rw [← wordZ V0 b h w]
  rfl

theorem flatZ (X : Vec Ideal S8x8x224x224 .f32) (b : Fin 8) (x : Fin 8) (h w : Fin 224) :
    shapeCast S8x8x1x224x224 X shapeCasts_S8x8x224x224_S8x8x1x224x224 (ix5 b x 0 h w) = X (ix4 b x h w) := by
  pointwise

theorem lookZ (X : Vec Ideal S8x8x224x224 .f32) (b : Fin 8) (h w : Fin 224) :
    Host.gather gather_S8x8x1x224x224_S8x1x224x224x1_S8x1x1x224x224_2_1_034_023_1_4_11111 (shapeCast S8x8x1x224x224 X shapeCasts_S8x8x224x224_S8x8x1x224x224) (res_main_call7_v5 V0) (ix5 b 0 0 h w)
      = X (ix4 b (cmN (V0 (Proc.devRef .tc main_arg0) (ix3 b h w))) h w) := by
  refine (gather_alongZ gather_S8x8x1x224x224_S8x1x224x224x1_S8x1x1x224x224_2_1_034_023_1_4_11111_wf _ _ b h w).trans ?_
  have e := row_cmW (V0 (Proc.devRef .tc main_arg0) (ix3 b h w))
  rw [← wordZ V0 b h w] at e
  rw [show (⟨min (res_main_call7_v5 V0 (ix5 b 0 h w 0)).toInt.toNat 7, by omega⟩ : Fin 8) = cmN (V0 (Proc.devRef .tc main_arg0) (ix3 b h w)) from Fin.ext e]
  exact flatZ X b _ h w

theorem refZ : (val5 V0 (Proc.devRef .tc main_v209) : Vec Ideal S8x224x224 .f32) = valsZ (insR V0) := by
  rw [val5_main_v209]
  unfold res_main_v53
  rw [maskZ V0]
  funext j
  obtain ⟨b, h, w, rfl⟩ : ∃ (b : Fin 8) (h w : Fin 224), j = ix3 b h w := ⟨j 0, j 1, j 2, by
    funext a; match a with | ⟨0, _⟩ => rfl | ⟨1, _⟩ => rfl | ⟨2, _⟩ => rfl⟩
  rw [valsZ_ix]
  generalize hG : Host.gather gather_S8x8x1x224x224_S8x1x224x224x1_S8x1x1x224x224_2_1_034_023_1_4_11111 (shapeCast S8x8x1x224x224 (V0 (Proc.devRef .tc main_arg4)) shapeCasts_S8x8x224x224_S8x8x1x224x224) (res_main_call7_v5 V0) = G
  have e := lookZ V0 (V0 (Proc.devRef .tc main_arg4)) b h w
  rw [hG] at e
  rw [← e]
  pointwise

end Cert.Proof.KernelIdeal
-- ==== Proof.Value.lean ====
module

public import proofs.«01_k».proof.Defs
public import proofs.«01_k».proof.Proof.Ideal.Launch
public import proofs.«01_k».proof.Proof.Ideal.Lookup
public import proofs.«01_k».proof.Proof.Gen.On_gathered
public import Idealize.ShloMosaic.Lib.Pipeline.FrameTail

@[expose] public section

/-! The value claim: the kernel's gathered arrays and the reference's are equal as extended reals. -/

noncomputable section

namespace Cert.Proof.KernelIdeal

open Cert.KernelIdeal Cert.ReferenceIdeal.Value
open Idealize.ShloMosaic Idealize.ShloMosaic.TcCoe Idealize.SL.Sem
open Idealize.ShloMosaic.StableHlo (launchContents)

/-- The reference's arguments are the kernel's, where the memories agree. -/
theorem insR_eq (m : (ℓ : Loc nD Cert.KernelIdeal.τ sig) → Buf (Elt Ideal) ℓ)
    (m' : (ℓ : Loc Cert.ReferenceIdeal.nD Cert.ReferenceIdeal.τ Cert.ReferenceIdeal.sig) → Buf (Elt Ideal) ℓ) (c : Dev nD)
    (h0 : launchContents m' c (Proc.devRef .tc Cert.ReferenceIdeal.main_arg0) = m (lc c main_arg0))
    (h1 : launchContents m' c (Proc.devRef .tc Cert.ReferenceIdeal.main_arg1) = m (lc c main_arg1))
    (h2 : launchContents m' c (Proc.devRef .tc Cert.ReferenceIdeal.main_arg2) = m (lc c main_arg2))
    (h3 : launchContents m' c (Proc.devRef .tc Cert.ReferenceIdeal.main_arg3) = m (lc c main_arg3))
    (h4 : launchContents m' c (Proc.devRef .tc Cert.ReferenceIdeal.main_arg4) = m (lc c main_arg4)) :
    insR (launchContents m' c) = insM m c := by
  unfold insM
  unfold insR
  rw [h0, h1, h2, h3, h4]

/-- What the kernel leaves in an array of the TensorCore's. -/
theorem mem_of_QC (m : (ℓ : Loc nD Cert.KernelIdeal.τ sig) → Buf (Elt Ideal) ℓ) {r : PUnit × MemSt nD Cert.KernelIdeal.τ sig (Elt Ideal)}
    (h : QC m r) (c : Dev nD) (b : Ref sig .tc) (hb : b.isScoped = false) :
    r.2.mem ((c.tc : Thread nD Cert.KernelIdeal.τ).loc b) = V₆ m c b :=
  h.1 c _ (Pipeline.devRef_mem_ucRefs hb)

/-- The reference's gathered arrays are those that the kernel leaves. -/
theorem gathered_eq (m : (ℓ : Loc nD Cert.KernelIdeal.τ sig) → Buf (Elt Ideal) ℓ)
    (m' : (ℓ : Loc Cert.ReferenceIdeal.nD Cert.ReferenceIdeal.τ Cert.ReferenceIdeal.sig) → Buf (Elt Ideal) ℓ) (c : Dev nD)
    (ei : insR (launchContents m' c) = insM m c) :
    ((val5 (launchContents m' c) (Proc.devRef .tc Cert.ReferenceIdeal.main_v13) : Vec Ideal S8x4x224x224 .f32) = V₆ m c main_v0_0)
      ∧ ((val5 (launchContents m' c) (Proc.devRef .tc Cert.ReferenceIdeal.main_v27) : Vec Ideal S8x3x224x224 .f32) = V₆ m c main_v0_1)
      ∧ ((val5 (launchContents m' c) (Proc.devRef .tc Cert.ReferenceIdeal.main_v41) : Vec Ideal S8x2x224x224 .f32) = V₆ m c main_v0_2)
      ∧ ((val5 (launchContents m' c) (Proc.devRef .tc Cert.ReferenceIdeal.main_v209) : Vec Ideal S8x224x224 .f32) = V₆ m c main_v0_3) :=
  ⟨(refQ _).trans ((congrArg valsQ ei).trans ((V₆_sc m c main_v0_0 (by decide)).trans (V₁_0 m c)).symm),
    (refS _).trans ((congrArg valsS ei).trans ((V₆_sc m c main_v0_1 (by decide)).trans (V₁_1 m c)).symm),
    (refXY _).trans ((congrArg valsXY ei).trans ((V₆_sc m c main_v0_2 (by decide)).trans (V₁_2 m c)).symm),
    (refZ _).trans ((congrArg valsZ ei).trans ((V₆_sc m c main_v0_3 (by decide)).trans (V₁_3 m c)).symm)⟩

/-- A bit that is zero is not one. -/
theorem off {p : Prop} (h : (0#1 : BitVec 1) = 1#1) : p := absurd h (by decide)

theorem algebraic : Cert.algebraic_KernelIdeal_ReferenceIdeal_on_gathered := by
  intro m g m' g' _ hag
  refine ⟨fun c => V₆ m c main_v4_0, fun c => V₆ m c main_v4_1, fun c => V₆ m c main_v4_2, fun c => V₆ m c main_v4_3,
    fun c => V₆ m c main_v5, fun c => V₆ m c main_v4_5,
    fun c => V₆ m c main_v0_0, fun c => V₆ m c main_v0_1, fun c => V₆ m c main_v0_2, fun c => V₆ m c main_v0_3, ?_, ?_⟩
  · refine (θ_run _ _ _).mono (fun r h c => ?_) (run_main m g)
    have e := mem_of_QC m h c
    exact ⟨fun i _ => congrFun (e main_v4_0 rfl) i,
      fun i _ => congrFun (e main_v4_1 rfl) i,
      fun i _ => congrFun (e main_v4_2 rfl) i,
      fun i _ => congrFun (e main_v4_3 rfl) i,
      fun i _ => congrFun (e main_v5 rfl) i,
      fun i _ => congrFun (e main_v4_5 rfl) i,
      fun i _ => congrFun (e main_v0_0 rfl) i,
      fun i _ => congrFun (e main_v0_1 rfl) i,
      fun i _ => congrFun (e main_v0_2 rfl) i,
      fun i _ => congrFun (e main_v0_3 rfl) i,
      (e main_arg0 rfl).trans (V₆_arg m c main_arg0 (by decide)),
      (e main_arg1 rfl).trans (V₆_arg m c main_arg1 (by decide)),
      (e main_arg2 rfl).trans (V₆_arg m c main_arg2 (by decide)),
      (e main_arg3 rfl).trans (V₆_arg m c main_arg3 (by decide)),
      (e main_arg4 rfl).trans (V₆_arg m c main_arg4 (by decide))⟩
  · refine (θ_run _ _ _).mono (fun r h c => ?_) (Cert.ReferenceIdeal.Value.run (F := Ideal) m' g')
    obtain ⟨h0, h1, h2, h3, h4⟩ := hag c
    have ei := insR_eq m m' c h0 h1 h2 h3 h4
    obtain ⟨q, s, xy, z⟩ := gathered_eq m m' c ei
    obtain ⟨_, _, _, _, _, _, k6, k7, k8, k9, ka⟩ := h c
    exact ⟨fun _ hi => off hi, fun _ hi => off hi, fun _ hi => off hi, fun _ hi => off hi, fun _ hi => off hi, fun _ hi => off hi,
      fun i _ => congrFun ((k6.trans (val5_main_v13 (launchContents m' c)).symm).trans q) i,
      fun i _ => congrFun ((k7.trans (val5_main_v27 (launchContents m' c)).symm).trans s) i,
      fun i _ => congrFun ((k8.trans (val5_main_v41 (launchContents m' c)).symm).trans xy) i,
      fun i _ => congrFun ((k9.trans (val5_main_v209 (launchContents m' c)).symm).trans z) i, ka⟩

end Cert.Proof.KernelIdeal
-- ==== Proof.Ideal.Fin.lean ====
module

public import proofs.«01_k».proof.Proof.Ideal.Call
public import Idealize.ShloMosaic.Lib.Pointwise

/-!
What the TensorCore's body leaves in the six staging buffers it writes, and so what its call leaves in its arrays.
-/

@[expose] public section

noncomputable section

namespace Cert.Proof.KernelIdeal

open Cert.KernelIdeal Cert.KernelIdeal.Gen
open Idealize.ShloMosaic Idealize.ShloMosaic.TcCoe Idealize.ShloMosaic.Pointwise
open Idealize.SL.Sem

variable {F : FTy → Type} [FloatOps F]

/-- A plane of 512 columns, read. -/
abbrev plane (c : Dev nD) (X : Buf (Elt F) ((c : Thread nD τ).loc cc1_stg0_0)) (o : ℕ) (h : ∀ a, (![0, o] : Fin 2 → ℕ) a + S64x512.size a ≤ S64x5632.size a) : Vec F S64x512 .f32 :=
  View.readAt (Elt F) (Memref.whole cc1_stg0_0).view (Rect.unit (s := S64x5632) ![0, o] S64x512.size h).toLoadRect X

/-- The sums of a plane's rows, -/
def sumC (P : Vec F S64x512 .f32) : FVec F S64x1 .f32 := k1_pay5 P

/-- and the means. -/
def meanC (P N : Vec F S64x512 .f32) : FVec F S64x1 .f32 := divf (sumC P) (maximumf (sumC N) (broadcast S64x1 (Scalar.ofBits .f32 0x3F800000#32)))

/-- A quaternion's length, kept away from zero, -/
def lenC (q0 q1 q2 q3 : FVec F S64x1 .f32) : FVec F S64x1 .f32 :=
  maximumf (sqrt (addf (addf (addf (mulf q0 q0) (mulf q1 q1)) (mulf q2 q2)) (mulf q3 q3))) (broadcast S64x1 (Scalar.ofBits .f32 0x322BCC77#32))

/-- an entry of a rotation's diagonal, -/
def diagC (x y : FVec F S64x1 .f32) : FVec F S64x1 .f32 :=
  subf (broadcast S64x1 (Scalar.ofBits .f32 0x3F800000#32)) (mulf (broadcast S64x1 (Scalar.ofBits .f32 0x40000000#32)) (addf (mulf x x) (mulf y y)))

/-- the others, -/
def plusC (x y z w : FVec F S64x1 .f32) : FVec F S64x1 .f32 := mulf (broadcast S64x1 (Scalar.ofBits .f32 0x40000000#32)) (addf (mulf x y) (mulf z w))
def minusC (x y z w : FVec F S64x1 .f32) : FVec F S64x1 .f32 := mulf (broadcast S64x1 (Scalar.ofBits .f32 0x40000000#32)) (subf (mulf x y) (mulf z w))

/-- and of the translation. -/
def moveC (a b k : BitVec 32) (x y z : FVec F S64x1 .f32) : FVec F S64x1 .f32 :=
  mulf (exp z) (addf (addf (mulf (broadcast S64x1 (Scalar.ofBits .f32 a)) x) (mulf (broadcast S64x1 (Scalar.ofBits .f32 b)) y)) (broadcast S64x1 (Scalar.ofBits .f32 k)))

/-- The poses, from the means. -/
def poseOf (w x y z t0 t1 t2 : FVec F S64x1 .f32) : FVec F S64x16 .f32 :=
  concatenate S64x16 1 [⟨S64x1, diagC y z⟩, ⟨S64x1, minusC x y z w⟩, ⟨S64x1, plusC x z y w⟩, ⟨S64x1, t0⟩,
    ⟨S64x1, plusC x y z w⟩, ⟨S64x1, diagC x z⟩, ⟨S64x1, minusC y z x w⟩, ⟨S64x1, t1⟩,
    ⟨S64x1, minusC x z y w⟩, ⟨S64x1, plusC y z x w⟩, ⟨S64x1, diagC x y⟩, ⟨S64x1, t2⟩,
    ⟨S64x1, broadcast S64x1 (Scalar.ofBits .f32 0x00000000#32)⟩, ⟨S64x1, broadcast S64x1 (Scalar.ofBits .f32 0x00000000#32)⟩,
    ⟨S64x1, broadcast S64x1 (Scalar.ofBits .f32 0x00000000#32)⟩, ⟨S64x1, broadcast S64x1 (Scalar.ofBits .f32 0x3F800000#32)⟩]
    concatenates_S64x1_S64x1_S64x1_S64x1_S64x1_S64x1_S64x1_S64x1_S64x1_S64x1_S64x1_S64x1_S64x1_S64x1_S64x1_S64x1_S64x16_d1

def poseC (q0 q1 q2 q3 ax ay az : FVec F S64x1 .f32) : FVec F S64x16 .f32 :=
  poseOf (divf q0 (lenC q0 q1 q2 q3)) (divf q1 (lenC q0 q1 q2 q3)) (divf q2 (lenC q0 q1 q2 q3)) (divf q3 (lenC q0 q1 q2 q3))
    (moveC 0x3AE4FB70#32 0x00000000#32 0xBF11777F#32 ax ay az) (moveC 0x00000000#32 0x3AE484FB#32 0xBED810E7#32 ax ay az) (moveC 0x00000000#32 0x00000000#32 0x3F800000#32 ax ay az)

section
variable [∀ e, Nonempty (Elt F e)]

theorem offs_zero : (![0, 0] : Fin 2 → Nat) = fun _ => 0 := funext fun a => by fin_cases a <;> rfl

/-- A store through a whole buffer leaves what it stores. -/
theorem whole_left (b : Ref sig .tc) {off : Fin b.ty.shape.rank → ℕ} (h : off = fun _ => 0) (inb : ∀ a, off a + b.ty.shape.size a ≤ b.ty.shape.size a) (w : b.ty.shape.Idx → Elt F b.ty.elt) :
    (View.whole b).writes (Elt F) (View.whole b).junk [⟨Rect.unit off b.ty.shape.size inb, w⟩] = w := by
  have e := View.read_writes_junk_eq_canon (Val := Elt F) (View.whole b) [⟨Rect.unit off b.ty.shape.size inb, w⟩]
  rw [View.read_whole] at e
  exact e.trans (View.canon_unit_zero (Val := Elt F) h inb _)

variable (W : Conts F) (c : Dev nD) (X : Buf (Elt F) ((c : Thread nD τ).loc cc1_stg0_0))

/-- The means of a plane of sums. -/
abbrev meanP (o : ℕ) (h : ∀ a, (![0, o] : Fin 2 → ℕ) a + S64x512.size a ≤ S64x5632.size a) : FVec F S64x1 .f32 := meanC (plane c X o h) (plane c X 5120 inb_S64x5632_S64x512_0_5120)

theorem leftQ : (finRun c X).1.1 = concatenate S64x4 1 [⟨S64x1, (meanP c X 0 inb_S64x5632_S64x512_0_0)⟩, ⟨S64x1, (meanP c X 512 inb_S64x5632_S64x512_0_512)⟩, ⟨S64x1, (meanP c X 1024 inb_S64x5632_S64x512_0_1024)⟩, ⟨S64x1, (meanP c X 1536 inb_S64x5632_S64x512_0_1536)⟩] concatenates_S64x1_S64x1_S64x1_S64x1_S64x4_d1 := by
  unfold finRun
  dsimp only
  sl_unfold_words
  exact whole_left cc1_stg1_0 offs_zero inb_S64x4_S64x4_0_0 _

theorem leftS : (finRun c X).1.2.1 = concatenate S64x3 1 [⟨S64x1, (meanP c X 2048 inb_S64x5632_S64x512_0_2048)⟩, ⟨S64x1, (meanP c X 2560 inb_S64x5632_S64x512_0_2560)⟩, ⟨S64x1, (meanP c X 3072 inb_S64x5632_S64x512_0_3072)⟩] concatenates_S64x1_S64x1_S64x1_S64x3_d1 := by
  unfold finRun
  dsimp only
  sl_unfold_words
  exact whole_left cc1_stg2_0 offs_zero inb_S64x3_S64x3_0_0 _

theorem leftXY : (finRun c X).1.2.2.1 = concatenate S64x2 1 [⟨S64x1, (meanP c X 3584 inb_S64x5632_S64x512_0_3584)⟩, ⟨S64x1, (meanP c X 4096 inb_S64x5632_S64x512_0_4096)⟩] concatenates_S64x1_S64x1_S64x2_d1 := by
  unfold finRun
  dsimp only
  sl_unfold_words
  exact whole_left cc1_stg3_0 offs_zero inb_S64x2_S64x2_0_0 _

theorem leftZ : (finRun c X).1.2.2.2.1 = (meanP c X 4608 inb_S64x5632_S64x512_0_4608) := by
  unfold finRun
  dsimp only
  sl_unfold_words
  exact whole_left cc1_stg4_0 offs_zero inb_S64x1_S64x1_0_0 _

theorem leftRT : (finRun c X).1.2.2.2.2.1 = poseC (meanP c X 0 inb_S64x5632_S64x512_0_0) (meanP c X 512 inb_S64x5632_S64x512_0_512) (meanP c X 1024 inb_S64x5632_S64x512_0_1024) (meanP c X 1536 inb_S64x5632_S64x512_0_1536) (meanP c X 3584 inb_S64x5632_S64x512_0_3584) (meanP c X 4096 inb_S64x5632_S64x512_0_4096) (meanP c X 4608 inb_S64x5632_S64x512_0_4608) := by
  unfold finRun
  dsimp only
  sl_unfold_words
  exact whole_left cc1_stg5_0 offs_zero inb_S64x16_S64x16_0_0 _

theorem leftN : (finRun c X).1.2.2.2.2.2 = sumC (plane c X 5120 inb_S64x5632_S64x512_0_5120) := by
  unfold finRun
  dsimp only
  sl_unfold_words
  exact whole_left cc1_stg6_0 offs_zero inb_S64x1_S64x1_0_0 _

/-! ## The call's arrays -/

/-- A block of an array's whole size starts at zero. -/
theorem axis (x s i : ℕ) (h : x * s = 0) : x * s + 1 * i = i := by omega

theorem emb0 (i : S64x5632.Idx) : (win1_0.rect t1_0).emb i = i :=
  funext fun a => Fin.ext (axis _ _ _ ((by decide +kernel : ∀ a, win1_0.index t1_0 a * win1_0.size a = 0) a))

theorem read0 (G : S64x5632.Idx → Elt F .f32) : ((cfg1.win 0).blk t1_0).view.read (Elt F) G = G := funext fun i => congrArg G (emb0 i)

theorem emb1 (i : S64x4.Idx) : (win1_1.rect t1_0).emb i = i :=
  funext fun a => Fin.ext (axis _ _ _ ((by decide +kernel : ∀ a, win1_1.index t1_0 a * win1_1.size a = 0) a))

theorem read1 (G : S64x4.Idx → Elt F .f32) : ((cfg1.win 1).blk t1_0).view.read (Elt F) G = G := funext fun i => congrArg G (emb1 i)

theorem emb2 (i : S64x3.Idx) : (win1_2.rect t1_0).emb i = i :=
  funext fun a => Fin.ext (axis _ _ _ ((by decide +kernel : ∀ a, win1_2.index t1_0 a * win1_2.size a = 0) a))

theorem read2 (G : S64x3.Idx → Elt F .f32) : ((cfg1.win 2).blk t1_0).view.read (Elt F) G = G := funext fun i => congrArg G (emb2 i)

theorem emb3 (i : S64x2.Idx) : (win1_3.rect t1_0).emb i = i :=
  funext fun a => Fin.ext (axis _ _ _ ((by decide +kernel : ∀ a, win1_3.index t1_0 a * win1_3.size a = 0) a))

theorem read3 (G : S64x2.Idx → Elt F .f32) : ((cfg1.win 3).blk t1_0).view.read (Elt F) G = G := funext fun i => congrArg G (emb3 i)

theorem emb4 (i : S64x1.Idx) : (win1_4.rect t1_0).emb i = i :=
  funext fun a => Fin.ext (axis _ _ _ ((by decide +kernel : ∀ a, win1_4.index t1_0 a * win1_4.size a = 0) a))

theorem read4 (G : S64x1.Idx → Elt F .f32) : ((cfg1.win 4).blk t1_0).view.read (Elt F) G = G := funext fun i => congrArg G (emb4 i)

theorem emb5 (i : S64x16.Idx) : (win1_5.rect t1_0).emb i = i :=
  funext fun a => Fin.ext (axis _ _ _ ((by decide +kernel : ∀ a, win1_5.index t1_0 a * win1_5.size a = 0) a))

theorem read5 (G : S64x16.Idx → Elt F .f32) : ((cfg1.win 5).blk t1_0).view.read (Elt F) G = G := funext fun i => congrArg G (emb5 i)

theorem emb6 (i : S64x1.Idx) : (win1_6.rect t1_0).emb i = i :=
  funext fun a => Fin.ext (axis _ _ _ ((by decide +kernel : ∀ a, win1_6.index t1_0 a * win1_6.size a = 0) a))

theorem read6 (G : S64x1.Idx → Elt F .f32) : ((cfg1.win 6).blk t1_0).view.read (Elt F) G = G := funext fun i => congrArg G (emb6 i)

theorem finalQ : finalA W c 1 = (outP W c).1 :=
  (dat1 W c).arrAt_eq_of_cover 1 (outP W c).1
    (fun t _ => by
      obtain rfl := fin_N1 t
      unfold Pipeline.Dat.flushed
      exact (read1 _).symm)
    (fun i => ⟨t1_0, flush1_1 _, by
      have h := ((View.whole main_v4_0).slice (win1_1.rect t1_0)).emb_mem_set i
      rwa [show ((View.whole main_v4_0).slice (win1_1.rect t1_0)).emb i = i from emb1 i] at h⟩)

theorem finalS : finalA W c 2 = (outP W c).2.1 :=
  (dat1 W c).arrAt_eq_of_cover 2 (outP W c).2.1
    (fun t _ => by
      obtain rfl := fin_N1 t
      unfold Pipeline.Dat.flushed
      exact (read2 _).symm)
    (fun i => ⟨t1_0, flush1_2 _, by
      have h := ((View.whole main_v4_1).slice (win1_2.rect t1_0)).emb_mem_set i
      rwa [show ((View.whole main_v4_1).slice (win1_2.rect t1_0)).emb i = i from emb2 i] at h⟩)

theorem finalXY : finalA W c 3 = (outP W c).2.2.1 :=
  (dat1 W c).arrAt_eq_of_cover 3 (outP W c).2.2.1
    (fun t _ => by
      obtain rfl := fin_N1 t
      unfold Pipeline.Dat.flushed
      exact (read3 _).symm)
    (fun i => ⟨t1_0, flush1_3 _, by
      have h := ((View.whole main_v4_2).slice (win1_3.rect t1_0)).emb_mem_set i
      rwa [show ((View.whole main_v4_2).slice (win1_3.rect t1_0)).emb i = i from emb3 i] at h⟩)

theorem finalZ : finalA W c 4 = (outP W c).2.2.2.1 :=
  (dat1 W c).arrAt_eq_of_cover 4 (outP W c).2.2.2.1
    (fun t _ => by
      obtain rfl := fin_N1 t
      unfold Pipeline.Dat.flushed
      exact (read4 _).symm)
    (fun i => ⟨t1_0, flush1_4 _, by
      have h := ((View.whole main_v4_3).slice (win1_4.rect t1_0)).emb_mem_set i
      rwa [show ((View.whole main_v4_3).slice (win1_4.rect t1_0)).emb i = i from emb4 i] at h⟩)

theorem finalRT : finalA W c 5 = (outP W c).2.2.2.2.1 :=
  (dat1 W c).arrAt_eq_of_cover 5 (outP W c).2.2.2.2.1
    (fun t _ => by
      obtain rfl := fin_N1 t
      unfold Pipeline.Dat.flushed
      exact (read5 _).symm)
    (fun i => ⟨t1_0, flush1_5 _, by
      have h := ((View.whole main_v4_4).slice (win1_5.rect t1_0)).emb_mem_set i
      rwa [show ((View.whole main_v4_4).slice (win1_5.rect t1_0)).emb i = i from emb5 i] at h⟩)

theorem finalN : finalA W c 6 = (outP W c).2.2.2.2.2 :=
  (dat1 W c).arrAt_eq_of_cover 6 (outP W c).2.2.2.2.2
    (fun t _ => by
      obtain rfl := fin_N1 t
      unfold Pipeline.Dat.flushed
      exact (read6 _).symm)
    (fun i => ⟨t1_0, flush1_6 _, by
      have h := ((View.whole main_v4_5).slice (win1_6.rect t1_0)).emb_mem_set i
      rwa [show ((View.whole main_v4_5).slice (win1_6.rect t1_0)).emb i = i from emb6 i] at h⟩)

theorem inP_eq : inP W c = W c main_v3 := read0 _

end

end Cert.Proof.KernelIdeal
-- ==== Proof.Ideal.Sums.lean ====
module

public import proofs.«01_k».proof.Proof.Ideal.Coords
public import Idealize.ShloMosaic.PureOps.Ideal.Laws

/-!
The accumulator of a subcore in real arithmetic: at the place of a plane, a class, an image and a lane it holds the sum of what
the pixels of that class, image and lane get.
-/

@[expose] public section

noncomputable section

namespace Cert.Proof.KernelIdeal

open Cert.KernelIdeal Cert.KernelIdeal.Gen
open Idealize.ShloMosaic

/-- Adding values one after another at places given by a function. -/
theorem foldl_add {α β : Type} [DecidableEq β] (i : α → β) (v : α → EReal) (l : List α) (g : β → EReal) (j : β) :
    l.foldl (fun g k => fun j => if j = i k then g (i k) + v k else g j) g j = g j + (l.map fun k => if i k = j then v k else 0).sum := by
  induction l generalizing g with
  | nil => simp
  | cons a l ih =>
    rw [List.foldl_cons, ih, List.map_cons, List.sum_cons, ← add_assoc]
    congr 1
    by_cases h : j = i a
    · subst h; simp
    · rw [if_neg h, if_neg (fun e => h e.symm), add_zero]

theorem idx_ext1 {n : Fin 1 → ℕ} {x y : (⟨1, n⟩ : Shape).Idx} : x = y ↔ (x 0).val = (y 0).val :=
  ⟨fun h => by rw [h], fun h => funext fun a => by fin_cases a; exact Fin.ext h⟩

/-- A lane's index. -/
def ln (l : Fin 16) : S16.Idx := Shape.ofLane (d := S16.size) l

theorem ln_val (l : Fin 16) : (ln l 0).val = l.val := rfl

/-- An add into the accumulator, read at one place. -/
theorem addV_apply (X : Vec Ideal S11264 .f32) {q : IVec S16 32} (v : Vec Ideal S16 .f32) (h : AccOK q) (j : S11264.Idx) :
    (addV X q v j : EReal) = (X j : EReal) + ∑ l : Fin 16, if (q (ln l)).toNat = (j 0).val then (v (ln l) : EReal) else 0 := by
  unfold addV
  rw [dif_pos h]
  classical
  have e := foldl_add (β := S11264.Idx) (fun k : Fin 16 => idxAt (s := S11264) ![q] h (ln k)) (fun k => (v (ln k) : EReal)) (List.finRange 16) X j
  have s : ((List.finRange 16).map fun k : Fin 16 => if idxAt (s := S11264) ![q] h (ln k) = j then (v (ln k) : EReal) else 0).sum
      = ∑ l : Fin 16, if (q (ln l)).toNat = (j 0).val then (v (ln l) : EReal) else 0 := by
    rw [← List.ofFn_eq_map, List.sum_ofFn]
    refine Finset.sum_congr rfl fun l _ => ?_
    exact if_congr idx_ext1 rfl rfl
  rw [s] at e
  rw [← e]
  unfold storeIdx
  refine congrFun (congrArg (fun f => (List.finRange 16).foldl f X) ?_) j
  funext g k j'
  show (if (1#1 : BitVec 1) = 1 then _ else g) j' = _
  rw [if_pos (by decide)]
  have hi : (∀ a, (j' a).val = (idxAt (s := S11264) ![q] h (Shape.ofLane (d := S16.size) k) a).val) ↔ j' = idxAt (s := S11264) ![q] h (ln k) :=
    ⟨fun hh => funext fun a => Fin.ext (hh a), fun hh a => by rw [hh]; rfl⟩
  by_cases hj : j' = idxAt (s := S11264) ![q] h (ln k)
  · exact (if_pos (hi.2 hj)).trans (if_pos hj).symm
  · exact (if_neg fun hh => hj (hi.1 hh)).trans (if_neg hj).symm

theorem steps_add {α : Type} (f : ℕ → (α → EReal) → α → EReal) (j : α) (D : ℕ → EReal) (n : ℕ) (G : α → EReal)
    (h : ∀ t, t < n → ∀ G, f t G j = G j + D t) : steps f n G j = G j + ∑ t ∈ Finset.range n, D t := by
  induction n with
  | zero => simp [steps]
  | succ n ih =>
    show f n (steps f n G) j = _
    rw [h n (Nat.lt_succ_self n), ih fun t ht => h t (Nat.lt_succ_of_lt ht), Finset.sum_range_succ, add_assoc]

/-- What one add brings to one place: the value of the place's own lane, where plane, image and class are the place's. -/
theorem contrib {C : ℕ → ℕ → BitVec 32} {b : BitVec 32} (hb : b.toNat < 8) (t p : ℕ) (hp : p < 11) (v : Vec Ideal S16 .f32)
    {j : ℕ} {v' c b' : ℕ} (l : Fin 16) (hc : c < 8) (hb' : b' < 8) (hj : j = v' * 1024 + (c * 8 + b') * 16 + l.val) :
    (∑ x : Fin 16, if (place C b t (BitVec.ofNat 32 (p * 1024)) (ln x)).toNat = j then (v (ln x) : EReal) else 0)
      = if p = v' ∧ b.toNat = b' ∧ (cmW (C (t / 14) (t % 14 * 16 + l.val))).toNat = c then (v (ln l) : EReal) else 0 := by
  have hx : ∀ x : Fin 16, (place C b t (BitVec.ofNat 32 (p * 1024)) (ln x)).toNat = p * 1024 + ((cmW (C (t / 14) (t % 14 * 16 + x.val))).toNat * 8 + b.toNat) * 16 + x.val := by
    intro x
    have h7 := cmW_le (C (t / 14) (t % 14 * 16 + x.val))
    have hs : (segV (clsV C t) b (ln x)).toNat = ((cmW (C (t / 14) (t % 14 * 16 + x.val))).toNat * 8 + b.toNat) * 16 + x.val := seg_le hb t (ln x)
    have hpn : (BitVec.ofNat 32 (p * 1024)).toNat = p * 1024 := by rw [BitVec.toNat_ofNat]; omega
    have hxl := x.isLt
    show (IntOp.addi (BitVec.ofNat 32 (p * 1024)) (segV (clsV C t) b (ln x))).toNat = _
    rw [add_small (n := 10240) (by omega) (by omega), hs, hpn, Nat.add_assoc]
  have hl := l.isLt
  rw [Finset.sum_eq_single l]
  · refine if_congr ?_ rfl rfl
    have h7 := cmW_le (C (t / 14) (t % 14 * 16 + l.val))
    rw [hx, hj]; omega
  · intro x _ hne
    have h7 := cmW_le (C (t / 14) (t % 14 * 16 + x.val))
    have hxl := x.isLt
    have : x.val ≠ l.val := fun e => hne (Fin.ext e)
    rw [if_neg]
    rw [hx, hj]; omega
  · intro h; exact absurd (Finset.mem_univ l) h

/-- What a pixel gets, plane by plane: four quaternion channels, three scales, two centre coordinates, the depth, and one for a
pixel of any class. -/
def pix (I : Ins Ideal) (b h w : ℕ) : ℕ → EReal
  | 0 => valQ (I.C b h w) (fun p => I.Q b p h w) (fun p => I.Q b (16 + p) h w) 0#32
  | 1 => valQ (I.C b h w) (fun p => I.Q b p h w) (fun p => I.Q b (16 + p) h w) 1#32
  | 2 => valQ (I.C b h w) (fun p => I.Q b p h w) (fun p => I.Q b (16 + p) h w) 2#32
  | 3 => valQ (I.C b h w) (fun p => I.Q b p h w) (fun p => I.Q b (16 + p) h w) 3#32
  | 4 => val1 (I.C b h w) (fun p => I.S b p h w) (rowS 0#32 (I.C b h w))
  | 5 => val1 (I.C b h w) (fun p => I.S b p h w) (rowS 1#32 (I.C b h w))
  | 6 => val1 (I.C b h w) (fun p => I.S b p h w) (rowS 2#32 (I.C b h w))
  | 7 => val1 (I.C b h w) (fun p => I.XY b p h w) (rowXY 0#32 (I.C b h w))
  | 8 => val1 (I.C b h w) (fun p => I.XY b p h w) (rowXY 1#32 (I.C b h w))
  | 9 => val1 (I.C b h w) (fun p => I.Z b (p - 16) h w) (rowZ 2#32 (I.C b h w))
  | _ => Scalar.select (IntOp.cmpi .sgt (I.C b h w) 0#32) (Scalar.ofBits (F := Ideal) .f32 0x3F800000#32) (Scalar.ofBits (F := Ideal) .f32 0x00000000#32)

/-- What pixel `(b, h, w)` brings to the sum of plane `v` for class `c`. -/
def brings (I : Ins Ideal) (v c b h w : ℕ) : EReal := if (cmW (I.C b h w)).toNat = c then pix I b h w v else 0

section
variable (I : Ins Ideal) (i : grid0.Coords) (n : ℕ) {v c b : ℕ} (l : Fin 16) (hv : v < 11) (hc : c < 8) (hb : b < 8) {j : S11264.Idx}
  (hj : (j 0).val = v * 1024 + (c * 8 + b) * 16 + l.val)

theorem imgN_lt : imgN i < 8 := by
  have h0 : (i 0).val < 2 := (i 0).isLt
  have h1 : (i 1).val < 16 := (i 1).isLt
  unfold imgN wid; omega

theorem imgN_toNat : (BitVec.ofNat 32 (imgN i)).toNat = imgN i := by
  have := imgN_lt i
  rw [BitVec.toNat_ofNat]; omega

include hv hc hb hj

/-- One add, at one place. -/
theorem addV_place {C : ℕ → ℕ → BitVec 32} (t p : ℕ) (hp : p < 11) (X : Vec Ideal S11264 .f32) (f : Vec Ideal S16 .f32) :
    (addV X (place C (BitVec.ofNat 32 (imgN i)) t (BitVec.ofNat 32 (p * 1024))) f j : EReal)
      = (X j : EReal) + if p = v ∧ imgN i = b ∧ (cmW (C (t / 14) (t % 14 * 16 + l.val))).toNat = c then (f (ln l) : EReal) else 0 := by
  have hi := imgN_lt i
  have hw := imgN_toNat i
  rw [addV_apply _ _ (accOK (by omega) t (by rw [BitVec.toNat_ofNat]; omega)), contrib (by omega) t p hp f l hc hb hj, hw]

/-- A block's pixels, at one place. -/
theorem accBlk_apply (G : Vec Ideal S11264 .f32) :
    (accBlk I i n G j : EReal) = (G j : EReal) + ∑ t ∈ Finset.range 112,
      if imgN i = b then brings I v c b (rowN i n + t / 14) (t % 14 * 16 + l.val) else 0 := by
  unfold accBlk
  rw [steps_add _ j (fun t => if 9 = v ∧ imgN i = b ∧ (cmW (I.C (imgN i) (rowN i n + t / 14) (t % 14 * 16 + l.val))).toNat = c then
      (pix I (imgN i) (rowN i n + t / 14) (t % 14 * 16 + l.val) 9) else 0) 112 _ ?_,
    steps_add _ j (fun t => (if 7 = v ∧ imgN i = b ∧ (cmW (I.C (imgN i) (rowN i n + t / 14) (t % 14 * 16 + l.val))).toNat = c then
      (pix I (imgN i) (rowN i n + t / 14) (t % 14 * 16 + l.val) 7) else 0)
      + (if 8 = v ∧ imgN i = b ∧ (cmW (I.C (imgN i) (rowN i n + t / 14) (t % 14 * 16 + l.val))).toNat = c then
      (pix I (imgN i) (rowN i n + t / 14) (t % 14 * 16 + l.val) 8) else 0)) 112 _ ?_,
    steps_add _ j (fun t => (if 4 = v ∧ imgN i = b ∧ (cmW (I.C (imgN i) (rowN i n + t / 14) (t % 14 * 16 + l.val))).toNat = c then
      (pix I (imgN i) (rowN i n + t / 14) (t % 14 * 16 + l.val) 4) else 0)
      + (if 5 = v ∧ imgN i = b ∧ (cmW (I.C (imgN i) (rowN i n + t / 14) (t % 14 * 16 + l.val))).toNat = c then
      (pix I (imgN i) (rowN i n + t / 14) (t % 14 * 16 + l.val) 5) else 0)
      + (if 6 = v ∧ imgN i = b ∧ (cmW (I.C (imgN i) (rowN i n + t / 14) (t % 14 * 16 + l.val))).toNat = c then
      (pix I (imgN i) (rowN i n + t / 14) (t % 14 * 16 + l.val) 6) else 0)) 112 _ ?_,
    steps_add _ j (fun t => (if 0 = v ∧ imgN i = b ∧ (cmW (I.C (imgN i) (rowN i n + t / 14) (t % 14 * 16 + l.val))).toNat = c then
      (pix I (imgN i) (rowN i n + t / 14) (t % 14 * 16 + l.val) 0) else 0)
      + (if 1 = v ∧ imgN i = b ∧ (cmW (I.C (imgN i) (rowN i n + t / 14) (t % 14 * 16 + l.val))).toNat = c then
      (pix I (imgN i) (rowN i n + t / 14) (t % 14 * 16 + l.val) 1) else 0)
      + (if 2 = v ∧ imgN i = b ∧ (cmW (I.C (imgN i) (rowN i n + t / 14) (t % 14 * 16 + l.val))).toNat = c then
      (pix I (imgN i) (rowN i n + t / 14) (t % 14 * 16 + l.val) 2) else 0)
      + (if 3 = v ∧ imgN i = b ∧ (cmW (I.C (imgN i) (rowN i n + t / 14) (t % 14 * 16 + l.val))).toNat = c then
      (pix I (imgN i) (rowN i n + t / 14) (t % 14 * 16 + l.val) 3) else 0)
      + (if 10 = v ∧ imgN i = b ∧ (cmW (I.C (imgN i) (rowN i n + t / 14) (t % 14 * 16 + l.val))).toNat = c then
      (pix I (imgN i) (rowN i n + t / 14) (t % 14 * 16 + l.val) 10) else 0)) 112 _ ?_]
  · rw [add_assoc, add_assoc, add_assoc, ← Finset.sum_add_distrib, ← Finset.sum_add_distrib, ← Finset.sum_add_distrib]
    refine congrArg (G j + ·) (Finset.sum_congr rfl fun t _ => ?_)
    by_cases hbi : imgN i = b
    · rw [hbi]
      unfold brings
      interval_cases v <;> simp
    · simp [hbi]
  · intro t _ X
    unfold accQ
    rw [addV_place i l hv hc hb hj t 10 (by decide), addV_place i l hv hc hb hj t 3 (by decide), addV_place i l hv hc hb hj t 2 (by decide),
      addV_place i l hv hc hb hj t 1 (by decide), addV_place i l hv hc hb hj t 0 (by decide)]
    simp only [add_assoc]
    rfl
  · intro t _ X
    unfold accS
    rw [addV_place i l hv hc hb hj t 6 (by decide), addV_place i l hv hc hb hj t 5 (by decide), addV_place i l hv hc hb hj t 4 (by decide)]
    simp only [add_assoc]
    rfl
  · intro t _ X
    unfold accXY
    rw [addV_place i l hv hc hb hj t 8 (by decide), addV_place i l hv hc hb hj t 7 (by decide)]
    simp only [add_assoc]
    rfl
  · intro t _ X
    unfold accZ
    rw [addV_place i l hv hc hb hj t 9 (by decide)]
    rfl

/-- The accumulator after `n` blocks, at one place. -/
theorem accAt_apply : (accAt I i n j : EReal) = ∑ k ∈ Finset.range n, ∑ t ∈ Finset.range 112,
      if imgN i = b then brings I v c b (rowN i k + t / 14) (t % 14 * 16 + l.val) else 0 := by
  unfold accAt
  rw [steps_add _ j _ n _ fun k _ G => accBlk_apply I i k l hv hc hb hj G]
  refine Eq.trans (congrArg (· + _) ?_) (zero_add _)
  exact Ideal.ofBits_zero_f32
end

/-! ## The sum over all pixels -/

theorem sum_blocks (f : ℕ → EReal) (a b : ℕ) : ∑ x ∈ Finset.range (a * b), f x = ∑ p ∈ Finset.range a, ∑ q ∈ Finset.range b, f (p * b + q) := by
  induction a with
  | zero => simp
  | succ a ih => rw [Nat.succ_mul, Finset.sum_range_add, ih, Finset.sum_range_succ]

theorem sum_pixels (g : ℕ → ℕ → EReal) :
    (∑ w ∈ Finset.range 4, ∑ l : Fin 16, ∑ k ∈ Finset.range 7, ∑ t ∈ Finset.range 112, g ((w * 7 + k) * 8 + t / 14) (t % 14 * 16 + l.val))
      = ∑ h ∈ Finset.range 224, ∑ x ∈ Finset.range 224, g h x := by
  rw [show (224 : ℕ) = 4 * 56 from rfl, sum_blocks _ 4 56]
  refine Finset.sum_congr rfl fun w _ => ?_
  rw [show (56 : ℕ) = 7 * 8 from rfl, sum_blocks _ 7 8, Finset.sum_comm]
  refine Finset.sum_congr rfl fun k _ => ?_
  rw [Finset.sum_comm, show (112 : ℕ) = 8 * 14 from rfl, sum_blocks _ 8 14]
  refine Finset.sum_congr rfl fun r _ => ?_
  rw [show (4 * (7 * 8) : ℕ) = 14 * 16 from rfl, sum_blocks _ 14 16]
  refine Finset.sum_congr rfl fun q hq => ?_
  have hq' := Finset.mem_range.1 hq
  rw [← Fin.sum_univ_eq_sum_range (fun x => g (w * (7 * 8) + (k * 8 + r)) (q * 16 + x)) 16]
  refine Finset.sum_congr rfl fun l _ => ?_
  rw [show (r * 14 + q) / 14 = r by omega, show (r * 14 + q) % 14 = q by omega, show (w * 7 + k) * 8 + r = w * (7 * 8) + (k * 8 + r) by omega]

/-- The sum of plane `v` over the pixels of image `b` and class `c`. -/
def total (I : Ins Ideal) (v c b : ℕ) : EReal := ∑ h ∈ Finset.range 224, ∑ w ∈ Finset.range 224, brings I v c b h w

/-- Over the subcores, each with its image and its seven blocks of eight rows, and over the lanes, it is that sum. -/
theorem sum_subcores (I : Ins Ideal) (v c b : ℕ) (hb : b < 8) :
    (∑ w ∈ Finset.range 32, ∑ l : Fin 16, ∑ k ∈ Finset.range 7, ∑ t ∈ Finset.range 112,
      if w / 4 = b then brings I v c b ((w % 4 * 7 + k) * 8 + t / 14) (t % 14 * 16 + l.val) else 0) = total I v c b := by
  rw [show (32 : ℕ) = 8 * 4 from rfl, sum_blocks _ 8 4, Finset.sum_eq_single b]
  · unfold total
    rw [← sum_pixels]
    refine Finset.sum_congr rfl fun w hw => Finset.sum_congr rfl fun l _ => Finset.sum_congr rfl fun k _ => Finset.sum_congr rfl fun t _ => ?_
    have hw' := Finset.mem_range.1 hw
    rw [if_pos (by omega), show (b * 4 + w) % 4 = w by omega]
  · intro b' _ hne
    refine Finset.sum_eq_zero fun w hw => Finset.sum_eq_zero fun l _ => Finset.sum_eq_zero fun k _ => Finset.sum_eq_zero fun t _ => ?_
    have hw' := Finset.mem_range.1 hw
    rw [if_neg (by omega)]
  · intro h; exact absurd (Finset.mem_range.2 hb) h

end Cert.Proof.KernelIdeal
-- ==== Proof.Ideal.Columns.lean ====
module

public import proofs.«01_k».proof.Proof.Ideal.Launch
public import proofs.«01_k».proof.Proof.Ideal.Fin
public import proofs.«01_k».proof.Proof.Ideal.Sums

/-!
The sums of the kernel's planes of partial sums: each is one value's sum over one image's pixels of one class.
-/

@[expose] public section

noncomputable section

namespace Cert.Proof.KernelIdeal

open Cert.KernelIdeal Cert.KernelIdeal.Gen
open Idealize.ShloMosaic Idealize.ShloMosaic.TcCoe Idealize.ShloMosaic.Pointwise
open Idealize.SL.Sem

/-- A plane's row, summed. -/
theorem sumC_apply (P : Vec Ideal S64x512 .f32) (r : Fin 64) : (sumC P (ix2 r 0) : EReal) = ∑ u : Fin 512, (P (ix2 r u) : EReal) := by
  unfold sumC k1_pay5
  rw [shapeCast_self]
  have e : (Shape.reshapeEquiv shapeCasts_S64_S64x1 (ix2 r 0) : S64.Idx) = ix1 r := by
    refine Shape.reshapeEquiv_eq_of_rowMajor _ ?_
    rw [Shape.rowMajor_val_one, Shape.rowMajor_val_two]
    show r.val = r.val * 1 + 0
    omega
  refine Eq.trans (congrArg (multiReduction (F := Ideal) (φ := .f32) .add [1] S64 P 0x00000000#32 reduces_S64x512_S64 (.inl rfl) rfl) e) ?_
  refine (Ideal.multiReduction_add_single _ _ _ _ _ _).trans ?_
  refine Finset.sum_congr rfl fun u _ => congrArg P ?_
  funext a
  match a with
  | ⟨0, _⟩ => rfl
  | ⟨1, _⟩ => rfl

theorem plane_apply (c : Dev nD) (X : Buf (Elt Ideal) ((c : Thread nD τ).loc cc1_stg0_0)) (o : ℕ) (h : ∀ a, (![0, o] : Fin 2 → ℕ) a + S64x512.size a ≤ S64x5632.size a) (r : Fin 64) (u : Fin 512) :
    plane c X o h (ix2 r u) = X (ix2 r ⟨o + u.val, by have h1 := h 1; have h2 : o + 512 ≤ 5632 := h1; omega⟩) := by
  show X ((Rect.unit (s := S64x5632) ![0, o] S64x512.size h).emb (ix2 r u)) = _
  congr 1
  funext a
  apply Fin.ext
  match a with
  | ⟨0, _⟩ => show 0 + 1 * r.val = r.val; omega
  | ⟨1, _⟩ => show o + 1 * u.val = o + u.val; omega

/-- The partial sums, laid out by value, subcore and lane in each row. -/
def laid (P : Vec Ideal S360448 .f32) : Vec Ideal S64x5632 .f32 :=
  shapeCast S64x5632 (transpose S64x11x32x16 [2, 1, 0, 3] (shapeCast S32x11x64x16 P shapeCasts_S360448_S32x11x64x16) transposes_S32x11x64x16_S64x11x32x16_2_1_0_3)
    shapeCasts_S64x11x32x16_S64x5632

theorem laid_at (P : Vec Ideal S360448 .f32) (r : Fin 64) (v : Fin 11) (w : Fin 32) (l : Fin 16) (h h') :
    laid P (ix2 r ⟨v.val * 512 + (w.val * 16 + l.val), h⟩) = P (ix1 ⟨w.val * 11264 + v.val * 1024 + r.val * 16 + l.val, h'⟩) := by
  have e1 : (Shape.reshapeEquiv shapeCasts_S64x11x32x16_S64x5632 (ix2 r ⟨v.val * 512 + (w.val * 16 + l.val), h⟩) : S64x11x32x16.Idx) = ix4 r v w l := by
    refine Shape.reshapeEquiv_eq_of_rowMajor _ ?_
    rw [Shape.rowMajor_val_four, Shape.rowMajor_val_two]
    show ((r.val * 11 + v.val) * 32 + w.val) * 16 + l.val = r.val * 5632 + (v.val * 512 + (w.val * 16 + l.val))
    omega
  have e2 : (Shape.reshapeEquiv shapeCasts_S360448_S32x11x64x16 (ix4 w v r l) : S360448.Idx) = ix1 ⟨w.val * 11264 + v.val * 1024 + r.val * 16 + l.val, h'⟩ := by
    refine Shape.reshapeEquiv_eq_of_rowMajor _ ?_
    rw [Shape.rowMajor_val_four, Shape.rowMajor_val_one]
    show w.val * 11264 + v.val * 1024 + r.val * 16 + l.val = ((w.val * 11 + v.val) * 64 + r.val) * 16 + l.val
    omega
  have e3 : transpose S64x11x32x16 [2, 1, 0, 3] (shapeCast S32x11x64x16 P shapeCasts_S360448_S32x11x64x16) transposes_S32x11x64x16_S64x11x32x16_2_1_0_3 (ix4 r v w l)
      = shapeCast S32x11x64x16 P shapeCasts_S360448_S32x11x64x16 (ix4 w v r l) := by
    generalize shapeCast S32x11x64x16 P shapeCasts_S360448_S32x11x64x16 = Z
    pointwise
  unfold laid
  exact (congrArg _ e1).trans (e3.trans (congrArg P e2))

variable (m : (ℓ : Loc nD τ sig) → Buf (Elt Ideal) ℓ)

theorem laid_eq (d : Dev nD) : V₄ m d main_v3 = laid (partV (insM m d)) := by
  rw [← V₁_4 m d]
  unfold V₄
  rw [StableHlo.reshape_result, StableHlo.unary_result, StableHlo.reshape_result]
  rfl

/-- What a subcore left in one place of its accumulator. -/
theorem part_at (I : Ins Ideal) (w : Fin 32) (v : Fin 11) (c b : Fin 8) (l : Fin 16) (h) :
    (partV I (ix1 ⟨w.val * 11264 + v.val * 1024 + (c.val * 8 + b.val) * 16 + l.val, h⟩) : EReal)
      = ∑ k ∈ Finset.range 7, ∑ t ∈ Finset.range 112,
        if w.val / 4 = b.val then brings I v.val c.val b.val ((w.val % 4 * 7 + k) * 8 + t / 14) (t % 14 * 16 + l.val) else 0 := by
  have hw : (w.val * 11264 + v.val * 1024 + (c.val * 8 + b.val) * 16 + l.val) / 11264 = w.val := by omega
  unfold partV
  show (accAt I (co (tileOf ((w.val * 11264 + v.val * 1024 + (c.val * 8 + b.val) * 16 + l.val) / 11264))) 7 _ : EReal) = _
  rw [hw, accAt_apply I (co (tileOf w.val)) 7 l v.isLt c.isLt b.isLt (v := v.val) (c := c.val) (b := b.val)
    (by show (w.val * 11264 + v.val * 1024 + (c.val * 8 + b.val) * 16 + l.val) % 11264 = _; omega)]
  unfold imgN rowN
  rw [wid_tileOf w.isLt]

/-- A column of the call's input, summed. -/
theorem column (d : Dev nD) (v : Fin 11) (c b : Fin 8) (h) :
    (sumC (plane d (inP (W₄ m) d) (v.val * 512) h) (ix2 ⟨c.val * 8 + b.val, by omega⟩ 0) : EReal) = total (insM m d) v.val c.val b.val := by
  rw [sumC_apply, ← sum_subcores _ _ _ _ b.isLt]
  have e : ∀ u : Fin 512, (plane d (inP (W₄ m) d) (v.val * 512) h (ix2 ⟨c.val * 8 + b.val, by omega⟩ u) : EReal)
      = ∑ k ∈ Finset.range 7, ∑ t ∈ Finset.range 112,
        if u.val / 16 / 4 = b.val then brings (insM m d) v.val c.val b.val ((u.val / 16 % 4 * 7 + k) * 8 + t / 14) (t % 14 * 16 + u.val % 16) else 0 := fun u => by
    rw [plane_apply, inP_eq]
    refine (congrFun (laid_eq m d) _).trans ?_
    have hu : u = ⟨u.val / 16 * 16 + u.val % 16, by omega⟩ := Fin.ext (by show u.val = u.val / 16 * 16 + u.val % 16; omega)
    rw [hu]
    refine (laid_at _ ⟨c.val * 8 + b.val, by omega⟩ v ⟨u.val / 16, by omega⟩ ⟨u.val % 16, by omega⟩ _ (by show u.val / 16 * 11264 + v.val * 1024 + (c.val * 8 + b.val) * 16 + u.val % 16 < 360448; omega)).trans ?_
    refine (part_at (insM m d) ⟨u.val / 16, by omega⟩ v c b ⟨u.val % 16, by omega⟩ _).trans ?_
    rw [← hu]
  rw [Finset.sum_congr rfl fun u _ => e u]
  rw [Fin.sum_univ_eq_sum_range (fun u => ∑ k ∈ Finset.range 7, ∑ t ∈ Finset.range 112,
    if u / 16 / 4 = b.val then brings (insM m d) v.val c.val b.val ((u / 16 % 4 * 7 + k) * 8 + t / 14) (t % 14 * 16 + u % 16) else 0) 512,
    show (512 : ℕ) = 32 * 16 from rfl, sum_blocks _ 32 16]
  refine Finset.sum_congr rfl fun w _ => ?_
  rw [← Fin.sum_univ_eq_sum_range]
  refine Finset.sum_congr rfl fun l _ => ?_
  rw [show (w * 16 + l.val) / 16 = w by omega, show (w * 16 + l.val) % 16 = l.val by omega]

/-- A mean. -/
theorem meanC_at (d : Dev nD) (v : Fin 11) (c b : Fin 8) (h h') :
    (meanC (plane d (inP (W₄ m) d) (v.val * 512) h) (plane d (inP (W₄ m) d) 5120 h') (ix2 ⟨c.val * 8 + b.val, by omega⟩ 0) : EReal)
      = Ideal.div (total (insM m d) v.val c.val b.val) (max (total (insM m d) 10 c.val b.val) (Scalar.ofBits (F := Ideal) .f32 0x3F800000#32)) := by
  have e : (sumC (plane d (inP (W₄ m) d) 5120 h') (ix2 ⟨c.val * 8 + b.val, by omega⟩ 0) : EReal) = total (insM m d) 10 c.val b.val := column m d 10 c b h'
  rw [← column m d v c b h, ← e]
  rfl

end Cert.Proof.KernelIdeal
-- ==== Proof.Ideal.Segments.lean ====
module

public import proofs.«01_k».proof.Proof.Ideal.Sums
public import proofs.«01_k».proof.Proof.Ideal.Lookup

@[expose] public section

/-! The reference's sums over segments: update `n` of a scatter with one index each is the pixel whose row-major position is `n`, and
the segment of a pixel is nine times its image plus its class. -/

noncomputable section

namespace Cert.Proof.KernelIdeal

open Idealize.ShloMosaic Idealize.SL.Sem Cert.ReferenceIdeal Cert.ReferenceIdeal.Gen
open Cert.ReferenceIdeal.Value
open Idealize.ShloMosaic.Pointwise

/-- An update lands where, on every axis, its start and its coordinate in the window add up to. -/
theorem lands_iff {s si u : Shape} {w : ℕ} (d : ScatterDims s si u) (k : u.Idx) (idx : IVec si w) (j : s.Idx) :
    d.resultIdx? k idx = some j ↔ ∀ a, d.start k idx a + (d.window k a : Int) = ((j a).val : Int) := by
  unfold ScatterDims.resultIdx?
  by_cases h : ∀ a, 0 ≤ d.start k idx a + (d.window k a : Int) ∧ d.start k idx a + (d.window k a : Int) < s.size a
  · rw [dif_pos h, Option.some.injEq, funext_iff]
    refine forall_congr' fun a => ?_
    have ha := h a
    rw [Fin.ext_iff]
    show (d.start k idx a + (d.window k a : Int)).toNat = (j a).val ↔ _
    omega
  · rw [dif_neg h]
    refine iff_of_false (by simp) fun e => h fun a => ?_
    have := (j a).isLt
    rw [e a]; omega

/-- Pixel `n`'s image, row and column. -/
abbrev pb (n : ℕ) : ℕ := n / 50176
abbrev ph (n : ℕ) : ℕ := n / 224 % 224
abbrev pw (n : ℕ) : ℕ := n % 224

theorem sum_all (f : ℕ → ℕ → ℕ → EReal) :
    ∑ n ∈ Finset.range 401408, f (pb n) (ph n) (pw n) = ∑ b ∈ Finset.range 8, ∑ h ∈ Finset.range 224, ∑ w ∈ Finset.range 224, f b h w := by
  rw [show (401408 : ℕ) = 8 * 50176 from rfl, sum_blocks _ 8 50176]
  refine Finset.sum_congr rfl fun b _ => ?_
  rw [show (50176 : ℕ) = 224 * 224 from rfl, sum_blocks _ 224 224]
  refine Finset.sum_congr rfl fun h hh => Finset.sum_congr rfl fun w hw => ?_
  have := Finset.mem_range.1 hh
  have := Finset.mem_range.1 hw
  rw [show pb (b * (224 * 224) + (h * 224 + w)) = b by unfold pb; omega, show ph (b * (224 * 224) + (h * 224 + w)) = h by unfold ph; omega,
    show pw (b * (224 * 224) + (h * 224 + w)) = w by unfold pw; omega]

/-- The sum over the pixels of a segment. -/
theorem sum_segment (C : ℕ → ℕ → ℕ → ℕ) (hC : ∀ n, n < 401408 → C (pb n) (ph n) (pw n) < 9) (X : ℕ → ℕ → ℕ → EReal) {b c : ℕ} (hb : b < 8) (hc : c < 9) :
    (∑ n : Fin 401408, if ((pb n.val * 9 + C (pb n.val) (ph n.val) (pw n.val) : ℕ) : Int) = ((b * 9 + c : ℕ) : Int) then X (pb n.val) (ph n.val) (pw n.val) else 0)
      = ∑ h ∈ Finset.range 224, ∑ w ∈ Finset.range 224, if C b h w = c then X b h w else 0 := by
  have e1 : (∑ n : Fin 401408, if ((pb n.val * 9 + C (pb n.val) (ph n.val) (pw n.val) : ℕ) : Int) = ((b * 9 + c : ℕ) : Int) then X (pb n.val) (ph n.val) (pw n.val) else 0)
      = ∑ n ∈ Finset.range 401408, (fun b' h w => if b' = b ∧ C b' h w = c then X b' h w else 0) (pb n) (ph n) (pw n) := by
    rw [← Fin.sum_univ_eq_sum_range (fun n => (fun b' h w => if b' = b ∧ C b' h w = c then X b' h w else 0) (pb n) (ph n) (pw n)) 401408]
    refine Finset.sum_congr rfl fun n _ => if_congr ?_ rfl rfl
    have := hC n.val n.isLt
    omega
  rw [e1, sum_all (fun b' h w => if b' = b ∧ C b' h w = c then X b' h w else 0), Finset.sum_eq_single b]
  · simp
  · intro b' _ hne
    refine Finset.sum_eq_zero fun h _ => Finset.sum_eq_zero fun w _ => if_neg fun hh => hne hh.1
  · intro h; exact absurd (Finset.mem_range.2 hb) h

/-- Scattering rows of `ch` values: the sums of each segment. -/
theorem scatter_rows {ch : ℕ} (d : ScatterDims ⟨2, ![72, ch]⟩ ⟨2, ![401408, 1]⟩ ⟨2, ![401408, ch]⟩)
    (h0 : ∀ (idx : IVec ⟨2, ![401408, 1]⟩ 32) (n : Fin 401408) (k : Fin ch), d.start (ix2 n k) idx 0 = (idx (ix2 n 0)).toInt ∧ d.start (ix2 n k) idx 1 = 0
      ∧ d.window (ix2 n k) 0 = 0 ∧ d.window (ix2 n k) 1 = k.val)
    (x : FVec Ideal ⟨2, ![72, ch]⟩ .f32) (hx : ∀ j, (x j : EReal) = 0) (idx : IVec ⟨2, ![401408, 1]⟩ 32) (upd : FVec Ideal ⟨2, ![401408, ch]⟩ .f32)
    (C : ℕ → ℕ → ℕ → ℕ) (hC : ∀ n, n < 401408 → C (pb n) (ph n) (pw n) < 9)
    (hi : ∀ n : Fin 401408, (idx (ix2 n 0)).toInt = ((pb n.val * 9 + C (pb n.val) (ph n.val) (pw n.val) : ℕ) : Int)) (k : Fin ch)
    (X : ℕ → ℕ → ℕ → EReal) (hu : ∀ n : Fin 401408, (upd (ix2 n k) : EReal) = X (pb n.val) (ph n.val) (pw n.val)) {b c : ℕ} (hb : b < 8) (hc : c < 9) :
    (Host.scatterAdd d x idx upd (ix2 ⟨b * 9 + c, by omega⟩ k) : EReal) = ∑ h ∈ Finset.range 224, ∑ w ∈ Finset.range 224, if C b h w = c then X b h w else 0 := by
  show (x _ : EReal) + ∑ j ∈ Finset.univ.filter (fun j => d.resultIdx? j idx = some (ix2 ⟨b * 9 + c, by omega⟩ k)), (upd j : EReal) = _
  rw [hx, zero_add, Finset.sum_filter, sum_idx2, ← sum_segment C hC X hb hc]
  refine Finset.sum_congr rfl fun n _ => ?_
  rw [Finset.sum_eq_single k]
  · rw [hu]
    refine if_congr ?_ rfl rfl
    obtain ⟨s0, s1, w0, w1⟩ := h0 idx n k
    rw [lands_iff, ← hi]
    constructor
    · intro e
      have := e 0
      rw [s0, w0] at this
      simpa using this
    · intro e a
      match a with
      | ⟨0, _⟩ => exact (congrArg₂ (· + ·) s0 (congrArg Nat.cast w0)).trans ((add_zero _).trans e)
      | ⟨1, _⟩ => exact (congrArg₂ (· + ·) s1 (congrArg Nat.cast w1)).trans (zero_add _)
  · intro k' _ hne
    refine if_neg fun e => hne ?_
    obtain ⟨s0, s1, w0, w1⟩ := h0 idx n k'
    have := (lands_iff _ _ _ _).1 e 1
    rw [s1, w1] at this
    have e2 : ((k'.val : ℕ) : Int) = ((k.val : ℕ) : Int) := by simpa using this
    exact Fin.ext (by omega)
  · intro h; exact absurd (Finset.mem_univ k) h

/-- Scattering single values. -/
theorem scatter_ones (d : ScatterDims ⟨1, ![72]⟩ ⟨2, ![401408, 1]⟩ ⟨1, ![401408]⟩)
    (h0 : ∀ (idx : IVec ⟨2, ![401408, 1]⟩ 32) (n : Fin 401408), d.start (ix1 n) idx 0 = (idx (ix2 n 0)).toInt ∧ d.window (ix1 n) 0 = 0)
    (x : FVec Ideal ⟨1, ![72]⟩ .f32) (hx : ∀ j, (x j : EReal) = 0) (idx : IVec ⟨2, ![401408, 1]⟩ 32) (upd : FVec Ideal ⟨1, ![401408]⟩ .f32)
    (C : ℕ → ℕ → ℕ → ℕ) (hC : ∀ n, n < 401408 → C (pb n) (ph n) (pw n) < 9)
    (hi : ∀ n : Fin 401408, (idx (ix2 n 0)).toInt = ((pb n.val * 9 + C (pb n.val) (ph n.val) (pw n.val) : ℕ) : Int))
    (X : ℕ → ℕ → ℕ → EReal) (hu : ∀ n : Fin 401408, (upd (ix1 n) : EReal) = X (pb n.val) (ph n.val) (pw n.val)) {b c : ℕ} (hb : b < 8) (hc : c < 9) :
    (Host.scatterAdd d x idx upd (ix1 ⟨b * 9 + c, by omega⟩) : EReal) = ∑ h ∈ Finset.range 224, ∑ w ∈ Finset.range 224, if C b h w = c then X b h w else 0 := by
  show (x _ : EReal) + ∑ j ∈ Finset.univ.filter (fun j => d.resultIdx? j idx = some (ix1 ⟨b * 9 + c, by omega⟩)), (upd j : EReal) = _
  rw [hx, zero_add, Finset.sum_filter, sum_idx1, ← sum_segment C hC X hb hc]
  refine Finset.sum_congr rfl fun n _ => ?_
  rw [hu]
  refine if_congr ?_ rfl rfl
  obtain ⟨s0, w0⟩ := h0 idx n
  rw [lands_iff, ← hi]
  constructor
  · intro e
    have := e 0
    rw [s0, w0] at this
    simpa using this
  · intro e a
    match a with
    | ⟨0, _⟩ => exact (congrArg₂ (· + ·) s0 (congrArg Nat.cast w0)).trans ((add_zero _).trans e)

theorem dims4 (idx : IVec S401408x1 32) (n : Fin 401408) (k : Fin 4) :
    scatter_S72x4_S401408x1_S401408x4_1_0_0_1.start (ix2 n k) idx 0 = (idx (ix2 n 0)).toInt ∧ scatter_S72x4_S401408x1_S401408x4_1_0_0_1.start (ix2 n k) idx 1 = 0
      ∧ scatter_S72x4_S401408x1_S401408x4_1_0_0_1.window (ix2 n k) 0 = 0 ∧ scatter_S72x4_S401408x1_S401408x4_1_0_0_1.window (ix2 n k) 1 = k.val := by
  refine ⟨?_, rfl, rfl, rfl⟩
  unfold ScatterDims.start
  rw [dif_pos (by decide)]
  congr 2
  funext a
  match a with
  | ⟨0, _⟩ => rfl
  | ⟨1, _⟩ => rfl

end Cert.Proof.KernelIdeal
-- ==== Proof.Ideal.Means.lean ====
module

public import proofs.«01_k».proof.Proof.Ideal.Segments

@[expose] public section

/-! The reference's counts and means: of each class and image the number of its pixels, and each plane's sum over that number, or
over one where there are none. -/

noncomputable section

namespace Cert.Proof.KernelIdeal

open Idealize.ShloMosaic Idealize.SL.Sem Cert.ReferenceIdeal Cert.ReferenceIdeal.Gen
open Cert.ReferenceIdeal.Value
open Idealize.ShloMosaic.Pointwise

/-- The quotient of two extended reals as both programs take it, the divisor at least one. -/
def mean (I : Ins Ideal) (v c b : ℕ) : EReal := FloatOps.divf (F := Ideal) (φ := .f32) (total I v c b) (max (total I 10 c b) 1)

/-- A pixel of class zero gets nothing. -/
theorem pix_zero (I : Ins Ideal) (b h w v : ℕ) (h0 : I.C b h w = 0#32) : pix I b h w v = 0 := by
  have z : (Scalar.ofBits (F := Ideal) .f32 0x00000000#32 : EReal) = 0 := Ideal.ofBits_zero_f32
  have g : IntOp.cmpi .sgt (0#32) (0#32) = 0#1 := by decide
  unfold pix
  split <;> simp only [valQ, val1, h0, g] <;> exact z

theorem cm_small : ∀ k : Fin 9, k.val ≠ 0 → (cmW (BitVec.ofNat 32 k.val)).toNat + 1 = k.val := by decide
theorem cm_pos : ∀ k : Fin 9, k.val ≠ 0 → IntOp.cmpi .sgt (BitVec.ofNat 32 k.val) 0#32 = 1#1 := by decide

/-- A class word within range is a small number. -/
theorem word_small {x : BitVec 32} (h : x.toNat < 9) : ∃ k : Fin 9, x = BitVec.ofNat 32 k.val :=
  ⟨⟨x.toNat, h⟩, by simp⟩

/-- What a pixel brings to class `c`, where its class word is within range: what it gets, if the word is one more than `c`. -/
theorem brings_eq (I : Ins Ideal) (v c b h w : ℕ) (hC : (I.C b h w).toNat < 9) :
    (if (I.C b h w).toNat = c + 1 then pix I b h w v else 0) = brings I v c b h w := by
  unfold brings
  by_cases h0 : I.C b h w = 0#32
  · rw [pix_zero I b h w v h0]; simp
  · obtain ⟨k, hk⟩ := word_small hC
    have hn : k.val ≠ 0 := fun e => h0 (by rw [hk, e])
    have hs := cm_small k hn
    have hv : (I.C b h w).toNat = k.val := by rw [hk, BitVec.toNat_ofNat]; have := k.isLt; omega
    refine if_congr ?_ rfl rfl
    rw [hv, hk]; omega

theorem total_eq (I : Ins Ideal) (v c b : ℕ) (hC : ∀ b h w, (I.C b h w).toNat < 9) :
    (∑ h ∈ Finset.range 224, ∑ w ∈ Finset.range 224, if (I.C b h w).toNat = c + 1 then pix I b h w v else 0) = total I v c b :=
  Finset.sum_congr rfl fun h _ => Finset.sum_congr rfl fun w _ => brings_eq I v c b h w (hC b h w)

theorem one_f32 : (Scalar.ofBits (F := Ideal) .f32 0x3F800000#32 : EReal) = 1 := by
  show Ideal.ofBits .f32 0x3F800000#32 = 1
  simp [Ideal.ofBits, Ideal.ieee]
  rw [← EReal.coe_mul]
  norm_num

variable (V0 : Valuation τ sig (Elt Ideal))

/-- Every class word is 0 to 8. -/
def InRange : Prop := ∀ j : S8x224x224.Idx, (V0 (Proc.devRef .tc main_arg0) j : BitVec 32).toNat < 9

variable {V0}

theorem InRange.ins (h : InRange V0) (b p q : ℕ) : ((insR V0).C b p q).toNat < 9 := h _

/-- A pixel's segment. -/
theorem seg_word (n : Fin 401408) : (broadcastInDim S401408x1 ![0] bcast_S401408_S401408x1_0 (res_main_v60 V0) (ix2 n 0) : BitVec 32)
    = IntOp.addi (IntOp.muli (BitVec.ofNat 32 (pb n.val)) 9#32) ((insR V0).C (pb n.val) (ph n.val) (pw n.val)) := by
  have hn := n.isLt
  have e : (Shape.reshapeEquiv shapeCasts_S8x224x224_S401408 (ix1 n) : S8x224x224.Idx)
      = ix3 ⟨pb n.val, by unfold pb; omega⟩ ⟨ph n.val, by unfold ph; omega⟩ ⟨pw n.val, by unfold pw; omega⟩ := by
    refine Shape.reshapeEquiv_eq_of_rowMajor _ ?_
    rw [Shape.rowMajor_val_three, Shape.rowMajor_val_one]
    show (n.val / 50176 * 224 + n.val / 224 % 224) * 224 + n.val % 224 = n.val
    omega
  have e2 : broadcastInDim S401408x1 ![0] bcast_S401408_S401408x1_0 (res_main_v60 V0) (ix2 n 0) = res_main_v60 V0 (ix1 n) := by pointwise
  rw [e2]
  unfold res_main_v60
  show addi _ _ (Shape.reshapeEquiv shapeCasts_S8x224x224_S401408 (ix1 n)) = _
  rw [e]
  refine congrArg₂ IntOp.addi ?_ ?_
  · pointwise
  · exact (ins_C _ _ _ _ _ _ _ _).symm

theorem seg_int (hr : InRange V0) (n : Fin 401408) : (broadcastInDim S401408x1 ![0] bcast_S401408_S401408x1_0 (res_main_v60 V0) (ix2 n 0) : BitVec 32).toInt
    = ((pb n.val * 9 + ((insR V0).C (pb n.val) (ph n.val) (pw n.val)).toNat : ℕ) : Int) := by
  have hn := n.isLt
  have hb : pb n.val < 8 := by unfold pb; omega
  have hc := hr.ins (pb n.val) (ph n.val) (pw n.val)
  rw [seg_word]
  have e0 : (BitVec.ofNat 32 (pb n.val)).toNat = pb n.val := by rw [BitVec.toNat_ofNat]; omega
  have e9 : (9#32 : BitVec 32).toNat = 9 := rfl
  have h1 := mul_small (x := BitVec.ofNat 32 (pb n.val)) (k := 9#32) (n := 7) (by omega) (by rw [e9]; norm_num)
  have h2 := add_small (x := IntOp.muli (BitVec.ofNat 32 (pb n.val)) 9#32) (k := (insR V0).C (pb n.val) (ph n.val) (pw n.val)) (n := 63) (by rw [h1, e0, e9]; omega) (by omega)
  rw [h1, e0, e9] at h2
  rw [BitVec.toInt_eq_toNat_of_lt (by omega), h2]

theorem zeros {s : Shape} (h) (j : s.Idx) : (broadcastInDim s ![] h (constant (F := Ideal) S_ .f32 0x00000000#32) j : EReal) = 0 := Ideal.ofBits_zero_f32

/-! ## The counts -/

theorem dims0 (idx : IVec S401408x1 32) (n : Fin 401408) :
    scatter_S72_S401408x1_S401408_n_0_0_1.start (ix1 n) idx 0 = (idx (ix2 n 0)).toInt ∧ scatter_S72_S401408x1_S401408_n_0_0_1.window (ix1 n) 0 = 0 := by
  refine ⟨?_, rfl⟩
  unfold ScatterDims.start
  rw [dif_pos (by decide)]
  congr 2
  funext a
  match a with
  | ⟨0, _⟩ => rfl
  | ⟨1, _⟩ => rfl

theorem pix_count (I : Ins Ideal) (b h w : ℕ) (hC : (I.C b h w).toNat < 9) : (if (I.C b h w).toNat = 0 then 0 else 1) = pix I b h w 10 := by
  by_cases h0 : I.C b h w = 0#32
  · rw [pix_zero I b h w 10 h0, h0]; rfl
  · obtain ⟨k, hk⟩ := word_small hC
    have hn : k.val ≠ 0 := fun e => h0 (by rw [hk, e])
    have hv : (I.C b h w).toNat = k.val := by rw [hk, BitVec.toNat_ofNat]; have := k.isLt; omega
    rw [if_neg (by omega)]
    show _ = Scalar.select (IntOp.cmpi .sgt (I.C b h w) 0#32) (Scalar.ofBits (F := Ideal) .f32 0x3F800000#32) (Scalar.ofBits (F := Ideal) .f32 0x00000000#32)
    rw [hk, cm_pos k hn]
    exact one_f32.symm

/-- The counts and their divisors, as tables of extended reals. -/
abbrev countsT (V0 : Valuation τ sig (Elt Ideal)) : FVec Ideal S72 .f32 := res_main_v64 V0
abbrev denomT (V0 : Valuation τ sig (Elt Ideal)) : FVec Ideal S72x1 .f32 := res_main_v67 V0

theorem counts_at (hr : InRange V0) (c b : Fin 8) : countsT V0 (ix1 ⟨b.val * 9 + (c.val + 1), by omega⟩) = total (insR V0) 10 c.val b.val := by
  unfold countsT res_main_v64
  rw [scatter_ones scatter_S72_S401408x1_S401408_n_0_0_1 dims0 _ (zeros _) _ _ (fun b h w => ((insR V0).C b h w).toNat) (fun n _ => hr.ins _ _ _) (seg_int hr)
    (fun _ _ _ => 1) (fun n => one_f32) b.isLt (by omega), ← total_eq _ _ _ _ hr.ins]
  refine Finset.sum_congr rfl fun h _ => Finset.sum_congr rfl fun w _ => ?_
  by_cases e : ((insR V0).C b.val h w).toNat = c.val + 1
  · rw [if_pos e, if_pos e, ← pix_count _ _ _ _ (hr.ins _ _ _), if_neg (by omega)]
  · rw [if_neg e, if_neg e]

theorem denom_at (hr : InRange V0) (c b : Fin 8) : denomT V0 (ix2 ⟨b.val * 9 + (c.val + 1), by omega⟩ 0) = max (total (insR V0) 10 c.val b.val) 1 := by
  unfold denomT res_main_v67
  rw [← counts_at hr c b]
  obtain ⟨A, hA⟩ : ∃ A : FVec Ideal S72 .f32, A = res_main_v64 V0 := ⟨_, rfl⟩
  unfold countsT
  rw [← hA]
  refine Eq.trans ?_ (congrArg (fun z : EReal => max (A (ix1 ⟨b.val * 9 + (c.val + 1), by omega⟩)) z) one_f32)
  pointwise

/-! ## A table of 72 segments, of which the 64 of a class are kept, the classes first -/

theorem classes_first {n : ℕ} (Z : Vec Ideal ⟨2, ![72, n]⟩ .f32) (h1 : (⟨2, ![72, n]⟩ : Shape).ShapeCasts ⟨3, ![8, 9, n]⟩) (h2 : (⟨3, ![8, 9, n]⟩ : Shape).Slices ![0, 1, 0] ⟨3, ![8, 8, n]⟩)
    (h3 : (⟨3, ![8, 8, n]⟩ : Shape).Transposes [1, 0, 2] ⟨3, ![8, 8, n]⟩) (h4 : (⟨3, ![8, 8, n]⟩ : Shape).ShapeCasts ⟨2, ![64, n]⟩) (c b : Fin 8) (k : Fin n) :
    shapeCast ⟨2, ![64, n]⟩ (transpose ⟨3, ![8, 8, n]⟩ [1, 0, 2] (extractStridedSlice ⟨3, ![8, 8, n]⟩ ![0, 1, 0] (shapeCast ⟨3, ![8, 9, n]⟩ Z h1) h2) h3) h4
      (ix2 ⟨c.val * 8 + b.val, by omega⟩ k) = Z (ix2 ⟨b.val * 9 + (c.val + 1), by omega⟩ k) := by
  have e1 : Shape.reshapeEquiv h4 (ix2 ⟨c.val * 8 + b.val, by omega⟩ k) = ix3 c b k := by
    refine Shape.reshapeEquiv_eq_of_rowMajor _ ?_
    rw [Shape.rowMajor_val_three, Shape.rowMajor_val_two]; rfl
  have e2 : Shape.reshapeEquiv h1 (ix3 b ⟨c.val + 1, by omega⟩ k) = ix2 ⟨b.val * 9 + (c.val + 1), by omega⟩ k := by
    refine Shape.reshapeEquiv_eq_of_rowMajor _ ?_
    rw [Shape.rowMajor_val_three, Shape.rowMajor_val_two]; rfl
  rw [← e2]
  show transpose ⟨3, ![8, 8, n]⟩ [1, 0, 2] _ h3 (Shape.reshapeEquiv h4 (ix2 ⟨c.val * 8 + b.val, by omega⟩ k)) = shapeCast ⟨3, ![8, 9, n]⟩ Z h1 (ix3 b ⟨c.val + 1, by omega⟩ k)
  rw [e1]
  generalize shapeCast ⟨3, ![8, 9, n]⟩ Z h1 = Y
  refine congrArg Y (funext fun a => Fin.ext ?_)
  match a with
  | ⟨0, _⟩ => exact Nat.zero_add _
  | ⟨1, _⟩ => exact Nat.add_comm _ _
  | ⟨2, _⟩ => exact Nat.zero_add _

/-- The pixels in order, a channel's value of each. -/
theorem pixels_flat {n : ℕ} (X : Vec Ideal ⟨4, ![8, n, 224, 224]⟩ .f32) (h1 : (⟨4, ![8, n, 224, 224]⟩ : Shape).Transposes [0, 2, 3, 1] ⟨4, ![8, 224, 224, n]⟩)
    (h2 : (⟨4, ![8, 224, 224, n]⟩ : Shape).ShapeCasts ⟨2, ![401408, n]⟩) (p : Fin 401408) (k : Fin n) :
    shapeCast ⟨2, ![401408, n]⟩ (transpose ⟨4, ![8, 224, 224, n]⟩ [0, 2, 3, 1] X h1) h2 (ix2 p k)
      = X (ix4 ⟨pb p.val, by have := p.isLt; unfold pb; omega⟩ k ⟨ph p.val, by unfold ph; omega⟩ ⟨pw p.val, by unfold pw; omega⟩) := by
  have hp := p.isLt
  have e : Shape.reshapeEquiv h2 (ix2 p k) = ix4 ⟨pb p.val, by unfold pb; omega⟩ ⟨ph p.val, by unfold ph; omega⟩ ⟨pw p.val, by unfold pw; omega⟩ k := by
    refine Shape.reshapeEquiv_eq_of_rowMajor _ ?_
    rw [Shape.rowMajor_val_four, Shape.rowMajor_val_two]
    show ((p.val / 50176 * 224 + p.val / 224 % 224) * 224 + p.val % 224) * n + k.val = p.val * n + k.val
    rw [show (p.val / 50176 * 224 + p.val / 224 % 224) * 224 + p.val % 224 = p.val by omega]
  show transpose ⟨4, ![8, 224, 224, n]⟩ [0, 2, 3, 1] X _ (Shape.reshapeEquiv h2 (ix2 p k)) = _
  rw [e]
  refine congrArg X (funext fun a => Fin.ext ?_)
  match a with
  | ⟨0, _⟩ => rfl
  | ⟨1, _⟩ => rfl
  | ⟨2, _⟩ => rfl
  | ⟨3, _⟩ => rfl

theorem dims3 (idx : IVec S401408x1 32) (n : Fin 401408) (k : Fin 3) :
    scatter_S72x3_S401408x1_S401408x3_1_0_0_1.start (ix2 n k) idx 0 = (idx (ix2 n 0)).toInt ∧ scatter_S72x3_S401408x1_S401408x3_1_0_0_1.start (ix2 n k) idx 1 = 0
      ∧ scatter_S72x3_S401408x1_S401408x3_1_0_0_1.window (ix2 n k) 0 = 0 ∧ scatter_S72x3_S401408x1_S401408x3_1_0_0_1.window (ix2 n k) 1 = k.val := by
  refine ⟨?_, rfl, rfl, rfl⟩
  unfold ScatterDims.start
  rw [dif_pos (by decide)]
  congr 2
  funext a
  match a with
  | ⟨0, _⟩ => rfl
  | ⟨1, _⟩ => rfl

theorem dims2 (idx : IVec S401408x1 32) (n : Fin 401408) (k : Fin 2) :
    scatter_S72x2_S401408x1_S401408x2_1_0_0_1.start (ix2 n k) idx 0 = (idx (ix2 n 0)).toInt ∧ scatter_S72x2_S401408x1_S401408x2_1_0_0_1.start (ix2 n k) idx 1 = 0
      ∧ scatter_S72x2_S401408x1_S401408x2_1_0_0_1.window (ix2 n k) 0 = 0 ∧ scatter_S72x2_S401408x1_S401408x2_1_0_0_1.window (ix2 n k) 1 = k.val := by
  refine ⟨?_, rfl, rfl, rfl⟩
  unfold ScatterDims.start
  rw [dif_pos (by decide)]
  congr 2
  funext a
  match a with
  | ⟨0, _⟩ => rfl
  | ⟨1, _⟩ => rfl

theorem dims1 (idx : IVec S401408x1 32) (n : Fin 401408) (k : Fin 1) :
    scatter_S72x1_S401408x1_S401408x1_1_0_0_1.start (ix2 n k) idx 0 = (idx (ix2 n 0)).toInt ∧ scatter_S72x1_S401408x1_S401408x1_1_0_0_1.start (ix2 n k) idx 1 = 0
      ∧ scatter_S72x1_S401408x1_S401408x1_1_0_0_1.window (ix2 n k) 0 = 0 ∧ scatter_S72x1_S401408x1_S401408x1_1_0_0_1.window (ix2 n k) 1 = k.val := by
  refine ⟨?_, rfl, rfl, rfl⟩
  unfold ScatterDims.start
  rw [dif_pos (by decide)]
  congr 2
  funext a
  match a with
  | ⟨0, _⟩ => rfl
  | ⟨1, _⟩ => rfl

theorem ref_counts (hr : InRange V0) (c b : Fin 8) : (val5 V0 (Proc.devRef .tc main_v208) : Vec Ideal S64x1 .f32) (ix2 ⟨c.val * 8 + b.val, by omega⟩ 0) = total (insR V0) 10 c.val b.val := by
  rw [val5_main_v208, ← counts_at hr c b]
  refine (classes_first _ _ _ _ _ c b 0).trans ?_
  pointwise

/-! ## The means -/

theorem pixQ (I : Ins Ideal) (b : Fin 8) (h w : Fin 224) (k : Fin 4) : (valsQ I (ix4 b k h w) : EReal) = pix I b.val h.val w.val (0 + k.val) := by
  match k with
  | ⟨0, _⟩ => rfl
  | ⟨1, _⟩ => rfl
  | ⟨2, _⟩ => rfl
  | ⟨3, _⟩ => rfl

theorem sumsQ (hr : InRange V0) (c b : Fin 8) (k : Fin 4) (Y : Vec Ideal S8x4x224x224 .f32) (hY : Y = valsQ (insR V0)) :
    (Host.scatterAdd scatter_S72x4_S401408x1_S401408x4_1_0_0_1 (broadcastInDim S72x4 ![] bcast_S_S72x4 (constant (F := Ideal) S_ .f32 0x00000000#32)) (broadcastInDim S401408x1 ![0] bcast_S401408_S401408x1_0 (res_main_v60 V0))
      (shapeCast S401408x4 (transpose S8x224x224x4 [0, 2, 3, 1] Y transposes_S8x4x224x224_S8x224x224x4_0_2_3_1) shapeCasts_S8x224x224x4_S401408x4) (ix2 ⟨b.val * 9 + (c.val + 1), by omega⟩ k) : EReal)
      = total (insR V0) (0 + k.val) c.val b.val := by
  rw [scatter_rows scatter_S72x4_S401408x1_S401408x4_1_0_0_1 dims4 _ (zeros _) _ _ (fun b h w => ((insR V0).C b h w).toNat) (fun n _ => hr.ins _ _ _) (seg_int hr) k
    (fun b h w => pix (insR V0) b h w (0 + k.val)) (fun n => (pixels_flat Y _ _ n k).trans (by rw [hY]; exact pixQ _ _ _ _ _)) b.isLt (by omega)]
  exact total_eq _ _ _ _ hr.ins

theorem ref_meanQ (hr : InRange V0) (c b : Fin 8) (k : Fin 4) : res_main_v78 V0 (ix2 ⟨c.val * 8 + b.val, by omega⟩ k) = mean (insR V0) (0 + k.val) c.val b.val := by
  unfold res_main_v78
  rw [← val5_main_v13 V0]
  refine (classes_first _ _ _ _ _ c b k).trans ?_
  unfold mean
  rw [← denom_at hr c b, ← sumsQ hr c b k _ (refQ V0)]
  generalize Host.scatterAdd (F := Ideal) (φ := .f32) scatter_S72x4_S401408x1_S401408x4_1_0_0_1 _ _ _ = A
  unfold denomT
  generalize res_main_v67 V0 = B
  pointwise

theorem pixS (I : Ins Ideal) (b : Fin 8) (h w : Fin 224) (k : Fin 3) : (valsS I (ix4 b k h w) : EReal) = pix I b.val h.val w.val (4 + k.val) := by
  match k with
  | ⟨0, _⟩ => rfl
  | ⟨1, _⟩ => rfl
  | ⟨2, _⟩ => rfl

theorem sumsS (hr : InRange V0) (c b : Fin 8) (k : Fin 3) (Y : Vec Ideal S8x3x224x224 .f32) (hY : Y = valsS (insR V0)) :
    (Host.scatterAdd scatter_S72x3_S401408x1_S401408x3_1_0_0_1 (broadcastInDim S72x3 ![] bcast_S_S72x3 (constant (F := Ideal) S_ .f32 0x00000000#32)) (broadcastInDim S401408x1 ![0] bcast_S401408_S401408x1_0 (res_main_v60 V0))
      (shapeCast S401408x3 (transpose S8x224x224x3 [0, 2, 3, 1] Y transposes_S8x3x224x224_S8x224x224x3_0_2_3_1) shapeCasts_S8x224x224x3_S401408x3) (ix2 ⟨b.val * 9 + (c.val + 1), by omega⟩ k) : EReal)
      = total (insR V0) (4 + k.val) c.val b.val := by
  rw [scatter_rows scatter_S72x3_S401408x1_S401408x3_1_0_0_1 dims3 _ (zeros _) _ _ (fun b h w => ((insR V0).C b h w).toNat) (fun n _ => hr.ins _ _ _) (seg_int hr) k
    (fun b h w => pix (insR V0) b h w (4 + k.val)) (fun n => (pixels_flat Y _ _ n k).trans (by rw [hY]; exact pixS _ _ _ _ _)) b.isLt (by omega)]
  exact total_eq _ _ _ _ hr.ins

theorem ref_meanS (hr : InRange V0) (c b : Fin 8) (k : Fin 3) : (val5 V0 (Proc.devRef .tc main_v89) : Vec Ideal S64x3 .f32) (ix2 ⟨c.val * 8 + b.val, by omega⟩ k) = mean (insR V0) (4 + k.val) c.val b.val := by
  rw [val5_main_v89]
  rw [← val5_main_v27 V0]
  refine (classes_first _ _ _ _ _ c b k).trans ?_
  unfold mean
  rw [← denom_at hr c b, ← sumsS hr c b k _ (refS V0)]
  generalize Host.scatterAdd (F := Ideal) (φ := .f32) scatter_S72x3_S401408x1_S401408x3_1_0_0_1 _ _ _ = A
  unfold denomT
  generalize res_main_v67 V0 = B
  pointwise

theorem pixXY (I : Ins Ideal) (b : Fin 8) (h w : Fin 224) (k : Fin 2) : (valsXY I (ix4 b k h w) : EReal) = pix I b.val h.val w.val (7 + k.val) := by
  match k with
  | ⟨0, _⟩ => rfl
  | ⟨1, _⟩ => rfl

theorem sumsXY (hr : InRange V0) (c b : Fin 8) (k : Fin 2) (Y : Vec Ideal S8x2x224x224 .f32) (hY : Y = valsXY (insR V0)) :
    (Host.scatterAdd scatter_S72x2_S401408x1_S401408x2_1_0_0_1 (broadcastInDim S72x2 ![] bcast_S_S72x2 (constant (F := Ideal) S_ .f32 0x00000000#32)) (broadcastInDim S401408x1 ![0] bcast_S401408_S401408x1_0 (res_main_v60 V0))
      (shapeCast S401408x2 (transpose S8x224x224x2 [0, 2, 3, 1] Y transposes_S8x2x224x224_S8x224x224x2_0_2_3_1) shapeCasts_S8x224x224x2_S401408x2) (ix2 ⟨b.val * 9 + (c.val + 1), by omega⟩ k) : EReal)
      = total (insR V0) (7 + k.val) c.val b.val := by
  rw [scatter_rows scatter_S72x2_S401408x1_S401408x2_1_0_0_1 dims2 _ (zeros _) _ _ (fun b h w => ((insR V0).C b h w).toNat) (fun n _ => hr.ins _ _ _) (seg_int hr) k
    (fun b h w => pix (insR V0) b h w (7 + k.val)) (fun n => (pixels_flat Y _ _ n k).trans (by rw [hY]; exact pixXY _ _ _ _ _)) b.isLt (by omega)]
  exact total_eq _ _ _ _ hr.ins

theorem ref_meanXY (hr : InRange V0) (c b : Fin 8) (k : Fin 2) : (val5 V0 (Proc.devRef .tc main_v100) : Vec Ideal S64x2 .f32) (ix2 ⟨c.val * 8 + b.val, by omega⟩ k) = mean (insR V0) (7 + k.val) c.val b.val := by
  rw [val5_main_v100]
  rw [← val5_main_v41 V0]
  refine (classes_first _ _ _ _ _ c b k).trans ?_
  unfold mean
  rw [← denom_at hr c b, ← sumsXY hr c b k _ (refXY V0)]
  generalize Host.scatterAdd (F := Ideal) (φ := .f32) scatter_S72x2_S401408x1_S401408x2_1_0_0_1 _ _ _ = A
  unfold denomT
  generalize res_main_v67 V0 = B
  pointwise

theorem pixZ (I : Ins Ideal) (b : Fin 8) (h w : Fin 224) : (valsZ I (ix3 b h w) : EReal) = pix I b.val h.val w.val 9 := rfl

theorem depth_at (b : Fin 8) (h w : Fin 224) : (res_main_v53 V0 : Vec Ideal S8x1x224x224 .f32) (ix4 b 0 h w) = pix (insR V0) b.val h.val w.val 9 := by
  rw [← pixZ, ← refZ V0, val5_main_v209]
  pointwise

theorem sumsZ (hr : InRange V0) (c b : Fin 8) :
    (Host.scatterAdd scatter_S72x1_S401408x1_S401408x1_1_0_0_1 (broadcastInDim S72x1 ![] bcast_S_S72x1 (constant (F := Ideal) S_ .f32 0x00000000#32)) (broadcastInDim S401408x1 ![0] bcast_S401408_S401408x1_0 (res_main_v60 V0))
      (shapeCast S401408x1 (transpose S8x224x224x1 [0, 2, 3, 1] (res_main_v53 V0) transposes_S8x1x224x224_S8x224x224x1_0_2_3_1) shapeCasts_S8x224x224x1_S401408x1) (ix2 ⟨b.val * 9 + (c.val + 1), by omega⟩ 0) : EReal)
      = total (insR V0) 9 c.val b.val := by
  rw [scatter_rows scatter_S72x1_S401408x1_S401408x1_1_0_0_1 dims1 _ (zeros _) _ _ (fun b h w => ((insR V0).C b h w).toNat) (fun n _ => hr.ins _ _ _) (seg_int hr) 0
    (fun b h w => pix (insR V0) b h w 9) (fun n => (pixels_flat _ _ _ n 0).trans (depth_at _ _ _)) b.isLt (by omega)]
  exact total_eq _ _ _ _ hr.ins

theorem ref_meanZ (hr : InRange V0) (c b : Fin 8) : (val5 V0 (Proc.devRef .tc main_v110) : Vec Ideal S64x1 .f32) (ix2 ⟨c.val * 8 + b.val, by omega⟩ 0) = mean (insR V0) 9 c.val b.val := by
  rw [val5_main_v110]
  refine (classes_first _ _ _ _ _ c b 0).trans ?_
  unfold mean
  rw [← denom_at hr c b, ← sumsZ hr c b]
  generalize Host.scatterAdd (F := Ideal) (φ := .f32) scatter_S72x1_S401408x1_S401408x1_1_0_0_1 _ _ _ = A
  unfold denomT
  generalize res_main_v67 V0 = B
  pointwise

end Cert.Proof.KernelIdeal
-- ==== Proof.Ideal.Results.lean ====
module

public import proofs.«01_k».proof.Proof.Ideal.Columns
public import proofs.«01_k».proof.Proof.Ideal.Means

/-!
The means and counts that the kernel leaves.
-/

@[expose] public section

noncomputable section

namespace Cert.Proof.KernelIdeal

open Cert.KernelIdeal Cert.KernelIdeal.Gen
open Idealize.ShloMosaic Idealize.ShloMosaic.TcCoe Idealize.ShloMosaic.Pointwise
open Idealize.SL.Sem

variable {F : FTy → Type} [FloatOps F]

/-- A table's row is one class's of one image. -/
theorem by_segment {n : ℕ} {p : (⟨2, ![64, n]⟩ : Shape).Idx → Prop} (h : ∀ (c b : Fin 8) (k : Fin n), p (ix2 ⟨c.val * 8 + b.val, by omega⟩ k)) (i : (⟨2, ![64, n]⟩ : Shape).Idx) : p i := by
  have h0 : (i 0).val < 64 := (i 0).isLt
  have e : i = ix2 ⟨(⟨(i 0).val / 8, by omega⟩ : Fin 8).val * 8 + (⟨(i 0).val % 8, by omega⟩ : Fin 8).val, by show (i 0).val / 8 * 8 + (i 0).val % 8 < 64; omega⟩ (i 1) := by
    funext a
    match a with
    | ⟨0, _⟩ => exact Fin.ext (by show (i 0).val = (i 0).val / 8 * 8 + (i 0).val % 8; omega)
    | ⟨1, _⟩ => rfl
  rw [e]
  exact h _ _ _

/-! ## Columns side by side -/

theorem cat4 (A B C D : FVec F S64x1 .f32) (r : Fin 64) (k : Fin 4) :
    concatenate S64x4 1 [⟨S64x1, A⟩, ⟨S64x1, B⟩, ⟨S64x1, C⟩, ⟨S64x1, D⟩] concatenates_S64x1_S64x1_S64x1_S64x1_S64x4_d1 (ix2 r k) = (![A, B, C, D] : Fin 4 → FVec F S64x1 .f32) k (ix2 r 0) := by
  fin_cases k <;> pointwise

theorem cat3 (A B C : FVec F S64x1 .f32) (r : Fin 64) (k : Fin 3) :
    concatenate S64x3 1 [⟨S64x1, A⟩, ⟨S64x1, B⟩, ⟨S64x1, C⟩] concatenates_S64x1_S64x1_S64x1_S64x3_d1 (ix2 r k) = (![A, B, C] : Fin 3 → FVec F S64x1 .f32) k (ix2 r 0) := by
  fin_cases k <;> pointwise

theorem cat2 (A B : FVec F S64x1 .f32) (r : Fin 64) (k : Fin 2) :
    concatenate S64x2 1 [⟨S64x1, A⟩, ⟨S64x1, B⟩] concatenates_S64x1_S64x1_S64x2_d1 (ix2 r k) = (![A, B] : Fin 2 → FVec F S64x1 .f32) k (ix2 r 0) := by
  fin_cases k <;> pointwise

variable (m : (ℓ : Loc nD τ sig) → Buf (Elt Ideal) ℓ) (d : Dev nD)

/-- A mean that the call takes. -/
theorem mean_at (v : Fin 11) (c b : Fin 8) (h h') :
    (meanC (plane d (inP (W₄ m) d) (v.val * 512) h) (plane d (inP (W₄ m) d) 5120 h') (ix2 ⟨c.val * 8 + b.val, by omega⟩ 0) : EReal) = mean (insM m d) v.val c.val b.val := by
  refine (meanC_at m d v c b h h').trans ?_
  rw [one_f32]
  rfl

theorem ker_meanQ (c b : Fin 8) (k : Fin 4) : V₆ m d main_v4_0 (ix2 ⟨c.val * 8 + b.val, by omega⟩ k) = mean (insM m d) (0 + k.val) c.val b.val := by
  rw [V₆_ne m d main_v4_0 (by decide), V₅_1, finalQ, leftQ]
  refine (cat4 (F := Ideal) _ _ _ _ _ k).trans ?_
  fin_cases k
  · exact mean_at m d 0 c b _ _
  · exact mean_at m d 1 c b _ _
  · exact mean_at m d 2 c b _ _
  · exact mean_at m d 3 c b _ _

theorem ker_meanS (c b : Fin 8) (k : Fin 3) : V₆ m d main_v4_1 (ix2 ⟨c.val * 8 + b.val, by omega⟩ k) = mean (insM m d) (4 + k.val) c.val b.val := by
  rw [V₆_ne m d main_v4_1 (by decide), V₅_2, finalS, leftS]
  refine (cat3 (F := Ideal) _ _ _ _ k).trans ?_
  fin_cases k
  · exact mean_at m d 4 c b _ _
  · exact mean_at m d 5 c b _ _
  · exact mean_at m d 6 c b _ _

theorem ker_meanXY (c b : Fin 8) (k : Fin 2) : V₆ m d main_v4_2 (ix2 ⟨c.val * 8 + b.val, by omega⟩ k) = mean (insM m d) (7 + k.val) c.val b.val := by
  rw [V₆_ne m d main_v4_2 (by decide), V₅_3, finalXY, leftXY]
  refine (cat2 (F := Ideal) _ _ _ k).trans ?_
  fin_cases k
  · exact mean_at m d 7 c b _ _
  · exact mean_at m d 8 c b _ _

theorem ker_meanZ (c b : Fin 8) : V₆ m d main_v4_3 (ix2 ⟨c.val * 8 + b.val, by omega⟩ 0) = mean (insM m d) 9 c.val b.val := by
  rw [V₆_ne m d main_v4_3 (by decide), V₅_4, finalZ, leftZ]
  exact mean_at m d 9 c b _ _

theorem ker_counts (c b : Fin 8) : V₆ m d main_v4_5 (ix2 ⟨c.val * 8 + b.val, by omega⟩ 0) = total (insM m d) 10 c.val b.val := by
  rw [V₆_ne m d main_v4_5 (by decide), V₅_6, finalN, leftN]
  exact column m d 10 c b _

end Cert.Proof.KernelIdeal
-- ==== Proof.Ideal.Pose.lean ====
module

public import proofs.«01_k».proof.Proof.Ideal.Results

/-!
The poses: a rotation from the mean quaternion and a translation from the mean place and depth, in the kernel and in the reference.
-/

@[expose] public section

noncomputable section

namespace Cert.Proof.KernelIdeal

open Cert.ReferenceIdeal Cert.ReferenceIdeal.Gen Cert.ReferenceIdeal.Value
open Idealize.ShloMosaic Idealize.ShloMosaic.TcCoe Idealize.ShloMosaic.Pointwise
open Idealize.SL.Sem

/-! ## The entries of a pose -/

abbrev lit (w : BitVec 32) : EReal := Scalar.ofBits (F := Ideal) .f32 w

def lenE (a b c d : EReal) : EReal := max (Ideal.sqrt (a * a + b * b + c * c + d * d)) (lit 0x322BCC77#32)
def diagE (x y : EReal) : EReal := lit 0x3F800000#32 - lit 0x40000000#32 * (x * x + y * y)
def plusE (x y z w : EReal) : EReal := lit 0x40000000#32 * (x * y + z * w)
def minusE (x y z w : EReal) : EReal := lit 0x40000000#32 * (x * y - z * w)
def moveE (a b k : BitVec 32) (x y z : EReal) : EReal := Ideal.exp z * (lit a * x + lit b * y + lit k)

/-- The entries of a pose, from a quaternion of length one and the places. -/
def entry (w x y z a b d : EReal) : Fin 4 → Fin 4 → EReal :=
  ![![diagE y z, minusE x y z w, plusE x z y w, moveE 0x3AE4FB70#32 0x00000000#32 0xBF11777F#32 a b d],
    ![plusE x y z w, diagE x z, minusE y z x w, moveE 0x00000000#32 0x3AE484FB#32 0xBED810E7#32 a b d],
    ![minusE x z y w, plusE y z x w, diagE x y, moveE 0x00000000#32 0x00000000#32 0x3F800000#32 a b d],
    ![lit 0x00000000#32, lit 0x00000000#32, lit 0x00000000#32, lit 0x3F800000#32]]

/-- The entries of a pose, from the means. -/
def pose (q0 q1 q2 q3 a b d : EReal) : Fin 4 → Fin 4 → EReal :=
  entry (Ideal.div q0 (lenE q0 q1 q2 q3)) (Ideal.div q1 (lenE q0 q1 q2 q3)) (Ideal.div q2 (lenE q0 q1 q2 q3)) (Ideal.div q3 (lenE q0 q1 q2 q3)) a b d

/-! ## The reference's -/

/-- A component of each quaternion, -/
def cut0 (N : FVec Ideal S64x4 .f32) : FVec Ideal S64 .f32 := shapeCast _ (extractStridedSlice S64x1 ![0, 0] N slices_S64x4_S64x1_0_0) shapeCasts_S64x1_S64
def cut1 (N : FVec Ideal S64x4 .f32) : FVec Ideal S64 .f32 := shapeCast _ (extractStridedSlice S64x1 ![0, 1] N slices_S64x4_S64x1_0_1) shapeCasts_S64x1_S64
def cut2 (N : FVec Ideal S64x4 .f32) : FVec Ideal S64 .f32 := shapeCast _ (extractStridedSlice S64x1 ![0, 2] N slices_S64x4_S64x1_0_2) shapeCasts_S64x1_S64
def cut3 (N : FVec Ideal S64x4 .f32) : FVec Ideal S64 .f32 := shapeCast _ (extractStridedSlice S64x1 ![0, 3] N slices_S64x4_S64x1_0_3) shapeCasts_S64x1_S64

/-- the quaternions over their lengths, -/
def unitR (Q : FVec Ideal S64x4 .f32) : FVec Ideal S64x4 .f32 :=
  Host.divf Q (broadcastInDim S64x4 ![0, 1] bcast_S64x1_S64x4_0_1 (maximumf (Host.sqrt (broadcastInDim S64x1 ![0] bcast_S64_S64x1_0
    (Host.reduceAdd (mulf Q Q) (constant S_ .f32 0x00000000#32) reducesTo_S64x4_S64_d1 h_S_))) (broadcastInDim S64x1 ![] bcast_S_S64x1 (constant S_ .f32 0x322BCC77#32))))

abbrev litR (w : BitVec 32) : FVec Ideal S64 .f32 := broadcastInDim S64 ![] bcast_S_S64 (constant S_ .f32 w)
def diagR (x y : FVec Ideal S64 .f32) : FVec Ideal S64 .f32 := subf (litR 0x3F800000#32) (mulf (litR 0x40000000#32) (addf (mulf x x) (mulf y y)))
def plusR (x y z w : FVec Ideal S64 .f32) : FVec Ideal S64 .f32 := mulf (litR 0x40000000#32) (addf (mulf x y) (mulf z w))
def minusR (x y z w : FVec Ideal S64 .f32) : FVec Ideal S64 .f32 := mulf (litR 0x40000000#32) (subf (mulf x y) (mulf z w))

/-- a row of the rotations, -/
def rowR (a b c : FVec Ideal S64 .f32) : FVec Ideal S64x1x3 .f32 :=
  broadcastInDim S64x1x3 ![0, 2] bcast_S64x3_S64x1x3_0_2 (concatenate S64x3 1 [⟨S64x1, broadcastInDim S64x1 ![0] bcast_S64_S64x1_0 a⟩,
    ⟨S64x1, broadcastInDim S64x1 ![0] bcast_S64_S64x1_0 b⟩, ⟨S64x1, broadcastInDim S64x1 ![0] bcast_S64_S64x1_0 c⟩] concatenates_S64x1_S64x1_S64x1_S64x3_d1)

def rotR (w x y z : FVec Ideal S64 .f32) : FVec Ideal S64x3x3 .f32 :=
  concatenate S64x3x3 1 [⟨S64x1x3, rowR (diagR y z) (minusR x y z w) (plusR x z y w)⟩, ⟨S64x1x3, rowR (plusR x y z w) (diagR x z) (minusR y z x w)⟩,
    ⟨S64x1x3, rowR (minusR x z y w) (plusR y z x w) (diagR x y)⟩] concatenates_S64x1x3_S64x1x3_S64x1x3_S64x3x3_d1

/-- the translations, -/
def moveR (A : FVec Ideal S64x2 .f32) (Z : FVec Ideal S64x1 .f32) : FVec Ideal S64x3 .f32 :=
  mulf (broadcastInDim S64x3 ![0, 1] bcast_S64x1_S64x3_0_1 (broadcastInDim S64x1 ![0] bcast_S64_S64x1_0 (Host.exp (shapeCast _ Z shapeCasts_S64x1_S64))))
    (Host.dotGeneral dot_S64x3_S3x3_S64x3_1_0_0_1_n_n none
      (concatenate S64x3 1 [⟨S64x2, A⟩, ⟨S64x1, broadcastInDim S64x1 ![] bcast_S_S64x1 (constant S_ .f32 0x3F800000#32)⟩] concatenates_S64x2_S64x1_S64x3_d1)
      (transpose S3x3 [1, 0] (fun i => FloatOps.ofBits .f32 (lit0 (S3x3.rowMajor i))) transposes_S3x3_S3x3_1_0))

/-- and the poses. -/
def poseR (N : FVec Ideal S64x4 .f32) (A : FVec Ideal S64x2 .f32) (Z : FVec Ideal S64x1 .f32) : FVec Ideal S64x4x4 .f32 :=
  concatenate S64x4x4 1 [⟨S64x3x4, concatenate S64x3x4 2 [⟨S64x3x3, rotR (cut0 N) (cut1 N) (cut2 N) (cut3 N)⟩,
      ⟨S64x3x1, broadcastInDim S64x3x1 ![0, 1] bcast_S64x3_S64x3x1_0_1 (moveR A Z)⟩] concatenates_S64x3x3_S64x3x1_S64x3x4_d2⟩,
    ⟨S64x1x4, broadcastInDim S64x1x4 ![2] bcast_S4_S64x1x4_2 (fun i => FloatOps.ofBits .f32 (lit1 (S4.rowMajor i)))⟩] concatenates_S64x3x4_S64x1x4_S64x4x4_d1

theorem ref_pose (V0 : Valuation τ sig (Elt Ideal)) :
    val5 V0 (Proc.devRef .tc main_v203) = poseR (unitR (res_main_v78 V0)) (val5 V0 (Proc.devRef .tc main_v100)) (val5 V0 (Proc.devRef .tc main_v110)) := by
  rw [val5_main_v203, val5_main_v100, val5_main_v110]
  unfold res_main_v201 res_main_v117 res_main_v119 res_main_v121 res_main_v123 res_main_v115
  rfl

/-! ## Read at an index -/

theorem cut0_at (N : FVec Ideal S64x4 .f32) (r : Fin 64) : cut0 N (ix1 r) = N (ix2 r 0) := by
  have e : (Shape.reshapeEquiv shapeCasts_S64x1_S64 (ix1 r) : S64x1.Idx) = ix2 r 0 := by
    refine Shape.reshapeEquiv_eq_of_rowMajor _ ?_
    rw [Shape.rowMajor_val_one, Shape.rowMajor_val_two]
    show r.val * 1 + 0 = r.val
    omega
  unfold cut0
  refine (congrArg _ e).trans ?_
  pointwise

theorem cut1_at (N : FVec Ideal S64x4 .f32) (r : Fin 64) : cut1 N (ix1 r) = N (ix2 r 1) := by
  have e : (Shape.reshapeEquiv shapeCasts_S64x1_S64 (ix1 r) : S64x1.Idx) = ix2 r 0 := by
    refine Shape.reshapeEquiv_eq_of_rowMajor _ ?_
    rw [Shape.rowMajor_val_one, Shape.rowMajor_val_two]
    show r.val * 1 + 0 = r.val
    omega
  unfold cut1
  refine (congrArg _ e).trans ?_
  pointwise

theorem cut2_at (N : FVec Ideal S64x4 .f32) (r : Fin 64) : cut2 N (ix1 r) = N (ix2 r 2) := by
  have e : (Shape.reshapeEquiv shapeCasts_S64x1_S64 (ix1 r) : S64x1.Idx) = ix2 r 0 := by
    refine Shape.reshapeEquiv_eq_of_rowMajor _ ?_
    rw [Shape.rowMajor_val_one, Shape.rowMajor_val_two]
    show r.val * 1 + 0 = r.val
    omega
  unfold cut2
  refine (congrArg _ e).trans ?_
  pointwise

theorem cut3_at (N : FVec Ideal S64x4 .f32) (r : Fin 64) : cut3 N (ix1 r) = N (ix2 r 3) := by
  have e : (Shape.reshapeEquiv shapeCasts_S64x1_S64 (ix1 r) : S64x1.Idx) = ix2 r 0 := by
    refine Shape.reshapeEquiv_eq_of_rowMajor _ ?_
    rw [Shape.rowMajor_val_one, Shape.rowMajor_val_two]
    show r.val * 1 + 0 = r.val
    omega
  unfold cut3
  refine (congrArg _ e).trans ?_
  pointwise

theorem unitR_at (Q : FVec Ideal S64x4 .f32) (r : Fin 64) (k : Fin 4) :
    unitR Q (ix2 r k) = Ideal.div (Q (ix2 r k)) (lenE (Q (ix2 r 0)) (Q (ix2 r 1)) (Q (ix2 r 2)) (Q (ix2 r 3))) := by
  unfold unitR lenE lit
  pointwise
  rw [Fin.sum_univ_four]

theorem moveR_at (A : FVec Ideal S64x2 .f32) (Z : FVec Ideal S64x1 .f32) (r : Fin 64) (k : Fin 3) :
    moveR A Z (ix2 r k) = (![moveE 0x3AE4FB70#32 0x00000000#32 0xBF11777F#32 (A (ix2 r 0)) (A (ix2 r 1)) (Z (ix2 r 0)),
      moveE 0x00000000#32 0x3AE484FB#32 0xBED810E7#32 (A (ix2 r 0)) (A (ix2 r 1)) (Z (ix2 r 0)),
      moveE 0x00000000#32 0x00000000#32 0x3F800000#32 (A (ix2 r 0)) (A (ix2 r 1)) (Z (ix2 r 0))] : Fin 3 → EReal) k := by
  unfold moveR
  fin_cases k
  · pointwise
    refine congrArg (Ideal.exp (Z (ix2 r 0)) * ·) ?_
    simp only [Fin.sum_univ_two, Fin.sum_univ_one]
    exact congrArg₂ (· + ·) (congrArg₂ (· + ·) (mul_comm _ _) (mul_comm _ _)) rfl
  · pointwise
    refine congrArg (Ideal.exp (Z (ix2 r 0)) * ·) ?_
    simp only [Fin.sum_univ_two, Fin.sum_univ_one]
    exact congrArg₂ (· + ·) (congrArg₂ (· + ·) (mul_comm _ _) (mul_comm _ _)) rfl
  · pointwise
    refine congrArg (Ideal.exp (Z (ix2 r 0)) * ·) ?_
    simp only [Fin.sum_univ_two, Fin.sum_univ_one]
    exact congrArg₂ (· + ·) (congrArg₂ (· + ·) (mul_comm _ _) (mul_comm _ _)) rfl

theorem rowR_at (a b c : FVec Ideal S64 .f32) (r : Fin 64) (k : Fin 3) : rowR a b c (ix3 r 0 k) = (![a, b, c] : Fin 3 → FVec Ideal S64 .f32) k (ix1 r) := by
  unfold rowR
  fin_cases k <;> pointwise

theorem rotR_at (w x y z : FVec Ideal S64 .f32) (r : Fin 64) (i k : Fin 3) :
    rotR w x y z (ix3 r i k) = (![![diagR y z, minusR x y z w, plusR x z y w], ![plusR x y z w, diagR x z, minusR y z x w],
      ![minusR x z y w, plusR y z x w, diagR x y]] : Fin 3 → Fin 3 → FVec Ideal S64 .f32) i k (ix1 r) := by
  unfold rotR
  have h0 := rowR_at (diagR y z) (minusR x y z w) (plusR x z y w) r k
  have h1 := rowR_at (plusR x y z w) (diagR x z) (minusR y z x w) r k
  have h2 := rowR_at (minusR x z y w) (plusR y z x w) (diagR x y) r k
  generalize rowR (diagR y z) (minusR x y z w) (plusR x z y w) = R0 at h0 ⊢
  generalize rowR (plusR x y z w) (diagR x z) (minusR y z x w) = R1 at h1 ⊢
  generalize rowR (minusR x z y w) (plusR y z x w) (diagR x y) = R2 at h2 ⊢
  fin_cases i
  · refine Eq.trans ?_ h0; pointwise
  · refine Eq.trans ?_ h1; pointwise
  · refine Eq.trans ?_ h2; pointwise

theorem poseR_at (N : FVec Ideal S64x4 .f32) (A : FVec Ideal S64x2 .f32) (Z : FVec Ideal S64x1 .f32) (r : Fin 64) (i j : Fin 4) :
    poseR N A Z (ix3 r i j) = entry (N (ix2 r 0)) (N (ix2 r 1)) (N (ix2 r 2)) (N (ix2 r 3)) (A (ix2 r 0)) (A (ix2 r 1)) (Z (ix2 r 0)) i j := by
  unfold poseR
  have hr := fun a b => rotR_at (cut0 N) (cut1 N) (cut2 N) (cut3 N) r a b
  have hm := fun a => moveR_at A Z r a
  have c0 := cut0_at N r
  have c1 := cut1_at N r
  have c2 := cut2_at N r
  have c3 := cut3_at N r
  generalize cut0 N = C0 at hr c0 ⊢
  generalize cut1 N = C1 at hr c1 ⊢
  generalize cut2 N = C2 at hr c2 ⊢
  generalize cut3 N = C3 at hr c3 ⊢
  generalize rotR C0 C1 C2 C3 = R at hr ⊢
  generalize moveR A Z = T at hm ⊢
  rw [← c0, ← c1, ← c2, ← c3]
  fin_cases i <;> fin_cases j
  · refine Eq.trans ?_ ((hr 0 0).trans rfl); pointwise
  · refine Eq.trans ?_ ((hr 0 1).trans rfl); pointwise
  · refine Eq.trans ?_ ((hr 0 2).trans rfl); pointwise
  · refine Eq.trans ?_ (hm 0); pointwise
  · refine Eq.trans ?_ ((hr 1 0).trans rfl); pointwise
  · refine Eq.trans ?_ ((hr 1 1).trans rfl); pointwise
  · refine Eq.trans ?_ ((hr 1 2).trans rfl); pointwise
  · refine Eq.trans ?_ (hm 1); pointwise
  · refine Eq.trans ?_ ((hr 2 0).trans rfl); pointwise
  · refine Eq.trans ?_ ((hr 2 1).trans rfl); pointwise
  · refine Eq.trans ?_ ((hr 2 2).trans rfl); pointwise
  · refine Eq.trans ?_ (hm 2); pointwise
  · pointwise; rfl
  · pointwise; rfl
  · pointwise; rfl
  · pointwise; rfl

end Cert.Proof.KernelIdeal
-- ==== Proof.Ideal.PoseCall.lean ====
module

public import proofs.«01_k».proof.Proof.Ideal.Pose

/-!
The poses that the kernel leaves.
-/

@[expose] public section

noncomputable section

namespace Cert.Proof.KernelIdeal

open Cert.KernelIdeal Cert.KernelIdeal.Gen
open Idealize.ShloMosaic Idealize.ShloMosaic.TcCoe Idealize.ShloMosaic.Pointwise
open Idealize.SL.Sem

/-! ## The kernel's -/

theorem cat16 (A B C D E G H I J K L M N O P Q : FVec Ideal S64x1 .f32) (r : Fin 64) (k : Fin 16) :
    concatenate S64x16 1 [⟨S64x1, A⟩, ⟨S64x1, B⟩, ⟨S64x1, C⟩, ⟨S64x1, D⟩, ⟨S64x1, E⟩, ⟨S64x1, G⟩, ⟨S64x1, H⟩, ⟨S64x1, I⟩, ⟨S64x1, J⟩, ⟨S64x1, K⟩, ⟨S64x1, L⟩, ⟨S64x1, M⟩, ⟨S64x1, N⟩, ⟨S64x1, O⟩, ⟨S64x1, P⟩, ⟨S64x1, Q⟩]
      concatenates_S64x1_S64x1_S64x1_S64x1_S64x1_S64x1_S64x1_S64x1_S64x1_S64x1_S64x1_S64x1_S64x1_S64x1_S64x1_S64x1_S64x16_d1 (ix2 r k) = (![A, B, C, D, E, G, H, I, J, K, L, M, N, O, P, Q] : Fin 16 → FVec Ideal S64x1 .f32) k (ix2 r 0) := by
  fin_cases k <;> pointwise

theorem poseC_at (q0 q1 q2 q3 a b d : FVec Ideal S64x1 .f32) (r : Fin 64) (i j : Fin 4) (h) :
    poseC q0 q1 q2 q3 a b d (ix2 r ⟨i.val * 4 + j.val, h⟩)
      = pose (q0 (ix2 r 0)) (q1 (ix2 r 0)) (q2 (ix2 r 0)) (q3 (ix2 r 0)) (a (ix2 r 0)) (b (ix2 r 0)) (d (ix2 r 0)) i j := by
  unfold poseC poseOf
  refine (cat16 _ _ _ _ _ _ _ _ _ _ _ _ _ _ _ _ r _).trans ?_
  fin_cases i <;> fin_cases j <;> rfl

theorem pose_congr {q0 q1 q2 q3 a b d q0' q1' q2' q3' a' b' d' : EReal} (h0 : q0 = q0') (h1 : q1 = q1') (h2 : q2 = q2') (h3 : q3 = q3')
    (ha : a = a') (hb : b = b') (hd : d = d') (i j : Fin 4) : pose q0 q1 q2 q3 a b d i j = pose q0' q1' q2' q3' a' b' d' i j := by
  subst h0 h1 h2 h3 ha hb hd
  rfl

/-- A pose's entry, from the means of its class and image. -/
def poseE (I : Ins Ideal) (c b : ℕ) : Fin 4 → Fin 4 → EReal :=
  pose (mean I 0 c b) (mean I 1 c b) (mean I 2 c b) (mean I 3 c b) (mean I 7 c b) (mean I 8 c b) (mean I 9 c b)

theorem ker_pose (m : (ℓ : Loc nD τ sig) → Buf (Elt Ideal) ℓ) (d : Dev nD) (c b : Fin 8) (i j : Fin 4) :
    V₆ m d main_v5 (ix3 ⟨c.val * 8 + b.val, by omega⟩ i j) = poseE (insM m d) c.val b.val i j := by
  have e : (Shape.reshapeEquiv shapeCasts_S64x16_S64x4x4 (ix3 ⟨c.val * 8 + b.val, by omega⟩ i j) : S64x16.Idx)
      = ix2 ⟨c.val * 8 + b.val, by omega⟩ ⟨i.val * 4 + j.val, by omega⟩ := by
    refine Shape.reshapeEquiv_eq_of_rowMajor _ ?_
    rw [Shape.rowMajor_val_three, Shape.rowMajor_val_two]
    show (c.val * 8 + b.val) * 16 + (i.val * 4 + j.val) = ((c.val * 8 + b.val) * 4 + i.val) * 4 + j.val
    omega
  rw [V₆_last, finalRT, leftRT]
  refine (congrArg _ e).trans ?_
  refine (poseC_at _ _ _ _ _ _ _ _ i j _).trans ?_
  exact pose_congr (mean_at m d 0 c b inb_S64x5632_S64x512_0_0 inb_S64x5632_S64x512_0_5120)
    (mean_at m d 1 c b inb_S64x5632_S64x512_0_512 inb_S64x5632_S64x512_0_5120)
    (mean_at m d 2 c b inb_S64x5632_S64x512_0_1024 inb_S64x5632_S64x512_0_5120)
    (mean_at m d 3 c b inb_S64x5632_S64x512_0_1536 inb_S64x5632_S64x512_0_5120)
    (mean_at m d 7 c b inb_S64x5632_S64x512_0_3584 inb_S64x5632_S64x512_0_5120)
    (mean_at m d 8 c b inb_S64x5632_S64x512_0_4096 inb_S64x5632_S64x512_0_5120)
    (mean_at m d 9 c b inb_S64x5632_S64x512_0_4608 inb_S64x5632_S64x512_0_5120) i j

theorem ref_pose_at {V0 : Valuation Cert.ReferenceIdeal.τ Cert.ReferenceIdeal.sig (Elt Ideal)} (hr : InRange V0) (c b : Fin 8) (i j : Fin 4) :
    (Cert.ReferenceIdeal.Value.val5 V0 (Proc.devRef .tc Cert.ReferenceIdeal.main_v203) : Vec Ideal S64x4x4 .f32) (ix3 ⟨c.val * 8 + b.val, by omega⟩ i j)
      = poseE (insR V0) c.val b.val i j := by
  rw [ref_pose]
  refine (poseR_at _ _ _ _ i j).trans ?_
  rw [unitR_at, unitR_at, unitR_at, unitR_at]
  have q := ref_meanQ hr c b
  have q0 := q 0
  have q1 := q 1
  have q2 := q 2
  have q3 := q 3
  have x := ref_meanXY hr c b 0
  have y := ref_meanXY hr c b 1
  have z := ref_meanZ hr c b
  exact pose_congr q0 q1 q2 q3 x y z i j

end Cert.Proof.KernelIdeal
-- ==== Proof.All.lean ====
module

public import proofs.«01_k».proof.Defs
public import proofs.«01_k».proof.Proof.Value
public import proofs.«01_k».proof.Proof.Ideal.PoseCall
public import proofs.«01_k».proof.Pre_classes_in_range
public import Idealize.ShloMosaic.Lib.ReduceAll

@[expose] public section

/-!
The value claim for every result: where each class label is one of the nine, the kernel's means, poses, counts and
gathered arrays and the reference's are equal as extended reals.
-/

noncomputable section

namespace Cert.Proof.KernelIdeal

open Cert.KernelIdeal Cert.ReferenceIdeal.Value
open Idealize.ShloMosaic Idealize.ShloMosaic.TcCoe Idealize.ShloMosaic.Pointwise Idealize.SL.Sem
open Idealize.ShloMosaic.StableHlo (launchContents)

/-- The shape relations that the precondition's operations take. -/
instance labelFacts : Cert.Pre_classes_in_range.Facts where
  bcast_S_S8x224x224 := by decide
  reducesTo_S8x224x224_S_d0_1_2 := by decide
  h_S_ := by decide

instance : Subsingleton Cert.Pre_classes_in_range.S_.Idx := ⟨fun a b => funext fun x => x.elim0⟩

/-- A word that is at least 0 and less than 9, read signed, is less than 9 read unsigned. -/
theorem label_lt (x : BitVec 32) (h : IntOp.andi (IntOp.cmpi .sge x 0#32) (IntOp.cmpi .slt x 9#32) = 1#1) : x.toNat < 9 := by
  obtain ⟨h0, h9⟩ := IntOp.andi_eq_one.1 h
  have a := IntOp.cmpi_sge.1 h0
  have b := IntOp.cmpi_slt.1 h9
  have z : (0#32 : BitVec 32).toInt = 0 := by decide
  have n : (9#32 : BitVec 32).toInt = 9 := by decide
  rw [z] at a
  rw [n] at b
  rw [BitVec.toInt_eq_toNat_cond] at a b
  have l := x.isLt
  split at a <;> omega

/-- What the precondition says of the labels. -/
theorem labels_lt (m : (ℓ : Loc nD Cert.KernelIdeal.τ sig) → Buf (Elt Ideal) ℓ) (h : Cert.Pre_KernelIdeal_classes_in_range m) (c : Dev nD)
    (j : S8x224x224.Idx) : (m ((c.tc : Thread nD Cert.KernelIdeal.τ).loc main_arg0) j : BitVec 32).toNat < 9 :=
  label_lt _ (Host.reduce_andi_all _ _ _ _ ix0 (congrFun (h c) ix0) j)

/-- A pose's index names one class and one image. -/
theorem by_segment3 {p : S64x4x4.Idx → Prop} (h : ∀ (c b : Fin 8) (i j : Fin 4), p (ix3 ⟨c.val * 8 + b.val, by omega⟩ i j)) (i : S64x4x4.Idx) : p i := by
  have h0 : (i 0).val < 64 := (i 0).isLt
  have e : i = ix3 ⟨(⟨(i 0).val / 8, by omega⟩ : Fin 8).val * 8 + (⟨(i 0).val % 8, by omega⟩ : Fin 8).val, by show (i 0).val / 8 * 8 + (i 0).val % 8 < 64; omega⟩ (i 1) (i 2) := by
    funext a
    match a with
    | ⟨0, _⟩ => exact Fin.ext (by show (i 0).val = (i 0).val / 8 * 8 + (i 0).val % 8; omega)
    | ⟨1, _⟩ => rfl
    | ⟨2, _⟩ => rfl
  rw [e]
  exact h _ _ _ _

section

variable (m : (ℓ : Loc nD Cert.KernelIdeal.τ sig) → Buf (Elt Ideal) ℓ) (m' : (ℓ : Loc Cert.ReferenceIdeal.nD Cert.ReferenceIdeal.τ Cert.ReferenceIdeal.sig) → Buf (Elt Ideal) ℓ) (c : Dev nD)
  (hr : InRange (launchContents m' c)) (ei : insR (launchContents m' c) = insM m c)

include hr ei

theorem meanQ_eq : (res_main_v78 (launchContents m' c) : Vec Ideal S64x4 .f32) = V₆ m c main_v4_0 :=
  funext (by_segment fun a b k => (ref_meanQ hr a b k).trans ((congrArg (fun I => mean I _ _ _) ei).trans (ker_meanQ m c a b k).symm))

theorem meanS_eq : (val5 (launchContents m' c) (Proc.devRef .tc Cert.ReferenceIdeal.main_v89) : Vec Ideal S64x3 .f32) = V₆ m c main_v4_1 :=
  funext (by_segment fun a b k => (ref_meanS hr a b k).trans ((congrArg (fun I => mean I _ _ _) ei).trans (ker_meanS m c a b k).symm))

theorem meanXY_eq : (val5 (launchContents m' c) (Proc.devRef .tc Cert.ReferenceIdeal.main_v100) : Vec Ideal S64x2 .f32) = V₆ m c main_v4_2 :=
  funext (by_segment fun a b k => (ref_meanXY hr a b k).trans ((congrArg (fun I => mean I _ _ _) ei).trans (ker_meanXY m c a b k).symm))

theorem meanZ_eq : (val5 (launchContents m' c) (Proc.devRef .tc Cert.ReferenceIdeal.main_v110) : Vec Ideal S64x1 .f32) = V₆ m c main_v4_3 :=
  funext (by_segment fun a b k => by
    obtain rfl : k = 0 := Subsingleton.elim _ _
    exact (ref_meanZ hr a b).trans ((congrArg (fun I => mean I _ _ _) ei).trans (ker_meanZ m c a b).symm))

theorem pose_eq : (val5 (launchContents m' c) (Proc.devRef .tc Cert.ReferenceIdeal.main_v203) : Vec Ideal S64x4x4 .f32) = V₆ m c main_v5 :=
  funext (by_segment3 fun a b i j => (ref_pose_at hr a b i j).trans ((congrArg (fun I => poseE I _ _ i j) ei).trans (ker_pose m c a b i j).symm))

theorem counts_eq : (val5 (launchContents m' c) (Proc.devRef .tc Cert.ReferenceIdeal.main_v208) : Vec Ideal S64x1 .f32) = V₆ m c main_v4_5 :=
  funext (by_segment fun a b k => by
    obtain rfl : k = 0 := Subsingleton.elim _ _
    exact (ref_counts hr a b).trans ((congrArg (fun I => total I _ _ _) ei).trans (ker_counts m c a b).symm))

end

theorem algebraic_all : Cert.algebraic_KernelIdeal_ReferenceIdeal_pre_classes_in_range := by
  intro m g m' g' hp hag
  refine ⟨fun c => V₆ m c main_v4_0, fun c => V₆ m c main_v4_1, fun c => V₆ m c main_v4_2, fun c => V₆ m c main_v4_3, fun c => V₆ m c main_v5, fun c => V₆ m c main_v4_5, fun c => V₆ m c main_v0_0, fun c => V₆ m c main_v0_1, fun c => V₆ m c main_v0_2, fun c => V₆ m c main_v0_3, ?_, ?_⟩
  · refine (θ_run _ _ _).mono (fun r h c => ?_) (run_main m g)
    have e := mem_of_QC m h c
    exact ⟨e main_v4_0 rfl, e main_v4_1 rfl, e main_v4_2 rfl, e main_v4_3 rfl, e main_v5 rfl, e main_v4_5 rfl, e main_v0_0 rfl, e main_v0_1 rfl, e main_v0_2 rfl, e main_v0_3 rfl,
      (e main_arg0 rfl).trans (V₆_arg m c main_arg0 (by decide)),
      (e main_arg1 rfl).trans (V₆_arg m c main_arg1 (by decide)),
      (e main_arg2 rfl).trans (V₆_arg m c main_arg2 (by decide)),
      (e main_arg3 rfl).trans (V₆_arg m c main_arg3 (by decide)),
      (e main_arg4 rfl).trans (V₆_arg m c main_arg4 (by decide))⟩
  · refine (θ_run _ _ _).mono (fun r h c => ?_) (Cert.ReferenceIdeal.Value.run (F := Ideal) m' g')
    obtain ⟨h0, h1, h2, h3, h4⟩ := hag c
    have ei := insR_eq m m' c h0 h1 h2 h3 h4
    have hr : InRange (launchContents m' c) := fun j => (congrArg (fun x : IVec S8x224x224 32 => (x j).toNat) h0).trans_lt (labels_lt m hp c j)
    obtain ⟨q, s, xy, z⟩ := gathered_eq m m' c ei
    obtain ⟨k0, k1, k2, k3, k4, k5, k6, k7, k8, k9, ka⟩ := h c
    exact ⟨k0.trans (meanQ_eq m m' c hr ei),
      (k1.trans (val5_main_v89 (launchContents m' c)).symm).trans (meanS_eq m m' c hr ei),
      (k2.trans (val5_main_v100 (launchContents m' c)).symm).trans (meanXY_eq m m' c hr ei),
      (k3.trans (val5_main_v110 (launchContents m' c)).symm).trans (meanZ_eq m m' c hr ei),
      (k4.trans (val5_main_v203 (launchContents m' c)).symm).trans (pose_eq m m' c hr ei),
      (k5.trans (val5_main_v208 (launchContents m' c)).symm).trans (counts_eq m m' c hr ei),
      (k6.trans (val5_main_v13 (launchContents m' c)).symm).trans q,
      (k7.trans (val5_main_v27 (launchContents m' c)).symm).trans s,
      (k8.trans (val5_main_v41 (launchContents m' c)).symm).trans xy,
      (k9.trans (val5_main_v209 (launchContents m' c)).symm).trans z,
      ka⟩

end Cert.Proof.KernelIdeal
-- ==== Proof.lean ====
module

public import proofs.«01_k».proof.Defs
public import proofs.«01_k».proof.Proof.Launch
public import proofs.«01_k».proof.Proof.Ideal.Launch
public import proofs.«01_k».proof.Proof.Value
public import proofs.«01_k».proof.Proof.All
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_gathered

@[expose] public section

/-! The claims. -/

noncomputable section

namespace Cert.Proof

open Idealize.ShloMosaic Idealize.ShloMosaic.TcCoe Idealize.SL.Sem

/-- The kernel as printed runs, leaves its arguments and every semaphore as it found them. -/
theorem frame_kernel : Cert.quiescent_Kernel := fun m g _ =>
  (θ_run _ _ _).mono (fun r h => ⟨fun c =>
      have e (b : Ref Cert.Kernel.sig .tc) (hb : b.isScoped = false) (ha : b ∈ ([Cert.Kernel.main_arg0, Cert.Kernel.main_arg1, Cert.Kernel.main_arg2, Cert.Kernel.main_arg3, Cert.Kernel.main_arg4] : List (Ref Cert.Kernel.sig .tc))) :
          r.2.mem ((c.tc : Thread Cert.Kernel.nD Cert.Kernel.τ).loc b) = m ((c.tc : Thread Cert.Kernel.nD Cert.Kernel.τ).loc b) :=
        (h.1 c _ (Pipeline.devRef_mem_ucRefs hb)).trans (Kernel.V₆_arg m c b ha)
      ⟨e Cert.Kernel.main_arg0 rfl (by decide), e Cert.Kernel.main_arg1 rfl (by decide), e Cert.Kernel.main_arg2 rfl (by decide), e Cert.Kernel.main_arg3 rfl (by decide), e Cert.Kernel.main_arg4 rfl (by decide)⟩, h.2⟩)
    (Kernel.run_main (F := Bits) m g)

/-- So does the idealized kernel. -/
theorem frame_ideal : Cert.quiescent_KernelIdeal := fun m g _ =>
  (θ_run _ _ _).mono (fun r h => ⟨fun c =>
      have e (b : Ref Cert.KernelIdeal.sig .tc) (hb : b.isScoped = false) (ha : b ∈ ([Cert.KernelIdeal.main_arg0, Cert.KernelIdeal.main_arg1, Cert.KernelIdeal.main_arg2, Cert.KernelIdeal.main_arg3, Cert.KernelIdeal.main_arg4] : List (Ref Cert.KernelIdeal.sig .tc))) :
          r.2.mem ((c.tc : Thread Cert.KernelIdeal.nD Cert.KernelIdeal.τ).loc b) = m ((c.tc : Thread Cert.KernelIdeal.nD Cert.KernelIdeal.τ).loc b) :=
        (h.1 c _ (Pipeline.devRef_mem_ucRefs hb)).trans (KernelIdeal.V₆_arg m c b ha)
      ⟨e Cert.KernelIdeal.main_arg0 rfl (by decide), e Cert.KernelIdeal.main_arg1 rfl (by decide), e Cert.KernelIdeal.main_arg2 rfl (by decide), e Cert.KernelIdeal.main_arg3 rfl (by decide), e Cert.KernelIdeal.main_arg4 rfl (by decide)⟩, h.2⟩)
    (KernelIdeal.run_main (F := Ideal) m g)

/-- And the reference, which has no semaphore. -/
theorem frame_reference : Cert.quiescent_ReferenceIdeal := fun m g _ =>
  (θ_run Cert.ReferenceIdeal.defs _ _).mono (fun r h => ⟨fun c => (h c).2.2.2.2.2.2.2.2.2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, KernelIdeal.labelFacts, Cert.On_gathered.Gen.facts,
    frame_kernel, frame_ideal, fun m g _ => frame_ideal m g trivial, frame_reference, fun m g _ => frame_reference m g trivial, trivial, KernelIdeal.algebraic, KernelIdeal.algebraic_all⟩

end Cert.Proof

end
